-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_logits [hPre_finite_logits : Cert.Pre_finite_logits.Facts] (m : (ℓ : Loc Cert.FoxIdeal.nD Cert.FoxIdeal.τ Cert.FoxIdeal.sig) → Buf (Elt Ideal) ℓ) : Prop :=
  ∀ c : Dev Cert.FoxIdeal.nD,
    (Cert.Pre_finite_logits.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite_logits [hPre_finite_logits : Cert.Pre_finite_logits.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite_logits.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MergeS (m : (ℓ : Loc Cert.MergeS.nD Cert.MergeS.τ Cert.MergeS.sig) → Buf (Elt Bits) ℓ) : Prop :=
  True

def Pre_MergeSIdeal (m : (ℓ : Loc Cert.MergeSIdeal.nD Cert.MergeSIdeal.τ Cert.MergeSIdeal.sig) → Buf (Elt Ideal) ℓ) : Prop :=
  True

def Pre_MergeSRefIdeal (m : (ℓ : Loc Cert.MergeSRefIdeal.nD Cert.MergeSRefIdeal.τ Cert.MergeSRefIdeal.sig) → Buf (Elt Ideal) ℓ) : Prop :=
  True

def Pre_Band (m : (ℓ : Loc Cert.Band.nD Cert.Band.τ Cert.Band.sig) → Buf (Elt Bits) ℓ) : Prop :=
  True

def Pre_BandIdeal (m : (ℓ : Loc Cert.BandIdeal.nD Cert.BandIdeal.τ Cert.BandIdeal.sig) → Buf (Elt Ideal) ℓ) : Prop :=
  True

def Pre_BandIdeal_finite_band [hPre_finite_band : Cert.Pre_finite_band.Facts] (m : (ℓ : Loc Cert.BandIdeal.nD Cert.BandIdeal.τ Cert.BandIdeal.sig) → Buf (Elt Ideal) ℓ) : Prop :=
  ∀ c : Dev Cert.BandIdeal.nD,
    (Cert.Pre_finite_band.fn (F := Ideal) (m ((c.tc : Thread Cert.BandIdeal.nD Cert.BandIdeal.τ).loc Cert.BandIdeal.main_arg0)) (m ((c.tc : Thread Cert.BandIdeal.nD Cert.BandIdeal.τ).loc Cert.BandIdeal.main_arg1)) (m ((c.tc : Thread Cert.BandIdeal.nD Cert.BandIdeal.τ).loc Cert.BandIdeal.main_arg2)) (m ((c.tc : Thread Cert.BandIdeal.nD Cert.BandIdeal.τ).loc Cert.BandIdeal.main_arg3))) = (fun _ => 1#1)

def Pre_BandRefIdeal (m : (ℓ : Loc Cert.BandRefIdeal.nD Cert.BandRefIdeal.τ Cert.BandRefIdeal.sig) → Buf (Elt Ideal) ℓ) : Prop :=
  True

def Pre_BandRefIdeal_finite_band [hPre_finite_band : Cert.Pre_finite_band.Facts] (m : (ℓ : Loc Cert.BandRefIdeal.nD Cert.BandRefIdeal.τ Cert.BandRefIdeal.sig) → Buf (Elt Ideal) ℓ) : Prop :=
  ∀ c : Dev Cert.BandRefIdeal.nD,
    (Cert.Pre_finite_band.fn (F := Ideal) (m ((c.tc : Thread Cert.BandRefIdeal.nD Cert.BandRefIdeal.τ).loc Cert.BandRefIdeal.main_arg0)) (m ((c.tc : Thread Cert.BandRefIdeal.nD Cert.BandRefIdeal.τ).loc Cert.BandRefIdeal.main_arg1)) (m ((c.tc : Thread Cert.BandRefIdeal.nD Cert.BandRefIdeal.τ).loc Cert.BandRefIdeal.main_arg2)) (m ((c.tc : Thread Cert.BandRefIdeal.nD Cert.BandRefIdeal.τ).loc Cert.BandRefIdeal.main_arg3))) = (fun _ => 1#1)

def Pre_BandS (m : (ℓ : Loc Cert.BandS.nD Cert.BandS.τ Cert.BandS.sig) → Buf (Elt Bits) ℓ) : Prop :=
  True

def Pre_BandSIdeal (m : (ℓ : Loc Cert.BandSIdeal.nD Cert.BandSIdeal.τ Cert.BandSIdeal.sig) → Buf (Elt Ideal) ℓ) : Prop :=
  True

def Pre_BandSIdeal_finite_band_sample [hPre_finite_band_sample : Cert.Pre_finite_band_sample.Facts] (m : (ℓ : Loc Cert.BandSIdeal.nD Cert.BandSIdeal.τ Cert.BandSIdeal.sig) → Buf (Elt Ideal) ℓ) : Prop :=
  ∀ c : Dev Cert.BandSIdeal.nD,
    (Cert.Pre_finite_band_sample.fn (F := Ideal) (m ((c.tc : Thread Cert.BandSIdeal.nD Cert.BandSIdeal.τ).loc Cert.BandSIdeal.main_arg0)) (m ((c.tc : Thread Cert.BandSIdeal.nD Cert.BandSIdeal.τ).loc Cert.BandSIdeal.main_arg1)) (m ((c.tc : Thread Cert.BandSIdeal.nD Cert.BandSIdeal.τ).loc Cert.BandSIdeal.main_arg2)) (m ((c.tc : Thread Cert.BandSIdeal.nD Cert.BandSIdeal.τ).loc Cert.BandSIdeal.main_arg3)) (m ((c.tc : Thread Cert.BandSIdeal.nD Cert.BandSIdeal.τ).loc Cert.BandSIdeal.main_arg4)) (m ((c.tc : Thread Cert.BandSIdeal.nD Cert.BandSIdeal.τ).loc Cert.BandSIdeal.main_arg5))) = (fun _ => 1#1)

def Pre_BandSRefIdeal (m : (ℓ : Loc Cert.BandSRefIdeal.nD Cert.BandSRefIdeal.τ Cert.BandSRefIdeal.sig) → Buf (Elt Ideal) ℓ) : Prop :=
  True

def Pre_BandSRefIdeal_finite_band_sample [hPre_finite_band_sample : Cert.Pre_finite_band_sample.Facts] (m : (ℓ : Loc Cert.BandSRefIdeal.nD Cert.BandSRefIdeal.τ Cert.BandSRefIdeal.sig) → Buf (Elt Ideal) ℓ) : Prop :=
  ∀ c : Dev Cert.BandSRefIdeal.nD,
    (Cert.Pre_finite_band_sample.fn (F := Ideal) (m ((c.tc : Thread Cert.BandSRefIdeal.nD Cert.BandSRefIdeal.τ).loc Cert.BandSRefIdeal.main_arg0)) (m ((c.tc : Thread Cert.BandSRefIdeal.nD Cert.BandSRefIdeal.τ).loc Cert.BandSRefIdeal.main_arg1)) (m ((c.tc : Thread Cert.BandSRefIdeal.nD Cert.BandSRefIdeal.τ).loc Cert.BandSRefIdeal.main_arg2)) (m ((c.tc : Thread Cert.BandSRefIdeal.nD Cert.BandSRefIdeal.τ).loc Cert.BandSRefIdeal.main_arg3)) (m ((c.tc : Thread Cert.BandSRefIdeal.nD Cert.BandSRefIdeal.τ).loc Cert.BandSRefIdeal.main_arg4)) (m ((c.tc : Thread Cert.BandSRefIdeal.nD Cert.BandSRefIdeal.τ).loc Cert.BandSRefIdeal.main_arg5))) = (fun _ => 1#1)

def Pre_FoxS (m : (ℓ : Loc Cert.FoxS.nD Cert.FoxS.τ Cert.FoxS.sig) → Buf (Elt Bits) ℓ) : Prop :=
  True

def Pre_FoxSIdeal (m : (ℓ : Loc Cert.FoxSIdeal.nD Cert.FoxSIdeal.τ Cert.FoxSIdeal.sig) → Buf (Elt Ideal) ℓ) : Prop :=
  True

def Pre_FoxSIdeal_finite_fox_sample [hPre_finite_fox_sample : Cert.Pre_finite_fox_sample.Facts] (m : (ℓ : Loc Cert.FoxSIdeal.nD Cert.FoxSIdeal.τ Cert.FoxSIdeal.sig) → Buf (Elt Ideal) ℓ) : Prop :=
  ∀ c : Dev Cert.FoxSIdeal.nD,
    (Cert.Pre_finite_fox_sample.fn (F := Ideal) (m ((c.tc : Thread Cert.FoxSIdeal.nD Cert.FoxSIdeal.τ).loc Cert.FoxSIdeal.main_arg0)) (m ((c.tc : Thread Cert.FoxSIdeal.nD Cert.FoxSIdeal.τ).loc Cert.FoxSIdeal.main_arg1)) (m ((c.tc : Thread Cert.FoxSIdeal.nD Cert.FoxSIdeal.τ).loc Cert.FoxSIdeal.main_arg2)) (m ((c.tc : Thread Cert.FoxSIdeal.nD Cert.FoxSIdeal.τ).loc Cert.FoxSIdeal.main_arg3)) (m ((c.tc : Thread Cert.FoxSIdeal.nD Cert.FoxSIdeal.τ).loc Cert.FoxSIdeal.main_arg4)) (m ((c.tc : Thread Cert.FoxSIdeal.nD Cert.FoxSIdeal.τ).loc Cert.FoxSIdeal.main_arg5))) = (fun _ => 1#1)

def Pre_FoxSRefIdeal (m : (ℓ : Loc Cert.FoxSRefIdeal.nD Cert.FoxSRefIdeal.τ Cert.FoxSRefIdeal.sig) → Buf (Elt Ideal) ℓ) : Prop :=
  True

def Pre_FoxSRefIdeal_finite_fox_sample [hPre_finite_fox_sample : Cert.Pre_finite_fox_sample.Facts] (m : (ℓ : Loc Cert.FoxSRefIdeal.nD Cert.FoxSRefIdeal.τ Cert.FoxSRefIdeal.sig) → Buf (Elt Ideal) ℓ) : Prop :=
  ∀ c : Dev Cert.FoxSRefIdeal.nD,
    (Cert.Pre_finite_fox_sample.fn (F := Ideal) (m ((c.tc : Thread Cert.FoxSRefIdeal.nD Cert.FoxSRefIdeal.τ).loc Cert.FoxSRefIdeal.main_arg0)) (m ((c.tc : Thread Cert.FoxSRefIdeal.nD Cert.FoxSRefIdeal.τ).loc Cert.FoxSRefIdeal.main_arg1)) (m ((c.tc : Thread Cert.FoxSRefIdeal.nD Cert.FoxSRefIdeal.τ).loc Cert.FoxSRefIdeal.main_arg2)) (m ((c.tc : Thread Cert.FoxSRefIdeal.nD Cert.FoxSRefIdeal.τ).loc Cert.FoxSRefIdeal.main_arg3)) (m ((c.tc : Thread Cert.FoxSRefIdeal.nD Cert.FoxSRefIdeal.τ).loc Cert.FoxSRefIdeal.main_arg4)) (m ((c.tc : Thread Cert.FoxSRefIdeal.nD Cert.FoxSRefIdeal.τ).loc Cert.FoxSRefIdeal.main_arg5))) = (fun _ => 1#1)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxIdeal_pre_finite_logits [hFoxIdeal : Cert.FoxIdeal.Facts] [hPre_finite_logits : Cert.Pre_finite_logits.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_logits m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_FoxRefIdeal_pre_finite_logits [hFoxRefIdeal : Cert.FoxRefIdeal.Facts] [hPre_finite_logits : Cert.Pre_finite_logits.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite_logits m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2)
      ∧ r.2.mem ((c.tc : Thread Cert.ProjS.nD Cert.ProjS.τ).loc Cert.ProjS.main_arg3) = m ((c.tc : Thread Cert.ProjS.nD Cert.ProjS.τ).loc Cert.ProjS.main_arg3)
      ∧ r.2.mem ((c.tc : Thread Cert.ProjS.nD Cert.ProjS.τ).loc Cert.ProjS.main_arg4) = m ((c.tc : Thread Cert.ProjS.nD Cert.ProjS.τ).loc Cert.ProjS.main_arg4)
      ∧ r.2.mem ((c.tc : Thread Cert.ProjS.nD Cert.ProjS.τ).loc Cert.ProjS.main_arg5) = m ((c.tc : Thread Cert.ProjS.nD Cert.ProjS.τ).loc Cert.ProjS.main_arg5)
      ∧ r.2.mem ((c.tc : Thread Cert.ProjS.nD Cert.ProjS.τ).loc Cert.ProjS.main_arg6) = m ((c.tc : Thread Cert.ProjS.nD Cert.ProjS.τ).loc Cert.ProjS.main_arg6)
      ∧ r.2.mem ((c.tc : Thread Cert.ProjS.nD Cert.ProjS.τ).loc Cert.ProjS.main_arg7) = m ((c.tc : Thread Cert.ProjS.nD Cert.ProjS.τ).loc Cert.ProjS.main_arg7))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
      ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
      ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4)
      ∧ r.2.mem ((c.tc : Thread Cert.ProjSIdeal.nD Cert.ProjSIdeal.τ).loc Cert.ProjSIdeal.main_arg5) = m ((c.tc : Thread Cert.ProjSIdeal.nD Cert.ProjSIdeal.τ).loc Cert.ProjSIdeal.main_arg5)
      ∧ r.2.mem ((c.tc : Thread Cert.ProjSIdeal.nD Cert.ProjSIdeal.τ).loc Cert.ProjSIdeal.main_arg6) = m ((c.tc : Thread Cert.ProjSIdeal.nD Cert.ProjSIdeal.τ).loc Cert.ProjSIdeal.main_arg6)
      ∧ r.2.mem ((c.tc : Thread Cert.ProjSIdeal.nD Cert.ProjSIdeal.τ).loc Cert.ProjSIdeal.main_arg7) = m ((c.tc : Thread Cert.ProjSIdeal.nD Cert.ProjSIdeal.τ).loc Cert.ProjSIdeal.main_arg7))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2)
      ∧ r.2.mem ((c.tc : Thread Cert.ProjSRefIdeal.nD Cert.ProjSRefIdeal.τ).loc Cert.ProjSRefIdeal.main_arg3) = m ((c.tc : Thread Cert.ProjSRefIdeal.nD Cert.ProjSRefIdeal.τ).loc Cert.ProjSRefIdeal.main_arg3)
      ∧ r.2.mem ((c.tc : Thread Cert.ProjSRefIdeal.nD Cert.ProjSRefIdeal.τ).loc Cert.ProjSRefIdeal.main_arg4) = m ((c.tc : Thread Cert.ProjSRefIdeal.nD Cert.ProjSRefIdeal.τ).loc Cert.ProjSRefIdeal.main_arg4)
      ∧ r.2.mem ((c.tc : Thread Cert.ProjSRefIdeal.nD Cert.ProjSRefIdeal.τ).loc Cert.ProjSRefIdeal.main_arg5) = m ((c.tc : Thread Cert.ProjSRefIdeal.nD Cert.ProjSRefIdeal.τ).loc Cert.ProjSRefIdeal.main_arg5)
      ∧ r.2.mem ((c.tc : Thread Cert.ProjSRefIdeal.nD Cert.ProjSRefIdeal.τ).loc Cert.ProjSRefIdeal.main_arg6) = m ((c.tc : Thread Cert.ProjSRefIdeal.nD Cert.ProjSRefIdeal.τ).loc Cert.ProjSRefIdeal.main_arg6)
      ∧ r.2.mem ((c.tc : Thread Cert.ProjSRefIdeal.nD Cert.ProjSRefIdeal.τ).loc Cert.ProjSRefIdeal.main_arg7) = m ((c.tc : Thread Cert.ProjSRefIdeal.nD Cert.ProjSRefIdeal.τ).loc Cert.ProjSRefIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_MergeS [hMergeS : Cert.MergeS.Facts] : Prop :=
  ∀ (m : (ℓ : Loc Cert.MergeS.nD Cert.MergeS.τ Cert.MergeS.sig) → Buf (Elt Bits) ℓ) (g : Dev Cert.MergeS.nD → PrngReg), Pre_MergeS m →
    θ_run (Cert.MergeS.defs (F := Bits)) (onTc (τ := Cert.MergeS.τ) (Cert.MergeS.main (F := Bits))) ⟨m, fun _ => 0, g⟩ (fun r => (∀ c : Dev Cert.MergeS.nD,
      r.2.mem ((c.tc : Thread Cert.MergeS.nD Cert.MergeS.τ).loc Cert.MergeS.main_arg0) = m ((c.tc : Thread Cert.MergeS.nD Cert.MergeS.τ).loc Cert.MergeS.main_arg0)
      ∧ r.2.mem ((c.tc : Thread Cert.MergeS.nD Cert.MergeS.τ).loc Cert.MergeS.main_arg1) = m ((c.tc : Thread Cert.MergeS.nD Cert.MergeS.τ).loc Cert.MergeS.main_arg1)
      ∧ r.2.mem ((c.tc : Thread Cert.MergeS.nD Cert.MergeS.τ).loc Cert.MergeS.main_arg2) = m ((c.tc : Thread Cert.MergeS.nD Cert.MergeS.τ).loc Cert.MergeS.main_arg2)
      ∧ r.2.mem ((c.tc : Thread Cert.MergeS.nD Cert.MergeS.τ).loc Cert.MergeS.main_arg3) = m ((c.tc : Thread Cert.MergeS.nD Cert.MergeS.τ).loc Cert.MergeS.main_arg3)
      ∧ r.2.mem ((c.tc : Thread Cert.MergeS.nD Cert.MergeS.τ).loc Cert.MergeS.main_arg4) = m ((c.tc : Thread Cert.MergeS.nD Cert.MergeS.τ).loc Cert.MergeS.main_arg4)
      ∧ r.2.mem ((c.tc : Thread Cert.MergeS.nD Cert.MergeS.τ).loc Cert.MergeS.main_arg5) = m ((c.tc : Thread Cert.MergeS.nD Cert.MergeS.τ).loc Cert.MergeS.main_arg5)
      ∧ r.2.mem ((c.tc : Thread Cert.MergeS.nD Cert.MergeS.τ).loc Cert.MergeS.main_arg6) = m ((c.tc : Thread Cert.MergeS.nD Cert.MergeS.τ).loc Cert.MergeS.main_arg6)
      ∧ r.2.mem ((c.tc : Thread Cert.MergeS.nD Cert.MergeS.τ).loc Cert.MergeS.main_arg7) = m ((c.tc : Thread Cert.MergeS.nD Cert.MergeS.τ).loc Cert.MergeS.main_arg7))
      ∧ r.2.sem = fun _ => 0)

def quiescent_MergeSIdeal [hMergeSIdeal : Cert.MergeSIdeal.Facts] : Prop :=
  ∀ (m : (ℓ : Loc Cert.MergeSIdeal.nD Cert.MergeSIdeal.τ Cert.MergeSIdeal.sig) → Buf (Elt Ideal) ℓ) (g : Dev Cert.MergeSIdeal.nD → PrngReg), Pre_MergeSIdeal m →
    θ_run (Cert.MergeSIdeal.defs (F := Ideal)) (onTc (τ := Cert.MergeSIdeal.τ) (Cert.MergeSIdeal.main (F := Ideal))) ⟨m, fun _ => 0, g⟩ (fun r => (∀ c : Dev Cert.MergeSIdeal.nD,
      r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
      ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
      ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
      ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
      ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
      ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
      ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
      ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7))
      ∧ r.2.sem = fun _ => 0)

def quiescent_MergeSRefIdeal [hMergeSRefIdeal : Cert.MergeSRefIdeal.Facts] : Prop :=
  ∀ (m : (ℓ : Loc Cert.MergeSRefIdeal.nD Cert.MergeSRefIdeal.τ Cert.MergeSRefIdeal.sig) → Buf (Elt Ideal) ℓ) (g : Dev Cert.MergeSRefIdeal.nD → PrngReg), Pre_MergeSRefIdeal m →
    θ_run (Cert.MergeSRefIdeal.defs (F := Ideal)) (onTc (τ := Cert.MergeSRefIdeal.τ) (Cert.MergeSRefIdeal.main (F := Ideal))) ⟨m, fun _ => 0, g⟩ (fun r => (∀ c : Dev Cert.MergeSRefIdeal.nD,
      r.2.mem ((c.tc : Thread Cert.MergeSRefIdeal.nD Cert.MergeSRefIdeal.τ).loc Cert.MergeSRefIdeal.main_arg0) = m ((c.tc : Thread Cert.MergeSRefIdeal.nD Cert.MergeSRefIdeal.τ).loc Cert.MergeSRefIdeal.main_arg0)
      ∧ r.2.mem ((c.tc : Thread Cert.MergeSRefIdeal.nD Cert.MergeSRefIdeal.τ).loc Cert.MergeSRefIdeal.main_arg1) = m ((c.tc : Thread Cert.MergeSRefIdeal.nD Cert.MergeSRefIdeal.τ).loc Cert.MergeSRefIdeal.main_arg1)
      ∧ r.2.mem ((c.tc : Thread Cert.MergeSRefIdeal.nD Cert.MergeSRefIdeal.τ).loc Cert.MergeSRefIdeal.main_arg2) = m ((c.tc : Thread Cert.MergeSRefIdeal.nD Cert.MergeSRefIdeal.τ).loc Cert.MergeSRefIdeal.main_arg2)
      ∧ r.2.mem ((c.tc : Thread Cert.MergeSRefIdeal.nD Cert.MergeSRefIdeal.τ).loc Cert.MergeSRefIdeal.main_arg3) = m ((c.tc : Thread Cert.MergeSRefIdeal.nD Cert.MergeSRefIdeal.τ).loc Cert.MergeSRefIdeal.main_arg3)
      ∧ r.2.mem ((c.tc : Thread Cert.MergeSRefIdeal.nD Cert.MergeSRefIdeal.τ).loc Cert.MergeSRefIdeal.main_arg4) = m ((c.tc : Thread Cert.MergeSRefIdeal.nD Cert.MergeSRefIdeal.τ).loc Cert.MergeSRefIdeal.main_arg4)
      ∧ r.2.mem ((c.tc : Thread Cert.MergeSRefIdeal.nD Cert.MergeSRefIdeal.τ).loc Cert.MergeSRefIdeal.main_arg5) = m ((c.tc : Thread Cert.MergeSRefIdeal.nD Cert.MergeSRefIdeal.τ).loc Cert.MergeSRefIdeal.main_arg5)
      ∧ r.2.mem ((c.tc : Thread Cert.MergeSRefIdeal.nD Cert.MergeSRefIdeal.τ).loc Cert.MergeSRefIdeal.main_arg6) = m ((c.tc : Thread Cert.MergeSRefIdeal.nD Cert.MergeSRefIdeal.τ).loc Cert.MergeSRefIdeal.main_arg6)
      ∧ r.2.mem ((c.tc : Thread Cert.MergeSRefIdeal.nD Cert.MergeSRefIdeal.τ).loc Cert.MergeSRefIdeal.main_arg7) = m ((c.tc : Thread Cert.MergeSRefIdeal.nD Cert.MergeSRefIdeal.τ).loc Cert.MergeSRefIdeal.main_arg7))
      ∧ r.2.sem = fun _ => 0)

def quiescent_Band [hBand : Cert.Band.Facts] : Prop :=
  ∀ (m : (ℓ : Loc Cert.Band.nD Cert.Band.τ Cert.Band.sig) → Buf (Elt Bits) ℓ) (g : Dev Cert.Band.nD → PrngReg), Pre_Band m →
    θ_run (Cert.Band.defs (F := Bits)) (onTc (τ := Cert.Band.τ) (Cert.Band.main (F := Bits))) ⟨m, fun _ => 0, g⟩ (fun r => (∀ c : Dev Cert.Band.nD,
      r.2.mem ((c.tc : Thread Cert.Band.nD Cert.Band.τ).loc Cert.Band.main_arg0) = m ((c.tc : Thread Cert.Band.nD Cert.Band.τ).loc Cert.Band.main_arg0)
      ∧ r.2.mem ((c.tc : Thread Cert.Band.nD Cert.Band.τ).loc Cert.Band.main_arg1) = m ((c.tc : Thread Cert.Band.nD Cert.Band.τ).loc Cert.Band.main_arg1)
      ∧ r.2.mem ((c.tc : Thread Cert.Band.nD Cert.Band.τ).loc Cert.Band.main_arg2) = m ((c.tc : Thread Cert.Band.nD Cert.Band.τ).loc Cert.Band.main_arg2)
      ∧ r.2.mem ((c.tc : Thread Cert.Band.nD Cert.Band.τ).loc Cert.Band.main_arg3) = m ((c.tc : Thread Cert.Band.nD Cert.Band.τ).loc Cert.Band.main_arg3))
      ∧ r.2.sem = fun _ => 0)

def quiescent_BandIdeal [hBandIdeal : Cert.BandIdeal.Facts] : Prop :=
  ∀ (m : (ℓ : Loc Cert.BandIdeal.nD Cert.BandIdeal.τ Cert.BandIdeal.sig) → Buf (Elt Ideal) ℓ) (g : Dev Cert.BandIdeal.nD → PrngReg), Pre_BandIdeal m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
      ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ r.2.sem = fun _ => 0)

def quiescent_BandIdeal_pre_finite_band [hBandIdeal : Cert.BandIdeal.Facts] [hPre_finite_band : Cert.Pre_finite_band.Facts] : Prop :=
  ∀ (m : (ℓ : Loc Cert.BandIdeal.nD Cert.BandIdeal.τ Cert.BandIdeal.sig) → Buf (Elt Ideal) ℓ) (g : Dev Cert.BandIdeal.nD → PrngReg), Pre_BandIdeal_finite_band m →
    θ_run (Cert.BandIdeal.defs (F := Ideal)) (onTc (τ := Cert.BandIdeal.τ) (Cert.BandIdeal.main (F := Ideal))) ⟨m, fun _ => 0, g⟩ (fun r => (∀ c : Dev Cert.BandIdeal.nD,
      r.2.mem ((c.tc : Thread Cert.BandIdeal.nD Cert.BandIdeal.τ).loc Cert.BandIdeal.main_arg0) = m ((c.tc : Thread Cert.BandIdeal.nD Cert.BandIdeal.τ).loc Cert.BandIdeal.main_arg0)
      ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
      ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
      ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ r.2.sem = fun _ => 0)

def quiescent_BandRefIdeal [hBandRefIdeal : Cert.BandRefIdeal.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1)
      ∧ r.2.mem ((c.tc : Thread Cert.BandRefIdeal.nD Cert.BandRefIdeal.τ).loc Cert.BandRefIdeal.main_arg2) = m ((c.tc : Thread Cert.BandRefIdeal.nD Cert.BandRefIdeal.τ).loc Cert.BandRefIdeal.main_arg2)
      ∧ r.2.mem ((c.tc : Thread Cert.BandRefIdeal.nD Cert.BandRefIdeal.τ).loc Cert.BandRefIdeal.main_arg3) = m ((c.tc : Thread Cert.BandRefIdeal.nD Cert.BandRefIdeal.τ).loc Cert.BandRefIdeal.main_arg3))
      ∧ r.2.sem = fun _ => 0)

def quiescent_BandRefIdeal_pre_finite_band [hBandRefIdeal : Cert.BandRefIdeal.Facts] [hPre_finite_band : Cert.Pre_finite_band.Facts] : Prop :=
  ∀ (m : (ℓ : Loc Cert.BandRefIdeal.nD Cert.BandRefIdeal.τ Cert.BandRefIdeal.sig) → Buf (Elt Ideal) ℓ) (g : Dev Cert.BandRefIdeal.nD → PrngReg), Pre_BandRefIdeal_finite_band m →
    θ_run (Cert.BandRefIdeal.defs (F := Ideal)) (onTc (τ := Cert.BandRefIdeal.τ) (Cert.BandRefIdeal.main (F := Ideal))) ⟨m, fun _ => 0, g⟩ (fun r => (∀ c : Dev Cert.BandRefIdeal.nD,
      r.2.mem ((c.tc : Thread Cert.BandRefIdeal.nD Cert.BandRefIdeal.τ).loc Cert.BandRefIdeal.main_arg0) = m ((c.tc : Thread Cert.BandRefIdeal.nD Cert.BandRefIdeal.τ).loc Cert.BandRefIdeal.main_arg0)
      ∧ r.2.mem ((c.tc : Thread Cert.BandRefIdeal.nD Cert.BandRefIdeal.τ).loc Cert.BandRefIdeal.main_arg1) = m ((c.tc : Thread Cert.BandRefIdeal.nD Cert.BandRefIdeal.τ).loc Cert.BandRefIdeal.main_arg1)
      ∧ r.2.mem ((c.tc : Thread Cert.BandRefIdeal.nD Cert.BandRefIdeal.τ).loc Cert.BandRefIdeal.main_arg2) = m ((c.tc : Thread Cert.BandRefIdeal.nD Cert.BandRefIdeal.τ).loc Cert.BandRefIdeal.main_arg2)
      ∧ r.2.mem ((c.tc : Thread Cert.BandRefIdeal.nD Cert.BandRefIdeal.τ).loc Cert.BandRefIdeal.main_arg3) = m ((c.tc : Thread Cert.BandRefIdeal.nD Cert.BandRefIdeal.τ).loc Cert.BandRefIdeal.main_arg3))
      ∧ r.2.sem = fun _ => 0)

def quiescent_BandS [hBandS : Cert.BandS.Facts] : Prop :=
  ∀ (m : (ℓ : Loc Cert.BandS.nD Cert.BandS.τ Cert.BandS.sig) → Buf (Elt Bits) ℓ) (g : Dev Cert.BandS.nD → PrngReg), Pre_BandS m →
    θ_run (Cert.BandS.defs (F := Bits)) (onTc (τ := Cert.BandS.τ) (Cert.BandS.main (F := Bits))) ⟨m, fun _ => 0, g⟩ (fun r => (∀ c : Dev Cert.BandS.nD,
      r.2.mem ((c.tc : Thread Cert.BandS.nD Cert.BandS.τ).loc Cert.BandS.main_arg0) = m ((c.tc : Thread Cert.BandS.nD Cert.BandS.τ).loc Cert.BandS.main_arg0)
      ∧ r.2.mem ((c.tc : Thread Cert.BandS.nD Cert.BandS.τ).loc Cert.BandS.main_arg1) = m ((c.tc : Thread Cert.BandS.nD Cert.BandS.τ).loc Cert.BandS.main_arg1)
      ∧ r.2.mem ((c.tc : Thread Cert.BandS.nD Cert.BandS.τ).loc Cert.BandS.main_arg2) = m ((c.tc : Thread Cert.BandS.nD Cert.BandS.τ).loc Cert.BandS.main_arg2)
      ∧ r.2.mem ((c.tc : Thread Cert.BandS.nD Cert.BandS.τ).loc Cert.BandS.main_arg3) = m ((c.tc : Thread Cert.BandS.nD Cert.BandS.τ).loc Cert.BandS.main_arg3)
      ∧ r.2.mem ((c.tc : Thread Cert.BandS.nD Cert.BandS.τ).loc Cert.BandS.main_arg4) = m ((c.tc : Thread Cert.BandS.nD Cert.BandS.τ).loc Cert.BandS.main_arg4)
      ∧ r.2.mem ((c.tc : Thread Cert.BandS.nD Cert.BandS.τ).loc Cert.BandS.main_arg5) = m ((c.tc : Thread Cert.BandS.nD Cert.BandS.τ).loc Cert.BandS.main_arg5))
      ∧ r.2.sem = fun _ => 0)

def quiescent_BandSIdeal [hBandSIdeal : Cert.BandSIdeal.Facts] : Prop :=
  ∀ (m : (ℓ : Loc Cert.BandSIdeal.nD Cert.BandSIdeal.τ Cert.BandSIdeal.sig) → Buf (Elt Ideal) ℓ) (g : Dev Cert.BandSIdeal.nD → PrngReg), Pre_BandSIdeal m →
    θ_run (Cert.BandSIdeal.defs (F := Ideal)) (onTc (τ := Cert.BandSIdeal.τ) (Cert.BandSIdeal.main (F := Ideal))) ⟨m, fun _ => 0, g⟩ (fun r => (∀ c : Dev Cert.BandSIdeal.nD,
      r.2.mem ((c.tc : Thread Cert.BandSIdeal.nD Cert.BandSIdeal.τ).loc Cert.BandSIdeal.main_arg0) = m ((c.tc : Thread Cert.BandSIdeal.nD Cert.BandSIdeal.τ).loc Cert.BandSIdeal.main_arg0)
      ∧ r.2.mem ((c.tc : Thread Cert.BandSIdeal.nD Cert.BandSIdeal.τ).loc Cert.BandSIdeal.main_arg1) = m ((c.tc : Thread Cert.BandSIdeal.nD Cert.BandSIdeal.τ).loc Cert.BandSIdeal.main_arg1)
      ∧ r.2.mem ((c.tc : Thread Cert.BandSIdeal.nD Cert.BandSIdeal.τ).loc Cert.BandSIdeal.main_arg2) = m ((c.tc : Thread Cert.BandSIdeal.nD Cert.BandSIdeal.τ).loc Cert.BandSIdeal.main_arg2)
      ∧ r.2.mem ((c.tc : Thread Cert.BandSIdeal.nD Cert.BandSIdeal.τ).loc Cert.BandSIdeal.main_arg3) = m ((c.tc : Thread Cert.BandSIdeal.nD Cert.BandSIdeal.τ).loc Cert.BandSIdeal.main_arg3)
      ∧ r.2.mem ((c.tc : Thread Cert.BandSIdeal.nD Cert.BandSIdeal.τ).loc Cert.BandSIdeal.main_arg4) = m ((c.tc : Thread Cert.BandSIdeal.nD Cert.BandSIdeal.τ).loc Cert.BandSIdeal.main_arg4)
      ∧ r.2.mem ((c.tc : Thread Cert.BandSIdeal.nD Cert.BandSIdeal.τ).loc Cert.BandSIdeal.main_arg5) = m ((c.tc : Thread Cert.BandSIdeal.nD Cert.BandSIdeal.τ).loc Cert.BandSIdeal.main_arg5))
      ∧ r.2.sem = fun _ => 0)

def quiescent_BandSIdeal_pre_finite_band_sample [hBandSIdeal : Cert.BandSIdeal.Facts] [hPre_finite_band_sample : Cert.Pre_finite_band_sample.Facts] : Prop :=
  ∀ (m : (ℓ : Loc Cert.BandSIdeal.nD Cert.BandSIdeal.τ Cert.BandSIdeal.sig) → Buf (Elt Ideal) ℓ) (g : Dev Cert.BandSIdeal.nD → PrngReg), Pre_BandSIdeal_finite_band_sample m →
    θ_run (Cert.BandSIdeal.defs (F := Ideal)) (onTc (τ := Cert.BandSIdeal.τ) (Cert.BandSIdeal.main (F := Ideal))) ⟨m, fun _ => 0, g⟩ (fun r => (∀ c : Dev Cert.BandSIdeal.nD,
      r.2.mem ((c.tc : Thread Cert.BandSIdeal.nD Cert.BandSIdeal.τ).loc Cert.BandSIdeal.main_arg0) = m ((c.tc : Thread Cert.BandSIdeal.nD Cert.BandSIdeal.τ).loc Cert.BandSIdeal.main_arg0)
      ∧ r.2.mem ((c.tc : Thread Cert.BandSIdeal.nD Cert.BandSIdeal.τ).loc Cert.BandSIdeal.main_arg1) = m ((c.tc : Thread Cert.BandSIdeal.nD Cert.BandSIdeal.τ).loc Cert.BandSIdeal.main_arg1)
      ∧ r.2.mem ((c.tc : Thread Cert.BandSIdeal.nD Cert.BandSIdeal.τ).loc Cert.BandSIdeal.main_arg2) = m ((c.tc : Thread Cert.BandSIdeal.nD Cert.BandSIdeal.τ).loc Cert.BandSIdeal.main_arg2)
      ∧ r.2.mem ((c.tc : Thread Cert.BandSIdeal.nD Cert.BandSIdeal.τ).loc Cert.BandSIdeal.main_arg3) = m ((c.tc : Thread Cert.BandSIdeal.nD Cert.BandSIdeal.τ).loc Cert.BandSIdeal.main_arg3)
      ∧ r.2.mem ((c.tc : Thread Cert.BandSIdeal.nD Cert.BandSIdeal.τ).loc Cert.BandSIdeal.main_arg4) = m ((c.tc : Thread Cert.BandSIdeal.nD Cert.BandSIdeal.τ).loc Cert.BandSIdeal.main_arg4)
      ∧ r.2.mem ((c.tc : Thread Cert.BandSIdeal.nD Cert.BandSIdeal.τ).loc Cert.BandSIdeal.main_arg5) = m ((c.tc : Thread Cert.BandSIdeal.nD Cert.BandSIdeal.τ).loc Cert.BandSIdeal.main_arg5))
      ∧ r.2.sem = fun _ => 0)

def quiescent_BandSRefIdeal [hBandSRefIdeal : Cert.BandSRefIdeal.Facts] : Prop :=
  ∀ (m : (ℓ : Loc Cert.BandSRefIdeal.nD Cert.BandSRefIdeal.τ Cert.BandSRefIdeal.sig) → Buf (Elt Ideal) ℓ) (g : Dev Cert.BandSRefIdeal.nD → PrngReg), Pre_BandSRefIdeal m →
    θ_run (Cert.BandSRefIdeal.defs (F := Ideal)) (onTc (τ := Cert.BandSRefIdeal.τ) (Cert.BandSRefIdeal.main (F := Ideal))) ⟨m, fun _ => 0, g⟩ (fun r => (∀ c : Dev Cert.BandSRefIdeal.nD,
      r.2.mem ((c.tc : Thread Cert.BandSRefIdeal.nD Cert.BandSRefIdeal.τ).loc Cert.BandSRefIdeal.main_arg0) = m ((c.tc : Thread Cert.BandSRefIdeal.nD Cert.BandSRefIdeal.τ).loc Cert.BandSRefIdeal.main_arg0)
      ∧ r.2.mem ((c.tc : Thread Cert.BandSRefIdeal.nD Cert.BandSRefIdeal.τ).loc Cert.BandSRefIdeal.main_arg1) = m ((c.tc : Thread Cert.BandSRefIdeal.nD Cert.BandSRefIdeal.τ).loc Cert.BandSRefIdeal.main_arg1)
      ∧ r.2.mem ((c.tc : Thread Cert.BandSRefIdeal.nD Cert.BandSRefIdeal.τ).loc Cert.BandSRefIdeal.main_arg2) = m ((c.tc : Thread Cert.BandSRefIdeal.nD Cert.BandSRefIdeal.τ).loc Cert.BandSRefIdeal.main_arg2)
      ∧ r.2.mem ((c.tc : Thread Cert.BandSRefIdeal.nD Cert.BandSRefIdeal.τ).loc Cert.BandSRefIdeal.main_arg3) = m ((c.tc : Thread Cert.BandSRefIdeal.nD Cert.BandSRefIdeal.τ).loc Cert.BandSRefIdeal.main_arg3)
      ∧ r.2.mem ((c.tc : Thread Cert.BandSRefIdeal.nD Cert.BandSRefIdeal.τ).loc Cert.BandSRefIdeal.main_arg4) = m ((c.tc : Thread Cert.BandSRefIdeal.nD Cert.BandSRefIdeal.τ).loc Cert.BandSRefIdeal.main_arg4)
      ∧ r.2.mem ((c.tc : Thread Cert.BandSRefIdeal.nD Cert.BandSRefIdeal.τ).loc Cert.BandSRefIdeal.main_arg5) = m ((c.tc : Thread Cert.BandSRefIdeal.nD Cert.BandSRefIdeal.τ).loc Cert.BandSRefIdeal.main_arg5))
      ∧ r.2.sem = fun _ => 0)

def quiescent_BandSRefIdeal_pre_finite_band_sample [hBandSRefIdeal : Cert.BandSRefIdeal.Facts] [hPre_finite_band_sample : Cert.Pre_finite_band_sample.Facts] : Prop :=
  ∀ (m : (ℓ : Loc Cert.BandSRefIdeal.nD Cert.BandSRefIdeal.τ Cert.BandSRefIdeal.sig) → Buf (Elt Ideal) ℓ) (g : Dev Cert.BandSRefIdeal.nD → PrngReg), Pre_BandSRefIdeal_finite_band_sample m →
    θ_run (Cert.BandSRefIdeal.defs (F := Ideal)) (onTc (τ := Cert.BandSRefIdeal.τ) (Cert.BandSRefIdeal.main (F := Ideal))) ⟨m, fun _ => 0, g⟩ (fun r => (∀ c : Dev Cert.BandSRefIdeal.nD,
      r.2.mem ((c.tc : Thread Cert.BandSRefIdeal.nD Cert.BandSRefIdeal.τ).loc Cert.BandSRefIdeal.main_arg0) = m ((c.tc : Thread Cert.BandSRefIdeal.nD Cert.BandSRefIdeal.τ).loc Cert.BandSRefIdeal.main_arg0)
      ∧ r.2.mem ((c.tc : Thread Cert.BandSRefIdeal.nD Cert.BandSRefIdeal.τ).loc Cert.BandSRefIdeal.main_arg1) = m ((c.tc : Thread Cert.BandSRefIdeal.nD Cert.BandSRefIdeal.τ).loc Cert.BandSRefIdeal.main_arg1)
      ∧ r.2.mem ((c.tc : Thread Cert.BandSRefIdeal.nD Cert.BandSRefIdeal.τ).loc Cert.BandSRefIdeal.main_arg2) = m ((c.tc : Thread Cert.BandSRefIdeal.nD Cert.BandSRefIdeal.τ).loc Cert.BandSRefIdeal.main_arg2)
      ∧ r.2.mem ((c.tc : Thread Cert.BandSRefIdeal.nD Cert.BandSRefIdeal.τ).loc Cert.BandSRefIdeal.main_arg3) = m ((c.tc : Thread Cert.BandSRefIdeal.nD Cert.BandSRefIdeal.τ).loc Cert.BandSRefIdeal.main_arg3)
      ∧ r.2.mem ((c.tc : Thread Cert.BandSRefIdeal.nD Cert.BandSRefIdeal.τ).loc Cert.BandSRefIdeal.main_arg4) = m ((c.tc : Thread Cert.BandSRefIdeal.nD Cert.BandSRefIdeal.τ).loc Cert.BandSRefIdeal.main_arg4)
      ∧ r.2.mem ((c.tc : Thread Cert.BandSRefIdeal.nD Cert.BandSRefIdeal.τ).loc Cert.BandSRefIdeal.main_arg5) = m ((c.tc : Thread Cert.BandSRefIdeal.nD Cert.BandSRefIdeal.τ).loc Cert.BandSRefIdeal.main_arg5))
      ∧ r.2.sem = fun _ => 0)

def quiescent_FoxS [hFoxS : Cert.FoxS.Facts] : Prop :=
  ∀ (m : (ℓ : Loc Cert.FoxS.nD Cert.FoxS.τ Cert.FoxS.sig) → Buf (Elt Bits) ℓ) (g : Dev Cert.FoxS.nD → PrngReg), Pre_FoxS m →
    θ_run (Cert.FoxS.defs (F := Bits)) (onTc (τ := Cert.FoxS.τ) (Cert.FoxS.main (F := Bits))) ⟨m, fun _ => 0, g⟩ (fun r => (∀ c : Dev Cert.FoxS.nD,
      r.2.mem ((c.tc : Thread Cert.FoxS.nD Cert.FoxS.τ).loc Cert.FoxS.main_arg0) = m ((c.tc : Thread Cert.FoxS.nD Cert.FoxS.τ).loc Cert.FoxS.main_arg0)
      ∧ r.2.mem ((c.tc : Thread Cert.FoxS.nD Cert.FoxS.τ).loc Cert.FoxS.main_arg1) = m ((c.tc : Thread Cert.FoxS.nD Cert.FoxS.τ).loc Cert.FoxS.main_arg1)
      ∧ r.2.mem ((c.tc : Thread Cert.FoxS.nD Cert.FoxS.τ).loc Cert.FoxS.main_arg2) = m ((c.tc : Thread Cert.FoxS.nD Cert.FoxS.τ).loc Cert.FoxS.main_arg2)
      ∧ r.2.mem ((c.tc : Thread Cert.FoxS.nD Cert.FoxS.τ).loc Cert.FoxS.main_arg3) = m ((c.tc : Thread Cert.FoxS.nD Cert.FoxS.τ).loc Cert.FoxS.main_arg3)
      ∧ r.2.mem ((c.tc : Thread Cert.FoxS.nD Cert.FoxS.τ).loc Cert.FoxS.main_arg4) = m ((c.tc : Thread Cert.FoxS.nD Cert.FoxS.τ).loc Cert.FoxS.main_arg4)
      ∧ r.2.mem ((c.tc : Thread Cert.FoxS.nD Cert.FoxS.τ).loc Cert.FoxS.main_arg5) = m ((c.tc : Thread Cert.FoxS.nD Cert.FoxS.τ).loc Cert.FoxS.main_arg5))
      ∧ r.2.sem = fun _ => 0)

def quiescent_FoxSIdeal [hFoxSIdeal : Cert.FoxSIdeal.Facts] : Prop :=
  ∀ (m : (ℓ : Loc Cert.FoxSIdeal.nD Cert.FoxSIdeal.τ Cert.FoxSIdeal.sig) → Buf (Elt Ideal) ℓ) (g : Dev Cert.FoxSIdeal.nD → PrngReg), Pre_FoxSIdeal m →
    θ_run (Cert.FoxSIdeal.defs (F := Ideal)) (onTc (τ := Cert.FoxSIdeal.τ) (Cert.FoxSIdeal.main (F := Ideal))) ⟨m, fun _ => 0, g⟩ (fun r => (∀ c : Dev Cert.FoxSIdeal.nD,
      r.2.mem ((c.tc : Thread Cert.FoxSIdeal.nD Cert.FoxSIdeal.τ).loc Cert.FoxSIdeal.main_arg0) = m ((c.tc : Thread Cert.FoxSIdeal.nD Cert.FoxSIdeal.τ).loc Cert.FoxSIdeal.main_arg0)
      ∧ r.2.mem ((c.tc : Thread Cert.FoxSIdeal.nD Cert.FoxSIdeal.τ).loc Cert.FoxSIdeal.main_arg1) = m ((c.tc : Thread Cert.FoxSIdeal.nD Cert.FoxSIdeal.τ).loc Cert.FoxSIdeal.main_arg1)
      ∧ r.2.mem ((c.tc : Thread Cert.FoxSIdeal.nD Cert.FoxSIdeal.τ).loc Cert.FoxSIdeal.main_arg2) = m ((c.tc : Thread Cert.FoxSIdeal.nD Cert.FoxSIdeal.τ).loc Cert.FoxSIdeal.main_arg2)
      ∧ r.2.mem ((c.tc : Thread Cert.FoxSIdeal.nD Cert.FoxSIdeal.τ).loc Cert.FoxSIdeal.main_arg3) = m ((c.tc : Thread Cert.FoxSIdeal.nD Cert.FoxSIdeal.τ).loc Cert.FoxSIdeal.main_arg3)
      ∧ r.2.mem ((c.tc : Thread Cert.FoxSIdeal.nD Cert.FoxSIdeal.τ).loc Cert.FoxSIdeal.main_arg4) = m ((c.tc : Thread Cert.FoxSIdeal.nD Cert.FoxSIdeal.τ).loc Cert.FoxSIdeal.main_arg4)
      ∧ r.2.mem ((c.tc : Thread Cert.FoxSIdeal.nD Cert.FoxSIdeal.τ).loc Cert.FoxSIdeal.main_arg5) = m ((c.tc : Thread Cert.FoxSIdeal.nD Cert.FoxSIdeal.τ).loc Cert.FoxSIdeal.main_arg5))
      ∧ r.2.sem = fun _ => 0)

def quiescent_FoxSIdeal_pre_finite_fox_sample [hFoxSIdeal : Cert.FoxSIdeal.Facts] [hPre_finite_fox_sample : Cert.Pre_finite_fox_sample.Facts] : Prop :=
  ∀ (m : (ℓ : Loc Cert.FoxSIdeal.nD Cert.FoxSIdeal.τ Cert.FoxSIdeal.sig) → Buf (Elt Ideal) ℓ) (g : Dev Cert.FoxSIdeal.nD → PrngReg), Pre_FoxSIdeal_finite_fox_sample m →
    θ_run (Cert.FoxSIdeal.defs (F := Ideal)) (onTc (τ := Cert.FoxSIdeal.τ) (Cert.FoxSIdeal.main (F := Ideal))) ⟨m, fun _ => 0, g⟩ (fun r => (∀ c : Dev Cert.FoxSIdeal.nD,
      r.2.mem ((c.tc : Thread Cert.FoxSIdeal.nD Cert.FoxSIdeal.τ).loc Cert.FoxSIdeal.main_arg0) = m ((c.tc : Thread Cert.FoxSIdeal.nD Cert.FoxSIdeal.τ).loc Cert.FoxSIdeal.main_arg0)
      ∧ r.2.mem ((c.tc : Thread Cert.FoxSIdeal.nD Cert.FoxSIdeal.τ).loc Cert.FoxSIdeal.main_arg1) = m ((c.tc : Thread Cert.FoxSIdeal.nD Cert.FoxSIdeal.τ).loc Cert.FoxSIdeal.main_arg1)
      ∧ r.2.mem ((c.tc : Thread Cert.FoxSIdeal.nD Cert.FoxSIdeal.τ).loc Cert.FoxSIdeal.main_arg2) = m ((c.tc : Thread Cert.FoxSIdeal.nD Cert.FoxSIdeal.τ).loc Cert.FoxSIdeal.main_arg2)
      ∧ r.2.mem ((c.tc : Thread Cert.FoxSIdeal.nD Cert.FoxSIdeal.τ).loc Cert.FoxSIdeal.main_arg3) = m ((c.tc : Thread Cert.FoxSIdeal.nD Cert.FoxSIdeal.τ).loc Cert.FoxSIdeal.main_arg3)
      ∧ r.2.mem ((c.tc : Thread Cert.FoxSIdeal.nD Cert.FoxSIdeal.τ).loc Cert.FoxSIdeal.main_arg4) = m ((c.tc : Thread Cert.FoxSIdeal.nD Cert.FoxSIdeal.τ).loc Cert.FoxSIdeal.main_arg4)
      ∧ r.2.mem ((c.tc : Thread Cert.FoxSIdeal.nD Cert.FoxSIdeal.τ).loc Cert.FoxSIdeal.main_arg5) = m ((c.tc : Thread Cert.FoxSIdeal.nD Cert.FoxSIdeal.τ).loc Cert.FoxSIdeal.main_arg5))
      ∧ r.2.sem = fun _ => 0)

def quiescent_FoxSRefIdeal [hFoxSRefIdeal : Cert.FoxSRefIdeal.Facts] : Prop :=
  ∀ (m : (ℓ : Loc Cert.FoxSRefIdeal.nD Cert.FoxSRefIdeal.τ Cert.FoxSRefIdeal.sig) → Buf (Elt Ideal) ℓ) (g : Dev Cert.FoxSRefIdeal.nD → PrngReg), Pre_FoxSRefIdeal m →
    θ_run (Cert.FoxSRefIdeal.defs (F := Ideal)) (onTc (τ := Cert.FoxSRefIdeal.τ) (Cert.FoxSRefIdeal.main (F := Ideal))) ⟨m, fun _ => 0, g⟩ (fun r => (∀ c : Dev Cert.FoxSRefIdeal.nD,
      r.2.mem ((c.tc : Thread Cert.FoxSRefIdeal.nD Cert.FoxSRefIdeal.τ).loc Cert.FoxSRefIdeal.main_arg0) = m ((c.tc : Thread Cert.FoxSRefIdeal.nD Cert.FoxSRefIdeal.τ).loc Cert.FoxSRefIdeal.main_arg0)
      ∧ r.2.mem ((c.tc : Thread Cert.FoxSRefIdeal.nD Cert.FoxSRefIdeal.τ).loc Cert.FoxSRefIdeal.main_arg1) = m ((c.tc : Thread Cert.FoxSRefIdeal.nD Cert.FoxSRefIdeal.τ).loc Cert.FoxSRefIdeal.main_arg1)
      ∧ r.2.mem ((c.tc : Thread Cert.FoxSRefIdeal.nD Cert.FoxSRefIdeal.τ).loc Cert.FoxSRefIdeal.main_arg2) = m ((c.tc : Thread Cert.FoxSRefIdeal.nD Cert.FoxSRefIdeal.τ).loc Cert.FoxSRefIdeal.main_arg2)
      ∧ r.2.mem ((c.tc : Thread Cert.FoxSRefIdeal.nD Cert.FoxSRefIdeal.τ).loc Cert.FoxSRefIdeal.main_arg3) = m ((c.tc : Thread Cert.FoxSRefIdeal.nD Cert.FoxSRefIdeal.τ).loc Cert.FoxSRefIdeal.main_arg3)
      ∧ r.2.mem ((c.tc : Thread Cert.FoxSRefIdeal.nD Cert.FoxSRefIdeal.τ).loc Cert.FoxSRefIdeal.main_arg4) = m ((c.tc : Thread Cert.FoxSRefIdeal.nD Cert.FoxSRefIdeal.τ).loc Cert.FoxSRefIdeal.main_arg4)
      ∧ r.2.mem ((c.tc : Thread Cert.FoxSRefIdeal.nD Cert.FoxSRefIdeal.τ).loc Cert.FoxSRefIdeal.main_arg5) = m ((c.tc : Thread Cert.FoxSRefIdeal.nD Cert.FoxSRefIdeal.τ).loc Cert.FoxSRefIdeal.main_arg5))
      ∧ r.2.sem = fun _ => 0)

def quiescent_FoxSRefIdeal_pre_finite_fox_sample [hFoxSRefIdeal : Cert.FoxSRefIdeal.Facts] [hPre_finite_fox_sample : Cert.Pre_finite_fox_sample.Facts] : Prop :=
  ∀ (m : (ℓ : Loc Cert.FoxSRefIdeal.nD Cert.FoxSRefIdeal.τ Cert.FoxSRefIdeal.sig) → Buf (Elt Ideal) ℓ) (g : Dev Cert.FoxSRefIdeal.nD → PrngReg), Pre_FoxSRefIdeal_finite_fox_sample m →
    θ_run (Cert.FoxSRefIdeal.defs (F := Ideal)) (onTc (τ := Cert.FoxSRefIdeal.τ) (Cert.FoxSRefIdeal.main (F := Ideal))) ⟨m, fun _ => 0, g⟩ (fun r => (∀ c : Dev Cert.FoxSRefIdeal.nD,
      r.2.mem ((c.tc : Thread Cert.FoxSRefIdeal.nD Cert.FoxSRefIdeal.τ).loc Cert.FoxSRefIdeal.main_arg0) = m ((c.tc : Thread Cert.FoxSRefIdeal.nD Cert.FoxSRefIdeal.τ).loc Cert.FoxSRefIdeal.main_arg0)
      ∧ r.2.mem ((c.tc : Thread Cert.FoxSRefIdeal.nD Cert.FoxSRefIdeal.τ).loc Cert.FoxSRefIdeal.main_arg1) = m ((c.tc : Thread Cert.FoxSRefIdeal.nD Cert.FoxSRefIdeal.τ).loc Cert.FoxSRefIdeal.main_arg1)
      ∧ r.2.mem ((c.tc : Thread Cert.FoxSRefIdeal.nD Cert.FoxSRefIdeal.τ).loc Cert.FoxSRefIdeal.main_arg2) = m ((c.tc : Thread Cert.FoxSRefIdeal.nD Cert.FoxSRefIdeal.τ).loc Cert.FoxSRefIdeal.main_arg2)
      ∧ r.2.mem ((c.tc : Thread Cert.FoxSRefIdeal.nD Cert.FoxSRefIdeal.τ).loc Cert.FoxSRefIdeal.main_arg3) = m ((c.tc : Thread Cert.FoxSRefIdeal.nD Cert.FoxSRefIdeal.τ).loc Cert.FoxSRefIdeal.main_arg3)
      ∧ r.2.mem ((c.tc : Thread Cert.FoxSRefIdeal.nD Cert.FoxSRefIdeal.τ).loc Cert.FoxSRefIdeal.main_arg4) = m ((c.tc : Thread Cert.FoxSRefIdeal.nD Cert.FoxSRefIdeal.τ).loc Cert.FoxSRefIdeal.main_arg4)
      ∧ r.2.mem ((c.tc : Thread Cert.FoxSRefIdeal.nD Cert.FoxSRefIdeal.τ).loc Cert.FoxSRefIdeal.main_arg5) = m ((c.tc : Thread Cert.FoxSRefIdeal.nD Cert.FoxSRefIdeal.τ).loc Cert.FoxSRefIdeal.main_arg5))
      ∧ r.2.sem = fun _ => 0)

def preserves_Fox_FoxIdeal : Prop :=
  IdealRules.named_const.Statement Cert.FoxIdeal.κ "mask" .f32 0xF149F2CA#32 ⊥

def algebraic_FoxIdeal_FoxRefIdeal_pre_finite_logits [hFoxIdeal : Cert.FoxIdeal.Facts] [hFoxRefIdeal : Cert.FoxRefIdeal.Facts] [hPre_finite_logits : Cert.Pre_finite_logits.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite_logits m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v4)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v4) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v40) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v52)) (v1 : (c : Dev Cert.ProjIdeal.nD) → Buf (Elt Ideal) ((c.tc : Thread Cert.ProjIdeal.nD Cert.ProjIdeal.τ).loc Cert.ProjIdeal.main_v53)) (v2 : (c : Dev Cert.ProjIdeal.nD) → Buf (Elt Ideal) ((c.tc : Thread Cert.ProjIdeal.nD Cert.ProjIdeal.τ).loc Cert.ProjIdeal.main_v54)) (v3 : (c : Dev Cert.ProjIdeal.nD) → Buf (Elt Ideal) ((c.tc : Thread Cert.ProjIdeal.nD Cert.ProjIdeal.τ).loc Cert.ProjIdeal.main_v55)) (v4 : (c : Dev Cert.ProjIdeal.nD) → Buf (Elt Ideal) ((c.tc : Thread Cert.ProjIdeal.nD Cert.ProjIdeal.τ).loc Cert.ProjIdeal.main_v56)) (v5 : (c : Dev Cert.ProjIdeal.nD) → Buf (Elt Ideal) ((c.tc : Thread Cert.ProjIdeal.nD Cert.ProjIdeal.τ).loc Cert.ProjIdeal.main_v57)) (v6 : (c : Dev Cert.ProjIdeal.nD) → Buf (Elt Ideal) ((c.tc : Thread Cert.ProjIdeal.nD Cert.ProjIdeal.τ).loc Cert.ProjIdeal.main_v58)) (v7 : (c : Dev Cert.ProjIdeal.nD) → Buf (Elt Ideal) ((c.tc : Thread Cert.ProjIdeal.nD Cert.ProjIdeal.τ).loc Cert.ProjIdeal.main_v59)) (v8 : (c : Dev Cert.ProjIdeal.nD) → Buf (Elt Ideal) ((c.tc : Thread Cert.ProjIdeal.nD Cert.ProjIdeal.τ).loc Cert.ProjIdeal.main_v60)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v52) = v0 c
          ∧ r.2.mem ((c.tc : Thread Cert.ProjIdeal.nD Cert.ProjIdeal.τ).loc Cert.ProjIdeal.main_v53) = v1 c
          ∧ r.2.mem ((c.tc : Thread Cert.ProjIdeal.nD Cert.ProjIdeal.τ).loc Cert.ProjIdeal.main_v54) = v2 c
          ∧ r.2.mem ((c.tc : Thread Cert.ProjIdeal.nD Cert.ProjIdeal.τ).loc Cert.ProjIdeal.main_v55) = v3 c
          ∧ r.2.mem ((c.tc : Thread Cert.ProjIdeal.nD Cert.ProjIdeal.τ).loc Cert.ProjIdeal.main_v56) = v4 c
          ∧ r.2.mem ((c.tc : Thread Cert.ProjIdeal.nD Cert.ProjIdeal.τ).loc Cert.ProjIdeal.main_v57) = v5 c
          ∧ r.2.mem ((c.tc : Thread Cert.ProjIdeal.nD Cert.ProjIdeal.τ).loc Cert.ProjIdeal.main_v58) = v6 c
          ∧ r.2.mem ((c.tc : Thread Cert.ProjIdeal.nD Cert.ProjIdeal.τ).loc Cert.ProjIdeal.main_v59) = v7 c
          ∧ r.2.mem ((c.tc : Thread Cert.ProjIdeal.nD Cert.ProjIdeal.τ).loc Cert.ProjIdeal.main_v60) = v8 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v97) = v0 c
          ∧ r.2.mem ((c.tc : Thread Cert.ProjRefIdeal.nD Cert.ProjRefIdeal.τ).loc Cert.ProjRefIdeal.main_v98) = v1 c
          ∧ r.2.mem ((c.tc : Thread Cert.ProjRefIdeal.nD Cert.ProjRefIdeal.τ).loc Cert.ProjRefIdeal.main_v78) = v2 c
          ∧ r.2.mem ((c.tc : Thread Cert.ProjRefIdeal.nD Cert.ProjRefIdeal.τ).loc Cert.ProjRefIdeal.main_v84) = v3 c
          ∧ r.2.mem ((c.tc : Thread Cert.ProjRefIdeal.nD Cert.ProjRefIdeal.τ).loc Cert.ProjRefIdeal.main_v82) = v4 c
          ∧ r.2.mem ((c.tc : Thread Cert.ProjRefIdeal.nD Cert.ProjRefIdeal.τ).loc Cert.ProjRefIdeal.main_v99) = v5 c
          ∧ r.2.mem ((c.tc : Thread Cert.ProjRefIdeal.nD Cert.ProjRefIdeal.τ).loc Cert.ProjRefIdeal.main_v100) = v6 c
          ∧ r.2.mem ((c.tc : Thread Cert.ProjRefIdeal.nD Cert.ProjRefIdeal.τ).loc Cert.ProjRefIdeal.main_v101) = v7 c
          ∧ r.2.mem ((c.tc : Thread Cert.ProjRefIdeal.nD Cert.ProjRefIdeal.τ).loc Cert.ProjRefIdeal.main_v102) = v8 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)
      ∧ m' ((c.tc : Thread Cert.ProjSRefIdeal.nD Cert.ProjSRefIdeal.τ).loc Cert.ProjSRefIdeal.main_arg3) = m ((c.tc : Thread Cert.ProjSIdeal.nD Cert.ProjSIdeal.τ).loc Cert.ProjSIdeal.main_arg3)
      ∧ m' ((c.tc : Thread Cert.ProjSRefIdeal.nD Cert.ProjSRefIdeal.τ).loc Cert.ProjSRefIdeal.main_arg4) = m ((c.tc : Thread Cert.ProjSIdeal.nD Cert.ProjSIdeal.τ).loc Cert.ProjSIdeal.main_arg4)
      ∧ m' ((c.tc : Thread Cert.ProjSRefIdeal.nD Cert.ProjSRefIdeal.τ).loc Cert.ProjSRefIdeal.main_arg5) = m ((c.tc : Thread Cert.ProjSIdeal.nD Cert.ProjSIdeal.τ).loc Cert.ProjSIdeal.main_arg5)
      ∧ m' ((c.tc : Thread Cert.ProjSRefIdeal.nD Cert.ProjSRefIdeal.τ).loc Cert.ProjSRefIdeal.main_arg6) = m ((c.tc : Thread Cert.ProjSIdeal.nD Cert.ProjSIdeal.τ).loc Cert.ProjSIdeal.main_arg6)
      ∧ m' ((c.tc : Thread Cert.ProjSRefIdeal.nD Cert.ProjSRefIdeal.τ).loc Cert.ProjSRefIdeal.main_arg7) = m ((c.tc : Thread Cert.ProjSIdeal.nD Cert.ProjSIdeal.τ).loc Cert.ProjSIdeal.main_arg7)) →
    ∃ (v0 : (c : Dev Cert.ProjSIdeal.nD) → Buf (Elt Ideal) ((c.tc : Thread Cert.ProjSIdeal.nD Cert.ProjSIdeal.τ).loc Cert.ProjSIdeal.main_v52)) (v1 : (c : Dev Cert.ProjSIdeal.nD) → Buf (Elt Ideal) ((c.tc : Thread Cert.ProjSIdeal.nD Cert.ProjSIdeal.τ).loc Cert.ProjSIdeal.main_v53)) (v2 : (c : Dev Cert.ProjSIdeal.nD) → Buf (Elt Ideal) ((c.tc : Thread Cert.ProjSIdeal.nD Cert.ProjSIdeal.τ).loc Cert.ProjSIdeal.main_v54)) (v3 : (c : Dev Cert.ProjSIdeal.nD) → Buf (Elt Ideal) ((c.tc : Thread Cert.ProjSIdeal.nD Cert.ProjSIdeal.τ).loc Cert.ProjSIdeal.main_v55)) (v4 : (c : Dev Cert.ProjSIdeal.nD) → Buf (Elt Ideal) ((c.tc : Thread Cert.ProjSIdeal.nD Cert.ProjSIdeal.τ).loc Cert.ProjSIdeal.main_v56)) (v5 : (c : Dev Cert.ProjSIdeal.nD) → Buf (Elt Ideal) ((c.tc : Thread Cert.ProjSIdeal.nD Cert.ProjSIdeal.τ).loc Cert.ProjSIdeal.main_v57)) (v6 : (c : Dev Cert.ProjSIdeal.nD) → Buf (Elt Ideal) ((c.tc : Thread Cert.ProjSIdeal.nD Cert.ProjSIdeal.τ).loc Cert.ProjSIdeal.main_v58)) (v7 : (c : Dev Cert.ProjSIdeal.nD) → Buf (Elt Ideal) ((c.tc : Thread Cert.ProjSIdeal.nD Cert.ProjSIdeal.τ).loc Cert.ProjSIdeal.main_v59)) (v8 : (c : Dev Cert.ProjSIdeal.nD) → Buf (Elt Ideal) ((c.tc : Thread Cert.ProjSIdeal.nD Cert.ProjSIdeal.τ).loc Cert.ProjSIdeal.main_v60)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v52) = v0 c
          ∧ r.2.mem ((c.tc : Thread Cert.ProjSIdeal.nD Cert.ProjSIdeal.τ).loc Cert.ProjSIdeal.main_v53) = v1 c
          ∧ r.2.mem ((c.tc : Thread Cert.ProjSIdeal.nD Cert.ProjSIdeal.τ).loc Cert.ProjSIdeal.main_v54) = v2 c
          ∧ r.2.mem ((c.tc : Thread Cert.ProjSIdeal.nD Cert.ProjSIdeal.τ).loc Cert.ProjSIdeal.main_v55) = v3 c
          ∧ r.2.mem ((c.tc : Thread Cert.ProjSIdeal.nD Cert.ProjSIdeal.τ).loc Cert.ProjSIdeal.main_v56) = v4 c
          ∧ r.2.mem ((c.tc : Thread Cert.ProjSIdeal.nD Cert.ProjSIdeal.τ).loc Cert.ProjSIdeal.main_v57) = v5 c
          ∧ r.2.mem ((c.tc : Thread Cert.ProjSIdeal.nD Cert.ProjSIdeal.τ).loc Cert.ProjSIdeal.main_v58) = v6 c
          ∧ r.2.mem ((c.tc : Thread Cert.ProjSIdeal.nD Cert.ProjSIdeal.τ).loc Cert.ProjSIdeal.main_v59) = v7 c
          ∧ r.2.mem ((c.tc : Thread Cert.ProjSIdeal.nD Cert.ProjSIdeal.τ).loc Cert.ProjSIdeal.main_v60) = v8 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
          ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
          ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4)
          ∧ r.2.mem ((c.tc : Thread Cert.ProjSIdeal.nD Cert.ProjSIdeal.τ).loc Cert.ProjSIdeal.main_arg5) = m ((c.tc : Thread Cert.ProjSIdeal.nD Cert.ProjSIdeal.τ).loc Cert.ProjSIdeal.main_arg5)
          ∧ r.2.mem ((c.tc : Thread Cert.ProjSIdeal.nD Cert.ProjSIdeal.τ).loc Cert.ProjSIdeal.main_arg6) = m ((c.tc : Thread Cert.ProjSIdeal.nD Cert.ProjSIdeal.τ).loc Cert.ProjSIdeal.main_arg6)
          ∧ r.2.mem ((c.tc : Thread Cert.ProjSIdeal.nD Cert.ProjSIdeal.τ).loc Cert.ProjSIdeal.main_arg7) = m ((c.tc : Thread Cert.ProjSIdeal.nD Cert.ProjSIdeal.τ).loc Cert.ProjSIdeal.main_arg7))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v50) = v0 c
          ∧ r.2.mem ((c.tc : Thread Cert.ProjSRefIdeal.nD Cert.ProjSRefIdeal.τ).loc Cert.ProjSRefIdeal.main_v83) = v1 c
          ∧ r.2.mem ((c.tc : Thread Cert.ProjSRefIdeal.nD Cert.ProjSRefIdeal.τ).loc Cert.ProjSRefIdeal.main_v78) = v2 c
          ∧ r.2.mem ((c.tc : Thread Cert.ProjSRefIdeal.nD Cert.ProjSRefIdeal.τ).loc Cert.ProjSRefIdeal.main_v84) = v3 c
          ∧ r.2.mem ((c.tc : Thread Cert.ProjSRefIdeal.nD Cert.ProjSRefIdeal.τ).loc Cert.ProjSRefIdeal.main_v82) = v4 c
          ∧ r.2.mem ((c.tc : Thread Cert.ProjSRefIdeal.nD Cert.ProjSRefIdeal.τ).loc Cert.ProjSRefIdeal.main_v97) = v5 c
          ∧ r.2.mem ((c.tc : Thread Cert.ProjSRefIdeal.nD Cert.ProjSRefIdeal.τ).loc Cert.ProjSRefIdeal.main_v98) = v6 c
          ∧ r.2.mem ((c.tc : Thread Cert.ProjSRefIdeal.nD Cert.ProjSRefIdeal.τ).loc Cert.ProjSRefIdeal.main_v99) = v7 c
          ∧ r.2.mem ((c.tc : Thread Cert.ProjSRefIdeal.nD Cert.ProjSRefIdeal.τ).loc Cert.ProjSRefIdeal.main_v100) = v8 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2)
          ∧ r.2.mem ((c.tc : Thread Cert.ProjSRefIdeal.nD Cert.ProjSRefIdeal.τ).loc Cert.ProjSRefIdeal.main_arg3) = m' ((c.tc : Thread Cert.ProjSRefIdeal.nD Cert.ProjSRefIdeal.τ).loc Cert.ProjSRefIdeal.main_arg3)
          ∧ r.2.mem ((c.tc : Thread Cert.ProjSRefIdeal.nD Cert.ProjSRefIdeal.τ).loc Cert.ProjSRefIdeal.main_arg4) = m' ((c.tc : Thread Cert.ProjSRefIdeal.nD Cert.ProjSRefIdeal.τ).loc Cert.ProjSRefIdeal.main_arg4)
          ∧ r.2.mem ((c.tc : Thread Cert.ProjSRefIdeal.nD Cert.ProjSRefIdeal.τ).loc Cert.ProjSRefIdeal.main_arg5) = m' ((c.tc : Thread Cert.ProjSRefIdeal.nD Cert.ProjSRefIdeal.τ).loc Cert.ProjSRefIdeal.main_arg5)
          ∧ r.2.mem ((c.tc : Thread Cert.ProjSRefIdeal.nD Cert.ProjSRefIdeal.τ).loc Cert.ProjSRefIdeal.main_arg6) = m' ((c.tc : Thread Cert.ProjSRefIdeal.nD Cert.ProjSRefIdeal.τ).loc Cert.ProjSRefIdeal.main_arg6)
          ∧ r.2.mem ((c.tc : Thread Cert.ProjSRefIdeal.nD Cert.ProjSRefIdeal.τ).loc Cert.ProjSRefIdeal.main_arg7) = m' ((c.tc : Thread Cert.ProjSRefIdeal.nD Cert.ProjSRefIdeal.τ).loc Cert.ProjSRefIdeal.main_arg7))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v8_0)) (v1 : (c : Dev Cert.MergeIdeal.nD) → Buf (Elt Ideal) ((c.tc : Thread Cert.MergeIdeal.nD Cert.MergeIdeal.τ).loc Cert.MergeIdeal.main_v8_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8_0) = v0 c
          ∧ r.2.mem ((c.tc : Thread Cert.MergeIdeal.nD Cert.MergeIdeal.τ).loc Cert.MergeIdeal.main_v8_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v26) = v0 c
          ∧ r.2.mem ((c.tc : Thread Cert.MergeRefIdeal.nD Cert.MergeRefIdeal.τ).loc Cert.MergeRefIdeal.main_v29) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_MergeS_MergeSIdeal : Prop :=
  True

def algebraic_MergeSIdeal_MergeSRefIdeal [hMergeSIdeal : Cert.MergeSIdeal.Facts] [hMergeSRefIdeal : Cert.MergeSRefIdeal.Facts] : Prop :=
  ∀ (m : (ℓ : Loc Cert.MergeSIdeal.nD Cert.MergeSIdeal.τ Cert.MergeSIdeal.sig) → Buf (Elt Ideal) ℓ) (g : Dev Cert.MergeSIdeal.nD → PrngReg)
    (m' : (ℓ : Loc Cert.MergeSRefIdeal.nD Cert.MergeSRefIdeal.τ Cert.MergeSRefIdeal.sig) → Buf (Elt Ideal) ℓ) (g' : Dev Cert.MergeSRefIdeal.nD → PrngReg), Pre_MergeSIdeal m →
    (∀ c : Dev Cert.MergeSIdeal.nD,
      m' ((c.tc : Thread Cert.MergeSRefIdeal.nD Cert.MergeSRefIdeal.τ).loc Cert.MergeSRefIdeal.main_arg0) = m ((c.tc : Thread Cert.MergeSIdeal.nD Cert.MergeSIdeal.τ).loc Cert.MergeSIdeal.main_arg0)
      ∧ m' ((c.tc : Thread Cert.MergeSRefIdeal.nD Cert.MergeSRefIdeal.τ).loc Cert.MergeSRefIdeal.main_arg1) = m ((c.tc : Thread Cert.MergeSIdeal.nD Cert.MergeSIdeal.τ).loc Cert.MergeSIdeal.main_arg1)
      ∧ m' ((c.tc : Thread Cert.MergeSRefIdeal.nD Cert.MergeSRefIdeal.τ).loc Cert.MergeSRefIdeal.main_arg2) = m ((c.tc : Thread Cert.MergeSIdeal.nD Cert.MergeSIdeal.τ).loc Cert.MergeSIdeal.main_arg2)
      ∧ m' ((c.tc : Thread Cert.MergeSRefIdeal.nD Cert.MergeSRefIdeal.τ).loc Cert.MergeSRefIdeal.main_arg3) = m ((c.tc : Thread Cert.MergeSIdeal.nD Cert.MergeSIdeal.τ).loc Cert.MergeSIdeal.main_arg3)
      ∧ m' ((c.tc : Thread Cert.MergeSRefIdeal.nD Cert.MergeSRefIdeal.τ).loc Cert.MergeSRefIdeal.main_arg4) = m ((c.tc : Thread Cert.MergeSIdeal.nD Cert.MergeSIdeal.τ).loc Cert.MergeSIdeal.main_arg4)
      ∧ m' ((c.tc : Thread Cert.MergeSRefIdeal.nD Cert.MergeSRefIdeal.τ).loc Cert.MergeSRefIdeal.main_arg5) = m ((c.tc : Thread Cert.MergeSIdeal.nD Cert.MergeSIdeal.τ).loc Cert.MergeSIdeal.main_arg5)
      ∧ m' ((c.tc : Thread Cert.MergeSRefIdeal.nD Cert.MergeSRefIdeal.τ).loc Cert.MergeSRefIdeal.main_arg6) = m ((c.tc : Thread Cert.MergeSIdeal.nD Cert.MergeSIdeal.τ).loc Cert.MergeSIdeal.main_arg6)
      ∧ m' ((c.tc : Thread Cert.MergeSRefIdeal.nD Cert.MergeSRefIdeal.τ).loc Cert.MergeSRefIdeal.main_arg7) = m ((c.tc : Thread Cert.MergeSIdeal.nD Cert.MergeSIdeal.τ).loc Cert.MergeSIdeal.main_arg7)) →
    ∃ (v0 : (c : Dev Cert.MergeSIdeal.nD) → Buf (Elt Ideal) ((c.tc : Thread Cert.MergeSIdeal.nD Cert.MergeSIdeal.τ).loc Cert.MergeSIdeal.main_v8_0)) (v1 : (c : Dev Cert.MergeSIdeal.nD) → Buf (Elt Ideal) ((c.tc : Thread Cert.MergeSIdeal.nD Cert.MergeSIdeal.τ).loc Cert.MergeSIdeal.main_v8_1)),
      θ_run (Cert.MergeSIdeal.defs (F := Ideal)) (onTc (τ := Cert.MergeSIdeal.τ) (Cert.MergeSIdeal.main (F := Ideal))) ⟨m, fun _ => 0, g⟩ (fun r => ∀ c : Dev Cert.MergeSIdeal.nD,
          r.2.mem ((c.tc : Thread Cert.MergeSIdeal.nD Cert.MergeSIdeal.τ).loc Cert.MergeSIdeal.main_v8_0) = v0 c
          ∧ r.2.mem ((c.tc : Thread Cert.MergeSIdeal.nD Cert.MergeSIdeal.τ).loc Cert.MergeSIdeal.main_v8_1) = v1 c
          ∧ r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
          ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
          ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
          ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
          ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4)
          ∧ r.2.mem ((c.tc : Thread Cert.MergeSIdeal.nD Cert.MergeSIdeal.τ).loc Cert.MergeSIdeal.main_arg5) = m ((c.tc : Thread Cert.MergeSIdeal.nD Cert.MergeSIdeal.τ).loc Cert.MergeSIdeal.main_arg5)
          ∧ r.2.mem ((c.tc : Thread Cert.MergeSIdeal.nD Cert.MergeSIdeal.τ).loc Cert.MergeSIdeal.main_arg6) = m ((c.tc : Thread Cert.MergeSIdeal.nD Cert.MergeSIdeal.τ).loc Cert.MergeSIdeal.main_arg6)
          ∧ r.2.mem ((c.tc : Thread Cert.MergeSIdeal.nD Cert.MergeSIdeal.τ).loc Cert.MergeSIdeal.main_arg7) = m ((c.tc : Thread Cert.MergeSIdeal.nD Cert.MergeSIdeal.τ).loc Cert.MergeSIdeal.main_arg7))
      ∧ θ_run (Cert.MergeSRefIdeal.defs (F := Ideal)) (onTc (τ := Cert.MergeSRefIdeal.τ) (Cert.MergeSRefIdeal.main (F := Ideal))) ⟨m', fun _ => 0, g'⟩ (fun r => ∀ c : Dev Cert.MergeSRefIdeal.nD,
          r.2.mem ((c.tc : Thread Cert.MergeSRefIdeal.nD Cert.MergeSRefIdeal.τ).loc Cert.MergeSRefIdeal.main_v26) = v0 c
          ∧ r.2.mem ((c.tc : Thread Cert.MergeSRefIdeal.nD Cert.MergeSRefIdeal.τ).loc Cert.MergeSRefIdeal.main_v29) = v1 c
          ∧ r.2.mem ((c.tc : Thread Cert.MergeSRefIdeal.nD Cert.MergeSRefIdeal.τ).loc Cert.MergeSRefIdeal.main_arg0) = m' ((c.tc : Thread Cert.MergeSRefIdeal.nD Cert.MergeSRefIdeal.τ).loc Cert.MergeSRefIdeal.main_arg0)
          ∧ r.2.mem ((c.tc : Thread Cert.MergeSRefIdeal.nD Cert.MergeSRefIdeal.τ).loc Cert.MergeSRefIdeal.main_arg1) = m' ((c.tc : Thread Cert.MergeSRefIdeal.nD Cert.MergeSRefIdeal.τ).loc Cert.MergeSRefIdeal.main_arg1)
          ∧ r.2.mem ((c.tc : Thread Cert.MergeSRefIdeal.nD Cert.MergeSRefIdeal.τ).loc Cert.MergeSRefIdeal.main_arg2) = m' ((c.tc : Thread Cert.MergeSRefIdeal.nD Cert.MergeSRefIdeal.τ).loc Cert.MergeSRefIdeal.main_arg2)
          ∧ r.2.mem ((c.tc : Thread Cert.MergeSRefIdeal.nD Cert.MergeSRefIdeal.τ).loc Cert.MergeSRefIdeal.main_arg3) = m' ((c.tc : Thread Cert.MergeSRefIdeal.nD Cert.MergeSRefIdeal.τ).loc Cert.MergeSRefIdeal.main_arg3)
          ∧ r.2.mem ((c.tc : Thread Cert.MergeSRefIdeal.nD Cert.MergeSRefIdeal.τ).loc Cert.MergeSRefIdeal.main_arg4) = m' ((c.tc : Thread Cert.MergeSRefIdeal.nD Cert.MergeSRefIdeal.τ).loc Cert.MergeSRefIdeal.main_arg4)
          ∧ r.2.mem ((c.tc : Thread Cert.MergeSRefIdeal.nD Cert.MergeSRefIdeal.τ).loc Cert.MergeSRefIdeal.main_arg5) = m' ((c.tc : Thread Cert.MergeSRefIdeal.nD Cert.MergeSRefIdeal.τ).loc Cert.MergeSRefIdeal.main_arg5)
          ∧ r.2.mem ((c.tc : Thread Cert.MergeSRefIdeal.nD Cert.MergeSRefIdeal.τ).loc Cert.MergeSRefIdeal.main_arg6) = m' ((c.tc : Thread Cert.MergeSRefIdeal.nD Cert.MergeSRefIdeal.τ).loc Cert.MergeSRefIdeal.main_arg6)
          ∧ r.2.mem ((c.tc : Thread Cert.MergeSRefIdeal.nD Cert.MergeSRefIdeal.τ).loc Cert.MergeSRefIdeal.main_arg7) = m' ((c.tc : Thread Cert.MergeSRefIdeal.nD Cert.MergeSRefIdeal.τ).loc Cert.MergeSRefIdeal.main_arg7))

def preserves_Band_BandIdeal : Prop :=
  IdealRules.named_const.Statement Cert.BandIdeal.κ "mask" .f32 0xF149F2CA#32 ⊥

def algebraic_BandIdeal_BandRefIdeal_pre_finite_band [hBandIdeal : Cert.BandIdeal.Facts] [hBandRefIdeal : Cert.BandRefIdeal.Facts] [hPre_finite_band : Cert.Pre_finite_band.Facts] : Prop :=
  ∀ (m : (ℓ : Loc Cert.BandIdeal.nD Cert.BandIdeal.τ Cert.BandIdeal.sig) → Buf (Elt Ideal) ℓ) (g : Dev Cert.BandIdeal.nD → PrngReg)
    (m' : (ℓ : Loc Cert.BandRefIdeal.nD Cert.BandRefIdeal.τ Cert.BandRefIdeal.sig) → Buf (Elt Ideal) ℓ) (g' : Dev Cert.BandRefIdeal.nD → PrngReg), Pre_BandIdeal_finite_band m →
    (∀ c : Dev Cert.BandIdeal.nD,
      m' ((c.tc : Thread Cert.BandRefIdeal.nD Cert.BandRefIdeal.τ).loc Cert.BandRefIdeal.main_arg0) = m ((c.tc : Thread Cert.BandIdeal.nD Cert.BandIdeal.τ).loc Cert.BandIdeal.main_arg0)
      ∧ m' ((c.tc : Thread Cert.BandRefIdeal.nD Cert.BandRefIdeal.τ).loc Cert.BandRefIdeal.main_arg1) = m ((c.tc : Thread Cert.BandIdeal.nD Cert.BandIdeal.τ).loc Cert.BandIdeal.main_arg1)
      ∧ m' ((c.tc : Thread Cert.BandRefIdeal.nD Cert.BandRefIdeal.τ).loc Cert.BandRefIdeal.main_arg2) = m ((c.tc : Thread Cert.BandIdeal.nD Cert.BandIdeal.τ).loc Cert.BandIdeal.main_arg2)
      ∧ m' ((c.tc : Thread Cert.BandRefIdeal.nD Cert.BandRefIdeal.τ).loc Cert.BandRefIdeal.main_arg3) = m ((c.tc : Thread Cert.BandIdeal.nD Cert.BandIdeal.τ).loc Cert.BandIdeal.main_arg3)) →
    ∃ (v0 : (c : Dev Cert.BandIdeal.nD) → Buf (Elt Ideal) ((c.tc : Thread Cert.BandIdeal.nD Cert.BandIdeal.τ).loc Cert.BandIdeal.main_v3)),
      θ_run (Cert.BandIdeal.defs (F := Ideal)) (onTc (τ := Cert.BandIdeal.τ) (Cert.BandIdeal.main (F := Ideal))) ⟨m, fun _ => 0, g⟩ (fun r => ∀ c : Dev Cert.BandIdeal.nD,
          r.2.mem ((c.tc : Thread Cert.BandIdeal.nD Cert.BandIdeal.τ).loc Cert.BandIdeal.main_v3) = v0 c
          ∧ r.2.mem ((c.tc : Thread Cert.BandIdeal.nD Cert.BandIdeal.τ).loc Cert.BandIdeal.main_arg0) = m ((c.tc : Thread Cert.BandIdeal.nD Cert.BandIdeal.τ).loc Cert.BandIdeal.main_arg0)
          ∧ r.2.mem ((c.tc : Thread Cert.BandIdeal.nD Cert.BandIdeal.τ).loc Cert.BandIdeal.main_arg1) = m ((c.tc : Thread Cert.BandIdeal.nD Cert.BandIdeal.τ).loc Cert.BandIdeal.main_arg1)
          ∧ r.2.mem ((c.tc : Thread Cert.BandIdeal.nD Cert.BandIdeal.τ).loc Cert.BandIdeal.main_arg2) = m ((c.tc : Thread Cert.BandIdeal.nD Cert.BandIdeal.τ).loc Cert.BandIdeal.main_arg2)
          ∧ r.2.mem ((c.tc : Thread Cert.BandIdeal.nD Cert.BandIdeal.τ).loc Cert.BandIdeal.main_arg3) = m ((c.tc : Thread Cert.BandIdeal.nD Cert.BandIdeal.τ).loc Cert.BandIdeal.main_arg3))
      ∧ θ_run (Cert.BandRefIdeal.defs (F := Ideal)) (onTc (τ := Cert.BandRefIdeal.τ) (Cert.BandRefIdeal.main (F := Ideal))) ⟨m', fun _ => 0, g'⟩ (fun r => ∀ c : Dev Cert.BandRefIdeal.nD,
          r.2.mem ((c.tc : Thread Cert.BandRefIdeal.nD Cert.BandRefIdeal.τ).loc Cert.BandRefIdeal.main_v59) = v0 c
          ∧ r.2.mem ((c.tc : Thread Cert.BandRefIdeal.nD Cert.BandRefIdeal.τ).loc Cert.BandRefIdeal.main_arg0) = m' ((c.tc : Thread Cert.BandRefIdeal.nD Cert.BandRefIdeal.τ).loc Cert.BandRefIdeal.main_arg0)
          ∧ r.2.mem ((c.tc : Thread Cert.BandRefIdeal.nD Cert.BandRefIdeal.τ).loc Cert.BandRefIdeal.main_arg1) = m' ((c.tc : Thread Cert.BandRefIdeal.nD Cert.BandRefIdeal.τ).loc Cert.BandRefIdeal.main_arg1)
          ∧ r.2.mem ((c.tc : Thread Cert.BandRefIdeal.nD Cert.BandRefIdeal.τ).loc Cert.BandRefIdeal.main_arg2) = m' ((c.tc : Thread Cert.BandRefIdeal.nD Cert.BandRefIdeal.τ).loc Cert.BandRefIdeal.main_arg2)
          ∧ r.2.mem ((c.tc : Thread Cert.BandRefIdeal.nD Cert.BandRefIdeal.τ).loc Cert.BandRefIdeal.main_arg3) = m' ((c.tc : Thread Cert.BandRefIdeal.nD Cert.BandRefIdeal.τ).loc Cert.BandRefIdeal.main_arg3))

def preserves_BandS_BandSIdeal : Prop :=
  True

def algebraic_BandSIdeal_BandSRefIdeal_pre_finite_band_sample [hBandSIdeal : Cert.BandSIdeal.Facts] [hBandSRefIdeal : Cert.BandSRefIdeal.Facts] [hPre_finite_band_sample : Cert.Pre_finite_band_sample.Facts] : Prop :=
  ∀ (m : (ℓ : Loc Cert.BandSIdeal.nD Cert.BandSIdeal.τ Cert.BandSIdeal.sig) → Buf (Elt Ideal) ℓ) (g : Dev Cert.BandSIdeal.nD → PrngReg)
    (m' : (ℓ : Loc Cert.BandSRefIdeal.nD Cert.BandSRefIdeal.τ Cert.BandSRefIdeal.sig) → Buf (Elt Ideal) ℓ) (g' : Dev Cert.BandSRefIdeal.nD → PrngReg), Pre_BandSIdeal_finite_band_sample m →
    (∀ c : Dev Cert.BandSIdeal.nD,
      m' ((c.tc : Thread Cert.BandSRefIdeal.nD Cert.BandSRefIdeal.τ).loc Cert.BandSRefIdeal.main_arg0) = m ((c.tc : Thread Cert.BandSIdeal.nD Cert.BandSIdeal.τ).loc Cert.BandSIdeal.main_arg0)
      ∧ m' ((c.tc : Thread Cert.BandSRefIdeal.nD Cert.BandSRefIdeal.τ).loc Cert.BandSRefIdeal.main_arg1) = m ((c.tc : Thread Cert.BandSIdeal.nD Cert.BandSIdeal.τ).loc Cert.BandSIdeal.main_arg1)
      ∧ m' ((c.tc : Thread Cert.BandSRefIdeal.nD Cert.BandSRefIdeal.τ).loc Cert.BandSRefIdeal.main_arg2) = m ((c.tc : Thread Cert.BandSIdeal.nD Cert.BandSIdeal.τ).loc Cert.BandSIdeal.main_arg2)
      ∧ m' ((c.tc : Thread Cert.BandSRefIdeal.nD Cert.BandSRefIdeal.τ).loc Cert.BandSRefIdeal.main_arg3) = m ((c.tc : Thread Cert.BandSIdeal.nD Cert.BandSIdeal.τ).loc Cert.BandSIdeal.main_arg3)
      ∧ m' ((c.tc : Thread Cert.BandSRefIdeal.nD Cert.BandSRefIdeal.τ).loc Cert.BandSRefIdeal.main_arg4) = m ((c.tc : Thread Cert.BandSIdeal.nD Cert.BandSIdeal.τ).loc Cert.BandSIdeal.main_arg4)
      ∧ m' ((c.tc : Thread Cert.BandSRefIdeal.nD Cert.BandSRefIdeal.τ).loc Cert.BandSRefIdeal.main_arg5) = m ((c.tc : Thread Cert.BandSIdeal.nD Cert.BandSIdeal.τ).loc Cert.BandSIdeal.main_arg5)) →
    ∃ (v0 : (c : Dev Cert.BandSIdeal.nD) → Buf (Elt Ideal) ((c.tc : Thread Cert.BandSIdeal.nD Cert.BandSIdeal.τ).loc Cert.BandSIdeal.main_v5)),
      θ_run (Cert.BandSIdeal.defs (F := Ideal)) (onTc (τ := Cert.BandSIdeal.τ) (Cert.BandSIdeal.main (F := Ideal))) ⟨m, fun _ => 0, g⟩ (fun r => ∀ c : Dev Cert.BandSIdeal.nD,
          r.2.mem ((c.tc : Thread Cert.BandSIdeal.nD Cert.BandSIdeal.τ).loc Cert.BandSIdeal.main_v5) = v0 c
          ∧ r.2.mem ((c.tc : Thread Cert.BandSIdeal.nD Cert.BandSIdeal.τ).loc Cert.BandSIdeal.main_arg0) = m ((c.tc : Thread Cert.BandSIdeal.nD Cert.BandSIdeal.τ).loc Cert.BandSIdeal.main_arg0)
          ∧ r.2.mem ((c.tc : Thread Cert.BandSIdeal.nD Cert.BandSIdeal.τ).loc Cert.BandSIdeal.main_arg1) = m ((c.tc : Thread Cert.BandSIdeal.nD Cert.BandSIdeal.τ).loc Cert.BandSIdeal.main_arg1)
          ∧ r.2.mem ((c.tc : Thread Cert.BandSIdeal.nD Cert.BandSIdeal.τ).loc Cert.BandSIdeal.main_arg2) = m ((c.tc : Thread Cert.BandSIdeal.nD Cert.BandSIdeal.τ).loc Cert.BandSIdeal.main_arg2)
          ∧ r.2.mem ((c.tc : Thread Cert.BandSIdeal.nD Cert.BandSIdeal.τ).loc Cert.BandSIdeal.main_arg3) = m ((c.tc : Thread Cert.BandSIdeal.nD Cert.BandSIdeal.τ).loc Cert.BandSIdeal.main_arg3)
          ∧ r.2.mem ((c.tc : Thread Cert.BandSIdeal.nD Cert.BandSIdeal.τ).loc Cert.BandSIdeal.main_arg4) = m ((c.tc : Thread Cert.BandSIdeal.nD Cert.BandSIdeal.τ).loc Cert.BandSIdeal.main_arg4)
          ∧ r.2.mem ((c.tc : Thread Cert.BandSIdeal.nD Cert.BandSIdeal.τ).loc Cert.BandSIdeal.main_arg5) = m ((c.tc : Thread Cert.BandSIdeal.nD Cert.BandSIdeal.τ).loc Cert.BandSIdeal.main_arg5))
      ∧ θ_run (Cert.BandSRefIdeal.defs (F := Ideal)) (onTc (τ := Cert.BandSRefIdeal.τ) (Cert.BandSRefIdeal.main (F := Ideal))) ⟨m', fun _ => 0, g'⟩ (fun r => ∀ c : Dev Cert.BandSRefIdeal.nD,
          r.2.mem ((c.tc : Thread Cert.BandSRefIdeal.nD Cert.BandSRefIdeal.τ).loc Cert.BandSRefIdeal.main_v28) = v0 c
          ∧ r.2.mem ((c.tc : Thread Cert.BandSRefIdeal.nD Cert.BandSRefIdeal.τ).loc Cert.BandSRefIdeal.main_arg0) = m' ((c.tc : Thread Cert.BandSRefIdeal.nD Cert.BandSRefIdeal.τ).loc Cert.BandSRefIdeal.main_arg0)
          ∧ r.2.mem ((c.tc : Thread Cert.BandSRefIdeal.nD Cert.BandSRefIdeal.τ).loc Cert.BandSRefIdeal.main_arg1) = m' ((c.tc : Thread Cert.BandSRefIdeal.nD Cert.BandSRefIdeal.τ).loc Cert.BandSRefIdeal.main_arg1)
          ∧ r.2.mem ((c.tc : Thread Cert.BandSRefIdeal.nD Cert.BandSRefIdeal.τ).loc Cert.BandSRefIdeal.main_arg2) = m' ((c.tc : Thread Cert.BandSRefIdeal.nD Cert.BandSRefIdeal.τ).loc Cert.BandSRefIdeal.main_arg2)
          ∧ r.2.mem ((c.tc : Thread Cert.BandSRefIdeal.nD Cert.BandSRefIdeal.τ).loc Cert.BandSRefIdeal.main_arg3) = m' ((c.tc : Thread Cert.BandSRefIdeal.nD Cert.BandSRefIdeal.τ).loc Cert.BandSRefIdeal.main_arg3)
          ∧ r.2.mem ((c.tc : Thread Cert.BandSRefIdeal.nD Cert.BandSRefIdeal.τ).loc Cert.BandSRefIdeal.main_arg4) = m' ((c.tc : Thread Cert.BandSRefIdeal.nD Cert.BandSRefIdeal.τ).loc Cert.BandSRefIdeal.main_arg4)
          ∧ r.2.mem ((c.tc : Thread Cert.BandSRefIdeal.nD Cert.BandSRefIdeal.τ).loc Cert.BandSRefIdeal.main_arg5) = m' ((c.tc : Thread Cert.BandSRefIdeal.nD Cert.BandSRefIdeal.τ).loc Cert.BandSRefIdeal.main_arg5))

def preserves_FoxS_FoxSIdeal : Prop :=
  IdealRules.named_const.Statement Cert.FoxSIdeal.κ "mask" .f32 0xF149F2CA#32 ⊥

def algebraic_FoxSIdeal_FoxSRefIdeal_pre_finite_fox_sample [hFoxSIdeal : Cert.FoxSIdeal.Facts] [hFoxSRefIdeal : Cert.FoxSRefIdeal.Facts] [hPre_finite_fox_sample : Cert.Pre_finite_fox_sample.Facts] : Prop :=
  ∀ (m : (ℓ : Loc Cert.FoxSIdeal.nD Cert.FoxSIdeal.τ Cert.FoxSIdeal.sig) → Buf (Elt Ideal) ℓ) (g : Dev Cert.FoxSIdeal.nD → PrngReg)
    (m' : (ℓ : Loc Cert.FoxSRefIdeal.nD Cert.FoxSRefIdeal.τ Cert.FoxSRefIdeal.sig) → Buf (Elt Ideal) ℓ) (g' : Dev Cert.FoxSRefIdeal.nD → PrngReg), Pre_FoxSIdeal_finite_fox_sample m →
    (∀ c : Dev Cert.FoxSIdeal.nD,
      m' ((c.tc : Thread Cert.FoxSRefIdeal.nD Cert.FoxSRefIdeal.τ).loc Cert.FoxSRefIdeal.main_arg0) = m ((c.tc : Thread Cert.FoxSIdeal.nD Cert.FoxSIdeal.τ).loc Cert.FoxSIdeal.main_arg0)
      ∧ m' ((c.tc : Thread Cert.FoxSRefIdeal.nD Cert.FoxSRefIdeal.τ).loc Cert.FoxSRefIdeal.main_arg1) = m ((c.tc : Thread Cert.FoxSIdeal.nD Cert.FoxSIdeal.τ).loc Cert.FoxSIdeal.main_arg1)
      ∧ m' ((c.tc : Thread Cert.FoxSRefIdeal.nD Cert.FoxSRefIdeal.τ).loc Cert.FoxSRefIdeal.main_arg2) = m ((c.tc : Thread Cert.FoxSIdeal.nD Cert.FoxSIdeal.τ).loc Cert.FoxSIdeal.main_arg2)
      ∧ m' ((c.tc : Thread Cert.FoxSRefIdeal.nD Cert.FoxSRefIdeal.τ).loc Cert.FoxSRefIdeal.main_arg3) = m ((c.tc : Thread Cert.FoxSIdeal.nD Cert.FoxSIdeal.τ).loc Cert.FoxSIdeal.main_arg3)
      ∧ m' ((c.tc : Thread Cert.FoxSRefIdeal.nD Cert.FoxSRefIdeal.τ).loc Cert.FoxSRefIdeal.main_arg4) = m ((c.tc : Thread Cert.FoxSIdeal.nD Cert.FoxSIdeal.τ).loc Cert.FoxSIdeal.main_arg4)
      ∧ m' ((c.tc : Thread Cert.FoxSRefIdeal.nD Cert.FoxSRefIdeal.τ).loc Cert.FoxSRefIdeal.main_arg5) = m ((c.tc : Thread Cert.FoxSIdeal.nD Cert.FoxSIdeal.τ).loc Cert.FoxSIdeal.main_arg5)) →
    ∃ (v0 : (c : Dev Cert.FoxSIdeal.nD) → Buf (Elt Ideal) ((c.tc : Thread Cert.FoxSIdeal.nD Cert.FoxSIdeal.τ).loc Cert.FoxSIdeal.main_v7)),
      θ_run (Cert.FoxSIdeal.defs (F := Ideal)) (onTc (τ := Cert.FoxSIdeal.τ) (Cert.FoxSIdeal.main (F := Ideal))) ⟨m, fun _ => 0, g⟩ (fun r => ∀ c : Dev Cert.FoxSIdeal.nD,
          r.2.mem ((c.tc : Thread Cert.FoxSIdeal.nD Cert.FoxSIdeal.τ).loc Cert.FoxSIdeal.main_v7) = v0 c
          ∧ r.2.mem ((c.tc : Thread Cert.FoxSIdeal.nD Cert.FoxSIdeal.τ).loc Cert.FoxSIdeal.main_arg0) = m ((c.tc : Thread Cert.FoxSIdeal.nD Cert.FoxSIdeal.τ).loc Cert.FoxSIdeal.main_arg0)
          ∧ r.2.mem ((c.tc : Thread Cert.FoxSIdeal.nD Cert.FoxSIdeal.τ).loc Cert.FoxSIdeal.main_arg1) = m ((c.tc : Thread Cert.FoxSIdeal.nD Cert.FoxSIdeal.τ).loc Cert.FoxSIdeal.main_arg1)
          ∧ r.2.mem ((c.tc : Thread Cert.FoxSIdeal.nD Cert.FoxSIdeal.τ).loc Cert.FoxSIdeal.main_arg2) = m ((c.tc : Thread Cert.FoxSIdeal.nD Cert.FoxSIdeal.τ).loc Cert.FoxSIdeal.main_arg2)
          ∧ r.2.mem ((c.tc : Thread Cert.FoxSIdeal.nD Cert.FoxSIdeal.τ).loc Cert.FoxSIdeal.main_arg3) = m ((c.tc : Thread Cert.FoxSIdeal.nD Cert.FoxSIdeal.τ).loc Cert.FoxSIdeal.main_arg3)
          ∧ r.2.mem ((c.tc : Thread Cert.FoxSIdeal.nD Cert.FoxSIdeal.τ).loc Cert.FoxSIdeal.main_arg4) = m ((c.tc : Thread Cert.FoxSIdeal.nD Cert.FoxSIdeal.τ).loc Cert.FoxSIdeal.main_arg4)
          ∧ r.2.mem ((c.tc : Thread Cert.FoxSIdeal.nD Cert.FoxSIdeal.τ).loc Cert.FoxSIdeal.main_arg5) = m ((c.tc : Thread Cert.FoxSIdeal.nD Cert.FoxSIdeal.τ).loc Cert.FoxSIdeal.main_arg5))
      ∧ θ_run (Cert.FoxSRefIdeal.defs (F := Ideal)) (onTc (τ := Cert.FoxSRefIdeal.τ) (Cert.FoxSRefIdeal.main (F := Ideal))) ⟨m', fun _ => 0, g'⟩ (fun r => ∀ c : Dev Cert.FoxSRefIdeal.nD,
          r.2.mem ((c.tc : Thread Cert.FoxSRefIdeal.nD Cert.FoxSRefIdeal.τ).loc Cert.FoxSRefIdeal.main_v47) = v0 c
          ∧ r.2.mem ((c.tc : Thread Cert.FoxSRefIdeal.nD Cert.FoxSRefIdeal.τ).loc Cert.FoxSRefIdeal.main_arg0) = m' ((c.tc : Thread Cert.FoxSRefIdeal.nD Cert.FoxSRefIdeal.τ).loc Cert.FoxSRefIdeal.main_arg0)
          ∧ r.2.mem ((c.tc : Thread Cert.FoxSRefIdeal.nD Cert.FoxSRefIdeal.τ).loc Cert.FoxSRefIdeal.main_arg1) = m' ((c.tc : Thread Cert.FoxSRefIdeal.nD Cert.FoxSRefIdeal.τ).loc Cert.FoxSRefIdeal.main_arg1)
          ∧ r.2.mem ((c.tc : Thread Cert.FoxSRefIdeal.nD Cert.FoxSRefIdeal.τ).loc Cert.FoxSRefIdeal.main_arg2) = m' ((c.tc : Thread Cert.FoxSRefIdeal.nD Cert.FoxSRefIdeal.τ).loc Cert.FoxSRefIdeal.main_arg2)
          ∧ r.2.mem ((c.tc : Thread Cert.FoxSRefIdeal.nD Cert.FoxSRefIdeal.τ).loc Cert.FoxSRefIdeal.main_arg3) = m' ((c.tc : Thread Cert.FoxSRefIdeal.nD Cert.FoxSRefIdeal.τ).loc Cert.FoxSRefIdeal.main_arg3)
          ∧ r.2.mem ((c.tc : Thread Cert.FoxSRefIdeal.nD Cert.FoxSRefIdeal.τ).loc Cert.FoxSRefIdeal.main_arg4) = m' ((c.tc : Thread Cert.FoxSRefIdeal.nD Cert.FoxSRefIdeal.τ).loc Cert.FoxSRefIdeal.main_arg4)
          ∧ r.2.mem ((c.tc : Thread Cert.FoxSRefIdeal.nD Cert.FoxSRefIdeal.τ).loc Cert.FoxSRefIdeal.main_arg5) = m' ((c.tc : Thread Cert.FoxSRefIdeal.nD Cert.FoxSRefIdeal.τ).loc Cert.FoxSRefIdeal.main_arg5))

def Claim : Prop :=
  ∃ (hFox : Cert.Fox.Facts) (hFoxIdeal : Cert.FoxIdeal.Facts) (hFoxRefIdeal : Cert.FoxRefIdeal.Facts) (hProj : Cert.Proj.Facts) (hProjIdeal : Cert.ProjIdeal.Facts) (hProjRefIdeal : Cert.ProjRefIdeal.Facts) (hProjS : Cert.ProjS.Facts) (hProjSIdeal : Cert.ProjSIdeal.Facts) (hProjSRefIdeal : Cert.ProjSRefIdeal.Facts) (hMerge : Cert.Merge.Facts) (hMergeIdeal : Cert.MergeIdeal.Facts) (hMergeRefIdeal : Cert.MergeRefIdeal.Facts) (hMergeS : Cert.MergeS.Facts) (hMergeSIdeal : Cert.MergeSIdeal.Facts) (hMergeSRefIdeal : Cert.MergeSRefIdeal.Facts) (hBand : Cert.Band.Facts) (hBandIdeal : Cert.BandIdeal.Facts) (hBandRefIdeal : Cert.BandRefIdeal.Facts) (hBandS : Cert.BandS.Facts) (hBandSIdeal : Cert.BandSIdeal.Facts) (hBandSRefIdeal : Cert.BandSRefIdeal.Facts) (hFoxS : Cert.FoxS.Facts) (hFoxSIdeal : Cert.FoxSIdeal.Facts) (hFoxSRefIdeal : Cert.FoxSRefIdeal.Facts) (hPre_finite_logits : Cert.Pre_finite_logits.Facts) (hPre_finite_band : Cert.Pre_finite_band.Facts) (hPre_finite_band_sample : Cert.Pre_finite_band_sample.Facts) (hPre_finite_fox_sample : Cert.Pre_finite_fox_sample.Facts),
    quiescent_Fox (hFox := hFox)
    ∧ quiescent_FoxIdeal (hFoxIdeal := hFoxIdeal)
    ∧ quiescent_FoxIdeal_pre_finite_logits (hFoxIdeal := hFoxIdeal) (hPre_finite_logits := hPre_finite_logits)
    ∧ quiescent_FoxRefIdeal (hFoxRefIdeal := hFoxRefIdeal)
    ∧ quiescent_FoxRefIdeal_pre_finite_logits (hFoxRefIdeal := hFoxRefIdeal) (hPre_finite_logits := hPre_finite_logits)
    ∧ quiescent_Proj (hProj := hProj)
    ∧ quiescent_ProjIdeal (hProjIdeal := hProjIdeal)
    ∧ quiescent_ProjRefIdeal (hProjRefIdeal := hProjRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_Merge (hMerge := hMerge)
    ∧ quiescent_MergeIdeal (hMergeIdeal := hMergeIdeal)
    ∧ quiescent_MergeRefIdeal (hMergeRefIdeal := hMergeRefIdeal)
    ∧ quiescent_MergeS (hMergeS := hMergeS)
    ∧ quiescent_MergeSIdeal (hMergeSIdeal := hMergeSIdeal)
    ∧ quiescent_MergeSRefIdeal (hMergeSRefIdeal := hMergeSRefIdeal)
    ∧ quiescent_Band (hBand := hBand)
    ∧ quiescent_BandIdeal (hBandIdeal := hBandIdeal)
    ∧ quiescent_BandIdeal_pre_finite_band (hBandIdeal := hBandIdeal) (hPre_finite_band := hPre_finite_band)
    ∧ quiescent_BandRefIdeal (hBandRefIdeal := hBandRefIdeal)
    ∧ quiescent_BandRefIdeal_pre_finite_band (hBandRefIdeal := hBandRefIdeal) (hPre_finite_band := hPre_finite_band)
    ∧ quiescent_BandS (hBandS := hBandS)
    ∧ quiescent_BandSIdeal (hBandSIdeal := hBandSIdeal)
    ∧ quiescent_BandSIdeal_pre_finite_band_sample (hBandSIdeal := hBandSIdeal) (hPre_finite_band_sample := hPre_finite_band_sample)
    ∧ quiescent_BandSRefIdeal (hBandSRefIdeal := hBandSRefIdeal)
    ∧ quiescent_BandSRefIdeal_pre_finite_band_sample (hBandSRefIdeal := hBandSRefIdeal) (hPre_finite_band_sample := hPre_finite_band_sample)
    ∧ quiescent_FoxS (hFoxS := hFoxS)
    ∧ quiescent_FoxSIdeal (hFoxSIdeal := hFoxSIdeal)
    ∧ quiescent_FoxSIdeal_pre_finite_fox_sample (hFoxSIdeal := hFoxSIdeal) (hPre_finite_fox_sample := hPre_finite_fox_sample)
    ∧ quiescent_FoxSRefIdeal (hFoxSRefIdeal := hFoxSRefIdeal)
    ∧ quiescent_FoxSRefIdeal_pre_finite_fox_sample (hFoxSRefIdeal := hFoxSRefIdeal) (hPre_finite_fox_sample := hPre_finite_fox_sample)
    ∧ preserves_Fox_FoxIdeal
    ∧ algebraic_FoxIdeal_FoxRefIdeal_pre_finite_logits (hFoxIdeal := hFoxIdeal) (hFoxRefIdeal := hFoxRefIdeal) (hPre_finite_logits := hPre_finite_logits)
    ∧ preserves_Proj_ProjIdeal
    ∧ algebraic_ProjIdeal_ProjRefIdeal (hProjIdeal := hProjIdeal) (hProjRefIdeal := hProjRefIdeal)
    ∧ preserves_ProjS_ProjSIdeal
    ∧ algebraic_ProjSIdeal_ProjSRefIdeal (hProjSIdeal := hProjSIdeal) (hProjSRefIdeal := hProjSRefIdeal)
    ∧ preserves_Merge_MergeIdeal
    ∧ algebraic_MergeIdeal_MergeRefIdeal (hMergeIdeal := hMergeIdeal) (hMergeRefIdeal := hMergeRefIdeal)
    ∧ preserves_MergeS_MergeSIdeal
    ∧ algebraic_MergeSIdeal_MergeSRefIdeal (hMergeSIdeal := hMergeSIdeal) (hMergeSRefIdeal := hMergeSRefIdeal)
    ∧ preserves_Band_BandIdeal
    ∧ algebraic_BandIdeal_BandRefIdeal_pre_finite_band (hBandIdeal := hBandIdeal) (hBandRefIdeal := hBandRefIdeal) (hPre_finite_band := hPre_finite_band)
    ∧ preserves_BandS_BandSIdeal
    ∧ algebraic_BandSIdeal_BandSRefIdeal_pre_finite_band_sample (hBandSIdeal := hBandSIdeal) (hBandSRefIdeal := hBandSRefIdeal) (hPre_finite_band_sample := hPre_finite_band_sample)
    ∧ preserves_FoxS_FoxSIdeal
    ∧ algebraic_FoxSIdeal_FoxSRefIdeal_pre_finite_fox_sample (hFoxSIdeal := hFoxSIdeal) (hFoxSRefIdeal := hFoxSRefIdeal) (hPre_finite_fox_sample := hPre_finite_fox_sample)
-- ==== Pre_finite_band.lean ====
abbrev S4x2048x16x128 : Shape := ⟨4, ![4, 2048, 16, 128]⟩
abbrev S8x640x128 : Shape := ⟨3, ![8, 640, 128]⟩
abbrev S_ : Shape := ⟨0, ![]⟩
abbrev S1 : Shape := ⟨1, ![1]⟩

class Facts : Prop where
  bitsLt_bf16_f32 : FTy.bits .bf16 < FTy.bits .f32
  bcast_S_S4x2048x16x128 : S_.BroadcastsInDim S4x2048x16x128 (![] : Fin 0 → Fin S4x2048x16x128.rank)
  reducesTo_S4x2048x16x128_S_d0_1_2_3 : S4x2048x16x128.ReducesTo [0, 1, 2, 3] S_
  h_S_ : 0 < S_.numel
  bcast_S_S8x640x128 : S_.BroadcastsInDim S8x640x128 (![] : Fin 0 → Fin S8x640x128.rank)
  reducesTo_S8x640x128_S_d0_1_2 : S8x640x128.ReducesTo [0, 1, 2] S_
  bcast_S_S1 : S_.BroadcastsInDim S1 (![] : Fin 0 → Fin S1.rank)

variable [Facts]

def fn {F : FTy → Type} [FloatOps F] (main_arg0 : FVec F S4x2048x16x128 .bf16) (main_arg1 : FVec F S4x2048x16x128 .bf16) (main_arg2 : FVec F S4x2048x16x128 .bf16) (main_arg3 : FVec F S8x640x128 .f32) : IVec S1 1 :=
  let main_v0 : FVec F S4x2048x16x128 .f32 := (extf .f32 · bitsLt_bf16_f32) main_arg0
  let main_v1 : FVec F S4x2048x16x128 .f32 := Host.absf main_v0
  let main_cst : FVec F S_ .f32 := constant S_ .f32 0x7F800000#32
  let main_v2 : FVec F S4x2048x16x128 .f32 := broadcastInDim S4x2048x16x128 ![] bcast_S_S4x2048x16x128 main_cst
  let main_v3 : IVec S4x2048x16x128 1 := cmpf .olt main_v1 main_v2
  let main_c : IVec S_ 1 := constantI S_ 1 1#1
  let main_v4 : IVec S_ 1 := (fun x v => Host.reduce IntOp.andi x v reducesTo_S4x2048x16x128_S_d0_1_2_3 h_S_) main_v3 main_c
  let main_v5 : FVec F S4x2048x16x128 .f32 := (extf .f32 · bitsLt_bf16_f32) main_arg1
  let main_v6 : FVec F S4x2048x16x128 .f32 := Host.absf main_v5
  let main_cst_0 : FVec F S_ .f32 := constant S_ .f32 0x7F800000#32
  let main_v7 : FVec F S4x2048x16x128 .f32 := broadcastInDim S4x2048x16x128 ![] bcast_S_S4x2048x16x128 main_cst_0
  let main_v8 : IVec S4x2048x16x128 1 := cmpf .olt main_v6 main_v7
  let main_c_1 : IVec S_ 1 := constantI S_ 1 1#1
  let main_v9 : IVec S_ 1 := (fun x v => Host.reduce IntOp.andi x v reducesTo_S4x2048x16x128_S_d0_1_2_3 h_S_) main_v8 main_c_1
  let main_v10 : IVec S_ 1 := andi main_v4 main_v9
  let main_v11 : FVec F S8x640x128 .f32 := Host.absf main_arg3
  let main_cst_2 : FVec F S_ .f32 := constant S_ .f32 0x7F800000#32
  let main_v12 : FVec F S8x640x128 .f32 := broadcastInDim S8x640x128 ![] bcast_S_S8x640x128 main_cst_2
  let main_v13 : IVec S8x640x128 1 := cmpf .olt main_v11 main_v12
  let main_c_3 : IVec S_ 1 := constantI S_ 1 1#1
  let main_v14 : IVec S_ 1 := (fun x v => Host.reduce IntOp.andi x v reducesTo_S8x640x128_S_d0_1_2 h_S_) main_v13 main_c_3
  let main_v15 : IVec S_ 1 := andi main_v10 main_v14
  let main_v16 : IVec S1 1 := broadcastInDim S1 ![] bcast_S_S1 main_v15
  main_v16
-- ==== Pre_finite_band_sample.lean ====
abbrev S8x16x16x128 : Shape := ⟨4, ![8, 16, 16, 128]⟩
abbrev S8x512x8x128 : Shape := ⟨4, ![8, 512, 8, 128]⟩
abbrev S8x16x528 : Shape := ⟨3, ![8, 16, 528]⟩
abbrev S_ : Shape := ⟨0, ![]⟩
abbrev S1 : Shape := ⟨1, ![1]⟩

class Facts : Prop where
  bitsLt_bf16_f32 : FTy.bits .bf16 < FTy.bits .f32
  bcast_S_S8x16x16x128 : S_.BroadcastsInDim S8x16x16x128 (![] : Fin 0 → Fin S8x16x16x128.rank)
  reducesTo_S8x16x16x128_S_d0_1_2_3 : S8x16x16x128.ReducesTo [0, 1, 2, 3] S_
  h_S_ : 0 < S_.numel
  bcast_S_S8x512x8x128 : S_.BroadcastsInDim S8x512x8x128 (![] : Fin 0 → Fin S8x512x8x128.rank)
  reducesTo_S8x512x8x128_S_d0_1_2_3 : S8x512x8x128.ReducesTo [0, 1, 2, 3] S_
  bcast_S_S8x16x528 : S_.BroadcastsInDim S8x16x528 (![] : Fin 0 → Fin S8x16x528.rank)
  reducesTo_S8x16x528_S_d0_1_2 : S8x16x528.ReducesTo [0, 1, 2] S_
  bcast_S_S1 : S_.BroadcastsInDim S1 (![] : Fin 0 → Fin S1.rank)

variable [Facts]

def fn_part1 {F : FTy → Type} [FloatOps F] (main_v15 : IVec S_ 1) (main_v16 : FVec F S8x16x528 .f32) (main_cst_4 : FVec F S_ .f32) : IVec S1 1 :=
  let main_v17 : FVec F S8x16x528 .f32 := broadcastInDim S8x16x528 ![] bcast_S_S8x16x528 main_cst_4
  let main_v18 : IVec S8x16x528 1 := cmpf .olt main_v16 main_v17
  let main_c_5 : IVec S_ 1 := constantI S_ 1 1#1
  let main_v19 : IVec S_ 1 := (fun x v => Host.reduce IntOp.andi x v reducesTo_S8x16x528_S_d0_1_2 h_S_) main_v18 main_c_5
  let main_v20 : IVec S_ 1 := andi main_v15 main_v19
  let main_v21 : IVec S1 1 := broadcastInDim S1 ![] bcast_S_S1 main_v20
  main_v21

def fn {F : FTy → Type} [FloatOps F] (main_arg0 : FVec F S8x16x16x128 .bf16) (main_arg1 : FVec F S8x16x16x128 .bf16) (main_arg2 : FVec F S8x16x16x128 .bf16) (main_arg3 : FVec F S8x512x8x128 .f32) (main_arg4 : FVec F S8x512x8x128 .f32) (main_arg5 : FVec F S8x16x528 .f32) : IVec S1 1 :=
  let main_v0 : FVec F S8x16x16x128 .f32 := (extf .f32 · bitsLt_bf16_f32) main_arg0
  let main_v1 : FVec F S8x16x16x128 .f32 := Host.absf main_v0
  let main_cst : FVec F S_ .f32 := constant S_ .f32 0x7F800000#32
  let main_v2 : FVec F S8x16x16x128 .f32 := broadcastInDim S8x16x16x128 ![] bcast_S_S8x16x16x128 main_cst
  let main_v3 : IVec S8x16x16x128 1 := cmpf .olt main_v1 main_v2
  let main_c : IVec S_ 1 := constantI S_ 1 1#1
  let main_v4 : IVec S_ 1 := (fun x v => Host.reduce IntOp.andi x v reducesTo_S8x16x16x128_S_d0_1_2_3 h_S_) main_v3 main_c
  let main_v5 : FVec F S8x16x16x128 .f32 := (extf .f32 · bitsLt_bf16_f32) main_arg1
  let main_v6 : FVec F S8x16x16x128 .f32 := Host.absf main_v5
  let main_cst_0 : FVec F S_ .f32 := constant S_ .f32 0x7F800000#32
  let main_v7 : FVec F S8x16x16x128 .f32 := broadcastInDim S8x16x16x128 ![] bcast_S_S8x16x16x128 main_cst_0
  let main_v8 : IVec S8x16x16x128 1 := cmpf .olt main_v6 main_v7
  let main_c_1 : IVec S_ 1 := constantI S_ 1 1#1
  let main_v9 : IVec S_ 1 := (fun x v => Host.reduce IntOp.andi x v reducesTo_S8x16x16x128_S_d0_1_2_3 h_S_) main_v8 main_c_1
  let main_v10 : IVec S_ 1 := andi main_v4 main_v9
  let main_v11 : FVec F S8x512x8x128 .f32 := Host.absf main_arg3
  let main_cst_2 : FVec F S_ .f32 := constant S_ .f32 0x7F800000#32
  let main_v12 : FVec F S8x512x8x128 .f32 := broadcastInDim S8x512x8x128 ![] bcast_S_S8x512x8x128 main_cst_2
  let main_v13 : IVec S8x512x8x128 1 := cmpf .olt main_v11 main_v12
  let main_c_3 : IVec S_ 1 := constantI S_ 1 1#1
  let main_v14 : IVec S_ 1 := (fun x v => Host.reduce IntOp.andi x v reducesTo_S8x512x8x128_S_d0_1_2_3 h_S_) main_v13 main_c_3
  let main_v15 : IVec S_ 1 := andi main_v10 main_v14
  let main_v16 : FVec F S8x16x528 .f32 := Host.absf main_arg5
  let main_cst_4 : FVec F S_ .f32 := constant S_ .f32 0x7F800000#32
  fn_part1 (F := F) main_v15 main_v16 main_cst_4
-- ==== Pre_finite_fox_sample.lean ====
abbrev S8x16x16x128 : Shape := ⟨4, ![8, 16, 16, 128]⟩
abbrev S8x1024x8x128 : Shape := ⟨4, ![8, 1024, 8, 128]⟩
abbrev S8x8x1152 : Shape := ⟨3, ![8, 8, 1152]⟩
abbrev S_ : Shape := ⟨0, ![]⟩
abbrev S8x8x1040 : Shape := ⟨3, ![8, 8, 1040]⟩
abbrev S1 : Shape := ⟨1, ![1]⟩

class Facts : Prop where
  bitsLt_bf16_f32 : FTy.bits .bf16 < FTy.bits .f32
  bcast_S_S8x16x16x128 : S_.BroadcastsInDim S8x16x16x128 (![] : Fin 0 → Fin S8x16x16x128.rank)
  reducesTo_S8x16x16x128_S_d0_1_2_3 : S8x16x16x128.ReducesTo [0, 1, 2, 3] S_
  h_S_ : 0 < S_.numel
  bcast_S_S8x1024x8x128 : S_.BroadcastsInDim S8x1024x8x128 (![] : Fin 0 → Fin S8x1024x8x128.rank)
  reducesTo_S8x1024x8x128_S_d0_1_2_3 : S8x1024x8x128.ReducesTo [0, 1, 2, 3] S_
  slices_S8x8x1152_S8x8x1040_0_0_0 : S8x8x1152.Slices ![0, 0, 0] S8x8x1040
  bcast_S_S8x8x1040 : S_.BroadcastsInDim S8x8x1040 (![] : Fin 0 → Fin S8x8x1040.rank)
  reducesTo_S8x8x1040_S_d0_1_2 : S8x8x1040.ReducesTo [0, 1, 2] S_
  bcast_S_S1 : S_.BroadcastsInDim S1 (![] : Fin 0 → Fin S1.rank)

variable [Facts]

def fn_part1 {F : FTy → Type} [FloatOps F] (main_v15 : IVec S_ 1) (main_v17 : FVec F S8x8x1040 .f32) : IVec S1 1 :=
  let main_cst_4 : FVec F S_ .f32 := constant S_ .f32 0x7F800000#32
  let main_v18 : FVec F S8x8x1040 .f32 := broadcastInDim S8x8x1040 ![] bcast_S_S8x8x1040 main_cst_4
  let main_v19 : IVec S8x8x1040 1 := cmpf .olt main_v17 main_v18
  let main_c_5 : IVec S_ 1 := constantI S_ 1 1#1
  let main_v20 : IVec S_ 1 := (fun x v => Host.reduce IntOp.andi x v reducesTo_S8x8x1040_S_d0_1_2 h_S_) main_v19 main_c_5
  let main_v21 : IVec S_ 1 := andi main_v15 main_v20
  let main_v22 : IVec S1 1 := broadcastInDim S1 ![] bcast_S_S1 main_v21
  main_v22

def fn {F : FTy → Type} [FloatOps F] (main_arg0 : FVec F S8x16x16x128 .bf16) (main_arg1 : FVec F S8x16x16x128 .bf16) (main_arg2 : FVec F S8x16x16x128 .bf16) (main_arg3 : FVec F S8x1024x8x128 .f32) (main_arg4 : FVec F S8x1024x8x128 .f32) (main_arg5 : FVec F S8x8x1152 .f32) : IVec S1 1 :=
  let main_v0 : FVec F S8x16x16x128 .f32 := (extf .f32 · bitsLt_bf16_f32) main_arg0
  let main_v1 : FVec F S8x16x16x128 .f32 := Host.absf main_v0
  let main_cst : FVec F S_ .f32 := constant S_ .f32 0x7F800000#32
  let main_v2 : FVec F S8x16x16x128 .f32 := broadcastInDim S8x16x16x128 ![] bcast_S_S8x16x16x128 main_cst
  let main_v3 : IVec S8x16x16x128 1 := cmpf .olt main_v1 main_v2
  let main_c : IVec S_ 1 := constantI S_ 1 1#1
  let main_v4 : IVec S_ 1 := (fun x v => Host.reduce IntOp.andi x v reducesTo_S8x16x16x128_S_d0_1_2_3 h_S_) main_v3 main_c
  let main_v5 : FVec F S8x16x16x128 .f32 := (extf .f32 · bitsLt_bf16_f32) main_arg1
  let main_v6 : FVec F S8x16x16x128 .f32 := Host.absf main_v5
  let main_cst_0 : FVec F S_ .f32 := constant S_ .f32 0x7F800000#32
  let main_v7 : FVec F S8x16x16x128 .f32 := broadcastInDim S8x16x16x128 ![] bcast_S_S8x16x16x128 main_cst_0
  let main_v8 : IVec S8x16x16x128 1 := cmpf .olt main_v6 main_v7
  let main_c_1 : IVec S_ 1 := constantI S_ 1 1#1
  let main_v9 : IVec S_ 1 := (fun x v => Host.reduce IntOp.andi x v reducesTo_S8x16x16x128_S_d0_1_2_3 h_S_) main_v8 main_c_1
  let main_v10 : IVec S_ 1 := andi main_v4 main_v9
  let main_v11 : FVec F S8x1024x8x128 .f32 := Host.absf main_arg3
  let main_cst_2 : FVec F S_ .f32 := constant S_ .f32 0x7F800000#32
  let main_v12 : FVec F S8x1024x8x128 .f32 := broadcastInDim S8x1024x8x128 ![] bcast_S_S8x1024x8x128 main_cst_2
  let main_v13 : IVec S8x1024x8x128 1 := cmpf .olt main_v11 main_v12
  let main_c_3 : IVec S_ 1 := constantI S_ 1 1#1
  let main_v14 : IVec S_ 1 := (fun x v => Host.reduce IntOp.andi x v reducesTo_S8x1024x8x128_S_d0_1_2_3 h_S_) main_v13 main_c_3
  let main_v15 : IVec S_ 1 := andi main_v10 main_v14
  let main_v16 : FVec F S8x8x1040 .f32 := (extractStridedSlice S8x8x1040 ![0, 0, 0] · slices_S8x8x1152_S8x8x1040_0_0_0) main_arg5
  let main_v17 : FVec F S8x8x1040 .f32 := Host.absf main_v16
  fn_part1 (F := F) main_v15 main_v17
-- ==== Pre_finite_logits.lean ====
abbrev S4x2048x16x128 : Shape := ⟨4, ![4, 2048, 16, 128]⟩
abbrev S4x8x2048 : Shape := ⟨3, ![4, 8, 2048]⟩
abbrev S_ : Shape := ⟨0, ![]⟩
abbrev S1 : Shape := ⟨1, ![1]⟩

class Facts : Prop where
  bitsLt_bf16_f32 : FTy.bits .bf16 < FTy.bits .f32
  bcast_S_S4x2048x16x128 : S_.BroadcastsInDim S4x2048x16x128 (![] : Fin 0 → Fin S4x2048x16x128.rank)
  reducesTo_S4x2048x16x128_S_d0_1_2_3 : S4x2048x16x128.ReducesTo [0, 1, 2, 3] S_
  h_S_ : 0 < S_.numel
  bcast_S_S4x8x2048 : S_.BroadcastsInDim S4x8x2048 (![] : Fin 0 → Fin S4x8x2048.rank)
  reducesTo_S4x8x2048_S_d0_1_2 : S4x8x2048.ReducesTo [0, 1, 2] S_
  bcast_S_S1 : S_.BroadcastsInDim S1 (![] : Fin 0 → Fin S1.rank)

variable [Facts]

def fn {F : FTy → Type} [FloatOps F] (main_arg0 : FVec F S4x2048x16x128 .bf16) (main_arg1 : FVec F S4x2048x16x128 .bf16) (main_arg2 : FVec F S4x2048x16x128 .bf16) (main_arg3 : FVec F S4x8x2048 .f32) : IVec S1 1 :=
  let main_v0 : FVec F S4x2048x16x128 .f32 := (extf .f32 · bitsLt_bf16_f32) main_arg0
  let main_v1 : FVec F S4x2048x16x128 .f32 := Host.absf main_v0
  let main_cst : FVec F S_ .f32 := constant S_ .f32 0x7F800000#32
  let main_v2 : FVec F S4x2048x16x128 .f32 := broadcastInDim S4x2048x16x128 ![] bcast_S_S4x2048x16x128 main_cst
  let main_v3 : IVec S4x2048x16x128 1 := cmpf .olt main_v1 main_v2
  let main_c : IVec S_ 1 := constantI S_ 1 1#1
  let main_v4 : IVec S_ 1 := (fun x v => Host.reduce IntOp.andi x v reducesTo_S4x2048x16x128_S_d0_1_2_3 h_S_) main_v3 main_c
  let main_v5 : FVec F S4x2048x16x128 .f32 := (extf .f32 · bitsLt_bf16_f32) main_arg1
  let main_v6 : FVec F S4x2048x16x128 .f32 := Host.absf main_v5
  let main_cst_0 : FVec F S_ .f32 := constant S_ .f32 0x7F800000#32
  let main_v7 : FVec F S4x2048x16x128 .f32 := broadcastInDim S4x2048x16x128 ![] bcast_S_S4x2048x16x128 main_cst_0
  let main_v8 : IVec S4x2048x16x128 1 := cmpf .olt main_v6 main_v7
  let main_c_1 : IVec S_ 1 := constantI S_ 1 1#1
  let main_v9 : IVec S_ 1 := (fun x v => Host.reduce IntOp.andi x v reducesTo_S4x2048x16x128_S_d0_1_2_3 h_S_) main_v8 main_c_1
  let main_v10 : IVec S_ 1 := andi main_v4 main_v9
  let main_v11 : FVec F S4x8x2048 .f32 := Host.absf main_arg3
  let main_cst_2 : FVec F S_ .f32 := constant S_ .f32 0x7F800000#32
  let main_v12 : FVec F S4x8x2048 .f32 := broadcastInDim S4x8x2048 ![] bcast_S_S4x8x2048 main_cst_2
  let main_v13 : IVec S4x8x2048 1 := cmpf .olt main_v11 main_v12
  let main_c_3 : IVec S_ 1 := constantI S_ 1 1#1
  let main_v14 : IVec S_ 1 := (fun x v => Host.reduce IntOp.andi x v reducesTo_S4x8x2048_S_d0_1_2 h_S_) main_v13 main_c_3
  let main_v15 : IVec S_ 1 := andi main_v10 main_v14
  let main_v16 : IVec S1 1 := broadcastInDim S1 ![] bcast_S_S1 main_v15
  main_v16
-- ==== Fox.lean ====
abbrev S4x2048x16x128 : Shape := ⟨4, ![4, 2048, 16, 128]⟩
abbrev S4x8x2048 : Shape := ⟨3, ![4, 8, 2048]⟩
abbrev S4x2048x2048 : Shape := ⟨3, ![4, 2048, 2048]⟩
abbrev S4x2048x8 : Shape := ⟨3, ![4, 2048, 8]⟩
abbrev S4x2048x1024 : Shape := ⟨3, ![4, 2048, 1024]⟩
abbrev S1x512x1024 : Shape := ⟨3, ![1, 512, 1024]⟩
abbrev S1x2048x1024 : Shape := ⟨3, ![1, 2048, 1024]⟩
abbrev S1x8x512 : Shape := ⟨3, ![1, 8, 512]⟩
abbrev S1x2048x8 : Shape := ⟨3, ![1, 2048, 8]⟩
abbrev S8x512 : Shape := ⟨2, ![8, 512]⟩
abbrev S1024x512 : Shape := ⟨2, ![1024, 512]⟩
abbrev S1x256x128 : Shape := ⟨3, ![1, 256, 128]⟩
abbrev S256x128 : Shape := ⟨2, ![256, 128]⟩
abbrev S1x512x128 : Shape := ⟨3, ![1, 512, 128]⟩
abbrev S512x128 : Shape := ⟨2, ![512, 128]⟩
abbrev S256x512 : Shape := ⟨2, ![256, 512]⟩
abbrev S1x1x512 : Shape := ⟨3, ![1, 1, 512]⟩
abbrev S1x512 : Shape := ⟨2, ![1, 512]⟩
abbrev S1x256x1 : Shape := ⟨3, ![1, 256, 1]⟩
abbrev S256x1 : Shape := ⟨2, ![256, 1]⟩
abbrev S512 : Shape := ⟨1, ![512]⟩
abbrev S128x512 : Shape := ⟨2, ![128, 512]⟩

abbrev nBuf : Space → Nat
  | .hbm => 9
  | .vmem => 15
  | .smem => 0
  | _ => 0

abbrev bufTy : (tb : Table) → Fin (tcTables nBuf tb) → BufTy
  | .hbm, ⟨0, _⟩ => ⟨S4x2048x16x128, .bf16⟩
  | .hbm, ⟨1, _⟩ => ⟨S4x2048x16x128, .bf16⟩
  | .hbm, ⟨2, _⟩ => ⟨S4x2048x16x128, .bf16⟩
  | .hbm, ⟨3, _⟩ => ⟨S4x8x2048, .f32⟩
  | .hbm, ⟨4, _⟩ => ⟨S4x2048x2048, .bf16⟩
  | .hbm, ⟨5, _⟩ => ⟨S4x2048x2048, .bf16⟩
  | .hbm, ⟨6, _⟩ => ⟨S4x2048x2048, .bf16⟩
  | .hbm, ⟨7, _⟩ => ⟨S4x2048x8, .f32⟩
  | .hbm, ⟨8, _⟩ => ⟨S4x2048x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x8x512, .f32⟩
  | .local _ .vmem, ⟨7, _⟩ => ⟨S1x8x512, .f32⟩
  | .local _ .vmem, ⟨8, _⟩ => ⟨S1x2048x8, .f32⟩
  | .local _ .vmem, ⟨9, _⟩ => ⟨S1x2048x8, .f32⟩
  | .local _ .vmem, ⟨10, _⟩ => ⟨S1x512x1024, .bf16⟩
  | .local _ .vmem, ⟨11, _⟩ => ⟨S1x512x1024, .bf16⟩
  | .local _ .vmem, ⟨12, _⟩ => ⟨S8x512, .f32⟩
  | .local _ .vmem, ⟨13, _⟩ => ⟨S8x512, .f32⟩
  | .local _ .vmem, ⟨14, _⟩ => ⟨S1024x512, .f32⟩
  | _, _ => ⟨S4x2048x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_8 : BitVec 32 := 1#32
  ⟨c0_i32_7, v17, c1_i32_8⟩
def k0_mult1 (i : grid0.Coords) (k0_t1 : Fin (k0_t1_loop i).trips) : BitVec 32 :=
  let c0_i32_7 : BitVec 32 := 0#32
  let c1_i32_8 : BitVec 32 := 1#32
  let arg11 : BitVec 32 := Scf.iv c0_i32_7 c1_i32_8 k0_t1
  let c256_i32_550 : BitVec 32 := 256#32
  let v1040 : BitVec 32 := Scalar.muli arg11 c256_i32_550
  v1040
def k0_off1 (i : grid0.Coords) (k0_t1 : Fin (k0_t1_loop i).trips) : Fin 3 → Nat :=
  let c0_551 : Index := 0#32
  let c0_i32_7 : BitVec 32 := 0#32
  let c1_i32_8 : BitVec 32 := 1#32
  let arg11 : BitVec 32 := Scf.iv c0_i32_7 c1_i32_8 k0_t1
  let c256_i32_550 : BitVec 32 := 256#32
  let v1040 : BitVec 32 := Scalar.muli arg11 c256_i32_550
  let v1041 : BitVec 32 := v1040
  let v1042 : Index := Scalar.indexCast v1041
  let c0_552 : Index := 0#32
  ![0, v1042.toNat, 0]
def k0_off2 (i : grid0.Coords) (k0_t1 : Fin (k0_t1_loop i).trips) : Fin 3 → Nat :=
  let c0_563 : Index := 0#32
  let c0_i32_7 : BitVec 32 := 0#32
  let c1_i32_8 : BitVec 32 := 1#32
  let arg11 : BitVec 32 := Scf.iv c0_i32_7 c1_i32_8 k0_t1
  let c256_i32_550 : BitVec 32 := 256#32
  let v1040 : BitVec 32 := Scalar.muli arg11 c256_i32_550
  let v1041 : BitVec 32 := v1040
  let v1057 : Index := Scalar.indexCast v1041
  let c0_564 : Index := 0#32
  ![0, v1057.toNat, 0]
def k0_off3 (i : grid0.Coords) (k0_t1 : Fin (k0_t1_loop i).trips) : Fin 3 → Nat :=
  let c0_580 : Index := 0#32
  let c0_i32_7 : BitVec 32 := 0#32
  let c1_i32_8 : BitVec 32 := 1#32
  let arg11 : BitVec 32 := Scf.iv c0_i32_7 c1_i32_8 k0_t1
  let c256_i32_550 : BitVec 32 := 256#32
  let v1040 : BitVec 32 := Scalar.muli arg11 c256_i32_550
  let v1041 : BitVec 32 := v1040
  let v1091 : Index := Scalar.indexCast v1041
  let c128_581 : Index := 128#32
  ![0, v1091.toNat, 128]
def k0_off4 (i : grid0.Coords) (k0_t1 : Fin (k0_t1_loop i).trips) : Fin 3 → Nat :=
  let c0_592 : Index := 0#32
  let c0_i32_7 : BitVec 32 := 0#32
  let c1_i32_8 : BitVec 32 := 1#32
  let arg11 : BitVec 32 := Scf.iv c0_i32_7 c1_i32_8 k0_t1
  let c256_i32_550 : BitVec 32 := 256#32
  let v1040 : BitVec 32 := Scalar.muli arg11 c256_i32_550
  let v1041 : BitVec 32 := v1040
  let v1106 : Index := Scalar.indexCast v1041
  let c1_593 : Index := 1#32
  ![0, v1106.toNat, 1]
def k0_off5 (i : grid0.Coords) (k0_t1 : Fin (k0_t1_loop i).trips) : Fin 3 → Nat :=
  let c0_609 : Index := 0#32
  let c0_i32_7 : BitVec 32 := 0#32
  let c1_i32_8 : BitVec 32 := 1#32
  let arg11 : BitVec 32 := Scf.iv c0_i32_7 c1_i32_8 k0_t1
  let c256_i32_550 : BitVec 32 := 256#32
  let v1040 : BitVec 32 := Scalar.muli arg11 c256_i32_550
  let v1041 : BitVec 32 := v1040
  let v1140 : Index := Scalar.indexCast v1041
  let c256_610 : Index := 256#32
  ![0, v1140.toNat, 256]
def k0_off6 (i : grid0.Coords) (k0_t1 : Fin (k0_t1_loop i).trips) : Fin 3 → Nat :=
  let c0_621 : Index := 0#32
  let c0_i32_7 : BitVec 32 := 0#32
  let c1_i32_8 : BitVec 32 := 1#32
  let arg11 : BitVec 32 := Scf.iv c0_i32_7 c1_i32_8 k0_t1
  let c256_i32_550 : BitVec 32 := 256#32
  let v1040 : BitVec 32 := Scalar.muli arg11 c256_i32_550
  let v1041 : BitVec 32 := v1040
  let v1155 : Index := Scalar.indexCast v1041
  let c2_622 : Index := 2#32
  ![0, v1155.toNat, 2]
def k0_off7 (i : grid0.Coords) (k0_t1 : Fin (k0_t1_loop i).trips) : Fin 3 → Nat :=
  let c0_638 : Index := 0#32
  let c0_i32_7 : BitVec 32 := 0#32
  let c1_i32_8 : BitVec 32 := 1#32
  let arg11 : BitVec 32 := Scf.iv c0_i32_7 c1_i32_8 k0_t1
  let c256_i32_550 : BitVec 32 := 256#32
  let v1040 : BitVec 32 := Scalar.muli arg11 c256_i32_550
  let v1041 : BitVec 32 := v1040
  let v1189 : Index := Scalar.indexCast v1041
  let c384_639 : Index := 384#32
  ![0, v1189.toNat, 384]
def k0_off8 (i : grid0.Coords) (k0_t1 : Fin (k0_t1_loop i).trips) : Fin 3 → Nat :=
  let c0_650 : Index := 0#32
  let c0_i32_7 : BitVec 32 := 0#32
  let c1_i32_8 : BitVec 32 := 1#32
  let arg11 : BitVec 32 := Scf.iv c0_i32_7 c1_i32_8 k0_t1
  let c256_i32_550 : BitVec 32 := 256#32
  let v1040 : BitVec 32 := Scalar.muli arg11 c256_i32_550
  let v1041 : BitVec 32 := v1040
  let v1204 : Index := Scalar.indexCast v1041
  let c3_651 : Index := 3#32
  ![0, v1204.toNat, 3]
def k0_off9 (i : grid0.Coords) (k0_t1 : Fin (k0_t1_loop i).trips) : Fin 3 → Nat :=
  let c0_667 : Index := 0#32
  let c0_i32_7 : BitVec 32 := 0#32
  let c1_i32_8 : BitVec 32 := 1#32
  let arg11 : BitVec 32 := Scf.iv c0_i32_7 c1_i32_8 k0_t1
  let c256_i32_550 : BitVec 32 := 256#32
  let v1040 : BitVec 32 := Scalar.muli arg11 c256_i32_550
  let v1041 : BitVec 32 := v1040
  let v1238 : Index := Scalar.indexCast v1041
  let c512_668 : Index := 512#32
  ![0, v1238.toNat, 512]
def k0_off10 (i : grid0.Coords) (k0_t1 : Fin (k0_t1_loop i).trips) : Fin 3 → Nat :=
  let c0_679 : Index := 0#32
  let c0_i32_7 : BitVec 32 := 0#32
  let c1_i32_8 : BitVec 32 := 1#32
  let arg11 : BitVec 32 := Scf.iv c0_i32_7 c1_i32_8 k0_t1
  let c256_i32_550 : BitVec 32 := 256#32
  let v1040 : BitVec 32 := Scalar.muli arg11 c256_i32_550
  let v1041 : BitVec 32 := v1040
  let v1253 : Index := Scalar.indexCast v1041
  let c4_680 : Index := 4#32
  ![0, v1253.toNat, 4]
def k0_off11 (i : grid0.Coords) (k0_t1 : Fin (k0_t1_loop i).trips) : Fin 3 → Nat :=
  let c0_696 : Index := 0#32
  let c0_i32_7 : BitVec 32 := 0#32
  let c1_i32_8 : BitVec 32 := 1#32
  let arg11 : BitVec 32 := Scf.iv c0_i32_7 c1_i32_8 k0_t1
  let c256_i32_550 : BitVec 32 := 256#32
  let v1040 : BitVec 32 := Scalar.muli arg11 c256_i32_550
  let v1041 : BitVec 32 := v1040
  let v1287 : Index := Scalar.indexCast v1041
  let c640_697 : Index := 640#32
  ![0, v1287.toNat, 640]
def k0_off12 (i : grid0.Coords) (k0_t1 : Fin (k0_t1_loop i).trips) : Fin 3 → Nat :=
  let c0_708 : Index := 0#32
  let c0_i32_7 : BitVec 32 := 0#32
  let c1_i32_8 : BitVec 32 := 1#32
  let arg11 : BitVec 32 := Scf.iv c0_i32_7 c1_i32_8 k0_t1
  let c256_i32_550 : BitVec 32 := 256#32
  let v1040 : BitVec 32 := Scalar.muli arg11 c256_i32_550
  let v1041 : BitVec 32 := v1040
  let v1302 : Index := Scalar.indexCast v1041
  let c5_709 : Index := 5#32
  ![0, v1302.toNat, 5]
def k0_off13 (i : grid0.Coords) (k0_t1 : Fin (k0_t1_loop i).trips) : Fin 3 → Nat :=
  let c0_725 : Index := 0#32
  let c0_i32_7 : BitVec 32 := 0#32
  let c1_i32_8 : BitVec 32 := 1#32
  let arg11 : BitVec 32 := Scf.iv c0_i32_7 c1_i32_8 k0_t1
  let c256_i32_550 : BitVec 32 := 256#32
  let v1040 : BitVec 32 := Scalar.muli arg11 c256_i32_550
  let v1041 : BitVec 32 := v1040
  let v1336 : Index := Scalar.indexCast v1041
  let c768_726 : Index := 768#32
  ![0, v1336.toNat, 768]
def k0_off14 (i : grid0.Coords) (k0_t1 : Fin (k0_t1_loop i).trips) : Fin 3 → Nat :=
  let c0_737 : Index := 0#32
  let c0_i32_7 : BitVec 32 := 0#32
  let c1_i32_8 : BitVec 32 := 1#32
  let arg11 : BitVec 32 := Scf.iv c0_i32_7 c1_i32_8 k0_t1
  let c256_i32_550 : BitVec 32 := 256#32
  let v1040 : BitVec 32 := Scalar.muli arg11 c256_i32_550
  let v1041 : BitVec 32 := v1040
  let v1351 : Index := Scalar.indexCast v1041
  let c6_738 : Index := 6#32
  ![0, v1351.toNat, 6]
def k0_off15 (i : grid0.Coords) (k0_t1 : Fin (k0_t1_loop i).trips) : Fin 3 → Nat :=
  let c0_754 : Index := 0#32
  let c0_i32_7 : BitVec 32 := 0#32
  let c1_i32_8 : BitVec 32 := 1#32
  let arg11 : BitVec 32 := Scf.iv c0_i32_7 c1_i32_8 k0_t1
  let c256_i32_550 : BitVec 32 := 256#32
  let v1040 : BitVec 32 := Scalar.muli arg11 c256_i32_550
  let v1041 : BitVec 32 := v1040
  let v1385 : Index := Scalar.indexCast v1041
  let c896_755 : Index := 896#32
  ![0, v1385.toNat, 896]
def k0_off16 (i : grid0.Coords) (k0_t1 : Fin (k0_t1_loop i).trips) : Fin 3 → Nat :=
  let c0_766 : Index := 0#32
  let c0_i32_7 : BitVec 32 := 0#32
  let c1_i32_8 : BitVec 32 := 1#32
  let arg11 : BitVec 32 := Scf.iv c0_i32_7 c1_i32_8 k0_t1
  let c256_i32_550 : BitVec 32 := 256#32
  let v1040 : BitVec 32 := Scalar.muli arg11 c256_i32_550
  let v1041 : BitVec 32 := v1040
  let v1400 : Index := Scalar.indexCast v1041
  let c7_767 : Index := 7#32
  ![0, v1400.toNat, 7]
@[reducible] def k0_t2_loop (i : grid0.Coords) : Scf.Loop 32 :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let v14 : BitVec 32 := Scalar.addi c0_i32_7 v13
  let c1_i32_9 : BitVec 32 := 1#32
  ⟨v17, v14, c1_i32_9⟩
def k0_mult2 (i : grid0.Coords) (k0_t2 : Fin (k0_t2_loop i).trips) : BitVec 32 :=
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg11 : BitVec 32 := Scf.iv v17 c1_i32_9 k0_t2
  let c256_i32_550 : BitVec 32 := 256#32
  let v1040 : BitVec 32 := Scalar.muli arg11 c256_i32_550
  v1040
def k0_off17 (i : grid0.Coords) (k0_t2 : Fin (k0_t2_loop i).trips) : Fin 3 → Nat :=
  let c0_551 : Index := 0#32
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg11 : BitVec 32 := Scf.iv v17 c1_i32_9 k0_t2
  let c256_i32_550 : BitVec 32 := 256#32
  let v1040 : BitVec 32 := Scalar.muli arg11 c256_i32_550
  let v1041 : BitVec 32 := v1040
  let v1042 : Index := Scalar.indexCast v1041
  let c0_552 : Index := 0#32
  ![0, v1042.toNat, 0]
def k0_off18 (i : grid0.Coords) (k0_t2 : Fin (k0_t2_loop i).trips) : Fin 3 → Nat :=
  let c0_563 : Index := 0#32
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg11 : BitVec 32 := Scf.iv v17 c1_i32_9 k0_t2
  let c256_i32_550 : BitVec 32 := 256#32
  let v1040 : BitVec 32 := Scalar.muli arg11 c256_i32_550
  let v1041 : BitVec 32 := v1040
  let v1057 : Index := Scalar.indexCast v1041
  let c0_564 : Index := 0#32
  ![0, v1057.toNat, 0]
def k0_off19 (i : grid0.Coords) (k0_t2 : Fin (k0_t2_loop i).trips) : Fin 3 → Nat :=
  let c0_580 : Index := 0#32
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg11 : BitVec 32 := Scf.iv v17 c1_i32_9 k0_t2
  let c256_i32_550 : BitVec 32 := 256#32
  let v1040 : BitVec 32 := Scalar.muli arg11 c256_i32_550
  let v1041 : BitVec 32 := v1040
  let v1091 : Index := Scalar.indexCast v1041
  let c128_581 : Index := 128#32
  ![0, v1091.toNat, 128]
def k0_off20 (i : grid0.Coords) (k0_t2 : Fin (k0_t2_loop i).trips) : Fin 3 → Nat :=
  let c0_592 : Index := 0#32
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg11 : BitVec 32 := Scf.iv v17 c1_i32_9 k0_t2
  let c256_i32_550 : BitVec 32 := 256#32
  let v1040 : BitVec 32 := Scalar.muli arg11 c256_i32_550
  let v1041 : BitVec 32 := v1040
  let v1106 : Index := Scalar.indexCast v1041
  let c1_593 : Index := 1#32
  ![0, v1106.toNat, 1]
def k0_off21 (i : grid0.Coords) (k0_t2 : Fin (k0_t2_loop i).trips) : Fin 3 → Nat :=
  let c0_609 : Index := 0#32
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg11 : BitVec 32 := Scf.iv v17 c1_i32_9 k0_t2
  let c256_i32_550 : BitVec 32 := 256#32
  let v1040 : BitVec 32 := Scalar.muli arg11 c256_i32_550
  let v1041 : BitVec 32 := v1040
  let v1140 : Index := Scalar.indexCast v1041
  let c256_610 : Index := 256#32
  ![0, v1140.toNat, 256]
def k0_off22 (i : grid0.Coords) (k0_t2 : Fin (k0_t2_loop i).trips) : Fin 3 → Nat :=
  let c0_621 : Index := 0#32
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg11 : BitVec 32 := Scf.iv v17 c1_i32_9 k0_t2
  let c256_i32_550 : BitVec 32 := 256#32
  let v1040 : BitVec 32 := Scalar.muli arg11 c256_i32_550
  let v1041 : BitVec 32 := v1040
  let v1155 : Index := Scalar.indexCast v1041
  let c2_622 : Index := 2#32
  ![0, v1155.toNat, 2]
def k0_off23 (i : grid0.Coords) (k0_t2 : Fin (k0_t2_loop i).trips) : Fin 3 → Nat :=
  let c0_638 : Index := 0#32
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg11 : BitVec 32 := Scf.iv v17 c1_i32_9 k0_t2
  let c256_i32_550 : BitVec 32 := 256#32
  let v1040 : BitVec 32 := Scalar.muli arg11 c256_i32_550
  let v1041 : BitVec 32 := v1040
  let v1189 : Index := Scalar.indexCast v1041
  let c384_639 : Index := 384#32
  ![0, v1189.toNat, 384]
def k0_off24 (i : grid0.Coords) (k0_t2 : Fin (k0_t2_loop i).trips) : Fin 3 → Nat :=
  let c0_650 : Index := 0#32
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg11 : BitVec 32 := Scf.iv v17 c1_i32_9 k0_t2
  let c256_i32_550 : BitVec 32 := 256#32
  let v1040 : BitVec 32 := Scalar.muli arg11 c256_i32_550
  let v1041 : BitVec 32 := v1040
  let v1204 : Index := Scalar.indexCast v1041
  let c3_651 : Index := 3#32
  ![0, v1204.toNat, 3]
def k0_off25 (i : grid0.Coords) (k0_t2 : Fin (k0_t2_loop i).trips) : Fin 3 → Nat :=
  let c0_667 : Index := 0#32
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg11 : BitVec 32 := Scf.iv v17 c1_i32_9 k0_t2
  let c256_i32_550 : BitVec 32 := 256#32
  let v1040 : BitVec 32 := Scalar.muli arg11 c256_i32_550
  let v1041 : BitVec 32 := v1040
  let v1238 : Index := Scalar.indexCast v1041
  let c512_668 : Index := 512#32
  ![0, v1238.toNat, 512]
def k0_off26 (i : grid0.Coords) (k0_t2 : Fin (k0_t2_loop i).trips) : Fin 3 → Nat :=
  let c0_679 : Index := 0#32
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg11 : BitVec 32 := Scf.iv v17 c1_i32_9 k0_t2
  let c256_i32_550 : BitVec 32 := 256#32
  let v1040 : BitVec 32 := Scalar.muli arg11 c256_i32_550
  let v1041 : BitVec 32 := v1040
  let v1253 : Index := Scalar.indexCast v1041
  let c4_680 : Index := 4#32
  ![0, v1253.toNat, 4]
def k0_off27 (i : grid0.Coords) (k0_t2 : Fin (k0_t2_loop i).trips) : Fin 3 → Nat :=
  let c0_696 : Index := 0#32
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg11 : BitVec 32 := Scf.iv v17 c1_i32_9 k0_t2
  let c256_i32_550 : BitVec 32 := 256#32
  let v1040 : BitVec 32 := Scalar.muli arg11 c256_i32_550
  let v1041 : BitVec 32 := v1040
  let v1287 : Index := Scalar.indexCast v1041
  let c640_697 : Index := 640#32
  ![0, v1287.toNat, 640]
def k0_off28 (i : grid0.Coords) (k0_t2 : Fin (k0_t2_loop i).trips) : Fin 3 → Nat :=
  let c0_708 : Index := 0#32
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg11 : BitVec 32 := Scf.iv v17 c1_i32_9 k0_t2
  let c256_i32_550 : BitVec 32 := 256#32
  let v1040 : BitVec 32 := Scalar.muli arg11 c256_i32_550
  let v1041 : BitVec 32 := v1040
  let v1302 : Index := Scalar.indexCast v1041
  let c5_709 : Index := 5#32
  ![0, v1302.toNat, 5]
def k0_off29 (i : grid0.Coords) (k0_t2 : Fin (k0_t2_loop i).trips) : Fin 3 → Nat :=
  let c0_725 : Index := 0#32
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg11 : BitVec 32 := Scf.iv v17 c1_i32_9 k0_t2
  let c256_i32_550 : BitVec 32 := 256#32
  let v1040 : BitVec 32 := Scalar.muli arg11 c256_i32_550
  let v1041 : BitVec 32 := v1040
  let v1336 : Index := Scalar.indexCast v1041
  let c768_726 : Index := 768#32
  ![0, v1336.toNat, 768]
def k0_off30 (i : grid0.Coords) (k0_t2 : Fin (k0_t2_loop i).trips) : Fin 3 → Nat :=
  let c0_737 : Index := 0#32
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg11 : BitVec 32 := Scf.iv v17 c1_i32_9 k0_t2
  let c256_i32_550 : BitVec 32 := 256#32
  let v1040 : BitVec 32 := Scalar.muli arg11 c256_i32_550
  let v1041 : BitVec 32 := v1040
  let v1351 : Index := Scalar.indexCast v1041
  let c6_738 : Index := 6#32
  ![0, v1351.toNat, 6]
def k0_off31 (i : grid0.Coords) (k0_t2 : Fin (k0_t2_loop i).trips) : Fin 3 → Nat :=
  let c0_754 : Index := 0#32
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg11 : BitVec 32 := Scf.iv v17 c1_i32_9 k0_t2
  let c256_i32_550 : BitVec 32 := 256#32
  let v1040 : BitVec 32 := Scalar.muli arg11 c256_i32_550
  let v1041 : BitVec 32 := v1040
  let v1385 : Index := Scalar.indexCast v1041
  let c896_755 : Index := 896#32
  ![0, v1385.toNat, 896]
def k0_off32 (i : grid0.Coords) (k0_t2 : Fin (k0_t2_loop i).trips) : Fin 3 → Nat :=
  let c0_766 : Index := 0#32
  let c0_i32_7 : BitVec 32 := 0#32
  let arg1 : BitVec 32 := BitVec.ofNat 32 (i 1).val
  let c2_i32 : BitVec 32 := 2#32
  let v12 : BitVec 32 := Scalar.muli arg1 c2_i32
  let v13 : BitVec 32 := Scalar.subi v12 c0_i32_7
  let c1_i32 : BitVec 32 := 1#32
  let v15 : BitVec 32 := Scalar.divsi v13 c1_i32
  let v16 : BitVec 32 := Scalar.muli v15 c1_i32
  let v17 : BitVec 32 := Scalar.addi c0_i32_7 v16
  let c1_i32_9 : BitVec 32 := 1#32
  let arg11 : BitVec 32 := Scf.iv v17 c1_i32_9 k0_t2
  let c256_i32_550 : BitVec 32 := 256#32
  let v1040 : BitVec 32 := Scalar.muli arg11 c256_i32_550
  let v1041 : BitVec 32 := v1040
  let v1400 : Index := Scalar.indexCast v1041
  let c7_767 : Index := 7#32
  ![0, v1400.toNat, 7]
def k0_mult3 (i : grid0.Coords) : BitVec 32 :=
  let arg1 : BitVec 32 := BitVec.ofNat 32 (i 1).val
  let c512_i32 : BitVec 32 := 512#32
  let v18 : BitVec 32 := Scalar.muli arg1 c512_i32
  let c0_i32_10 : BitVec 32 := 0#32
  let v19 : BitVec 32 := Scalar.addi v18 c0_i32_10
  v19
def k0_off33 (i : grid0.Coords) (c0_i32_10 : BitVec 32) : Fin 3 → Nat :=
  let c0_11 : Index := 0#32
  let arg1 : BitVec 32 := BitVec.ofNat 32 (i 1).val
  let c512_i32 : BitVec 32 := 512#32
  let v18 : BitVec 32 := Scalar.muli arg1 c512_i32
  let v19 : BitVec 32 := Scalar.addi v18 c0_i32_10
  let v20 : BitVec 32 := v19
  let v21 : Index := Scalar.indexCast v20
  let c0_12 : Index := 0#32
  ![0, v21.toNat, 0]
def k0_off34 (i : grid0.Coords) (c0_i32_10 : BitVec 32) : Fin 3 → Nat :=
  let c0_23 : Index := 0#32
  let arg1 : BitVec 32 := BitVec.ofNat 32 (i 1).val
  let c512_i32 : BitVec 32 := 512#32
  let v18 : BitVec 32 := Scalar.muli arg1 c512_i32
  let v19 : BitVec 32 := Scalar.addi v18 c0_i32_10
  let v20 : BitVec 32 := v19
  let v36 : Index := Scalar.indexCast v20
  let c0_24 : Index := 0#32
  ![0, v36.toNat, 0]
def k0_off35 (i : grid0.Coords) (c0_i32_10 : BitVec 32) : Fin 3 → Nat :=
  let c0_42 : Index := 0#32
  let arg1 : BitVec 32 := BitVec.ofNat 32 (i 1).val
  let c512_i32 : BitVec 32 := 512#32
  let v18 : BitVec 32 := Scalar.muli arg1 c512_i32
  let v19 : BitVec 32 := Scalar.addi v18 c0_i32_10
  let v20 : BitVec 32 := v19
  let v80 : Index := Scalar.indexCast v20
  let c128 : Index := 128#32
  ![0, v80.toNat, 128]
def k0_off36 (i : grid0.Coords) (c0_i32_10 : BitVec 32) : Fin 3 → Nat :=
  let c0_52 : Index := 0#32
  let arg1 : BitVec 32 := BitVec.ofNat 32 (i 1).val
  let c512_i32 : BitVec 32 := 512#32
  let v18 : BitVec 32 := Scalar.muli arg1 c512_i32
  let v19 : BitVec 32 := Scalar.addi v18 c0_i32_10
  let v20 : BitVec 32 := v19
  let v95 : Index := Scalar.indexCast v20
  let c1_53 : Index := 1#32
  ![0, v95.toNat, 1]
def k0_off37 (i : grid0.Coords) (c0_i32_10 : BitVec 32) : Fin 3 → Nat :=
  let c0_71 : Index := 0#32
  let arg1 : BitVec 32 := BitVec.ofNat 32 (i 1).val
  let c512_i32 : BitVec 32 := 512#32
  let v18 : BitVec 32 := Scalar.muli arg1 c512_i32
  let v19 : BitVec 32 := Scalar.addi v18 c0_i32_10
  let v20 : BitVec 32 := v19
  let v139 : Index := Scalar.indexCast v20
  let c256 : Index := 256#32
  ![0, v139.toNat, 256]
def k0_off38 (i : grid0.Coords) (c0_i32_10 : BitVec 32) : Fin 3 → Nat :=
  let c0_81 : Index := 0#32
  let arg1 : BitVec 32 := BitVec.ofNat 32 (i 1).val
  let c512_i32 : BitVec 32 := 512#32
  let v18 : BitVec 32 := Scalar.muli arg1 c512_i32
  let v19 : BitVec 32 := Scalar.addi v18 c0_i32_10
  let v20 : BitVec 32 := v19
  let v154 : Index := Scalar.indexCast v20
  let c2_82 : Index := 2#32
  ![0, v154.toNat, 2]
def k0_off39 (i : grid0.Coords) (c0_i32_10 : BitVec 32) : Fin 3 → Nat :=
  let c0_100 : Index := 0#32
  let arg1 : BitVec 32 := BitVec.ofNat 32 (i 1).val
  let c512_i32 : BitVec 32 := 512#32
  let v18 : BitVec 32 := Scalar.muli arg1 c512_i32
  let v19 : BitVec 32 := Scalar.addi v18 c0_i32_10
  let v20 : BitVec 32 := v19
  let v198 : Index := Scalar.indexCast v20
  let c384 : Index := 384#32
  ![0, v198.toNat, 384]
def k0_off40 (i : grid0.Coords) (c0_i32_10 : BitVec 32) : Fin 3 → Nat :=
  let c0_110 : Index := 0#32
  let arg1 : BitVec 32 := BitVec.ofNat 32 (i 1).val
  let c512_i32 : BitVec 32 := 512#32
  let v18 : BitVec 32 := Scalar.muli arg1 c512_i32
  let v19 : BitVec 32 := Scalar.addi v18 c0_i32_10
  let v20 : BitVec 32 := v19
  let v213 : Index := Scalar.indexCast v20
  let c3_111 : Index := 3#32
  ![0, v213.toNat, 3]
def k0_off41 (i : grid0.Coords) (c0_i32_10 : BitVec 32) : Fin 3 → Nat :=
  let c0_129 : Index := 0#32
  let arg1 : BitVec 32 := BitVec.ofNat 32 (i 1).val
  let c512_i32 : BitVec 32 := 512#32
  let v18 : BitVec 32 := Scalar.muli arg1 c512_i32
  let v19 : BitVec 32 := Scalar.addi v18 c0_i32_10
  let v20 : BitVec 32 := v19
  let v257 : Index := Scalar.indexCast v20
  let c512 : Index := 512#32
  ![0, v257.toNat, 512]
def k0_off42 (i : grid0.Coords) (c0_i32_10 : BitVec 32) : Fin 3 → Nat :=
  let c0_139 : Index := 0#32
  let arg1 : BitVec 32 := BitVec.ofNat 32 (i 1).val
  let c512_i32 : BitVec 32 := 512#32
  let v18 : BitVec 32 := Scalar.muli arg1 c512_i32
  let v19 : BitVec 32 := Scalar.addi v18 c0_i32_10
  let v20 : BitVec 32 := v19
  let v272 : Index := Scalar.indexCast v20
  let c4_140 : Index := 4#32
  ![0, v272.toNat, 4]
def k0_off43 (i : grid0.Coords) (c0_i32_10 : BitVec 32) : Fin 3 → Nat :=
  let c0_158 : Index := 0#32
  let arg1 : BitVec 32 := BitVec.ofNat 32 (i 1).val
  let c512_i32 : BitVec 32 := 512#32
  let v18 : BitVec 32 := Scalar.muli arg1 c512_i32
  let v19 : BitVec 32 := Scalar.addi v18 c0_i32_10
  let v20 : BitVec 32 := v19
  let v316 : Index := Scalar.indexCast v20
  let c640 : Index := 640#32
  ![0, v316.toNat, 640]
def k0_off44 (i : grid0.Coords) (c0_i32_10 : BitVec 32) : Fin 3 → Nat :=
  let c0_168 : Index := 0#32
  let arg1 : BitVec 32 := BitVec.ofNat 32 (i 1).val
  let c512_i32 : BitVec 32 := 512#32
  let v18 : BitVec 32 := Scalar.muli arg1 c512_i32
  let v19 : BitVec 32 := Scalar.addi v18 c0_i32_10
  let v20 : BitVec 32 := v19
  let v331 : Index := Scalar.indexCast v20
  let c5_169 : Index := 5#32
  ![0, v331.toNat, 5]
def k0_off45 (i : grid0.Coords) (c0_i32_10 : BitVec 32) : Fin 3 → Nat :=
  let c0_187 : Index := 0#32
  let arg1 : BitVec 32 := BitVec.ofNat 32 (i 1).val
  let c512_i32 : BitVec 32 := 512#32
  let v18 : BitVec 32 := Scalar.muli arg1 c512_i32
  let v19 : BitVec 32 := Scalar.addi v18 c0_i32_10
  let v20 : BitVec 32 := v19
  let v375 : Index := Scalar.indexCast v20
  let c768 : Index := 768#32
  ![0, v375.toNat, 768]
def k0_off46 (i : grid0.Coords) (c0_i32_10 : BitVec 32) : Fin 3 → Nat :=
  let c0_197 : Index := 0#32
  let arg1 : BitVec 32 := BitVec.ofNat 32 (i 1).val
  let c512_i32 : BitVec 32 := 512#32
  let v18 : BitVec 32 := Scalar.muli arg1 c512_i32
  let v19 : BitVec 32 := Scalar.addi v18 c0_i32_10
  let v20 : BitVec 32 := v19
  let v390 : Index := Scalar.indexCast v20
  let c6_198 : Index := 6#32
  ![0, v390.toNat, 6]
def k0_off47 (i : grid0.Coords) (c0_i32_10 : BitVec 32) : Fin 3 → Nat :=
  let c0_216 : Index := 0#32
  let arg1 : BitVec 32 := BitVec.ofNat 32 (i 1).val
  let c512_i32 : BitVec 32 := 512#32
  let v18 : BitVec 32 := Scalar.muli arg1 c512_i32
  let v19 : BitVec 32 := Scalar.addi v18 c0_i32_10
  let v20 : BitVec 32 := v19
  let v434 : Index := Scalar.indexCast v20
  let c896 : Index := 896#32
  ![0, v434.toNat, 896]
def k0_off48 (i : grid0.Coords) (c0_i32_10 : BitVec 32) : Fin 3 → Nat :=
  let c0_226 : Index := 0#32
  let arg1 : BitVec 32 := BitVec.ofNat 32 (i 1).val
  let c512_i32 : BitVec 32 := 512#32
  let v18 : BitVec 32 := Scalar.muli arg1 c512_i32
  let v19 : BitVec 32 := Scalar.addi v18 c0_i32_10
  let v20 : BitVec 32 := v19
  let v449 : Index := Scalar.indexCast v20
  let c7_227 : Index := 7#32
  ![0, v449.toNat, 7]
def k0_mult4 (i : grid0.Coords) : BitVec 32 :=
  let arg1 : BitVec 32 := BitVec.ofNat 32 (i 1).val
  let c512_i32_245 : BitVec 32 := 512#32
  let v493 : BitVec 32 := Scalar.muli arg1 c512_i32_245
  let c256_i32 : BitVec 32 := 256#32
  let v494 : BitVec 32 := Scalar.addi v493 c256_i32
  v494
def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FoxIdeal.lean ====
variable {F : FTy → Type} [FloatOps F] [Named F]
def κ : String → Option EReal := fun
  | "mask" => some ⊥
  | _ => none
-- ==== FoxRefIdeal.lean ====
abbrev S4x2048x16x128 : Shape := ⟨4, ![4, 2048, 16, 128]⟩
abbrev S4x8x2048 : Shape := ⟨3, ![4, 8, 2048]⟩
abbrev S4x2048x8x128 : Shape := ⟨4, ![4, 2048, 8, 128]⟩
abbrev S4x2048x8 : Shape := ⟨3, ![4, 2048, 8]⟩
abbrev S2048 : Shape := ⟨1, ![2048]⟩
abbrev S4x8x2048x2048 : Shape := ⟨4, ![4, 8, 2048, 2048]⟩
abbrev S_ : Shape := ⟨0, ![]⟩
abbrev S4x8x2048x1 : Shape := ⟨4, ![4, 8, 2048, 1]⟩
abbrev S4x8x1x2048 : Shape := ⟨4, ![4, 8, 1, 2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S4x8x128x2048 : Shape := ⟨4, ![4, 8, 128, 2048]⟩
abbrev S4x2048x1024 : Shape := ⟨3, ![4, 2048, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x16x128, .bf16⟩
  | .hbm, ⟨1, _⟩ => ⟨S4x2048x16x128, .bf16⟩
  | .hbm, ⟨2, _⟩ => ⟨S4x2048x16x128, .bf16⟩
  | .hbm, ⟨3, _⟩ => ⟨S4x8x2048, .f32⟩
  | .hbm, ⟨4, _⟩ => ⟨S4x2048x8x128, .bf16⟩
  | .hbm, ⟨5, _⟩ => ⟨S4x2048x8x128, .f32⟩
  | .hbm, ⟨6, _⟩ => ⟨S4x2048x8x128, .bf16⟩
  | .hbm, ⟨7, _⟩ => ⟨S4x2048x8x128, .f32⟩
  | .hbm, ⟨8, _⟩ => ⟨S4x2048x8x128, .bf16⟩
  | .hbm, ⟨9, _⟩ => ⟨S4x2048x8x128, .f32⟩
  | .hbm, ⟨10, _⟩ => ⟨S4x2048x8, .f32⟩
  | .hbm, ⟨11, _⟩ => ⟨S2048, .i32⟩
  | .hbm, ⟨12, _⟩ => ⟨S4x8x2048x2048, .f32⟩
  | .hbm, ⟨13, _⟩ => ⟨S_, .f32⟩
  | .hbm, ⟨14, _⟩ => ⟨S4x8x2048x2048, .f32⟩
  | .hbm, ⟨15, _⟩ => ⟨S4x8x2048x2048, .f32⟩
  | .hbm, ⟨16, _⟩ => ⟨S4x8x2048, .f32⟩
  | .hbm, ⟨17, _⟩ => ⟨S4x8x2048x1, .f32⟩
  | .hbm, ⟨18, _⟩ => ⟨S4x8x2048x2048, .f32⟩
  | .hbm, ⟨19, _⟩ => ⟨S4x8x2048x2048, .f32⟩
  | .hbm, ⟨20, _⟩ => ⟨S4x8x2048, .f32⟩
  | .hbm, ⟨21, _⟩ => ⟨S4x8x1x2048, .f32⟩
  | .hbm, ⟨22, _⟩ => ⟨S4x8x2048x2048, .f32⟩
  | .hbm, ⟨23, _⟩ => ⟨S4x8x2048x2048, .f32⟩
  | .hbm, ⟨24, _⟩ => ⟨S1x2048, .i32⟩
  | .hbm, ⟨25, _⟩ => ⟨S2048x1, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S1x1x2048x2048, .i1⟩
  | .hbm, ⟨30, _⟩ => ⟨S_, .f32⟩
  | .hbm, ⟨31, _⟩ => ⟨S_, .f32⟩
  | .hbm, ⟨32, _⟩ => ⟨S4x8x2048x2048, .i1⟩
  | .hbm, ⟨33, _⟩ => ⟨S4x8x2048x2048, .f32⟩
  | .hbm, ⟨34, _⟩ => ⟨S4x8x2048x2048, .f32⟩
  | .hbm, ⟨35, _⟩ => ⟨S_, .f32⟩
  | .hbm, ⟨36, _⟩ => ⟨S4x8x2048, .f32⟩
  | .hbm, ⟨37, _⟩ => ⟨S_, .f32⟩
  | .hbm, ⟨38, _⟩ => ⟨S4x8x2048, .f32⟩
  | .hbm, ⟨39, _⟩ => ⟨S4x8x2048, .f32⟩
  | .hbm, ⟨40, _⟩ => ⟨S4x8x2048x1, .f32⟩
  | .hbm, ⟨41, _⟩ => ⟨S4x8x2048x2048, .f32⟩
  | .hbm, ⟨42, _⟩ => ⟨S4x8x2048x2048, .f32⟩
  | .hbm, ⟨43, _⟩ => ⟨S4x8x2048x2048, .f32⟩
  | .hbm, ⟨44, _⟩ => ⟨S_, .f32⟩
  | .hbm, ⟨45, _⟩ => ⟨S4x8x2048, .f32⟩
  | .hbm, ⟨46, _⟩ => ⟨S4x8x2048x1, .f32⟩
  | .hbm, ⟨47, _⟩ => ⟨S4x8x2048x2048, .f32⟩
  | .hbm, ⟨48, _⟩ => ⟨S4x8x2048x2048, .f32⟩
  | .hbm, ⟨49, _⟩ => ⟨S4x8x128x2048, .f32⟩
  | .hbm, ⟨50, _⟩ => ⟨S4x2048x8x128, .f32⟩
  | .hbm, ⟨51, _⟩ => ⟨S4x2048x1024, .f32⟩
  | .hbm, ⟨52, _⟩ => ⟨S4x2048x1024, .bf16⟩
  | _, _ => ⟨S4x2048x16x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Proj.lean ====
abbrev S4x2048x2048 : Shape := ⟨3, ![4, 2048, 2048]⟩
abbrev S2048 : Shape := ⟨1, ![2048]⟩
abbrev S2048x10248 : Shape := ⟨2, ![2048, 10248]⟩
abbrev S8 : Shape := ⟨1, ![8]⟩
abbrev S128 : Shape := ⟨1, ![128]⟩
abbrev S2048x1024 : Shape := ⟨2, ![2048, 1024]⟩
abbrev S2048x2048 : Shape := ⟨2, ![2048, 2048]⟩
abbrev S2048x4096 : Shape := ⟨2, ![2048, 4096]⟩
abbrev S2048x8 : Shape := ⟨2, ![2048, 8]⟩
abbrev S_ : Shape := ⟨0, ![]⟩
abbrev S2048x128 : Shape := ⟨2, ![2048, 128]⟩
abbrev S1x128 : Shape := ⟨2, ![1, 128]⟩
abbrev S8x128 : Shape := ⟨2, ![8, 128]⟩
abbrev S1024 : Shape := ⟨1, ![1024]⟩
abbrev S1x2048 : Shape := ⟨2, ![1, 2048]⟩
abbrev S8192x2048 : Shape := ⟨2, ![8192, 2048]⟩
abbrev S512x2048 : Shape := ⟨2, ![512, 2048]⟩
abbrev S512 : Shape := ⟨1, ![512]⟩
abbrev S512x1 : Shape := ⟨2, ![512, 1]⟩
abbrev S2048x512 : Shape := ⟨2, ![2048, 512]⟩
abbrev S1x512 : Shape := ⟨2, ![1, 512]⟩
abbrev S512x512 : Shape := ⟨2, ![512, 512]⟩
abbrev S512x128 : Shape := ⟨2, ![512, 128]⟩
abbrev S1x4096 : Shape := ⟨2, ![1, 4096]⟩
abbrev S8192x4096 : Shape := ⟨2, ![8192, 4096]⟩
abbrev S8192x128 : Shape := ⟨2, ![8192, 128]⟩
abbrev S8192x8 : Shape := ⟨2, ![8192, 8]⟩
abbrev S4x2048x16x128 : Shape := ⟨4, ![4, 2048, 16, 128]⟩
abbrev S4x2048x4096 : Shape := ⟨3, ![4, 2048, 4096]⟩
abbrev S4x512x8x128 : Shape := ⟨4, ![4, 512, 8, 128]⟩
abbrev S4x2048x8x128 : Shape := ⟨4, ![4, 2048, 8, 128]⟩
abbrev S4x2048x8 : Shape := ⟨3, ![4, 2048, 8]⟩

abbrev nBuf : Space → Nat
  | .hbm => 77
  | .vmem => 47
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x10248, .f32⟩
  | .hbm, ⟨3, _⟩ => ⟨S8, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S2048x1024, .f32⟩
  | .hbm, ⟨9, _⟩ => ⟨S2048x1024, .f32⟩
  | .hbm, ⟨10, _⟩ => ⟨S2048x2048, .f32⟩
  | .hbm, ⟨11, _⟩ => ⟨S2048x2048, .bf16⟩
  | .hbm, ⟨12, _⟩ => ⟨S2048x1024, .f32⟩
  | .hbm, ⟨13, _⟩ => ⟨S2048x1024, .f32⟩
  | .hbm, ⟨14, _⟩ => ⟨S2048x2048, .f32⟩
  | .hbm, ⟨15, _⟩ => ⟨S2048x2048, .bf16⟩
  | .hbm, ⟨16, _⟩ => ⟨S2048x1024, .f32⟩
  | .hbm, ⟨17, _⟩ => ⟨S2048x1024, .f32⟩
  | .hbm, ⟨18, _⟩ => ⟨S2048x2048, .f32⟩
  | .hbm, ⟨19, _⟩ => ⟨S2048x2048, .bf16⟩
  | .hbm, ⟨20, _⟩ => ⟨S2048x2048, .f32⟩
  | .hbm, ⟨21, _⟩ => ⟨S2048x2048, .f32⟩
  | .hbm, ⟨22, _⟩ => ⟨S2048x4096, .f32⟩
  | .hbm, ⟨23, _⟩ => ⟨S2048x4096, .bf16⟩
  | .hbm, ⟨24, _⟩ => ⟨S2048x8, .f32⟩
  | .hbm, ⟨25, _⟩ => ⟨S_, .i32⟩
  | .hbm, ⟨26, _⟩ => ⟨S_, .f32⟩
  | .hbm, ⟨27, _⟩ => ⟨S2048x128, .f32⟩
  | .hbm, ⟨28, _⟩ => ⟨S2048x128, .bf16⟩
  | .hbm, ⟨29, _⟩ => ⟨S1x128, .f32⟩
  | .hbm, ⟨30, _⟩ => ⟨S8x128, .f32⟩
  | .hbm, ⟨31, _⟩ => ⟨S1024, .f32⟩
  | .hbm, ⟨32, _⟩ => ⟨S1x128, .f32⟩
  | .hbm, ⟨33, _⟩ => ⟨S8x128, .f32⟩
  | .hbm, ⟨34, _⟩ => ⟨S1024, .f32⟩
  | .hbm, ⟨35, _⟩ => ⟨S2048, .f32⟩
  | .hbm, ⟨36, _⟩ => ⟨S1x2048, .f32⟩
  | .hbm, ⟨37, _⟩ => ⟨S1x128, .f32⟩
  | .hbm, ⟨38, _⟩ => ⟨S8x128, .f32⟩
  | .hbm, ⟨39, _⟩ => ⟨S1024, .f32⟩
  | .hbm, ⟨40, _⟩ => ⟨S1x128, .f32⟩
  | .hbm, ⟨41, _⟩ => ⟨S8x128, .f32⟩
  | .hbm, ⟨42, _⟩ => ⟨S1024, .f32⟩
  | .hbm, ⟨43, _⟩ => ⟨S2048, .f32⟩
  | .hbm, ⟨44, _⟩ => ⟨S1x2048, .f32⟩
  | .hbm, ⟨45, _⟩ => ⟨S_, .i32⟩
  | .hbm, ⟨46, _⟩ => ⟨S_, .f32⟩
  | .hbm, ⟨47, _⟩ => ⟨S128, .f32⟩
  | .hbm, ⟨48, _⟩ => ⟨S1x128, .f32⟩
  | .hbm, ⟨49, _⟩ => ⟨S8192x2048, .f32⟩
  | .hbm, ⟨50, _⟩ => ⟨S1x2048, .f32⟩
  | .hbm, ⟨51, _⟩ => ⟨S8192x2048, .bf16⟩
  | .hbm, ⟨52, _⟩ => ⟨S8192x2048, .bf16⟩
  | .hbm, ⟨53, _⟩ => ⟨S8192x2048, .f32⟩
  | .hbm, ⟨54, _⟩ => ⟨S8192x2048, .bf16⟩
  | .hbm, ⟨55, _⟩ => ⟨S_, .f32⟩
  | .hbm, ⟨56, _⟩ => ⟨S1x2048, .f32⟩
  | .hbm, ⟨57, _⟩ => ⟨S8192x2048, .f32⟩
  | .hbm, ⟨58, _⟩ => ⟨S8192x2048, .bf16⟩
  | .hbm, ⟨59, _⟩ => ⟨S_, .f32⟩
  | .hbm, ⟨60, _⟩ => ⟨S1x4096, .f32⟩
  | .hbm, ⟨61, _⟩ => ⟨S8192x4096, .bf16⟩
  | .hbm, ⟨62, _⟩ => ⟨S8192x128, .f32⟩
  | .hbm, ⟨63, _⟩ => ⟨S8192x8, .f32⟩
  | .hbm, ⟨64, _⟩ => ⟨S4x2048x16x128, .f32⟩
  | .hbm, ⟨65, _⟩ => ⟨S4x2048x16x128, .f32⟩
  | .hbm, ⟨66, _⟩ => ⟨S4x2048x16x128, .bf16⟩
  | .hbm, ⟨67, _⟩ => ⟨S4x2048x4096, .bf16⟩
  | .hbm, ⟨68, _⟩ => ⟨S4x512x8x128, .f32⟩
  | .hbm, ⟨69, _⟩ => ⟨S4x512x8x128, .f32⟩
  | .hbm, ⟨70, _⟩ => ⟨S4x2048x8x128, .f32⟩
  | .hbm, ⟨71, _⟩ => ⟨S4x2048x8x128, .f32⟩
  | .hbm, ⟨72, _⟩ => ⟨S4x2048x8, .f32⟩
  | .hbm, ⟨73, _⟩ => ⟨S4x2048x8x128, .bf16⟩
  | .hbm, ⟨74, _⟩ => ⟨S4x2048x8x128, .bf16⟩
  | .hbm, ⟨75, _⟩ => ⟨S4x2048x2048, .bf16⟩
  | .hbm, ⟨76, _⟩ => ⟨S4x2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S2048x512, .bf16⟩
  | .local _ .vmem, ⟨8, _⟩ => ⟨S2048x512, .bf16⟩
  | .local _ .vmem, ⟨9, _⟩ => ⟨S1x512, .f32⟩
  | .local _ .vmem, ⟨10, _⟩ => ⟨S1x512, .f32⟩
  | .local _ .vmem, ⟨11, _⟩ => ⟨S512x512, .bf16⟩
  | .local _ .vmem, ⟨12, _⟩ => ⟨S512x512, .bf16⟩
  | .local _ .vmem, ⟨13, _⟩ => ⟨S512x2048, .bf16⟩
  | .local _ .vmem, ⟨14, _⟩ => ⟨S512x2048, .bf16⟩
  | .local _ .vmem, ⟨15, _⟩ => ⟨S2048x512, .bf16⟩
  | .local _ .vmem, ⟨16, _⟩ => ⟨S2048x512, .bf16⟩
  | .local _ .vmem, ⟨17, _⟩ => ⟨S1x512, .f32⟩
  | .local _ .vmem, ⟨18, _⟩ => ⟨S1x512, .f32⟩
  | .local _ .vmem, ⟨19, _⟩ => ⟨S512x512, .f32⟩
  | .local _ .vmem, ⟨20, _⟩ => ⟨S512x512, .f32⟩
  | .local _ .vmem, ⟨21, _⟩ => ⟨S512x512, .bf16⟩
  | .local _ .vmem, ⟨22, _⟩ => ⟨S512x512, .bf16⟩
  | .local _ .vmem, ⟨23, _⟩ => ⟨S512x2048, .bf16⟩
  | .local _ .vmem, ⟨24, _⟩ => ⟨S512x2048, .bf16⟩
  | .local _ .vmem, ⟨25, _⟩ => ⟨S2048x512, .bf16⟩
  | .local _ .vmem, ⟨26, _⟩ => ⟨S2048x512, .bf16⟩
  | .local _ .vmem, ⟨27, _⟩ => ⟨S1x512, .f32⟩
  | .local _ .vmem, ⟨28, _⟩ => ⟨S1x512, .f32⟩
  | .local _ .vmem, ⟨29, _⟩ => ⟨S512x512, .f32⟩
  | .local _ .vmem, ⟨30, _⟩ => ⟨S512x512, .f32⟩
  | .local _ .vmem, ⟨31, _⟩ => ⟨S512x512, .bf16⟩
  | .local _ .vmem, ⟨32, _⟩ => ⟨S512x512, .bf16⟩
  | .local _ .vmem, ⟨33, _⟩ => ⟨S512x2048, .bf16⟩
  | .local _ .vmem, ⟨34, _⟩ => ⟨S512x2048, .bf16⟩
  | .local _ .vmem, ⟨35, _⟩ => ⟨S2048x512, .bf16⟩
  | .local _ .vmem, ⟨36, _⟩ => ⟨S2048x512, .bf16⟩
  | .local _ .vmem, ⟨37, _⟩ => ⟨S1x512, .f32⟩
  | .local _ .vmem, ⟨38, _⟩ => ⟨S1x512, .f32⟩
  | .local _ .vmem, ⟨39, _⟩ => ⟨S512x512, .bf16⟩
  | .local _ .vmem, ⟨40, _⟩ => ⟨S512x512, .bf16⟩
  | .local _ .vmem, ⟨41, _⟩ => ⟨S512x2048, .bf16⟩
  | .local _ .vmem, ⟨42, _⟩ => ⟨S512x2048, .bf16⟩
  | .local _ .vmem, ⟨43, _⟩ => ⟨S2048x128, .bf16⟩
  | .local _ .vmem, ⟨44, _⟩ => ⟨S1x128, .f32⟩
  | .local _ .vmem, ⟨45, _⟩ => ⟨S512x128, .f32⟩
  | .local _ .vmem, ⟨46, _⟩ => ⟨S512x128, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_0 : Ref sig .tc := ⟨.hbm, 45, rfl⟩
abbrev main_call1_v0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41_0 : Ref sig .tc := ⟨.hbm, 53, rfl⟩
abbrev main_v41_1 : Ref sig .tc := ⟨.hbm, 54, rfl⟩
abbrev main_cst : Ref sig .tc := ⟨.hbm, 55, rfl⟩
abbrev main_v42 : Ref sig .tc := ⟨.hbm, 56, rfl⟩
abbrev main_v43_0 : Ref sig .tc := ⟨.hbm, 57, rfl⟩
abbrev main_v43_1 : Ref sig .tc := ⟨.hbm, 58, rfl⟩
abbrev main_cst_1 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg4_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_stg3_0 : Ref sig .tc := ⟨.vmem, 39, rfl⟩
abbrev cc4_stg3_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg3_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem3_1 : DmaSem sig := 30
abbrev cc3_sem4_0 : DmaSem sig := 31
abbrev cc3_sem4_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38
abbrev cc4_sem3_0 : DmaSem sig := 39
abbrev cc4_sem3_1 : DmaSem sig := 40
abbrev cc5_sem0_0 : DmaSem sig := 41
abbrev cc5_sem0_1 : DmaSem sig := 42
abbrev cc5_sem1_0 : DmaSem sig := 43
abbrev cc5_sem2_0 : DmaSem sig := 44
abbrev cc5_sem3_0 : DmaSem sig := 45
abbrev cc5_sem3_1 : DmaSem sig := 46

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![16, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![16, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S512x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S512x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨2, ![16, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2048x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S512x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![16, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S2048x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, true]

abbrev stage5_3 : Fin 2 → Memref sig .tc .vmem S512x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]
-- ==== ProjRefIdeal.lean ====
abbrev S4x2048x2048 : Shape := ⟨3, ![4, 2048, 2048]⟩
abbrev S2048 : Shape := ⟨1, ![2048]⟩
abbrev S2048x10248 : Shape := ⟨2, ![2048, 10248]⟩
abbrev S8 : Shape := ⟨1, ![8]⟩
abbrev S128 : Shape := ⟨1, ![128]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x10248 : Shape := ⟨3, ![4, 2048, 10248]⟩
abbrev S4x2048x1024 : Shape := ⟨3, ![4, 2048, 1024]⟩
abbrev S4x2048x8 : Shape := ⟨3, ![4, 2048, 8]⟩
abbrev S4x2048x8x128 : Shape := ⟨4, ![4, 2048, 8, 128]⟩
abbrev S4x2048x8x1 : Shape := ⟨4, ![4, 2048, 8, 1]⟩
abbrev S1x1x1x128 : Shape := ⟨4, ![1, 1, 1, 128]⟩
abbrev S1x1x8 : Shape := ⟨3, ![1, 1, 8]⟩
abbrev S4x512x8x128 : Shape := ⟨4, ![4, 512, 8, 128]⟩

abbrev nBuf : Space → Nat
  | .hbm => 145
  | .vmem => 0
  | .smem => 0
  | _ => 0

abbrev hbmTy0_0 (i : Nat) : BufTy := match i % 128 with
  | 0 => ⟨S4x2048x2048, .f32⟩
  | 1 => ⟨S2048, .f32⟩
  | 2 => ⟨S2048x10248, .f32⟩
  | 3 => ⟨S8, .f32⟩
  | 4 => ⟨S128, .f32⟩
  | 5 => ⟨S128, .f32⟩
  | 6 => ⟨S128, .f32⟩
  | 7 => ⟨S128, .f32⟩
  | 8 => ⟨S4x2048x2048, .f32⟩
  | 9 => ⟨S_, .f32⟩
  | 10 => ⟨S4x2048, .f32⟩
  | 11 => ⟨S4x2048x1, .f32⟩
  | 12 => ⟨S_, .f32⟩
  | 13 => ⟨S4x2048x1, .f32⟩
  | 14 => ⟨S4x2048x1, .f32⟩
  | 15 => ⟨S_, .f32⟩
  | 16 => ⟨S4x2048x1, .f32⟩
  | 17 => ⟨S4x2048x1, .f32⟩
  | 18 => ⟨S4x2048x1, .f32⟩
  | 19 => ⟨S4x2048x2048, .f32⟩
  | 20 => ⟨S4x2048x2048, .f32⟩
  | 21 => ⟨S1x1x2048, .f32⟩
  | 22 => ⟨S4x2048x2048, .f32⟩
  | 23 => ⟨S4x2048x2048, .f32⟩
  | 24 => ⟨S4x2048x10248, .f32⟩
  | 25 => ⟨S4x2048x1024, .f32⟩
  | 26 => ⟨S4x2048x1024, .f32⟩
  | 27 => ⟨S4x2048x1024, .f32⟩
  | 28 => ⟨S4x2048x1024, .f32⟩
  | 29 => ⟨S4x2048x1024, .f32⟩
  | 30 => ⟨S4x2048x1024, .f32⟩
  | 31 => ⟨S4x2048x8, .f32⟩
  | 32 => ⟨S4x2048x2048, .f32⟩
  | 33 => ⟨S4x2048x2048, .f32⟩
  | 34 => ⟨S4x2048x8x128, .f32⟩
  | 35 => ⟨S4x2048x8x128, .f32⟩
  | 36 => ⟨S_, .f32⟩
  | 37 => ⟨S4x2048x8, .f32⟩
  | 38 => ⟨S4x2048x8x1, .f32⟩
  | 39 => ⟨S_, .f32⟩
  | 40 => ⟨S4x2048x8x1, .f32⟩
  | 41 => ⟨S4x2048x8x1, .f32⟩
  | 42 => ⟨S_, .f32⟩
  | 43 => ⟨S4x2048x8x1, .f32⟩
  | 44 => ⟨S4x2048x8x1, .f32⟩
  | 45 => ⟨S4x2048x8x1, .f32⟩
  | 46 => ⟨S4x2048x8x128, .f32⟩
  | 47 => ⟨S4x2048x8x128, .f32⟩
  | 48 => ⟨S1x1x1x128, .f32⟩
  | 49 => ⟨S4x2048x8x128, .f32⟩
  | 50 => ⟨S4x2048x8x128, .f32⟩
  | 51 => ⟨S4x2048x8x128, .f32⟩
  | 52 => ⟨S4x2048x8x128, .f32⟩
  | 53 => ⟨S_, .f32⟩
  | 54 => ⟨S4x2048x8, .f32⟩
  | 55 => ⟨S4x2048x8x1, .f32⟩
  | 56 => ⟨S_, .f32⟩
  | 57 => ⟨S4x2048x8x1, .f32⟩
  | 58 => ⟨S4x2048x8x1, .f32⟩
  | 59 => ⟨S_, .f32⟩
  | 60 => ⟨S4x2048x8x1, .f32⟩
  | 61 => ⟨S4x2048x8x1, .f32⟩
  | 62 => ⟨S4x2048x8x1, .f32⟩
  | 63 => ⟨S4x2048x8x128, .f32⟩
  | 64 => ⟨S4x2048x8x128, .f32⟩
  | 65 => ⟨S1x1x1x128, .f32⟩
  | 66 => ⟨S4x2048x8x128, .f32⟩
  | 67 => ⟨S4x2048x8x128, .f32⟩
  | 68 => ⟨S4x2048x8x128, .f32⟩
  | 69 => ⟨S4x2048x8x128, .f32⟩
  | 70 => ⟨S_, .f32⟩
  | 71 => ⟨S4x2048x8, .f32⟩
  | 72 => ⟨S4x2048x8x1, .f32⟩
  | 73 => ⟨S_, .f32⟩
  | 74 => ⟨S4x2048x8x1, .f32⟩
  | 75 => ⟨S4x2048x8x1, .f32⟩
  | 76 => ⟨S_, .f32⟩
  | 77 => ⟨S4x2048x8x1, .f32⟩
  | 78 => ⟨S4x2048x8x1, .f32⟩
  | 79 => ⟨S4x2048x8x1, .f32⟩
  | 80 => ⟨S4x2048x8x128, .f32⟩
  | 81 => ⟨S4x2048x8x128, .f32⟩
  | 82 => ⟨S1x1x1x128, .f32⟩
  | 83 => ⟨S4x2048x8x128, .f32⟩
  | 84 => ⟨S4x2048x8x128, .f32⟩
  | 85 => ⟨S4x2048x8x128, .f32⟩
  | 86 => ⟨S4x2048x8x128, .f32⟩
  | 87 => ⟨S_, .f32⟩
  | 88 => ⟨S4x2048x8, .f32⟩
  | 89 => ⟨S4x2048x8x1, .f32⟩
  | 90 => ⟨S_, .f32⟩
  | 91 => ⟨S4x2048x8x1, .f32⟩
  | 92 => ⟨S4x2048x8x1, .f32⟩
  | 93 => ⟨S_, .f32⟩
  | 94 => ⟨S4x2048x8x1, .f32⟩
  | 95 => ⟨S4x2048x8x1, .f32⟩
  | 96 => ⟨S4x2048x8x1, .f32⟩
  | 97 => ⟨S4x2048x8x128, .f32⟩
  | 98 => ⟨S4x2048x8x128, .f32⟩
  | 99 => ⟨S1x1x1x128, .f32⟩
  | 100 => ⟨S4x2048x8x128, .f32⟩
  | 101 => ⟨S4x2048x8x128, .f32⟩
  | 102 => ⟨S1x1x8, .f32⟩
  | 103 => ⟨S4x2048x8, .f32⟩
  | 104 => ⟨S4x2048x8, .f32⟩
  | 105 => ⟨S4x2048x8, .f32⟩
  | 106 => ⟨S_, .f32⟩
  | 107 => ⟨S4x2048x8, .f32⟩
  | 108 => ⟨S4x2048x8, .f32⟩
  | 109 => ⟨S4x2048x8, .f32⟩
  | 110 => ⟨S4x2048x8, .f32⟩
  | 111 => ⟨S4x2048x8, .i1⟩
  | 112 => ⟨S4x2048x8, .f32⟩
  | 113 => ⟨S4x2048x8, .f32⟩
  | 114 => ⟨S4x2048x8, .f32⟩
  | 115 => ⟨S4x2048x8, .f32⟩
  | 116 => ⟨S4x2048x8, .f32⟩
  | 117 => ⟨S4x2048x8, .f32⟩
  | 118 => ⟨S4x2048x8, .f32⟩
  | 119 => ⟨S4x2048x8, .f32⟩
  | 120 => ⟨S4x2048x8, .f32⟩
  | 121 => ⟨S4x2048x8x128, .f32⟩
  | 122 => ⟨S4x2048x8x128, .f32⟩
  | 123 => ⟨S4x2048x2048, .f32⟩
  | 124 => ⟨S4x2048x2048, .f32⟩
  | 125 => ⟨S_, .f32⟩
  | 126 => ⟨S4x2048x2048, .f32⟩
  | 127 => ⟨S4x2048x2048, .f32⟩
  | _ => ⟨S4x2048x2048, .f32⟩

abbrev hbmTy0_1 (i : Nat) : BufTy := match i % 128 with
  | 0 => ⟨S_, .f32⟩
  | 1 => ⟨S4x2048x2048, .f32⟩
  | 2 => ⟨S4x2048x2048, .f32⟩
  | 3 => ⟨S4x2048x2048, .f32⟩
  | 4 => ⟨S4x2048x2048, .f32⟩
  | 5 => ⟨S_, .f32⟩
  | 6 => ⟨S4x2048x2048, .f32⟩
  | 7 => ⟨S4x2048x2048, .f32⟩
  | 8 => ⟨S_, .f32⟩
  | 9 => ⟨S4x2048x2048, .f32⟩
  | 10 => ⟨S4x2048x2048, .f32⟩
  | 11 => ⟨S4x512x8x128, .f32⟩
  | 12 => ⟨S4x512x8x128, .f32⟩
  | 13 => ⟨S4x2048x8x128, .bf16⟩
  | 14 => ⟨S4x2048x8x128, .bf16⟩
  | 15 => ⟨S4x2048x2048, .bf16⟩
  | 16 => ⟨S4x2048x2048, .bf16⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_11 : Ref sig .tc := ⟨.hbm, 87, rfl⟩
abbrev main_v67 : Ref sig .tc := ⟨.hbm, 88, rfl⟩
abbrev main_v68 : Ref sig .tc := ⟨.hbm, 89, rfl⟩
abbrev main_cst_12 : Ref sig .tc := ⟨.hbm, 90, rfl⟩
abbrev main_v69 : Ref sig .tc := ⟨.hbm, 91, rfl⟩
abbrev main_v70 : Ref sig .tc := ⟨.hbm, 92, rfl⟩
abbrev main_cst_13 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_call0_v0 : Ref sig .tc := ⟨.hbm, 105, rfl⟩
abbrev main_call0_call0_cst : Ref sig .tc := ⟨.hbm, 106, rfl⟩
abbrev main_call0_call0_v0 : Ref sig .tc := ⟨.hbm, 107, rfl⟩
abbrev main_call0_call0_v1 : Ref sig .tc := ⟨.hbm, 108, rfl⟩
abbrev main_call0_call0_v2 : Ref sig .tc := ⟨.hbm, 109, rfl⟩
abbrev main_call0_call0_v3 : Ref sig .tc := ⟨.hbm, 110, rfl⟩
abbrev main_call0_call0_v4 : Ref sig .tc := ⟨.hbm, 111, rfl⟩
abbrev main_call0_call0_v5 : Ref sig .tc := ⟨.hbm, 112, rfl⟩
abbrev main_call0_call0_v6 : Ref sig .tc := ⟨.hbm, 113, rfl⟩
abbrev main_call0_call0_v7 : Ref sig .tc := ⟨.hbm, 114, rfl⟩
abbrev main_call0_call0_v8 : Ref sig .tc := ⟨.hbm, 115, rfl⟩
abbrev main_call0_call0_v9 : Ref sig .tc := ⟨.hbm, 116, rfl⟩
abbrev main_call0_call0_v10 : Ref sig .tc := ⟨.hbm, 117, rfl⟩
abbrev main_call0_call0_v11 : Ref sig .tc := ⟨.hbm, 118, rfl⟩
abbrev main_call0_v1 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_14 : Ref sig .tc := ⟨.hbm, 125, rfl⟩
abbrev main_v87 : Ref sig .tc := ⟨.hbm, 126, rfl⟩
abbrev main_v88 : Ref sig .tc := ⟨.hbm, 127, rfl⟩
abbrev main_cst_15 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_16 : Ref sig .tc := ⟨.hbm, 133, rfl⟩
abbrev main_v93 : Ref sig .tc := ⟨.hbm, 134, rfl⟩
abbrev main_v94 : Ref sig .tc := ⟨.hbm, 135, rfl⟩
abbrev main_cst_17 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩

abbrev nD : Nat := 1
abbrev τ : Topo := Topo.v7x

variable {F : FTy → Type} [FloatOps F]
-- ==== ProjS.lean ====
abbrev S8x16x2048 : Shape := ⟨3, ![8, 16, 2048]⟩
abbrev S2048 : Shape := ⟨1, ![2048]⟩
abbrev S2048x10248 : Shape := ⟨2, ![2048, 10248]⟩
abbrev S8 : Shape := ⟨1, ![8]⟩
abbrev S128 : Shape := ⟨1, ![128]⟩
abbrev S2048x1024 : Shape := ⟨2, ![2048, 1024]⟩
abbrev S2048x2048 : Shape := ⟨2, ![2048, 2048]⟩
abbrev S2048x4096 : Shape := ⟨2, ![2048, 4096]⟩
abbrev S2048x8 : Shape := ⟨2, ![2048, 8]⟩
abbrev S_ : Shape := ⟨0, ![]⟩
abbrev S2048x128 : Shape := ⟨2, ![2048, 128]⟩
abbrev S1x128 : Shape := ⟨2, ![1, 128]⟩
abbrev S8x128 : Shape := ⟨2, ![8, 128]⟩
abbrev S1024 : Shape := ⟨1, ![1024]⟩
abbrev S1x2048 : Shape := ⟨2, ![1, 2048]⟩
abbrev S128x2048 : Shape := ⟨2, ![128, 2048]⟩
abbrev S128x1 : Shape := ⟨2, ![128, 1]⟩
abbrev S2048x512 : Shape := ⟨2, ![2048, 512]⟩
abbrev S1x512 : Shape := ⟨2, ![1, 512]⟩
abbrev S128x512 : Shape := ⟨2, ![128, 512]⟩
abbrev S128x128 : Shape := ⟨2, ![128, 128]⟩
abbrev S1x4096 : Shape := ⟨2, ![1, 4096]⟩
abbrev S128x4096 : Shape := ⟨2, ![128, 4096]⟩
abbrev S128x8 : Shape := ⟨2, ![128, 8]⟩
abbrev S8x16x16x128 : Shape := ⟨4, ![8, 16, 16, 128]⟩
abbrev S8x16x4096 : Shape := ⟨3, ![8, 16, 4096]⟩
abbrev S8x16x8x128 : Shape := ⟨4, ![8, 16, 8, 128]⟩
abbrev S8x16x8 : Shape := ⟨3, ![8, 16, 8]⟩

abbrev nBuf : Space → Nat
  | .hbm => 77
  | .vmem => 39
  | .smem => 0
  | _ => 0

abbrev bufTy : (tb : Table) → Fin (tcTables nBuf tb) → BufTy
  | .hbm, ⟨0, _⟩ => ⟨S8x16x2048, .f32⟩
  | .hbm, ⟨1, _⟩ => ⟨S2048, .f32⟩
  | .hbm, ⟨2, _⟩ => ⟨S2048x10248, .f32⟩
  | .hbm, ⟨3, _⟩ => ⟨S8, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S2048x1024, .f32⟩
  | .hbm, ⟨9, _⟩ => ⟨S2048x1024, .f32⟩
  | .hbm, ⟨10, _⟩ => ⟨S2048x2048, .f32⟩
  | .hbm, ⟨11, _⟩ => ⟨S2048x2048, .bf16⟩
  | .hbm, ⟨12, _⟩ => ⟨S2048x1024, .f32⟩
  | .hbm, ⟨13, _⟩ => ⟨S2048x1024, .f32⟩
  | .hbm, ⟨14, _⟩ => ⟨S2048x2048, .f32⟩
  | .hbm, ⟨15, _⟩ => ⟨S2048x2048, .bf16⟩
  | .hbm, ⟨16, _⟩ => ⟨S2048x1024, .f32⟩
  | .hbm, ⟨17, _⟩ => ⟨S2048x1024, .f32⟩
  | .hbm, ⟨18, _⟩ => ⟨S2048x2048, .f32⟩
  | .hbm, ⟨19, _⟩ => ⟨S2048x2048, .bf16⟩
  | .hbm, ⟨20, _⟩ => ⟨S2048x2048, .f32⟩
  | .hbm, ⟨21, _⟩ => ⟨S2048x2048, .f32⟩
  | .hbm, ⟨22, _⟩ => ⟨S2048x4096, .f32⟩
  | .hbm, ⟨23, _⟩ => ⟨S2048x4096, .bf16⟩
  | .hbm, ⟨24, _⟩ => ⟨S2048x8, .f32⟩
  | .hbm, ⟨25, _⟩ => ⟨S_, .i32⟩
  | .hbm, ⟨26, _⟩ => ⟨S_, .f32⟩
  | .hbm, ⟨27, _⟩ => ⟨S2048x128, .f32⟩
  | .hbm, ⟨28, _⟩ => ⟨S2048x128, .bf16⟩
  | .hbm, ⟨29, _⟩ => ⟨S1x128, .f32⟩
  | .hbm, ⟨30, _⟩ => ⟨S8x128, .f32⟩
  | .hbm, ⟨31, _⟩ => ⟨S1024, .f32⟩
  | .hbm, ⟨32, _⟩ => ⟨S1x128, .f32⟩
  | .hbm, ⟨33, _⟩ => ⟨S8x128, .f32⟩
  | .hbm, ⟨34, _⟩ => ⟨S1024, .f32⟩
  | .hbm, ⟨35, _⟩ => ⟨S2048, .f32⟩
  | .hbm, ⟨36, _⟩ => ⟨S1x2048, .f32⟩
  | .hbm, ⟨37, _⟩ => ⟨S1x128, .f32⟩
  | .hbm, ⟨38, _⟩ => ⟨S8x128, .f32⟩
  | .hbm, ⟨39, _⟩ => ⟨S1024, .f32⟩
  | .hbm, ⟨40, _⟩ => ⟨S1x128, .f32⟩
  | .hbm, ⟨41, _⟩ => ⟨S8x128, .f32⟩
  | .hbm, ⟨42, _⟩ => ⟨S1024, .f32⟩
  | .hbm, ⟨43, _⟩ => ⟨S2048, .f32⟩
  | .hbm, ⟨44, _⟩ => ⟨S1x2048, .f32⟩
  | .hbm, ⟨45, _⟩ => ⟨S_, .i32⟩
  | .hbm, ⟨46, _⟩ => ⟨S_, .f32⟩
  | .hbm, ⟨47, _⟩ => ⟨S128, .f32⟩
  | .hbm, ⟨48, _⟩ => ⟨S1x128, .f32⟩
  | .hbm, ⟨49, _⟩ => ⟨S128x2048, .f32⟩
  | .hbm, ⟨50, _⟩ => ⟨S1x2048, .f32⟩
  | .hbm, ⟨51, _⟩ => ⟨S128x2048, .bf16⟩
  | .hbm, ⟨52, _⟩ => ⟨S128x2048, .bf16⟩
  | .hbm, ⟨53, _⟩ => ⟨S128x2048, .f32⟩
  | .hbm, ⟨54, _⟩ => ⟨S128x2048, .bf16⟩
  | .hbm, ⟨55, _⟩ => ⟨S_, .f32⟩
  | .hbm, ⟨56, _⟩ => ⟨S1x2048, .f32⟩
  | .hbm, ⟨57, _⟩ => ⟨S128x2048, .f32⟩
  | .hbm, ⟨58, _⟩ => ⟨S128x2048, .bf16⟩
  | .hbm, ⟨59, _⟩ => ⟨S_, .f32⟩
  | .hbm, ⟨60, _⟩ => ⟨S1x4096, .f32⟩
  | .hbm, ⟨61, _⟩ => ⟨S128x4096, .bf16⟩
  | .hbm, ⟨62, _⟩ => ⟨S128x128, .f32⟩
  | .hbm, ⟨63, _⟩ => ⟨S128x8, .f32⟩
  | .hbm, ⟨64, _⟩ => ⟨S8x16x16x128, .f32⟩
  | .hbm, ⟨65, _⟩ => ⟨S8x16x16x128, .f32⟩
  | .hbm, ⟨66, _⟩ => ⟨S8x16x16x128, .bf16⟩
  | .hbm, ⟨67, _⟩ => ⟨S8x16x4096, .bf16⟩
  | .hbm, ⟨68, _⟩ => ⟨S8x16x8x128, .f32⟩
  | .hbm, ⟨69, _⟩ => ⟨S8x16x8x128, .f32⟩
  | .hbm, ⟨70, _⟩ => ⟨S8x16x8x128, .f32⟩
  | .hbm, ⟨71, _⟩ => ⟨S8x16x8x128, .f32⟩
  | .hbm, ⟨72, _⟩ => ⟨S8x16x8, .f32⟩
  | .hbm, ⟨73, _⟩ => ⟨S8x16x8x128, .bf16⟩
  | .hbm, ⟨74, _⟩ => ⟨S8x16x8x128, .bf16⟩
  | .hbm, ⟨75, _⟩ => ⟨S8x16x2048, .bf16⟩
  | .hbm, ⟨76, _⟩ => ⟨S8x16x2048, .bf16⟩
  | .local _ .vmem, ⟨0, _⟩ => ⟨S128x2048, .f32⟩
  | .local _ .vmem, ⟨1, _⟩ => ⟨S1x2048, .f32⟩
  | .local _ .vmem, ⟨2, _⟩ => ⟨S128x2048, .bf16⟩
  | .local _ .vmem, ⟨3, _⟩ => ⟨S128x2048, .bf16⟩
  | .local _ .vmem, ⟨4, _⟩ => ⟨S2048x512, .bf16⟩
  | .local _ .vmem, ⟨5, _⟩ => ⟨S2048x512, .bf16⟩
  | .local _ .vmem, ⟨6, _⟩ => ⟨S1x512, .f32⟩
  | .local _ .vmem, ⟨7, _⟩ => ⟨S1x512, .f32⟩
  | .local _ .vmem, ⟨8, _⟩ => ⟨S128x512, .bf16⟩
  | .local _ .vmem, ⟨9, _⟩ => ⟨S128x512, .bf16⟩
  | .local _ .vmem, ⟨10, _⟩ => ⟨S128x2048, .bf16⟩
  | .local _ .vmem, ⟨11, _⟩ => ⟨S2048x512, .bf16⟩
  | .local _ .vmem, ⟨12, _⟩ => ⟨S2048x512, .bf16⟩
  | .local _ .vmem, ⟨13, _⟩ => ⟨S1x512, .f32⟩
  | .local _ .vmem, ⟨14, _⟩ => ⟨S1x512, .f32⟩
  | .local _ .vmem, ⟨15, _⟩ => ⟨S128x512, .f32⟩
  | .local _ .vmem, ⟨16, _⟩ => ⟨S128x512, .f32⟩
  | .local _ .vmem, ⟨17, _⟩ => ⟨S128x512, .bf16⟩
  | .local _ .vmem, ⟨18, _⟩ => ⟨S128x512, .bf16⟩
  | .local _ .vmem, ⟨19, _⟩ => ⟨S128x2048, .bf16⟩
  | .local _ .vmem, ⟨20, _⟩ => ⟨S2048x512, .bf16⟩
  | .local _ .vmem, ⟨21, _⟩ => ⟨S2048x512, .bf16⟩
  | .local _ .vmem, ⟨22, _⟩ => ⟨S1x512, .f32⟩
  | .local _ .vmem, ⟨23, _⟩ => ⟨S1x512, .f32⟩
  | .local _ .vmem, ⟨24, _⟩ => ⟨S128x512, .f32⟩
  | .local _ .vmem, ⟨25, _⟩ => ⟨S128x512, .f32⟩
  | .local _ .vmem, ⟨26, _⟩ => ⟨S128x512, .bf16⟩
  | .local _ .vmem, ⟨27, _⟩ => ⟨S128x512, .bf16⟩
  | .local _ .vmem, ⟨28, _⟩ => ⟨S128x2048, .bf16⟩
  | .local _ .vmem, ⟨29, _⟩ => ⟨S2048x512, .bf16⟩
  | .local _ .vmem, ⟨30, _⟩ => ⟨S2048x512, .bf16⟩
  | .local _ .vmem, ⟨31, _⟩ => ⟨S1x512, .f32⟩
  | .local _ .vmem, ⟨32, _⟩ => ⟨S1x512, .f32⟩
  | .local _ .vmem, ⟨33, _⟩ => ⟨S128x512, .bf16⟩
  | .local _ .vmem, ⟨34, _⟩ => ⟨S128x512, .bf16⟩
  | .local _ .vmem, ⟨35, _⟩ => ⟨S128x2048, .bf16⟩
  | .local _ .vmem, ⟨36, _⟩ => ⟨S2048x128, .bf16⟩
  | .local _ .vmem, ⟨37, _⟩ => ⟨S1x128, .f32⟩
  | .local _ .vmem, ⟨38, _⟩ => ⟨S128x128, .f32⟩
  | _, _ => ⟨S8x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_0 : Ref sig .tc := ⟨.hbm, 45, rfl⟩
abbrev main_call1_v0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41_0 : Ref sig .tc := ⟨.hbm, 53, rfl⟩
abbrev main_v41_1 : Ref sig .tc := ⟨.hbm, 54, rfl⟩
abbrev main_cst : Ref sig .tc := ⟨.hbm, 55, rfl⟩
abbrev main_v42 : Ref sig .tc := ⟨.hbm, 56, rfl⟩
abbrev main_v43_0 : Ref sig .tc := ⟨.hbm, 57, rfl⟩
abbrev main_v43_1 : Ref sig .tc := ⟨.hbm, 58, rfl⟩
abbrev main_cst_1 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16
abbrev cc2_sem4_0 : DmaSem sig := 17
abbrev cc2_sem4_1 : DmaSem sig := 18
abbrev cc3_sem0_0 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem1_0 : DmaSem sig := 36
abbrev cc5_sem2_0 : DmaSem sig := 37
abbrev cc5_sem3_0 : DmaSem sig := 38

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S128x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S128x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![1, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S128x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S128x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S128x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![1, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S128x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S128x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S128x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨2, ![1, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S128x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S2048x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S128x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![1, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S128x2048 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 1 → Memref sig .tc .vmem S2048x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true, true]
-- ==== ProjSRefIdeal.lean ====
abbrev S8x16x2048 : Shape := ⟨3, ![8, 16, 2048]⟩
abbrev S2048 : Shape := ⟨1, ![2048]⟩
abbrev S2048x10248 : Shape := ⟨2, ![2048, 10248]⟩
abbrev S8 : Shape := ⟨1, ![8]⟩
abbrev S128 : Shape := ⟨1, ![128]⟩
abbrev S_ : Shape := ⟨0, ![]⟩
abbrev S8x16 : Shape := ⟨2, ![8, 16]⟩
abbrev S8x16x1 : Shape := ⟨3, ![8, 16, 1]⟩
abbrev S1x1x2048 : Shape := ⟨3, ![1, 1, 2048]⟩
abbrev S8x16x10248 : Shape := ⟨3, ![8, 16, 10248]⟩
abbrev S8x16x1024 : Shape := ⟨3, ![8, 16, 1024]⟩
abbrev S8x16x8 : Shape := ⟨3, ![8, 16, 8]⟩
abbrev S8x16x8x128 : Shape := ⟨4, ![8, 16, 8, 128]⟩
abbrev S8x16x8x1 : Shape := ⟨4, ![8, 16, 8, 1]⟩
abbrev S1x1x1x128 : Shape := ⟨4, ![1, 1, 1, 128]⟩
abbrev S1x1x8 : Shape := ⟨3, ![1, 1, 8]⟩

abbrev nBuf : Space → Nat
  | .hbm => 143
  | .vmem => 0
  | .smem => 0
  | _ => 0

abbrev hbmTy0_0 (i : Nat) : BufTy := match i % 128 with
  | 0 => ⟨S8x16x2048, .f32⟩
  | 1 => ⟨S2048, .f32⟩
  | 2 => ⟨S2048x10248, .f32⟩
  | 3 => ⟨S8, .f32⟩
  | 4 => ⟨S128, .f32⟩
  | 5 => ⟨S128, .f32⟩
  | 6 => ⟨S128, .f32⟩
  | 7 => ⟨S128, .f32⟩
  | 8 => ⟨S8x16x2048, .f32⟩
  | 9 => ⟨S_, .f32⟩
  | 10 => ⟨S8x16, .f32⟩
  | 11 => ⟨S8x16x1, .f32⟩
  | 12 => ⟨S_, .f32⟩
  | 13 => ⟨S8x16x1, .f32⟩
  | 14 => ⟨S8x16x1, .f32⟩
  | 15 => ⟨S_, .f32⟩
  | 16 => ⟨S8x16x1, .f32⟩
  | 17 => ⟨S8x16x1, .f32⟩
  | 18 => ⟨S8x16x1, .f32⟩
  | 19 => ⟨S8x16x2048, .f32⟩
  | 20 => ⟨S8x16x2048, .f32⟩
  | 21 => ⟨S1x1x2048, .f32⟩
  | 22 => ⟨S8x16x2048, .f32⟩
  | 23 => ⟨S8x16x2048, .f32⟩
  | 24 => ⟨S8x16x10248, .f32⟩
  | 25 => ⟨S8x16x1024, .f32⟩
  | 26 => ⟨S8x16x1024, .f32⟩
  | 27 => ⟨S8x16x1024, .f32⟩
  | 28 => ⟨S8x16x1024, .f32⟩
  | 29 => ⟨S8x16x1024, .f32⟩
  | 30 => ⟨S8x16x1024, .f32⟩
  | 31 => ⟨S8x16x8, .f32⟩
  | 32 => ⟨S8x16x2048, .f32⟩
  | 33 => ⟨S8x16x2048, .f32⟩
  | 34 => ⟨S8x16x8x128, .f32⟩
  | 35 => ⟨S8x16x8x128, .f32⟩
  | 36 => ⟨S_, .f32⟩
  | 37 => ⟨S8x16x8, .f32⟩
  | 38 => ⟨S8x16x8x1, .f32⟩
  | 39 => ⟨S_, .f32⟩
  | 40 => ⟨S8x16x8x1, .f32⟩
  | 41 => ⟨S8x16x8x1, .f32⟩
  | 42 => ⟨S_, .f32⟩
  | 43 => ⟨S8x16x8x1, .f32⟩
  | 44 => ⟨S8x16x8x1, .f32⟩
  | 45 => ⟨S8x16x8x1, .f32⟩
  | 46 => ⟨S8x16x8x128, .f32⟩
  | 47 => ⟨S8x16x8x128, .f32⟩
  | 48 => ⟨S1x1x1x128, .f32⟩
  | 49 => ⟨S8x16x8x128, .f32⟩
  | 50 => ⟨S8x16x8x128, .f32⟩
  | 51 => ⟨S8x16x8x128, .f32⟩
  | 52 => ⟨S8x16x8x128, .f32⟩
  | 53 => ⟨S_, .f32⟩
  | 54 => ⟨S8x16x8, .f32⟩
  | 55 => ⟨S8x16x8x1, .f32⟩
  | 56 => ⟨S_, .f32⟩
  | 57 => ⟨S8x16x8x1, .f32⟩
  | 58 => ⟨S8x16x8x1, .f32⟩
  | 59 => ⟨S_, .f32⟩
  | 60 => ⟨S8x16x8x1, .f32⟩
  | 61 => ⟨S8x16x8x1, .f32⟩
  | 62 => ⟨S8x16x8x1, .f32⟩
  | 63 => ⟨S8x16x8x128, .f32⟩
  | 64 => ⟨S8x16x8x128, .f32⟩
  | 65 => ⟨S1x1x1x128, .f32⟩
  | 66 => ⟨S8x16x8x128, .f32⟩
  | 67 => ⟨S8x16x8x128, .f32⟩
  | 68 => ⟨S8x16x8x128, .f32⟩
  | 69 => ⟨S8x16x8x128, .f32⟩
  | 70 => ⟨S_, .f32⟩
  | 71 => ⟨S8x16x8, .f32⟩
  | 72 => ⟨S8x16x8x1, .f32⟩
  | 73 => ⟨S_, .f32⟩
  | 74 => ⟨S8x16x8x1, .f32⟩
  | 75 => ⟨S8x16x8x1, .f32⟩
  | 76 => ⟨S_, .f32⟩
  | 77 => ⟨S8x16x8x1, .f32⟩
  | 78 => ⟨S8x16x8x1, .f32⟩
  | 79 => ⟨S8x16x8x1, .f32⟩
  | 80 => ⟨S8x16x8x128, .f32⟩
  | 81 => ⟨S8x16x8x128, .f32⟩
  | 82 => ⟨S1x1x1x128, .f32⟩
  | 83 => ⟨S8x16x8x128, .f32⟩
  | 84 => ⟨S8x16x8x128, .f32⟩
  | 85 => ⟨S8x16x8x128, .f32⟩
  | 86 => ⟨S8x16x8x128, .f32⟩
  | 87 => ⟨S_, .f32⟩
  | 88 => ⟨S8x16x8, .f32⟩
  | 89 => ⟨S8x16x8x1, .f32⟩
  | 90 => ⟨S_, .f32⟩
  | 91 => ⟨S8x16x8x1, .f32⟩
  | 92 => ⟨S8x16x8x1, .f32⟩
  | 93 => ⟨S_, .f32⟩
  | 94 => ⟨S8x16x8x1, .f32⟩
  | 95 => ⟨S8x16x8x1, .f32⟩
  | 96 => ⟨S8x16x8x1, .f32⟩
  | 97 => ⟨S8x16x8x128, .f32⟩
  | 98 => ⟨S8x16x8x128, .f32⟩
  | 99 => ⟨S1x1x1x128, .f32⟩
  | 100 => ⟨S8x16x8x128, .f32⟩
  | 101 => ⟨S8x16x8x128, .f32⟩
  | 102 => ⟨S1x1x8, .f32⟩
  | 103 => ⟨S8x16x8, .f32⟩
  | 104 => ⟨S8x16x8, .f32⟩
  | 105 => ⟨S8x16x8, .f32⟩
  | 106 => ⟨S_, .f32⟩
  | 107 => ⟨S8x16x8, .f32⟩
  | 108 => ⟨S8x16x8, .f32⟩
  | 109 => ⟨S8x16x8, .f32⟩
  | 110 => ⟨S8x16x8, .f32⟩
  | 111 => ⟨S8x16x8, .i1⟩
  | 112 => ⟨S8x16x8, .f32⟩
  | 113 => ⟨S8x16x8, .f32⟩
  | 114 => ⟨S8x16x8, .f32⟩
  | 115 => ⟨S8x16x8, .f32⟩
  | 116 => ⟨S8x16x8, .f32⟩
  | 117 => ⟨S8x16x8, .f32⟩
  | 118 => ⟨S8x16x8, .f32⟩
  | 119 => ⟨S8x16x8, .f32⟩
  | 120 => ⟨S8x16x8, .f32⟩
  | 121 => ⟨S8x16x8x128, .f32⟩
  | 122 => ⟨S8x16x8x128, .f32⟩
  | 123 => ⟨S8x16x2048, .f32⟩
  | 124 => ⟨S8x16x2048, .f32⟩
  | 125 => ⟨S_, .f32⟩
  | 126 => ⟨S8x16x2048, .f32⟩
  | 127 => ⟨S8x16x2048, .f32⟩
  | _ => ⟨S8x16x2048, .f32⟩

abbrev hbmTy0_1 (i : Nat) : BufTy := match i % 128 with
  | 0 => ⟨S_, .f32⟩
  | 1 => ⟨S8x16x2048, .f32⟩
  | 2 => ⟨S8x16x2048, .f32⟩
  | 3 => ⟨S8x16x2048, .f32⟩
  | 4 => ⟨S8x16x2048, .f32⟩
  | 5 => ⟨S_, .f32⟩
  | 6 => ⟨S8x16x2048, .f32⟩
  | 7 => ⟨S8x16x2048, .f32⟩
  | 8 => ⟨S_, .f32⟩
  | 9 => ⟨S8x16x2048, .f32⟩
  | 10 => ⟨S8x16x2048, .f32⟩
  | 11 => ⟨S8x16x8x128, .bf16⟩
  | 12 => ⟨S8x16x8x128, .bf16⟩
  | 13 => ⟨S8x16x2048, .bf16⟩
  | 14 => ⟨S8x16x2048, .bf16⟩
  | _ => ⟨S8x16x2048, .f32⟩

abbrev hbmTy (i : Nat) : BufTy := match i / 128 with
  | 0 => hbmTy0_0 i
  | 1 => hbmTy0_1 i
  | _ => ⟨S8x16x2048, .f32⟩

abbrev bufTy : (tb : Table) → Fin (tcTables nBuf tb) → BufTy
  | .hbm, ⟨i, _⟩ => hbmTy i
  | _, _ => ⟨S8x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_11 : Ref sig .tc := ⟨.hbm, 87, rfl⟩
abbrev main_v67 : Ref sig .tc := ⟨.hbm, 88, rfl⟩
abbrev main_v68 : Ref sig .tc := ⟨.hbm, 89, rfl⟩
abbrev main_cst_12 : Ref sig .tc := ⟨.hbm, 90, rfl⟩
abbrev main_v69 : Ref sig .tc := ⟨.hbm, 91, rfl⟩
abbrev main_v70 : Ref sig .tc := ⟨.hbm, 92, rfl⟩
abbrev main_cst_13 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_call0_v0 : Ref sig .tc := ⟨.hbm, 105, rfl⟩
abbrev main_call0_call0_cst : Ref sig .tc := ⟨.hbm, 106, rfl⟩
abbrev main_call0_call0_v0 : Ref sig .tc := ⟨.hbm, 107, rfl⟩
abbrev main_call0_call0_v1 : Ref sig .tc := ⟨.hbm, 108, rfl⟩
abbrev main_call0_call0_v2 : Ref sig .tc := ⟨.hbm, 109, rfl⟩
abbrev main_call0_call0_v3 : Ref sig .tc := ⟨.hbm, 110, rfl⟩
abbrev main_call0_call0_v4 : Ref sig .tc := ⟨.hbm, 111, rfl⟩
abbrev main_call0_call0_v5 : Ref sig .tc := ⟨.hbm, 112, rfl⟩
abbrev main_call0_call0_v6 : Ref sig .tc := ⟨.hbm, 113, rfl⟩
abbrev main_call0_call0_v7 : Ref sig .tc := ⟨.hbm, 114, rfl⟩
abbrev main_call0_call0_v8 : Ref sig .tc := ⟨.hbm, 115, rfl⟩
abbrev main_call0_call0_v9 : Ref sig .tc := ⟨.hbm, 116, rfl⟩
abbrev main_call0_call0_v10 : Ref sig .tc := ⟨.hbm, 117, rfl⟩
abbrev main_call0_call0_v11 : Ref sig .tc := ⟨.hbm, 118, rfl⟩
abbrev main_call0_v1 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_14 : Ref sig .tc := ⟨.hbm, 125, rfl⟩
abbrev main_v87 : Ref sig .tc := ⟨.hbm, 126, rfl⟩
abbrev main_v88 : Ref sig .tc := ⟨.hbm, 127, rfl⟩
abbrev main_cst_15 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_16 : Ref sig .tc := ⟨.hbm, 133, rfl⟩
abbrev main_v93 : Ref sig .tc := ⟨.hbm, 134, rfl⟩
abbrev main_v94 : Ref sig .tc := ⟨.hbm, 135, rfl⟩
abbrev main_cst_17 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩

abbrev nD : Nat := 1
abbrev τ : Topo := Topo.v7x

variable {F : FTy → Type} [FloatOps F]
-- ==== Merge.lean ====
abbrev S4x2048x2048 : Shape := ⟨3, ![4, 2048, 2048]⟩
abbrev S4x2048x1024 : Shape := ⟨3, ![4, 2048, 1024]⟩
abbrev S8192x4096 : Shape := ⟨2, ![8192, 4096]⟩
abbrev S1024x2048 : Shape := ⟨2, ![1024, 2048]⟩
abbrev S2048x2048 : Shape := ⟨2, ![2048, 2048]⟩
abbrev S2048 : Shape := ⟨1, ![2048]⟩
abbrev S8192x1024 : Shape := ⟨2, ![8192, 1024]⟩
abbrev S8192x2048 : Shape := ⟨2, ![8192, 2048]⟩
abbrev S512x1024 : Shape := ⟨2, ![512, 1024]⟩
abbrev S1024x512 : Shape := ⟨2, ![1024, 512]⟩
abbrev S512x512 : Shape := ⟨2, ![512, 512]⟩
abbrev S1x2048 : Shape := ⟨2, ![1, 2048]⟩
abbrev S2048x8192 : Shape := ⟨2, ![2048, 8192]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 18
  | .vmem => 24
  | .smem => 0
  | _ => 0

abbrev bufTy : (tb : Table) → Fin (tcTables nBuf tb) → BufTy
  | .hbm, ⟨0, _⟩ => ⟨S4x2048x2048, .f32⟩
  | .hbm, ⟨1, _⟩ => ⟨S4x2048x1024, .bf16⟩
  | .hbm, ⟨2, _⟩ => ⟨S4x2048x1024, .bf16⟩
  | .hbm, ⟨3, _⟩ => ⟨S8192x4096, .bf16⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S8192x1024, .bf16⟩
  | .hbm, ⟨9, _⟩ => ⟨S8192x1024, .bf16⟩
  | .hbm, ⟨10, _⟩ => ⟨S1024x2048, .bf16⟩
  | .hbm, ⟨11, _⟩ => ⟨S1024x2048, .bf16⟩
  | .hbm, ⟨12, _⟩ => ⟨S8192x2048, .bf16⟩
  | .hbm, ⟨13, _⟩ => ⟨S2048x2048, .bf16⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S2048x8192, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S256x2048, .bf16⟩
  | .local _ .vmem, ⟨15, _⟩ => ⟨S256x2048, .bf16⟩
  | .local _ .vmem, ⟨16, _⟩ => ⟨S2048x2048, .bf16⟩
  | .local _ .vmem, ⟨17, _⟩ => ⟨S256x2048, .f32⟩
  | .local _ .vmem, ⟨18, _⟩ => ⟨S256x2048, .f32⟩
  | .local _ .vmem, ⟨19, _⟩ => ⟨S1x2048, .f32⟩
  | .local _ .vmem, ⟨20, _⟩ => ⟨S256x2048, .f32⟩
  | .local _ .vmem, ⟨21, _⟩ => ⟨S256x2048, .f32⟩
  | .local _ .vmem, ⟨22, _⟩ => ⟨S2048x256, .bf16⟩
  | .local _ .vmem, ⟨23, _⟩ => ⟨S2048x256, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== MergeIdeal.lean ====
abbrev S4x2048x2048 : Shape := ⟨3, ![4, 2048, 2048]⟩
abbrev S4x2048x1024 : Shape := ⟨3, ![4, 2048, 1024]⟩
abbrev S8192x4096 : Shape := ⟨2, ![8192, 4096]⟩
abbrev S1024x2048 : Shape := ⟨2, ![1024, 2048]⟩
abbrev S2048x2048 : Shape := ⟨2, ![2048, 2048]⟩
abbrev S2048 : Shape := ⟨1, ![2048]⟩
abbrev S8192x1024 : Shape := ⟨2, ![8192, 1024]⟩
abbrev S8192x2048 : Shape := ⟨2, ![8192, 2048]⟩
abbrev S512x1024 : Shape := ⟨2, ![512, 1024]⟩
abbrev S1024x512 : Shape := ⟨2, ![1024, 512]⟩
abbrev S512x512 : Shape := ⟨2, ![512, 512]⟩
abbrev S1x2048 : Shape := ⟨2, ![1, 2048]⟩
abbrev S2048x8192 : Shape := ⟨2, ![2048, 8192]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩

abbrev nBuf : Space → Nat
  | .hbm => 18
  | .vmem => 24
  | .smem => 0
  | _ => 0

abbrev bufTy : (tb : Table) → Fin (tcTables nBuf tb) → BufTy
  | .hbm, ⟨0, _⟩ => ⟨S4x2048x2048, .f32⟩
  | .hbm, ⟨1, _⟩ => ⟨S4x2048x1024, .bf16⟩
  | .hbm, ⟨2, _⟩ => ⟨S4x2048x1024, .bf16⟩
  | .hbm, ⟨3, _⟩ => ⟨S8192x4096, .bf16⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S8192x1024, .bf16⟩
  | .hbm, ⟨9, _⟩ => ⟨S8192x1024, .bf16⟩
  | .hbm, ⟨10, _⟩ => ⟨S1024x2048, .bf16⟩
  | .hbm, ⟨11, _⟩ => ⟨S1024x2048, .bf16⟩
  | .hbm, ⟨12, _⟩ => ⟨S8192x2048, .bf16⟩
  | .hbm, ⟨13, _⟩ => ⟨S2048x2048, .bf16⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S2048x8192, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S256x2048, .bf16⟩
  | .local _ .vmem, ⟨15, _⟩ => ⟨S256x2048, .bf16⟩
  | .local _ .vmem, ⟨16, _⟩ => ⟨S2048x2048, .bf16⟩
  | .local _ .vmem, ⟨17, _⟩ => ⟨S256x2048, .f32⟩
  | .local _ .vmem, ⟨18, _⟩ => ⟨S256x2048, .f32⟩
  | .local _ .vmem, ⟨19, _⟩ => ⟨S1x2048, .f32⟩
  | .local _ .vmem, ⟨20, _⟩ => ⟨S256x2048, .f32⟩
  | .local _ .vmem, ⟨21, _⟩ => ⟨S256x2048, .f32⟩
  | .local _ .vmem, ⟨22, _⟩ => ⟨S2048x256, .bf16⟩
  | .local _ .vmem, ⟨23, _⟩ => ⟨S2048x256, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== MergeRefIdeal.lean ====
abbrev S4x2048x2048 : Shape := ⟨3, ![4, 2048, 2048]⟩
abbrev S4x2048x1024 : Shape := ⟨3, ![4, 2048, 1024]⟩
abbrev S8192x4096 : Shape := ⟨2, ![8192, 4096]⟩
abbrev S1024x2048 : Shape := ⟨2, ![1024, 2048]⟩
abbrev S2048x2048 : Shape := ⟨2, ![2048, 2048]⟩
abbrev S2048 : Shape := ⟨1, ![2048]⟩
abbrev S4x2048x4096 : Shape := ⟨3, ![4, 2048, 4096]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩
abbrev S2048x8192 : Shape := ⟨2, ![2048, 8192]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x1024, .bf16⟩
  | .hbm, ⟨2, _⟩ => ⟨S4x2048x1024, .bf16⟩
  | .hbm, ⟨3, _⟩ => ⟨S8192x4096, .bf16⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S8192x4096, .f32⟩
  | .hbm, ⟨9, _⟩ => ⟨S4x2048x4096, .f32⟩
  | .hbm, ⟨10, _⟩ => ⟨S4x2048x2048, .f32⟩
  | .hbm, ⟨11, _⟩ => ⟨S4x2048x2048, .f32⟩
  | .hbm, ⟨12, _⟩ => ⟨S4x2048x1024, .f32⟩
  | .hbm, ⟨13, _⟩ => ⟨S4x2048x2048, .f32⟩
  | .hbm, ⟨14, _⟩ => ⟨S4x2048x2048, .f32⟩
  | .hbm, ⟨15, _⟩ => ⟨S4x2048x1024, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S1x1x2048, .f32⟩
  | .hbm, ⟨35, _⟩ => ⟨S4x2048x2048, .f32⟩
  | .hbm, ⟨36, _⟩ => ⟨S4x2048x2048, .f32⟩
  | .hbm, ⟨37, _⟩ => ⟨S8192x2048, .f32⟩
  | .hbm, ⟨38, _⟩ => ⟨S8192x2048, .f32⟩
  | .hbm, ⟨39, _⟩ => ⟨S2048x8192, .f32⟩
  | .hbm, ⟨40, _⟩ => ⟨S2048x8192, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== MergeS.lean ====
abbrev S8x16x2048 : Shape := ⟨3, ![8, 16, 2048]⟩
abbrev S8x16x1024 : Shape := ⟨3, ![8, 16, 1024]⟩
abbrev S128x4096 : Shape := ⟨2, ![128, 4096]⟩
abbrev S1024x2048 : Shape := ⟨2, ![1024, 2048]⟩
abbrev S2048x2048 : Shape := ⟨2, ![2048, 2048]⟩
abbrev S2048 : Shape := ⟨1, ![2048]⟩
abbrev S128x1024 : Shape := ⟨2, ![128, 1024]⟩
abbrev S128x2048 : Shape := ⟨2, ![128, 2048]⟩
abbrev S1024x512 : Shape := ⟨2, ![1024, 512]⟩
abbrev S128x512 : Shape := ⟨2, ![128, 512]⟩
abbrev S1x2048 : Shape := ⟨2, ![1, 2048]⟩
abbrev S2048x128 : Shape := ⟨2, ![2048, 128]⟩
abbrev S128 : Shape := ⟨1, ![128]⟩
abbrev S128x1 : Shape := ⟨2, ![128, 1]⟩

abbrev nBuf : Space → Nat
  | .hbm => 18
  | .vmem => 18
  | .smem => 0
  | _ => 0

abbrev bufTy : (tb : Table) → Fin (tcTables nBuf tb) → BufTy
  | .hbm, ⟨0, _⟩ => ⟨S8x16x2048, .f32⟩
  | .hbm, ⟨1, _⟩ => ⟨S8x16x1024, .bf16⟩
  | .hbm, ⟨2, _⟩ => ⟨S8x16x1024, .bf16⟩
  | .hbm, ⟨3, _⟩ => ⟨S128x4096, .bf16⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S128x1024, .bf16⟩
  | .hbm, ⟨9, _⟩ => ⟨S128x1024, .bf16⟩
  | .hbm, ⟨10, _⟩ => ⟨S1024x2048, .bf16⟩
  | .hbm, ⟨11, _⟩ => ⟨S1024x2048, .bf16⟩
  | .hbm, ⟨12, _⟩ => ⟨S128x2048, .bf16⟩
  | .hbm, ⟨13, _⟩ => ⟨S2048x2048, .bf16⟩
  | .hbm, ⟨14, _⟩ => ⟨S128x2048, .f32⟩
  | .hbm, ⟨15, _⟩ => ⟨S1x2048, .f32⟩
  | .hbm, ⟨16, _⟩ => ⟨S128x2048, .f32⟩
  | .hbm, ⟨17, _⟩ => ⟨S2048x128, .bf16⟩
  | .local _ .vmem, ⟨0, _⟩ => ⟨S128x1024, .bf16⟩
  | .local _ .vmem, ⟨1, _⟩ => ⟨S128x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x512, .bf16⟩
  | .local _ .vmem, ⟨11, _⟩ => ⟨S128x512, .bf16⟩
  | .local _ .vmem, ⟨12, _⟩ => ⟨S128x2048, .bf16⟩
  | .local _ .vmem, ⟨13, _⟩ => ⟨S2048x2048, .bf16⟩
  | .local _ .vmem, ⟨14, _⟩ => ⟨S128x2048, .f32⟩
  | .local _ .vmem, ⟨15, _⟩ => ⟨S1x2048, .f32⟩
  | .local _ .vmem, ⟨16, _⟩ => ⟨S128x2048, .f32⟩
  | .local _ .vmem, ⟨17, _⟩ => ⟨S2048x128, .bf16⟩
  | _, _ => ⟨S8x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S128x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev stage1_5 : Fin 1 → Memref sig .tc .vmem S2048x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![true]
-- ==== MergeSRefIdeal.lean ====
abbrev S8x16x2048 : Shape := ⟨3, ![8, 16, 2048]⟩
abbrev S8x16x1024 : Shape := ⟨3, ![8, 16, 1024]⟩
abbrev S128x4096 : Shape := ⟨2, ![128, 4096]⟩
abbrev S1024x2048 : Shape := ⟨2, ![1024, 2048]⟩
abbrev S2048x2048 : Shape := ⟨2, ![2048, 2048]⟩
abbrev S2048 : Shape := ⟨1, ![2048]⟩
abbrev S8x16x4096 : Shape := ⟨3, ![8, 16, 4096]⟩
abbrev S_ : Shape := ⟨0, ![]⟩
abbrev S8x16 : Shape := ⟨2, ![8, 16]⟩
abbrev S8x16x1 : Shape := ⟨3, ![8, 16, 1]⟩
abbrev S1x1x2048 : Shape := ⟨3, ![1, 1, 2048]⟩
abbrev S128x2048 : Shape := ⟨2, ![128, 2048]⟩
abbrev S2048x128 : Shape := ⟨2, ![2048, 128]⟩

abbrev nBuf : Space → Nat
  | .hbm => 41
  | .vmem => 0
  | .smem => 0
  | _ => 0

abbrev bufTy : (tb : Table) → Fin (tcTables nBuf tb) → BufTy
  | .hbm, ⟨0, _⟩ => ⟨S8x16x2048, .f32⟩
  | .hbm, ⟨1, _⟩ => ⟨S8x16x1024, .bf16⟩
  | .hbm, ⟨2, _⟩ => ⟨S8x16x1024, .bf16⟩
  | .hbm, ⟨3, _⟩ => ⟨S128x4096, .bf16⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048, .f32⟩
  | .hbm, ⟨8, _⟩ => ⟨S128x4096, .f32⟩
  | .hbm, ⟨9, _⟩ => ⟨S8x16x4096, .f32⟩
  | .hbm, ⟨10, _⟩ => ⟨S8x16x2048, .f32⟩
  | .hbm, ⟨11, _⟩ => ⟨S8x16x2048, .f32⟩
  | .hbm, ⟨12, _⟩ => ⟨S8x16x1024, .f32⟩
  | .hbm, ⟨13, _⟩ => ⟨S8x16x2048, .f32⟩
  | .hbm, ⟨14, _⟩ => ⟨S8x16x2048, .f32⟩
  | .hbm, ⟨15, _⟩ => ⟨S8x16x1024, .f32⟩
  | .hbm, ⟨16, _⟩ => ⟨S8x16x2048, .f32⟩
  | .hbm, ⟨17, _⟩ => ⟨S8x16x2048, .f32⟩
  | .hbm, ⟨18, _⟩ => ⟨S8x16x2048, .f32⟩
  | .hbm, ⟨19, _⟩ => ⟨S8x16x2048, .f32⟩
  | .hbm, ⟨20, _⟩ => ⟨S8x16x2048, .f32⟩
  | .hbm, ⟨21, _⟩ => ⟨S8x16x2048, .f32⟩
  | .hbm, ⟨22, _⟩ => ⟨S_, .f32⟩
  | .hbm, ⟨23, _⟩ => ⟨S8x16, .f32⟩
  | .hbm, ⟨24, _⟩ => ⟨S8x16x1, .f32⟩
  | .hbm, ⟨25, _⟩ => ⟨S_, .f32⟩
  | .hbm, ⟨26, _⟩ => ⟨S8x16x1, .f32⟩
  | .hbm, ⟨27, _⟩ => ⟨S8x16x1, .f32⟩
  | .hbm, ⟨28, _⟩ => ⟨S_, .f32⟩
  | .hbm, ⟨29, _⟩ => ⟨S8x16x1, .f32⟩
  | .hbm, ⟨30, _⟩ => ⟨S8x16x1, .f32⟩
  | .hbm, ⟨31, _⟩ => ⟨S8x16x1, .f32⟩
  | .hbm, ⟨32, _⟩ => ⟨S8x16x2048, .f32⟩
  | .hbm, ⟨33, _⟩ => ⟨S8x16x2048, .f32⟩
  | .hbm, ⟨34, _⟩ => ⟨S1x1x2048, .f32⟩
  | .hbm, ⟨35, _⟩ => ⟨S8x16x2048, .f32⟩
  | .hbm, ⟨36, _⟩ => ⟨S8x16x2048, .f32⟩
  | .hbm, ⟨37, _⟩ => ⟨S128x2048, .f32⟩
  | .hbm, ⟨38, _⟩ => ⟨S128x2048, .f32⟩
  | .hbm, ⟨39, _⟩ => ⟨S2048x128, .f32⟩
  | .hbm, ⟨40, _⟩ => ⟨S2048x128, .bf16⟩
  | _, _ => ⟨S8x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Band.lean ====
abbrev S4x2048x16x128 : Shape := ⟨4, ![4, 2048, 16, 128]⟩
abbrev S8x640x128 : Shape := ⟨3, ![8, 640, 128]⟩
abbrev S4x2048x2048 : Shape := ⟨3, ![4, 2048, 2048]⟩
abbrev S4x2048x1024 : Shape := ⟨3, ![4, 2048, 1024]⟩
abbrev S1x2048x128 : Shape := ⟨3, ![1, 2048, 128]⟩
abbrev S1x640x128 : Shape := ⟨3, ![1, 640, 128]⟩
abbrev S2560x128 : Shape := ⟨2, ![2560, 128]⟩
abbrev S512x128 : Shape := ⟨2, ![512, 128]⟩
abbrev S2048x128 : Shape := ⟨2, ![2048, 128]⟩
abbrev S640x128 : Shape := ⟨2, ![640, 128]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩

abbrev nBuf : Space → Nat
  | .hbm => 8
  | .vmem => 12
  | .smem => 0
  | _ => 0

abbrev bufTy : (tb : Table) → Fin (tcTables nBuf tb) → BufTy
  | .hbm, ⟨0, _⟩ => ⟨S4x2048x16x128, .bf16⟩
  | .hbm, ⟨1, _⟩ => ⟨S4x2048x16x128, .bf16⟩
  | .hbm, ⟨2, _⟩ => ⟨S4x2048x16x128, .bf16⟩
  | .hbm, ⟨3, _⟩ => ⟨S8x640x128, .f32⟩
  | .hbm, ⟨4, _⟩ => ⟨S4x2048x2048, .bf16⟩
  | .hbm, ⟨5, _⟩ => ⟨S4x2048x2048, .bf16⟩
  | .hbm, ⟨6, _⟩ => ⟨S4x2048x2048, .bf16⟩
  | .hbm, ⟨7, _⟩ => ⟨S4x2048x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x640x128, .f32⟩
  | .local _ .vmem, ⟨7, _⟩ => ⟨S1x640x128, .f32⟩
  | .local _ .vmem, ⟨8, _⟩ => ⟨S1x2048x128, .bf16⟩
  | .local _ .vmem, ⟨9, _⟩ => ⟨S1x2048x128, .bf16⟩
  | .local _ .vmem, ⟨10, _⟩ => ⟨S2560x128, .bf16⟩
  | .local _ .vmem, ⟨11, _⟩ => ⟨S2560x128, .bf16⟩
  | _, _ => ⟨S4x2048x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_mult1 : BitVec 32 :=
  let c0_i32 : BitVec 32 := 0#32
  let c128_i32 : BitVec 32 := 128#32
  let v21 : BitVec 32 := Scalar.muli c0_i32 c128_i32
  v21
def k0_off1 (c0_i32 : BitVec 32) : Fin 3 → Nat :=
  let c0_16 : Index := 0#32
  let c128_i32 : BitVec 32 := 128#32
  let v21 : BitVec 32 := Scalar.muli c0_i32 c128_i32
  let v22 : BitVec 32 := v21
  let v23 : Index := Scalar.indexCast v22
  let c0_17 : Index := 0#32
  ![0, v23.toNat, 0]
def k0_off2 (c0_i32 : BitVec 32) : Fin 2 → Nat :=
  let c128_i32 : BitVec 32 := 128#32
  let v21 : BitVec 32 := Scalar.muli c0_i32 c128_i32
  let v22 : BitVec 32 := v21
  let v26 : Index := Scalar.indexCast v22
  let c0_18 : Index := 0#32
  ![v26.toNat, 0]
def k0_mult2 : BitVec 32 :=
  let c1_i32 : BitVec 32 := 1#32
  let c128_i32_28 : BitVec 32 := 128#32
  let v56 : BitVec 32 := Scalar.muli c1_i32 c128_i32_28
  v56
def k0_mult3 : BitVec 32 :=
  let c2_i32 : BitVec 32 := 2#32
  let c128_i32_42 : BitVec 32 := 128#32
  let v91 : BitVec 32 := Scalar.muli c2_i32 c128_i32_42
  v91
def k0_mult4 : BitVec 32 :=
  let c3_i32 : BitVec 32 := 3#32
  let c128_i32_56 : BitVec 32 := 128#32
  let v126 : BitVec 32 := Scalar.muli c3_i32 c128_i32_56
  v126
def k0_mult5 : BitVec 32 :=
  let c4_i32 : BitVec 32 := 4#32
  let c128_i32_70 : BitVec 32 := 128#32
  let v161 : BitVec 32 := Scalar.muli c4_i32 c128_i32_70
  v161
def k0_mult6 : BitVec 32 :=
  let c5_i32 : BitVec 32 := 5#32
  let c128_i32_84 : BitVec 32 := 128#32
  let v196 : BitVec 32 := Scalar.muli c5_i32 c128_i32_84
  v196
def k0_mult7 : BitVec 32 :=
  let c6_i32 : BitVec 32 := 6#32
  let c128_i32_98 : BitVec 32 := 128#32
  let v231 : BitVec 32 := Scalar.muli c6_i32 c128_i32_98
  v231
def k0_mult8 : BitVec 32 :=
  let c7_i32 : BitVec 32 := 7#32
  let c128_i32_112 : BitVec 32 := 128#32
  let v266 : BitVec 32 := Scalar.muli c7_i32 c128_i32_112
  v266
def k0_mult9 : BitVec 32 :=
  let c8_i32 : BitVec 32 := 8#32
  let c128_i32_126 : BitVec 32 := 128#32
  let v301 : BitVec 32 := Scalar.muli c8_i32 c128_i32_126
  v301
def k0_mult10 : BitVec 32 :=
  let c9_i32 : BitVec 32 := 9#32
  let c128_i32_140 : BitVec 32 := 128#32
  let v336 : BitVec 32 := Scalar.muli c9_i32 c128_i32_140
  v336
def k0_mult11 : BitVec 32 :=
  let c10_i32 : BitVec 32 := 10#32
  let c128_i32_154 : BitVec 32 := 128#32
  let v371 : BitVec 32 := Scalar.muli c10_i32 c128_i32_154
  v371
def k0_mult12 : BitVec 32 :=
  let c11_i32 : BitVec 32 := 11#32
  let c128_i32_168 : BitVec 32 := 128#32
  let v406 : BitVec 32 := Scalar.muli c11_i32 c128_i32_168
  v406
def k0_mult13 : BitVec 32 :=
  let c12_i32 : BitVec 32 := 12#32
  let c128_i32_182 : BitVec 32 := 128#32
  let v441 : BitVec 32 := Scalar.muli c12_i32 c128_i32_182
  v441
def k0_mult14 : BitVec 32 :=
  let c13_i32 : BitVec 32 := 13#32
  let c128_i32_196 : BitVec 32 := 128#32
  let v476 : BitVec 32 := Scalar.muli c13_i32 c128_i32_196
  v476
def k0_mult15 : BitVec 32 :=
  let c14_i32 : BitVec 32 := 14#32
  let c128_i32_210 : BitVec 32 := 128#32
  let v511 : BitVec 32 := Scalar.muli c14_i32 c128_i32_210
  v511
def k0_mult16 : BitVec 32 :=
  let c15_i32 : BitVec 32 := 15#32
  let c128_i32_224 : BitVec 32 := 128#32
  let v546 : BitVec 32 := Scalar.muli c15_i32 c128_i32_224
  v546
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x640x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== BandIdeal.lean ====
variable {F : FTy → Type} [FloatOps F] [Named F]
def κ : String → Option EReal := fun
  | "mask" => some ⊥
  | _ => none
-- ==== BandRefIdeal.lean ====
abbrev S4x2048x16x128 : Shape := ⟨4, ![4, 2048, 16, 128]⟩
abbrev S8x640x128 : Shape := ⟨3, ![8, 640, 128]⟩
abbrev S4x2048x8x128 : Shape := ⟨4, ![4, 2048, 8, 128]⟩
abbrev S4x16x128x8x128 : Shape := ⟨5, ![4, 16, 128, 8, 128]⟩
abbrev S16 : Shape := ⟨1, ![16]⟩
abbrev S16x1 : Shape := ⟨2, ![16, 1]⟩
abbrev S_ : Shape := ⟨0, ![]⟩
abbrev S640 : Shape := ⟨1, ![640]⟩
abbrev S1x640 : Shape := ⟨2, ![1, 640]⟩
abbrev S16x640 : Shape := ⟨2, ![16, 640]⟩
abbrev S4x2560x8x128 : Shape := ⟨4, ![4, 2560, 8, 128]⟩
abbrev S4x20x128x8x128 : Shape := ⟨5, ![4, 20, 128, 8, 128]⟩
abbrev S4x16x640x8x128 : Shape := ⟨5, ![4, 16, 640, 8, 128]⟩
abbrev S4x8x16x128x640 : Shape := ⟨5, ![4, 8, 16, 128, 640]⟩
abbrev S8x128x640 : Shape := ⟨3, ![8, 128, 640]⟩
abbrev S1x8x1x128x640 : Shape := ⟨5, ![1, 8, 1, 128, 640]⟩
abbrev S1x1x16x1x640 : Shape := ⟨5, ![1, 1, 16, 1, 640]⟩
abbrev S4x8x16x128 : Shape := ⟨4, ![4, 8, 16, 128]⟩
abbrev S4x8x16x128x1 : Shape := ⟨5, ![4, 8, 16, 128, 1]⟩
abbrev S4x16x8x128x128 : Shape := ⟨5, ![4, 16, 8, 128, 128]⟩
abbrev S4x2048x1024 : Shape := ⟨3, ![4, 2048, 1024]⟩

abbrev nBuf : Space → Nat
  | .hbm => 79
  | .vmem => 0
  | .smem => 0
  | _ => 0

abbrev bufTy : (tb : Table) → Fin (tcTables nBuf tb) → BufTy
  | .hbm, ⟨0, _⟩ => ⟨S4x2048x16x128, .bf16⟩
  | .hbm, ⟨1, _⟩ => ⟨S4x2048x16x128, .bf16⟩
  | .hbm, ⟨2, _⟩ => ⟨S4x2048x16x128, .bf16⟩
  | .hbm, ⟨3, _⟩ => ⟨S8x640x128, .f32⟩
  | .hbm, ⟨4, _⟩ => ⟨S4x2048x8x128, .bf16⟩
  | .hbm, ⟨5, _⟩ => ⟨S4x2048x8x128, .f32⟩
  | .hbm, ⟨6, _⟩ => ⟨S4x2048x8x128, .bf16⟩
  | .hbm, ⟨7, _⟩ => ⟨S4x2048x8x128, .f32⟩
  | .hbm, ⟨8, _⟩ => ⟨S4x2048x8x128, .bf16⟩
  | .hbm, ⟨9, _⟩ => ⟨S4x2048x8x128, .f32⟩
  | .hbm, ⟨10, _⟩ => ⟨S4x16x128x8x128, .f32⟩
  | .hbm, ⟨11, _⟩ => ⟨S16, .i32⟩
  | .hbm, ⟨12, _⟩ => ⟨S16x1, .i32⟩
  | .hbm, ⟨13, _⟩ => ⟨S_, .i32⟩
  | .hbm, ⟨14, _⟩ => ⟨S16x1, .i32⟩
  | .hbm, ⟨15, _⟩ => ⟨S16x1, .i32⟩
  | .hbm, ⟨16, _⟩ => ⟨S640, .i32⟩
  | .hbm, ⟨17, _⟩ => ⟨S1x640, .i32⟩
  | .hbm, ⟨18, _⟩ => ⟨S16x640, .i32⟩
  | .hbm, ⟨19, _⟩ => ⟨S16x640, .i32⟩
  | .hbm, ⟨20, _⟩ => ⟨S16x640, .i32⟩
  | .hbm, ⟨21, _⟩ => ⟨S_, .i32⟩
  | .hbm, ⟨22, _⟩ => ⟨S16x640, .i32⟩
  | .hbm, ⟨23, _⟩ => ⟨S16x640, .i32⟩
  | .hbm, ⟨24, _⟩ => ⟨S_, .i32⟩
  | .hbm, ⟨25, _⟩ => ⟨S_, .f32⟩
  | .hbm, ⟨26, _⟩ => ⟨S4x2560x8x128, .f32⟩
  | .hbm, ⟨27, _⟩ => ⟨S4x20x128x8x128, .f32⟩
  | .hbm, ⟨28, _⟩ => ⟨S4x16x128x8x128, .f32⟩
  | .hbm, ⟨29, _⟩ => ⟨S4x16x128x8x128, .f32⟩
  | .hbm, ⟨30, _⟩ => ⟨S4x16x128x8x128, .f32⟩
  | .hbm, ⟨31, _⟩ => ⟨S4x16x128x8x128, .f32⟩
  | .hbm, ⟨32, _⟩ => ⟨S4x16x128x8x128, .f32⟩
  | .hbm, ⟨33, _⟩ => ⟨S4x16x640x8x128, .f32⟩
  | .hbm, ⟨34, _⟩ => ⟨S4x8x16x128x640, .f32⟩
  | .hbm, ⟨35, _⟩ => ⟨S_, .f32⟩
  | .hbm, ⟨36, _⟩ => ⟨S4x8x16x128x640, .f32⟩
  | .hbm, ⟨37, _⟩ => ⟨S4x8x16x128x640, .f32⟩
  | .hbm, ⟨38, _⟩ => ⟨S8x128x640, .f32⟩
  | .hbm, ⟨39, _⟩ => ⟨S1x8x1x128x640, .f32⟩
  | .hbm, ⟨40, _⟩ => ⟨S4x8x16x128x640, .f32⟩
  | .hbm, ⟨41, _⟩ => ⟨S4x8x16x128x640, .f32⟩
  | .hbm, ⟨42, _⟩ => ⟨S_, .i32⟩
  | .hbm, ⟨43, _⟩ => ⟨S16x640, .i32⟩
  | .hbm, ⟨44, _⟩ => ⟨S16x640, .i1⟩
  | .hbm, ⟨45, _⟩ => ⟨S1x1x16x1x640, .i1⟩
  | .hbm, ⟨46, _⟩ => ⟨S_, .f32⟩
  | .hbm, ⟨47, _⟩ => ⟨S_, .f32⟩
  | .hbm, ⟨48, _⟩ => ⟨S4x8x16x128x640, .i1⟩
  | .hbm, ⟨49, _⟩ => ⟨S4x8x16x128x640, .f32⟩
  | .hbm, ⟨50, _⟩ => ⟨S4x8x16x128x640, .f32⟩
  | .hbm, ⟨51, _⟩ => ⟨S_, .f32⟩
  | .hbm, ⟨52, _⟩ => ⟨S4x8x16x128, .f32⟩
  | .hbm, ⟨53, _⟩ => ⟨S_, .f32⟩
  | .hbm, ⟨54, _⟩ => ⟨S4x8x16x128, .f32⟩
  | .hbm, ⟨55, _⟩ => ⟨S4x8x16x128, .f32⟩
  | .hbm, ⟨56, _⟩ => ⟨S4x8x16x128x1, .f32⟩
  | .hbm, ⟨57, _⟩ => ⟨S4x8x16x128x640, .f32⟩
  | .hbm, ⟨58, _⟩ => ⟨S4x8x16x128x640, .f32⟩
  | .hbm, ⟨59, _⟩ => ⟨S4x8x16x128x640, .f32⟩
  | .hbm, ⟨60, _⟩ => ⟨S_, .f32⟩
  | .hbm, ⟨61, _⟩ => ⟨S4x8x16x128, .f32⟩
  | .hbm, ⟨62, _⟩ => ⟨S4x8x16x128x1, .f32⟩
  | .hbm, ⟨63, _⟩ => ⟨S4x8x16x128x640, .f32⟩
  | .hbm, ⟨64, _⟩ => ⟨S4x8x16x128x640, .f32⟩
  | .hbm, ⟨65, _⟩ => ⟨S_, .i32⟩
  | .hbm, ⟨66, _⟩ => ⟨S_, .f32⟩
  | .hbm, ⟨67, _⟩ => ⟨S4x2560x8x128, .f32⟩
  | .hbm, ⟨68, _⟩ => ⟨S4x20x128x8x128, .f32⟩
  | .hbm, ⟨69, _⟩ => ⟨S4x16x128x8x128, .f32⟩
  | .hbm, ⟨70, _⟩ => ⟨S4x16x128x8x128, .f32⟩
  | .hbm, ⟨71, _⟩ => ⟨S4x16x128x8x128, .f32⟩
  | .hbm, ⟨72, _⟩ => ⟨S4x16x128x8x128, .f32⟩
  | .hbm, ⟨73, _⟩ => ⟨S4x16x128x8x128, .f32⟩
  | .hbm, ⟨74, _⟩ => ⟨S4x16x640x8x128, .f32⟩
  | .hbm, ⟨75, _⟩ => ⟨S4x16x8x128x128, .f32⟩
  | .hbm, ⟨76, _⟩ => ⟨S4x16x128x8x128, .f32⟩
  | .hbm, ⟨77, _⟩ => ⟨S4x2048x1024, .f32⟩
  | .hbm, ⟨78, _⟩ => ⟨S4x2048x1024, .bf16⟩
  | _, _ => ⟨S4x2048x16x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_call0_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_7 : Ref sig .tc := ⟨.hbm, 65, rfl⟩
abbrev main_call2_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== BandS.lean ====
abbrev S8x16x16x128 : Shape := ⟨4, ![8, 16, 16, 128]⟩
abbrev S8x512x8x128 : Shape := ⟨4, ![8, 512, 8, 128]⟩
abbrev S8x16x528 : Shape := ⟨3, ![8, 16, 528]⟩
abbrev S8x16x2048 : Shape := ⟨3, ![8, 16, 2048]⟩
abbrev S8x512x1024 : Shape := ⟨3, ![8, 512, 1024]⟩
abbrev S8x16x1024 : Shape := ⟨3, ![8, 16, 1024]⟩
abbrev S1x16x2048 : Shape := ⟨3, ![1, 16, 2048]⟩
abbrev S1x512x1024 : Shape := ⟨3, ![1, 512, 1024]⟩
abbrev S1x16x1024 : Shape := ⟨3, ![1, 16, 1024]⟩
abbrev S1x16x528 : Shape := ⟨3, ![1, 16, 528]⟩
abbrev S16x528 : Shape := ⟨2, ![16, 528]⟩
abbrev S1x16x128 : Shape := ⟨3, ![1, 16, 128]⟩
abbrev S16x128 : Shape := ⟨2, ![16, 128]⟩
abbrev S1x512x128 : Shape := ⟨3, ![1, 512, 128]⟩
abbrev S512x128 : Shape := ⟨2, ![512, 128]⟩
abbrev S16x512 : Shape := ⟨2, ![16, 512]⟩
abbrev S16x16 : Shape := ⟨2, ![16, 16]⟩
abbrev S16 : Shape := ⟨1, ![16]⟩
abbrev S16x1 : Shape := ⟨2, ![16, 1]⟩

abbrev nBuf : Space → Nat
  | .hbm => 12
  | .vmem => 13
  | .smem => 0
  | _ => 0

abbrev bufTy : (tb : Table) → Fin (tcTables nBuf tb) → BufTy
  | .hbm, ⟨0, _⟩ => ⟨S8x16x16x128, .bf16⟩
  | .hbm, ⟨1, _⟩ => ⟨S8x16x16x128, .bf16⟩
  | .hbm, ⟨2, _⟩ => ⟨S8x16x16x128, .bf16⟩
  | .hbm, ⟨3, _⟩ => ⟨S8x512x8x128, .f32⟩
  | .hbm, ⟨4, _⟩ => ⟨S8x512x8x128, .f32⟩
  | .hbm, ⟨5, _⟩ => ⟨S8x16x528, .f32⟩
  | .hbm, ⟨6, _⟩ => ⟨S8x16x2048, .bf16⟩
  | .hbm, ⟨7, _⟩ => ⟨S8x16x2048, .bf16⟩
  | .hbm, ⟨8, _⟩ => ⟨S8x16x2048, .bf16⟩
  | .hbm, ⟨9, _⟩ => ⟨S8x512x1024, .f32⟩
  | .hbm, ⟨10, _⟩ => ⟨S8x512x1024, .f32⟩
  | .hbm, ⟨11, _⟩ => ⟨S8x16x1024, .bf16⟩
  | .local _ .vmem, ⟨0, _⟩ => ⟨S1x16x2048, .bf16⟩
  | .local _ .vmem, ⟨1, _⟩ => ⟨S1x16x2048, .bf16⟩
  | .local _ .vmem, ⟨2, _⟩ => ⟨S1x16x2048, .bf16⟩
  | .local _ .vmem, ⟨3, _⟩ => ⟨S1x16x2048, .bf16⟩
  | .local _ .vmem, ⟨4, _⟩ => ⟨S1x16x2048, .bf16⟩
  | .local _ .vmem, ⟨5, _⟩ => ⟨S1x16x2048, .bf16⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S8x16x528, .f32⟩
  | .local _ .vmem, ⟨11, _⟩ => ⟨S1x16x1024, .bf16⟩
  | .local _ .vmem, ⟨12, _⟩ => ⟨S1x16x1024, .bf16⟩
  | _, _ => ⟨S8x16x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x16x528 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== BandSRefIdeal.lean ====
abbrev S8x16x16x128 : Shape := ⟨4, ![8, 16, 16, 128]⟩
abbrev S8x512x8x128 : Shape := ⟨4, ![8, 512, 8, 128]⟩
abbrev S8x16x528 : Shape := ⟨3, ![8, 16, 528]⟩
abbrev S8x16x8x128 : Shape := ⟨4, ![8, 16, 8, 128]⟩
abbrev S8x528x8x128 : Shape := ⟨4, ![8, 528, 8, 128]⟩
abbrev S8x8x16x528 : Shape := ⟨4, ![8, 8, 16, 528]⟩
abbrev S_ : Shape := ⟨0, ![]⟩
abbrev S1x8x16x528 : Shape := ⟨4, ![1, 8, 16, 528]⟩
abbrev S8x8x16 : Shape := ⟨3, ![8, 8, 16]⟩
abbrev S8x8x16x1 : Shape := ⟨4, ![8, 8, 16, 1]⟩
abbrev S8x8x128x16 : Shape := ⟨4, ![8, 8, 128, 16]⟩
abbrev S8x16x1024 : Shape := ⟨3, ![8, 16, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8x16x16x128, .bf16⟩
  | .hbm, ⟨1, _⟩ => ⟨S8x16x16x128, .bf16⟩
  | .hbm, ⟨2, _⟩ => ⟨S8x16x16x128, .bf16⟩
  | .hbm, ⟨3, _⟩ => ⟨S8x512x8x128, .f32⟩
  | .hbm, ⟨4, _⟩ => ⟨S8x512x8x128, .f32⟩
  | .hbm, ⟨5, _⟩ => ⟨S8x16x528, .f32⟩
  | .hbm, ⟨6, _⟩ => ⟨S8x16x8x128, .bf16⟩
  | .hbm, ⟨7, _⟩ => ⟨S8x16x8x128, .f32⟩
  | .hbm, ⟨8, _⟩ => ⟨S8x16x8x128, .bf16⟩
  | .hbm, ⟨9, _⟩ => ⟨S8x16x8x128, .f32⟩
  | .hbm, ⟨10, _⟩ => ⟨S8x16x8x128, .bf16⟩
  | .hbm, ⟨11, _⟩ => ⟨S8x16x8x128, .f32⟩
  | .hbm, ⟨12, _⟩ => ⟨S8x528x8x128, .f32⟩
  | .hbm, ⟨13, _⟩ => ⟨S8x528x8x128, .f32⟩
  | .hbm, ⟨14, _⟩ => ⟨S8x8x16x528, .f32⟩
  | .hbm, ⟨15, _⟩ => ⟨S_, .f32⟩
  | .hbm, ⟨16, _⟩ => ⟨S8x8x16x528, .f32⟩
  | .hbm, ⟨17, _⟩ => ⟨S8x8x16x528, .f32⟩
  | .hbm, ⟨18, _⟩ => ⟨S1x8x16x528, .f32⟩
  | .hbm, ⟨19, _⟩ => ⟨S8x8x16x528, .f32⟩
  | .hbm, ⟨20, _⟩ => ⟨S8x8x16x528, .f32⟩
  | .hbm, ⟨21, _⟩ => ⟨S_, .f32⟩
  | .hbm, ⟨22, _⟩ => ⟨S8x8x16, .f32⟩
  | .hbm, ⟨23, _⟩ => ⟨S_, .f32⟩
  | .hbm, ⟨24, _⟩ => ⟨S8x8x16, .f32⟩
  | .hbm, ⟨25, _⟩ => ⟨S8x8x16, .f32⟩
  | .hbm, ⟨26, _⟩ => ⟨S8x8x16x1, .f32⟩
  | .hbm, ⟨27, _⟩ => ⟨S8x8x16x528, .f32⟩
  | .hbm, ⟨28, _⟩ => ⟨S8x8x16x528, .f32⟩
  | .hbm, ⟨29, _⟩ => ⟨S8x8x16x528, .f32⟩
  | .hbm, ⟨30, _⟩ => ⟨S_, .f32⟩
  | .hbm, ⟨31, _⟩ => ⟨S8x8x16, .f32⟩
  | .hbm, ⟨32, _⟩ => ⟨S8x8x16x1, .f32⟩
  | .hbm, ⟨33, _⟩ => ⟨S8x8x16x528, .f32⟩
  | .hbm, ⟨34, _⟩ => ⟨S8x8x16x528, .f32⟩
  | .hbm, ⟨35, _⟩ => ⟨S8x8x128x16, .f32⟩
  | .hbm, ⟨36, _⟩ => ⟨S8x16x8x128, .f32⟩
  | .hbm, ⟨37, _⟩ => ⟨S8x16x1024, .f32⟩
  | .hbm, ⟨38, _⟩ => ⟨S8x16x1024, .bf16⟩
  | _, _ => ⟨S8x16x16x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== FoxS.lean ====
abbrev S8x16x16x128 : Shape := ⟨4, ![8, 16, 16, 128]⟩
abbrev S8x1024x8x128 : Shape := ⟨4, ![8, 1024, 8, 128]⟩
abbrev S8x8x1152 : Shape := ⟨3, ![8, 8, 1152]⟩
abbrev S8x16x2048 : Shape := ⟨3, ![8, 16, 2048]⟩
abbrev S8x8x16 : Shape := ⟨3, ![8, 8, 16]⟩
abbrev S8x16x8 : Shape := ⟨3, ![8, 16, 8]⟩
abbrev S8x1024x1024 : Shape := ⟨3, ![8, 1024, 1024]⟩
abbrev S8x16x1024 : Shape := ⟨3, ![8, 16, 1024]⟩
abbrev S1x16x2048 : Shape := ⟨3, ![1, 16, 2048]⟩
abbrev S1x1024x1024 : Shape := ⟨3, ![1, 1024, 1024]⟩
abbrev S1x16x8 : Shape := ⟨3, ![1, 16, 8]⟩
abbrev S1x8x1152 : Shape := ⟨3, ![1, 8, 1152]⟩
abbrev S1x16x1024 : Shape := ⟨3, ![1, 16, 1024]⟩
abbrev S1x16x1 : Shape := ⟨3, ![1, 16, 1]⟩
abbrev S16x1 : Shape := ⟨2, ![16, 1]⟩
abbrev S1x16x128 : Shape := ⟨3, ![1, 16, 128]⟩
abbrev S16x128 : Shape := ⟨2, ![16, 128]⟩
abbrev S1x1024x128 : Shape := ⟨3, ![1, 1024, 128]⟩
abbrev S1024x128 : Shape := ⟨2, ![1024, 128]⟩
abbrev S1x1x1024 : Shape := ⟨3, ![1, 1, 1024]⟩
abbrev S1x1024 : Shape := ⟨2, ![1, 1024]⟩
abbrev S16x1024 : Shape := ⟨2, ![16, 1024]⟩
abbrev S1x1x16 : Shape := ⟨3, ![1, 1, 16]⟩
abbrev S1x16 : Shape := ⟨2, ![1, 16]⟩
abbrev S16x16 : Shape := ⟨2, ![16, 16]⟩
abbrev S16 : Shape := ⟨1, ![16]⟩

abbrev nBuf : Space → Nat
  | .hbm => 14
  | .vmem => 16
  | .smem => 0
  | _ => 0

abbrev bufTy : (tb : Table) → Fin (tcTables nBuf tb) → BufTy
  | .hbm, ⟨0, _⟩ => ⟨S8x16x16x128, .bf16⟩
  | .hbm, ⟨1, _⟩ => ⟨S8x16x16x128, .bf16⟩
  | .hbm, ⟨2, _⟩ => ⟨S8x16x16x128, .bf16⟩
  | .hbm, ⟨3, _⟩ => ⟨S8x1024x8x128, .f32⟩
  | .hbm, ⟨4, _⟩ => ⟨S8x1024x8x128, .f32⟩
  | .hbm, ⟨5, _⟩ => ⟨S8x8x1152, .f32⟩
  | .hbm, ⟨6, _⟩ => ⟨S8x16x2048, .bf16⟩
  | .hbm, ⟨7, _⟩ => ⟨S8x16x2048, .bf16⟩
  | .hbm, ⟨8, _⟩ => ⟨S8x16x2048, .bf16⟩
  | .hbm, ⟨9, _⟩ => ⟨S8x8x16, .f32⟩
  | .hbm, ⟨10, _⟩ => ⟨S8x16x8, .f32⟩
  | .hbm, ⟨11, _⟩ => ⟨S8x1024x1024, .f32⟩
  | .hbm, ⟨12, _⟩ => ⟨S8x1024x1024, .f32⟩
  | .hbm, ⟨13, _⟩ => ⟨S8x16x1024, .bf16⟩
  | .local _ .vmem, ⟨0, _⟩ => ⟨S1x16x2048, .bf16⟩
  | .local _ .vmem, ⟨1, _⟩ => ⟨S1x16x2048, .bf16⟩
  | .local _ .vmem, ⟨2, _⟩ => ⟨S1x16x2048, .bf16⟩
  | .local _ .vmem, ⟨3, _⟩ => ⟨S1x16x2048, .bf16⟩
  | .local _ .vmem, ⟨4, _⟩ => ⟨S1x16x2048, .bf16⟩
  | .local _ .vmem, ⟨5, _⟩ => ⟨S1x16x2048, .bf16⟩
  | .local _ .vmem, ⟨6, _⟩ => ⟨S1x1024x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1x16x8, .f32⟩
  | .local _ .vmem, ⟨11, _⟩ => ⟨S1x16x8, .f32⟩
  | .local _ .vmem, ⟨12, _⟩ => ⟨S1x8x1152, .f32⟩
  | .local _ .vmem, ⟨13, _⟩ => ⟨S1x8x1152, .f32⟩
  | .local _ .vmem, ⟨14, _⟩ => ⟨S1x16x1024, .bf16⟩
  | .local _ .vmem, ⟨15, _⟩ => ⟨S1x16x1024, .bf16⟩
  | _, _ => ⟨S8x16x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FoxSIdeal.lean ====
variable {F : FTy → Type} [FloatOps F] [Named F]
def κ : String → Option EReal := fun
  | "mask" => some ⊥
  | _ => none
-- ==== FoxSRefIdeal.lean ====
abbrev S8x16x16x128 : Shape := ⟨4, ![8, 16, 16, 128]⟩
abbrev S8x1024x8x128 : Shape := ⟨4, ![8, 1024, 8, 128]⟩
abbrev S8x8x1152 : Shape := ⟨3, ![8, 8, 1152]⟩
abbrev S8x16x8x128 : Shape := ⟨4, ![8, 16, 8, 128]⟩
abbrev S8x1040x8x128 : Shape := ⟨4, ![8, 1040, 8, 128]⟩
abbrev S8x8x1040 : Shape := ⟨3, ![8, 8, 1040]⟩
abbrev S8x1040x8 : Shape := ⟨3, ![8, 1040, 8]⟩
abbrev S16 : Shape := ⟨1, ![16]⟩
abbrev S_ : Shape := ⟨0, ![]⟩
abbrev S1040 : Shape := ⟨1, ![1040]⟩
abbrev S8x16x8 : Shape := ⟨3, ![8, 16, 8]⟩
abbrev S8x8x16x1040 : Shape := ⟨4, ![8, 8, 16, 1040]⟩
abbrev S8x8x16 : Shape := ⟨3, ![8, 8, 16]⟩
abbrev S8x8x16x1 : Shape := ⟨4, ![8, 8, 16, 1]⟩
abbrev S8x8x1x1040 : Shape := ⟨4, ![8, 8, 1, 1040]⟩
abbrev S1x1040 : Shape := ⟨2, ![1, 1040]⟩
abbrev S16x1 : Shape := ⟨2, ![16, 1]⟩
abbrev S16x1040 : Shape := ⟨2, ![16, 1040]⟩
abbrev S1x1x16x1040 : Shape := ⟨4, ![1, 1, 16, 1040]⟩
abbrev S8x8x128x16 : Shape := ⟨4, ![8, 8, 128, 16]⟩
abbrev S8x16x1024 : Shape := ⟨3, ![8, 16, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8x16x16x128, .bf16⟩
  | .hbm, ⟨1, _⟩ => ⟨S8x16x16x128, .bf16⟩
  | .hbm, ⟨2, _⟩ => ⟨S8x16x16x128, .bf16⟩
  | .hbm, ⟨3, _⟩ => ⟨S8x1024x8x128, .f32⟩
  | .hbm, ⟨4, _⟩ => ⟨S8x1024x8x128, .f32⟩
  | .hbm, ⟨5, _⟩ => ⟨S8x8x1152, .f32⟩
  | .hbm, ⟨6, _⟩ => ⟨S8x16x8x128, .bf16⟩
  | .hbm, ⟨7, _⟩ => ⟨S8x16x8x128, .f32⟩
  | .hbm, ⟨8, _⟩ => ⟨S8x16x8x128, .bf16⟩
  | .hbm, ⟨9, _⟩ => ⟨S8x16x8x128, .f32⟩
  | .hbm, ⟨10, _⟩ => ⟨S8x16x8x128, .bf16⟩
  | .hbm, ⟨11, _⟩ => ⟨S8x16x8x128, .f32⟩
  | .hbm, ⟨12, _⟩ => ⟨S8x1040x8x128, .f32⟩
  | .hbm, ⟨13, _⟩ => ⟨S8x1040x8x128, .f32⟩
  | .hbm, ⟨14, _⟩ => ⟨S8x8x1040, .f32⟩
  | .hbm, ⟨15, _⟩ => ⟨S8x1040x8, .f32⟩
  | .hbm, ⟨16, _⟩ => ⟨S16, .i32⟩
  | .hbm, ⟨17, _⟩ => ⟨S_, .i32⟩
  | .hbm, ⟨18, _⟩ => ⟨S16, .i32⟩
  | .hbm, ⟨19, _⟩ => ⟨S16, .i32⟩
  | .hbm, ⟨20, _⟩ => ⟨S1040, .i32⟩
  | .hbm, ⟨21, _⟩ => ⟨S8x16x8, .f32⟩
  | .hbm, ⟨22, _⟩ => ⟨S8x8x16x1040, .f32⟩
  | .hbm, ⟨23, _⟩ => ⟨S_, .f32⟩
  | .hbm, ⟨24, _⟩ => ⟨S8x8x16x1040, .f32⟩
  | .hbm, ⟨25, _⟩ => ⟨S8x8x16x1040, .f32⟩
  | .hbm, ⟨26, _⟩ => ⟨S8x8x16, .f32⟩
  | .hbm, ⟨27, _⟩ => ⟨S8x8x16x1, .f32⟩
  | .hbm, ⟨28, _⟩ => ⟨S8x8x16x1040, .f32⟩
  | .hbm, ⟨29, _⟩ => ⟨S8x8x16x1040, .f32⟩
  | .hbm, ⟨30, _⟩ => ⟨S8x8x1040, .f32⟩
  | .hbm, ⟨31, _⟩ => ⟨S8x8x1x1040, .f32⟩
  | .hbm, ⟨32, _⟩ => ⟨S8x8x16x1040, .f32⟩
  | .hbm, ⟨33, _⟩ => ⟨S8x8x16x1040, .f32⟩
  | .hbm, ⟨34, _⟩ => ⟨S1x1040, .i32⟩
  | .hbm, ⟨35, _⟩ => ⟨S16x1, .i32⟩
  | .hbm, ⟨36, _⟩ => ⟨S16x1040, .i32⟩
  | .hbm, ⟨37, _⟩ => ⟨S16x1040, .i32⟩
  | .hbm, ⟨38, _⟩ => ⟨S16x1040, .i1⟩
  | .hbm, ⟨39, _⟩ => ⟨S1x1x16x1040, .i1⟩
  | .hbm, ⟨40, _⟩ => ⟨S_, .f32⟩
  | .hbm, ⟨41, _⟩ => ⟨S_, .f32⟩
  | .hbm, ⟨42, _⟩ => ⟨S8x8x16x1040, .i1⟩
  | .hbm, ⟨43, _⟩ => ⟨S8x8x16x1040, .f32⟩
  | .hbm, ⟨44, _⟩ => ⟨S8x8x16x1040, .f32⟩
  | .hbm, ⟨45, _⟩ => ⟨S_, .f32⟩
  | .hbm, ⟨46, _⟩ => ⟨S8x8x16, .f32⟩
  | .hbm, ⟨47, _⟩ => ⟨S_, .f32⟩
  | .hbm, ⟨48, _⟩ => ⟨S8x8x16, .f32⟩
  | .hbm, ⟨49, _⟩ => ⟨S8x8x16, .f32⟩
  | .hbm, ⟨50, _⟩ => ⟨S8x8x16x1, .f32⟩
  | .hbm, ⟨51, _⟩ => ⟨S8x8x16x1040, .f32⟩
  | .hbm, ⟨52, _⟩ => ⟨S8x8x16x1040, .f32⟩
  | .hbm, ⟨53, _⟩ => ⟨S8x8x16x1040, .f32⟩
  | .hbm, ⟨54, _⟩ => ⟨S_, .f32⟩
  | .hbm, ⟨55, _⟩ => ⟨S8x8x16, .f32⟩
  | .hbm, ⟨56, _⟩ => ⟨S8x8x16x1, .f32⟩
  | .hbm, ⟨57, _⟩ => ⟨S8x8x16x1040, .f32⟩
  | .hbm, ⟨58, _⟩ => ⟨S8x8x16x1040, .f32⟩
  | .hbm, ⟨59, _⟩ => ⟨S8x8x128x16, .f32⟩
  | .hbm, ⟨60, _⟩ => ⟨S8x16x8x128, .f32⟩
  | .hbm, ⟨61, _⟩ => ⟨S8x16x1024, .f32⟩
  | .hbm, ⟨62, _⟩ => ⟨S8x16x1024, .bf16⟩
  | _, _ => ⟨S8x16x16x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_0 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v32 : Ref sig .tc := ⟨.hbm, 44, rfl⟩
abbrev main_cst_1 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_3 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Proof.Softmax.lean ====
/-
  The running softmax at extended reals, for one query: from the logits `s j` and values `v j` of the keys `j < n`, the
  maximum, the sum of the weights and the weighted values; how one more run of keys extends them; and that the quotient
  at the end is the softmax of all keys when no logit is infinite above.
-/
module

public import Mathlib.Data.EReal.Operations
public import Idealize.ShloMosaic.PureOps.Ideal.Laws

@[expose] public section

noncomputable section

namespace Cert.Softmax

open Idealize.ShloMosaic Finset

variable (s v : ℕ → EReal)

/-- The maximum of the first `n` logits. -/
def mx (n : ℕ) : EReal := (range n).sup s

/-- The sum of the first `n` weights, relative to `M`. -/
def sm (M : EReal) (n : ℕ) : EReal := ∑ j ∈ range n, Ideal.exp (s j - M)

/-- The first `n` values, weighted relative to `M`. -/
def ac (M : EReal) (n : ℕ) : EReal := ∑ j ∈ range n, v j * Ideal.exp (s j - M)

theorem exp_nonneg (x : EReal) : 0 ≤ Ideal.exp x := by
  induction x with
  | bot => simp
  | coe r => simpa using (Real.exp_pos r).le
  | top => simp

/-- A nonnegative real factor goes through any finite sum of extended reals. -/
theorem mul_sum {ι : Type*} (a : ℝ) (ha : 0 ≤ a) (S : Finset ι) (f : ι → EReal) :
    (a : EReal) * ∑ j ∈ S, f j = ∑ j ∈ S, (a : EReal) * f j := by
  classical
  induction S using Finset.induction_on with
  | empty => simp
  | insert j S hj ih =>
    rw [sum_insert hj, sum_insert hj, ← ih]
    exact EReal.left_distrib_of_nonneg_of_ne_top (by exact_mod_cast ha) (EReal.coe_ne_top a) _ _

/-- A finite sum of reals, as an extended real. -/
theorem coe_sum {ι : Type*} (S : Finset ι) (a : ι → ℝ) : ((∑ j ∈ S, a j : ℝ) : EReal) = ∑ j ∈ S, (a j : EReal) := by
  classical
  induction S using Finset.induction_on with
  | empty => simp
  | insert j S hj ih => rw [sum_insert hj, sum_insert hj, EReal.coe_add, ih]

theorem le_mx {n j : ℕ} (h : j < n) : s j ≤ mx s n := le_sup (mem_range.2 h)

theorem mx_ne_top (hs : ∀ j, s j ≠ ⊤) (n : ℕ) : mx s n ≠ ⊤ := by
  rw [← lt_top_iff_ne_top]
  exact (Finset.sup_lt_iff (by simp)).2 fun j _ => (hs j).lt_top

/-- The weights relative to the old maximum, rescaled, are the weights relative to the new one. -/
theorem rescale (Mp Mn x : EReal) (hMn : Mn ≠ ⊤) (h1 : x ≤ Mp) (h2 : Mp ≤ Mn) :
    Ideal.exp (Mp - Mn) * Ideal.exp (x - Mp) = Ideal.exp (x - Mn) := by
  induction Mp with
  | bot =>
    obtain rfl : x = ⊥ := le_bot_iff.1 h1
    simp
  | top => exact absurd (top_le_iff.1 h2) hMn
  | coe Mp =>
    induction Mn with
    | bot => exact absurd (le_bot_iff.1 h2) (EReal.coe_ne_bot _)
    | top => exact absurd rfl hMn
    | coe Mn =>
      induction x with
      | bot => simp
      | top => exact absurd (top_le_iff.1 h1) (EReal.coe_ne_top _)
      | coe x =>
        rw [← EReal.coe_sub, ← EReal.coe_sub, ← EReal.coe_sub, Ideal.exp_coe, Ideal.exp_coe, Ideal.exp_coe, ← EReal.coe_mul, ← Real.exp_add]
        congr 2; ring

/-- The rescaling factor is a nonnegative real. -/
theorem factor (Mp Mn : EReal) (hMn : Mn ≠ ⊤) (h2 : Mp ≤ Mn) : ∃ a : ℝ, 0 ≤ a ∧ Ideal.exp (Mp - Mn) = a := by
  induction Mp with
  | bot => exact ⟨0, le_rfl, by simp⟩
  | top => exact absurd (top_le_iff.1 h2) hMn
  | coe Mp =>
    induction Mn with
    | bot => exact absurd (le_bot_iff.1 h2) (EReal.coe_ne_bot _)
    | top => exact absurd rfl hMn
    | coe Mn => exact ⟨_, (Real.exp_pos (Mp - Mn)).le, by rw [← EReal.coe_sub, Ideal.exp_coe]⟩

theorem mx_add (n w : ℕ) : mx s (n + w) = max (mx s n) ((univ : Finset (Fin w)).fold max ⊥ fun k : Fin w => s (n + k.val)) := by
  have e : ((univ : Finset (Fin w)).fold max ⊥ fun k : Fin w => s (n + k.val)) = (univ : Finset (Fin w)).sup fun k : Fin w => s (n + k.val) := rfl
  rw [e]
  apply le_antisymm
  · refine Finset.sup_le fun j hj => ?_
    by_cases h : j < n
    · exact le_max_of_le_left (le_mx s h)
    · refine le_max_of_le_right ?_
      have hj' := mem_range.1 hj
      have := Finset.le_sup (f := fun k : Fin w => s (n + k)) (mem_univ (⟨j - n, by omega⟩ : Fin w))
      have e : n + (j - n) = j := by omega
      simpa [e] using this
  · refine max_le (Finset.sup_le fun j hj => le_mx s (by have := mem_range.1 hj; omega)) (Finset.sup_le fun k _ => le_mx s (by omega))

theorem sum_add (f : ℕ → EReal) (n w : ℕ) : ∑ j ∈ range (n + w), f j = ∑ j ∈ range n, f j + ∑ k : Fin w, f (n + k) := by
  rw [Finset.sum_range_add, Finset.sum_range (fun k => f (n + k))]

/-- One more run of `w` keys: the sum of the weights. -/
theorem sm_add (hs : ∀ j, s j ≠ ⊤) (n w : ℕ) :
    sm s (mx s (n + w)) (n + w)
      = Ideal.exp (mx s n - mx s (n + w)) * sm s (mx s n) n + ∑ k : Fin w, Ideal.exp (s (n + k) - mx s (n + w)) := by
  have hM := mx_ne_top s hs (n + w)
  have h2 : mx s n ≤ mx s (n + w) := by rw [mx_add]; exact le_max_left _ _
  obtain ⟨a, ha, e⟩ := factor _ _ hM h2
  unfold sm
  rw [sum_add, e, mul_sum a ha, ← e]
  congr 1
  exact Finset.sum_congr rfl fun j hj => (rescale _ _ _ hM (le_mx s (mem_range.1 hj)) h2).symm

/-- One more run of `w` keys: the weighted values. -/
theorem ac_add (hs : ∀ j, s j ≠ ⊤) (n w : ℕ) :
    ac s v (mx s (n + w)) (n + w)
      = Ideal.exp (mx s n - mx s (n + w)) * ac s v (mx s n) n + ∑ k : Fin w, v (n + k) * Ideal.exp (s (n + k) - mx s (n + w)) := by
  have hM := mx_ne_top s hs (n + w)
  have h2 : mx s n ≤ mx s (n + w) := by rw [mx_add]; exact le_max_left _ _
  obtain ⟨a, ha, e⟩ := factor _ _ hM h2
  unfold ac
  rw [sum_add, e, mul_sum a ha, ← e]
  congr 1
  refine Finset.sum_congr rfl fun j hj => ?_
  rw [mul_left_comm, rescale _ _ _ hM (le_mx s (mem_range.1 hj)) h2]

/-- With a real logit among the first `n` and none infinite above, the sum of the weights is a positive real. -/
theorem sm_real (hs : ∀ j, s j ≠ ⊤) {n i : ℕ} (hi : i < n) (hr : s i ≠ ⊥) : ∃ l : ℝ, 0 < l ∧ sm s (mx s n) n = l := by
  have hM := mx_ne_top s hs n
  have hb : mx s n ≠ ⊥ := fun h => hr (le_bot_iff.1 (h ▸ le_mx s hi))
  obtain ⟨M, hMr⟩ : ∃ M : ℝ, mx s n = M := ⟨_, (EReal.coe_toReal hM hb).symm⟩
  have key : ∀ j, ∃ a : ℝ, 0 ≤ a ∧ Ideal.exp (s j - mx s n) = a := fun j => by
    rw [hMr]
    by_cases hj : s j = ⊥
    · exact ⟨0, le_rfl, by rw [hj]; simp⟩
    · refine ⟨_, (Real.exp_pos ((s j).toReal - M)).le, ?_⟩
      conv_lhs => rw [← EReal.coe_toReal (hs j) hj]
      rw [← EReal.coe_sub, Ideal.exp_coe]
  choose a ha e using key
  refine ⟨∑ j ∈ range n, a j, ?_, ?_⟩
  · have hpos : 0 < a i := by
      have : Ideal.exp (s i - mx s n) = ((Real.exp ((s i).toReal - M) : ℝ) : EReal) := by
        rw [hMr]
        conv_lhs => rw [← EReal.coe_toReal (hs i) hr]
        rw [← EReal.coe_sub, Ideal.exp_coe]
      rw [e i] at this
      rw [EReal.coe_eq_coe_iff.1 this]; exact Real.exp_pos _
    exact Finset.sum_pos' (fun j _ => ha j) ⟨i, mem_range.2 hi, hpos⟩
  · unfold sm
    rw [Finset.sum_congr rfl fun j _ => e j]
    exact (coe_sum _ _).symm

/-- The running quotient is the softmax of the keys, weighted. -/
theorem quot (hs : ∀ j, s j ≠ ⊤) {n i : ℕ} (hi : i < n) (hr : s i ≠ ⊥) :
    Ideal.div (ac s v (mx s n) n) (sm s (mx s n) n)
      = ∑ j ∈ range n, v j * Ideal.div (Ideal.exp (s j - mx s n)) (sm s (mx s n) n) := by
  obtain ⟨l, hl, e⟩ := sm_real s hs hi hr
  rw [e, Ideal.div_coe hl.ne', mul_comm]
  unfold ac
  rw [mul_sum _ (by positivity)]
  refine Finset.sum_congr rfl fun j _ => ?_
  rw [Ideal.div_coe hl.ne']
  rw [mul_comm, mul_assoc]

/-- Keys from `n` on whose logits are all `⊥` change nothing. -/
theorem mx_tail {n N : ℕ} (h : n ≤ N) (hb : ∀ j, n ≤ j → j < N → s j = ⊥) : mx s N = mx s n := by
  apply le_antisymm
  · refine Finset.sup_le fun j hj => ?_
    by_cases hjn : j < n
    · exact le_mx s hjn
    · rw [hb j (by omega) (mem_range.1 hj)]; exact bot_le
  · exact Finset.sup_mono (range_mono h)

theorem sum_tail (f : ℕ → EReal) {n N : ℕ} (h : n ≤ N) (hb : ∀ j, n ≤ j → j < N → f j = 0) :
    ∑ j ∈ range N, f j = ∑ j ∈ range n, f j := by
  refine (Finset.sum_subset (range_mono h) fun j hj hn => hb j ?_ (mem_range.1 hj)).symm
  simpa using hn

/-- So the running quotient over the first `n` keys is the softmax over all `N`. -/
theorem quot_tail (hs : ∀ j, s j ≠ ⊤) {n N i : ℕ} (hi : i < n) (hr : s i ≠ ⊥) (h : n ≤ N) (hb : ∀ j, n ≤ j → j < N → s j = ⊥) :
    Ideal.div (ac s v (mx s n) n) (sm s (mx s n) n)
      = ∑ j ∈ range N, v j * Ideal.div (Ideal.exp (s j - mx s N)) (sm s (mx s N) N) := by
  rw [quot s v hs hi hr, mx_tail s h hb]
  have e : sm s (mx s n) N = sm s (mx s n) n := by
    unfold sm
    exact sum_tail _ h fun j h1 h2 => by rw [hb j h1 h2]; simp
  rw [e]
  refine (sum_tail _ h fun j h1 h2 => ?_).symm
  obtain ⟨l, hl, e⟩ := sm_real s hs hi hr
  rw [hb j h1 h2, e, Ideal.div_coe hl.ne']
  simp

end Cert.Softmax
-- ==== Proof.FoxSpec.lean ====
/-
  Forgetting attention (FoX) of the second eight heads, element by element at extended reals: the masked logits of one
  query, and its softmax-weighted sum of the values.
-/
module

public import proofs.«01_k».proof.Proof.Softmax
public import Idealize.ShloMosaic.Lib.Pointwise

@[expose] public section

noncomputable section

namespace Cert.FoxSpec

open Idealize.ShloMosaic Cert.Softmax

/-- Queries, keys and values: batch, position, head, channel. -/
abbrev QT : Shape := ⟨4, ![4, 2048, 16, 128]⟩
/-- The running log-gates: batch, head, position. -/
abbrev CT : Shape := ⟨3, ![4, 8, 2048]⟩

/-- Head `h` of the second eight. -/
abbrev hd (h : Fin 8) : Fin 16 := ⟨8 + h.val, by omega⟩

/-- The scale of the logits, as the word both programs hold. -/
abbrev scale : EReal := FloatOps.ofBits (F := Ideal) FTy.f32 0x3DB504F3#32

variable (Q K V : QT.Idx → EReal) (C : CT.Idx → EReal)

/-- The logit of query `r` against key `j`. -/
def logit (b : Fin 4) (h : Fin 8) (r j : Fin 2048) : EReal :=
  (∑ d : Fin 128, Q (ix4 b r (hd h) d) * K (ix4 b j (hd h) d)) * scale + C (ix3 b h r) - C (ix3 b h j)

/-- The logits of query `r`, later keys hidden. -/
def row (b : Fin 4) (h : Fin 8) (r : Fin 2048) (j : ℕ) : EReal :=
  if hj : j < 2048 then (if j ≤ r.val then logit Q K C b h r ⟨j, hj⟩ else ⊥) else ⊥

/-- Channel `d` of the values. -/
def col (b : Fin 4) (h : Fin 8) (d : Fin 128) (j : ℕ) : EReal := if hj : j < 2048 then V (ix4 b ⟨j, hj⟩ (hd h) d) else 0

/-- What the attention gives. -/
def att (b : Fin 4) (h : Fin 8) (r : Fin 2048) (d : Fin 128) : EReal :=
  ∑ j ∈ Finset.range 2048, col V b h d j
    * Ideal.div (Ideal.exp (row Q K C b h r j - mx (row Q K C b h r) 2048))
        (sm (row Q K C b h r) (mx (row Q K C b h r) 2048) 2048)

theorem row_fin (b : Fin 4) (h : Fin 8) (r j : Fin 2048) :
    row Q K C b h r j.val = if j.val ≤ r.val then logit Q K C b h r j else ⊥ := by
  simp [row]

/-- With finite queries, keys and gates, every logit is finite. -/
theorem logit_real (hQ : ∀ i, Q i ≠ ⊤ ∧ Q i ≠ ⊥) (hK : ∀ i, K i ≠ ⊤ ∧ K i ≠ ⊥) (hC : ∀ i, C i ≠ ⊤ ∧ C i ≠ ⊥)
    (b : Fin 4) (h : Fin 8) (r j : Fin 2048) : ∃ x : ℝ, logit Q K C b h r j = x := by
  have q : ∀ i, Q i = ((Q i).toReal : EReal) := fun i => (EReal.coe_toReal (hQ i).1 (hQ i).2).symm
  have k : ∀ i, K i = ((K i).toReal : EReal) := fun i => (EReal.coe_toReal (hK i).1 (hK i).2).symm
  have c : ∀ i, C i = ((C i).toReal : EReal) := fun i => (EReal.coe_toReal (hC i).1 (hC i).2).symm
  have s : ∃ x : ℝ, scale = x := by
    refine ⟨scale.toReal, (EReal.coe_toReal ?_ ?_).symm⟩
    · show Ideal.ofBits FTy.f32 0x3DB504F3#32 ≠ ⊤
      simp only [Ideal.ofBits, Ideal.ieee]
      simp [-EReal.coe_mul]
    · show Ideal.ofBits FTy.f32 0x3DB504F3#32 ≠ ⊥
      simp only [Ideal.ofBits, Ideal.ieee]
      simp [-EReal.coe_mul]
  obtain ⟨s, hs⟩ := s
  refine ⟨(∑ d : Fin 128, (Q (ix4 b r (hd h) d)).toReal * (K (ix4 b j (hd h) d)).toReal) * s + (C (ix3 b h r)).toReal
    - (C (ix3 b h j)).toReal, ?_⟩
  unfold logit
  rw [hs, c (ix3 b h r), c (ix3 b h j)]
  have e : (∑ d : Fin 128, Q (ix4 b r (hd h) d) * K (ix4 b j (hd h) d))
      = ((∑ d : Fin 128, (Q (ix4 b r (hd h) d)).toReal * (K (ix4 b j (hd h) d)).toReal : ℝ) : EReal) := by
    rw [coe_sum]
    refine Finset.sum_congr rfl fun d _ => ?_
    rw [EReal.coe_mul, ← q, ← k]
  rw [e]
  norm_cast

theorem row_ne_top (hQ : ∀ i, Q i ≠ ⊤ ∧ Q i ≠ ⊥) (hK : ∀ i, K i ≠ ⊤ ∧ K i ≠ ⊥) (hC : ∀ i, C i ≠ ⊤ ∧ C i ≠ ⊥)
    (b : Fin 4) (h : Fin 8) (r : Fin 2048) (j : ℕ) : row Q K C b h r j ≠ ⊤ := by
  unfold row
  split
  · split
    · obtain ⟨x, hx⟩ := logit_real Q K C hQ hK hC b h r ⟨j, ‹_›⟩
      rw [hx]; exact EReal.coe_ne_top x
    · exact bot_ne_top
  · exact bot_ne_top

theorem row_self (hQ : ∀ i, Q i ≠ ⊤ ∧ Q i ≠ ⊥) (hK : ∀ i, K i ≠ ⊤ ∧ K i ≠ ⊥) (hC : ∀ i, C i ≠ ⊤ ∧ C i ≠ ⊥)
    (b : Fin 4) (h : Fin 8) (r : Fin 2048) : row Q K C b h r r.val ≠ ⊥ := by
  obtain ⟨x, hx⟩ := logit_real Q K C hQ hK hC b h r r
  rw [row_fin, if_pos le_rfl, hx]
  exact EReal.coe_ne_bot x

end Cert.FoxSpec
-- ==== Proof.FoxPre.lean ====
/-
  The precondition of the FoX claim read element by element: every query, key and running gate is finite.
-/
module

public import proofs.«01_k».proof.Proof.FoxSpec
public import proofs.«01_k».proof.Proof.Gen.Pre_finite_logits
public import Idealize.ShloMosaic.Lib.ReduceAll

@[expose] public section

set_option maxRecDepth 16384

noncomputable section

namespace Cert.FoxPre

open Idealize.ShloMosaic Cert.Pre_finite_logits Cert.Pre_finite_logits.Facts

instance : Subsingleton S_.Idx := ⟨fun a b => funext fun i => i.elim0⟩

theorem and_one : ∀ a b : BitVec 1, IntOp.andi a b = 1#1 → a = 1#1 ∧ b = 1#1 := by decide

theorem top_word : Ideal.ofBits FTy.f32 0x7F800000#32 = ⊤ := by
  simp [Ideal.ofBits, Ideal.ieee]

/-- A number whose absolute value is below infinity is finite. -/
theorem finite_of_lt (x : EReal) (h : max x (-x) < ⊤) : x ≠ ⊤ ∧ x ≠ ⊥ := by
  constructor
  · rintro rfl
    simp at h
  · rintro rfl
    simp at h

theorem of_test (x : Ideal .f32) (h : (FloatOps.cmpf .olt (FloatOps.hostAbsf x) (FloatOps.ofBits FTy.f32 0x7F800000#32) : BitVec 1) = 1#1) :
    x ≠ (⊤ : EReal) ∧ x ≠ (⊥ : EReal) := by
  apply finite_of_lt
  have e : (FloatOps.ofBits (F := Ideal) FTy.f32 0x7F800000#32) = (⊤ : EReal) := top_word
  rw [e] at h
  change BitVec.ofBool (decide (max x (-x) < ⊤)) = 1#1 at h
  by_contra hn
  rw [decide_eq_false hn] at h
  exact absurd h (by decide)

variable [Facts]

/-- All elements pass the test, so all are finite. -/
theorem finite_all {Q K V : FVec Ideal S4x2048x16x128 .bf16} {C : FVec Ideal S4x8x2048 .f32}
    (h : fn (F := Ideal) Q K V C = fun _ => 1#1) :
    (∀ i, Q i ≠ (⊤ : EReal) ∧ Q i ≠ (⊥ : EReal)) ∧ (∀ i, K i ≠ (⊤ : EReal) ∧ K i ≠ (⊥ : EReal)) ∧ (∀ i, C i ≠ (⊤ : EReal) ∧ C i ≠ (⊥ : EReal)) := by
  have e := congrFun h (ix1 0)
  unfold fn at e
  dsimp only at e
  change IntOp.andi (IntOp.andi (Host.reduce IntOp.andi _ _ _ _ _) (Host.reduce IntOp.andi _ _ _ _ _)) (Host.reduce IntOp.andi _ _ _ _ _) = 1#1 at e
  obtain ⟨e1, e3⟩ := and_one _ _ e
  obtain ⟨e1, e2⟩ := and_one _ _ e1
  exact ⟨fun i => of_test _ (Host.reduce_andi_all _ _ _ _ _ e1 i), fun i => of_test _ (Host.reduce_andi_all _ _ _ _ _ e2 i),
    fun i => of_test _ (Host.reduce_andi_all _ _ _ _ _ e3 i)⟩

end Cert.FoxPre
-- ==== Proof.BandSpec.lean ====
/-
  The chunk-band attention of the first eight heads, element by element at extended reals: the logits of one query
  against the 640 keys that its tile of 128 queries can see, and its softmax-weighted sum of the values.
-/
module

public import proofs.«01_k».proof.Proof.Softmax
public import Idealize.ShloMosaic.Lib.Pointwise

@[expose] public section

noncomputable section

namespace Cert.BandSpec

open Idealize.ShloMosaic Cert.Softmax

/-- Queries, keys and values: batch, position, head, channel. -/
abbrev QT : Shape := ⟨4, ![4, 2048, 16, 128]⟩
/-- The biases: head, key of the tile, query of the tile. -/
abbrev BT : Shape := ⟨3, ![8, 640, 128]⟩

/-- Head `h` of the first eight. -/
abbrev hd (h : Fin 8) : Fin 16 := ⟨h.val, by omega⟩

/-- The scale of the logits, as the word both programs hold. -/
abbrev scale : EReal := FloatOps.ofBits (F := Ideal) FTy.f32 0x3DB504F3#32

variable (Q K V : QT.Idx → EReal) (B : BT.Idx → EReal)

/-- The keys, or values, with 512 rows of zeros in front: channel `d` of row `p`. -/
def padded (b : Fin 4) (h : Fin 8) (d : Fin 128) (p : ℕ) : EReal :=
  if hp : 512 ≤ p ∧ p < 2560 then K (ix4 b ⟨p - 512, by omega⟩ (hd h) d) else 0

/-- The position of query `q` of tile `n`. -/
abbrev pos (n : Fin 16) (q : Fin 128) : Fin 2048 := ⟨128 * n.val + q.val, by omega⟩

/-- The logit of query `q` of tile `n` against key `j` of the tile. -/
def logit (b : Fin 4) (h : Fin 8) (n : Fin 16) (q : Fin 128) (j : Fin 640) : EReal :=
  (∑ d : Fin 128, Q (ix4 b (pos n q) (hd h) d) * padded K b h d (128 * n.val + j.val)) * scale + B (ix3 h j q)

/-- The logits of query `q`, the keys before the first position hidden. -/
def row (b : Fin 4) (h : Fin 8) (n : Fin 16) (q : Fin 128) (j : ℕ) : EReal :=
  if hj : j < 640 then (if 512 ≤ 128 * n.val + j then logit Q K B b h n q ⟨j, hj⟩ else ⊥) else ⊥

/-- Channel `d` of the values of the tile's keys. -/
def col (b : Fin 4) (h : Fin 8) (n : Fin 16) (d : Fin 128) (j : ℕ) : EReal := padded V b h d (128 * n.val + j)

/-- What the attention gives. -/
def att (b : Fin 4) (h : Fin 8) (n : Fin 16) (q d : Fin 128) : EReal :=
  ∑ j ∈ Finset.range 640, col V b h n d j
    * Ideal.div (Ideal.exp (row Q K B b h n q j - mx (row Q K B b h n q) 640))
        (sm (row Q K B b h n q) (mx (row Q K B b h n q) 640) 640)

theorem row_fin (b : Fin 4) (h : Fin 8) (n : Fin 16) (q : Fin 128) (j : Fin 640) :
    row Q K B b h n q j.val = if 512 ≤ 128 * n.val + j.val then logit Q K B b h n q j else ⊥ := by
  simp [row]

/-- The largest of the 640 logits. -/
theorem mx_row (s : ℕ → EReal) : (Finset.univ : Finset (Fin 640)).fold max ⊥ (fun j => s j.val) = mx s 640 := by
  have e := mx_add s 0 640
  simp only [Nat.zero_add] at e
  rw [e]
  simp [mx]

/-- With finite queries, keys and biases, every logit is finite. -/
theorem logit_real (hQ : ∀ i, Q i ≠ ⊤ ∧ Q i ≠ ⊥) (hK : ∀ i, K i ≠ ⊤ ∧ K i ≠ ⊥) (hB : ∀ i, B i ≠ ⊤ ∧ B i ≠ ⊥)
    (b : Fin 4) (h : Fin 8) (n : Fin 16) (q : Fin 128) (j : Fin 640) : ∃ x : ℝ, logit Q K B b h n q j = x := by
  have hq : ∀ i, Q i = ((Q i).toReal : EReal) := fun i => (EReal.coe_toReal (hQ i).1 (hQ i).2).symm
  have hb : ∀ i, B i = ((B i).toReal : EReal) := fun i => (EReal.coe_toReal (hB i).1 (hB i).2).symm
  have hk : ∀ d p, padded K b h d p = ((padded K b h d p).toReal : EReal) := fun d p => by
    unfold padded
    split
    · exact (EReal.coe_toReal (hK _).1 (hK _).2).symm
    · simp
  have s : ∃ x : ℝ, scale = x := by
    refine ⟨scale.toReal, (EReal.coe_toReal ?_ ?_).symm⟩
    · show Ideal.ofBits FTy.f32 0x3DB504F3#32 ≠ ⊤
      simp only [Ideal.ofBits, Ideal.ieee]
      simp [-EReal.coe_mul]
    · show Ideal.ofBits FTy.f32 0x3DB504F3#32 ≠ ⊥
      simp only [Ideal.ofBits, Ideal.ieee]
      simp [-EReal.coe_mul]
  obtain ⟨s, hs⟩ := s
  refine ⟨(∑ d : Fin 128, (Q (ix4 b (pos n q) (hd h) d)).toReal * (padded K b h d (128 * n.val + j.val)).toReal) * s
    + (B (ix3 h j q)).toReal, ?_⟩
  unfold logit
  rw [hs, hb (ix3 h j q)]
  have e : (∑ d : Fin 128, Q (ix4 b (pos n q) (hd h) d) * padded K b h d (128 * n.val + j.val))
      = ((∑ d : Fin 128, (Q (ix4 b (pos n q) (hd h) d)).toReal * (padded K b h d (128 * n.val + j.val)).toReal : ℝ) : EReal) := by
    rw [coe_sum]
    refine Finset.sum_congr rfl fun d _ => ?_
    rw [EReal.coe_mul, ← hq, ← hk]
  rw [e]
  norm_cast

theorem row_ne_top (hQ : ∀ i, Q i ≠ ⊤ ∧ Q i ≠ ⊥) (hK : ∀ i, K i ≠ ⊤ ∧ K i ≠ ⊥) (hB : ∀ i, B i ≠ ⊤ ∧ B i ≠ ⊥)
    (b : Fin 4) (h : Fin 8) (n : Fin 16) (q : Fin 128) (j : ℕ) : row Q K B b h n q j ≠ ⊤ := by
  unfold row
  split
  · split
    · obtain ⟨x, hx⟩ := logit_real Q K B hQ hK hB b h n q ⟨j, ‹_›⟩
      rw [hx]; exact EReal.coe_ne_top x
    · exact bot_ne_top
  · exact bot_ne_top

/-- The last key of a tile is one that every query of the tile sees. -/
theorem row_last (hQ : ∀ i, Q i ≠ ⊤ ∧ Q i ≠ ⊥) (hK : ∀ i, K i ≠ ⊤ ∧ K i ≠ ⊥) (hB : ∀ i, B i ≠ ⊤ ∧ B i ≠ ⊥)
    (b : Fin 4) (h : Fin 8) (n : Fin 16) (q : Fin 128) : row Q K B b h n q 639 ≠ ⊥ := by
  obtain ⟨x, hx⟩ := logit_real Q K B hQ hK hB b h n q ⟨639, by omega⟩
  have e := row_fin Q K B b h n q ⟨639, by omega⟩
  rw [if_pos (by show 512 ≤ 128 * n.val + 639; omega), hx] at e
  rw [e]
  exact EReal.coe_ne_bot x

end Cert.BandSpec
-- ==== Proof.BandPre.lean ====
/-
  The precondition of the chunk-band claim read element by element: every query, key and bias is finite.
-/
module

public import proofs.«01_k».proof.Proof.FoxPre
public import proofs.«01_k».proof.Proof.BandSpec
public import proofs.«01_k».proof.Proof.Gen.Pre_finite_band
public import Idealize.ShloMosaic.Lib.ReduceAll

@[expose] public section

set_option maxRecDepth 16384

noncomputable section

namespace Cert.BandPre

open Idealize.ShloMosaic Cert.Pre_finite_band Cert.Pre_finite_band.Facts
open Cert.FoxPre (and_one of_test)

instance : Subsingleton S_.Idx := ⟨fun a b => funext fun i => i.elim0⟩

variable [Facts]

/-- All elements pass the test, so all are finite. -/
theorem finite_all {Q K V : FVec Ideal S4x2048x16x128 .bf16} {B : FVec Ideal S8x640x128 .f32}
    (h : fn (F := Ideal) Q K V B = fun _ => 1#1) :
    (∀ i, Q i ≠ (⊤ : EReal) ∧ Q i ≠ (⊥ : EReal)) ∧ (∀ i, K i ≠ (⊤ : EReal) ∧ K i ≠ (⊥ : EReal)) ∧ (∀ i, B i ≠ (⊤ : EReal) ∧ B i ≠ (⊥ : EReal)) := by
  have e := congrFun h (ix1 0)
  unfold fn at e
  dsimp only at e
  change IntOp.andi (IntOp.andi (Host.reduce IntOp.andi _ _ _ _ _) (Host.reduce IntOp.andi _ _ _ _ _)) (Host.reduce IntOp.andi _ _ _ _ _) = 1#1 at e
  obtain ⟨e1, e3⟩ := and_one _ _ e
  obtain ⟨e1, e2⟩ := and_one _ _ e1
  exact ⟨fun i => of_test _ (Host.reduce_andi_all _ _ _ _ _ e1 i), fun i => of_test _ (Host.reduce_andi_all _ _ _ _ _ e2 i),
    fun i => of_test _ (Host.reduce_andi_all _ _ _ _ _ e3 i)⟩

end Cert.BandPre
-- ==== Proof.BandRef.lean ====
/-
  The chunk-band reference at one element: it is the attention of `BandSpec`.
-/
module

public import proofs.«01_k».proof.Proof.BandSpec
public import proofs.«01_k».proof.Proof.Gen.BandRefIdeal.Run
public import Idealize.ShloMosaic.Lib.Pipeline.ValueKit
public import Idealize.ShloMosaic.Lib.WordCmp

@[expose] public section

set_option maxRecDepth 16384

noncomputable section

namespace Cert.BandRefIdeal.Value

open Idealize.ShloMosaic Idealize.SL.Sem Cert.BandRefIdeal.Gen Cert.BandSpec Cert.Softmax

/-- The keys, or values, of the first eight heads, with 512 rows of zeros in front, in tiles of 128 rows. -/
def rT (X : FVec Ideal S4x2048x16x128 .bf16) : FVec Ideal S4x20x128x8x128 .f32 :=
  shapeCast S4x20x128x8x128 (pad S4x2560x8x128 ![0, 512, 0, 0] ![0, 0, 0, 0] ![0, 0, 0, 0] (extf .f32 (extractStridedSlice S4x2048x8x128 ![0, 0, 0, 0] X slices_S4x2048x16x128_S4x2048x8x128_0_0_0_0) bitsLt_bf16_f32 : FVec Ideal S4x2048x8x128 .f32) (sitofp .f32 (constantI S_ 32 0#32) : FVec Ideal S_ .f32) pads_S4x2048x8x128_S4x2560x8x128_000_51200_000_000 h_S_) shapeCasts_S4x2560x8x128_S4x20x128x8x128

/-- The 640 rows each tile of queries can see: five tiles of rows in a row. -/
def rW (Y : FVec Ideal S4x20x128x8x128 .f32) : FVec Ideal S4x16x640x8x128 .f32 :=
  concatenate S4x16x640x8x128 2 [
    ⟨S4x16x128x8x128, extractStridedSlice S4x16x128x8x128 ![0, 0, 0, 0, 0] Y slices_S4x20x128x8x128_S4x16x128x8x128_0_0_0_0_0⟩,
    ⟨S4x16x128x8x128, extractStridedSlice S4x16x128x8x128 ![0, 1, 0, 0, 0] Y slices_S4x20x128x8x128_S4x16x128x8x128_0_1_0_0_0⟩,
    ⟨S4x16x128x8x128, extractStridedSlice S4x16x128x8x128 ![0, 2, 0, 0, 0] Y slices_S4x20x128x8x128_S4x16x128x8x128_0_2_0_0_0⟩,
    ⟨S4x16x128x8x128, extractStridedSlice S4x16x128x8x128 ![0, 3, 0, 0, 0] Y slices_S4x20x128x8x128_S4x16x128x8x128_0_3_0_0_0⟩,
    ⟨S4x16x128x8x128, extractStridedSlice S4x16x128x8x128 ![0, 4, 0, 0, 0] Y slices_S4x20x128x8x128_S4x16x128x8x128_0_4_0_0_0⟩]
    concatenates_S4x16x128x8x128_S4x16x128x8x128_S4x16x128x8x128_S4x16x128x8x128_S4x16x128x8x128_S4x16x640x8x128_d2

/-- Which keys of each tile are at or after the first position. -/
def rC : IVec S16x640 1 :=
  cmpi .sge (subi (addi (broadcastInDim S16x640 ![0, 1] bcast_S16x1_S16x640_0_1 (muli (broadcastInDim S16x1 ![0] bcast_S16_S16x1_0 (iotaInDim S16 32 0)) (broadcastInDim S16x1 ![] bcast_S_S16x1 (constantI S_ 32 128#32)))) (broadcastInDim S16x640 ![0, 1] bcast_S1x640_S16x640_0_1 (broadcastInDim S1x640 ![1] bcast_S640_S1x640_1 (iotaInDim S640 32 0)))) (broadcastInDim S16x640 ![] bcast_S_S16x640 (constantI S_ 32 512#32))) (broadcastInDim S16x640 ![] bcast_S_S16x640 (constantI S_ 32 0#32))

/-- The logits. -/
def rS (Q : FVec Ideal S4x2048x16x128 .bf16) (W : FVec Ideal S4x16x640x8x128 .f32) (B : FVec Ideal S8x640x128 .f32) : FVec Ideal S4x8x16x128x640 .f32 :=
  select (broadcastInDim S4x8x16x128x640 ![0, 1, 2, 3, 4] bcast_S1x1x16x1x640_S4x8x16x128x640_0_1_2_3_4 (broadcastInDim S1x1x16x1x640 ![2, 4] bcast_S16x640_S1x1x16x1x640_2_4 rC))
    (addf (mulf (Host.dotGeneral dot_S4x16x128x8x128_S4x16x640x8x128_S4x8x16x128x640_4_4_2_2_031_031 none (shapeCast S4x16x128x8x128 (extf .f32 (extractStridedSlice S4x2048x8x128 ![0, 0, 0, 0] Q slices_S4x2048x16x128_S4x2048x8x128_0_0_0_0) bitsLt_bf16_f32 : FVec Ideal S4x2048x8x128 .f32) shapeCasts_S4x2048x8x128_S4x16x128x8x128) W)
        (broadcastInDim S4x8x16x128x640 ![] bcast_S_S4x8x16x128x640 (constant S_ .f32 0x3DB504F3#32)))
      (broadcastInDim S4x8x16x128x640 ![0, 1, 2, 3, 4] bcast_S1x8x1x128x640_S4x8x16x128x640_0_1_2_3_4 (broadcastInDim S1x8x1x128x640 ![1, 3, 4] bcast_S8x128x640_S1x8x1x128x640_1_3_4 (transpose S8x128x640 [0, 2, 1] B transposes_S8x640x128_S8x128x640_0_2_1))))
    (broadcastInDim S4x8x16x128x640 ![] bcast_S_S4x8x16x128x640 (id (constant S_ .f32 0xFF800000#32)))

/-- The largest logit of each query. -/
def rM (S : FVec Ideal S4x8x16x128x640 .f32) : FVec Ideal S4x8x16x128 .f32 :=
  Host.reduce FloatOps.maximumf S (constant S_ .f32 0xFF800000#32) reducesTo_S4x8x16x128x640_S4x8x16x128_d4 h_S_

/-- The exponentials of the logits less a number for each query. -/
def rE (S : FVec Ideal S4x8x16x128x640 .f32) (M : FVec Ideal S4x8x16x128 .f32) : FVec Ideal S4x8x16x128x640 .f32 :=
  Host.exp (subf S (broadcastInDim S4x8x16x128x640 ![0, 1, 2, 3, 4] bcast_S4x8x16x128x1_S4x8x16x128x640_0_1_2_3_4 (broadcastInDim S4x8x16x128x1 ![0, 1, 2, 3] bcast_S4x8x16x128_S4x8x16x128x1_0_1_2_3 (maximumf (broadcastInDim S4x8x16x128 ![] bcast_S_S4x8x16x128 (constant S_ .f32 0xFF800000#32)) M))))

/-- The weights. -/
def rP (E : FVec Ideal S4x8x16x128x640 .f32) : FVec Ideal S4x8x16x128x640 .f32 :=
  Host.divf E (broadcastInDim S4x8x16x128x640 ![0, 1, 2, 3, 4] bcast_S4x8x16x128x1_S4x8x16x128x640_0_1_2_3_4 (broadcastInDim S4x8x16x128x1 ![0, 1, 2, 3] bcast_S4x8x16x128_S4x8x16x128x1_0_1_2_3 (Host.reduceAdd E (constant S_ .f32 0x00000000#32) reducesTo_S4x8x16x128x640_S4x8x16x128_d4 h_S_)))

/-- The weighted values. -/
def rO (P : FVec Ideal S4x8x16x128x640 .f32) (W : FVec Ideal S4x16x640x8x128 .f32) : FVec Ideal S4x2048x1024 .bf16 :=
  truncf .bf16 (shapeCast S4x2048x1024 (transpose S4x16x128x8x128 [0, 1, 4, 2, 3] (Host.dotGeneral dot_S4x16x640x8x128_S4x8x16x128x640_S4x16x8x128x128_2_4_4_3_013_021 none W P) transposes_S4x16x8x128x128_S4x16x128x8x128_0_1_4_2_3) shapeCasts_S4x16x128x8x128_S4x2048x1024) bitsLt_bf16_f32

theorem bot_word : Ideal.ofBits FTy.f32 4286578688#32 = ⊥ := by
  simp [Ideal.ofBits, Ideal.ieee]

theorem rT_at (X : FVec Ideal S4x2048x16x128 .bf16) (b : Fin 4) (u : Fin 20) (r : Fin 128) (h : Fin 8) (d : Fin 128) :
    rT X (ix5 b u r h d) = padded X b h d (128 * u.val + r.val) := by
  unfold padded
  pointwise [rT]
  have e : (FloatOps.sitofp FTy.f32 0#32 : Ideal .f32) = (0 : EReal) := by
    show (((0#32 : BitVec 32).toInt : ℝ) : EReal) = 0
    simp
  rw [e]
  have h1 := u.isLt
  have h2 := r.isLt
  have ec : u.val * 128 + r.val = 128 * u.val + r.val := by omega
  simp only [ec]
  by_cases hp : 512 ≤ 128 * u.val + r.val
  · rw [dif_pos ⟨hp, by omega⟩, dif_pos ⟨hp, by omega⟩]
  · rw [dif_neg (fun h' => hp h'.1), dif_neg (fun h' => hp h'.1)]

theorem rW_at (Y : FVec Ideal S4x20x128x8x128 .f32) (b : Fin 4) (n : Fin 16) (j : Fin 640) (h : Fin 8) (d : Fin 128) :
    rW Y (ix5 b n j h d) = Y (ix5 b ⟨n.val + j.val / 128, by omega⟩ ⟨j.val % 128, by omega⟩ h d) := by
  pointwise [rW]
  have hj := j.isLt
  have hn := n.isLt
  have key : ∀ (u : ℕ) (hu : u < 20) (r : ℕ) (hr : r < 128), u = n.val + j.val / 128 → r = j.val % 128 →
      Y (ix5 b ⟨u, hu⟩ ⟨r, hr⟩ h d) = Y (ix5 b ⟨n.val + j.val / 128, by omega⟩ ⟨j.val % 128, by omega⟩ h d) := by
    intro u hu r hr e1 e2
    subst e1 e2
    rfl
  split
  · exact key _ _ _ _ (by omega) (by omega)
  · split
    · exact key _ _ _ _ (by omega) (by omega)
    · split
      · exact key _ _ _ _ (by omega) (by omega)
      · split
        · exact key _ _ _ _ (by omega) (by omega)
        · exact key _ _ _ _ (by omega) (by omega)

theorem rC_at (n : Fin 16) (j : Fin 640) : rC (ix2 n j) = BitVec.ofBool (decide (512 ≤ 128 * n.val + j.val)) := by
  pointwise [rC]
  have hn := n.isLt
  have hj := j.isLt
  have e : IntOp.subi (IntOp.addi (IntOp.muli (BitVec.ofNat 32 n.val) 128#32) (BitVec.ofNat 32 j.val)) 512#32
      = BitVec.ofNat 32 (128 * n.val + j.val) - 512#32 := by
    show BitVec.ofNat 32 n.val * 128#32 + BitVec.ofNat 32 j.val - 512#32 = _
    congr 1
    apply BitVec.eq_of_toNat_eq
    simp only [BitVec.toNat_add, BitVec.toNat_mul, BitVec.toNat_ofNat]
    omega
  rw [e]
  show BitVec.ofBool (BitVec.sle 0#32 (BitVec.ofNat 32 (128 * n.val + j.val) - 512#32)) = _
  congr 1
  unfold BitVec.sle
  apply decide_eq_decide.2
  rw [BitVec.toInt_sub, BitVec.toInt_ofNat', BitVec.toInt_ofNat', BitVec.toInt_ofNat']
  simp only [Int.bmod]
  omega

theorem rS_at (Q : FVec Ideal S4x2048x16x128 .bf16) (W : FVec Ideal S4x16x640x8x128 .f32) (B : FVec Ideal S8x640x128 .f32)
    (b : Fin 4) (h : Fin 8) (n : Fin 16) (q : Fin 128) (j : Fin 640) :
    rS Q W B (ix5 b h n q j) = if 512 ≤ 128 * n.val + j.val then
      (∑ d : Fin 128, Q (ix4 b (pos n q) (hd h) d) * W (ix5 b n j h d)) * scale + B (ix3 h j q) else ⊥ := by
  pointwise [rS]
  have e : id (constant S_ FTy.f32 4286578688#32 : FVec Ideal S_ .f32) ix0 = (⊥ : EReal) := bot_word
  have ep : ∀ hp : n.val * 128 + q.val < 2048, (⟨n.val * 128 + q.val, hp⟩ : Fin 2048) = pos n q := fun hp =>
    Fin.ext (by show n.val * 128 + q.val = 128 * n.val + q.val; omega)
  rw [e, rC_at]
  simp only [ep]
  by_cases hj : 512 ≤ 128 * n.val + j.val <;> simp [hj, Scalar.select]

theorem rM_at (S : FVec Ideal S4x8x16x128x640 .f32) (b : Fin 4) (h : Fin 8) (n : Fin 16) (q : Fin 128) :
    rM S (ix4 b h n q) = (Finset.univ : Finset (Fin 640)).fold max ⊥ fun j => S (ix5 b h n q j) := by
  pointwise [rM]
  rw [bot_word]

theorem rE_at (S : FVec Ideal S4x8x16x128x640 .f32) (M : FVec Ideal S4x8x16x128 .f32) (b : Fin 4) (h : Fin 8) (n : Fin 16) (q : Fin 128) (j : Fin 640) :
    rE S M (ix5 b h n q j) = Ideal.exp (S (ix5 b h n q j) - max ⊥ (M (ix4 b h n q))) := by
  pointwise [rE]
  rw [bot_word]

theorem rP_at (E : FVec Ideal S4x8x16x128x640 .f32) (b : Fin 4) (h : Fin 8) (n : Fin 16) (q : Fin 128) (j : Fin 640) :
    rP E (ix5 b h n q j) = Ideal.div (E (ix5 b h n q j)) (∑ k : Fin 640, E (ix5 b h n q k)) := by
  pointwise [rP]

theorem rO_at (P : FVec Ideal S4x8x16x128x640 .f32) (W : FVec Ideal S4x16x640x8x128 .f32) (b : Fin 4) (n : Fin 16) (q : Fin 128) (h : Fin 8) (d : Fin 128) :
    rO P W (ix3 b (pos n q) ⟨128 * h.val + d.val, by omega⟩) = ∑ j : Fin 640, W (ix5 b n j h d) * P (ix5 b h n q j) := by
  pointwise [rO]
  have e1 : ∀ hp : (128 * n.val + q.val) / 128 < 16, (⟨(128 * n.val + q.val) / 128, hp⟩ : Fin 16) = n := fun hp =>
    Fin.ext (by show (128 * n.val + q.val) / 128 = n.val; omega)
  have e2 : ∀ hp : (128 * n.val + q.val) % 128 < 128, (⟨(128 * n.val + q.val) % 128, hp⟩ : Fin 128) = q := fun hp =>
    Fin.ext (by show (128 * n.val + q.val) % 128 = q.val; omega)
  simp only [e1, e2]

theorem res_eq (m : (ℓ : Loc nD τ sig) → Buf (Elt Ideal) ℓ) (c : Dev nD) (Q K V : FVec Ideal S4x2048x16x128 .bf16) (B : FVec Ideal S8x640x128 .f32)
    (hQ : m ((c.tc : Thread nD τ).loc main_arg0) = Q) (hK : m ((c.tc : Thread nD τ).loc main_arg1) = K)
    (hV : m ((c.tc : Thread nD τ).loc main_arg2) = V) (hB : m ((c.tc : Thread nD τ).loc main_arg3) = B) :
    res_main_v59 m c = rO (rP (rE (rS Q (rW (rT K)) B) (rM (rS Q (rW (rT K)) B)))) (rW (rT V)) := by
  subst hQ hK hV hB
  unfold res_main_v59 rO rP rE rM rS rC rW rT
  rfl

/-- The reference is the attention. -/
theorem ref_at (Q K V : FVec Ideal S4x2048x16x128 .bf16) (B : FVec Ideal S8x640x128 .f32) (b : Fin 4) (n : Fin 16) (q : Fin 128) (h : Fin 8) (d : Fin 128) :
    rO (rP (rE (rS Q (rW (rT K)) B) (rM (rS Q (rW (rT K)) B)))) (rW (rT V)) (ix3 b (pos n q) ⟨128 * h.val + d.val, by omega⟩)
      = att Q K V B b h n q d := by
  have hS : ∀ j : Fin 640, rS Q (rW (rT K)) B (ix5 b h n q j) = row Q K B b h n q j.val := fun j => by
    have e : 128 * (n.val + j.val / 128) + j.val % 128 = 128 * n.val + j.val := by omega
    rw [rS_at, row_fin]
    unfold logit
    simp only [rW_at, rT_at, e]
  rw [rO_at]
  unfold att
  rw [Finset.sum_range]
  refine Finset.sum_congr rfl fun j _ => ?_
  have e : 128 * (n.val + j.val / 128) + j.val % 128 = 128 * n.val + j.val := by omega
  simp only [rP_at, rE_at, rM_at, hS, mx_row, max_bot_left, rW_at, rT_at, e]
  unfold col sm
  rw [Finset.sum_range]

end Cert.BandRefIdeal.Value
-- ==== Proof.BandTile.lean ====
/-
  One tile of the chunk-band attention kernel, at extended reals: the logits of the 640 keys that a tile of 128 queries
  can see, with those before the first position hidden, and the softmax-weighted values; as operations on whole vectors
  and then read at one element.
-/
module

public import proofs.«01_k».proof.Proof.BandSpec
public import proofs.«01_k».proof.Proof.Gen.BandIdeal.Value
public import Idealize.ShloMosaic.Lib.Pipeline.ValueKit
public import Idealize.ShloMosaic.Lib.Pointwise
public import Idealize.ShloMosaic.Lib.Pipeline.ReadBack
public import Idealize.ShloMosaic.Lib.Pipeline.Value
public import Idealize.ShloMosaic.Lib.WordCmp

@[expose] public section

set_option maxRecDepth 16384

noncomputable section

namespace Cert.BandIdeal.Value

open Idealize.ShloMosaic Idealize.SL.Sem Cert.BandIdeal.Gen Cert.Softmax

/-- The factor the logits are scaled by. -/
abbrev scl : EReal := FloatOps.ofBits (F := Ideal) FTy.f32 0x3DB504F3#32

/-- The logits of one tile, keys by queries, those of keys before the first position replaced: `w` is the tile's first row. -/
def tileS (w : BitVec 32) (K : FVec Ideal S640x128 .bf16) (Q : Vec Ideal S1x128x128 .bf16) (B : Vec Ideal S1x640x128 .f32) : FVec Ideal S640x128 .f32 :=
  select (cmpi .sge (iota .tc S640x128 32 [0] iota_S640x128_d0_w32) (broadcast S640x128 (Scalar.subi 512#32 w)))
    (addf (mulf (matmul dot_S640x128_S128x128_S640x128_1_1_0_0_n_n none K (shapeCast S128x128 Q shapeCasts_S1x128x128_S128x128 : FVec Ideal S128x128 .bf16) (constant S640x128 .f32 0x00000000#32))
        (broadcast S640x128 (Scalar.ofBits .f32 0x3DB504F3#32)))
      (shapeCast S640x128 B shapeCasts_S1x640x128_S640x128 : FVec Ideal S640x128 .f32))
    (broadcast S640x128 (Named.named κ "mask" 0xF149F2CA#32))

/-- The largest logit of each query. -/
def tileM (S : FVec Ideal S640x128 .f32) : FVec Ideal S1x128 .f32 :=
  shapeCast S1x128 (multiReduction .maximumf [0] S128 S 0xFF800000#32 reduces_S640x128_S128 (.inl rfl) rfl) shapeCasts_S128_S1x128

/-- The weights. -/
def tileP (S : FVec Ideal S640x128 .f32) : FVec Ideal S640x128 .f32 :=
  exp (subf S (broadcastTo S640x128 (tileM S) broadcasts_S1x128_S640x128))

/-- The sum of the weights. -/
def tileL (P : FVec Ideal S640x128 .f32) : FVec Ideal S1x128 .f32 :=
  shapeCast S1x128 (multiReduction .add [0] S128 P 0x00000000#32 reduces_S640x128_S128 (.inl rfl) rfl) shapeCasts_S128_S1x128

/-- The weighted values over the sum, with a query a row. -/
def tileD (V : FVec Ideal S640x128 .bf16) (P : FVec Ideal S640x128 .f32) : FVec Ideal S1x128x128 .bf16 :=
  shapeCast S1x128x128 (truncf .bf16 (transpose S128x128 [1, 0]
    (divf (matmul dot_S640x128_S640x128_S128x128_0_0_1_1_n_n none V (truncf .bf16 P bitsLt_bf16_f32) (constant S128x128 .f32 0x00000000#32))
      (broadcastTo S128x128 (tileL P) broadcasts_S1x128_S128x128)) transposes_S128x128_p1_0_S128x128) bitsLt_bf16_f32 : FVec Ideal S128x128 .bf16)
    shapeCasts_S128x128_S1x128x128

/-- What a tile stores. -/
def tileO (V : FVec Ideal S640x128 .bf16) (S : FVec Ideal S640x128 .f32) : FVec Ideal S1x128x128 .bf16 := tileD V (tileP S)

/-! ### The same at one element -/

/-- The words' comparison of a key's number with 512 less the tile's first row. -/
theorem sge_word (n k : ℕ) (hn : n ≤ 2048) (hk : k < 640) :
    IntOp.cmpi .sge (BitVec.ofNat 32 k) (Scalar.subi 512#32 (BitVec.ofNat 32 n)) = BitVec.ofBool (decide (512 ≤ n + k)) := by
  have e : Scalar.subi 512#32 (BitVec.ofNat 32 n) = 512#32 - BitVec.ofNat 32 n := rfl
  rw [e]
  show BitVec.ofBool (BitVec.sle (512#32 - BitVec.ofNat 32 n) (BitVec.ofNat 32 k)) = _
  congr 1
  unfold BitVec.sle
  apply decide_eq_decide.2
  rw [BitVec.toInt_sub, BitVec.toInt_ofNat', BitVec.toInt_ofNat', BitVec.toInt_ofNat']
  simp only [Int.bmod]
  omega

theorem tileS_at (w : BitVec 32) (n : ℕ) (hn : n ≤ 2048) (hw : w = BitVec.ofNat 32 n) (K : FVec Ideal S640x128 .bf16)
    (Q : Vec Ideal S1x128x128 .bf16) (B : Vec Ideal S1x640x128 .f32) (k : Fin 640) (q : Fin 128) :
    tileS w K Q B (ix2 k q)
      = if 512 ≤ n + k.val then (∑ d : Fin 128, K (ix2 k d) * Q (ix3 0 q d)) * scl + B (ix3 0 k q) else ⊥ := by
  subst hw
  have e : (Named.named κ "mask" (0xF149F2CA#32 : BitVec FTy.f32.bits) : Ideal FTy.f32) = ⊥ := rfl
  have hc : IntOp.cmpi .sge (BitVec.ofNat 32 k.val) (Scalar.subi 512#32 (BitVec.ofNat 32 n)) = BitVec.ofBool (decide (512 ≤ n + k.val)) :=
    sge_word n k.val hn k.isLt
  pointwise [tileS]
  rw [e, hc]
  by_cases h : 512 ≤ n + k.val <;> simp [h, Scalar.select]

theorem tileM_at (S : FVec Ideal S640x128 .f32) (q : Fin 128) :
    tileM S (ix2 0 q) = (Finset.univ : Finset (Fin 640)).fold max ⊥ fun k => S (ix2 k q) := by
  have e : Ideal.ofBits FTy.f32 4286578688#32 = ⊥ := by simp [Ideal.ofBits, Ideal.ieee]
  pointwise [tileM]
  rw [e]

theorem tileP_at (S : FVec Ideal S640x128 .f32) (k : Fin 640) (q : Fin 128) :
    tileP S (ix2 k q) = Ideal.exp (S (ix2 k q) - tileM S (ix2 0 q)) := by
  pointwise [tileP]

theorem tileL_at (P : FVec Ideal S640x128 .f32) (q : Fin 128) :
    tileL P (ix2 0 q) = ∑ k : Fin 640, P (ix2 k q) := by
  pointwise [tileL]

theorem tileD_at (V : FVec Ideal S640x128 .bf16) (P : FVec Ideal S640x128 .f32) (q d : Fin 128) :
    tileD V P (ix3 0 q d) = Ideal.div (∑ k : Fin 640, V (ix2 k d) * P (ix2 k q)) (tileL P (ix2 0 q)) := by
  pointwise [tileD]

/-- What a tile stores is the softmax-weighted sum of its values. -/
theorem tileO_at (s v : ℕ → EReal) (hs : ∀ j, s j ≠ ⊤) (hr : s 639 ≠ ⊥) (V : FVec Ideal S640x128 .bf16) (S : FVec Ideal S640x128 .f32)
    (q d : Fin 128) (hS : ∀ k : Fin 640, S (ix2 k q) = s k.val) (hV : ∀ k : Fin 640, V (ix2 k d) = v k.val) :
    tileO V S (ix3 0 q d) = ∑ j ∈ Finset.range 640, v j * Ideal.div (Ideal.exp (s j - mx s 640)) (sm s (mx s 640) 640) := by
  have hM : tileM S (ix2 0 q) = mx s 640 := by
    rw [tileM_at]
    simp only [hS]
    exact Cert.BandSpec.mx_row s
  rw [← quot s v hs (n := 640) (i := 639) (by decide) hr]
  unfold tileO ac sm
  rw [tileD_at, tileL_at, Finset.sum_range, Finset.sum_range]
  simp only [tileP_at, hM, hS, hV]

end Cert.BandIdeal.Value
-- ==== Proof.BandPoint.lean ====
/-
  What one grid point of the chunk-band attention kernel stores: each of its sixteen tiles of 128 queries, from the
  640 rows of the padded keys and values that the tile can see.
-/
module

public import proofs.«01_k».proof.Proof.BandTile

@[expose] public section

set_option maxRecDepth 16384

noncomputable section

namespace Cert.BandIdeal.Value

open Idealize.ShloMosaic Idealize.SL.Sem Cert.BandIdeal.Gen

theorem ld_skip {s : Shape} {e : EltTy} {Val : EltTy → Type} [∀ e, Nonempty (Val e)] (r : Rect s) (w : r.shape.Idx → Val e)
    (L : List (View.Piece Val s e)) (B : Rect s) (h : LoadRect.disj r B.toLoadRect = true) :
    View.ld (View.canon (⟨r, w⟩ :: L)) B = View.ld (View.canon L) B := by
  funext x
  exact View.canon_cons_of_not_mem ⟨r, w⟩ L (LoadRect.idx_not_mem_of_disj h x)

theorem ld_hit {s : Shape} {e : EltTy} {Val : EltTy → Type} [∀ e, Nonempty (Val e)] (r : Rect s) (w : r.shape.Idx → Val e)
    (L : List (View.Piece Val s e)) : View.ld (View.canon (⟨r, w⟩ :: L)) r = w := by
  funext x
  exact View.canon_cons_emb r w L x

variable (m : (ℓ : Loc nD τ sig) → Buf (Elt Ideal) ℓ) (c : Dev nD) (t : Fin cfg0.N)

/-- The rows of tile `n` of the queries and of the result. -/
abbrev qR (n : Fin 16) : Rect S1x2048x128 :=
  Rect.unit ![0, 128 * n.val, 0] ![1, 128, 128] (by intro a; fin_cases n <;> fin_cases a <;> decide)

/-- The rows of the window of tile `n` in the padded keys and values. -/
abbrev wR (n : Fin 16) : Rect S2560x128 :=
  Rect.unit ![128 * n.val, 0] ![640, 128] (by intro a; fin_cases n <;> fin_cases a <;> decide)

/-- The padded keys and values. -/
def kbuf : Vec Ideal S2560x128 .bf16 := View.canon (Val := Elt Ideal)
  [⟨Rect.unit ![512, 0] ![2048, 128] inb_S2560x128_S2048x128_512_0, k0_pay4 (F := Ideal) (iblk m c 1 t)⟩,
   ⟨Rect.unit ![0, 0] ![512, 128] inb_S2560x128_S512x128_0_0, k0_pay2 (F := Ideal)⟩]
def vbuf : Vec Ideal S2560x128 .bf16 := View.canon (Val := Elt Ideal)
  [⟨Rect.unit ![512, 0] ![2048, 128] inb_S2560x128_S2048x128_512_0, k0_pay5 (F := Ideal) (iblk m c 2 t)⟩,
   ⟨Rect.unit ![0, 0] ![512, 128] inb_S2560x128_S512x128_0_0, k0_pay3 (F := Ideal)⟩]

set_option maxHeartbeats 2000000 in
/-- What the point stores for tile `n`. -/
theorem point (n : Fin 16) : View.ld (outsAt0 m c t) (qR n)
    = tileO (View.ld (vbuf m c t) (wR n))
        (tileS (Scalar.muli (BitVec.ofNat 32 n.val) 128#32) (View.ld (kbuf m c t) (wR n)) (View.ld (iblk m c 0 t) (qR n)) (iblk m c 3 t)) := by
  unfold outsAt0
  frame_out
  fin_cases n
  all_goals
    dsimp only [qR, wR, Nat.reduceMul]
    simp (disch := decide) only [↓ ld_skip, ↓ ld_hit]
    simp only [View.readCov_eq_canon']
    rfl

end Cert.BandIdeal.Value
-- ==== Proof.BandBlocks.lean ====
/-
  The blocks one grid point of the chunk-band attention kernel reads, as elements of the arguments.
-/
module

public import proofs.«01_k».proof.Proof.BandTile

@[expose] public section

set_option maxRecDepth 16384

noncomputable section

namespace Cert.BandIdeal.Value

open Idealize.ShloMosaic Idealize.SL.Sem Cert.BandIdeal.Gen Cert.BandSpec

variable (m : (ℓ : Loc nD τ sig) → Buf (Elt Ideal) ℓ) (c : Dev nD) (t : Fin cfg0.N)

/-- The arguments. -/
abbrev aQ : QT.Idx → EReal := m ((c.tc : Thread nD τ).loc main_arg0)
abbrev aK : QT.Idx → EReal := m ((c.tc : Thread nD τ).loc main_arg1)
abbrev aV : QT.Idx → EReal := m ((c.tc : Thread nD τ).loc main_arg2)
abbrev aB : BT.Idx → EReal := m ((c.tc : Thread nD τ).loc main_arg3)

/-- The point's batch and its head. -/
abbrev pb : Fin 4 := grid0.coords t 0
abbrev ph : Fin 8 := grid0.coords t 1

theorem idx : ∀ t : Fin cfg0.N,
    win0_0.index t = ![(grid0.coords t 0).val, 0, (grid0.coords t 1).val]
    ∧ win0_1.index t = ![(grid0.coords t 0).val, 0, (grid0.coords t 1).val]
    ∧ win0_2.index t = ![(grid0.coords t 0).val, 0, (grid0.coords t 1).val]
    ∧ win0_3.index t = ![(grid0.coords t 1).val, 0, 0]
    ∧ win0_4.index t = ![(grid0.coords t 0).val, 0, (grid0.coords t 1).val] :=
  (by decide +kernel : ∀ t : Fin grid0.N, _)

theorem q_at (r : Fin 2048) (d : Fin 128) :
    iblk m c 0 t (ix3 0 r d) = aQ m c (ix4 (pb t) r (hd (ph t)) d) := by
  blk_ext! [iblk, V, idx t]
  · exact Nat.add_zero _
  · show ((ph t).val * 128 + d.val) / 128 = (ph t).val
    omega

theorem k_at (r : Fin 2048) (d : Fin 128) :
    iblk m c 1 t (ix3 0 r d) = aK m c (ix4 (pb t) r (hd (ph t)) d) := by
  blk_ext! [iblk, V, idx t]
  · exact Nat.add_zero _
  · show ((ph t).val * 128 + d.val) / 128 = (ph t).val
    omega

theorem v_at (r : Fin 2048) (d : Fin 128) :
    iblk m c 2 t (ix3 0 r d) = aV m c (ix4 (pb t) r (hd (ph t)) d) := by
  blk_ext! [iblk, V, idx t]
  · exact Nat.add_zero _
  · show ((ph t).val * 128 + d.val) / 128 = (ph t).val
    omega

theorem b_at (k : Fin 640) (q : Fin 128) :
    iblk m c 3 t (ix3 0 k q) = aB m c (ix3 (ph t) k q) := by
  blk_ext! [iblk, V, idx t]
  exact Nat.add_zero _

end Cert.BandIdeal.Value
-- ==== Proof.BandValue.lean ====
/-
  The chunk-band attention kernel's result: every tile of every head is the attention of `BandSpec`.
-/
module

public import proofs.«01_k».proof.Proof.BandPoint
public import proofs.«01_k».proof.Proof.BandBlocks

@[expose] public section

set_option maxRecDepth 16384

noncomputable section

namespace Cert.BandIdeal.Value

open Idealize.ShloMosaic Idealize.SL.Sem Cert.BandIdeal.Gen Cert.BandSpec Cert.Softmax

variable (m : (ℓ : Loc nD τ sig) → Buf (Elt Ideal) ℓ) (c : Dev nD) (t : Fin cfg0.N)

theorem hi_emb (p : Fin 2560) (d : Fin 128) (h : 512 ≤ p.val) :
    (ix2 p d : S2560x128.Idx)
      = (Rect.unit ![512, 0] ![2048, 128] inb_S2560x128_S2048x128_512_0 : Rect S2560x128).emb (ix2 ⟨p.val - 512, by omega⟩ d) := by
  funext a
  apply Fin.ext
  rw [ValueKit.rect_emb_unit_val]
  fin_cases a
  · show p.val = 512 + (p.val - 512)
    omega
  · exact (Nat.zero_add _).symm

theorem lo_emb (p : Fin 2560) (d : Fin 128) (h : p.val < 512) :
    (ix2 p d : S2560x128.Idx)
      = (Rect.unit ![0, 0] ![512, 128] inb_S2560x128_S512x128_0_0 : Rect S2560x128).emb (ix2 ⟨p.val, h⟩ d) := by
  funext a
  apply Fin.ext
  rw [ValueKit.rect_emb_unit_val]
  fin_cases a
  · exact (Nat.zero_add _).symm
  · exact (Nat.zero_add _).symm

theorem lo_not_mem (p : Fin 2560) (d : Fin 128) (h : p.val < 512) :
    (ix2 p d : S2560x128.Idx) ∉ (Rect.unit ![512, 0] ![2048, 128] inb_S2560x128_S2048x128_512_0 : Rect S2560x128).set := by
  intro hm
  obtain ⟨x, hx⟩ : ∃ x, (Rect.unit ![512, 0] ![2048, 128] inb_S2560x128_S2048x128_512_0 : Rect S2560x128).emb x = ix2 p d :=
    LoadRect.exists_idx_of_mem _ hm
  have e := congrArg Fin.val (congrFun hx 0)
  rw [ValueKit.rect_emb_unit_val] at e
  change 512 + _ = p.val at e
  omega

/-- What two such pieces leave. -/
theorem two_at (X : FVec Ideal S2048x128 .bf16) (Z : FVec Ideal S512x128 .bf16) (p : Fin 2560) (d : Fin 128) :
    (View.canon (Val := Elt Ideal)
      [⟨Rect.unit ![512, 0] ![2048, 128] inb_S2560x128_S2048x128_512_0, X⟩,
       ⟨Rect.unit ![0, 0] ![512, 128] inb_S2560x128_S512x128_0_0, Z⟩] : Vec Ideal S2560x128 .bf16) (ix2 p d)
      = if h : 512 ≤ p.val then X (ix2 ⟨p.val - 512, by omega⟩ d) else Z (ix2 ⟨p.val, by omega⟩ d) := by
  by_cases h : 512 ≤ p.val
  · rw [dif_pos h, hi_emb p d h]
    exact View.canon_cons_emb _ _ _ _
  · have h' : p.val < 512 := by omega
    rw [dif_neg h]
    refine (View.canon_cons_of_not_mem (Val := Elt Ideal) (e := .bf16)
      ⟨(Rect.unit ![512, 0] ![2048, 128] inb_S2560x128_S2048x128_512_0 : Rect S2560x128), X⟩
      [⟨(Rect.unit ![0, 0] ![512, 128] inb_S2560x128_S512x128_0_0 : Rect S2560x128), Z⟩] (lo_not_mem p d h')).trans ?_
    rw [lo_emb p d h']
    exact View.canon_cons_emb _ _ _ _

theorem kbuf_at (p : Fin 2560) (d : Fin 128) : kbuf m c t (ix2 p d) = padded (aK m c) (pb t) (ph t) d p.val := by
  unfold kbuf padded
  rw [two_at]
  have hp := p.isLt
  by_cases h : 512 ≤ p.val
  · rw [dif_pos h, dif_pos ⟨h, hp⟩, ← k_at]
    pointwise [k0_pay4]
  · rw [dif_neg h, dif_neg (fun h' => h h'.1)]
    pointwise [k0_pay2]

theorem vbuf_at (p : Fin 2560) (d : Fin 128) : vbuf m c t (ix2 p d) = padded (aV m c) (pb t) (ph t) d p.val := by
  unfold vbuf padded
  rw [two_at]
  have hp := p.isLt
  by_cases h : 512 ≤ p.val
  · rw [dif_pos h, dif_pos ⟨h, hp⟩, ← v_at]
    pointwise [k0_pay5]
  · rw [dif_neg h, dif_neg (fun h' => h h'.1)]
    pointwise [k0_pay3]

theorem ld_w (x : Vec Ideal S2560x128 .bf16) (n : Fin 16) (k : Fin 640) (d : Fin 128) :
    View.ld x (wR n) (ix2 k d) = x (ix2 ⟨128 * n.val + k.val, by omega⟩ d) := by
  show x ((wR n).emb (ix2 k d)) = _
  congr 1
  funext a
  apply Fin.ext
  rw [ValueKit.rect_emb_unit_val]
  fin_cases a
  · rfl
  · exact Nat.zero_add _

theorem ld_q (x : Vec Ideal S1x2048x128 .bf16) (n : Fin 16) (q d : Fin 128) :
    View.ld x (qR n) (ix3 0 q d) = x (ix3 0 (pos n q) d) := by
  show x ((qR n).emb (ix3 0 q d)) = _
  congr 1
  funext a
  apply Fin.ext
  rw [ValueKit.rect_emb_unit_val]
  fin_cases a
  · rfl
  · rfl
  · exact Nat.zero_add _

theorem word : ∀ n : Fin 16, Scalar.muli (BitVec.ofNat 32 n.val) 128#32 = BitVec.ofNat 32 (128 * n.val) := by decide

/-- The logits of the point's tile `n`, keys before the first position hidden. -/
abbrev rw' (n : Fin 16) (q : Fin 128) : ℕ → EReal := row (aQ m c) (aK m c) (aB m c) (pb t) (ph t) n q

/-- What the point stores. -/
theorem point_att (n : Fin 16) (q d : Fin 128) (hs : ∀ j, rw' m c t n q j ≠ ⊤) (hr : rw' m c t n q 639 ≠ ⊥) :
    View.ld (outsAt0 m c t) (qR n) (ix3 0 q d) = att (aQ m c) (aK m c) (aV m c) (aB m c) (pb t) (ph t) n q d := by
  have hn := n.isLt
  rw [point]
  refine tileO_at (rw' m c t n q) (col (aV m c) (pb t) (ph t) n d) hs hr _ _ q d (fun k => ?_) fun k => ?_
  · rw [tileS_at _ (128 * n.val) (by omega) (word n)]
    unfold rw'
    rw [row_fin]
    unfold logit
    rw [b_at]
    have e : ∀ x : Fin 128, View.ld (kbuf m c t) (wR n) (ix2 k x) * View.ld (iblk m c 0 t) (qR n) (ix3 0 q x)
        = aQ m c (ix4 (pb t) (pos n q) (hd (ph t)) x) * padded (aK m c) (pb t) (ph t) x (128 * n.val + k.val) := fun x => by
      rw [ld_w, ld_q, kbuf_at, q_at]
      exact mul_comm _ _
    rw [Finset.sum_congr rfl fun x _ => e x]
  · rw [ld_w, vbuf_at]
    rfl

/-- The attention as an array: channel `128 h + d` of position `128 n + q`. -/
def attArr (Q K V : QT.Idx → EReal) (B : BT.Idx → EReal) : S4x2048x1024.Idx → EReal := fun i =>
  att Q K V B (i 0) ⟨(i 2).val / 128, by have : (i 2).val < 1024 := (i 2).isLt; omega⟩
    ⟨(i 1).val / 128, by have : (i 1).val < 2048 := (i 1).isLt; omega⟩ ⟨(i 1).val % 128, by omega⟩ ⟨(i 2).val % 128, by omega⟩

theorem attArr_at (Q K V : QT.Idx → EReal) (B : BT.Idx → EReal) (i : S4x2048x1024.Idx) (b : Fin 4) (h : Fin 8) (n : Fin 16) (q d : Fin 128)
    (h0 : i 0 = b) (h1 : (i 1).val = 128 * n.val + q.val) (h2 : (i 2).val = 128 * h.val + d.val) :
    attArr Q K V B i = att Q K V B b h n q d := by
  subst h0
  have eh : (⟨(i 2).val / 128, by have : (i 2).val < 1024 := (i 2).isLt; omega⟩ : Fin 8) = h := Fin.ext (by show (i 2).val / 128 = h.val; omega)
  have ed : (⟨(i 2).val % 128, by omega⟩ : Fin 128) = d := Fin.ext (by show (i 2).val % 128 = d.val; omega)
  have en : (⟨(i 1).val / 128, by have : (i 1).val < 2048 := (i 1).isLt; omega⟩ : Fin 16) = n := Fin.ext (by show (i 1).val / 128 = n.val; omega)
  have eq : (⟨(i 1).val % 128, by omega⟩ : Fin 128) = q := Fin.ext (by show (i 1).val % 128 = q.val; omega)
  unfold attArr
  rw [eh, ed, en, eq]

/-- The kernel's array. -/
theorem final (hs : ∀ b h n q j, row (aQ m c) (aK m c) (aB m c) b h n q j ≠ ⊤)
    (hr : ∀ b h n q, row (aQ m c) (aK m c) (aB m c) b h n q 639 ≠ ⊥) :
    (dats m 0 c).arrAt 4 cfg0.N = attArr (aQ m c) (aK m c) (aV m c) (aB m c) := by
  refine (dats m 0 c).arrAt_eq_of_covers 4 _ (by decide +kernel) fun t hf y => ?_
  blk_simp
  rw [after0_4]
  have h1 : (y 1).val < 2048 := (y 1).isLt
  have h0 : (y 0).val < 1 := (y 0).isLt
  have e := point_att m c t ⟨(y 1).val / 128, by omega⟩ ⟨(y 1).val % 128, by omega⟩ (y 2) (hs _ _ _ _) (hr _ _ _ _)
  have e' := (ld_q (outsAt0 m c t) _ _ _).symm.trans e
  have hy : (ix3 0 (pos ⟨(y 1).val / 128, by omega⟩ ⟨(y 1).val % 128, by omega⟩) (y 2) : S1x2048x128.Idx) = y := by
    funext a
    fin_cases a
    · exact Fin.ext (by show 0 = (y 0).val; omega)
    · exact Fin.ext (by show 128 * ((y 1).val / 128) + (y 1).val % 128 = (y 1).val; omega)
    · rfl
  rw [← hy]
  refine e'.trans (attArr_at _ _ _ _ _ _ _ _ _ _ ?_ ?_ ?_).symm
  · apply Fin.ext
    rw [hy]
    blk_simp [idx t]
  · rw [hy]
    blk_simp [idx t]
    show (y 1).val = 128 * ((y 1).val / 128) + (y 1).val % 128
    omega
  · rw [hy]
    blk_simp [idx t]
    show (ph t).val * 128 + (y 2).val = 128 * (ph t).val + (y 2).val
    omega

end Cert.BandIdeal.Value
-- ==== Proof.BandSPre.lean ====
/-
  The precondition of the sample batch's chunk-band claim read element by element: every query, key and bias is finite.
-/
module

public import proofs.«01_k».proof.Proof.FoxPre
public import proofs.«01_k».proof.Proof.Gen.Pre_finite_band_sample
public import Idealize.ShloMosaic.Lib.ReduceAll

@[expose] public section

set_option maxRecDepth 16384

noncomputable section

namespace Cert.BandSPre

open Idealize.ShloMosaic Cert.Pre_finite_band_sample Cert.Pre_finite_band_sample.Facts
open Cert.FoxPre (and_one of_test)

instance : Subsingleton S_.Idx := ⟨fun a b => funext fun i => i.elim0⟩

variable [Facts]

/-- All elements pass the test, so all are finite. -/
theorem finite_all {Q K V : FVec Ideal S8x16x16x128 .bf16} {Kc Vc : FVec Ideal S8x512x8x128 .f32} {B : FVec Ideal S8x16x528 .f32}
    (h : fn (F := Ideal) Q K V Kc Vc B = fun _ => 1#1) :
    (∀ i, Q i ≠ (⊤ : EReal) ∧ Q i ≠ (⊥ : EReal)) ∧ (∀ i, K i ≠ (⊤ : EReal) ∧ K i ≠ (⊥ : EReal))
    ∧ (∀ i, Kc i ≠ (⊤ : EReal) ∧ Kc i ≠ (⊥ : EReal)) ∧ (∀ i, B i ≠ (⊤ : EReal) ∧ B i ≠ (⊥ : EReal)) := by
  have e := congrFun h (ix1 0)
  unfold fn at e
  try unfold fn_part1 at e
  dsimp only at e
  change IntOp.andi (IntOp.andi (IntOp.andi (Host.reduce IntOp.andi _ _ _ _ _) (Host.reduce IntOp.andi _ _ _ _ _)) (Host.reduce IntOp.andi _ _ _ _ _))
    (Host.reduce IntOp.andi _ _ _ _ _) = 1#1 at e
  obtain ⟨e1, e4⟩ := and_one _ _ e
  obtain ⟨e1, e3⟩ := and_one _ _ e1
  obtain ⟨e1, e2⟩ := and_one _ _ e1
  exact ⟨fun i => of_test _ (Host.reduce_andi_all _ _ _ _ _ e1 i), fun i => of_test _ (Host.reduce_andi_all _ _ _ _ _ e2 i),
    fun i => of_test _ (Host.reduce_andi_all _ _ _ _ _ e3 i), fun i => of_test _ (Host.reduce_andi_all _ _ _ _ _ e4 i)⟩

end Cert.BandSPre
-- ==== Proof.SampleSpec.lean ====
/-
  The attention of the sample batch, element by element at extended reals: 16 new queries of one stream against `N` cached
  keys and the 16 new ones. The chunk-band attention and the forgetting attention differ in what they add to the logits, in
  which keys a query sees and in their heads.
-/
module

public import proofs.«01_k».proof.Proof.Softmax
public import Idealize.ShloMosaic.Lib.Pointwise

@[expose] public section

noncomputable section

namespace Cert.SampleSpec

open Idealize.ShloMosaic Cert.Softmax

/-- Queries and new keys and values: stream, position, head, channel. -/
abbrev QT : Shape := ⟨4, ![8, 16, 16, 128]⟩
/-- The cached keys and values. -/
abbrev CT (N : ℕ) : Shape := ⟨4, ![8, N, 8, 128]⟩

/-- The scale of the logits, as the word all programs hold. -/
abbrev scale : EReal := FloatOps.ofBits (F := Ideal) FTy.f32 0x3DB504F3#32

variable {N : ℕ} (Q Kn Vn : QT.Idx → EReal) (Kc Vc : (CT N).Idx → EReal) (hd : Fin 8 → Fin 16)
variable (A : Fin 8 → Fin 8 → Fin 16 → ℕ → EReal) (vis : Fin 16 → ℕ → Bool)

/-- Channel `d` of key, or value, `j`: the cached ones and then the new ones. -/
def key (b h : Fin 8) (d : Fin 128) (j : ℕ) : EReal :=
  if hj : j < N then Kc (ix4 b ⟨j, hj⟩ h d) else if hk : j - N < 16 then Kn (ix4 b ⟨j - N, hk⟩ (hd h) d) else 0

theorem key_old (b h : Fin 8) (d : Fin 128) (j : Fin N) : key Kn Kc hd b h d j.val = Kc (ix4 b j h d) := dif_pos j.isLt

theorem key_new (b h : Fin 8) (d : Fin 128) (j : Fin 16) : key Kn Kc hd b h d (N + j.val) = Kn (ix4 b j (hd h) d) := by
  have e : N + j.val - N = j.val := by omega
  unfold key
  rw [dif_neg (by omega), dif_pos (by omega)]
  simp only [e]

/-- The logit of query `q` against key `j`. -/
def logit (b h : Fin 8) (q : Fin 16) (j : ℕ) : EReal :=
  (∑ d : Fin 128, Q (ix4 b q (hd h) d) * key Kn Kc hd b h d j) * scale + A b h q j

/-- The logits of query `q`, the keys that it does not see hidden. -/
def row (b h : Fin 8) (q : Fin 16) (j : ℕ) : EReal := if vis q j = true then logit Q Kn Kc hd A b h q j else ⊥

/-- What the attention gives. -/
def att (b h : Fin 8) (q : Fin 16) (d : Fin 128) : EReal :=
  ∑ j ∈ Finset.range (N + 16), key Vn Vc hd b h d j
    * Ideal.div (Ideal.exp (row Q Kn Kc hd A vis b h q j - mx (row Q Kn Kc hd A vis b h q) (N + 16)))
        (sm (row Q Kn Kc hd A vis b h q) (mx (row Q Kn Kc hd A vis b h q) (N + 16)) (N + 16))

/-- The largest of the first `n` logits. -/
theorem mx_fin (s : ℕ → EReal) (n : ℕ) : (Finset.univ : Finset (Fin n)).fold max ⊥ (fun j => s j.val) = mx s n := by
  have e := mx_add s 0 n
  simp only [Nat.zero_add] at e
  rw [e]
  simp [mx]

/-- The largest of the cached and of the new logits. -/
theorem mx_two (s : ℕ → EReal) (n : ℕ) :
    max ((Finset.univ : Finset (Fin n)).fold max ⊥ (fun j => s j.val)) ((Finset.univ : Finset (Fin 16)).fold max ⊥ fun k => s (n + k.val))
      = mx s (n + 16) := by
  rw [mx_fin, mx_add]

/-- The two parts' weighted values over the two parts' weights are the softmax over all keys. -/
theorem two_part (s v : ℕ → EReal) (hs : ∀ j, s j ≠ ⊤) {n i : ℕ} (hi : i < n + 16) (hr : s i ≠ ⊥) :
    Ideal.div (∑ k : Fin n, Ideal.exp (s k.val - mx s (n + 16)) * v k.val
          + ∑ k : Fin 16, Ideal.exp (s (n + k.val) - mx s (n + 16)) * v (n + k.val))
        (∑ k : Fin n, Ideal.exp (s k.val - mx s (n + 16)) + ∑ k : Fin 16, Ideal.exp (s (n + k.val) - mx s (n + 16)))
      = ∑ j ∈ Finset.range (n + 16), v j * Ideal.div (Ideal.exp (s j - mx s (n + 16))) (sm s (mx s (n + 16)) (n + 16)) := by
  rw [← quot s v hs hi hr]
  unfold ac sm
  rw [sum_add, sum_add, Finset.sum_range, Finset.sum_range]
  congr 2
  · exact Finset.sum_congr rfl fun _ _ => mul_comm _ _
  · exact Finset.sum_congr rfl fun _ _ => mul_comm _ _

/-- With finite queries, keys and added terms, every logit is finite. -/
theorem logit_real (hQ : ∀ b q h d, Q (ix4 b q (hd h) d) ≠ ⊤ ∧ Q (ix4 b q (hd h) d) ≠ ⊥) (hN : ∀ i, Kn i ≠ ⊤ ∧ Kn i ≠ ⊥) (hC : ∀ i, Kc i ≠ ⊤ ∧ Kc i ≠ ⊥)
    (hA : ∀ b h q j, A b h q j ≠ ⊤ ∧ A b h q j ≠ ⊥) (b h : Fin 8) (q : Fin 16) (j : ℕ) : ∃ x : ℝ, logit Q Kn Kc hd A b h q j = x := by
  have hq : ∀ d, Q (ix4 b q (hd h) d) = ((Q (ix4 b q (hd h) d)).toReal : EReal) := fun d => (EReal.coe_toReal (hQ b q h d).1 (hQ b q h d).2).symm
  have hk : ∀ d, key Kn Kc hd b h d j = ((key Kn Kc hd b h d j).toReal : EReal) := fun d => by
    unfold key
    split
    · exact (EReal.coe_toReal (hC _).1 (hC _).2).symm
    · split
      · exact (EReal.coe_toReal (hN _).1 (hN _).2).symm
      · simp
  have s : ∃ x : ℝ, scale = x := by
    refine ⟨scale.toReal, (EReal.coe_toReal ?_ ?_).symm⟩
    · show Ideal.ofBits FTy.f32 0x3DB504F3#32 ≠ ⊤
      simp only [Ideal.ofBits, Ideal.ieee]
      simp [-EReal.coe_mul]
    · show Ideal.ofBits FTy.f32 0x3DB504F3#32 ≠ ⊥
      simp only [Ideal.ofBits, Ideal.ieee]
      simp [-EReal.coe_mul]
  obtain ⟨s, hs⟩ := s
  have ha : A b h q j = ((A b h q j).toReal : EReal) := (EReal.coe_toReal (hA _ _ _ _).1 (hA _ _ _ _).2).symm
  refine ⟨(∑ d : Fin 128, (Q (ix4 b q (hd h) d)).toReal * (key Kn Kc hd b h d j).toReal) * s + (A b h q j).toReal, ?_⟩
  unfold logit
  have e : (∑ d : Fin 128, Q (ix4 b q (hd h) d) * key Kn Kc hd b h d j)
      = ((∑ d : Fin 128, (Q (ix4 b q (hd h) d)).toReal * (key Kn Kc hd b h d j).toReal : ℝ) : EReal) := by
    rw [coe_sum]
    refine Finset.sum_congr rfl fun d _ => ?_
    rw [EReal.coe_mul, ← hq, ← hk]
  rw [e, hs, ha]
  norm_cast

theorem row_ne_top (hQ : ∀ b q h d, Q (ix4 b q (hd h) d) ≠ ⊤ ∧ Q (ix4 b q (hd h) d) ≠ ⊥) (hN : ∀ i, Kn i ≠ ⊤ ∧ Kn i ≠ ⊥) (hC : ∀ i, Kc i ≠ ⊤ ∧ Kc i ≠ ⊥)
    (hA : ∀ b h q j, A b h q j ≠ ⊤ ∧ A b h q j ≠ ⊥) (b h : Fin 8) (q : Fin 16) (j : ℕ) : row Q Kn Kc hd A vis b h q j ≠ ⊤ := by
  unfold row
  split
  · obtain ⟨x, hx⟩ := logit_real Q Kn Kc hd A hQ hN hC hA b h q j
    rw [hx]; exact EReal.coe_ne_top x
  · exact bot_ne_top

/-- The first cached key is one that every query sees. -/
theorem row_first (hQ : ∀ b q h d, Q (ix4 b q (hd h) d) ≠ ⊤ ∧ Q (ix4 b q (hd h) d) ≠ ⊥) (hN : ∀ i, Kn i ≠ ⊤ ∧ Kn i ≠ ⊥) (hC : ∀ i, Kc i ≠ ⊤ ∧ Kc i ≠ ⊥)
    (hA : ∀ b h q j, A b h q j ≠ ⊤ ∧ A b h q j ≠ ⊥) (hv : ∀ q, vis q 0 = true) (b h : Fin 8) (q : Fin 16) : row Q Kn Kc hd A vis b h q 0 ≠ ⊥ := by
  obtain ⟨x, hx⟩ := logit_real Q Kn Kc hd A hQ hN hC hA b h q 0
  unfold row
  rw [if_pos (hv q), hx]
  exact EReal.coe_ne_bot x

end Cert.SampleSpec
-- ==== Proof.BandSTile.lean ====
/-
  One head of the sample batch's chunk-band attention kernel, at extended reals: the logits of 16 queries against 512
  cached and 16 new keys, and the softmax-weighted values; as operations on whole vectors and then read at one element.
-/
module

public import proofs.«01_k».proof.Proof.SampleSpec
public import proofs.«01_k».proof.Proof.Gen.BandSIdeal.Value
public import Idealize.ShloMosaic.Lib.Pipeline.ValueKit
public import Idealize.ShloMosaic.Lib.Pointwise
public import Idealize.ShloMosaic.Lib.Pipeline.ReadBack
public import Idealize.ShloMosaic.Lib.Pipeline.Value
public import Idealize.ShloMosaic.Lib.WordCmp

@[expose] public section

set_option maxRecDepth 16384

noncomputable section

namespace Cert.BandSIdeal.Value

open Idealize.ShloMosaic Idealize.SL.Sem Cert.BandSIdeal.Gen Cert.Softmax

/-- The factor the logits are scaled by. -/
abbrev scl : EReal := FloatOps.ofBits (F := Ideal) FTy.f32 0x3DB504F3#32

/-- The logits against the cached keys. -/
def tileC (Q : Vec Ideal S1x16x128 .bf16) (K : Vec Ideal S1x512x128 .f32) (B : Vec Ideal S1x16x528 .f32) : FVec Ideal S16x512 .f32 :=
  addf (mulf (matmul dot_S16x128_S512x128_S16x512_1_1_0_0_n_n none (shapeCast S16x128 Q shapeCasts_S1x16x128_S16x128 : FVec Ideal S16x128 .bf16)
      (truncf .bf16 (shapeCast S512x128 K shapeCasts_S1x512x128_S512x128 : FVec Ideal S512x128 .f32) bitsLt_bf16_f32) (constant S16x512 .f32 0x00000000#32))
      (broadcast S16x512 (Scalar.ofBits .f32 0x3DB504F3#32)))
    (extractStridedSlice S16x512 ![0, 0] (shapeCast S16x528 B shapeCasts_S1x16x528_S16x528 : FVec Ideal S16x528 .f32) slices_S16x528_o0_0_S16x512)

/-- The logits against the new keys. -/
def tileN (Q K : Vec Ideal S1x16x128 .bf16) (B : Vec Ideal S1x16x528 .f32) : FVec Ideal S16x16 .f32 :=
  addf (mulf (matmul dot_S16x128_S16x128_S16x16_1_1_0_0_n_n none (shapeCast S16x128 Q shapeCasts_S1x16x128_S16x128 : FVec Ideal S16x128 .bf16)
      (shapeCast S16x128 K shapeCasts_S1x16x128_S16x128 : FVec Ideal S16x128 .bf16) (constant S16x16 .f32 0x00000000#32))
      (broadcast S16x16 (Scalar.ofBits .f32 0x3DB504F3#32)))
    (extractStridedSlice S16x16 ![0, 512] (shapeCast S16x528 B shapeCasts_S1x16x528_S16x528 : FVec Ideal S16x528 .f32) slices_S16x528_o0_512_S16x16)

/-- The largest logit of each query. -/
def tileM (C : FVec Ideal S16x512 .f32) (N : FVec Ideal S16x16 .f32) : FVec Ideal S16x1 .f32 :=
  maximumf (shapeCast S16x1 (multiReduction .maximumf [1] S16 C 0xFF800000#32 reduces_S16x512_S16 (.inl rfl) rfl) shapeCasts_S16_S16x1)
    (shapeCast S16x1 (multiReduction .maximumf [1] S16 N 0xFF800000#32 reduces_S16x16_S16 (.inl rfl) rfl) shapeCasts_S16_S16x1)

/-- The weights of the cached keys and of the new ones. -/
def tileP (C : FVec Ideal S16x512 .f32) (M : FVec Ideal S16x1 .f32) : FVec Ideal S16x512 .f32 :=
  exp (subf C (broadcastTo S16x512 M broadcasts_S16x1_S16x512))
def tileR (N : FVec Ideal S16x16 .f32) (M : FVec Ideal S16x1 .f32) : FVec Ideal S16x16 .f32 :=
  exp (subf N (broadcastTo S16x16 M broadcasts_S16x1_S16x16))

/-- The sum of the weights. -/
def tileL (P : FVec Ideal S16x512 .f32) (R : FVec Ideal S16x16 .f32) : FVec Ideal S16x1 .f32 :=
  addf (shapeCast S16x1 (multiReduction .add [1] S16 P 0x00000000#32 reduces_S16x512_S16 (.inl rfl) rfl) shapeCasts_S16_S16x1)
    (shapeCast S16x1 (multiReduction .add [1] S16 R 0x00000000#32 reduces_S16x16_S16 (.inl rfl) rfl) shapeCasts_S16_S16x1)

/-- The weighted values over the sum. -/
def tileD (V : Vec Ideal S1x512x128 .f32) (W : Vec Ideal S1x16x128 .bf16) (P : FVec Ideal S16x512 .f32) (R : FVec Ideal S16x16 .f32) : FVec Ideal S1x16x128 .bf16 :=
  shapeCast S1x16x128 (truncf .bf16 (divf
    (addf (matmul dot_S16x512_S512x128_S16x128_1_0_0_1_n_n none (truncf .bf16 P bitsLt_bf16_f32)
        (truncf .bf16 (shapeCast S512x128 V shapeCasts_S1x512x128_S512x128 : FVec Ideal S512x128 .f32) bitsLt_bf16_f32) (constant S16x128 .f32 0x00000000#32))
      (matmul dot_S16x16_S16x128_S16x128_1_0_0_1_n_n none (truncf .bf16 R bitsLt_bf16_f32)
        (shapeCast S16x128 W shapeCasts_S1x16x128_S16x128 : FVec Ideal S16x128 .bf16) (constant S16x128 .f32 0x00000000#32)))
    (broadcastTo S16x128 (tileL P R) broadcasts_S16x1_S16x128)) bitsLt_bf16_f32 : FVec Ideal S16x128 .bf16) shapeCasts_S16x128_S1x16x128

/-- What a head stores. -/
def tileO (V : Vec Ideal S1x512x128 .f32) (W : Vec Ideal S1x16x128 .bf16) (C : FVec Ideal S16x512 .f32) (N : FVec Ideal S16x16 .f32) : FVec Ideal S1x16x128 .bf16 :=
  tileD V W (tileP C (tileM C N)) (tileR N (tileM C N))

/-! ### The same at one element -/

theorem tileC_at (Q : Vec Ideal S1x16x128 .bf16) (K : Vec Ideal S1x512x128 .f32) (B : Vec Ideal S1x16x528 .f32) (q : Fin 16) (k : Fin 512) :
    tileC Q K B (ix2 q k) = (∑ d : Fin 128, Q (ix3 0 q d) * K (ix3 0 k d)) * scl + B (ix3 0 q ⟨k.val, by omega⟩) := by
  pointwise [tileC]

theorem tileN_at (Q K : Vec Ideal S1x16x128 .bf16) (B : Vec Ideal S1x16x528 .f32) (q k : Fin 16) :
    tileN Q K B (ix2 q k) = (∑ d : Fin 128, Q (ix3 0 q d) * K (ix3 0 k d)) * scl + B (ix3 0 q ⟨512 + k.val, by omega⟩) := by
  pointwise [tileN]

theorem tileM_at (C : FVec Ideal S16x512 .f32) (N : FVec Ideal S16x16 .f32) (q : Fin 16) :
    tileM C N (ix2 q 0) = max ((Finset.univ : Finset (Fin 512)).fold max ⊥ fun k => C (ix2 q k))
      ((Finset.univ : Finset (Fin 16)).fold max ⊥ fun k => N (ix2 q k)) := by
  have e : Ideal.ofBits FTy.f32 4286578688#32 = ⊥ := by simp [Ideal.ofBits, Ideal.ieee]
  pointwise [tileM]
  rw [e]

theorem tileP_at (C : FVec Ideal S16x512 .f32) (M : FVec Ideal S16x1 .f32) (q : Fin 16) (k : Fin 512) :
    tileP C M (ix2 q k) = Ideal.exp (C (ix2 q k) - M (ix2 q 0)) := by
  pointwise [tileP]

theorem tileR_at (N : FVec Ideal S16x16 .f32) (M : FVec Ideal S16x1 .f32) (q k : Fin 16) :
    tileR N M (ix2 q k) = Ideal.exp (N (ix2 q k) - M (ix2 q 0)) := by
  pointwise [tileR]

theorem tileL_at (P : FVec Ideal S16x512 .f32) (R : FVec Ideal S16x16 .f32) (q : Fin 16) :
    tileL P R (ix2 q 0) = ∑ k : Fin 512, P (ix2 q k) + ∑ k : Fin 16, R (ix2 q k) := by
  pointwise [tileL]

theorem tileD_at (V : Vec Ideal S1x512x128 .f32) (W : Vec Ideal S1x16x128 .bf16) (P : FVec Ideal S16x512 .f32) (R : FVec Ideal S16x16 .f32) (q : Fin 16) (d : Fin 128) :
    tileD V W P R (ix3 0 q d) = Ideal.div (∑ k : Fin 512, P (ix2 q k) * V (ix3 0 k d) + ∑ k : Fin 16, R (ix2 q k) * W (ix3 0 k d)) (tileL P R (ix2 q 0)) := by
  pointwise [tileD]

/-- What a head stores is the softmax-weighted sum of its values. -/
theorem tileO_at (s v : ℕ → EReal) (hs : ∀ j, s j ≠ ⊤) (hr : s 0 ≠ ⊥) (V : Vec Ideal S1x512x128 .f32) (W : Vec Ideal S1x16x128 .bf16)
    (C : FVec Ideal S16x512 .f32) (N : FVec Ideal S16x16 .f32) (q : Fin 16) (d : Fin 128)
    (hC : ∀ k : Fin 512, C (ix2 q k) = s k.val) (hN : ∀ k : Fin 16, N (ix2 q k) = s (512 + k.val))
    (hV : ∀ k : Fin 512, V (ix3 0 k d) = v k.val) (hW : ∀ k : Fin 16, W (ix3 0 k d) = v (512 + k.val)) :
    tileO V W C N (ix3 0 q d) = ∑ j ∈ Finset.range (512 + 16), v j * Ideal.div (Ideal.exp (s j - mx s (512 + 16))) (sm s (mx s (512 + 16)) (512 + 16)) := by
  have hM : tileM C N (ix2 q 0) = mx s (512 + 16) := by
    rw [tileM_at]
    simp only [hC, hN]
    exact Cert.SampleSpec.mx_two s 512
  rw [← Cert.SampleSpec.two_part s v hs (n := 512) (i := 0) (by decide) hr]
  unfold tileO
  rw [tileD_at, tileL_at]
  simp only [tileP_at, tileR_at, hM, hC, hN, hV, hW]

end Cert.BandSIdeal.Value
-- ==== Proof.BandSPoint.lean ====
/-
  One grid point of the sample batch's chunk-band attention kernel: the blocks it reads, as elements of the arguments, and
  what it stores for each of its eight heads.
-/
module

public import proofs.«01_k».proof.Proof.BandSTile

@[expose] public section

set_option maxRecDepth 16384

noncomputable section

namespace Cert.BandSIdeal.Value

open Idealize.ShloMosaic Idealize.SL.Sem Cert.BandSIdeal.Gen Cert.SampleSpec

/-- The biases: head, query, key. -/
abbrev BT : Shape := ⟨3, ![8, 16, 528]⟩

/-- Head `h` of the first eight. -/
abbrev hd (h : Fin 8) : Fin 16 := ⟨h.val, by omega⟩

/-- What is added to the logits: the biases. -/
def add (B : BT.Idx → EReal) (_ h : Fin 8) (q : Fin 16) (j : ℕ) : EReal := if hj : j < 528 then B (ix3 h q ⟨j, hj⟩) else 0

/-- Every query sees every key. -/
def vis (_ : Fin 16) (_ : ℕ) : Bool := true

variable (m : (ℓ : Loc nD τ sig) → Buf (Elt Ideal) ℓ) (c : Dev nD) (t : Fin cfg0.N)

/-- The arguments. -/
abbrev aQ : QT.Idx → EReal := m ((c.tc : Thread nD τ).loc main_arg0)
abbrev aK : QT.Idx → EReal := m ((c.tc : Thread nD τ).loc main_arg1)
abbrev aV : QT.Idx → EReal := m ((c.tc : Thread nD τ).loc main_arg2)
abbrev aKc : (CT 512).Idx → EReal := m ((c.tc : Thread nD τ).loc main_arg3)
abbrev aVc : (CT 512).Idx → EReal := m ((c.tc : Thread nD τ).loc main_arg4)
abbrev aB : BT.Idx → EReal := m ((c.tc : Thread nD τ).loc main_arg5)

/-- The point's stream. -/
abbrev pb : Fin 8 := grid0.coords t 0

theorem idx : ∀ t : Fin cfg0.N,
    win0_0.index t = ![(grid0.coords t 0).val, 0, 0]
    ∧ win0_1.index t = ![(grid0.coords t 0).val, 0, 0]
    ∧ win0_2.index t = ![(grid0.coords t 0).val, 0, 0]
    ∧ win0_3.index t = ![(grid0.coords t 0).val, 0, 0]
    ∧ win0_4.index t = ![(grid0.coords t 0).val, 0, 0]
    ∧ win0_5.index t = ![0, 0, 0]
    ∧ win0_6.index t = ![(grid0.coords t 0).val, 0, 0] :=
  (by decide +kernel : ∀ t : Fin grid0.N, _)

/-- The columns of head `h` in the queries and the new keys and values, in the cached ones and in the result. -/
abbrev qR (h : Fin 8) : Rect S1x16x2048 :=
  Rect.unit ![0, 0, 128 * (hd h).val] ![1, 16, 128] (by intro a; fin_cases h <;> fin_cases a <;> decide)
abbrev cR (h : Fin 8) : Rect S1x512x1024 :=
  Rect.unit ![0, 0, 128 * h.val] ![1, 512, 128] (by intro a; fin_cases h <;> fin_cases a <;> decide)
abbrev oR (h : Fin 8) : Rect S1x16x1024 :=
  Rect.unit ![0, 0, 128 * h.val] ![1, 16, 128] (by intro a; fin_cases h <;> fin_cases a <;> decide)

/-- The biases of head `h`. -/
abbrev bR (h : Fin 8) : Rect S8x16x528 :=
  Rect.unit ![h.val, 0, 0] ![1, 16, 528] (by intro a; fin_cases h <;> fin_cases a <;> decide)

theorem ld_skip {s : Shape} {e : EltTy} {Val : EltTy → Type} [∀ e, Nonempty (Val e)] (r : Rect s) (w : r.shape.Idx → Val e)
    (L : List (View.Piece Val s e)) (B : Rect s) (h : LoadRect.disj r B.toLoadRect = true) :
    View.ld (View.canon (⟨r, w⟩ :: L)) B = View.ld (View.canon L) B := by
  funext x
  exact View.canon_cons_of_not_mem ⟨r, w⟩ L (LoadRect.idx_not_mem_of_disj h x)

theorem ld_hit {s : Shape} {e : EltTy} {Val : EltTy → Type} [∀ e, Nonempty (Val e)] (r : Rect s) (w : r.shape.Idx → Val e)
    (L : List (View.Piece Val s e)) : View.ld (View.canon (⟨r, w⟩ :: L)) r = w := by
  funext x
  exact View.canon_cons_emb r w L x

variable (x0 x1 x2 : Vec Ideal S1x16x2048 .bf16) (x3 x4 : Vec Ideal S1x512x1024 .f32) (x5 : Vec Ideal S8x16x528 .f32)

set_option maxHeartbeats 2000000 in
/-- What a point stores for head `h`. -/
theorem point (h : Fin 8) : View.ld (out0_6 x0 x1 x2 x3 x4 x5) (oR h)
    = tileO (View.ld x4 (cR h)) (View.ld x2 (qR h)) (tileC (View.ld x0 (qR h)) (View.ld x3 (cR h)) (View.ld x5 (bR h)))
        (tileN (View.ld x0 (qR h)) (View.ld x1 (qR h)) (View.ld x5 (bR h))) := by
  unfold out0_6
  fin_cases h
  all_goals
    dsimp only [qR, cR, oR, bR, hd, Nat.reduceMul]
    simp (disch := decide) only [↓ ld_skip, ↓ ld_hit]
    rfl

/-! ### Heads' columns at one element -/

theorem ld_q (x : Vec Ideal S1x16x2048 .bf16) (h : Fin 8) (r : Fin 16) (d : Fin 128) :
    View.ld x (qR h) (ix3 0 r d) = x (ix3 0 r ⟨128 * (hd h).val + d.val, by omega⟩) := by
  show x ((qR h).emb (ix3 0 r d)) = _
  congr 1
  funext a
  apply Fin.ext
  rw [ValueKit.rect_emb_unit_val]
  fin_cases a
  · rfl
  · exact Nat.zero_add _
  · rfl

theorem ld_c (x : Vec Ideal S1x512x1024 .f32) (h : Fin 8) (r : Fin 512) (d : Fin 128) :
    View.ld x (cR h) (ix3 0 r d) = x (ix3 0 r ⟨128 * h.val + d.val, by omega⟩) := by
  show x ((cR h).emb (ix3 0 r d)) = _
  congr 1
  funext a
  apply Fin.ext
  rw [ValueKit.rect_emb_unit_val]
  fin_cases a
  · rfl
  · exact Nat.zero_add _
  · rfl

theorem ld_o (x : Vec Ideal S1x16x1024 .bf16) (h : Fin 8) (r : Fin 16) (d : Fin 128) :
    View.ld x (oR h) (ix3 0 r d) = x (ix3 0 r ⟨128 * h.val + d.val, by omega⟩) := by
  show x ((oR h).emb (ix3 0 r d)) = _
  congr 1
  funext a
  apply Fin.ext
  rw [ValueKit.rect_emb_unit_val]
  fin_cases a
  · rfl
  · exact Nat.zero_add _
  · rfl

theorem ld_b (x : Vec Ideal S8x16x528 .f32) (h : Fin 8) (r : Fin 16) (k : Fin 528) :
    View.ld x (bR h) (ix3 0 r k) = x (ix3 h r k) := by
  show x ((bR h).emb (ix3 0 r k)) = _
  congr 1
  funext a
  apply Fin.ext
  rw [ValueKit.rect_emb_unit_val]
  fin_cases a
  · rfl
  · exact Nat.zero_add _
  · exact Nat.zero_add _

/-! ### The blocks as elements of the arguments -/

theorem q_blk (r h : Fin 16) (d : Fin 128) :
    iblk m c 0 t (ix3 0 r ⟨128 * h.val + d.val, by omega⟩) = aQ m c (ix4 (pb t) r h d) := by
  blk_ext! [iblk, V, idx t]
  exact Nat.add_zero _

theorem k_blk (r h : Fin 16) (d : Fin 128) :
    iblk m c 1 t (ix3 0 r ⟨128 * h.val + d.val, by omega⟩) = aK m c (ix4 (pb t) r h d) := by
  blk_ext! [iblk, V, idx t]
  exact Nat.add_zero _

theorem v_blk (r h : Fin 16) (d : Fin 128) :
    iblk m c 2 t (ix3 0 r ⟨128 * h.val + d.val, by omega⟩) = aV m c (ix4 (pb t) r h d) := by
  blk_ext! [iblk, V, idx t]
  exact Nat.add_zero _

theorem kc_blk (r : Fin 512) (h : Fin 8) (d : Fin 128) :
    iblk m c 3 t (ix3 0 r ⟨128 * h.val + d.val, by omega⟩) = aKc m c (ix4 (pb t) r h d) := by
  blk_ext! [iblk, V, idx t]
  exact Nat.add_zero _

theorem vc_blk (r : Fin 512) (h : Fin 8) (d : Fin 128) :
    iblk m c 4 t (ix3 0 r ⟨128 * h.val + d.val, by omega⟩) = aVc m c (ix4 (pb t) r h d) := by
  blk_ext! [iblk, V, idx t]
  exact Nat.add_zero _

theorem b_blk (h : Fin 8) (q : Fin 16) (k : Fin 528) : iblk m c 5 t (ix3 h q k) = aB m c (ix3 h q k) := by
  blk_ext! [iblk, V, idx t]

end Cert.BandSIdeal.Value
-- ==== Proof.BandSRef.lean ====
/-
  The reference of the sample batch's chunk-band attention at one element: it is the attention of `SampleSpec`.
-/
module

public import proofs.«01_k».proof.Proof.BandSPoint
public import proofs.«01_k».proof.Proof.Gen.BandSRefIdeal.Run
public import Idealize.ShloMosaic.Lib.Pipeline.ValueKit
public import Idealize.ShloMosaic.Lib.WordCmp

@[expose] public section

set_option maxRecDepth 16384

noncomputable section

namespace Cert.BandSRefIdeal.Value

open Idealize.ShloMosaic Idealize.SL.Sem Cert.BandSRefIdeal.Gen Cert.SampleSpec Cert.Softmax
open Cert.BandSIdeal.Value (BT hd add vis)

/-- The keys, or values, of the eight heads: the cached ones and then the new ones. -/
def rK (C : FVec Ideal S8x512x8x128 .f32) (X : FVec Ideal S8x16x16x128 .bf16) : FVec Ideal S8x528x8x128 .f32 :=
  concatenate S8x528x8x128 1 [⟨S8x512x8x128, C⟩, ⟨S8x16x8x128, (extf .f32 (extractStridedSlice S8x16x8x128 ![0, 0, 0, 0] X slices_S8x16x16x128_S8x16x8x128_0_0_0_0) bitsLt_bf16_f32)⟩] concatenates_S8x512x8x128_S8x16x8x128_S8x528x8x128_d1

/-- The logits. -/
def rS (Q : FVec Ideal S8x16x16x128 .bf16) (W : FVec Ideal S8x528x8x128 .f32) (B : FVec Ideal S8x16x528 .f32) : FVec Ideal S8x8x16x528 .f32 :=
  addf (mulf (Host.dotGeneral dot_S8x16x8x128_S8x528x8x128_S8x8x16x528_3_3_1_1_02_02 none (extf .f32 (extractStridedSlice S8x16x8x128 ![0, 0, 0, 0] Q slices_S8x16x16x128_S8x16x8x128_0_0_0_0) bitsLt_bf16_f32) W)
      (broadcastInDim S8x8x16x528 ![] bcast_S_S8x8x16x528 (constant S_ .f32 0x3DB504F3#32)))
    (broadcastInDim S8x8x16x528 ![0, 1, 2, 3] bcast_S1x8x16x528_S8x8x16x528_0_1_2_3 (broadcastInDim S1x8x16x528 ![1, 2, 3] bcast_S8x16x528_S1x8x16x528_1_2_3 B))

/-- The largest logit of each query. -/
def rM (S : FVec Ideal S8x8x16x528 .f32) : FVec Ideal S8x8x16 .f32 :=
  Host.reduce FloatOps.maximumf S (constant S_ .f32 0xFF800000#32) reducesTo_S8x8x16x528_S8x8x16_d3 h_S_

/-- The exponentials of the logits less a number for each query. -/
def rE (S : FVec Ideal S8x8x16x528 .f32) (M : FVec Ideal S8x8x16 .f32) : FVec Ideal S8x8x16x528 .f32 :=
  Host.exp (subf S (broadcastInDim S8x8x16x528 ![0, 1, 2, 3] bcast_S8x8x16x1_S8x8x16x528_0_1_2_3 (broadcastInDim S8x8x16x1 ![0, 1, 2] bcast_S8x8x16_S8x8x16x1_0_1_2 (maximumf (broadcastInDim S8x8x16 ![] bcast_S_S8x8x16 (constant S_ .f32 0xFF800000#32)) M))))

/-- The weights. -/
def rP (E : FVec Ideal S8x8x16x528 .f32) : FVec Ideal S8x8x16x528 .f32 :=
  Host.divf E (broadcastInDim S8x8x16x528 ![0, 1, 2, 3] bcast_S8x8x16x1_S8x8x16x528_0_1_2_3 (broadcastInDim S8x8x16x1 ![0, 1, 2] bcast_S8x8x16_S8x8x16x1_0_1_2 (Host.reduceAdd E (constant S_ .f32 0x00000000#32) reducesTo_S8x8x16x528_S8x8x16_d3 h_S_)))

/-- The weighted values. -/
def rO (P : FVec Ideal S8x8x16x528 .f32) (W : FVec Ideal S8x528x8x128 .f32) : FVec Ideal S8x16x1024 .bf16 :=
  truncf .bf16 (shapeCast S8x16x1024 (transpose S8x16x8x128 [0, 3, 1, 2] (Host.dotGeneral dot_S8x528x8x128_S8x8x16x528_S8x8x128x16_1_3_3_2_02_01 none W P) transposes_S8x8x128x16_S8x16x8x128_0_3_1_2) shapeCasts_S8x16x8x128_S8x16x1024) bitsLt_bf16_f32

theorem bot_word : Ideal.ofBits FTy.f32 4286578688#32 = ⊥ := by
  simp [Ideal.ofBits, Ideal.ieee]

theorem rK_at (C : FVec Ideal S8x512x8x128 .f32) (X : FVec Ideal S8x16x16x128 .bf16) (b : Fin 8) (j : Fin 528) (h : Fin 8) (d : Fin 128) :
    rK C X (ix4 b j h d) = key X C hd b h d j.val := by
  unfold key
  pointwise [rK]
  have hj := j.isLt
  by_cases hp : j.val < 512
  · rw [dif_pos hp, dif_pos hp]
  · rw [dif_neg hp, dif_neg hp, dif_pos (by omega)]

theorem rS_at (Q : FVec Ideal S8x16x16x128 .bf16) (W : FVec Ideal S8x528x8x128 .f32) (B : FVec Ideal S8x16x528 .f32)
    (b h : Fin 8) (q : Fin 16) (j : Fin 528) :
    rS Q W B (ix4 b h q j) = (∑ d : Fin 128, Q (ix4 b q (hd h) d) * W (ix4 b j h d)) * scale + B (ix3 h q j) := by
  pointwise [rS]

theorem rM_at (S : FVec Ideal S8x8x16x528 .f32) (b h : Fin 8) (q : Fin 16) :
    rM S (ix3 b h q) = (Finset.univ : Finset (Fin 528)).fold max ⊥ fun j => S (ix4 b h q j) := by
  pointwise [rM]
  rw [bot_word]

theorem rE_at (S : FVec Ideal S8x8x16x528 .f32) (M : FVec Ideal S8x8x16 .f32) (b h : Fin 8) (q : Fin 16) (j : Fin 528) :
    rE S M (ix4 b h q j) = Ideal.exp (S (ix4 b h q j) - max ⊥ (M (ix3 b h q))) := by
  pointwise [rE]
  rw [bot_word]

theorem rP_at (E : FVec Ideal S8x8x16x528 .f32) (b h : Fin 8) (q : Fin 16) (j : Fin 528) :
    rP E (ix4 b h q j) = Ideal.div (E (ix4 b h q j)) (∑ k : Fin 528, E (ix4 b h q k)) := by
  pointwise [rP]

theorem rO_at (P : FVec Ideal S8x8x16x528 .f32) (W : FVec Ideal S8x528x8x128 .f32) (b : Fin 8) (q : Fin 16) (h : Fin 8) (d : Fin 128) :
    rO P W (ix3 b q ⟨128 * h.val + d.val, by omega⟩) = ∑ j : Fin 528, W (ix4 b j h d) * P (ix4 b h q j) := by
  pointwise [rO]

theorem res_eq (m : (ℓ : Loc nD τ sig) → Buf (Elt Ideal) ℓ) (c : Dev nD) (Q K V : FVec Ideal S8x16x16x128 .bf16)
    (Kc Vc : FVec Ideal S8x512x8x128 .f32) (B : FVec Ideal S8x16x528 .f32)
    (hQ : m ((c.tc : Thread nD τ).loc main_arg0) = Q) (hK : m ((c.tc : Thread nD τ).loc main_arg1) = K)
    (hV : m ((c.tc : Thread nD τ).loc main_arg2) = V) (hKc : m ((c.tc : Thread nD τ).loc main_arg3) = Kc)
    (hVc : m ((c.tc : Thread nD τ).loc main_arg4) = Vc) (hB : m ((c.tc : Thread nD τ).loc main_arg5) = B) :
    res_out0 m c = rO (rP (rE (rS Q (rK Kc K) B) (rM (rS Q (rK Kc K) B)))) (rK Vc V) := by
  subst hQ hK hV hKc hVc hB
  unfold res_out0 res_main_v28 rO rP rE rM rS rK
  rfl

/-- The reference is the attention. -/
theorem ref_at (Q K V : FVec Ideal S8x16x16x128 .bf16) (Kc Vc : FVec Ideal S8x512x8x128 .f32) (B : FVec Ideal S8x16x528 .f32)
    (b : Fin 8) (q : Fin 16) (h : Fin 8) (d : Fin 128) :
    rO (rP (rE (rS Q (rK Kc K) B) (rM (rS Q (rK Kc K) B)))) (rK Vc V) (ix3 b q ⟨128 * h.val + d.val, by omega⟩)
      = att Q K V Kc Vc hd (add B) vis b h q d := by
  have hS : ∀ j : Fin 528, rS Q (rK Kc K) B (ix4 b h q j) = row Q K Kc hd (add B) vis b h q j.val := fun j => by
    rw [rS_at]
    unfold row logit add vis
    rw [if_pos rfl, dif_pos j.isLt]
    simp only [rK_at]
  have hM : (Finset.univ : Finset (Fin 528)).fold max ⊥ (fun j => row Q K Kc hd (add B) vis b h q j.val) = mx (row Q K Kc hd (add B) vis b h q) (512 + 16) :=
    mx_fin (row Q K Kc hd (add B) vis b h q) 528
  rw [rO_at]
  unfold att
  rw [Finset.sum_range]
  refine Finset.sum_congr rfl fun j _ => ?_
  simp only [rP_at, rE_at, rM_at, hS, hM, max_bot_left, rK_at]
  unfold sm
  rw [Finset.sum_range]

end Cert.BandSRefIdeal.Value
-- ==== Proof.BandSValue.lean ====
/-
  The result of the sample batch's chunk-band attention kernel: every head of every stream is the attention of
  `SampleSpec`.
-/
module

public import proofs.«01_k».proof.Proof.BandSPoint

@[expose] public section

set_option maxRecDepth 16384

noncomputable section

namespace Cert.BandSIdeal.Value

open Idealize.ShloMosaic Idealize.SL.Sem Cert.BandSIdeal.Gen Cert.SampleSpec Cert.Softmax

variable (m : (ℓ : Loc nD τ sig) → Buf (Elt Ideal) ℓ) (c : Dev nD) (t : Fin cfg0.N)

/-- The logits of query `q` of head `h`. -/
abbrev rowS (Q Kn : QT.Idx → EReal) (Kc : (CT 512).Idx → EReal) (B : BT.Idx → EReal) (b h : Fin 8) (q : Fin 16) : ℕ → EReal :=
  row Q Kn Kc hd (add B) vis b h q

/-- The attention of head `h`. -/
abbrev attS (Q Kn Vn : QT.Idx → EReal) (Kc Vc : (CT 512).Idx → EReal) (B : BT.Idx → EReal) (b h : Fin 8) (q : Fin 16) (d : Fin 128) : EReal :=
  att Q Kn Vn Kc Vc hd (add B) vis b h q d

/-- What the point stores. -/
theorem point_att (h : Fin 8) (q : Fin 16) (d : Fin 128)
    (hs : ∀ j, rowS (aQ m c) (aK m c) (aKc m c) (aB m c) (pb t) h q j ≠ ⊤) (hr : rowS (aQ m c) (aK m c) (aKc m c) (aB m c) (pb t) h q 0 ≠ ⊥) :
    View.ld (out0_6 (iblk m c 0 t) (iblk m c 1 t) (iblk m c 2 t) (iblk m c 3 t) (iblk m c 4 t) (iblk m c 5 t)) (oR h) (ix3 0 q d)
      = attS (aQ m c) (aK m c) (aV m c) (aKc m c) (aVc m c) (aB m c) (pb t) h q d := by
  rw [point]
  refine tileO_at (rowS (aQ m c) (aK m c) (aKc m c) (aB m c) (pb t) h q) (key (aV m c) (aVc m c) hd (pb t) h d) hs hr _ _ _ _ q d
    (fun k => ?_) (fun k => ?_) (fun k => ?_) fun k => ?_
  · rw [tileC_at, ld_b, b_blk]
    unfold rowS row logit add vis
    rw [if_pos rfl, dif_pos (by omega)]
    have e1 : ∀ x : Fin 128, View.ld (iblk m c 0 t) (qR h) (ix3 0 q x) = aQ m c (ix4 (pb t) q (hd h) x) := fun x => (ld_q _ _ _ _).trans (q_blk m c t q (hd h) x)
    have e2 : ∀ x : Fin 128, View.ld (iblk m c 3 t) (cR h) (ix3 0 k x) = key (aK m c) (aKc m c) hd (pb t) h x k.val := fun x => by
      rw [ld_c, kc_blk, key_old]
    simp only [e1, e2]
  · rw [tileN_at, ld_b, b_blk]
    unfold rowS row logit add vis
    rw [if_pos rfl, dif_pos (by omega)]
    have e1 : ∀ x : Fin 128, View.ld (iblk m c 0 t) (qR h) (ix3 0 q x) = aQ m c (ix4 (pb t) q (hd h) x) := fun x => (ld_q _ _ _ _).trans (q_blk m c t q (hd h) x)
    have e2 : ∀ x : Fin 128, View.ld (iblk m c 1 t) (qR h) (ix3 0 k x) = key (aK m c) (aKc m c) hd (pb t) h x (512 + k.val) := fun x => by
      rw [ld_q, k_blk, key_new]
    simp only [e1, e2]
  · rw [ld_c, vc_blk, key_old]
  · rw [ld_q, v_blk, key_new]

/-- The attention as an array: channel `128 h + d` of position `q`. -/
def attArr (Q Kn Vn : QT.Idx → EReal) (Kc Vc : (CT 512).Idx → EReal) (B : BT.Idx → EReal) : S8x16x1024.Idx → EReal := fun i =>
  attS Q Kn Vn Kc Vc B (i 0) ⟨(i 2).val / 128, by have : (i 2).val < 1024 := (i 2).isLt; omega⟩ (i 1) ⟨(i 2).val % 128, by omega⟩

theorem attArr_at (Q Kn Vn : QT.Idx → EReal) (Kc Vc : (CT 512).Idx → EReal) (B : BT.Idx → EReal) (i : S8x16x1024.Idx) (b h : Fin 8) (q : Fin 16) (d : Fin 128)
    (h0 : i 0 = b) (h1 : i 1 = q) (h2 : (i 2).val = 128 * h.val + d.val) :
    attArr Q Kn Vn Kc Vc B i = attS Q Kn Vn Kc Vc B b h q d := by
  subst h0 h1
  have eh : (⟨(i 2).val / 128, by have : (i 2).val < 1024 := (i 2).isLt; omega⟩ : Fin 8) = h := Fin.ext (by show (i 2).val / 128 = h.val; omega)
  have ed : (⟨(i 2).val % 128, by omega⟩ : Fin 128) = d := Fin.ext (by show (i 2).val % 128 = d.val; omega)
  unfold attArr
  rw [eh, ed]

/-- The kernel's array. -/
theorem final (hs : ∀ b h q j, rowS (aQ m c) (aK m c) (aKc m c) (aB m c) b h q j ≠ ⊤)
    (hr : ∀ b h q, rowS (aQ m c) (aK m c) (aKc m c) (aB m c) b h q 0 ≠ ⊥) :
    (dats m 0 c).arrAt 6 cfg0.N = attArr (aQ m c) (aK m c) (aV m c) (aKc m c) (aVc m c) (aB m c) := by
  refine (dats m 0 c).arrAt_eq_of_covers 6 _ (by decide +kernel) fun t hf y => ?_
  blk_simp
  rw [after0_6]
  have h2 : (y 2).val < 1024 := (y 2).isLt
  have h0 : (y 0).val < 1 := (y 0).isLt
  have e := point_att m c t ⟨(y 2).val / 128, by omega⟩ (y 1) ⟨(y 2).val % 128, by omega⟩ (hs _ _ _) (hr _ _ _)
  have e' := (ld_o (out0_6 (iblk m c 0 t) (iblk m c 1 t) (iblk m c 2 t) (iblk m c 3 t) (iblk m c 4 t) (iblk m c 5 t)) _ _ _).symm.trans e
  have hy : (ix3 0 (y 1) ⟨128 * ((y 2).val / 128) + (y 2).val % 128, by omega⟩ : S1x16x1024.Idx) = y := by
    funext a
    fin_cases a
    · exact Fin.ext (by show 0 = (y 0).val; omega)
    · rfl
    · exact Fin.ext (by show 128 * ((y 2).val / 128) + (y 2).val % 128 = (y 2).val; omega)
  rw [← hy]
  refine e'.trans (attArr_at _ _ _ _ _ _ _ _ _ _ _ ?_ ?_ ?_).symm
  · apply Fin.ext
    rw [hy]
    blk_simp [idx t]
  · apply Fin.ext
    rw [hy]
    blk_simp [idx t]
  · rw [hy]
    blk_simp [idx t]
    show (y 2).val = 128 * ((y 2).val / 128) + (y 2).val % 128
    omega

end Cert.BandSIdeal.Value
-- ==== Proof.BandSClaim.lean ====
/-
  The claim of the sample batch's chunk-band attention: the kernel and the reference give one array, and the reference runs to
  its end.
-/
module

public import proofs.«01_k».proof.Defs
public import proofs.«01_k».proof.Proof.BandSPre
public import proofs.«01_k».proof.Proof.BandSRef
public import proofs.«01_k».proof.Proof.BandSValue
public import Idealize.ShloMosaic.Adequacy
public import Idealize.ShloMosaic.Init

@[expose] public section

noncomputable section

namespace Cert.BandSClaim

open Idealize.ShloMosaic Idealize.SL.Sem Cert.BandSIdeal.Value Cert.SampleSpec

/-- The biases are finite, so what is added to the logits is. -/
theorem add_real (B : BT.Idx → EReal) (hB : ∀ i, B i ≠ ⊤ ∧ B i ≠ ⊥) (b h : Fin 8) (q : Fin 16) (j : ℕ) : add B b h q j ≠ ⊤ ∧ add B b h q j ≠ ⊥ := by
  unfold add
  split
  · exact hB _
  · exact ⟨EReal.zero_ne_top, EReal.zero_ne_bot⟩

/-- The two programs give one array. -/
theorem result_eq (m : (ℓ : Loc Cert.BandSIdeal.nD Cert.BandSIdeal.τ Cert.BandSIdeal.sig) → Buf (Elt Ideal) ℓ)
    (m' : (ℓ : Loc Cert.BandSRefIdeal.nD Cert.BandSRefIdeal.τ Cert.BandSRefIdeal.sig) → Buf (Elt Ideal) ℓ)
    (hpre : Cert.Pre_BandSIdeal_finite_band_sample (hPre_finite_band_sample := Cert.Pre_finite_band_sample.Gen.facts) m) (c : Dev Cert.BandSIdeal.nD)
    (h0 : m' ((c.tc : Thread Cert.BandSRefIdeal.nD Cert.BandSRefIdeal.τ).loc Cert.BandSRefIdeal.main_arg0) = aQ m c)
    (h1 : m' ((c.tc : Thread Cert.BandSRefIdeal.nD Cert.BandSRefIdeal.τ).loc Cert.BandSRefIdeal.main_arg1) = aK m c)
    (h2 : m' ((c.tc : Thread Cert.BandSRefIdeal.nD Cert.BandSRefIdeal.τ).loc Cert.BandSRefIdeal.main_arg2) = aV m c)
    (h3 : m' ((c.tc : Thread Cert.BandSRefIdeal.nD Cert.BandSRefIdeal.τ).loc Cert.BandSRefIdeal.main_arg3) = aKc m c)
    (h4 : m' ((c.tc : Thread Cert.BandSRefIdeal.nD Cert.BandSRefIdeal.τ).loc Cert.BandSRefIdeal.main_arg4) = aVc m c)
    (h5 : m' ((c.tc : Thread Cert.BandSRefIdeal.nD Cert.BandSRefIdeal.τ).loc Cert.BandSRefIdeal.main_arg5) = aB m c) :
    Cert.BandSRefIdeal.Value.res_out0 m' c = (Cert.BandSIdeal.Gen.dats m 0 c).arrAt 6 Cert.BandSIdeal.cfg0.N := by
  haveI := Cert.Pre_finite_band_sample.Gen.facts
  obtain ⟨fQ, fK, fC, fB⟩ := Cert.BandSPre.finite_all (hpre c)
  have fA := add_real _ fB
  rw [Cert.BandSIdeal.Value.final m c
    (fun b h q j => row_ne_top _ _ _ hd _ vis (fun b q h d => fQ (ix4 b q (hd h) d)) fK fC fA b h q j)
    (fun b h q => row_first _ _ _ hd _ vis (fun b q h d => fQ (ix4 b q (hd h) d)) fK fC fA (fun _ => rfl) b h q)]
  rw [Cert.BandSRefIdeal.Value.res_eq m' c _ _ _ _ _ _ h0 h1 h2 h3 h4 h5]
  funext i
  have hi : (i 2).val < 1024 := (i 2).isLt
  have e := Cert.BandSRefIdeal.Value.ref_at (aQ m c) (aK m c) (aV m c) (aKc m c) (aVc m c) (aB m c)
    (i 0) (i 1) ⟨(i 2).val / 128, by omega⟩ ⟨(i 2).val % 128, by omega⟩
  refine Eq.trans (congrArg _ ?_) e
  funext a
  fin_cases a
  · rfl
  · rfl
  · exact Fin.ext (by show (i 2).val = 128 * ((i 2).val / 128) + (i 2).val % 128; omega)

theorem algebraic : Cert.algebraic_BandSIdeal_BandSRefIdeal_pre_finite_band_sample (hBandSIdeal := Cert.BandSIdeal.Gen.facts)
    (hBandSRefIdeal := Cert.BandSRefIdeal.Gen.facts) (hPre_finite_band_sample := Cert.Pre_finite_band_sample.Gen.facts) := by
  intro m g m' g' hpre hagree
  refine ⟨fun c => (Cert.BandSIdeal.Gen.dats m 0 c).arrAt 6 Cert.BandSIdeal.cfg0.N, Cert.BandSIdeal.Value.run_blocks m g, ?_⟩
  refine (θ_run _ _ _).mono (fun r h c => ⟨(h c).1.trans ?_, (h c).2⟩) (Cert.BandSRefIdeal.Value.run m' g')
  obtain ⟨h0, h1, h2, h3, h4, h5⟩ := hagree c
  exact result_eq m m' hpre c h0 h1 h2 h3 h4 h5

/-- The reference runs to its end and leaves nothing waiting. -/
theorem ref_frame : Cert.quiescent_BandSRefIdeal (hBandSRefIdeal := Cert.BandSRefIdeal.Gen.facts) := by
  intro m g _
  hlo_run
  · exact fun _ => ⟨trivial, trivial, trivial, trivial, trivial, trivial⟩
  · exact sem_eq_zero_of_no_sems rfl _

/-- The same with finite arguments. -/
theorem ref_frame_pre : Cert.quiescent_BandSRefIdeal_pre_finite_band_sample (hBandSRefIdeal := Cert.BandSRefIdeal.Gen.facts)
    (hPre_finite_band_sample := Cert.Pre_finite_band_sample.Gen.facts) := by
  intro m g _
  hlo_run
  · exact fun _ => ⟨trivial, trivial, trivial, trivial, trivial, trivial⟩
  · exact sem_eq_zero_of_no_sems rfl _

end Cert.BandSClaim

end
-- ==== Proof.FoxSPre.lean ====
/-
  The precondition of the sample batch's forgetting claim read element by element: every query, key and summed
  log-forget value is finite.
-/
module

public import proofs.«01_k».proof.Proof.FoxPre
public import proofs.«01_k».proof.Proof.Gen.Pre_finite_fox_sample
public import Idealize.ShloMosaic.Lib.ReduceAll

@[expose] public section

set_option maxRecDepth 16384

noncomputable section

namespace Cert.FoxSPre

open Idealize.ShloMosaic Cert.Pre_finite_fox_sample Cert.Pre_finite_fox_sample.Facts
open Cert.FoxPre (and_one of_test)

instance : Subsingleton S_.Idx := ⟨fun a b => funext fun i => i.elim0⟩

variable [Facts]

/-- All elements pass the test, so all are finite. -/
theorem finite_all {Q K V : FVec Ideal S8x16x16x128 .bf16} {Kc Vc : FVec Ideal S8x1024x8x128 .f32} {C : FVec Ideal S8x8x1152 .f32}
    (h : fn (F := Ideal) Q K V Kc Vc C = fun _ => 1#1) :
    (∀ i, Q i ≠ (⊤ : EReal) ∧ Q i ≠ (⊥ : EReal)) ∧ (∀ i, K i ≠ (⊤ : EReal) ∧ K i ≠ (⊥ : EReal))
    ∧ (∀ i, Kc i ≠ (⊤ : EReal) ∧ Kc i ≠ (⊥ : EReal)) ∧ (∀ (b h : Fin 8) (j : Fin 1040), C (ix3 b h ⟨j.val, by omega⟩) ≠ (⊤ : EReal) ∧ C (ix3 b h ⟨j.val, by omega⟩) ≠ (⊥ : EReal)) := by
  have e := congrFun h (ix1 0)
  unfold fn at e
  try unfold fn_part1 at e
  dsimp only at e
  change IntOp.andi (IntOp.andi (IntOp.andi (Host.reduce IntOp.andi _ _ _ _ _) (Host.reduce IntOp.andi _ _ _ _ _)) (Host.reduce IntOp.andi _ _ _ _ _))
    (Host.reduce IntOp.andi _ _ _ _ _) = 1#1 at e
  obtain ⟨e1, e4⟩ := and_one _ _ e
  obtain ⟨e1, e3⟩ := and_one _ _ e1
  obtain ⟨e1, e2⟩ := and_one _ _ e1
  refine ⟨fun i => of_test _ (Host.reduce_andi_all _ _ _ _ _ e1 i), fun i => of_test _ (Host.reduce_andi_all _ _ _ _ _ e2 i),
    fun i => of_test _ (Host.reduce_andi_all _ _ _ _ _ e3 i), fun b h j => ?_⟩
  have x := of_test _ (Host.reduce_andi_all _ _ _ _ _ e4 (ix3 b h j))
  have e0 : extractStridedSlice S8x8x1040 ![0, 0, 0] C slices_S8x8x1152_S8x8x1040_0_0_0 (ix3 b h j) = C (ix3 b h ⟨j.val, by omega⟩) := by
    pointwise
  rw [← e0]
  exact x

end Cert.FoxSPre
-- ==== Proof.FoxSTile.lean ====
/-
  One head of the sample batch's forgetting attention kernel, at extended reals: the logits of 16 queries against 1024
  cached and 16 new keys, and the softmax-weighted values; as operations on whole vectors and then read at one element.
-/
module

public import proofs.«01_k».proof.Proof.SampleSpec
public import proofs.«01_k».proof.Proof.Gen.FoxSIdeal.Value
public import Idealize.ShloMosaic.Lib.Pipeline.ValueKit
public import Idealize.ShloMosaic.Lib.Pointwise
public import Idealize.ShloMosaic.Lib.Pipeline.ReadBack
public import Idealize.ShloMosaic.Lib.Pipeline.Value
public import Idealize.ShloMosaic.Lib.WordCmp

@[expose] public section

set_option maxRecDepth 16384

noncomputable section

namespace Cert.FoxSIdeal.Value

open Idealize.ShloMosaic Idealize.SL.Sem Cert.FoxSIdeal.Gen Cert.Softmax

/-- The factor the logits are scaled by. -/
abbrev scl : EReal := FloatOps.ofBits (F := Ideal) FTy.f32 0x3DB504F3#32

/-- The logits against the cached keys: `U` is what is summed up to the queries, `Z` up to the keys. -/
def tileC (Q : Vec Ideal S1x16x128 .bf16) (K : Vec Ideal S1x1024x128 .f32) (U : Vec Ideal S1x16x1 .f32) (Z : Vec Ideal S1x1x1024 .f32) : FVec Ideal S16x1024 .f32 :=
  addf (mulf (matmul dot_S16x128_S1024x128_S16x1024_1_1_0_0_n_n none (shapeCast S16x128 Q shapeCasts_S1x16x128_S16x128 : FVec Ideal S16x128 .bf16)
      (truncf .bf16 (shapeCast S1024x128 K shapeCasts_S1x1024x128_S1024x128 : FVec Ideal S1024x128 .f32) bitsLt_bf16_f32) (constant S16x1024 .f32 0x00000000#32))
      (broadcast S16x1024 (Scalar.ofBits .f32 0x3DB504F3#32)))
    (subf (broadcastTo S16x1024 (shapeCast S16x1 U shapeCasts_S1x16x1_S16x1 : FVec Ideal S16x1 .f32) broadcasts_S16x1_S16x1024)
      (broadcastTo S16x1024 (shapeCast S1x1024 Z shapeCasts_S1x1x1024_S1x1024 : FVec Ideal S1x1024 .f32) broadcasts_S1x1024_S16x1024))

/-- The logits against the new keys, those of keys after the query replaced. -/
def tileN (Q K : Vec Ideal S1x16x128 .bf16) (U : Vec Ideal S1x16x1 .f32) (Z : Vec Ideal S1x1x16 .f32) : FVec Ideal S16x16 .f32 :=
  select (cmpi .sle (iota .tc S16x16 32 [1] iota_S16x16_d1_w32) (iota .tc S16x16 32 [0] iota_S16x16_d0_w32))
    (addf (mulf (matmul dot_S16x128_S16x128_S16x16_1_1_0_0_n_n none (shapeCast S16x128 Q shapeCasts_S1x16x128_S16x128 : FVec Ideal S16x128 .bf16)
        (shapeCast S16x128 K shapeCasts_S1x16x128_S16x128 : FVec Ideal S16x128 .bf16) (constant S16x16 .f32 0x00000000#32))
        (broadcast S16x16 (Scalar.ofBits .f32 0x3DB504F3#32)))
      (subf (broadcastTo S16x16 (shapeCast S16x1 U shapeCasts_S1x16x1_S16x1 : FVec Ideal S16x1 .f32) broadcasts_S16x1_S16x16)
        (broadcastTo S16x16 (shapeCast S1x16 Z shapeCasts_S1x1x16_S1x16 : FVec Ideal S1x16 .f32) broadcasts_S1x16_S16x16)))
    (broadcast S16x16 (Named.named κ "mask" 0xF149F2CA#32))

/-- The largest logit of each query. -/
def tileM (C : FVec Ideal S16x1024 .f32) (N : FVec Ideal S16x16 .f32) : FVec Ideal S16x1 .f32 :=
  maximumf (shapeCast S16x1 (multiReduction .maximumf [1] S16 C 0xFF800000#32 reduces_S16x1024_S16 (.inl rfl) rfl) shapeCasts_S16_S16x1)
    (shapeCast S16x1 (multiReduction .maximumf [1] S16 N 0xFF800000#32 reduces_S16x16_S16 (.inl rfl) rfl) shapeCasts_S16_S16x1)

/-- The weights of the cached keys and of the new ones. -/
def tileP (C : FVec Ideal S16x1024 .f32) (M : FVec Ideal S16x1 .f32) : FVec Ideal S16x1024 .f32 :=
  exp (subf C (broadcastTo S16x1024 M broadcasts_S16x1_S16x1024))
def tileR (N : FVec Ideal S16x16 .f32) (M : FVec Ideal S16x1 .f32) : FVec Ideal S16x16 .f32 :=
  exp (subf N (broadcastTo S16x16 M broadcasts_S16x1_S16x16))

/-- The sum of the weights. -/
def tileL (P : FVec Ideal S16x1024 .f32) (R : FVec Ideal S16x16 .f32) : FVec Ideal S16x1 .f32 :=
  addf (shapeCast S16x1 (multiReduction .add [1] S16 P 0x00000000#32 reduces_S16x1024_S16 (.inl rfl) rfl) shapeCasts_S16_S16x1)
    (shapeCast S16x1 (multiReduction .add [1] S16 R 0x00000000#32 reduces_S16x16_S16 (.inl rfl) rfl) shapeCasts_S16_S16x1)

/-- The weighted values over the sum. -/
def tileD (V : Vec Ideal S1x1024x128 .f32) (W : Vec Ideal S1x16x128 .bf16) (P : FVec Ideal S16x1024 .f32) (R : FVec Ideal S16x16 .f32) : FVec Ideal S1x16x128 .bf16 :=
  shapeCast S1x16x128 (truncf .bf16 (divf
    (addf (matmul dot_S16x1024_S1024x128_S16x128_1_0_0_1_n_n none (truncf .bf16 P bitsLt_bf16_f32)
        (truncf .bf16 (shapeCast S1024x128 V shapeCasts_S1x1024x128_S1024x128 : FVec Ideal S1024x128 .f32) bitsLt_bf16_f32) (constant S16x128 .f32 0x00000000#32))
      (matmul dot_S16x16_S16x128_S16x128_1_0_0_1_n_n none (truncf .bf16 R bitsLt_bf16_f32)
        (shapeCast S16x128 W shapeCasts_S1x16x128_S16x128 : FVec Ideal S16x128 .bf16) (constant S16x128 .f32 0x00000000#32)))
    (broadcastTo S16x128 (tileL P R) broadcasts_S16x1_S16x128)) bitsLt_bf16_f32 : FVec Ideal S16x128 .bf16) shapeCasts_S16x128_S1x16x128

/-- What a head stores. -/
def tileO (V : Vec Ideal S1x1024x128 .f32) (W : Vec Ideal S1x16x128 .bf16) (C : FVec Ideal S16x1024 .f32) (N : FVec Ideal S16x16 .f32) : FVec Ideal S1x16x128 .bf16 :=
  tileD V W (tileP C (tileM C N)) (tileR N (tileM C N))

/-! ### The same at one element -/

theorem tileC_at (Q : Vec Ideal S1x16x128 .bf16) (K : Vec Ideal S1x1024x128 .f32) (U : Vec Ideal S1x16x1 .f32) (Z : Vec Ideal S1x1x1024 .f32) (q : Fin 16) (k : Fin 1024) :
    tileC Q K U Z (ix2 q k) = (∑ d : Fin 128, Q (ix3 0 q d) * K (ix3 0 k d)) * scl + (U (ix3 0 q 0) - Z (ix3 0 0 k)) := by
  pointwise [tileC]

/-- The words' comparison of a new key's number with the query's. -/
theorem sle_word : ∀ k q : Fin 16, IntOp.cmpi .sle (BitVec.ofNat 32 k.val) (BitVec.ofNat 32 q.val) = BitVec.ofBool (decide (k.val ≤ q.val)) := by
  decide

theorem tileN_at (Q K : Vec Ideal S1x16x128 .bf16) (U : Vec Ideal S1x16x1 .f32) (Z : Vec Ideal S1x1x16 .f32) (q k : Fin 16) :
    tileN Q K U Z (ix2 q k)
      = if k.val ≤ q.val then (∑ d : Fin 128, Q (ix3 0 q d) * K (ix3 0 k d)) * scl + (U (ix3 0 q 0) - Z (ix3 0 0 k)) else ⊥ := by
  have e : (Named.named κ "mask" (0xF149F2CA#32 : BitVec FTy.f32.bits) : Ideal FTy.f32) = ⊥ := rfl
  have hc := sle_word k q
  pointwise [tileN]
  rw [e, hc]
  by_cases h : k.val ≤ q.val <;> simp [h, Scalar.select]

theorem tileM_at (C : FVec Ideal S16x1024 .f32) (N : FVec Ideal S16x16 .f32) (q : Fin 16) :
    tileM C N (ix2 q 0) = max ((Finset.univ : Finset (Fin 1024)).fold max ⊥ fun k => C (ix2 q k))
      ((Finset.univ : Finset (Fin 16)).fold max ⊥ fun k => N (ix2 q k)) := by
  have e : Ideal.ofBits FTy.f32 4286578688#32 = ⊥ := by simp [Ideal.ofBits, Ideal.ieee]
  pointwise [tileM]
  rw [e]

theorem tileP_at (C : FVec Ideal S16x1024 .f32) (M : FVec Ideal S16x1 .f32) (q : Fin 16) (k : Fin 1024) :
    tileP C M (ix2 q k) = Ideal.exp (C (ix2 q k) - M (ix2 q 0)) := by
  pointwise [tileP]

theorem tileR_at (N : FVec Ideal S16x16 .f32) (M : FVec Ideal S16x1 .f32) (q k : Fin 16) :
    tileR N M (ix2 q k) = Ideal.exp (N (ix2 q k) - M (ix2 q 0)) := by
  pointwise [tileR]

theorem tileL_at (P : FVec Ideal S16x1024 .f32) (R : FVec Ideal S16x16 .f32) (q : Fin 16) :
    tileL P R (ix2 q 0) = ∑ k : Fin 1024, P (ix2 q k) + ∑ k : Fin 16, R (ix2 q k) := by
  pointwise [tileL]

theorem tileD_at (V : Vec Ideal S1x1024x128 .f32) (W : Vec Ideal S1x16x128 .bf16) (P : FVec Ideal S16x1024 .f32) (R : FVec Ideal S16x16 .f32) (q : Fin 16) (d : Fin 128) :
    tileD V W P R (ix3 0 q d) = Ideal.div (∑ k : Fin 1024, P (ix2 q k) * V (ix3 0 k d) + ∑ k : Fin 16, R (ix2 q k) * W (ix3 0 k d)) (tileL P R (ix2 q 0)) := by
  pointwise [tileD]

/-- What a head stores is the softmax-weighted sum of its values. -/
theorem tileO_at (s v : ℕ → EReal) (hs : ∀ j, s j ≠ ⊤) (hr : s 0 ≠ ⊥) (V : Vec Ideal S1x1024x128 .f32) (W : Vec Ideal S1x16x128 .bf16)
    (C : FVec Ideal S16x1024 .f32) (N : FVec Ideal S16x16 .f32) (q : Fin 16) (d : Fin 128)
    (hC : ∀ k : Fin 1024, C (ix2 q k) = s k.val) (hN : ∀ k : Fin 16, N (ix2 q k) = s (1024 + k.val))
    (hV : ∀ k : Fin 1024, V (ix3 0 k d) = v k.val) (hW : ∀ k : Fin 16, W (ix3 0 k d) = v (1024 + k.val)) :
    tileO V W C N (ix3 0 q d) = ∑ j ∈ Finset.range (1024 + 16), v j * Ideal.div (Ideal.exp (s j - mx s (1024 + 16))) (sm s (mx s (1024 + 16)) (1024 + 16)) := by
  have hM : tileM C N (ix2 q 0) = mx s (1024 + 16) := by
    rw [tileM_at]
    simp only [hC, hN]
    exact Cert.SampleSpec.mx_two s 1024
  rw [← Cert.SampleSpec.two_part s v hs (n := 1024) (i := 0) (by decide) hr]
  unfold tileO
  rw [tileD_at, tileL_at]
  simp only [tileP_at, tileR_at, hM, hC, hN, hV, hW]

end Cert.FoxSIdeal.Value
-- ==== Proof.FoxSPoint.lean ====
/-
  One grid point of the sample batch's forgetting attention kernel: the blocks it reads, as elements of the arguments, and
  what it stores for each of its eight heads.
-/
module

public import proofs.«01_k».proof.Proof.FoxSTile

@[expose] public section

set_option maxRecDepth 16384

noncomputable section

namespace Cert.FoxSIdeal.Value

open Idealize.ShloMosaic Idealize.SL.Sem Cert.FoxSIdeal.Gen Cert.SampleSpec

/-- The summed log-forget values: stream, head, position, with 112 columns that no query or key has. -/
abbrev BT : Shape := ⟨3, ![8, 8, 1152]⟩

/-- Head `h` of the last eight. -/
abbrev hd (h : Fin 8) : Fin 16 := ⟨h.val + 8, by omega⟩

/-- What is added to the logits: the log-forget values from the key to the query. -/
def add (C : BT.Idx → EReal) (b h : Fin 8) (q : Fin 16) (j : ℕ) : EReal :=
  if hj : j < 1040 then C (ix3 b h ⟨1024 + q.val, by omega⟩) - C (ix3 b h ⟨j, by omega⟩) else 0

/-- A query sees the keys up to its own. -/
def vis (q : Fin 16) (j : ℕ) : Bool := decide (j ≤ 1024 + q.val)

variable (m : (ℓ : Loc nD τ sig) → Buf (Elt Ideal) ℓ) (c : Dev nD) (t : Fin cfg0.N)

/-- The arguments. -/
abbrev aQ : QT.Idx → EReal := m ((c.tc : Thread nD τ).loc main_arg0)
abbrev aK : QT.Idx → EReal := m ((c.tc : Thread nD τ).loc main_arg1)
abbrev aV : QT.Idx → EReal := m ((c.tc : Thread nD τ).loc main_arg2)
abbrev aKc : (CT 1024).Idx → EReal := m ((c.tc : Thread nD τ).loc main_arg3)
abbrev aVc : (CT 1024).Idx → EReal := m ((c.tc : Thread nD τ).loc main_arg4)
abbrev aC : BT.Idx → EReal := m ((c.tc : Thread nD τ).loc main_arg5)

/-- The point's stream. -/
abbrev pb : Fin 8 := grid0.coords t 0

theorem idx : ∀ t : Fin cfg0.N,
    win0_0.index t = ![(grid0.coords t 0).val, 0, 0]
    ∧ win0_1.index t = ![(grid0.coords t 0).val, 0, 0]
    ∧ win0_2.index t = ![(grid0.coords t 0).val, 0, 0]
    ∧ win0_3.index t = ![(grid0.coords t 0).val, 0, 0]
    ∧ win0_4.index t = ![(grid0.coords t 0).val, 0, 0]
    ∧ win0_5.index t = ![(grid0.coords t 0).val, 0, 0]
    ∧ win0_6.index t = ![(grid0.coords t 0).val, 0, 0]
    ∧ win0_7.index t = ![(grid0.coords t 0).val, 0, 0] :=
  (by decide +kernel : ∀ t : Fin grid0.N, _)

/-- The columns of head `h` in the queries and the new keys and values, in the cached ones and in the result. -/
abbrev qR (h : Fin 8) : Rect S1x16x2048 :=
  Rect.unit ![0, 0, 128 * (hd h).val] ![1, 16, 128] (by intro a; fin_cases h <;> fin_cases a <;> decide)
abbrev cR (h : Fin 8) : Rect S1x1024x1024 :=
  Rect.unit ![0, 0, 128 * h.val] ![1, 1024, 128] (by intro a; fin_cases h <;> fin_cases a <;> decide)
abbrev oR (h : Fin 8) : Rect S1x16x1024 :=
  Rect.unit ![0, 0, 128 * h.val] ![1, 16, 128] (by intro a; fin_cases h <;> fin_cases a <;> decide)

/-- The summed log-forget values of head `h`: up to the queries, to the cached keys and to the new ones. -/
abbrev uR (h : Fin 8) : Rect S1x16x8 :=
  Rect.unit ![0, 0, h.val] ![1, 16, 1] (by intro a; fin_cases h <;> fin_cases a <;> decide)
abbrev zR (h : Fin 8) : Rect S1x8x1152 :=
  Rect.unit ![0, h.val, 0] ![1, 1, 1024] (by intro a; fin_cases h <;> fin_cases a <;> decide)
abbrev wR (h : Fin 8) : Rect S1x8x1152 :=
  Rect.unit ![0, h.val, 1024] ![1, 1, 16] (by intro a; fin_cases h <;> fin_cases a <;> decide)

theorem ld_skip {s : Shape} {e : EltTy} {Val : EltTy → Type} [∀ e, Nonempty (Val e)] (r : Rect s) (w : r.shape.Idx → Val e)
    (L : List (View.Piece Val s e)) (B : Rect s) (h : LoadRect.disj r B.toLoadRect = true) :
    View.ld (View.canon (⟨r, w⟩ :: L)) B = View.ld (View.canon L) B := by
  funext x
  exact View.canon_cons_of_not_mem ⟨r, w⟩ L (LoadRect.idx_not_mem_of_disj h x)

theorem ld_hit {s : Shape} {e : EltTy} {Val : EltTy → Type} [∀ e, Nonempty (Val e)] (r : Rect s) (w : r.shape.Idx → Val e)
    (L : List (View.Piece Val s e)) : View.ld (View.canon (⟨r, w⟩ :: L)) r = w := by
  funext x
  exact View.canon_cons_emb r w L x

variable (x0 x1 x2 : Vec Ideal S1x16x2048 .bf16) (x3 x4 : Vec Ideal S1x1024x1024 .f32) (x5 : Vec Ideal S1x16x8 .f32) (x6 : Vec Ideal S1x8x1152 .f32)

set_option maxHeartbeats 2000000 in
/-- What a point stores for head `h`. -/
theorem point (h : Fin 8) : View.ld (out0_7 x0 x1 x2 x3 x4 x5 x6) (oR h)
    = tileO (View.ld x4 (cR h)) (View.ld x2 (qR h)) (tileC (View.ld x0 (qR h)) (View.ld x3 (cR h)) (View.ld x5 (uR h)) (View.ld x6 (zR h)))
        (tileN (View.ld x0 (qR h)) (View.ld x1 (qR h)) (View.ld x5 (uR h)) (View.ld x6 (wR h))) := by
  unfold out0_7
  fin_cases h
  all_goals
    dsimp only [qR, cR, oR, uR, zR, wR, hd, Nat.reduceMul, Nat.reduceAdd]
    simp (disch := decide) only [↓ ld_skip, ↓ ld_hit]
    rfl

/-! ### Heads' columns at one element -/

theorem ld_q (x : Vec Ideal S1x16x2048 .bf16) (h : Fin 8) (r : Fin 16) (d : Fin 128) :
    View.ld x (qR h) (ix3 0 r d) = x (ix3 0 r ⟨128 * (hd h).val + d.val, by omega⟩) := by
  show x ((qR h).emb (ix3 0 r d)) = _
  congr 1
  funext a
  apply Fin.ext
  rw [ValueKit.rect_emb_unit_val]
  fin_cases a
  · rfl
  · exact Nat.zero_add _
  · rfl

theorem ld_c (x : Vec Ideal S1x1024x1024 .f32) (h : Fin 8) (r : Fin 1024) (d : Fin 128) :
    View.ld x (cR h) (ix3 0 r d) = x (ix3 0 r ⟨128 * h.val + d.val, by omega⟩) := by
  show x ((cR h).emb (ix3 0 r d)) = _
  congr 1
  funext a
  apply Fin.ext
  rw [ValueKit.rect_emb_unit_val]
  fin_cases a
  · rfl
  · exact Nat.zero_add _
  · rfl

theorem ld_o (x : Vec Ideal S1x16x1024 .bf16) (h : Fin 8) (r : Fin 16) (d : Fin 128) :
    View.ld x (oR h) (ix3 0 r d) = x (ix3 0 r ⟨128 * h.val + d.val, by omega⟩) := by
  show x ((oR h).emb (ix3 0 r d)) = _
  congr 1
  funext a
  apply Fin.ext
  rw [ValueKit.rect_emb_unit_val]
  fin_cases a
  · rfl
  · exact Nat.zero_add _
  · rfl

theorem ld_u (x : Vec Ideal S1x16x8 .f32) (h : Fin 8) (r : Fin 16) :
    View.ld x (uR h) (ix3 0 r 0) = x (ix3 0 r h) := by
  show x ((uR h).emb (ix3 0 r 0)) = _
  congr 1
  funext a
  apply Fin.ext
  rw [ValueKit.rect_emb_unit_val]
  fin_cases a
  · rfl
  · exact Nat.zero_add _
  · rfl

theorem ld_z (x : Vec Ideal S1x8x1152 .f32) (h : Fin 8) (k : Fin 1024) :
    View.ld x (zR h) (ix3 0 0 k) = x (ix3 0 h ⟨k.val, by omega⟩) := by
  show x ((zR h).emb (ix3 0 0 k)) = _
  congr 1
  funext a
  apply Fin.ext
  rw [ValueKit.rect_emb_unit_val]
  fin_cases a
  · rfl
  · rfl
  · exact Nat.zero_add _

theorem ld_w (x : Vec Ideal S1x8x1152 .f32) (h : Fin 8) (k : Fin 16) :
    View.ld x (wR h) (ix3 0 0 k) = x (ix3 0 h ⟨1024 + k.val, by omega⟩) := by
  show x ((wR h).emb (ix3 0 0 k)) = _
  congr 1
  funext a
  apply Fin.ext
  rw [ValueKit.rect_emb_unit_val]
  fin_cases a
  · rfl
  · rfl
  · rfl

/-! ### The blocks as elements of the arguments -/

theorem q_blk (r h : Fin 16) (d : Fin 128) :
    iblk m c 0 t (ix3 0 r ⟨128 * h.val + d.val, by omega⟩) = aQ m c (ix4 (pb t) r h d) := by
  blk_ext! [iblk, V, idx t]
  exact Nat.add_zero _

theorem k_blk (r h : Fin 16) (d : Fin 128) :
    iblk m c 1 t (ix3 0 r ⟨128 * h.val + d.val, by omega⟩) = aK m c (ix4 (pb t) r h d) := by
  blk_ext! [iblk, V, idx t]
  exact Nat.add_zero _

theorem v_blk (r h : Fin 16) (d : Fin 128) :
    iblk m c 2 t (ix3 0 r ⟨128 * h.val + d.val, by omega⟩) = aV m c (ix4 (pb t) r h d) := by
  blk_ext! [iblk, V, idx t]
  exact Nat.add_zero _

theorem kc_blk (r : Fin 1024) (h : Fin 8) (d : Fin 128) :
    iblk m c 3 t (ix3 0 r ⟨128 * h.val + d.val, by omega⟩) = aKc m c (ix4 (pb t) r h d) := by
  blk_ext! [iblk, V, idx t]
  exact Nat.add_zero _

theorem vc_blk (r : Fin 1024) (h : Fin 8) (d : Fin 128) :
    iblk m c 4 t (ix3 0 r ⟨128 * h.val + d.val, by omega⟩) = aVc m c (ix4 (pb t) r h d) := by
  blk_ext! [iblk, V, idx t]
  exact Nat.add_zero _

theorem u_blk (q : Fin 16) (h : Fin 8) : iblk m c 5 t (ix3 0 q h) = aC m c (ix3 (pb t) h ⟨1024 + q.val, by omega⟩) := by
  blk_ext! [iblk, V, idx t]
  exact Nat.add_zero _

theorem c_blk (h : Fin 8) (k : Fin 1152) : iblk m c 6 t (ix3 0 h k) = aC m c (ix3 (pb t) h k) := by
  blk_ext! [iblk, V, idx t]
  exact Nat.add_zero _

end Cert.FoxSIdeal.Value
-- ==== Proof.FoxSRef.lean ====
/-
  The reference of the sample batch's forgetting attention at one element: it is the attention of `SampleSpec`.
-/
module

public import proofs.«01_k».proof.Proof.FoxSPoint
public import proofs.«01_k».proof.Proof.Gen.FoxSRefIdeal.Run
public import Idealize.ShloMosaic.Lib.Pipeline.ValueKit
public import Idealize.ShloMosaic.Lib.WordCmp

@[expose] public section

set_option maxRecDepth 16384

noncomputable section

namespace Cert.FoxSRefIdeal.Value

open Idealize.ShloMosaic Idealize.SL.Sem Cert.FoxSRefIdeal.Gen Cert.SampleSpec Cert.Softmax
open Cert.FoxSIdeal.Value (BT hd add vis)

/-- The keys, or values, of the eight heads: the cached ones and then the new ones. -/
def rK (C : FVec Ideal S8x1024x8x128 .f32) (X : FVec Ideal S8x16x16x128 .bf16) : FVec Ideal S8x1040x8x128 .f32 :=
  concatenate S8x1040x8x128 1 [⟨S8x1024x8x128, C⟩, ⟨S8x16x8x128, (extf .f32 (extractStridedSlice S8x16x8x128 ![0, 0, 8, 0] X slices_S8x16x16x128_S8x16x8x128_0_0_8_0) bitsLt_bf16_f32)⟩] concatenates_S8x1024x8x128_S8x16x8x128_S8x1040x8x128_d1

/-- Which keys each query sees. -/
def rC : IVec S16x1040 1 :=
  cmpi .sle (broadcastInDim S16x1040 ![0, 1] bcast_S1x1040_S16x1040_0_1 (broadcastInDim S1x1040 ![1] bcast_S1040_S1x1040_1 (iotaInDim S1040 32 0)))
    (broadcastInDim S16x1040 ![0, 1] bcast_S16x1_S16x1040_0_1 (broadcastInDim S16x1 ![0] bcast_S16_S16x1_0 (addi (broadcastInDim S16 ![] bcast_S_S16 (constantI S_ 32 1024#32)) (iotaInDim S16 32 0))))

/-- The summed log-forget values, position by head. -/
def rF (C : FVec Ideal S8x8x1152 .f32) : FVec Ideal S8x1040x8 .f32 :=
  transpose S8x1040x8 [0, 2, 1] (extractStridedSlice S8x8x1040 ![0, 0, 0] C slices_S8x8x1152_S8x8x1040_0_0_0) transposes_S8x8x1040_S8x1040x8_0_2_1

/-- The logits. -/
def rS (Q : FVec Ideal S8x16x16x128 .bf16) (W : FVec Ideal S8x1040x8x128 .f32) (Y : FVec Ideal S8x1040x8 .f32) : FVec Ideal S8x8x16x1040 .f32 :=
  select (broadcastInDim S8x8x16x1040 ![0, 1, 2, 3] bcast_S1x1x16x1040_S8x8x16x1040_0_1_2_3 (broadcastInDim S1x1x16x1040 ![2, 3] bcast_S16x1040_S1x1x16x1040_2_3 rC))
    (subf (addf (mulf (Host.dotGeneral dot_S8x16x8x128_S8x1040x8x128_S8x8x16x1040_3_3_1_1_02_02 none (extf .f32 (extractStridedSlice S8x16x8x128 ![0, 0, 8, 0] Q slices_S8x16x16x128_S8x16x8x128_0_0_8_0) bitsLt_bf16_f32) W)
        (broadcastInDim S8x8x16x1040 ![] bcast_S_S8x8x16x1040 (constant S_ .f32 0x3DB504F3#32)))
        (broadcastInDim S8x8x16x1040 ![0, 1, 2, 3] bcast_S8x8x16x1_S8x8x16x1040_0_1_2_3 (broadcastInDim S8x8x16x1 ![0, 1, 2] bcast_S8x8x16_S8x8x16x1_0_1_2 (transpose S8x8x16 [0, 2, 1] (extractStridedSlice S8x16x8 ![0, 1024, 0] Y slices_S8x1040x8_S8x16x8_0_1024_0) transposes_S8x16x8_S8x8x16_0_2_1))))
      (broadcastInDim S8x8x16x1040 ![0, 1, 2, 3] bcast_S8x8x1x1040_S8x8x16x1040_0_1_2_3 (broadcastInDim S8x8x1x1040 ![0, 1, 3] bcast_S8x8x1040_S8x8x1x1040_0_1_3 (transpose S8x8x1040 [0, 2, 1] Y transposes_S8x1040x8_S8x8x1040_0_2_1))))
    (broadcastInDim S8x8x16x1040 ![] bcast_S_S8x8x16x1040 (id (constant S_ .f32 0xFF800000#32)))

/-- The largest logit of each query. -/
def rM (S : FVec Ideal S8x8x16x1040 .f32) : FVec Ideal S8x8x16 .f32 :=
  Host.reduce FloatOps.maximumf S (constant S_ .f32 0xFF800000#32) reducesTo_S8x8x16x1040_S8x8x16_d3 h_S_

/-- The exponentials of the logits less a number for each query. -/
def rE (S : FVec Ideal S8x8x16x1040 .f32) (M : FVec Ideal S8x8x16 .f32) : FVec Ideal S8x8x16x1040 .f32 :=
  Host.exp (subf S (broadcastInDim S8x8x16x1040 ![0, 1, 2, 3] bcast_S8x8x16x1_S8x8x16x1040_0_1_2_3 (broadcastInDim S8x8x16x1 ![0, 1, 2] bcast_S8x8x16_S8x8x16x1_0_1_2 (maximumf (broadcastInDim S8x8x16 ![] bcast_S_S8x8x16 (constant S_ .f32 0xFF800000#32)) M))))

/-- The weights. -/
def rP (E : FVec Ideal S8x8x16x1040 .f32) : FVec Ideal S8x8x16x1040 .f32 :=
  Host.divf E (broadcastInDim S8x8x16x1040 ![0, 1, 2, 3] bcast_S8x8x16x1_S8x8x16x1040_0_1_2_3 (broadcastInDim S8x8x16x1 ![0, 1, 2] bcast_S8x8x16_S8x8x16x1_0_1_2 (Host.reduceAdd E (constant S_ .f32 0x00000000#32) reducesTo_S8x8x16x1040_S8x8x16_d3 h_S_)))

/-- The weighted values. -/
def rO (P : FVec Ideal S8x8x16x1040 .f32) (W : FVec Ideal S8x1040x8x128 .f32) : FVec Ideal S8x16x1024 .bf16 :=
  truncf .bf16 (shapeCast S8x16x1024 (transpose S8x16x8x128 [0, 3, 1, 2] (Host.dotGeneral dot_S8x1040x8x128_S8x8x16x1040_S8x8x128x16_1_3_3_2_02_01 none W P) transposes_S8x8x128x16_S8x16x8x128_0_3_1_2) shapeCasts_S8x16x8x128_S8x16x1024) bitsLt_bf16_f32

theorem bot_word : Ideal.ofBits FTy.f32 4286578688#32 = ⊥ := by
  simp [Ideal.ofBits, Ideal.ieee]

theorem rK_at (C : FVec Ideal S8x1024x8x128 .f32) (X : FVec Ideal S8x16x16x128 .bf16) (b : Fin 8) (j : Fin 1040) (h : Fin 8) (d : Fin 128) :
    rK C X (ix4 b j h d) = key X C hd b h d j.val := by
  unfold key
  pointwise [rK]
  have hj := j.isLt
  by_cases hp : j.val < 1024
  · rw [dif_pos hp, dif_pos hp]
  · rw [dif_neg hp, dif_neg hp, dif_pos (by omega)]
    exact congrArg (fun z => X (ix4 b ⟨j.val - 1024, by omega⟩ z d)) (Fin.ext (Nat.add_comm 8 h.val))

theorem rC_at (q : Fin 16) (j : Fin 1040) : rC (ix2 q j) = BitVec.ofBool (decide (j.val ≤ 1024 + q.val)) := by
  pointwise [rC]
  have hq := q.isLt
  have hj := j.isLt
  have e : IntOp.addi 1024#32 (BitVec.ofNat 32 q.val) = BitVec.ofNat 32 (1024 + q.val) := by
    show 1024#32 + BitVec.ofNat 32 q.val = _
    apply BitVec.eq_of_toNat_eq
    simp only [BitVec.toNat_add, BitVec.toNat_ofNat]
    omega
  rw [e]
  show BitVec.ofBool (BitVec.sle (BitVec.ofNat 32 j.val) (BitVec.ofNat 32 (1024 + q.val))) = _
  congr 1
  unfold BitVec.sle
  apply decide_eq_decide.2
  rw [BitVec.toInt_ofNat', BitVec.toInt_ofNat']
  simp only [Int.bmod]
  omega

theorem rF_at (C : FVec Ideal S8x8x1152 .f32) (b : Fin 8) (j : Fin 1040) (h : Fin 8) :
    rF C (ix3 b j h) = C (ix3 b h ⟨j.val, by omega⟩) := by
  pointwise [rF]

theorem rS_at (Q : FVec Ideal S8x16x16x128 .bf16) (W : FVec Ideal S8x1040x8x128 .f32) (Y : FVec Ideal S8x1040x8 .f32)
    (b h : Fin 8) (q : Fin 16) (j : Fin 1040) :
    rS Q W Y (ix4 b h q j) = if j.val ≤ 1024 + q.val then
      (∑ d : Fin 128, Q (ix4 b q (hd h) d) * W (ix4 b j h d)) * scale + Y (ix3 b ⟨1024 + q.val, by omega⟩ h) - Y (ix3 b j h) else ⊥ := by
  pointwise [rS]
  have e : id (constant S_ FTy.f32 4286578688#32 : FVec Ideal S_ .f32) ix0 = (⊥ : EReal) := bot_word
  have ep : ∀ hp : 8 + h.val < 16, (⟨8 + h.val, hp⟩ : Fin 16) = hd h := fun hp =>
    Fin.ext (by show 8 + h.val = h.val + 8; omega)
  rw [e, rC_at]
  try simp only [ep]
  by_cases hj : j.val ≤ 1024 + q.val <;> simp [hj, Scalar.select]

theorem rM_at (S : FVec Ideal S8x8x16x1040 .f32) (b h : Fin 8) (q : Fin 16) :
    rM S (ix3 b h q) = (Finset.univ : Finset (Fin 1040)).fold max ⊥ fun j => S (ix4 b h q j) := by
  pointwise [rM]
  rw [bot_word]

theorem rE_at (S : FVec Ideal S8x8x16x1040 .f32) (M : FVec Ideal S8x8x16 .f32) (b h : Fin 8) (q : Fin 16) (j : Fin 1040) :
    rE S M (ix4 b h q j) = Ideal.exp (S (ix4 b h q j) - max ⊥ (M (ix3 b h q))) := by
  pointwise [rE]
  rw [bot_word]

theorem rP_at (E : FVec Ideal S8x8x16x1040 .f32) (b h : Fin 8) (q : Fin 16) (j : Fin 1040) :
    rP E (ix4 b h q j) = Ideal.div (E (ix4 b h q j)) (∑ k : Fin 1040, E (ix4 b h q k)) := by
  pointwise [rP]

theorem rO_at (P : FVec Ideal S8x8x16x1040 .f32) (W : FVec Ideal S8x1040x8x128 .f32) (b : Fin 8) (q : Fin 16) (h : Fin 8) (d : Fin 128) :
    rO P W (ix3 b q ⟨128 * h.val + d.val, by omega⟩) = ∑ j : Fin 1040, W (ix4 b j h d) * P (ix4 b h q j) := by
  pointwise [rO]

theorem res_eq (m : (ℓ : Loc nD τ sig) → Buf (Elt Ideal) ℓ) (c : Dev nD) (Q K V : FVec Ideal S8x16x16x128 .bf16)
    (Kc Vc : FVec Ideal S8x1024x8x128 .f32) (C : FVec Ideal S8x8x1152 .f32)
    (hQ : m ((c.tc : Thread nD τ).loc main_arg0) = Q) (hK : m ((c.tc : Thread nD τ).loc main_arg1) = K)
    (hV : m ((c.tc : Thread nD τ).loc main_arg2) = V) (hKc : m ((c.tc : Thread nD τ).loc main_arg3) = Kc)
    (hVc : m ((c.tc : Thread nD τ).loc main_arg4) = Vc) (hC : m ((c.tc : Thread nD τ).loc main_arg5) = C) :
    res_out0 m c = rO (rP (rE (rS Q (rK Kc K) (rF C)) (rM (rS Q (rK Kc K) (rF C))))) (rK Vc V) := by
  subst hQ hK hV hKc hVc hC
  unfold res_out0 res_main_v47 rO rP rE rM rS rC rF rK
  rfl

/-- The reference is the attention. -/
theorem ref_at (Q K V : FVec Ideal S8x16x16x128 .bf16) (Kc Vc : FVec Ideal S8x1024x8x128 .f32) (C : FVec Ideal S8x8x1152 .f32)
    (b : Fin 8) (q : Fin 16) (h : Fin 8) (d : Fin 128) :
    rO (rP (rE (rS Q (rK Kc K) (rF C)) (rM (rS Q (rK Kc K) (rF C))))) (rK Vc V) (ix3 b q ⟨128 * h.val + d.val, by omega⟩)
      = att Q K V Kc Vc hd (add C) vis b h q d := by
  have hS : ∀ j : Fin 1040, rS Q (rK Kc K) (rF C) (ix4 b h q j) = row Q K Kc hd (add C) vis b h q j.val := fun j => by
    rw [rS_at]
    unfold row logit add vis
    rw [dif_pos j.isLt]
    simp only [rK_at, rF_at, decide_eq_true_eq, sub_eq_add_neg, add_assoc]
  have hM : (Finset.univ : Finset (Fin 1040)).fold max ⊥ (fun j => row Q K Kc hd (add C) vis b h q j.val) = mx (row Q K Kc hd (add C) vis b h q) (1024 + 16) :=
    mx_fin (row Q K Kc hd (add C) vis b h q) 1040
  rw [rO_at]
  unfold att
  rw [Finset.sum_range]
  refine Finset.sum_congr rfl fun j _ => ?_
  simp only [rP_at, rE_at, rM_at, hS, hM, max_bot_left, rK_at]
  unfold sm
  rw [Finset.sum_range]

end Cert.FoxSRefIdeal.Value
-- ==== Proof.FoxSValue.lean ====
/-
  The result of the sample batch's forgetting attention kernel: every head of every stream is the attention of
  `SampleSpec`.
-/
module

public import proofs.«01_k».proof.Proof.FoxSPoint

@[expose] public section

set_option maxRecDepth 16384

noncomputable section

namespace Cert.FoxSIdeal.Value

open Idealize.ShloMosaic Idealize.SL.Sem Cert.FoxSIdeal.Gen Cert.SampleSpec Cert.Softmax

variable (m : (ℓ : Loc nD τ sig) → Buf (Elt Ideal) ℓ) (c : Dev nD) (t : Fin cfg0.N)

/-- The logits of query `q` of head `h`. -/
abbrev rowS (Q Kn : QT.Idx → EReal) (Kc : (CT 1024).Idx → EReal) (C : BT.Idx → EReal) (b h : Fin 8) (q : Fin 16) : ℕ → EReal :=
  row Q Kn Kc hd (add C) vis b h q

/-- The attention of head `h`. -/
abbrev attS (Q Kn Vn : QT.Idx → EReal) (Kc Vc : (CT 1024).Idx → EReal) (C : BT.Idx → EReal) (b h : Fin 8) (q : Fin 16) (d : Fin 128) : EReal :=
  att Q Kn Vn Kc Vc hd (add C) vis b h q d

/-- What the point stores. -/
theorem point_att (h : Fin 8) (q : Fin 16) (d : Fin 128)
    (hs : ∀ j, rowS (aQ m c) (aK m c) (aKc m c) (aC m c) (pb t) h q j ≠ ⊤) (hr : rowS (aQ m c) (aK m c) (aKc m c) (aC m c) (pb t) h q 0 ≠ ⊥) :
    View.ld (out0_7 (iblk m c 0 t) (iblk m c 1 t) (iblk m c 2 t) (iblk m c 3 t) (iblk m c 4 t) (iblk m c 5 t) (iblk m c 6 t)) (oR h) (ix3 0 q d)
      = attS (aQ m c) (aK m c) (aV m c) (aKc m c) (aVc m c) (aC m c) (pb t) h q d := by
  rw [point]
  refine tileO_at (rowS (aQ m c) (aK m c) (aKc m c) (aC m c) (pb t) h q) (key (aV m c) (aVc m c) hd (pb t) h d) hs hr _ _ _ _ q d
    (fun k => ?_) (fun k => ?_) (fun k => ?_) fun k => ?_
  · rw [tileC_at, ld_u, u_blk, ld_z, c_blk]
    unfold rowS row logit add vis
    rw [if_pos (decide_eq_true (by omega)), dif_pos (by omega)]
    have e1 : ∀ x : Fin 128, View.ld (iblk m c 0 t) (qR h) (ix3 0 q x) = aQ m c (ix4 (pb t) q (hd h) x) := fun x => (ld_q _ _ _ _).trans (q_blk m c t q (hd h) x)
    have e2 : ∀ x : Fin 128, View.ld (iblk m c 3 t) (cR h) (ix3 0 k x) = key (aK m c) (aKc m c) hd (pb t) h x k.val := fun x => by
      rw [ld_c, kc_blk, key_old]
    simp only [e1, e2]
  · rw [tileN_at, ld_u, u_blk, ld_w, c_blk]
    unfold rowS row logit add vis
    rw [dif_pos (by omega)]
    have e1 : ∀ x : Fin 128, View.ld (iblk m c 0 t) (qR h) (ix3 0 q x) = aQ m c (ix4 (pb t) q (hd h) x) := fun x => (ld_q _ _ _ _).trans (q_blk m c t q (hd h) x)
    have e2 : ∀ x : Fin 128, View.ld (iblk m c 1 t) (qR h) (ix3 0 k x) = key (aK m c) (aKc m c) hd (pb t) h x (1024 + k.val) := fun x => by
      rw [ld_q, k_blk, key_new]
    simp only [e1, e2]
    simp only [decide_eq_true_eq, Nat.add_le_add_iff_left]
  · rw [ld_c, vc_blk, key_old]
  · rw [ld_q, v_blk, key_new]

/-- The attention as an array: channel `128 h + d` of position `q`. -/
def attArr (Q Kn Vn : QT.Idx → EReal) (Kc Vc : (CT 1024).Idx → EReal) (C : BT.Idx → EReal) : S8x16x1024.Idx → EReal := fun i =>
  attS Q Kn Vn Kc Vc C (i 0) ⟨(i 2).val / 128, by have : (i 2).val < 1024 := (i 2).isLt; omega⟩ (i 1) ⟨(i 2).val % 128, by omega⟩

theorem attArr_at (Q Kn Vn : QT.Idx → EReal) (Kc Vc : (CT 1024).Idx → EReal) (C : BT.Idx → EReal) (i : S8x16x1024.Idx) (b h : Fin 8) (q : Fin 16) (d : Fin 128)
    (h0 : i 0 = b) (h1 : i 1 = q) (h2 : (i 2).val = 128 * h.val + d.val) :
    attArr Q Kn Vn Kc Vc C i = attS Q Kn Vn Kc Vc C b h q d := by
  subst h0 h1
  have eh : (⟨(i 2).val / 128, by have : (i 2).val < 1024 := (i 2).isLt; omega⟩ : Fin 8) = h := Fin.ext (by show (i 2).val / 128 = h.val; omega)
  have ed : (⟨(i 2).val % 128, by omega⟩ : Fin 128) = d := Fin.ext (by show (i 2).val % 128 = d.val; omega)
  unfold attArr
  rw [eh, ed]

/-- The kernel's array. -/
theorem final (hs : ∀ b h q j, rowS (aQ m c) (aK m c) (aKc m c) (aC m c) b h q j ≠ ⊤)
    (hr : ∀ b h q, rowS (aQ m c) (aK m c) (aKc m c) (aC m c) b h q 0 ≠ ⊥) :
    (dats m 0 c).arrAt 7 cfg0.N = attArr (aQ m c) (aK m c) (aV m c) (aKc m c) (aVc m c) (aC m c) := by
  refine (dats m 0 c).arrAt_eq_of_covers 7 _ (by decide +kernel) fun t hf y => ?_
  blk_simp
  rw [after0_7]
  have h2 : (y 2).val < 1024 := (y 2).isLt
  have h0 : (y 0).val < 1 := (y 0).isLt
  have e := point_att m c t ⟨(y 2).val / 128, by omega⟩ (y 1) ⟨(y 2).val % 128, by omega⟩ (hs _ _ _) (hr _ _ _)
  have e' := (ld_o (out0_7 (iblk m c 0 t) (iblk m c 1 t) (iblk m c 2 t) (iblk m c 3 t) (iblk m c 4 t) (iblk m c 5 t) (iblk m c 6 t)) _ _ _).symm.trans e
  have hy : (ix3 0 (y 1) ⟨128 * ((y 2).val / 128) + (y 2).val % 128, by omega⟩ : S1x16x1024.Idx) = y := by
    funext a
    fin_cases a
    · exact Fin.ext (by show 0 = (y 0).val; omega)
    · rfl
    · exact Fin.ext (by show 128 * ((y 2).val / 128) + (y 2).val % 128 = (y 2).val; omega)
  rw [← hy]
  refine e'.trans (attArr_at _ _ _ _ _ _ _ _ _ _ _ ?_ ?_ ?_).symm
  · apply Fin.ext
    rw [hy]
    blk_simp [idx t]
  · apply Fin.ext
    rw [hy]
    blk_simp [idx t]
  · rw [hy]
    blk_simp [idx t]
    show (y 2).val = 128 * ((y 2).val / 128) + (y 2).val % 128
    omega

end Cert.FoxSIdeal.Value
-- ==== Proof.FoxSClaim.lean ====
/-
  The claim of the sample batch's forgetting attention: the kernel and the reference give one array, and the reference runs to
  its end.
-/
module

public import proofs.«01_k».proof.Defs
public import proofs.«01_k».proof.Proof.FoxSPre
public import proofs.«01_k».proof.Proof.FoxSRef
public import proofs.«01_k».proof.Proof.FoxSValue
public import Idealize.ShloMosaic.Adequacy
public import Idealize.ShloMosaic.Init

@[expose] public section

noncomputable section

namespace Cert.FoxSClaim

open Idealize.ShloMosaic Idealize.SL.Sem Cert.FoxSIdeal.Value Cert.SampleSpec

/-- The summed log-forget values are finite, so what is added to the logits is. -/
theorem add_real (C : BT.Idx → EReal)
    (hC : ∀ (b h : Fin 8) (j : Fin 1040), C (ix3 b h ⟨j.val, by omega⟩) ≠ ⊤ ∧ C (ix3 b h ⟨j.val, by omega⟩) ≠ ⊥)
    (b h : Fin 8) (q : Fin 16) (j : ℕ) : add C b h q j ≠ ⊤ ∧ add C b h q j ≠ ⊥ := by
  unfold add
  split
  · rename_i hj
    obtain ⟨u1, u2⟩ := hC b h ⟨1024 + q.val, by omega⟩
    obtain ⟨z1, z2⟩ := hC b h ⟨j, hj⟩
    rw [← EReal.coe_toReal u1 u2, ← EReal.coe_toReal z1 z2, ← EReal.coe_sub]
    exact ⟨EReal.coe_ne_top _, EReal.coe_ne_bot _⟩
  · exact ⟨EReal.zero_ne_top, EReal.zero_ne_bot⟩

/-- The two programs give one array. -/
theorem result_eq (m : (ℓ : Loc Cert.FoxSIdeal.nD Cert.FoxSIdeal.τ Cert.FoxSIdeal.sig) → Buf (Elt Ideal) ℓ)
    (m' : (ℓ : Loc Cert.FoxSRefIdeal.nD Cert.FoxSRefIdeal.τ Cert.FoxSRefIdeal.sig) → Buf (Elt Ideal) ℓ)
    (hpre : Cert.Pre_FoxSIdeal_finite_fox_sample (hPre_finite_fox_sample := Cert.Pre_finite_fox_sample.Gen.facts) m) (c : Dev Cert.FoxSIdeal.nD)
    (h0 : m' ((c.tc : Thread Cert.FoxSRefIdeal.nD Cert.FoxSRefIdeal.τ).loc Cert.FoxSRefIdeal.main_arg0) = aQ m c)
    (h1 : m' ((c.tc : Thread Cert.FoxSRefIdeal.nD Cert.FoxSRefIdeal.τ).loc Cert.FoxSRefIdeal.main_arg1) = aK m c)
    (h2 : m' ((c.tc : Thread Cert.FoxSRefIdeal.nD Cert.FoxSRefIdeal.τ).loc Cert.FoxSRefIdeal.main_arg2) = aV m c)
    (h3 : m' ((c.tc : Thread Cert.FoxSRefIdeal.nD Cert.FoxSRefIdeal.τ).loc Cert.FoxSRefIdeal.main_arg3) = aKc m c)
    (h4 : m' ((c.tc : Thread Cert.FoxSRefIdeal.nD Cert.FoxSRefIdeal.τ).loc Cert.FoxSRefIdeal.main_arg4) = aVc m c)
    (h5 : m' ((c.tc : Thread Cert.FoxSRefIdeal.nD Cert.FoxSRefIdeal.τ).loc Cert.FoxSRefIdeal.main_arg5) = aC m c) :
    Cert.FoxSRefIdeal.Value.res_out0 m' c = (Cert.FoxSIdeal.Gen.dats m 0 c).arrAt 7 Cert.FoxSIdeal.cfg0.N := by
  haveI := Cert.Pre_finite_fox_sample.Gen.facts
  obtain ⟨fQ, fK, fC, fB⟩ := Cert.FoxSPre.finite_all (hpre c)
  have fA := add_real _ fB
  rw [Cert.FoxSIdeal.Value.final m c
    (fun b h q j => row_ne_top _ _ _ hd _ vis (fun b q h d => fQ (ix4 b q (hd h) d)) fK fC fA b h q j)
    (fun b h q => row_first _ _ _ hd _ vis (fun b q h d => fQ (ix4 b q (hd h) d)) fK fC fA (fun _ => decide_eq_true (Nat.zero_le _)) b h q)]
  rw [Cert.FoxSRefIdeal.Value.res_eq m' c _ _ _ _ _ _ h0 h1 h2 h3 h4 h5]
  funext i
  have hi : (i 2).val < 1024 := (i 2).isLt
  have e := Cert.FoxSRefIdeal.Value.ref_at (aQ m c) (aK m c) (aV m c) (aKc m c) (aVc m c) (aC m c)
    (i 0) (i 1) ⟨(i 2).val / 128, by omega⟩ ⟨(i 2).val % 128, by omega⟩
  refine Eq.trans (congrArg _ ?_) e
  funext a
  fin_cases a
  · rfl
  · rfl
  · exact Fin.ext (by show (i 2).val = 128 * ((i 2).val / 128) + (i 2).val % 128; omega)

theorem algebraic : Cert.algebraic_FoxSIdeal_FoxSRefIdeal_pre_finite_fox_sample (hFoxSIdeal := Cert.FoxSIdeal.Gen.facts)
    (hFoxSRefIdeal := Cert.FoxSRefIdeal.Gen.facts) (hPre_finite_fox_sample := Cert.Pre_finite_fox_sample.Gen.facts) := by
  intro m g m' g' hpre hagree
  refine ⟨fun c => (Cert.FoxSIdeal.Gen.dats m 0 c).arrAt 7 Cert.FoxSIdeal.cfg0.N, Cert.FoxSIdeal.Value.run_blocks m g, ?_⟩
  refine (θ_run _ _ _).mono (fun r h c => ⟨(h c).1.trans ?_, (h c).2⟩) (Cert.FoxSRefIdeal.Value.run m' g')
  obtain ⟨h0, h1, h2, h3, h4, h5⟩ := hagree c
  exact result_eq m m' hpre c h0 h1 h2 h3 h4 h5

/-- The reference runs to its end and leaves nothing waiting. -/
theorem ref_frame : Cert.quiescent_FoxSRefIdeal (hFoxSRefIdeal := Cert.FoxSRefIdeal.Gen.facts) := by
  intro m g _
  hlo_run
  · exact fun _ => ⟨trivial, trivial, trivial, trivial, trivial, trivial⟩
  · exact sem_eq_zero_of_no_sems rfl _

/-- The same with finite arguments. -/
theorem ref_frame_pre : Cert.quiescent_FoxSRefIdeal_pre_finite_fox_sample (hFoxSRefIdeal := Cert.FoxSRefIdeal.Gen.facts)
    (hPre_finite_fox_sample := Cert.Pre_finite_fox_sample.Gen.facts) := by
  intro m g _
  hlo_run
  · exact fun _ => ⟨trivial, trivial, trivial, trivial, trivial, trivial⟩
  · exact sem_eq_zero_of_no_sems rfl _

end Cert.FoxSClaim

end
-- ==== Proof.FoxRef.lean ====
/-
  The FoX reference at one element: it is the attention of `FoxSpec`.
-/
module

public import proofs.«01_k».proof.Proof.FoxSpec
public import proofs.«01_k».proof.Proof.Gen.FoxRefIdeal.Run
public import Idealize.ShloMosaic.Lib.Pipeline.ValueKit
public import Idealize.ShloMosaic.Lib.WordCmp

@[expose] public section

set_option maxRecDepth 16384

noncomputable section

namespace Cert.FoxRefIdeal.Value

open Idealize.ShloMosaic Idealize.SL.Sem Cert.FoxRefIdeal.Gen Cert.FoxSpec Cert.Softmax

/-- The masked logits as the reference computes them. -/
def rS (Q K : FVec Ideal S4x2048x16x128 .bf16) (C : FVec Ideal S4x8x2048 .f32) : FVec Ideal S4x8x2048x2048 .f32 :=
  select (broadcastInDim S4x8x2048x2048 ![0, 1, 2, 3] bcast_S1x1x2048x2048_S4x8x2048x2048_0_1_2_3 (broadcastInDim S1x1x2048x2048 ![2, 3] bcast_S2048x2048_S1x1x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))))
    (subf (addf (mulf (Host.dotGeneral dot_S4x2048x8x128_S4x2048x8x128_S4x8x2048x2048_3_3_1_1_02_02 none (extf .f32 (extractStridedSlice S4x2048x8x128 ![0, 0, 8, 0] Q slices_S4x2048x16x128_S4x2048x8x128_0_0_8_0) bitsLt_bf16_f32) (extf .f32 (extractStridedSlice S4x2048x8x128 ![0, 0, 8, 0] K slices_S4x2048x16x128_S4x2048x8x128_0_0_8_0) bitsLt_bf16_f32)) (broadcastInDim S4x8x2048x2048 ![] bcast_S_S4x8x2048x2048 (constant S_ .f32 0x3DB504F3#32)))
      (broadcastInDim S4x8x2048x2048 ![0, 1, 2, 3] bcast_S4x8x2048x1_S4x8x2048x2048_0_1_2_3 (broadcastInDim S4x8x2048x1 ![0, 1, 2] bcast_S4x8x2048_S4x8x2048x1_0_1_2 (transpose S4x8x2048 [0, 2, 1] (transpose S4x2048x8 [0, 2, 1] C transposes_S4x8x2048_S4x2048x8_0_2_1) transposes_S4x2048x8_S4x8x2048_0_2_1))))
      (broadcastInDim S4x8x2048x2048 ![0, 1, 2, 3] bcast_S4x8x1x2048_S4x8x2048x2048_0_1_2_3 (broadcastInDim S4x8x1x2048 ![0, 1, 3] bcast_S4x8x2048_S4x8x1x2048_0_1_3 (transpose S4x8x2048 [0, 2, 1] (transpose S4x2048x8 [0, 2, 1] C transposes_S4x8x2048_S4x2048x8_0_2_1) transposes_S4x2048x8_S4x8x2048_0_2_1))))
    (broadcastInDim S4x8x2048x2048 ![] bcast_S_S4x8x2048x2048 (id (constant S_ .f32 0xFF800000#32)))

/-- The largest logit of each query. -/
def rM (S : FVec Ideal S4x8x2048x2048 .f32) : FVec Ideal S4x8x2048 .f32 :=
  Host.reduce FloatOps.maximumf S (constant S_ .f32 0xFF800000#32) reducesTo_S4x8x2048x2048_S4x8x2048_d3 h_S_

/-- The exponentials of the logits less a number for each query. -/
def rE (S : FVec Ideal S4x8x2048x2048 .f32) (M : FVec Ideal S4x8x2048 .f32) : FVec Ideal S4x8x2048x2048 .f32 :=
  Host.exp (subf S (broadcastInDim S4x8x2048x2048 ![0, 1, 2, 3] bcast_S4x8x2048x1_S4x8x2048x2048_0_1_2_3 (broadcastInDim S4x8x2048x1 ![0, 1, 2] bcast_S4x8x2048_S4x8x2048x1_0_1_2 (maximumf (broadcastInDim S4x8x2048 ![] bcast_S_S4x8x2048 (constant S_ .f32 0xFF800000#32)) M))))

/-- The weights. -/
def rP (E : FVec Ideal S4x8x2048x2048 .f32) : FVec Ideal S4x8x2048x2048 .f32 :=
  Host.divf E (broadcastInDim S4x8x2048x2048 ![0, 1, 2, 3] bcast_S4x8x2048x1_S4x8x2048x2048_0_1_2_3 (broadcastInDim S4x8x2048x1 ![0, 1, 2] bcast_S4x8x2048_S4x8x2048x1_0_1_2 (Host.reduceAdd E (constant S_ .f32 0x00000000#32) reducesTo_S4x8x2048x2048_S4x8x2048_d3 h_S_)))

/-- The weighted values. -/
def rO (P : FVec Ideal S4x8x2048x2048 .f32) (V : FVec Ideal S4x2048x16x128 .bf16) : FVec Ideal S4x2048x1024 .bf16 :=
  truncf .bf16 (shapeCast S4x2048x1024 (transpose S4x2048x8x128 [0, 3, 1, 2] (Host.dotGeneral dot_S4x2048x8x128_S4x8x2048x2048_S4x8x128x2048_1_3_3_2_02_01 none (extf .f32 (extractStridedSlice S4x2048x8x128 ![0, 0, 8, 0] V slices_S4x2048x16x128_S4x2048x8x128_0_0_8_0) bitsLt_bf16_f32) P) transposes_S4x8x128x2048_S4x2048x8x128_0_3_1_2) shapeCasts_S4x2048x8x128_S4x2048x1024) bitsLt_bf16_f32

theorem bot_word : Ideal.ofBits FTy.f32 4286578688#32 = ⊥ := by
  simp [Ideal.ofBits, Ideal.ieee]

theorem rS_at (Q K : FVec Ideal S4x2048x16x128 .bf16) (C : FVec Ideal S4x8x2048 .f32) (b : Fin 4) (h : Fin 8) (r j : Fin 2048) :
    rS Q K C (ix4 b h r j) = row Q K C b h r j.val := by
  rw [row_fin]
  pointwise [rS]
  rw [WordCmp.cmpi_sle_ofNat (by omega) (by omega)]
  by_cases hj : j.val ≤ r.val
  · simp only [hj, decide_true, if_true, if_pos]
    rfl
  · simp only [hj, decide_false, if_false]
    exact bot_word

theorem rM_at (S : FVec Ideal S4x8x2048x2048 .f32) (b : Fin 4) (h : Fin 8) (r : Fin 2048) :
    rM S (ix3 b h r) = (Finset.univ : Finset (Fin 2048)).fold max ⊥ fun j => S (ix4 b h r j) := by
  pointwise [rM]
  rw [bot_word]

theorem rE_at (S : FVec Ideal S4x8x2048x2048 .f32) (M : FVec Ideal S4x8x2048 .f32) (b : Fin 4) (h : Fin 8) (r j : Fin 2048) :
    rE S M (ix4 b h r j) = Ideal.exp (S (ix4 b h r j) - max ⊥ (M (ix3 b h r))) := by
  pointwise [rE]
  rw [bot_word]

theorem rP_at (E : FVec Ideal S4x8x2048x2048 .f32) (b : Fin 4) (h : Fin 8) (r : Fin 2048) (j : Fin 2048) :
    rP E (ix4 b h r j) = Ideal.div (E (ix4 b h r j)) (∑ k : Fin 2048, E (ix4 b h r k)) := by
  pointwise [rP]

theorem rO_at (P : FVec Ideal S4x8x2048x2048 .f32) (V : FVec Ideal S4x2048x16x128 .bf16) (b : Fin 4) (r : Fin 2048) (h : Fin 8) (d : Fin 128) :
    rO P V (ix3 b r ⟨128 * h.val + d.val, by omega⟩) = ∑ j : Fin 2048, V (ix4 b j (hd h) d) * P (ix4 b h r j) := by
  pointwise [rO]

theorem res_eq (m : (ℓ : Loc nD τ sig) → Buf (Elt Ideal) ℓ) (c : Dev nD) (Q K V : FVec Ideal S4x2048x16x128 .bf16) (C : FVec Ideal S4x8x2048 .f32)
    (hQ : m ((c.tc : Thread nD τ).loc main_arg0) = Q) (hK : m ((c.tc : Thread nD τ).loc main_arg1) = K)
    (hV : m ((c.tc : Thread nD τ).loc main_arg2) = V) (hC : m ((c.tc : Thread nD τ).loc main_arg3) = C) :
    res_main_v40 m c = rO (rP (rE (rS Q K C) (rM (rS Q K C)))) V := by
  subst hQ hK hV hC
  unfold res_main_v40 rO rP rE rM rS
  rfl

/-- The reference is the attention. -/
theorem ref_at (Q K V : FVec Ideal S4x2048x16x128 .bf16) (C : FVec Ideal S4x8x2048 .f32) (b : Fin 4) (r : Fin 2048) (h : Fin 8) (d : Fin 128) :
    rO (rP (rE (rS Q K C) (rM (rS Q K C)))) V (ix3 b r ⟨128 * h.val + d.val, by omega⟩) = att Q K V C b h r d := by
  have hM : (Finset.univ : Finset (Fin 2048)).fold max ⊥ (fun j => row Q K C b h r j.val) = mx (row Q K C b h r) 2048 := by
    have e := mx_add (row Q K C b h r) 0 2048
    simp only [Nat.zero_add] at e
    rw [e]
    simp [mx]
  rw [rO_at]
  unfold att
  rw [Finset.sum_range]
  refine Finset.sum_congr rfl fun j _ => ?_
  simp only [rP_at, rE_at, rM_at, rS_at, hM, max_bot_left]
  unfold col sm
  rw [dif_pos j.isLt, Finset.sum_range]

end Cert.FoxRefIdeal.Value
-- ==== Proof.FoxTile.lean ====
/-
  One tile of 256 keys of the FoX attention kernel, at extended reals: the logits of the tile's keys against a block of
  512 queries, the causal mask of a tile on the diagonal, and the three updates of the running softmax (the maximum, the
  sum and the weighted values), each as an operation on whole vectors and then read at one element.
-/
module

public import proofs.«01_k».proof.Proof.Gen.FoxIdeal.Value
public import Idealize.ShloMosaic.Lib.Pipeline.ValueKit
public import Idealize.ShloMosaic.Lib.Pointwise
public import Idealize.ShloMosaic.Lib.Pipeline.ReadBack
public import Idealize.ShloMosaic.Lib.Pipeline.Value

@[expose] public section

set_option maxRecDepth 16384

noncomputable section

namespace Cert.FoxIdeal.Value

open Idealize.ShloMosaic Idealize.SL.Sem Cert.FoxIdeal.Gen

/-- The factor the logits are scaled by. -/
abbrev scl : EReal := FloatOps.ofBits (F := Ideal) FTy.f32 0x3DB504F3#32

/-- The unmasked logits of one tile: keys by queries. -/
def logits (K : Vec Ideal S1x256x128 .bf16) (Q : Vec Ideal S1x512x128 .bf16) (cq : Vec Ideal S1x1x512 .f32)
    (ck : Vec Ideal S1x256x1 .f32) : FVec Ideal S256x512 .f32 :=
  k0_pay4 (F := Ideal) K Q cq ck

/-- The tile's logits with those of later keys replaced: `a` is the number of the query block and `b` the tile's first key. -/
def hide (a b : BitVec 32) (S : FVec Ideal S256x512 .f32) : FVec Ideal S256x512 .f32 :=
  select (cmpi .sle (addi (broadcast S256x512 b) (iota .tc S256x512 32 [0] iota_S256x512_d0_w32))
      (addi (broadcast S256x512 (Scalar.muli a 512#32)) (iota .tc S256x512 32 [1] iota_S256x512_d1_w32)))
    S (broadcast S256x512 (Named.named κ "mask" 0xF149F2CA#32))

/-- The new running maximum. -/
def newM (S : FVec Ideal S256x512 .f32) (M : FVec Ideal S1x512 .f32) : FVec Ideal S1x512 .f32 :=
  maximumf M (shapeCast S1x512 (multiReduction .maximumf [0] S512 S 0xFF800000#32 reduces_S256x512_S512 (.inl rfl) rfl) shapeCasts_S512_S1x512)

/-- What the old sums are multiplied by. -/
def alpha (S : FVec Ideal S256x512 .f32) (M : FVec Ideal S1x512 .f32) : FVec Ideal S1x512 .f32 :=
  exp (subf M (newM S M))

/-- The tile's weights. -/
def wts (S : FVec Ideal S256x512 .f32) (M : FVec Ideal S1x512 .f32) : FVec Ideal S256x512 .f32 :=
  exp (subf S (broadcastTo S256x512 (newM S M) broadcasts_S1x512_S256x512))

/-- The new running sum. -/
def newL (S : FVec Ideal S256x512 .f32) (M L : FVec Ideal S1x512 .f32) : FVec Ideal S1x512 .f32 :=
  addf (mulf (alpha S M) L)
    (shapeCast S1x512 (multiReduction .add [0] S512 (wts S M) 0x00000000#32 reduces_S256x512_S512 (.inl rfl) rfl) shapeCasts_S512_S1x512)

/-- The new weighted values. -/
def newA (S : FVec Ideal S256x512 .f32) (V : Vec Ideal S1x256x128 .bf16) (M : FVec Ideal S1x512 .f32)
    (A : FVec Ideal S128x512 .f32) : FVec Ideal S128x512 .f32 :=
  addf (mulf (broadcastTo S128x512 (alpha S M) broadcasts_S1x512_S128x512) A)
    (matmul dot_S256x128_S256x512_S128x512_0_0_1_1_n_n none (k0_pay3 (F := Ideal) V)
      (truncf .bf16 (wts S M) bitsLt_bf16_f32) (constant S128x512 .f32 0x00000000#32))

/-! ### The same at one element -/

theorem logits_at (K : Vec Ideal S1x256x128 .bf16) (Q : Vec Ideal S1x512x128 .bf16) (cq : Vec Ideal S1x1x512 .f32)
    (ck : Vec Ideal S1x256x1 .f32) (k : Fin 256) (q : Fin 512) :
    logits K Q cq ck (ix2 k q)
      = (∑ d : Fin 128, K (ix3 0 k d) * Q (ix3 0 q d)) * scl + cq (ix3 0 0 q) - ck (ix3 0 k 0) := by
  pointwise [logits, k0_pay4]

theorem newM_at (S : FVec Ideal S256x512 .f32) (M : FVec Ideal S1x512 .f32) (q : Fin 512) :
    newM S M (ix2 0 q) = max (M (ix2 0 q)) ((Finset.univ : Finset (Fin 256)).fold max ⊥ fun k => S (ix2 k q)) := by
  have e : Ideal.ofBits FTy.f32 4286578688#32 = ⊥ := by simp [Ideal.ofBits, Ideal.ieee]
  pointwise [newM]
  rw [e]

theorem alpha_at (S : FVec Ideal S256x512 .f32) (M : FVec Ideal S1x512 .f32) (q : Fin 512) :
    alpha S M (ix2 0 q) = Ideal.exp (M (ix2 0 q) - newM S M (ix2 0 q)) := by
  pointwise [alpha]

theorem wts_at (S : FVec Ideal S256x512 .f32) (M : FVec Ideal S1x512 .f32) (k : Fin 256) (q : Fin 512) :
    wts S M (ix2 k q) = Ideal.exp (S (ix2 k q) - newM S M (ix2 0 q)) := by
  pointwise [wts]

theorem newL_at (S : FVec Ideal S256x512 .f32) (M L : FVec Ideal S1x512 .f32) (q : Fin 512) :
    newL S M L (ix2 0 q) = alpha S M (ix2 0 q) * L (ix2 0 q) + ∑ k : Fin 256, wts S M (ix2 k q) := by
  pointwise [newL]

theorem newA_at (S : FVec Ideal S256x512 .f32) (V : Vec Ideal S1x256x128 .bf16) (M : FVec Ideal S1x512 .f32)
    (A : FVec Ideal S128x512 .f32) (d : Fin 128) (q : Fin 512) :
    newA S V M A (ix2 d q) = alpha S M (ix2 0 q) * A (ix2 d q) + ∑ k : Fin 256, V (ix3 0 k d) * wts S M (ix2 k q) := by
  pointwise [newA, k0_pay3]

theorem out_at (A : Vec Ideal S128x512 .f32) (L : Vec Ideal S1x512 .f32) (q : Fin 512) (d : Fin 128) :
    k0_pay2 (F := Ideal) A L (ix3 0 q d) = Ideal.div (A (ix2 d q)) (L (ix2 0 q)) := by
  pointwise [k0_pay2]

theorem hide_at (a b : BitVec 32) (S : FVec Ideal S256x512 .f32) (k : Fin 256) (q : Fin 512) (A B : ℕ)
    (ha : a = BitVec.ofNat 32 A) (hb : b = BitVec.ofNat 32 B) (hA : A < 4) (hB : B < 2048) :
    hide a b S (ix2 k q) = if B + k.val ≤ A * 512 + q.val then S (ix2 k q) else ⊥ := by
  subst ha hb
  have e : (Named.named κ "mask" (0xF149F2CA#32 : BitVec FTy.f32.bits) : Ideal FTy.f32) = ⊥ := rfl
  have e1 : IntOp.addi (BitVec.ofNat 32 B) (BitVec.ofNat 32 k.val) = BitVec.ofNat 32 (B + k.val) := by
    simp [IntOp.addi, BitVec.ofNat_add]
  have e2 : IntOp.addi (Scalar.muli (BitVec.ofNat 32 A) 512#32) (BitVec.ofNat 32 q.val) = BitVec.ofNat 32 (A * 512 + q.val) := by
    simp [IntOp.addi, Scalar.muli, IntOp.muli, BitVec.ofNat_add, BitVec.ofNat_mul]
  pointwise [hide]
  rw [e, e1, e2, WordCmp.cmpi_sle_ofNat (by omega) (by omega)]
  by_cases h : B + k.val ≤ A * 512 + q.val <;> simp [h, Scalar.select]

end Cert.FoxIdeal.Value
-- ==== Proof.FoxLoop.lean ====
/-
  The loop over the tiles of keys below the diagonal: what one trip leaves in the running maximum, the running sum and
  the weighted values of each of the eight heads, from what it finds there.
-/
module

public import proofs.«01_k».proof.Proof.FoxTile

@[expose] public section

set_option maxRecDepth 16384

noncomputable section

namespace Idealize.ShloMosaic.View

variable {sig : RefSig} {κ : Kind} {sp : Space} {s : Shape} {e : EltTy} {Val : EltTy → Type}

/-- A rectangle a store does not touch reads what was there before it. -/
theorem ld_read_writes_skip (v : View sig κ sp s e) (f : v.ty.Contents Val) (r : Rect s) (w : r.shape.Idx → Val e) (L : List (Piece Val s e))
    (B : Rect s) (h : LoadRect.disj r B.toLoadRect = true) :
    ld (v.read Val (v.writes Val f (⟨r, w⟩ :: L))) B = ld (v.read Val (v.writes Val f L)) B := by
  funext x
  show v.read Val _ (B.emb x) = v.read Val _ (B.emb x)
  rw [writes_cons, read_slice_write_of_not_mem r _ _ _ (by rw [Rect.map_emb_univ]; exact LoadRect.idx_not_mem_of_disj h x)]

/-- The rectangle just stored reads the payload. -/
theorem ld_read_writes_hit (v : View sig κ sp s e) (f : v.ty.Contents Val) (r : Rect s) (w : r.shape.Idx → Val e) (L : List (Piece Val s e)) :
    ld (v.read Val (v.writes Val f (⟨r, w⟩ :: L))) r = w := by
  funext x
  exact read_writes_cons_emb v f r w L x

end Idealize.ShloMosaic.View

namespace Cert.FoxIdeal.Value

open Idealize.ShloMosaic Idealize.SL.Sem Cert.FoxIdeal.Gen

/-- Head `h`'s row of the running maximum and of the running sum. -/
abbrev rowR (h : Fin 8) : Rect S8x512 := Rect.unit ![h.val, 0] ![1, 512] (by intro a; fin_cases h <;> fin_cases a <;> decide)
/-- Head `h`'s rows of the weighted values. -/
abbrev accR (h : Fin 8) : Rect S1024x512 := Rect.unit ![128 * h.val, 0] ![128, 512] (by intro a; fin_cases h <;> fin_cases a <;> decide)
/-- Head `h`'s lanes of the queries. -/
abbrev qR (h : Fin 8) : Rect S1x512x1024 := Rect.unit ![0, 0, 128 * h.val] ![1, 512, 128] (by intro a; fin_cases h <;> fin_cases a <;> decide)
/-- Head `h`'s row of the queries' running gates. -/
abbrev cqR (h : Fin 8) : Rect S1x8x512 := Rect.unit ![0, h.val, 0] ![1, 1, 512] (by intro a; fin_cases h <;> fin_cases a <;> decide)

theorem key_inb (n : ℕ) (hn : n + 256 ≤ 2048) (h : Fin 8) (a : Fin 3) :
    (![0, n, 128 * h.val] : Fin 3 → ℕ) a + (![1, 256, 128] : Fin 3 → ℕ) a ≤ S1x2048x1024.size a := by
  have := h.isLt
  fin_cases a
  · show 0 + 1 ≤ 1; omega
  · exact hn
  · show 128 * h.val + 128 ≤ 1024; omega

theorem ck_inb (n : ℕ) (hn : n + 256 ≤ 2048) (h : Fin 8) (a : Fin 3) :
    (![0, n, h.val] : Fin 3 → ℕ) a + (![1, 256, 1] : Fin 3 → ℕ) a ≤ S1x2048x8.size a := by
  have := h.isLt
  fin_cases a
  · show 0 + 1 ≤ 1; omega
  · exact hn
  · show h.val + 1 ≤ 8; omega

/-- The 256 keys from `n`, at head `h`'s lanes. -/
abbrev keyR (n : ℕ) (hn : n + 256 ≤ 2048) (h : Fin 8) : Rect S1x2048x1024 := Rect.unit ![0, n, 128 * h.val] ![1, 256, 128] (key_inb n hn h)
/-- The running gates of the 256 keys from `n`, at head `h`. -/
abbrev ckR (n : ℕ) (hn : n + 256 ≤ 2048) (h : Fin 8) : Rect S1x2048x8 := Rect.unit ![0, n, h.val] ![1, 256, 1] (ck_inb n hn h)

variable (m : (ℓ : Loc nD τ sig) → Buf (Elt Ideal) ℓ) (c : Dev nD) (t : Fin cfg0.N)

/-- The unmasked logits of the keys from `n` at point `t`, head `h`. -/
def lg (n : ℕ) (hn : n + 256 ≤ 2048) (h : Fin 8) : FVec Ideal S256x512 .f32 :=
  logits (View.ld (iblk m c 1 t) (keyR n hn h)) (View.ld (iblk m c 0 t) (qR h)) (View.ld (iblk m c 3 t) (cqR h)) (View.ld (iblk m c 4 t) (ckR n hn h))

/-- The values of the keys from `n` at point `t`, head `h`. -/
def vl (n : ℕ) (hn : n + 256 ≤ 2048) (h : Fin 8) : Vec Ideal S1x256x128 .bf16 := View.ld (iblk m c 2 t) (keyR n hn h)

/-- The stores of trip `k`, from what the trip finds. -/
abbrev trp (k : Fin (k0_t1_loop (grid0.coords t)).trips) :=
  tripL_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _)
    ((hs0_0 t).unread (iblk m c 0 t)) ((hs0_1 t).unread (iblk m c 1 t)) ((hs0_2 t).unread (iblk m c 2 t)) ((hs0_3 t).unread (iblk m c 3 t)) ((hs0_4 t).unread (iblk m c 4 t)) k

/-- The contents of the three scratch buffers, read whole. -/
abbrev rdM (f : BufTy.Contents (Elt Ideal) scM0_0.view.ty) : Vec Ideal S8x512 .f32 := View.read (Elt Ideal) (View.whole cc0_scratch0) f
abbrev rdL (f : BufTy.Contents (Elt Ideal) scM0_1.view.ty) : Vec Ideal S8x512 .f32 := View.read (Elt Ideal) (View.whole cc0_scratch1) f
abbrev rdA (f : BufTy.Contents (Elt Ideal) scM0_2.view.ty) : Vec Ideal S1024x512 .f32 := View.read (Elt Ideal) (View.whole cc0_scratch2) f

theorem cast_row (x : FVec Ideal S1x512 .f32) : shapeCast S1x512 x shapeCasts_S1x512_S1x512 = x := shapeCast_self _ _

theorem cast_acc (x : FVec Ideal S128x512 .f32) : shapeCast S128x512 x shapeCasts_S128x512_S128x512 = x := shapeCast_self _ _

/-- What a trip over the keys from `n` leaves in head `h`'s rows of the three buffers. -/
theorem trip_rows (k : Fin (k0_t1_loop (grid0.coords t)).trips) (n : ℕ) (hn : n + 256 ≤ 2048)
    (e : BitVec.toNat (Scalar.indexCast (Scalar.muli (Scf.iv 0#32 1#32 k.val) 256#32)) = n) (h : Fin 8)
    (f8 : BufTy.Contents (Elt Ideal) scM0_0.view.ty) (f9 : BufTy.Contents (Elt Ideal) scM0_1.view.ty) (f10 : BufTy.Contents (Elt Ideal) scM0_2.view.ty) :
    View.ld (rdM (scM0_0.view.writes (Elt Ideal) f8 (trp m c t k f8 f9 f10).1)) (rowR h)
      = newM (lg m c t n hn h) (View.ld (rdM f8) (rowR h))
    ∧ View.ld (rdL (scM0_1.view.writes (Elt Ideal) f9 (trp m c t k f8 f9 f10).2.1)) (rowR h)
      = newL (lg m c t n hn h) (View.ld (rdM f8) (rowR h)) (View.ld (rdL f9) (rowR h))
    ∧ View.ld (rdA (scM0_2.view.writes (Elt Ideal) f10 (trp m c t k f8 f9 f10).2.2)) (accR h)
      = newA (lg m c t n hn h) (vl m c t n hn h) (View.ld (rdM f8) (rowR h)) (View.ld (rdA f10) (accR h)) := by
  subst e
  dsimp only [trp, tripL_k0_t1]
  unfold trip_k0_t1
  sl_unfold_words
  dsimp only
  simp (disch := decide) only [↓ View.readCov_skip, ↓ View.readCov_cons_toLoadRect, ↓ View.readCov_fill, View.readAt_eq_ld, Memref.IsWhole.read_unread]
  refine ⟨(?_ : _ = shapeCast S1x512 (newM _ _) shapeCasts_S1x512_S1x512).trans (cast_row _),
    (?_ : _ = shapeCast S1x512 (newL _ _ _) shapeCasts_S1x512_S1x512).trans (cast_row _),
    (?_ : _ = shapeCast S128x512 (newA _ _ _ _) shapeCasts_S128x512_S128x512).trans (cast_acc _)⟩
  all_goals
    fin_cases h
    all_goals
      dsimp only [rowR, accR, Nat.reduceMul]
      simp (disch := decide) only [↓ View.ld_read_writes_skip, ↓ View.ld_read_writes_hit]
      rfl

end Cert.FoxIdeal.Value
-- ==== Proof.FoxPoint.lean ====
/-
  What one grid point of the FoX attention kernel stores: for each head, the quotient of the weighted values and the sum
  after the loop over the tiles below the diagonal and the two masked tiles on it.
-/
module

public import proofs.«01_k».proof.Proof.FoxLoop

@[expose] public section

set_option maxRecDepth 16384

noncomputable section

namespace Idealize.ShloMosaic.View

variable {s : Shape} {e : EltTy} {Val : EltTy → Type}

theorem ld_canon_skip [∀ e, Nonempty (Val e)] (r : Rect s) (w : r.shape.Idx → Val e) (L : List (Piece Val s e))
    (B : Rect s) (h : LoadRect.disj r B.toLoadRect = true) : ld (canon (⟨r, w⟩ :: L)) B = ld (canon L) B := by
  funext x
  exact canon_cons_of_not_mem ⟨r, w⟩ L (LoadRect.idx_not_mem_of_disj h x)

theorem ld_canon_hit [∀ e, Nonempty (Val e)] (r : Rect s) (w : r.shape.Idx → Val e) (L : List (Piece Val s e)) :
    ld (canon (⟨r, w⟩ :: L)) r = w := by
  funext x
  exact canon_cons_emb r w L x

end Idealize.ShloMosaic.View

namespace Cert.FoxIdeal.Value

open Idealize.ShloMosaic Idealize.SL.Sem Cert.FoxIdeal.Gen

variable (m : (ℓ : Loc nD τ sig) → Buf (Elt Ideal) ℓ) (c : Dev nD) (t : Fin cfg0.N)

/-- The scratch buffers as the point first fills them. -/
def g8 : BufTy.Contents (Elt Ideal) scM0_0.view.ty :=
  (View.whole cc0_scratch0).writes (Elt Ideal) (View.whole cc0_scratch0).junk [⟨Rect.unit ![0, 0] ![8, 512] inb_S8x512_S8x512_0_0, k0_pay149 (F := Ideal)⟩]
def g9 : BufTy.Contents (Elt Ideal) scM0_1.view.ty :=
  (View.whole cc0_scratch1).writes (Elt Ideal) (View.whole cc0_scratch1).junk [⟨Rect.unit ![0, 0] ![8, 512] inb_S8x512_S8x512_0_0, k0_pay150 (F := Ideal)⟩]
def g10 : BufTy.Contents (Elt Ideal) scM0_2.view.ty :=
  (View.whole cc0_scratch2).writes (Elt Ideal) (View.whole cc0_scratch2).junk [⟨Rect.unit ![0, 0] ![1024, 512] inb_S1024x512_S1024x512_0_0, k0_pay151 (F := Ideal)⟩]

/-- The stores of the first `k` trips. -/
abbrev stored (k : ℕ) :=
  pb_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _)
    ((hs0_0 t).unread (iblk m c 0 t)) ((hs0_1 t).unread (iblk m c 1 t)) ((hs0_2 t).unread (iblk m c 2 t)) ((hs0_3 t).unread (iblk m c 3 t)) ((hs0_4 t).unread (iblk m c 4 t)) g8 g9 g10 k

/-- The buffers after the first `k` trips. -/
def stM (k : ℕ) : Vec Ideal S8x512 .f32 := rdM (scM0_0.view.writes (Elt Ideal) g8 (stored m c t k).1)
def stL (k : ℕ) : Vec Ideal S8x512 .f32 := rdL (scM0_1.view.writes (Elt Ideal) g9 (stored m c t k).2.1)
def stA (k : ℕ) : Vec Ideal S1024x512 .f32 := rdA (scM0_2.view.writes (Elt Ideal) g10 (stored m c t k).2.2)

theorem st_succ (k : Fin (k0_t1_loop (grid0.coords t)).trips) (n : ℕ) (hn : n + 256 ≤ 2048)
    (e : BitVec.toNat (Scalar.indexCast (Scalar.muli (Scf.iv 0#32 1#32 k.val) 256#32)) = n) (h : Fin 8) :
    View.ld (stM m c t (k.val + 1)) (rowR h) = newM (lg m c t n hn h) (View.ld (stM m c t k.val) (rowR h))
    ∧ View.ld (stL m c t (k.val + 1)) (rowR h)
      = newL (lg m c t n hn h) (View.ld (stM m c t k.val) (rowR h)) (View.ld (stL m c t k.val) (rowR h))
    ∧ View.ld (stA m c t (k.val + 1)) (accR h)
      = newA (lg m c t n hn h) (vl m c t n hn h) (View.ld (stM m c t k.val) (rowR h)) (View.ld (stA m c t k.val) (accR h)) := by
  have hs := pb_k0_t1_succ (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _)
    ((hs0_0 t).unread (iblk m c 0 t)) ((hs0_1 t).unread (iblk m c 1 t)) ((hs0_2 t).unread (iblk m c 2 t)) ((hs0_3 t).unread (iblk m c 3 t)) ((hs0_4 t).unread (iblk m c 4 t)) g8 g9 g10 k
  have hr := trip_rows m c t k n hn e h (scM0_0.view.writes (Elt Ideal) g8 (stored m c t k).1)
    (scM0_1.view.writes (Elt Ideal) g9 (stored m c t k).2.1) (scM0_2.view.writes (Elt Ideal) g10 (stored m c t k).2.2)
  unfold stM stL stA stored
  rw [hs]
  simp only [View.writes_append]
  exact hr

theorem trips2 (i : grid0.Coords) : (k0_t2_loop i).trips = 0 := by revert i; decide +kernel

theorem trips1 (i : grid0.Coords) : (k0_t1_loop i).trips = 2 * (i 1).val := by revert i; decide +kernel

/-- The number of the point's block of queries. -/
abbrev qb : ℕ := (grid0.coords t 1).val

/-- A row stored again in its own shape. -/
abbrev cR (x : FVec Ideal S1x512 .f32) : FVec Ideal S1x512 .f32 := shapeCast S1x512 x shapeCasts_S1x512_S1x512
abbrev cA (x : FVec Ideal S128x512 .f32) : FVec Ideal S128x512 .f32 := shapeCast S128x512 x shapeCasts_S128x512_S128x512

set_option maxHeartbeats 1000000 in
/-- What the point stores for head `h`, with the casts the program writes. -/
theorem point_cast (h : Fin 8) (n1 n2 : ℕ) (hn1 : n1 + 256 ≤ 2048) (hn2 : n2 + 256 ≤ 2048)
    (e1 : BitVec.toNat (Scalar.indexCast (Scalar.addi (Scalar.muli (BitVec.ofNat 32 (qb t)) 512#32) 0#32)) = n1)
    (e2 : BitVec.toNat (Scalar.indexCast (Scalar.addi (Scalar.muli (BitVec.ofNat 32 (qb t)) 512#32) 256#32)) = n2) :
    let M0 := View.ld (stM m c t (k0_t1_loop (grid0.coords t)).trips) (rowR h)
    let L0 := View.ld (stL m c t (k0_t1_loop (grid0.coords t)).trips) (rowR h)
    let A0 := View.ld (stA m c t (k0_t1_loop (grid0.coords t)).trips) (accR h)
    let S1 := hide (BitVec.ofNat 32 (qb t)) (Scalar.addi (Scalar.muli (BitVec.ofNat 32 (qb t)) 512#32) 0#32) (lg m c t n1 hn1 h)
    let S2 := hide (BitVec.ofNat 32 (qb t)) (Scalar.addi (Scalar.muli (BitVec.ofNat 32 (qb t)) 512#32) 256#32) (lg m c t n2 hn2 h)
    View.ld (outsAt0 m c t) (qR h)
      = k0_pay2 (F := Ideal) (cA (newA S2 (vl m c t n2 hn2 h) (cR (newM S1 M0)) (cA (newA S1 (vl m c t n1 hn1 h) M0 A0))))
        (cR (newL S2 (cR (newM S1 M0)) (cR (newL S1 M0 L0)))) := by
  intro M0 L0 A0 S1 S2
  subst e1 e2
  unfold outsAt0
  frame_out
  have h2 := trips2 (grid0.coords t)
  change Scf.trips _ _ _ = 0 at h2
  fin_cases h
  all_goals
    dsimp only [qR, Nat.reduceMul]
    simp (disch := decide) only [↓ View.ld_canon_skip, ↓ View.ld_canon_hit]
    simp (disch := decide) only [↓ View.readCov_skip, ↓ View.readCov_cons_toLoadRect, ↓ View.readCov_fill]
    rw [h2]
    simp only [pb_k0_t2.eq_1, List.nil_append, View.readCov, View.readAt_eq_ld, View.writes_append]
    dsimp only [M0, L0, A0, stM, stL, stA, stored, g8, g9, g10, rdM, rdL, rdA]
    rfl

/-- What the point stores for head `h`: the quotient after the two masked tiles, from what the loop leaves. -/
theorem point (h : Fin 8) (n1 n2 : ℕ) (hn1 : n1 + 256 ≤ 2048) (hn2 : n2 + 256 ≤ 2048)
    (e1 : BitVec.toNat (Scalar.indexCast (Scalar.addi (Scalar.muli (BitVec.ofNat 32 (qb t)) 512#32) 0#32)) = n1)
    (e2 : BitVec.toNat (Scalar.indexCast (Scalar.addi (Scalar.muli (BitVec.ofNat 32 (qb t)) 512#32) 256#32)) = n2)
    (M0 L0 : FVec Ideal S1x512 .f32) (A0 : FVec Ideal S128x512 .f32) (S1 S2 : FVec Ideal S256x512 .f32)
    (hM : M0 = View.ld (stM m c t (k0_t1_loop (grid0.coords t)).trips) (rowR h))
    (hL : L0 = View.ld (stL m c t (k0_t1_loop (grid0.coords t)).trips) (rowR h))
    (hA : A0 = View.ld (stA m c t (k0_t1_loop (grid0.coords t)).trips) (accR h))
    (hS1 : S1 = hide (BitVec.ofNat 32 (qb t)) (Scalar.addi (Scalar.muli (BitVec.ofNat 32 (qb t)) 512#32) 0#32) (lg m c t n1 hn1 h))
    (hS2 : S2 = hide (BitVec.ofNat 32 (qb t)) (Scalar.addi (Scalar.muli (BitVec.ofNat 32 (qb t)) 512#32) 256#32) (lg m c t n2 hn2 h)) :
    View.ld (outsAt0 m c t) (qR h)
      = k0_pay2 (F := Ideal) (newA S2 (vl m c t n2 hn2 h) (newM S1 M0) (newA S1 (vl m c t n1 hn1 h) M0 A0))
        (newL S2 (newM S1 M0) (newL S1 M0 L0)) := by
  have e := point_cast m c t h n1 n2 hn1 hn2 e1 e2
  dsimp only at e
  rw [← hM, ← hL, ← hA, ← hS1, ← hS2] at e
  simp only [cR, cA, cast_row, cast_acc] at e
  exact e

end Cert.FoxIdeal.Value
-- ==== Proof.FoxBlocks.lean ====
/-
  The blocks one grid point of the FoX attention kernel reads, as elements of the arguments.
-/
module

public import proofs.«01_k».proof.Proof.FoxTile
public import proofs.«01_k».proof.Proof.FoxSpec

@[expose] public section

set_option maxRecDepth 16384

noncomputable section

namespace Cert.FoxIdeal.Value

open Idealize.ShloMosaic Idealize.SL.Sem Cert.FoxIdeal.Gen Cert.FoxSpec

variable (m : (ℓ : Loc nD τ sig) → Buf (Elt Ideal) ℓ) (c : Dev nD) (t : Fin cfg0.N)

/-- The arguments. -/
abbrev aQ : QT.Idx → EReal := m ((c.tc : Thread nD τ).loc main_arg0)
abbrev aK : QT.Idx → EReal := m ((c.tc : Thread nD τ).loc main_arg1)
abbrev aV : QT.Idx → EReal := m ((c.tc : Thread nD τ).loc main_arg2)
abbrev aC : CT.Idx → EReal := m ((c.tc : Thread nD τ).loc main_arg3)

/-- The point's batch and its block of queries. -/
abbrev pb : Fin 4 := grid0.coords t 0
abbrev pq : Fin 4 := grid0.coords t 1

theorem idx : ∀ t : Fin cfg0.N,
    win0_0.index t = ![(grid0.coords t 0).val, (grid0.coords t 1).val, 1]
    ∧ win0_1.index t = ![(grid0.coords t 0).val, 0, 1]
    ∧ win0_2.index t = ![(grid0.coords t 0).val, 0, 1]
    ∧ win0_3.index t = ![(grid0.coords t 0).val, 0, (grid0.coords t 1).val]
    ∧ win0_4.index t = ![(grid0.coords t 0).val, 0, 0]
    ∧ win0_5.index t = ![(grid0.coords t 0).val, (grid0.coords t 1).val, 0] :=
  (by decide +kernel : ∀ t : Fin grid0.N, _)

theorem q_at (q : Fin 512) (h : Fin 8) (d : Fin 128) :
    iblk m c 0 t (ix3 0 q ⟨128 * h.val + d.val, by omega⟩) = aQ m c (ix4 (pb t) ⟨(pq t).val * 512 + q.val, by have := (pq t).isLt; omega⟩ (hd h) d) := by
  have := (pq t).isLt
  blk_ext! [iblk, V, idx t]
  exact Nat.add_zero _

theorem k_at (j : Fin 2048) (h : Fin 8) (d : Fin 128) :
    iblk m c 1 t (ix3 0 j ⟨128 * h.val + d.val, by omega⟩) = aK m c (ix4 (pb t) j (hd h) d) := by
  blk_ext! [iblk, V, idx t]
  exact Nat.add_zero _

theorem v_at (j : Fin 2048) (h : Fin 8) (d : Fin 128) :
    iblk m c 2 t (ix3 0 j ⟨128 * h.val + d.val, by omega⟩) = aV m c (ix4 (pb t) j (hd h) d) := by
  blk_ext! [iblk, V, idx t]
  exact Nat.add_zero _

theorem cq_at (q : Fin 512) (h : Fin 8) :
    iblk m c 3 t (ix3 0 h q) = aC m c (ix3 (pb t) h ⟨(pq t).val * 512 + q.val, by have := (pq t).isLt; omega⟩) := by
  have := (pq t).isLt
  blk_ext! [iblk, V, idx t]
  exact Nat.add_zero _

theorem ck_at (j : Fin 2048) (h : Fin 8) :
    iblk m c 4 t (ix3 0 j h) = aC m c (ix3 (pb t) h j) := by
  blk_ext! [iblk, V, idx t]
  exact Nat.add_zero _

end Cert.FoxIdeal.Value
-- ==== Proof.FoxValue.lean ====
/-
  The FoX attention kernel's result: the running softmax holds, after each tile, the largest logit, the sum of the
  weights and the weighted values of the keys seen so far; at the end their quotient is the attention of `FoxSpec`.
-/
module

public import proofs.«01_k».proof.Proof.FoxPoint
public import proofs.«01_k».proof.Proof.FoxBlocks

@[expose] public section

set_option maxRecDepth 16384

noncomputable section

namespace Cert.FoxIdeal.Value

open Idealize.ShloMosaic Idealize.SL.Sem Cert.FoxIdeal.Gen Cert.FoxSpec Cert.Softmax

/-- One tile of 256 keys more. -/
theorem tile (s : ℕ → EReal) (v : Fin 128 → ℕ → EReal) (hs : ∀ j, s j ≠ ⊤) (n : ℕ) (q : Fin 512)
    (S : FVec Ideal S256x512 .f32) (V : Vec Ideal S1x256x128 .bf16) (M L : FVec Ideal S1x512 .f32) (A : FVec Ideal S128x512 .f32)
    (hS : ∀ k : Fin 256, S (ix2 k q) = s (n + k.val)) (hV : ∀ (k : Fin 256) (d : Fin 128), V (ix3 0 k d) = v d (n + k.val))
    (hM : M (ix2 0 q) = mx s n) (hL : L (ix2 0 q) = sm s (mx s n) n) (hA : ∀ d, A (ix2 d q) = ac s (v d) (mx s n) n) :
    newM S M (ix2 0 q) = mx s (n + 256) ∧ newL S M L (ix2 0 q) = sm s (mx s (n + 256)) (n + 256)
      ∧ ∀ d, newA S V M A (ix2 d q) = ac s (v d) (mx s (n + 256)) (n + 256) := by
  have h1 : newM S M (ix2 0 q) = mx s (n + 256) := by
    rw [newM_at, hM, mx_add]
    simp only [hS]
  refine ⟨h1, ?_, fun d => ?_⟩
  · rw [newL_at, alpha_at, hM, hL, h1, sm_add s hs]
    simp only [wts_at, h1, hS]
  · rw [newA_at, alpha_at, hM, hA, h1, ac_add s (v d) hs]
    simp only [wts_at, h1, hS, hV]

variable (m : (ℓ : Loc nD τ sig) → Buf (Elt Ideal) ℓ) (c : Dev nD) (t : Fin cfg0.N)

/-- The position of the point's query `q`. -/
abbrev pr (q : Fin 512) : Fin 2048 := ⟨(pq t).val * 512 + q.val, by have := (pq t).isLt; omega⟩

theorem ld_key (x : Vec Ideal S1x2048x1024 .bf16) (n : ℕ) (hn : n + 256 ≤ 2048) (h : Fin 8) (k : Fin 256) (d : Fin 128) :
    View.ld x (keyR n hn h) (ix3 0 k d) = x (ix3 0 ⟨n + k.val, by omega⟩ ⟨128 * h.val + d.val, by omega⟩) := by
  show x ((keyR n hn h).emb (ix3 0 k d)) = _
  congr 1
  funext a
  apply Fin.ext
  rw [ValueKit.rect_emb_unit_val]
  fin_cases a <;> rfl

theorem ld_q (x : Vec Ideal S1x512x1024 .bf16) (h : Fin 8) (q : Fin 512) (d : Fin 128) :
    View.ld x (qR h) (ix3 0 q d) = x (ix3 0 q ⟨128 * h.val + d.val, by omega⟩) := by
  show x ((qR h).emb (ix3 0 q d)) = _
  congr 1
  funext a
  apply Fin.ext
  rw [ValueKit.rect_emb_unit_val]
  fin_cases a
  · rfl
  · exact Nat.zero_add _
  · rfl

theorem ld_cq (x : Vec Ideal S1x8x512 .f32) (h : Fin 8) (q : Fin 512) :
    View.ld x (cqR h) (ix3 0 0 q) = x (ix3 0 h q) := by
  show x ((cqR h).emb (ix3 0 0 q)) = _
  congr 1
  funext a
  apply Fin.ext
  rw [ValueKit.rect_emb_unit_val]
  fin_cases a
  · rfl
  · rfl
  · exact Nat.zero_add _

theorem ld_ck (x : Vec Ideal S1x2048x8 .f32) (n : ℕ) (hn : n + 256 ≤ 2048) (h : Fin 8) (k : Fin 256) :
    View.ld x (ckR n hn h) (ix3 0 k 0) = x (ix3 0 ⟨n + k.val, by omega⟩ h) := by
  show x ((ckR n hn h).emb (ix3 0 k 0)) = _
  congr 1
  funext a
  apply Fin.ext
  rw [ValueKit.rect_emb_unit_val]
  fin_cases a <;> rfl

theorem lg_at (n : ℕ) (hn : n + 256 ≤ 2048) (h : Fin 8) (k : Fin 256) (q : Fin 512) :
    lg m c t n hn h (ix2 k q) = logit (aQ m c) (aK m c) (aC m c) (pb t) h (pr t q) ⟨n + k.val, by omega⟩ := by
  unfold lg logit
  rw [logits_at, ld_cq, ld_ck, cq_at, ck_at]
  congr 3
  refine Finset.sum_congr rfl fun d _ => ?_
  rw [ld_key, ld_q, k_at, q_at, mul_comm]

theorem vl_at (n : ℕ) (hn : n + 256 ≤ 2048) (h : Fin 8) (k : Fin 256) (d : Fin 128) :
    vl m c t n hn h (ix3 0 k d) = col (aV m c) (pb t) h d (n + k.val) := by
  unfold vl col
  rw [ld_key, v_at, dif_pos (by omega)]

/-- The logits of the point's query `q` at head `h`, later keys hidden. -/
abbrev rw' (h : Fin 8) (q : Fin 512) : ℕ → EReal := row (aQ m c) (aK m c) (aC m c) (pb t) h (pr t q)

/-- The fills. -/
theorem base (h : Fin 8) (q : Fin 512) (d : Fin 128) :
    View.ld (stM m c t 0) (rowR h) (ix2 0 q) = (⊥ : EReal) ∧ View.ld (stL m c t 0) (rowR h) (ix2 0 q) = (0 : EReal)
      ∧ View.ld (stA m c t 0) (accR h) (ix2 d q) = (0 : EReal) := by
  have hr : (rowR h).emb (ix2 0 q) = (Rect.unit ![0, 0] ![8, 512] inb_S8x512_S8x512_0_0 : Rect S8x512).emb (ix2 h q) := by
    funext a
    apply Fin.ext
    rw [ValueKit.rect_emb_unit_val, ValueKit.rect_emb_unit_val]
    fin_cases a
    · exact (Nat.zero_add _).symm
    · rfl
  have ha : (accR h).emb (ix2 d q) = (Rect.unit ![0, 0] ![1024, 512] inb_S1024x512_S1024x512_0_0 : Rect S1024x512).emb (ix2 ⟨128 * h.val + d.val, by omega⟩ q) := by
    funext a
    apply Fin.ext
    rw [ValueKit.rect_emb_unit_val, ValueKit.rect_emb_unit_val]
    fin_cases a
    · exact (Nat.zero_add _).symm
    · rfl
  refine ⟨?_, ?_, ?_⟩
  · show stM m c t 0 ((rowR h).emb (ix2 0 q)) = _
    rw [hr]
    unfold stM g8
    refine (View.read_writes_cons_emb _ _ _ _ [] _).trans ?_
    pointwise [k0_pay149]
    rfl
  · show stL m c t 0 ((rowR h).emb (ix2 0 q)) = _
    rw [hr]
    unfold stL g9
    refine (View.read_writes_cons_emb _ _ _ _ [] _).trans ?_
    pointwise [k0_pay150]
  · show stA m c t 0 ((accR h).emb (ix2 d q)) = _
    rw [ha]
    unfold stA g10
    refine (View.read_writes_cons_emb _ _ _ _ [] _).trans ?_
    pointwise [k0_pay151]

theorem word_trip : ∀ k : Fin 8, BitVec.toNat (Scalar.indexCast (Scalar.muli (Scf.iv 0#32 1#32 k.val) 256#32)) = 256 * k.val := by
  decide

theorem word_tile : ∀ i : Fin 4,
    Scalar.addi (Scalar.muli (BitVec.ofNat 32 i.val) 512#32) 0#32 = BitVec.ofNat 32 (i.val * 512)
    ∧ Scalar.addi (Scalar.muli (BitVec.ofNat 32 i.val) 512#32) 256#32 = BitVec.ofNat 32 (i.val * 512 + 256)
    ∧ BitVec.toNat (Scalar.indexCast (Scalar.addi (Scalar.muli (BitVec.ofNat 32 i.val) 512#32) 0#32)) = i.val * 512
    ∧ BitVec.toNat (Scalar.indexCast (Scalar.addi (Scalar.muli (BitVec.ofNat 32 i.val) 512#32) 256#32)) = i.val * 512 + 256 := by
  decide

/-- After `k` trips of the loop. -/
theorem loop (h : Fin 8) (q : Fin 512) (hs : ∀ j, rw' m c t h q j ≠ ⊤) (k : ℕ) (hk : k ≤ 2 * (pq t).val) :
    View.ld (stM m c t k) (rowR h) (ix2 0 q) = mx (rw' m c t h q) (256 * k)
      ∧ View.ld (stL m c t k) (rowR h) (ix2 0 q) = sm (rw' m c t h q) (mx (rw' m c t h q) (256 * k)) (256 * k)
      ∧ ∀ d, View.ld (stA m c t k) (accR h) (ix2 d q)
          = ac (rw' m c t h q) (col (aV m c) (pb t) h d) (mx (rw' m c t h q) (256 * k)) (256 * k) := by
  have hp := (pq t).isLt
  induction k with
  | zero =>
    refine ⟨(base m c t h q 0).1.trans ?_, (base m c t h q 0).2.1.trans ?_, fun d => (base m c t h q d).2.2.trans ?_⟩
    · simp [mx]
    · simp [sm]
    · simp [ac]
  | succ k ih =>
    obtain ⟨i1, i2, i3⟩ := ih (by omega)
    have hn : 256 * k + 256 ≤ 2048 := by omega
    obtain ⟨e1, e2, e3⟩ := st_succ m c t ⟨k, by rw [trips1]; exact hk⟩ (256 * k) hn (word_trip ⟨k, by omega⟩) h
    rw [e1, e2, e3, Nat.mul_succ]
    refine tile _ (fun d => col (aV m c) (pb t) h d) hs (256 * k) q _ _ _ _ _ (fun j => ?_) (fun j d => vl_at ..) i1 i2 i3
    rw [lg_at]
    unfold rw' row
    have := j.isLt
    rw [dif_pos (by omega), if_pos (by show 256 * k + j.val ≤ (pq t).val * 512 + q.val; omega)]

/-- A masked tile's logits. -/
theorem hide_lg (h : Fin 8) (q : Fin 512) (a b : BitVec 32) (n : ℕ) (hn : n + 256 ≤ 2048)
    (ha : a = BitVec.ofNat 32 (pq t).val) (hb : b = BitVec.ofNat 32 n) (j : Fin 256) :
    hide a b (lg m c t n hn h) (ix2 j q) = rw' m c t h q (n + j.val) := by
  have := (pq t).isLt
  rw [hide_at a b _ j q (pq t).val n ha hb (by omega) (by omega), lg_at]
  unfold rw' row
  have := j.isLt
  rw [dif_pos (show n + j.val < 2048 by omega)]

/-- What the point stores. -/
theorem point_att (h : Fin 8) (q : Fin 512) (d : Fin 128) (hs : ∀ j, rw' m c t h q j ≠ ⊤)
    (hr : rw' m c t h q (pr t q).val ≠ ⊥) :
    View.ld (outsAt0 m c t) (qR h) (ix3 0 q d) = att (aQ m c) (aK m c) (aV m c) (aC m c) (pb t) h (pr t q) d := by
  have hp := (pq t).isLt
  have b1 : (pq t).val * 512 + 256 ≤ 2048 := by omega
  have b2 : (pq t).val * 512 + 256 + 256 ≤ 2048 := by omega
  obtain ⟨w1, w2, w3, w4⟩ := word_tile (pq t)
  rw [point m c t h ((pq t).val * 512) ((pq t).val * 512 + 256) b1 b2 w3 w4 _ _ _ _ _ rfl rfl rfl rfl rfl, out_at]
  obtain ⟨i1, i2, i3⟩ := loop m c t h q hs (2 * (pq t).val) le_rfl
  have e : 256 * (2 * (pq t).val) = (pq t).val * 512 := by omega
  rw [e] at i1 i2 i3
  rw [trips1]
  obtain ⟨j1, j2, j3⟩ := tile _ (fun d => col (aV m c) (pb t) h d) hs ((pq t).val * 512) q _ _ _ _ _
    (fun j => hide_lg m c t h q _ _ ((pq t).val * 512) b1 rfl w1 j) (fun j d => vl_at m c t _ b1 h j d) i1 i2 i3
  obtain ⟨k1, k2, k3⟩ := tile _ (fun d => col (aV m c) (pb t) h d) hs ((pq t).val * 512 + 256) q _ _ _ _ _
    (fun j => hide_lg m c t h q _ _ ((pq t).val * 512 + 256) b2 rfl w2 j) (fun j d => vl_at m c t _ b2 h j d) j1 j2 j3
  rw [k2, k3 d]
  refine quot_tail _ _ hs (i := (pr t q).val) (N := 2048) (by show (pq t).val * 512 + q.val < _; omega) hr (by omega) fun j h1 h2 => ?_
  unfold rw' row
  rw [dif_pos h2, if_neg (by show ¬ j ≤ (pq t).val * 512 + q.val; omega)]

/-- The attention as an array: channel `128 h + d` of position `r`. -/
def attArr (Q K V : QT.Idx → EReal) (C : CT.Idx → EReal) : S4x2048x1024.Idx → EReal := fun i =>
  att Q K V C (i 0) ⟨(i 2).val / 128, by have : (i 2).val < 1024 := (i 2).isLt; omega⟩ (i 1) ⟨(i 2).val % 128, by omega⟩

theorem attArr_at (Q K V : QT.Idx → EReal) (C : CT.Idx → EReal) (i : S4x2048x1024.Idx) (b : Fin 4) (h : Fin 8) (r : Fin 2048) (d : Fin 128)
    (h0 : i 0 = b) (h1 : i 1 = r) (h2 : (i 2).val = 128 * h.val + d.val) : attArr Q K V C i = att Q K V C b h r d := by
  subst h0 h1
  have eh : (⟨(i 2).val / 128, by have : (i 2).val < 1024 := (i 2).isLt; omega⟩ : Fin 8) = h := Fin.ext (by show (i 2).val / 128 = h.val; omega)
  have ed : (⟨(i 2).val % 128, by omega⟩ : Fin 128) = d := Fin.ext (by show (i 2).val % 128 = d.val; omega)
  unfold attArr
  rw [eh, ed]

/-- The kernel's array. -/
theorem final (hs : ∀ b h r j, row (aQ m c) (aK m c) (aC m c) b h r j ≠ ⊤)
    (hr : ∀ b h r, row (aQ m c) (aK m c) (aC m c) b h r r.val ≠ ⊥) :
    (dats m 0 c).arrAt 5 cfg0.N = attArr (aQ m c) (aK m c) (aV m c) (aC m c) := by
  refine (dats m 0 c).arrAt_eq_of_covers 5 _ (by decide +kernel) fun t hf y => ?_
  blk_simp
  rw [after0_5]
  have h2 : (y 2).val < 1024 := (y 2).isLt
  have h0 : (y 0).val < 1 := (y 0).isLt
  have e := point_att m c t ⟨(y 2).val / 128, by omega⟩ (y 1) ⟨(y 2).val % 128, by omega⟩ (hs _ _ _) (hr _ _ _)
  have e' := (ld_q (outsAt0 m c t) _ _ _).symm.trans e
  have hy : (ix3 0 (y 1) ⟨128 * ((y 2).val / 128) + (y 2).val % 128, by omega⟩ : S1x512x1024.Idx) = y := by
    funext a
    fin_cases a
    · exact Fin.ext (by show 0 = (y 0).val; omega)
    · rfl
    · exact Fin.ext (by show 128 * ((y 2).val / 128) + (y 2).val % 128 = (y 2).val; omega)
  rw [← hy]
  refine e'.trans (attArr_at _ _ _ _ _ _ _ _ _ ?_ ?_ ?_).symm
  · apply Fin.ext
    rw [hy]
    blk_simp [idx t]
  · apply Fin.ext
    rw [hy]
    blk_simp [idx t]
  · rw [hy]
    blk_simp [idx t]
    show (y 2).val = 128 * ((y 2).val / 128) + (y 2).val % 128
    omega

end Cert.FoxIdeal.Value
-- ==== Proof.ProjSpec.lean ====
/-
  The input projection, element by element at extended reals: the root-mean-square norm of a row, a product's row, the
  log-sigmoid of the forget values.
-/
module

public import Idealize.ShloMosaic.Lib.Pointwise

@[expose] public section

noncomputable section

namespace Cert.ProjSpec

open Idealize.ShloMosaic

/-- A matrix of `a` rows and `b` columns. -/
abbrev A2 (a b : ℕ) : Shape := ⟨2, ![a, b]⟩

/-- The words both programs hold: the number added to a mean of squares, the model's width and a head's. -/
abbrev eps : EReal := Ideal.ofBits FTy.f32 0x358637BD#32
abbrev w2048 : EReal := Ideal.ofBits FTy.f32 0x45000000#32
abbrev w128 : EReal := Ideal.ofBits FTy.f32 0x43000000#32

/-- Element `i` of a row divided by its root mean square and scaled by the gain; `w` is the row's length. -/
def rms {N : ℕ} (w : EReal) (y g : Fin N → EReal) (i : Fin N) : EReal :=
  y i * Ideal.rsqrt (Ideal.div (∑ j, y j * y j) w + eps) * g i

/-- An element of a product. -/
def prd {N : ℕ} (h : Fin 2048 → EReal) (W : (A2 2048 N).Idx → EReal) (n : Fin N) : EReal :=
  ∑ k : Fin 2048, h k * W (ix2 k n)

/-- The log-sigmoid, as the kernel spells it. -/
def lsig (z : EReal) : EReal := min z 0 - Ideal.log1p (Ideal.exp (0 - max z (-z)))

theorem log1p_exp_ne_bot (z : EReal) : Ideal.log1p (Ideal.exp z) ≠ ⊥ := by
  unfold Ideal.log1p
  have coe (r : ℝ) (h : ¬ r ≤ 0) : Ideal.log ((r : ℝ) : EReal) ≠ ⊥ := by
    show (if r ≤ 0 then (⊥ : EReal) else ((Real.log r : ℝ) : EReal)) ≠ ⊥
    rw [if_neg h]; exact EReal.coe_ne_bot _
  induction z with
  | bot =>
    have h : (1 : EReal) + Ideal.exp ⊥ = ((1 : ℝ) : EReal) := by
      show (1 : EReal) + 0 = _
      rw [add_zero]; rfl
    rw [h]; exact coe 1 (by norm_num)
  | top =>
    have h : (1 : EReal) + Ideal.exp ⊤ = ⊤ := rfl
    rw [h]; exact fun h => nomatch h
  | coe r =>
    have h : (1 : EReal) + Ideal.exp (r : EReal) = ((1 + Real.exp r : ℝ) : EReal) := rfl
    rw [h]; exact coe _ (by have := Real.exp_pos r; linarith)

/-- The reference's log-sigmoid, the negated softplus of the negated value, is the kernel's. -/
theorem lsig_ref (z : EReal) :
    -(max (-z) 0 + Ideal.log1p (Ideal.exp (-(max (-z - 0) (-(-z - 0)))))) = lsig z := by
  unfold lsig
  have hab : -(max (-z - 0) (-(-z - 0))) = 0 - max z (-z) := by
    rw [sub_zero, neg_neg, max_comm, zero_sub]
  rw [hab]
  have hm : -(max (-z) 0) = min z 0 := by
    rcases le_total z 0 with h | h
    · rw [max_eq_left (by simpa using EReal.neg_le_neg_iff.2 h), min_eq_left h, neg_neg]
    · rw [max_eq_right (by simpa using EReal.neg_le_neg_iff.2 h), min_eq_right h, neg_zero]
  rw [EReal.neg_add (.inl fun h => ?_) (.inr (log1p_exp_ne_bot _)), hm]
  have : (0 : EReal) ≤ max (-z) 0 := le_max_right _ _
  rw [h] at this
  exact absurd this (by simp)

theorem ix2_ex {a b : ℕ} (i : (A2 a b).Idx) : ∃ r d, i = ix2 r d :=
  ⟨i 0, i 1, by funext k; fin_cases k <;> rfl⟩

/-- A head's column. -/
abbrev hc {N : ℕ} (hN : N % 128 = 0) (n : Fin N) (d : Fin 128) : Fin N := ⟨128 * (n.val / 128) + d.val, by omega⟩

/-- The activations, each row normed. -/
def normed {R : ℕ} (X : (A2 R 2048).Idx → EReal) (g : (A2 1 2048).Idx → EReal) : (A2 R 2048).Idx → EReal := fun i =>
  rms w2048 (fun j => X (ix2 (i 0) j)) (fun j => g (ix2 0 j)) (i 1)

/-- A product, and the product with each head of 128 columns normed. -/
def prod {R N : ℕ} (H : (A2 R 2048).Idx → EReal) (W : (A2 2048 N).Idx → EReal) : (A2 R N).Idx → EReal := fun i =>
  prd (fun k => H (ix2 (i 0) k)) W (i 1)

def heads {R N : ℕ} (hN : N % 128 = 0) (P : (A2 R N).Idx → EReal) (G : (A2 1 N).Idx → EReal) : (A2 R N).Idx → EReal := fun i =>
  rms w128 (fun d => P (ix2 (i 0) (hc hN (i 1) d))) (fun d => G (ix2 0 (hc hN (i 1) d))) ⟨(i 1).val % 128, by omega⟩

/-- The gates and the forget values of a product. -/
def gated {R N : ℕ} (P : (A2 R N).Idx → EReal) : (A2 R N).Idx → EReal := fun i => Ideal.logistic (P i)

def forget {R N : ℕ} (P : (A2 R N).Idx → EReal) (b : (A2 1 N).Idx → EReal) : (A2 R N).Idx → EReal := fun i =>
  lsig (P i + b (ix2 0 (i 1)))

section Tile

variable {T M R N : ℕ} {x : (A2 T 2048).Idx → EReal} {X : (A2 R 2048).Idx → EReal} {w : (A2 2048 M).Idx → EReal} {W : (A2 2048 N).Idx → EReal}

/-- A tile of a product is the product's tile. -/
theorem prod_tile (i : (A2 R N).Idx) (r : Fin T) (n : Fin M) (o : ℕ) (ho : o + M ≤ N)
    (hx : ∀ k, x (ix2 r k) = X (ix2 (i 0) k)) (hw : ∀ k (n : Fin M), w (ix2 k n) = W (ix2 k ⟨o + n.val, by omega⟩))
    (hi : (i 1).val = o + n.val) : prod x w (ix2 r n) = prod X W i := by
  have e : (⟨o + n.val, by omega⟩ : Fin N) = i 1 := Fin.ext hi.symm
  show ∑ k : Fin 2048, x (ix2 r k) * w (ix2 k n) = ∑ k : Fin 2048, X (ix2 (i 0) k) * W (ix2 k (i 1))
  refine Finset.sum_congr rfl fun k _ => ?_
  rw [hx, hw, e]

/-- The heads of a tile of a product are the product's. -/
theorem heads_tile {g : (A2 1 M).Idx → EReal} {G : (A2 1 N).Idx → EReal} (hM : M % 128 = 0) (hN : N % 128 = 0)
    (i : (A2 R N).Idx) (r : Fin T) (n : Fin M) (o : ℕ) (ho : o + M ≤ N) (h128 : o % 128 = 0)
    (hx : ∀ k, x (ix2 r k) = X (ix2 (i 0) k)) (hw : ∀ k (n : Fin M), w (ix2 k n) = W (ix2 k ⟨o + n.val, by omega⟩))
    (hg : ∀ n : Fin M, g (ix2 0 n) = G (ix2 0 ⟨o + n.val, by omega⟩))
    (hi : (i 1).val = o + n.val) : heads hM (prod x w) g (ix2 r n) = heads hN (prod X W) G i := by
  have eh (d : Fin 128) : (⟨o + (hc hM n d).val, by have := (hc hM n d).isLt; omega⟩ : Fin N) = hc hN (i 1) d := by
    apply Fin.ext
    show o + (128 * (n.val / 128) + d.val) = 128 * ((i 1).val / 128) + d.val
    omega
  have e1 : (fun d => prod x w (ix2 r (hc hM n d))) = fun d => prod X W (ix2 (i 0) (hc hN (i 1) d)) := by
    funext d
    refine prod_tile _ r (hc hM n d) o ho hx hw ?_
    show (hc hN (i 1) d).val = _
    rw [← eh]
  have e2 : (fun d => g (ix2 0 (hc hM n d))) = fun d => G (ix2 0 (hc hN (i 1) d)) := by
    funext d
    rw [hg, eh]
  have e3 : (⟨n.val % 128, by omega⟩ : Fin 128) = ⟨(i 1).val % 128, by omega⟩ := by
    apply Fin.ext; show n.val % 128 = (i 1).val % 128; omega
  show rms w128 (fun d => prod x w (ix2 r (hc hM n d))) (fun d => g (ix2 0 (hc hM n d))) (⟨n.val % 128, by omega⟩ : Fin 128) = rms _ _ _ _
  rw [e1, e2]
  exact congrArg (rms w128 _ _) e3

end Tile

end Cert.ProjSpec

end
-- ==== Proof.ProjTiles.lean ====
/-
  One tile of each stage of the input projection (prompt), read at an element: the norm of a row of the activations, a
  tile of a product with the norm of each head in it, the logistic gates and the log-sigmoid.
-/
module

public import proofs.«01_k».proof.Proof.ProjSpec
public import proofs.«01_k».proof.Proof.Gen.ProjIdeal.Skeleton

@[expose] public section

set_option maxRecDepth 16384

noncomputable section

namespace Cert.ProjIdeal.Value

open Idealize.ShloMosaic Idealize.SL.Sem Cert.ProjIdeal.Gen Cert.ProjSpec

/-- The norm of a row. -/
theorem k0_at (x : Vec Ideal S512x2048 .f32) (g : Vec Ideal S1x2048 .f32) (r : Fin 512) (d : Fin 2048) :
    k0_pay1 (F := Ideal) x g (ix2 r d) = rms w2048 (fun j => x (ix2 r j)) (fun j => g (ix2 0 j)) d := by
  pointwise [k0_pay1]
  rfl

/-- The norm of one head's row. -/
def hn (y : FVec Ideal S512x128 .f32) (g : Vec Ideal S1x128 .f32) : FVec Ideal S512x128 .f32 :=
  mulf (mulf y (broadcastTo S512x128 (rsqrt (addf (divf (shapeCast S512x1 (multiReduction .add [1] S512 (mulf y y)
    0x00000000#32 reduces_S512x128_S512 (.inl rfl) rfl) shapeCasts_S512_S512x1) (broadcast S512x1 (Scalar.ofBits .f32 0x43000000#32)))
    (broadcast S512x1 (Scalar.ofBits .f32 0x358637BD#32)))) broadcasts_S512x1_S512x128))
    (broadcastTo S512x128 (shapeCast S1x128 g shapeCasts_S1x128_S1x128) broadcasts_S1x128_S512x128)

theorem hn_at (y : FVec Ideal S512x128 .f32) (g : Vec Ideal S1x128 .f32) (r : Fin 512) (d : Fin 128) :
    hn y g (ix2 r d) = rms w128 (fun j => y (ix2 r j)) (fun j => g (ix2 0 j)) d := by
  pointwise [hn]
  rfl

/-- A tile of a product. -/
def mm (x : Vec Ideal S512x2048 .bf16) (w : Vec Ideal S2048x512 .bf16) : FVec Ideal S512x512 .f32 :=
  matmul (φ₁ := .bf16) (φ₂ := .bf16) dot_S512x2048_S2048x512_S512x512_1_0_0_1_n_n none (shapeCast S512x2048 x shapeCasts_S512x2048_S512x2048)
    (shapeCast S2048x512 w shapeCasts_S2048x512_S2048x512) (constant S512x512 .f32 0x00000000#32)

theorem mm_at (x : Vec Ideal S512x2048 .bf16) (w : Vec Ideal S2048x512 .bf16) (r : Fin 512) (n : Fin 512) :
    mm x w (ix2 r n) = prd (fun k => x (ix2 r k)) w n := by
  pointwise [mm]
  rfl

/-- One head's columns of a tile. -/
def hs (o : ℕ) (y : FVec Ideal S512x512 .f32) (h : o + 128 ≤ 512) : FVec Ideal S512x128 .f32 := fun i =>
  y (ix2 (i 0) ⟨o + (i 1).val, by have : (i 1).val < 128 := (i 1).isLt; omega⟩)

theorem sl0 (y : FVec Ideal S512x512 .f32) : extractStridedSlice S512x128 ![0, 0] y slices_S512x512_o0_0_S512x128 = hs 0 y (by omega) := by
  funext i
  obtain ⟨r, d, rfl⟩ := ix2_ex i
  pointwise [hs]
theorem sl1 (y : FVec Ideal S512x512 .f32) : extractStridedSlice S512x128 ![0, 128] y slices_S512x512_o0_128_S512x128 = hs 128 y (by omega) := by
  funext i
  obtain ⟨r, d, rfl⟩ := ix2_ex i
  pointwise [hs]
theorem sl2 (y : FVec Ideal S512x512 .f32) : extractStridedSlice S512x128 ![0, 256] y slices_S512x512_o0_256_S512x128 = hs 256 y (by omega) := by
  funext i
  obtain ⟨r, d, rfl⟩ := ix2_ex i
  pointwise [hs]
theorem sl3 (y : FVec Ideal S512x512 .f32) : extractStridedSlice S512x128 ![0, 384] y slices_S512x512_o0_384_S512x128 = hs 384 y (by omega) := by
  funext i
  obtain ⟨r, d, rfl⟩ := ix2_ex i
  pointwise [hs]

variable (x : Vec Ideal S512x2048 .bf16) (w : Vec Ideal S2048x512 .bf16) (y : FVec Ideal S512x512 .f32) (g : Vec Ideal S1x128 .f32)

theorem k1_0 : k1_pay4 x w g = hn (hs 0 (mm x w) (by omega)) g := by rw [← sl0]; rfl
theorem k1_1 : k1_pay5 x w g = hn (hs 128 (mm x w) (by omega)) g := by rw [← sl1]; rfl
theorem k1_2 : k1_pay1 y g = hn (hs 256 y (by omega)) g := by rw [← sl2]; rfl
theorem k1_3 : k1_pay2 y g = hn (hs 384 y (by omega)) g := by rw [← sl3]; rfl
theorem k2_0 : k2_pay3 x w g = hn (hs 0 (mm x w) (by omega)) g := by rw [← sl0]; rfl
theorem k2_1 : k2_pay7 (k2_pay5 x w) (k2_pay6 g) = hn (hs 128 (mm x w) (by omega)) g := by rw [← sl1]; rfl
theorem k2_2 : k2_pay9 y g = hn (hs 256 y (by omega)) g := by rw [← sl2]; rfl
theorem k2_3 : k2_pay11 y g = hn (hs 384 y (by omega)) g := by rw [← sl3]; rfl
theorem k3_mm : k3_pay1 x w = mm x w := rfl

/-- The gates' tile. -/
theorem k4_at (r : Fin 512) (n : Fin 512) : k4_pay1 x w (ix2 r n) = Ideal.logistic (prd (fun k => x (ix2 r k)) w n) := by
  rw [← mm_at]
  show k4_pay1 x w (ix2 r n) = Ideal.logistic _
  rfl

/-- The forget values' tile. -/
theorem k5_at (w : Vec Ideal S2048x128 .bf16) (r : Fin 512) (n : Fin 128) :
    k5_pay1 x w g (ix2 r n) = lsig (prd (fun k => x (ix2 r k)) w n + g (ix2 0 n)) := by
  pointwise [k5_pay1]
  rfl

/-- A head's part of a tile is the tile of the normed product. -/
theorem part (o : ℕ) (h : o + 128 ≤ 512) (ho : o % 128 = 0) (G : Vec Ideal S1x512 .f32)
    (hg : ∀ d : Fin 128, g (ix2 0 d) = G (ix2 0 ⟨o + d.val, by omega⟩)) (r : Fin 512) (d : Fin 128) (n : Fin 512) (hn' : n.val = o + d.val) :
    hn (hs o (mm x w) h) g (ix2 r d) = heads (by omega) (prod (R := 512) (N := 512) x w) G (ix2 r n) := by
  rw [hn_at]
  have e (j : Fin 128) : (⟨o + j.val, by omega⟩ : Fin 512) = hc (by omega) n j := by
    apply Fin.ext; show o + j.val = 128 * (n.val / 128) + j.val; omega
  have ed : d = ⟨n.val % 128, by omega⟩ := by apply Fin.ext; show d.val = n.val % 128; omega
  have e1 : (fun j => hs o (mm x w) h (ix2 r j)) = fun j => prod (R := 512) (N := 512) x w (ix2 r (hc (by omega) n j)) := by
    funext j
    show mm x w (ix2 r ⟨o + j.val, _⟩) = _
    rw [e, mm_at]; rfl
  have e2 : (fun j => g (ix2 0 j)) = fun j => G (ix2 0 (hc (by omega) n j)) := by
    funext j
    rw [hg, e]
  rw [e1, e2]
  exact congrArg (rms w128 (fun j => prod (R := 512) (N := 512) x w (ix2 r (hc (by omega) n j))) (fun j => G (ix2 0 (hc (by omega) n j)))) ed

end Cert.ProjIdeal.Value

end
-- ==== Proof.ProjRegions.lean ====
/-
  The six stages of the input projection (prompt) as arrays: what each leaves in its outputs, from the arrays it is
  given.
-/
module

public import proofs.«01_k».proof.Proof.ProjTiles
public import proofs.«01_k».proof.Proof.Gen.ProjIdeal.Frame
public import Idealize.ShloMosaic.Lib.Pipeline.ValueKit
public import Idealize.ShloMosaic.Lib.Pipeline.ReadBack
public import Idealize.ShloMosaic.Lib.Pipeline.Value

@[expose] public section

set_option maxRecDepth 16384

noncomputable section

namespace Cert.ProjIdeal.Value

open Idealize.ShloMosaic Idealize.SL.Sem Cert.ProjIdeal.Gen Cert.ProjSpec
open Idealize.ShloMosaic.TcCoe

theorem z2 : ∀ a : Fin 2, (![0, 0] : Fin 2 → ℕ) a = 0 := by decide

/-! ## The tiles the stages write -/

theorem out0_eq (x : Vec Ideal S512x2048 .f32) (g : Vec Ideal S1x2048 .f32) : out0_2 x g = k0_pay1 x g := by
  unfold out0_2
  rw [View.canon_cons_unit_lit' _ _ _ z2, View.ld_unit_lit' _ _ z2, View.ld_unit_lit' _ _ z2]

theorem out3_eq (x : Vec Ideal S512x2048 .bf16) (w : Vec Ideal S2048x512 .bf16) (g : Vec Ideal S1x512 .f32) : out3_3 x w g = mm x w := by
  unfold out3_3
  rw [View.canon_cons_unit_lit' _ _ _ z2, View.ld_unit_lit' _ _ z2, View.ld_unit_lit' _ _ z2, k3_mm]

theorem out4_eq (x : Vec Ideal S512x2048 .bf16) (w : Vec Ideal S2048x512 .bf16) (g : Vec Ideal S1x512 .f32) : out4_3 x w g = k4_pay1 x w := by
  unfold out4_3
  rw [View.canon_cons_unit_lit' _ _ _ z2, View.ld_unit_lit' _ _ z2, View.ld_unit_lit' _ _ z2]

theorem out5_eq (x : Vec Ideal S512x2048 .bf16) (w : Vec Ideal S2048x128 .bf16) (g : Vec Ideal S1x128 .f32) : out5_3 x w g = k5_pay1 x w g := by
  unfold out5_3
  rw [View.canon_cons_unit_lit' _ _ _ z2, View.ld_unit_lit' _ _ z2, View.ld_unit_lit' _ _ z2, View.ld_unit_lit' _ _ z2]

section Heads

variable (x : Vec Ideal S512x2048 .bf16) (w : Vec Ideal S2048x512 .bf16) (g : Vec Ideal S1x512 .f32)

theorem k1_mm : k1_pay6 x w g = mm x w := by
  unfold k1_pay6
  rw [View.ld_unit_lit' _ _ z2, View.ld_unit_lit' _ _ z2]; rfl

theorem k2_mm : k2_pay12 x w g = mm x w := by
  unfold k2_pay12
  rw [View.ld_unit_lit' _ _ z2, View.ld_unit_lit' _ _ z2]; rfl

theorem gain (o : ℕ) (ho : o + 128 ≤ 512) (inb) (d : Fin 128) :
    View.ld g (Rect.unit (s := S1x512) ![0, o] S1x128.size inb) (ix2 0 d) = g (ix2 0 ⟨o + d.val, by omega⟩) := by
  show g ((Rect.unit (s := S1x512) ![0, o] S1x128.size inb).emb (ix2 0 d)) = _
  congr 1
  funext a
  apply Fin.ext
  rw [ValueKit.rect_emb_unit_val]
  fin_cases a <;> rfl

/-- A part of a tile written at head `o / 128`, at the tile's element. -/
theorem part_at (o : ℕ) (h : o + 128 ≤ 512) (ho : o % 128 = 0) (inb) (r : Fin 512) (n : Fin 512) (y : S512x128.Idx)
    (h0 : r.val = (y 0).val) (h1 : n.val = o + (y 1).val) :
    hn (hs o (mm x w) h) (View.ld g (Rect.unit (s := S1x512) ![0, o] S1x128.size inb)) y
      = heads (by omega) (prod (R := 512) (N := 512) x w) g (ix2 r n) := by
  obtain ⟨r', d, rfl⟩ := ix2_ex (a := 512) (b := 128) y
  obtain rfl : r' = r := Fin.ext h0.symm
  exact part x w _ o h ho g (fun d => gain g o h inb d) r' d n h1

theorem out1_at (r : Fin 512) (n : Fin 512) :
    out1_3 x w g (ix2 r n) = heads (by omega) (prod (R := 512) (N := 512) x w) g (ix2 r n) := by
  unfold out1_3
  canon_tiles y h
  · rw [k1_3, k1_mm]; exact part_at x w g 384 (by omega) (by omega) _ r n y h0 h1
  · rw [k1_2, k1_mm]; exact part_at x w g 256 (by omega) (by omega) _ r n y h0 h1
  · rw [k1_1, View.ld_unit_lit' _ _ z2, View.ld_unit_lit' _ _ z2]; exact part_at x w g 128 (by omega) (by omega) _ r n y h0 h1
  · rw [k1_0, View.ld_unit_lit' _ _ z2, View.ld_unit_lit' _ _ z2]; exact part_at x w g 0 (by omega) (by omega) _ r n y h0 (h1.trans (Nat.zero_add _).symm)

theorem out2_at (r : Fin 512) (n : Fin 512) :
    out2_3 x w g (ix2 r n) = heads (by omega) (prod (R := 512) (N := 512) x w) g (ix2 r n) := by
  unfold out2_3
  canon_tiles y h
  · unfold k2_pay15
    rw [k2_3, k2_mm]; exact part_at x w g 384 (by omega) (by omega) _ r n y h0 h1
  · rw [k2_2, k2_mm]; exact part_at x w g 256 (by omega) (by omega) _ r n y h0 h1
  · unfold k2_pay13 k2_pay14
    rw [k2_1, View.ld_unit_lit' _ _ z2, View.ld_unit_lit' _ _ z2]; exact part_at x w g 128 (by omega) (by omega) _ r n y h0 h1
  · rw [k2_0, View.ld_unit_lit' _ _ z2, View.ld_unit_lit' _ _ z2]; exact part_at x w g 0 (by omega) (by omega) _ r n y h0 (h1.trans (Nat.zero_add _).symm)

end Heads

/-! ## The stages' arrays -/

variable (V : (c : Dev nD) → (b : Ref sig .tc) → Buf (Elt Ideal) ((c : Thread nD τ).loc b)) (c : Dev nD)

theorem idx0 : ∀ t : Fin cfg0.N, win0_0.index t = ![(grid0.coords t 0).val, 0] ∧ win0_1.index t = ![0, 0]
    ∧ win0_2.index t = ![(grid0.coords t 0).val, 0] :=
  (by decide +kernel : ∀ t : Fin grid0.N, _)

/-- A row of the point's block. -/
abbrev row0 (t : Fin cfg0.N) (r : Fin 512) : Fin 8192 :=
  ⟨(grid0.coords t 0).val * 512 + r.val, by have : (grid0.coords t 0).val < 16 := (grid0.coords t 0).isLt; omega⟩

theorem final0 : (dat0 V c).arrAt 2 cfg0.N = normed (R := 8192) (V c main_v37) (V c main_v38) := by
  refine (dat0 V c).arrAt_eq_of_covers 2 _ (by decide +kernel) fun t hf y => ?_
  blk_simp
  rw [after0_2, out0_eq]
  obtain ⟨r, n, rfl⟩ := ix2_ex (a := 512) (b := 2048) y
  have hx (j : Fin 2048) : iblk0 V c 0 t (ix2 r j) = V c main_v37 (ix2 (row0 t r) j) := by
    blk_ext! [iblk0, idx0 t]
    all_goals (have : (grid0.coords t 0).val < 16 := (grid0.coords t 0).isLt; omega)
  have hg (j : Fin 2048) : iblk0 V c 1 t (ix2 0 j) = V c main_v38 (ix2 0 j) := by
    blk_ext! [iblk0, idx0 t]
  have hi : (win0_2.blk t).view.emb (ix2 r n) = (ix2 (row0 t r) n : (A2 8192 2048).Idx) := by
    funext a
    apply Fin.ext
    have : (grid0.coords t 0).val < 16 := (grid0.coords t 0).isLt
    fin_cases a
    · blk_simp [idx0 t]
      show _ = (grid0.coords t 0).val * 512 + r.val
      first | rfl | (show r.val = _; omega)
    · blk_simp [idx0 t]
      rfl
  rw [hi, k0_at]
  simp only [hx, hg]
  rfl

theorem idx1 : ∀ t : Fin cfg1.N, win1_0.index t = ![(grid1.coords t 0).val, 0] ∧ win1_1.index t = ![0, (grid1.coords t 1).val]
    ∧ win1_2.index t = ![0, (grid1.coords t 1).val] ∧ win1_3.index t = ![(grid1.coords t 0).val, (grid1.coords t 1).val] :=
  (by decide +kernel : ∀ t : Fin grid1.N, _)

abbrev row1 (t : Fin cfg1.N) (r : Fin 512) : Fin 8192 :=
  ⟨(grid1.coords t 0).val * 512 + r.val, by have : (grid1.coords t 0).val < 16 := (grid1.coords t 0).isLt; omega⟩

theorem col1 (t : Fin cfg1.N) : (grid1.coords t 1).val * 512 + 512 ≤ 2048 := by
  have : (grid1.coords t 1).val < 4 := (grid1.coords t 1).isLt
  omega

theorem x1_at (t : Fin cfg1.N) (r : Fin 512) (j : Fin 2048) : iblk1 V c 0 t (ix2 r j) = V c main_v39 (ix2 (row1 t r) j) := by
  blk_ext! [iblk1, idx1 t]
  all_goals (have : (grid1.coords t 0).val < 16 := (grid1.coords t 0).isLt; omega)

theorem w1_at (t : Fin cfg1.N) (j : Fin 2048) (n : Fin 512) : iblk1 V c 1 t (ix2 j n)
    = V c main_v3 (ix2 j ⟨(grid1.coords t 1).val * 512 + n.val, by have := col1 t; omega⟩) := by
  blk_ext! [iblk1, idx1 t]

theorem g1_at (t : Fin cfg1.N) (n : Fin 512) : iblk1 V c 2 t (ix2 0 n)
    = V c main_v26 (ix2 0 ⟨(grid1.coords t 1).val * 512 + n.val, by have := col1 t; omega⟩) := by
  blk_ext! [iblk1, idx1 t]

theorem final1 : (dat1 V c).arrAt 3 cfg1.N = heads (by omega) (prod (R := 8192) (N := 2048) (V c main_v39) (V c main_v3)) (V c main_v26) := by
  refine (dat1 V c).arrAt_eq_of_covers 3 _ (by decide +kernel) fun t hf y => ?_
  blk_simp
  rw [after1_3]
  obtain ⟨r, n, rfl⟩ := ix2_ex (a := 512) (b := 512) y
  have hi : (win1_3.blk t).view.emb (ix2 r n)
      = (ix2 (row1 t r) ⟨(grid1.coords t 1).val * 512 + n.val, by have := col1 t; omega⟩ : (A2 8192 2048).Idx) := by
    funext a
    apply Fin.ext
    have : (grid1.coords t 0).val < 16 := (grid1.coords t 0).isLt
    fin_cases a
    · blk_simp [idx1 t]
      show _ = (grid1.coords t 0).val * 512 + r.val
      first | rfl | (show r.val = _; omega)
    · blk_simp [idx1 t]
      rfl
  rw [hi]
  rw [out1_at]
  exact heads_tile _ _ _ r n _ (col1 t) (by omega) (fun j => x1_at V c t r j) (fun j n => w1_at V c t j n) (fun n => g1_at V c t n) rfl

theorem idx2 : ∀ t : Fin cfg2.N, win2_0.index t = ![(grid2.coords t 0).val, 0] ∧ win2_1.index t = ![0, (grid2.coords t 1).val]
    ∧ win2_2.index t = ![0, (grid2.coords t 1).val] ∧ win2_3.index t = ![(grid2.coords t 0).val, (grid2.coords t 1).val] :=
  (by decide +kernel : ∀ t : Fin grid2.N, _)

abbrev row2 (t : Fin cfg2.N) (r : Fin 512) : Fin 8192 :=
  ⟨(grid2.coords t 0).val * 512 + r.val, by have : (grid2.coords t 0).val < 16 := (grid2.coords t 0).isLt; omega⟩

theorem col2 (t : Fin cfg2.N) : (grid2.coords t 1).val * 512 + 512 ≤ 2048 := by
  have : (grid2.coords t 1).val < 4 := (grid2.coords t 1).isLt
  omega

theorem x2_at (t : Fin cfg2.N) (r : Fin 512) (j : Fin 2048) : iblk2 V c 0 t (ix2 r j) = V c main_v39 (ix2 (row2 t r) j) := by
  blk_ext! [iblk2, idx2 t]
  all_goals (have : (grid2.coords t 0).val < 16 := (grid2.coords t 0).isLt; omega)

theorem w2_at (t : Fin cfg2.N) (j : Fin 2048) (n : Fin 512) : iblk2 V c 1 t (ix2 j n)
    = V c main_v7 (ix2 j ⟨(grid2.coords t 1).val * 512 + n.val, by have := col2 t; omega⟩) := by
  blk_ext! [iblk2, idx2 t]

theorem g2_at (t : Fin cfg2.N) (n : Fin 512) : iblk2 V c 2 t (ix2 0 n)
    = V c main_v34 (ix2 0 ⟨(grid2.coords t 1).val * 512 + n.val, by have := col2 t; omega⟩) := by
  blk_ext! [iblk2, idx2 t]

theorem final2 : (dat2 V c).arrAt 3 cfg2.N = heads (by omega) (prod (R := 8192) (N := 2048) (V c main_v39) (V c main_v7)) (V c main_v34) := by
  refine (dat2 V c).arrAt_eq_of_covers 3 _ (by decide +kernel) fun t hf y => ?_
  blk_simp
  rw [after2_3]
  obtain ⟨r, n, rfl⟩ := ix2_ex (a := 512) (b := 512) y
  have hi : (win2_3.blk t).view.emb (ix2 r n)
      = (ix2 (row2 t r) ⟨(grid2.coords t 1).val * 512 + n.val, by have := col2 t; omega⟩ : (A2 8192 2048).Idx) := by
    funext a
    apply Fin.ext
    have : (grid2.coords t 0).val < 16 := (grid2.coords t 0).isLt
    fin_cases a
    · blk_simp [idx2 t]
      show _ = (grid2.coords t 0).val * 512 + r.val
      first | rfl | (show r.val = _; omega)
    · blk_simp [idx2 t]
      rfl
  rw [hi]
  rw [out2_at]
  exact heads_tile _ _ _ r n _ (col2 t) (by omega) (fun j => x2_at V c t r j) (fun j n => w2_at V c t j n) (fun n => g2_at V c t n) rfl

theorem idx3 : ∀ t : Fin cfg3.N, win3_0.index t = ![(grid3.coords t 0).val, 0] ∧ win3_1.index t = ![0, (grid3.coords t 1).val]
    ∧ win3_2.index t = ![0, (grid3.coords t 1).val] ∧ win3_3.index t = ![(grid3.coords t 0).val, (grid3.coords t 1).val] :=
  (by decide +kernel : ∀ t : Fin grid3.N, _)

abbrev row3 (t : Fin cfg3.N) (r : Fin 512) : Fin 8192 :=
  ⟨(grid3.coords t 0).val * 512 + r.val, by have : (grid3.coords t 0).val < 16 := (grid3.coords t 0).isLt; omega⟩

theorem col3 (t : Fin cfg3.N) : (grid3.coords t 1).val * 512 + 512 ≤ 2048 := by
  have : (grid3.coords t 1).val < 4 := (grid3.coords t 1).isLt
  omega

theorem x3_at (t : Fin cfg3.N) (r : Fin 512) (j : Fin 2048) : iblk3 V c 0 t (ix2 r j) = V c main_v39 (ix2 (row3 t r) j) := by
  blk_ext! [iblk3, idx3 t]
  all_goals (have : (grid3.coords t 0).val < 16 := (grid3.coords t 0).isLt; omega)

theorem w3_at (t : Fin cfg3.N) (j : Fin 2048) (n : Fin 512) : iblk3 V c 1 t (ix2 j n)
    = V c main_v11 (ix2 j ⟨(grid3.coords t 1).val * 512 + n.val, by have := col3 t; omega⟩) := by
  blk_ext! [iblk3, idx3 t]

theorem final3 : (dat3 V c).arrAt 3 cfg3.N = prod (R := 8192) (N := 2048) (V c main_v39) (V c main_v11) := by
  refine (dat3 V c).arrAt_eq_of_covers 3 _ (by decide +kernel) fun t hf y => ?_
  blk_simp
  rw [after3_3]
  obtain ⟨r, n, rfl⟩ := ix2_ex (a := 512) (b := 512) y
  have hi : (win3_3.blk t).view.emb (ix2 r n)
      = (ix2 (row3 t r) ⟨(grid3.coords t 1).val * 512 + n.val, by have := col3 t; omega⟩ : (A2 8192 2048).Idx) := by
    funext a
    apply Fin.ext
    have : (grid3.coords t 0).val < 16 := (grid3.coords t 0).isLt
    fin_cases a
    · blk_simp [idx3 t]
      show _ = (grid3.coords t 0).val * 512 + r.val
      first | rfl | (show r.val = _; omega)
    · blk_simp [idx3 t]
      rfl
  rw [hi]
  rw [out3_eq, mm_at]
  exact prod_tile _ r n _ (col3 t) (fun j => x3_at V c t r j) (fun j n => w3_at V c t j n) rfl

theorem idx4 : ∀ t : Fin cfg4.N, win4_0.index t = ![(grid4.coords t 0).val, 0] ∧ win4_1.index t = ![0, (grid4.coords t 1).val]
    ∧ win4_2.index t = ![0, (grid4.coords t 1).val] ∧ win4_3.index t = ![(grid4.coords t 0).val, (grid4.coords t 1).val] :=
  (by decide +kernel : ∀ t : Fin grid4.N, _)

abbrev row4 (t : Fin cfg4.N) (r : Fin 512) : Fin 8192 :=
  ⟨(grid4.coords t 0).val * 512 + r.val, by have : (grid4.coords t 0).val < 16 := (grid4.coords t 0).isLt; omega⟩

theorem col4 (t : Fin cfg4.N) : (grid4.coords t 1).val * 512 + 512 ≤ 4096 := by
  have : (grid4.coords t 1).val < 8 := (grid4.coords t 1).isLt
  omega

theorem x4_at (t : Fin cfg4.N) (r : Fin 512) (j : Fin 2048) : iblk4 V c 0 t (ix2 r j) = V c main_v39 (ix2 (row4 t r) j) := by
  blk_ext! [iblk4, idx4 t]
  all_goals (have : (grid4.coords t 0).val < 16 := (grid4.coords t 0).isLt; omega)

theorem w4_at (t : Fin cfg4.N) (j : Fin 2048) (n : Fin 512) : iblk4 V c 1 t (ix2 j n)
    = V c main_v15 (ix2 j ⟨(grid4.coords t 1).val * 512 + n.val, by have := col4 t; omega⟩) := by
  blk_ext! [iblk4, idx4 t]

theorem final4 : (dat4 V c).arrAt 3 cfg4.N = gated (prod (R := 8192) (N := 4096) (V c main_v39) (V c main_v15)) := by
  refine (dat4 V c).arrAt_eq_of_covers 3 _ (by decide +kernel) fun t hf y => ?_
  blk_simp
  rw [after4_3]
  obtain ⟨r, n, rfl⟩ := ix2_ex (a := 512) (b := 512) y
  have hi : (win4_3.blk t).view.emb (ix2 r n)
      = (ix2 (row4 t r) ⟨(grid4.coords t 1).val * 512 + n.val, by have := col4 t; omega⟩ : (A2 8192 4096).Idx) := by
    funext a
    apply Fin.ext
    have : (grid4.coords t 0).val < 16 := (grid4.coords t 0).isLt
    fin_cases a
    · blk_simp [idx4 t]
      show _ = (grid4.coords t 0).val * 512 + r.val
      first | rfl | (show r.val = _; omega)
    · blk_simp [idx4 t]
      rfl
  rw [hi]
  rw [out4_eq, k4_at]
  exact congrArg Ideal.logistic (prod_tile _ r n _ (col4 t) (fun j => x4_at V c t r j) (fun j n => w4_at V c t j n) rfl)

theorem idx5 : ∀ t : Fin cfg5.N, win5_0.index t = ![(grid5.coords t 0).val, 0] ∧ win5_1.index t = ![0, (grid5.coords t 1).val]
    ∧ win5_2.index t = ![0, (grid5.coords t 1).val] ∧ win5_3.index t = ![(grid5.coords t 0).val, (grid5.coords t 1).val] :=
  (by decide +kernel : ∀ t : Fin grid5.N, _)

abbrev row5 (t : Fin cfg5.N) (r : Fin 512) : Fin 8192 :=
  ⟨(grid5.coords t 0).val * 512 + r.val, by have : (grid5.coords t 0).val < 16 := (grid5.coords t 0).isLt; omega⟩

theorem col5 (t : Fin cfg5.N) : (grid5.coords t 1).val * 128 + 128 ≤ 128 := by
  have : (grid5.coords t 1).val < 1 := (grid5.coords t 1).isLt
  omega

theorem x5_at (t : Fin cfg5.N) (r : Fin 512) (j : Fin 2048) : iblk5 V c 0 t (ix2 r j) = V c main_v39 (ix2 (row5 t r) j) := by
  blk_ext! [iblk5, idx5 t]
  all_goals (have : (grid5.coords t 0).val < 16 := (grid5.coords t 0).isLt; omega)

theorem w5_at (t : Fin cfg5.N) (j : Fin 2048) (n : Fin 128) : iblk5 V c 1 t (ix2 j n)
    = V c main_v18 (ix2 j ⟨(grid5.coords t 1).val * 128 + n.val, by have := col5 t; omega⟩) := by
  blk_ext! [iblk5, idx5 t]

theorem g5_at (t : Fin cfg5.N) (n : Fin 128) : iblk5 V c 2 t (ix2 0 n)
    = V c main_v36 (ix2 0 ⟨(grid5.coords t 1).val * 128 + n.val, by have := col5 t; omega⟩) := by
  blk_ext! [iblk5, idx5 t]

theorem final5 : (dat5 V c).arrAt 3 cfg5.N = forget (prod (R := 8192) (N := 128) (V c main_v39) (V c main_v18)) (V c main_v36) := by
  refine (dat5 V c).arrAt_eq_of_covers 3 _ (by decide +kernel) fun t hf y => ?_
  blk_simp
  rw [after5_3]
  obtain ⟨r, n, rfl⟩ := ix2_ex (a := 512) (b := 128) y
  have hi : (win5_3.blk t).view.emb (ix2 r n)
      = (ix2 (row5 t r) ⟨(grid5.coords t 1).val * 128 + n.val, by have := col5 t; omega⟩ : (A2 8192 128).Idx) := by
    funext a
    apply Fin.ext
    have : (grid5.coords t 0).val < 16 := (grid5.coords t 0).isLt
    fin_cases a
    · blk_simp [idx5 t]
      show _ = (grid5.coords t 0).val * 512 + r.val
      first | rfl | (show r.val = _; omega)
    · blk_simp [idx5 t]
      rfl
  rw [hi]
  rw [out5_eq, k5_at]
  exact congrArg lsig (congrArg₂ (· + ·) (prod_tile _ r n _ (col5 t) (fun j => x5_at V c t r j) (fun j n => w5_at V c t j n) rfl) (g5_at V c t n))

end Cert.ProjIdeal.Value

end
-- ==== Proof.ProjCols.lean ====
/-
  Groups of columns of the weights: a group's columns moved to another place give the same products and the same normed
  heads.
-/
module

public import proofs.«01_k».proof.Proof.ProjSpec

@[expose] public section

noncomputable section

namespace Cert.ProjSpec

open Idealize.ShloMosaic

variable {R M N : ℕ} {H : (A2 R 2048).Idx → EReal} {w : (A2 2048 M).Idx → EReal} {W : (A2 2048 N).Idx → EReal}
  {r : Fin R} {x : Fin 2048 → EReal}

theorem ix3_ex {a b c : ℕ} (i : (⟨3, ![a, b, c]⟩ : Shape).Idx) : ∃ p q r, i = ix3 p q r :=
  ⟨i 0, i 1, i 2, by funext k; fin_cases k <;> rfl⟩

theorem ix4_ex {a b c d : ℕ} (i : (⟨4, ![a, b, c, d]⟩ : Shape).Idx) : ∃ p q r s, i = ix4 p q r s :=
  ⟨i 0, i 1, i 2, i 3, by funext k; fin_cases k <;> rfl⟩

theorem at_congr {α : Type} {a b : ℕ} (A : (A2 a b).Idx → α) {i i' : Fin a} {j j' : Fin b} (hi : i.val = i'.val) (hj : j.val = j'.val) :
    A (ix2 i j) = A (ix2 i' j') := by
  rw [Fin.ext hi, Fin.ext hj]

/-- A product with a moved column. -/
theorem prod_col (hx : ∀ k, H (ix2 r k) = x k) (n : Fin M) (n' : Fin N) (hw : ∀ k, w (ix2 k n) = W (ix2 k n')) :
    prod H w (ix2 r n) = prd x W n' := by
  show ∑ k : Fin 2048, H (ix2 r k) * w (ix2 k n) = ∑ k : Fin 2048, x k * W (ix2 k n')
  exact Finset.sum_congr rfl fun k _ => by rw [hx, hw]

/-- A normed head of moved columns: `a` is the head's first column, `o` tells its columns in the weights. -/
theorem heads_col (hM : M % 128 = 0) {G : (A2 1 M).Idx → EReal} {g : Fin 128 → EReal} (hx : ∀ k, H (ix2 r k) = x k)
    (n : Fin M) (d : Fin 128) (a : ℕ) (ha : a % 128 = 0) (ham : a + 128 ≤ M) (hn : n.val = a + d.val) (o : Fin 128 → Fin N)
    (hw : ∀ k (j : Fin 128), w (ix2 k ⟨a + j.val, by omega⟩) = W (ix2 k (o j)))
    (hG : ∀ j : Fin 128, G (ix2 0 ⟨a + j.val, by omega⟩) = g j) :
    heads hM (prod H w) G (ix2 r n) = rms w128 (fun j => prd x W (o j)) g d := by
  have ec (j : Fin 128) : hc hM n j = ⟨a + j.val, by omega⟩ := Fin.ext (by show 128 * (n.val / 128) + j.val = a + j.val; omega)
  have ed : (⟨n.val % 128, by omega⟩ : Fin 128) = d := Fin.ext (by show n.val % 128 = d.val; omega)
  have e1 : (fun j => prod H w (ix2 r (hc hM n j))) = fun j => prd x W (o j) := by
    funext j
    rw [ec]
    exact prod_col hx _ _ fun k => hw k j
  have e2 : (fun j => G (ix2 0 (hc hM n j))) = g := by
    funext j
    rw [ec, hG]
  show rms w128 (fun j => prod H w (ix2 r (hc hM n j))) (fun j => G (ix2 0 (hc hM n j))) (⟨n.val % 128, by omega⟩ : Fin 128) = _
  rw [e1, e2]
  exact congrArg (rms w128 _ _) ed

end Cert.ProjSpec

end
-- ==== Proof.ProjHost.lean ====
/-
  The input projection (prompt): what the host operations around the stages leave, element by element.
-/
module

public import proofs.«01_k».proof.Proof.ProjRegions
public import proofs.«01_k».proof.Proof.ProjCols

@[expose] public section

set_option maxRecDepth 16384

noncomputable section

namespace Cert.ProjIdeal.Value

open Idealize.ShloMosaic Idealize.SL.Sem Cert.ProjIdeal.Gen Cert.ProjSpec
open Idealize.ShloMosaic.TcCoe

variable (m : (ℓ : Loc nD τ sig) → Buf (Elt Ideal) ℓ) (ρ : Dev nD → PrngReg) (c : Dev nD)

/-! ## The arguments -/

abbrev aX : FVec Ideal S4x2048x2048 .f32 := m ((c : Thread nD τ).loc main_arg0)
abbrev aG : FVec Ideal S2048 .f32 := m ((c : Thread nD τ).loc main_arg1)
abbrev aW : FVec Ideal S2048x10248 .f32 := m ((c : Thread nD τ).loc main_arg2)
abbrev aB : FVec Ideal S8 .f32 := m ((c : Thread nD τ).loc main_arg3)
abbrev gQa : FVec Ideal S128 .f32 := m ((c : Thread nD τ).loc main_arg4)
abbrev gKa : FVec Ideal S128 .f32 := m ((c : Thread nD τ).loc main_arg5)
abbrev gQb : FVec Ideal S128 .f32 := m ((c : Thread nD τ).loc main_arg6)
abbrev gKb : FVec Ideal S128 .f32 := m ((c : Thread nD τ).loc main_arg7)

/-! ## The weights of each stage: groups of columns side by side -/

def wQ (W : FVec Ideal S2048x10248 .f32) : FVec Ideal S2048x2048 .bf16 :=
  truncf .bf16 (concatenate S2048x2048 1 [⟨S2048x1024, extractStridedSlice S2048x1024 ![0, 0] W slices_S2048x10248_S2048x1024_0_0⟩, ⟨S2048x1024, extractStridedSlice S2048x1024 ![0, 3072] W slices_S2048x10248_S2048x1024_0_3072⟩] concatenates_S2048x1024_S2048x1024_S2048x2048_d1) bitsLt_bf16_f32

def wK (W : FVec Ideal S2048x10248 .f32) : FVec Ideal S2048x2048 .bf16 :=
  truncf .bf16 (concatenate S2048x2048 1 [⟨S2048x1024, extractStridedSlice S2048x1024 ![0, 1024] W slices_S2048x10248_S2048x1024_0_1024⟩, ⟨S2048x1024, extractStridedSlice S2048x1024 ![0, 4096] W slices_S2048x10248_S2048x1024_0_4096⟩] concatenates_S2048x1024_S2048x1024_S2048x2048_d1) bitsLt_bf16_f32

def wV (W : FVec Ideal S2048x10248 .f32) : FVec Ideal S2048x2048 .bf16 :=
  truncf .bf16 (concatenate S2048x2048 1 [⟨S2048x1024, extractStridedSlice S2048x1024 ![0, 2048] W slices_S2048x10248_S2048x1024_0_2048⟩, ⟨S2048x1024, extractStridedSlice S2048x1024 ![0, 5120] W slices_S2048x10248_S2048x1024_0_5120⟩] concatenates_S2048x1024_S2048x1024_S2048x2048_d1) bitsLt_bf16_f32

def wZ (W : FVec Ideal S2048x10248 .f32) : FVec Ideal S2048x4096 .bf16 :=
  truncf .bf16 (concatenate S2048x4096 1 [⟨S2048x2048, extractStridedSlice S2048x2048 ![0, 6152] W slices_S2048x10248_S2048x2048_0_6152⟩, ⟨S2048x2048, extractStridedSlice S2048x2048 ![0, 8200] W slices_S2048x10248_S2048x2048_0_8200⟩] concatenates_S2048x2048_S2048x2048_S2048x4096_d1) bitsLt_bf16_f32

/-- The forget values' weights and their bias, filled up to 128 columns. -/
def wF (W : FVec Ideal S2048x10248 .f32) : FVec Ideal S2048x128 .bf16 :=
  truncf .bf16 (pad S2048x128 ![0, 0] ![0, 120] ![0, 0] (extractStridedSlice S2048x8 ![0, 6144] W slices_S2048x10248_S2048x8_0_6144) (sitofp (F := Ideal) .f32 (constantI S_ 32 0#32)) pads_S2048x8_S2048x128_000_01200 h_S_) bitsLt_bf16_f32

def bF (g : FVec Ideal S8 .f32) : FVec Ideal S1x128 .f32 :=
  shapeCast S1x128 (pad S128 ![0] ![120] ![0] g (sitofp (F := Ideal) .f32 (constantI S_ 32 0#32)) pads_S8_S128_01200 h_S_) shapeCasts_S128_S1x128

/-- A gain for eight heads and a gain for eight heads. -/
def gn (f g : FVec Ideal S128 .f32) : FVec Ideal S1x2048 .f32 :=
  shapeCast S1x2048 (concatenate S2048 0 [⟨S1024, shapeCast S1024 (broadcastInDim S8x128 ![0, 1] bcast_S1x128_S8x128_0_1 (shapeCast S1x128 f shapeCasts_S128_S1x128)) shapeCasts_S8x128_S1024⟩, ⟨S1024, shapeCast S1024 (broadcastInDim S8x128 ![0, 1] bcast_S1x128_S8x128_0_1 (shapeCast S1x128 g shapeCasts_S128_S1x128)) shapeCasts_S8x128_S1024⟩] concatenates_S1024_S1024_S2048_d0) shapeCasts_S2048_S1x2048

theorem wQ_lo (W : FVec Ideal S2048x10248 .f32) (k : Fin 2048) (n : Fin 2048) (n' : Fin 10248) (h : n.val < 1024) (e : n'.val = 0 + n.val) :
    wQ W (ix2 k n) = W (ix2 k n') := by
  have en : n' = ⟨0 + n.val, by omega⟩ := Fin.ext e
  rw [en]
  pointwise [wQ]
  rw [dif_pos h]

theorem wQ_hi (W : FVec Ideal S2048x10248 .f32) (k : Fin 2048) (n : Fin 2048) (n' : Fin 10248) (h : 1024 ≤ n.val) (e : n'.val = 3072 + (n.val - 1024)) :
    wQ W (ix2 k n) = W (ix2 k n') := by
  have en : n' = ⟨3072 + (n.val - 1024), by omega⟩ := Fin.ext e
  rw [en]
  pointwise [wQ]
  rw [dif_neg (by omega)]

theorem wK_lo (W : FVec Ideal S2048x10248 .f32) (k : Fin 2048) (n : Fin 2048) (n' : Fin 10248) (h : n.val < 1024) (e : n'.val = 1024 + n.val) :
    wK W (ix2 k n) = W (ix2 k n') := by
  have en : n' = ⟨1024 + n.val, by omega⟩ := Fin.ext e
  rw [en]
  pointwise [wK]
  rw [dif_pos h]

theorem wK_hi (W : FVec Ideal S2048x10248 .f32) (k : Fin 2048) (n : Fin 2048) (n' : Fin 10248) (h : 1024 ≤ n.val) (e : n'.val = 4096 + (n.val - 1024)) :
    wK W (ix2 k n) = W (ix2 k n') := by
  have en : n' = ⟨4096 + (n.val - 1024), by omega⟩ := Fin.ext e
  rw [en]
  pointwise [wK]
  rw [dif_neg (by omega)]

theorem wV_lo (W : FVec Ideal S2048x10248 .f32) (k : Fin 2048) (n : Fin 2048) (n' : Fin 10248) (h : n.val < 1024) (e : n'.val = 2048 + n.val) :
    wV W (ix2 k n) = W (ix2 k n') := by
  have en : n' = ⟨2048 + n.val, by omega⟩ := Fin.ext e
  rw [en]
  pointwise [wV]
  rw [dif_pos h]

theorem wV_hi (W : FVec Ideal S2048x10248 .f32) (k : Fin 2048) (n : Fin 2048) (n' : Fin 10248) (h : 1024 ≤ n.val) (e : n'.val = 5120 + (n.val - 1024)) :
    wV W (ix2 k n) = W (ix2 k n') := by
  have en : n' = ⟨5120 + (n.val - 1024), by omega⟩ := Fin.ext e
  rw [en]
  pointwise [wV]
  rw [dif_neg (by omega)]

theorem wZ_lo (W : FVec Ideal S2048x10248 .f32) (k : Fin 2048) (n : Fin 4096) (n' : Fin 10248) (h : n.val < 2048) (e : n'.val = 6152 + n.val) :
    wZ W (ix2 k n) = W (ix2 k n') := by
  have en : n' = ⟨6152 + n.val, by omega⟩ := Fin.ext e
  rw [en]
  pointwise [wZ]
  rw [dif_pos h]

theorem wZ_hi (W : FVec Ideal S2048x10248 .f32) (k : Fin 2048) (n : Fin 4096) (n' : Fin 10248) (h : 2048 ≤ n.val) (e : n'.val = 8200 + (n.val - 2048)) :
    wZ W (ix2 k n) = W (ix2 k n') := by
  have en : n' = ⟨8200 + (n.val - 2048), by omega⟩ := Fin.ext e
  rw [en]
  pointwise [wZ]
  rw [dif_neg (by omega)]

theorem wF_at (W : FVec Ideal S2048x10248 .f32) (k : Fin 2048) (n : Fin 128) (n' : Fin 10248) (hn : n.val < 8) (e : n'.val = 6144 + n.val) :
    wF W (ix2 k n) = W (ix2 k n') := by
  have en : n' = ⟨6144 + n.val, by omega⟩ := Fin.ext e
  rw [en]
  pointwise [wF]
  rw [dif_pos hn]

theorem bF_at (g : FVec Ideal S8 .f32) (n : Fin 128) (h : Fin 8) (e : n.val = h.val) : bF g (ix2 0 n) = g (ix1 h) := by
  have eh : h = ⟨n.val, by omega⟩ := Fin.ext e.symm
  rw [eh]
  pointwise [bF]
  rw [dif_pos (by omega)]

theorem gn_lo (f g : FVec Ideal S128 .f32) (n : Fin 2048) (d : Fin 128) (h : n.val < 1024) (e : n.val % 128 = d.val) :
    gn f g (ix2 0 n) = f (ix1 d) := by
  have ed : d = ⟨n.val % 128, by omega⟩ := Fin.ext e.symm
  rw [ed]
  pointwise [gn]
  rw [dif_pos h]

theorem gn_hi (f g : FVec Ideal S128 .f32) (n : Fin 2048) (d : Fin 128) (h : 1024 ≤ n.val) (e : n.val % 128 = d.val) :
    gn f g (ix2 0 n) = g (ix1 d) := by
  have ed : d = ⟨(n.val - 1024) % 128, by omega⟩ := Fin.ext (by show d.val = (n.val - 1024) % 128; omega)
  rw [ed]
  pointwise [gn]
  rw [dif_neg (by omega)]

/-! ## The arrays the stages are entered with -/

theorem v3_eq : W5 m ρ c (Proc.devRef .tc main_v3) = wQ (aW m c) := by
  unfold_abbrev_sides
  after_results
  rfl

theorem v7_eq : W5 m ρ c (Proc.devRef .tc main_v7) = wK (aW m c) := by
  unfold_abbrev_sides
  after_results
  rfl

theorem v11_eq : W5 m ρ c (Proc.devRef .tc main_v11) = wV (aW m c) := by
  unfold_abbrev_sides
  after_results
  rfl

theorem v15_eq : W5 m ρ c (Proc.devRef .tc main_v15) = wZ (aW m c) := by
  unfold_abbrev_sides
  after_results
  rfl

theorem v18_eq : W5 m ρ c (Proc.devRef .tc main_v18) = wF (aW m c) := by
  unfold_abbrev_sides
  after_results
  rfl

theorem v26_eq : W5 m ρ c (Proc.devRef .tc main_v26) = gn (gQa m c) (gQb m c) := by
  unfold_abbrev_sides
  after_results
  rfl

theorem v34_eq : W5 m ρ c (Proc.devRef .tc main_v34) = gn (gKa m c) (gKb m c) := by
  unfold_abbrev_sides
  after_results
  rfl

theorem v36_eq : W5 m ρ c (Proc.devRef .tc main_v36) = bF (aB m c) := by
  unfold_abbrev_sides
  after_results
  rfl

theorem v37_eq : W5 m ρ c (Proc.devRef .tc main_v37) = shapeCast S8192x2048 (aX m c) shapeCasts_S4x2048x2048_S8192x2048 := by
  unfold_abbrev_sides
  after_results
  try rfl

theorem v38_eq : W5 m ρ c (Proc.devRef .tc main_v38) = shapeCast S1x2048 (aG m c) shapeCasts_S2048_S1x2048 := by
  unfold_abbrev_sides
  after_results
  try rfl

theorem v37_at (b : Fin 4) (t : Fin 2048) (j : Fin 2048) (r : Fin 8192) (e : r.val = 2048 * b.val + t.val) :
    shapeCast S8192x2048 (aX m c) shapeCasts_S4x2048x2048_S8192x2048 (ix2 r j) = aX m c (ix3 b t j) := by
  have er : r = ⟨2048 * b.val + t.val, by omega⟩ := Fin.ext e
  rw [er]
  pointwise

theorem v38_at (j : Fin 2048) : shapeCast S1x2048 (aG m c) shapeCasts_S2048_S1x2048 (ix2 0 j) = aG m c (ix1 j) := by
  pointwise

end Cert.ProjIdeal.Value

end
-- ==== Proof.ProjOut.lean ====
/-
  The input projection (prompt): the kernel's results, element by element.
-/
module

public import proofs.«01_k».proof.Proof.ProjHost

@[expose] public section

set_option maxRecDepth 16384

noncomputable section

namespace Cert.ProjIdeal.Value

open Idealize.ShloMosaic Idealize.SL.Sem Cert.ProjIdeal.Gen Cert.ProjSpec
open Idealize.ShloMosaic.TcCoe

variable (m : (ℓ : Loc nD τ sig) → Buf (Elt Ideal) ℓ) (ρ : Dev nD → PrngReg) (c : Dev nD)

/-! ## The arrays of each stage -/

theorem v3_in : W6 m ρ c (Proc.devRef .tc main_v3) = wQ (aW m c) :=
  (W6_of m ρ c main_v3 (by decide)).trans (v3_eq m ρ c)

theorem v26_in : W6 m ρ c (Proc.devRef .tc main_v26) = gn (gQa m c) (gQb m c) :=
  (W6_of m ρ c main_v26 (by decide)).trans (v26_eq m ρ c)

theorem v7_in : W7 m ρ c (Proc.devRef .tc main_v7) = wK (aW m c) :=
  ((W7_of m ρ c main_v7 (by decide)).trans (W6_of m ρ c main_v7 (by decide))).trans (v7_eq m ρ c)

theorem v34_in : W7 m ρ c (Proc.devRef .tc main_v34) = gn (gKa m c) (gKb m c) :=
  ((W7_of m ρ c main_v34 (by decide)).trans (W6_of m ρ c main_v34 (by decide))).trans (v34_eq m ρ c)

theorem v11_in : W9 m ρ c (Proc.devRef .tc main_v11) = wV (aW m c) :=
  ((((W9_of m ρ c main_v11 (by decide)).trans (W8_of m ρ c main_v11 (by decide))).trans (W7_of m ρ c main_v11 (by decide))).trans (W6_of m ρ c main_v11 (by decide))).trans (v11_eq m ρ c)

theorem v15_in : W11 m ρ c (Proc.devRef .tc main_v15) = wZ (aW m c) :=
  ((((((W11_of m ρ c main_v15 (by decide)).trans (W10_of m ρ c main_v15 (by decide))).trans (W9_of m ρ c main_v15 (by decide))).trans (W8_of m ρ c main_v15 (by decide))).trans (W7_of m ρ c main_v15 (by decide))).trans (W6_of m ρ c main_v15 (by decide))).trans (v15_eq m ρ c)

theorem v18_in : W12 m ρ c (Proc.devRef .tc main_v18) = wF (aW m c) :=
  (((((((W12_of m ρ c main_v18 (by decide)).trans (W11_of m ρ c main_v18 (by decide))).trans (W10_of m ρ c main_v18 (by decide))).trans (W9_of m ρ c main_v18 (by decide))).trans (W8_of m ρ c main_v18 (by decide))).trans (W7_of m ρ c main_v18 (by decide))).trans (W6_of m ρ c main_v18 (by decide))).trans (v18_eq m ρ c)

theorem v36_in : W12 m ρ c (Proc.devRef .tc main_v36) = bF (aB m c) :=
  (((((((W12_of m ρ c main_v36 (by decide)).trans (W11_of m ρ c main_v36 (by decide))).trans (W10_of m ρ c main_v36 (by decide))).trans (W9_of m ρ c main_v36 (by decide))).trans (W8_of m ρ c main_v36 (by decide))).trans (W7_of m ρ c main_v36 (by decide))).trans (W6_of m ρ c main_v36 (by decide))).trans (v36_eq m ρ c)

/-- The normed activations. -/
def nx : (A2 8192 2048).Idx → EReal := normed (R := 8192) (shapeCast S8192x2048 (aX m c) shapeCasts_S4x2048x2048_S8192x2048) (shapeCast S1x2048 (aG m c) shapeCasts_S2048_S1x2048)

theorem v39_6 : W6 m ρ c (Proc.devRef .tc main_v39) = nx m c := by
  refine (W6_arr m ρ c 2).trans ((final0 (V5 m ρ) c).trans ?_)
  have e1 : V5 m ρ c main_v37 = _ := v37_eq m ρ c
  have e2 : V5 m ρ c main_v38 = _ := v38_eq m ρ c
  rw [e1, e2]
  rfl

theorem v39_7 : W7 m ρ c (Proc.devRef .tc main_v39) = nx m c :=
  (W7_of m ρ c main_v39 (by decide)).trans (v39_6 m ρ c)

theorem v39_9 : W9 m ρ c (Proc.devRef .tc main_v39) = nx m c :=
  (((W9_of m ρ c main_v39 (by decide)).trans (W8_of m ρ c main_v39 (by decide))).trans (W7_of m ρ c main_v39 (by decide))).trans (v39_6 m ρ c)

theorem v39_11 : W11 m ρ c (Proc.devRef .tc main_v39) = nx m c :=
  (((((W11_of m ρ c main_v39 (by decide)).trans (W10_of m ρ c main_v39 (by decide))).trans (W9_of m ρ c main_v39 (by decide))).trans (W8_of m ρ c main_v39 (by decide))).trans (W7_of m ρ c main_v39 (by decide))).trans (v39_6 m ρ c)

theorem v39_12 : W12 m ρ c (Proc.devRef .tc main_v39) = nx m c :=
  ((((((W12_of m ρ c main_v39 (by decide)).trans (W11_of m ρ c main_v39 (by decide))).trans (W10_of m ρ c main_v39 (by decide))).trans (W9_of m ρ c main_v39 (by decide))).trans (W8_of m ρ c main_v39 (by decide))).trans (W7_of m ρ c main_v39 (by decide))).trans (v39_6 m ρ c)

theorem v40_out : W13 m ρ c (Proc.devRef .tc main_v40) = heads (by omega) (prod (R := 8192) (N := 2048) (nx m c) (wQ (aW m c))) (gn (gQa m c) (gQb m c)) := by
  refine (((((((W13_of m ρ c main_v40 (by decide)).trans (W12_of m ρ c main_v40 (by decide))).trans (W11_of m ρ c main_v40 (by decide))).trans (W10_of m ρ c main_v40 (by decide))).trans (W9_of m ρ c main_v40 (by decide))).trans (W8_of m ρ c main_v40 (by decide)))).trans ?_
  refine (W7_arr m ρ c 3).trans ((final1 (V6 m ρ) c).trans ?_)
  have e1 : V6 m ρ c main_v39 = _ := v39_6 m ρ c
  have e2 : V6 m ρ c main_v3 = _ := v3_in m ρ c
  have e3 : V6 m ρ c main_v26 = _ := v26_in m ρ c
  rw [e1, e2, e3]

theorem v41_0_out : W13 m ρ c (Proc.devRef .tc main_v41_0) = heads (by omega) (prod (R := 8192) (N := 2048) (nx m c) (wK (aW m c))) (gn (gKa m c) (gKb m c)) := by
  refine ((((((W13_of m ρ c main_v41_0 (by decide)).trans (W12_of m ρ c main_v41_0 (by decide))).trans (W11_of m ρ c main_v41_0 (by decide))).trans (W10_of m ρ c main_v41_0 (by decide))).trans (W9_of m ρ c main_v41_0 (by decide)))).trans ?_
  refine (W8_arr m ρ c 3).trans ((final2 (V7 m ρ) c).trans ?_)
  have e1 : V7 m ρ c main_v39 = _ := v39_7 m ρ c
  have e2 : V7 m ρ c main_v7 = _ := v7_in m ρ c
  have e3 : V7 m ρ c main_v34 = _ := v34_in m ρ c
  rw [e1, e2, e3]

theorem v43_0_out : W13 m ρ c (Proc.devRef .tc main_v43_0) = prod (R := 8192) (N := 2048) (nx m c) (wV (aW m c)) := by
  refine ((((W13_of m ρ c main_v43_0 (by decide)).trans (W12_of m ρ c main_v43_0 (by decide))).trans (W11_of m ρ c main_v43_0 (by decide)))).trans ?_
  refine (W10_arr m ρ c 3).trans ((final3 (V9 m ρ) c).trans ?_)
  have e1 : V9 m ρ c main_v39 = _ := v39_9 m ρ c
  have e2 : V9 m ρ c main_v11 = _ := v11_in m ρ c
  rw [e1, e2]

theorem v45_out : W13 m ρ c (Proc.devRef .tc main_v45) = gated (prod (R := 8192) (N := 4096) (nx m c) (wZ (aW m c))) := by
  refine ((W13_of m ρ c main_v45 (by decide))).trans ?_
  refine (W12_arr m ρ c 3).trans ((final4 (V11 m ρ) c).trans ?_)
  have e1 : V11 m ρ c main_v39 = _ := v39_11 m ρ c
  have e2 : V11 m ρ c main_v15 = _ := v15_in m ρ c
  rw [e1, e2]

theorem v46_out : W13 m ρ c (Proc.devRef .tc main_v46) = forget (prod (R := 8192) (N := 128) (nx m c) (wF (aW m c))) (bF (aB m c)) := by
  refine (W13_arr m ρ c 3).trans ((final5 (V12 m ρ) c).trans ?_)
  have e1 : V12 m ρ c main_v39 = _ := v39_12 m ρ c
  have e2 : V12 m ρ c main_v18 = _ := v18_in m ρ c
  have e3 : V12 m ρ c main_v36 = _ := v36_in m ρ c
  rw [e1, e2, e3]

/-- A token's normed activations. -/
def hx (X : FVec Ideal S4x2048x2048 .f32) (g : FVec Ideal S2048 .f32) (b : Fin 4) (t : Fin 2048) : Fin 2048 → EReal := fun k =>
  rms w2048 (fun j => X (ix3 b t j)) (fun j => g (ix1 j)) k

theorem nx_at (b : Fin 4) (t : Fin 2048) (r : Fin 8192) (e : r.val = 2048 * b.val + t.val) (k : Fin 2048) :
    nx m c (ix2 r k) = hx (aX m c) (aG m c) b t k := by
  show rms w2048 (fun j => shapeCast S8192x2048 (aX m c) shapeCasts_S4x2048x2048_S8192x2048 (ix2 r j)) (fun j => shapeCast S1x2048 (aG m c) shapeCasts_S2048_S1x2048 (ix2 0 j)) k = _
  rw [funext fun j => v37_at m c b t j r e, funext fun j => v38_at m c j]
  rfl

/-! ## The results -/

theorem v52_eq : W14 m ρ c (Proc.devRef .tc main_v52) = extractStridedSlice S4x512x8x128 ![0, 1536, 0, 0] (shapeCast S4x2048x16x128 (W13 m ρ c (Proc.devRef .tc main_v41_0)) shapeCasts_S8192x2048_S4x2048x16x128) slices_S4x2048x16x128_S4x512x8x128_0_1536_0_0 := by
  unfold_abbrev_sides
  after_results
  try rfl

theorem v53_eq : W14 m ρ c (Proc.devRef .tc main_v53) = extractStridedSlice S4x512x8x128 ![0, 1536, 0, 0] (shapeCast S4x2048x16x128 (W13 m ρ c (Proc.devRef .tc main_v43_0)) shapeCasts_S8192x2048_S4x2048x16x128) slices_S4x2048x16x128_S4x512x8x128_0_1536_0_0 := by
  unfold_abbrev_sides
  after_results
  try rfl

theorem v54_eq : W14 m ρ c (Proc.devRef .tc main_v54) = extractStridedSlice S4x2048x8x128 ![0, 0, 8, 0] (shapeCast S4x2048x16x128 (W13 m ρ c (Proc.devRef .tc main_v41_0)) shapeCasts_S8192x2048_S4x2048x16x128) slices_S4x2048x16x128_S4x2048x8x128_0_0_8_0 := by
  unfold_abbrev_sides
  after_results
  try rfl

theorem v55_eq : W14 m ρ c (Proc.devRef .tc main_v55) = extractStridedSlice S4x2048x8x128 ![0, 0, 8, 0] (shapeCast S4x2048x16x128 (W13 m ρ c (Proc.devRef .tc main_v43_0)) shapeCasts_S8192x2048_S4x2048x16x128) slices_S4x2048x16x128_S4x2048x8x128_0_0_8_0 := by
  unfold_abbrev_sides
  after_results
  try rfl

theorem v56_eq : W14 m ρ c (Proc.devRef .tc main_v56) = shapeCast S4x2048x8 (extractStridedSlice S8192x8 ![0, 0] (W13 m ρ c (Proc.devRef .tc main_v46)) slices_S8192x128_S8192x8_0_0) shapeCasts_S8192x8_S4x2048x8 := by
  unfold_abbrev_sides
  after_results
  try rfl

theorem v57_eq : W14 m ρ c (Proc.devRef .tc main_v57) = extractStridedSlice S4x2048x8x128 ![0, 0, 0, 0] (shapeCast S4x2048x16x128 (W13 m ρ c (Proc.devRef .tc main_v40)) shapeCasts_S8192x2048_S4x2048x16x128) slices_S4x2048x16x128_S4x2048x8x128_0_0_0_0 := by
  unfold_abbrev_sides
  after_results
  try rfl

theorem v58_eq : W14 m ρ c (Proc.devRef .tc main_v58) = extractStridedSlice S4x2048x8x128 ![0, 0, 8, 0] (shapeCast S4x2048x16x128 (W13 m ρ c (Proc.devRef .tc main_v40)) shapeCasts_S8192x2048_S4x2048x16x128) slices_S4x2048x16x128_S4x2048x8x128_0_0_8_0 := by
  unfold_abbrev_sides
  after_results
  try rfl

theorem v59_eq : W14 m ρ c (Proc.devRef .tc main_v59) = extractStridedSlice S4x2048x2048 ![0, 0, 0] (shapeCast S4x2048x4096 (W13 m ρ c (Proc.devRef .tc main_v45)) shapeCasts_S8192x4096_S4x2048x4096) slices_S4x2048x4096_S4x2048x2048_0_0_0 := by
  unfold_abbrev_sides
  after_results
  try rfl

theorem v60_eq : W14 m ρ c (Proc.devRef .tc main_v60) = extractStridedSlice S4x2048x2048 ![0, 0, 2048] (shapeCast S4x2048x4096 (W13 m ρ c (Proc.devRef .tc main_v45)) shapeCasts_S8192x4096_S4x2048x4096) slices_S4x2048x4096_S4x2048x2048_0_0_2048 := by
  unfold_abbrev_sides
  after_results
  try rfl

theorem cut_at (A : (A2 8192 2048).Idx → EReal) (b : Fin 4) (t : Fin 512) (h : Fin 8) (d : Fin 128) :
    (extractStridedSlice S4x512x8x128 ![0, 1536, 0, 0] (shapeCast (s := S8192x2048) S4x2048x16x128 A shapeCasts_S8192x2048_S4x2048x16x128) slices_S4x2048x16x128_S4x512x8x128_0_1536_0_0 : S4x512x8x128.Idx → EReal) (ix4 b t h d)
      = A (ix2 ⟨2048 * b.val + (1536 + t.val), by omega⟩ ⟨128 * (0 + h.val) + d.val, by omega⟩) := by
  pointwise
  exact at_congr A (by first | rfl | (dsimp only; omega)) (by first | rfl | (dsimp only; omega))

theorem lo_at (A : (A2 8192 2048).Idx → EReal) (b : Fin 4) (t : Fin 2048) (h : Fin 8) (d : Fin 128) :
    (extractStridedSlice S4x2048x8x128 ![0, 0, 0, 0] (shapeCast (s := S8192x2048) S4x2048x16x128 A shapeCasts_S8192x2048_S4x2048x16x128) slices_S4x2048x16x128_S4x2048x8x128_0_0_0_0 : S4x2048x8x128.Idx → EReal) (ix4 b t h d)
      = A (ix2 ⟨2048 * b.val + t.val, by omega⟩ ⟨128 * (0 + h.val) + d.val, by omega⟩) := by
  pointwise
  exact at_congr A (by first | rfl | (dsimp only; omega)) (by first | rfl | (dsimp only; omega))

theorem hi_at (A : (A2 8192 2048).Idx → EReal) (b : Fin 4) (t : Fin 2048) (h : Fin 8) (d : Fin 128) :
    (extractStridedSlice S4x2048x8x128 ![0, 0, 8, 0] (shapeCast (s := S8192x2048) S4x2048x16x128 A shapeCasts_S8192x2048_S4x2048x16x128) slices_S4x2048x16x128_S4x2048x8x128_0_0_8_0 : S4x2048x8x128.Idx → EReal) (ix4 b t h d)
      = A (ix2 ⟨2048 * b.val + t.val, by omega⟩ ⟨128 * (8 + h.val) + d.val, by omega⟩) := by
  pointwise
  exact at_congr A (by first | rfl | (dsimp only; omega)) (by first | rfl | (dsimp only; omega))

theorem zlo_at (A : (A2 8192 4096).Idx → EReal) (b : Fin 4) (t : Fin 2048) (n : Fin 2048) :
    (extractStridedSlice S4x2048x2048 ![0, 0, 0] (shapeCast (s := S8192x4096) S4x2048x4096 A shapeCasts_S8192x4096_S4x2048x4096) slices_S4x2048x4096_S4x2048x2048_0_0_0 : S4x2048x2048.Idx → EReal) (ix3 b t n) = A (ix2 ⟨2048 * b.val + t.val, by omega⟩ ⟨0 + n.val, by omega⟩) := by
  pointwise
  exact at_congr A (by first | rfl | (dsimp only; omega)) (by first | rfl | (dsimp only; omega))

theorem zhi_at (A : (A2 8192 4096).Idx → EReal) (b : Fin 4) (t : Fin 2048) (n : Fin 2048) :
    (extractStridedSlice S4x2048x2048 ![0, 0, 2048] (shapeCast (s := S8192x4096) S4x2048x4096 A shapeCasts_S8192x4096_S4x2048x4096) slices_S4x2048x4096_S4x2048x2048_0_0_2048 : S4x2048x2048.Idx → EReal) (ix3 b t n) = A (ix2 ⟨2048 * b.val + t.val, by omega⟩ ⟨2048 + n.val, by omega⟩) := by
  pointwise
  exact at_congr A (by first | rfl | (dsimp only; omega)) (by first | rfl | (dsimp only; omega))

theorem fg_at (A : (A2 8192 128).Idx → EReal) (b : Fin 4) (t : Fin 2048) (h : Fin 8) :
    (shapeCast S4x2048x8 (extractStridedSlice (s := S8192x128) S8192x8 ![0, 0] A slices_S8192x128_S8192x8_0_0) shapeCasts_S8192x8_S4x2048x8 : S4x2048x8.Idx → EReal) (ix3 b t h) = A (ix2 ⟨2048 * b.val + t.val, by omega⟩ ⟨h.val, by omega⟩) := by
  pointwise
  exact at_congr A (by first | rfl | (dsimp only; omega)) (by first | rfl | (dsimp only; omega))

/-! ## The results at an element -/

theorem v52_at (b : Fin 4) (t : Fin 512) (h : Fin 8) (d : Fin 128) :
    (W14 m ρ c (Proc.devRef .tc main_v52) : S4x512x8x128.Idx → EReal) (ix4 b t h d) = rms w128 (fun j => prd (hx (aX m c) (aG m c) b ⟨1536 + t.val, by omega⟩) (aW m c) ⟨1024 + (h.val * 128 + j.val), by omega⟩) (fun j => gKa m c (ix1 j)) d := by
  refine (congrFun (v52_eq m ρ c) _).trans ((cut_at _ b t h d).trans ((congrFun (v41_0_out m ρ c) _).trans ?_))
  refine heads_col (W := aW m c) (x := hx (aX m c) (aG m c) b ⟨1536 + t.val, by omega⟩) (by omega) (fun k => nx_at m c b ⟨1536 + t.val, by omega⟩ _ (by dsimp only) k)
    _ d (128 * h.val) (by omega) (by omega) (by first | rfl | (dsimp only; omega)) (fun j => ⟨1024 + (h.val * 128 + j.val), by omega⟩) (fun k j => ?_) fun j => ?_
  · exact wK_lo _ _ _ _ (by dsimp only; omega) (by dsimp only; omega)
  · exact gn_lo _ _ _ _ (by dsimp only; omega) (by dsimp only; omega)

theorem v53_at (b : Fin 4) (t : Fin 512) (h : Fin 8) (d : Fin 128) :
    (W14 m ρ c (Proc.devRef .tc main_v53) : S4x512x8x128.Idx → EReal) (ix4 b t h d)
      = prd (hx (aX m c) (aG m c) b ⟨1536 + t.val, by omega⟩) (aW m c) ⟨2048 + (h.val * 128 + d.val), by omega⟩ := by
  refine (congrFun (v53_eq m ρ c) _).trans ((cut_at _ b t h d).trans ((congrFun (v43_0_out m ρ c) _).trans ?_))
  exact prod_col (fun k => nx_at m c b ⟨1536 + t.val, by omega⟩ _ (by dsimp only) k) _ _ fun k => wV_lo _ _ _ _ (by dsimp only; omega) (by dsimp only; omega)

theorem v54_at (b : Fin 4) (t : Fin 2048) (h : Fin 8) (d : Fin 128) :
    (W14 m ρ c (Proc.devRef .tc main_v54) : S4x2048x8x128.Idx → EReal) (ix4 b t h d) = rms w128 (fun j => prd (hx (aX m c) (aG m c) b t) (aW m c) ⟨4096 + (h.val * 128 + j.val), by omega⟩) (fun j => gKb m c (ix1 j)) d := by
  refine (congrFun (v54_eq m ρ c) _).trans ((hi_at _ b t h d).trans ((congrFun (v41_0_out m ρ c) _).trans ?_))
  refine heads_col (W := aW m c) (x := hx (aX m c) (aG m c) b t) (by omega) (fun k => nx_at m c b t _ (by dsimp only) k)
    _ d (128 * (8 + h.val)) (by omega) (by omega) (by first | rfl | (dsimp only; omega)) (fun j => ⟨4096 + (h.val * 128 + j.val), by omega⟩) (fun k j => ?_) fun j => ?_
  · exact wK_hi _ _ _ _ (by dsimp only; omega) (by dsimp only; omega)
  · exact gn_hi _ _ _ _ (by dsimp only; omega) (by dsimp only; omega)

theorem v55_at (b : Fin 4) (t : Fin 2048) (h : Fin 8) (d : Fin 128) :
    (W14 m ρ c (Proc.devRef .tc main_v55) : S4x2048x8x128.Idx → EReal) (ix4 b t h d)
      = prd (hx (aX m c) (aG m c) b t) (aW m c) ⟨5120 + (h.val * 128 + d.val), by omega⟩ := by
  refine (congrFun (v55_eq m ρ c) _).trans ((hi_at _ b t h d).trans ((congrFun (v43_0_out m ρ c) _).trans ?_))
  exact prod_col (fun k => nx_at m c b t _ (by dsimp only) k) _ _ fun k => wV_hi _ _ _ _ (by dsimp only; omega) (by dsimp only; omega)

theorem v57_at (b : Fin 4) (t : Fin 2048) (h : Fin 8) (d : Fin 128) :
    (W14 m ρ c (Proc.devRef .tc main_v57) : S4x2048x8x128.Idx → EReal) (ix4 b t h d) = rms w128 (fun j => prd (hx (aX m c) (aG m c) b t) (aW m c) ⟨0 + (h.val * 128 + j.val), by omega⟩) (fun j => gQa m c (ix1 j)) d := by
  refine (congrFun (v57_eq m ρ c) _).trans ((lo_at _ b t h d).trans ((congrFun (v40_out m ρ c) _).trans ?_))
  refine heads_col (W := aW m c) (x := hx (aX m c) (aG m c) b t) (by omega) (fun k => nx_at m c b t _ (by dsimp only) k)
    _ d (128 * h.val) (by omega) (by omega) (by first | rfl | (dsimp only; omega)) (fun j => ⟨0 + (h.val * 128 + j.val), by omega⟩) (fun k j => ?_) fun j => ?_
  · exact wQ_lo _ _ _ _ (by dsimp only; omega) (by dsimp only; omega)
  · exact gn_lo _ _ _ _ (by dsimp only; omega) (by dsimp only; omega)

theorem v58_at (b : Fin 4) (t : Fin 2048) (h : Fin 8) (d : Fin 128) :
    (W14 m ρ c (Proc.devRef .tc main_v58) : S4x2048x8x128.Idx → EReal) (ix4 b t h d) = rms w128 (fun j => prd (hx (aX m c) (aG m c) b t) (aW m c) ⟨3072 + (h.val * 128 + j.val), by omega⟩) (fun j => gQb m c (ix1 j)) d := by
  refine (congrFun (v58_eq m ρ c) _).trans ((hi_at _ b t h d).trans ((congrFun (v40_out m ρ c) _).trans ?_))
  refine heads_col (W := aW m c) (x := hx (aX m c) (aG m c) b t) (by omega) (fun k => nx_at m c b t _ (by dsimp only) k)
    _ d (128 * (8 + h.val)) (by omega) (by omega) (by first | rfl | (dsimp only; omega)) (fun j => ⟨3072 + (h.val * 128 + j.val), by omega⟩) (fun k j => ?_) fun j => ?_
  · exact wQ_hi _ _ _ _ (by dsimp only; omega) (by dsimp only; omega)
  · exact gn_hi _ _ _ _ (by dsimp only; omega) (by dsimp only; omega)

theorem v59_at (b : Fin 4) (t : Fin 2048) (n : Fin 2048) :
    (W14 m ρ c (Proc.devRef .tc main_v59) : S4x2048x2048.Idx → EReal) (ix3 b t n)
      = Ideal.logistic (prd (hx (aX m c) (aG m c) b t) (aW m c) ⟨6152 + n.val, by omega⟩) := by
  refine (congrFun (v59_eq m ρ c) _).trans ((zlo_at _ b t n).trans ((congrFun (v45_out m ρ c) _).trans ?_))
  exact congrArg Ideal.logistic (prod_col (fun k => nx_at m c b t _ (by dsimp only) k) _ _ fun k => wZ_lo _ _ _ _ (by dsimp only; omega) (by dsimp only; omega))

theorem v60_at (b : Fin 4) (t : Fin 2048) (n : Fin 2048) :
    (W14 m ρ c (Proc.devRef .tc main_v60) : S4x2048x2048.Idx → EReal) (ix3 b t n)
      = Ideal.logistic (prd (hx (aX m c) (aG m c) b t) (aW m c) ⟨8200 + n.val, by omega⟩) := by
  refine (congrFun (v60_eq m ρ c) _).trans ((zhi_at _ b t n).trans ((congrFun (v45_out m ρ c) _).trans ?_))
  exact congrArg Ideal.logistic (prod_col (fun k => nx_at m c b t _ (by dsimp only) k) _ _ fun k => wZ_hi _ _ _ _ (by dsimp only; omega) (by dsimp only; omega))

theorem v56_at (b : Fin 4) (t : Fin 2048) (h : Fin 8) :
    (W14 m ρ c (Proc.devRef .tc main_v56) : S4x2048x8.Idx → EReal) (ix3 b t h)
      = lsig (prd (hx (aX m c) (aG m c) b t) (aW m c) ⟨6144 + h.val, by omega⟩ + aB m c (ix1 h)) := by
  refine (congrFun (v56_eq m ρ c) _).trans ((fg_at _ b t h).trans ((congrFun (v46_out m ρ c) _).trans ?_))
  exact congrArg lsig (congrArg₂ (· + ·) (prod_col (fun k => nx_at m c b t _ (by dsimp only) k) _ _ fun k => wF_at _ _ _ _ (by dsimp only; omega) (by dsimp only))
    (bF_at _ _ h rfl))

end Cert.ProjIdeal.Value

end
-- ==== Proof.ProjRun.lean ====
/-
  The run of the input projection (prompt): every result is what the last stretch of host operations leaves.
-/
module

public import proofs.«01_k».proof.Proof.Gen.ProjIdeal.Frame
public import Idealize.ShloMosaic.Lib.Pointwise
public import Idealize.ShloMosaic.Lib.Pipeline.FrameSuffix
public import Idealize.ShloMosaic.Lib.Pipeline.RegionsLoop

@[expose] public section

set_option maxRecDepth 16384

noncomputable section

namespace Cert.ProjIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every result ends as the last boundary's contents, every argument as launched. -/
theorem run_last : θ_run defs (onTc (τ := τ) (main (F := Ideal))) ⟨m, fun _ => 0, ρ⟩ (fun r => ∀ c : Dev nD,
      r.2.mem ((c.tc : Thread nD τ).loc main_v52) = W14 m ρ c (Proc.devRef .tc main_v52)
      ∧ r.2.mem ((c.tc : Thread nD τ).loc main_v53) = W14 m ρ c (Proc.devRef .tc main_v53)
      ∧ r.2.mem ((c.tc : Thread nD τ).loc main_v54) = W14 m ρ c (Proc.devRef .tc main_v54)
      ∧ r.2.mem ((c.tc : Thread nD τ).loc main_v55) = W14 m ρ c (Proc.devRef .tc main_v55)
      ∧ r.2.mem ((c.tc : Thread nD τ).loc main_v56) = W14 m ρ c (Proc.devRef .tc main_v56)
      ∧ r.2.mem ((c.tc : Thread nD τ).loc main_v57) = W14 m ρ c (Proc.devRef .tc main_v57)
      ∧ r.2.mem ((c.tc : Thread nD τ).loc main_v58) = W14 m ρ c (Proc.devRef .tc main_v58)
      ∧ r.2.mem ((c.tc : Thread nD τ).loc main_v59) = W14 m ρ c (Proc.devRef .tc main_v59)
      ∧ r.2.mem ((c.tc : Thread nD τ).loc main_v60) = W14 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h _ c =>
      ⟨h c _ (mem_uc main_v52 (by decide)),
       h c _ (mem_uc main_v53 (by decide)),
       h c _ (mem_uc main_v54 (by decide)),
       h c _ (mem_uc main_v55 (by decide)),
       h c _ (mem_uc main_v56 (by decide)),
       h c _ (mem_uc main_v57 (by decide)),
       h c _ (mem_uc main_v58 (by decide)),
       h c _ (mem_uc main_v59 (by decide)),
       h c _ (mem_uc main_v60 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c)⟩)

end Cert.ProjIdeal.Value

end
-- ==== Proof.ProjRef.lean ====
/-
  The reference of the input projection (prompt), each result at an element.
-/
module

public import proofs.«01_k».proof.Proof.ProjSpec
public import proofs.«01_k».proof.Proof.Gen.ProjRefIdeal.Run

@[expose] public section

set_option maxRecDepth 16384

noncomputable section

namespace Cert.ProjRefIdeal.Value

open Idealize.ShloMosaic Idealize.SL.Sem Cert.ProjRefIdeal.Gen Cert.ProjSpec

/-- The activations, each row normed. -/
def rX (X : FVec Ideal S4x2048x2048 .f32) (g : FVec Ideal S2048 .f32) : FVec Ideal S4x2048x2048 .f32 :=
  mulf (mulf X (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf X X) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32))))))
    (broadcastInDim S4x2048x2048 ![0, 1, 2] bcast_S1x1x2048_S4x2048x2048_0_1_2 (broadcastInDim S1x1x2048 ![2] bcast_S2048_S1x1x2048_2 g))

/-- The product with every column of the weights. -/
def rP (H : FVec Ideal S4x2048x2048 .f32) (W : FVec Ideal S2048x10248 .f32) : FVec Ideal S4x2048x10248 .f32 :=
  Host.dotGeneral dot_S4x2048x2048_S2048x10248_S4x2048x10248_2_0_01_1_n_n none H W

/-- The norm of each head. -/
def rN (y : FVec Ideal S4x2048x8x128 .f32) (g : FVec Ideal S128 .f32) : FVec Ideal S4x2048x8x128 .f32 :=
  mulf (mulf y (broadcastInDim S4x2048x8x128 ![0, 1, 2, 3] bcast_S4x2048x8x1_S4x2048x8x128_0_1_2_3 (Host.rsqrt (addf (Host.divf (broadcastInDim S4x2048x8x1 ![0, 1, 2] bcast_S4x2048x8_S4x2048x8x1_0_1_2 (Host.reduceAdd (mulf y y) (constant S_ .f32 0x00000000#32) reducesTo_S4x2048x8x128_S4x2048x8_d3 h_S_)) (broadcastInDim S4x2048x8x1 ![] bcast_S_S4x2048x8x1 (constant S_ .f32 0x43000000#32))) (broadcastInDim S4x2048x8x1 ![] bcast_S_S4x2048x8x1 (constant S_ .f32 0x358637BD#32))))))
    (broadcastInDim S4x2048x8x128 ![0, 1, 2, 3] bcast_S1x1x1x128_S4x2048x8x128_0_1_2_3 (broadcastInDim S1x1x1x128 ![3] bcast_S128_S1x1x1x128_3 g))

/-- The gates. -/
def rG (z : FVec Ideal S4x2048x2048 .f32) : FVec Ideal S4x2048x2048 .bf16 :=
  truncf .bf16 (Host.divf (broadcastInDim S4x2048x2048 ![] bcast_S_S4x2048x2048 (constant S_ .f32 0x3F800000#32)) (addf (broadcastInDim S4x2048x2048 ![] bcast_S_S4x2048x2048 (constant S_ .f32 0x3F800000#32)) (Host.exp (Host.negf z)))) bitsLt_bf16_f32

/-- The forget values before and after the log-sigmoid. -/
def rZ (P : FVec Ideal S4x2048x10248 .f32) (b : FVec Ideal S8 .f32) : FVec Ideal S4x2048x8 .f32 :=
  addf (extractStridedSlice S4x2048x8 ![0, 0, 6144] P slices_S4x2048x10248_S4x2048x8_0_0_6144) (broadcastInDim S4x2048x8 ![0, 1, 2] bcast_S1x1x8_S4x2048x8_0_1_2 (broadcastInDim S1x1x8 ![2] bcast_S8_S1x1x8_2 b))

def rL (z : FVec Ideal S4x2048x8 .f32) : FVec Ideal S4x2048x8 .f32 :=
  Host.negf (select (cmpf .une (subf (Host.negf z) (broadcastInDim S4x2048x8 ![] bcast_S_S4x2048x8 (constant S_ .f32 0x00000000#32))) (subf (Host.negf z) (broadcastInDim S4x2048x8 ![] bcast_S_S4x2048x8 (constant S_ .f32 0x00000000#32))))
    (addf (Host.negf z) (broadcastInDim S4x2048x8 ![] bcast_S_S4x2048x8 (constant S_ .f32 0x00000000#32)))
    (addf (maximumf (Host.negf z) (broadcastInDim S4x2048x8 ![] bcast_S_S4x2048x8 (constant S_ .f32 0x00000000#32)))
      (Host.log1p (Host.exp (Host.negf (Host.absf (subf (Host.negf z) (broadcastInDim S4x2048x8 ![] bcast_S_S4x2048x8 (constant S_ .f32 0x00000000#32)))))))))

theorem rX_at (X : FVec Ideal S4x2048x2048 .f32) (g : FVec Ideal S2048 .f32) (b : Fin 4) (t : Fin 2048) (d : Fin 2048) :
    rX X g (ix3 b t d) = rms w2048 (fun j => X (ix3 b t j)) (fun j => g (ix1 j)) d := by
  pointwise [rX]
  rfl

theorem rP_at (H : FVec Ideal S4x2048x2048 .f32) (W : FVec Ideal S2048x10248 .f32) (b : Fin 4) (t : Fin 2048) (n : Fin 10248) :
    rP H W (ix3 b t n) = prd (fun k => H (ix3 b t k)) W n := by
  pointwise [rP]
  rfl

theorem rN_at (y : FVec Ideal S4x2048x8x128 .f32) (g : FVec Ideal S128 .f32) (b : Fin 4) (t : Fin 2048) (h : Fin 8) (d : Fin 128) :
    rN y g (ix4 b t h d) = rms w128 (fun j => y (ix4 b t h j)) (fun j => g (ix1 j)) d := by
  pointwise [rN]
  rfl

theorem rG_at (z : FVec Ideal S4x2048x2048 .f32) (b : Fin 4) (t : Fin 2048) (n : Fin 2048) :
    rG z (ix3 b t n) = Ideal.logistic (z (ix3 b t n)) := by
  pointwise [rG]
  rfl

theorem rZ_at (P : FVec Ideal S4x2048x10248 .f32) (g : FVec Ideal S8 .f32) (b : Fin 4) (t : Fin 2048) (h : Fin 8) :
    rZ P g (ix3 b t h) = P (ix3 b t ⟨6144 + h.val, by omega⟩) + g (ix1 h) := by
  pointwise [rZ]

theorem rL_at (z : FVec Ideal S4x2048x8 .f32) (b : Fin 4) (t : Fin 2048) (h : Fin 8) :
    rL z (ix3 b t h) = lsig (z (ix3 b t h)) := by
  rw [← lsig_ref]
  pointwise [rL]
  simp only [ne_eq, not_true_eq_false, if_false]
  rfl

/-- Eight heads' columns, from column 0 on. -/
def rH0 (P : FVec Ideal S4x2048x10248 .f32) : FVec Ideal S4x2048x8x128 .f32 :=
  shapeCast S4x2048x8x128 (extractStridedSlice S4x2048x1024 ![0, 0, 0] P slices_S4x2048x10248_S4x2048x1024_0_0_0) shapeCasts_S4x2048x1024_S4x2048x8x128

theorem rH0_at (P : FVec Ideal S4x2048x10248 .f32) (b : Fin 4) (t : Fin 2048) (h : Fin 8) (d : Fin 128) :
    rH0 P (ix4 b t h d) = P (ix3 b t ⟨0 + (h.val * 128 + d.val), by omega⟩) := by
  pointwise [rH0]

/-- Eight heads' columns, from column 1024 on. -/
def rH1024 (P : FVec Ideal S4x2048x10248 .f32) : FVec Ideal S4x2048x8x128 .f32 :=
  shapeCast S4x2048x8x128 (extractStridedSlice S4x2048x1024 ![0, 0, 1024] P slices_S4x2048x10248_S4x2048x1024_0_0_1024) shapeCasts_S4x2048x1024_S4x2048x8x128

theorem rH1024_at (P : FVec Ideal S4x2048x10248 .f32) (b : Fin 4) (t : Fin 2048) (h : Fin 8) (d : Fin 128) :
    rH1024 P (ix4 b t h d) = P (ix3 b t ⟨1024 + (h.val * 128 + d.val), by omega⟩) := by
  pointwise [rH1024]

/-- Eight heads' columns, from column 2048 on. -/
def rH2048 (P : FVec Ideal S4x2048x10248 .f32) : FVec Ideal S4x2048x8x128 .f32 :=
  shapeCast S4x2048x8x128 (extractStridedSlice S4x2048x1024 ![0, 0, 2048] P slices_S4x2048x10248_S4x2048x1024_0_0_2048) shapeCasts_S4x2048x1024_S4x2048x8x128

theorem rH2048_at (P : FVec Ideal S4x2048x10248 .f32) (b : Fin 4) (t : Fin 2048) (h : Fin 8) (d : Fin 128) :
    rH2048 P (ix4 b t h d) = P (ix3 b t ⟨2048 + (h.val * 128 + d.val), by omega⟩) := by
  pointwise [rH2048]

/-- Eight heads' columns, from column 3072 on. -/
def rH3072 (P : FVec Ideal S4x2048x10248 .f32) : FVec Ideal S4x2048x8x128 .f32 :=
  shapeCast S4x2048x8x128 (extractStridedSlice S4x2048x1024 ![0, 0, 3072] P slices_S4x2048x10248_S4x2048x1024_0_0_3072) shapeCasts_S4x2048x1024_S4x2048x8x128

theorem rH3072_at (P : FVec Ideal S4x2048x10248 .f32) (b : Fin 4) (t : Fin 2048) (h : Fin 8) (d : Fin 128) :
    rH3072 P (ix4 b t h d) = P (ix3 b t ⟨3072 + (h.val * 128 + d.val), by omega⟩) := by
  pointwise [rH3072]

/-- Eight heads' columns, from column 4096 on. -/
def rH4096 (P : FVec Ideal S4x2048x10248 .f32) : FVec Ideal S4x2048x8x128 .f32 :=
  shapeCast S4x2048x8x128 (extractStridedSlice S4x2048x1024 ![0, 0, 4096] P slices_S4x2048x10248_S4x2048x1024_0_0_4096) shapeCasts_S4x2048x1024_S4x2048x8x128

theorem rH4096_at (P : FVec Ideal S4x2048x10248 .f32) (b : Fin 4) (t : Fin 2048) (h : Fin 8) (d : Fin 128) :
    rH4096 P (ix4 b t h d) = P (ix3 b t ⟨4096 + (h.val * 128 + d.val), by omega⟩) := by
  pointwise [rH4096]

/-- Eight heads' columns, from column 5120 on. -/
def rH5120 (P : FVec Ideal S4x2048x10248 .f32) : FVec Ideal S4x2048x8x128 .f32 :=
  shapeCast S4x2048x8x128 (extractStridedSlice S4x2048x1024 ![0, 0, 5120] P slices_S4x2048x10248_S4x2048x1024_0_0_5120) shapeCasts_S4x2048x1024_S4x2048x8x128

theorem rH5120_at (P : FVec Ideal S4x2048x10248 .f32) (b : Fin 4) (t : Fin 2048) (h : Fin 8) (d : Fin 128) :
    rH5120 P (ix4 b t h d) = P (ix3 b t ⟨5120 + (h.val * 128 + d.val), by omega⟩) := by
  pointwise [rH5120]

def rS6152 (P : FVec Ideal S4x2048x10248 .f32) : FVec Ideal S4x2048x2048 .f32 :=
  extractStridedSlice S4x2048x2048 ![0, 0, 6152] P slices_S4x2048x10248_S4x2048x2048_0_0_6152

theorem rS6152_at (P : FVec Ideal S4x2048x10248 .f32) (b : Fin 4) (t : Fin 2048) (n : Fin 2048) :
    rS6152 P (ix3 b t n) = P (ix3 b t ⟨6152 + n.val, by omega⟩) := by
  pointwise [rS6152]

def rS8200 (P : FVec Ideal S4x2048x10248 .f32) : FVec Ideal S4x2048x2048 .f32 :=
  extractStridedSlice S4x2048x2048 ![0, 0, 8200] P slices_S4x2048x10248_S4x2048x2048_0_0_8200

theorem rS8200_at (P : FVec Ideal S4x2048x10248 .f32) (b : Fin 4) (t : Fin 2048) (n : Fin 2048) :
    rS8200 P (ix3 b t n) = P (ix3 b t ⟨8200 + n.val, by omega⟩) := by
  pointwise [rS8200]

/-- The whole product. -/
def pr (m : (ℓ : Loc nD τ sig) → Buf (Elt Ideal) ℓ) (c : Dev nD) : FVec Ideal S4x2048x10248 .f32 :=
  rP (rX (m ((c.tc : Thread nD τ).loc main_arg0)) (m ((c.tc : Thread nD τ).loc main_arg1))) (m ((c.tc : Thread nD τ).loc main_arg2))

/-- Each result of the reference as its parts. -/
theorem run_parts (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v97) = extractStridedSlice S4x512x8x128 ![0, 1536, 0, 0] (rN (rH1024 (pr m c)) (m ((c.tc : Thread nD τ).loc main_arg5))) slices_S4x2048x8x128_S4x512x8x128_0_1536_0_0
      ∧ r.2.mem ((c.tc : Thread nD τ).loc main_v98) = extractStridedSlice S4x512x8x128 ![0, 1536, 0, 0] (rH2048 (pr m c)) slices_S4x2048x8x128_S4x512x8x128_0_1536_0_0
      ∧ r.2.mem ((c.tc : Thread nD τ).loc main_v78) = rN (rH4096 (pr m c)) (m ((c.tc : Thread nD τ).loc main_arg7))
      ∧ r.2.mem ((c.tc : Thread nD τ).loc main_v84) = rH5120 (pr m c)
      ∧ r.2.mem ((c.tc : Thread nD τ).loc main_v82) = rL (rZ (pr m c) (m ((c.tc : Thread nD τ).loc main_arg3)))
      ∧ r.2.mem ((c.tc : Thread nD τ).loc main_v99) = truncf .bf16 (rN (rH0 (pr m c)) (m ((c.tc : Thread nD τ).loc main_arg4))) bitsLt_bf16_f32
      ∧ r.2.mem ((c.tc : Thread nD τ).loc main_v100) = truncf .bf16 (rN (rH3072 (pr m c)) (m ((c.tc : Thread nD τ).loc main_arg6))) bitsLt_bf16_f32
      ∧ r.2.mem ((c.tc : Thread nD τ).loc main_v101) = rG (rS6152 (pr m c))
      ∧ r.2.mem ((c.tc : Thread nD τ).loc main_v102) = rG (rS8200 (pr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono (fun r h c => ?_) (run m ρ)
  obtain ⟨h0, h1, h2, h3, h4, h5, h6, h7, h8, ha⟩ := h c
  exact ⟨h0, h1, h2, h3, h4.trans (by unfold res_main_v82 rL rZ pr rP rX; rfl), h5, h6, h7, h8, ha⟩

end Cert.ProjRefIdeal.Value

end
-- ==== Proof.ProjValue.lean ====
/-
  The input projection (prompt): kernel and reference end with equal results.
-/
module

public import proofs.«01_k».proof.Defs
public import proofs.«01_k».proof.Proof.Gen.ProjIdeal.Frame
public import proofs.«01_k».proof.Proof.ProjOut
public import proofs.«01_k».proof.Proof.ProjRun
public import proofs.«01_k».proof.Proof.ProjRef

@[expose] public section

set_option maxRecDepth 16384

noncomputable section

namespace Cert.ProjValue

open Idealize.ShloMosaic Idealize.SL.Sem Cert.ProjSpec
open Cert.ProjRefIdeal Cert.ProjRefIdeal.Gen Cert.ProjRefIdeal.Value

/-! ## The reference's results at an element -/

/-- The reference's product of the normed activations. -/
def prA (X : FVec Ideal S4x2048x2048 .f32) (g : FVec Ideal S2048 .f32) (W : FVec Ideal S2048x10248 .f32) : FVec Ideal S4x2048x10248 .f32 :=
  rP (rX X g) W

variable (X : FVec Ideal S4x2048x2048 .f32) (g : FVec Ideal S2048 .f32) (W : FVec Ideal S2048x10248 .f32)

theorem prA_at (b : Fin 4) (t : Fin 2048) (n : Fin 10248) :
    prA X g W (ix3 b t n) = prd (fun k => rms w2048 (fun j => X (ix3 b t j)) (fun j => g (ix1 j)) k) W n := by
  unfold prA
  rw [rP_at]
  exact congrArg (prd · W n) (funext fun k => rX_at X g b t k)

theorem head0_at (k : FVec Ideal S128 .f32) (b : Fin 4) (t : Fin 2048) (h : Fin 8) (d : Fin 128) :
    rN (rH0 (prA X g W)) k (ix4 b t h d)
      = rms w128 (fun j => prd (fun k => rms w2048 (fun j => X (ix3 b t j)) (fun j => g (ix1 j)) k) W ⟨0 + (h.val * 128 + j.val), by omega⟩) (fun j => k (ix1 j)) d := by
  rw [rN_at]
  exact congrArg (rms w128 · _ d) (funext fun j => (rH0_at _ b t h j).trans (prA_at X g W b t _))

theorem head1024_at (k : FVec Ideal S128 .f32) (b : Fin 4) (t : Fin 2048) (h : Fin 8) (d : Fin 128) :
    rN (rH1024 (prA X g W)) k (ix4 b t h d)
      = rms w128 (fun j => prd (fun k => rms w2048 (fun j => X (ix3 b t j)) (fun j => g (ix1 j)) k) W ⟨1024 + (h.val * 128 + j.val), by omega⟩) (fun j => k (ix1 j)) d := by
  rw [rN_at]
  exact congrArg (rms w128 · _ d) (funext fun j => (rH1024_at _ b t h j).trans (prA_at X g W b t _))

theorem head3072_at (k : FVec Ideal S128 .f32) (b : Fin 4) (t : Fin 2048) (h : Fin 8) (d : Fin 128) :
    rN (rH3072 (prA X g W)) k (ix4 b t h d)
      = rms w128 (fun j => prd (fun k => rms w2048 (fun j => X (ix3 b t j)) (fun j => g (ix1 j)) k) W ⟨3072 + (h.val * 128 + j.val), by omega⟩) (fun j => k (ix1 j)) d := by
  rw [rN_at]
  exact congrArg (rms w128 · _ d) (funext fun j => (rH3072_at _ b t h j).trans (prA_at X g W b t _))

theorem head4096_at (k : FVec Ideal S128 .f32) (b : Fin 4) (t : Fin 2048) (h : Fin 8) (d : Fin 128) :
    rN (rH4096 (prA X g W)) k (ix4 b t h d)
      = rms w128 (fun j => prd (fun k => rms w2048 (fun j => X (ix3 b t j)) (fun j => g (ix1 j)) k) W ⟨4096 + (h.val * 128 + j.val), by omega⟩) (fun j => k (ix1 j)) d := by
  rw [rN_at]
  exact congrArg (rms w128 · _ d) (funext fun j => (rH4096_at _ b t h j).trans (prA_at X g W b t _))

theorem head2048_at (b : Fin 4) (t : Fin 2048) (h : Fin 8) (d : Fin 128) :
    rH2048 (prA X g W) (ix4 b t h d) = prd (fun k => rms w2048 (fun j => X (ix3 b t j)) (fun j => g (ix1 j)) k) W ⟨2048 + (h.val * 128 + d.val), by omega⟩ :=
  (rH2048_at _ b t h d).trans (prA_at X g W b t _)

theorem head5120_at (b : Fin 4) (t : Fin 2048) (h : Fin 8) (d : Fin 128) :
    rH5120 (prA X g W) (ix4 b t h d) = prd (fun k => rms w2048 (fun j => X (ix3 b t j)) (fun j => g (ix1 j)) k) W ⟨5120 + (h.val * 128 + d.val), by omega⟩ :=
  (rH5120_at _ b t h d).trans (prA_at X g W b t _)

theorem gate6152_at (b : Fin 4) (t : Fin 2048) (n : Fin 2048) :
    rG (rS6152 (prA X g W)) (ix3 b t n) = Ideal.logistic (prd (fun k => rms w2048 (fun j => X (ix3 b t j)) (fun j => g (ix1 j)) k) W ⟨6152 + n.val, by omega⟩) :=
  (rG_at _ b t n).trans (congrArg Ideal.logistic ((rS6152_at _ b t n).trans (prA_at X g W b t _)))

theorem gate8200_at (b : Fin 4) (t : Fin 2048) (n : Fin 2048) :
    rG (rS8200 (prA X g W)) (ix3 b t n) = Ideal.logistic (prd (fun k => rms w2048 (fun j => X (ix3 b t j)) (fun j => g (ix1 j)) k) W ⟨8200 + n.val, by omega⟩) :=
  (rG_at _ b t n).trans (congrArg Ideal.logistic ((rS8200_at _ b t n).trans (prA_at X g W b t _)))

theorem forget_at (f : FVec Ideal S8 .f32) (b : Fin 4) (t : Fin 2048) (h : Fin 8) :
    rL (rZ (prA X g W) f) (ix3 b t h) = lsig (prd (fun k => rms w2048 (fun j => X (ix3 b t j)) (fun j => g (ix1 j)) k) W ⟨6144 + h.val, by omega⟩ + f (ix1 h)) :=
  (rL_at _ b t h).trans (congrArg lsig ((rZ_at _ f b t h).trans (congrArg (· + f (ix1 h)) (prA_at X g W b t _))))

/-- The last 512 tokens. -/
theorem tail_at (y : FVec Ideal S4x2048x8x128 .f32) (b : Fin 4) (t : Fin 512) (h : Fin 8) (d : Fin 128) :
    extractStridedSlice S4x512x8x128 ![0, 1536, 0, 0] y slices_S4x2048x8x128_S4x512x8x128_0_1536_0_0 (ix4 b t h d) = y (ix4 b ⟨1536 + t.val, by omega⟩ h d) := by
  pointwise

/-! ## The two programs -/

theorem results_eq (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (c : Dev Cert.ProjIdeal.nD)
    (h0 : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0))
    (h1 : m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1))
    (h2 : m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2))
    (h3 : m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3))
    (h4 : m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4))
    (h5 : m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5))
    (h6 : m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6))
    (h7 : m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)) :
    extractStridedSlice S4x512x8x128 ![0, 1536, 0, 0] (rN (rH1024 (pr m' c)) (m' ((c.tc : Thread Cert.ProjRefIdeal.nD Cert.ProjRefIdeal.τ).loc Cert.ProjRefIdeal.main_arg5))) slices_S4x2048x8x128_S4x512x8x128_0_1536_0_0 = Cert.ProjIdeal.Gen.W14 m g c (Proc.devRef .tc Cert.ProjIdeal.main_v52)
    ∧ extractStridedSlice S4x512x8x128 ![0, 1536, 0, 0] (rH2048 (pr m' c)) slices_S4x2048x8x128_S4x512x8x128_0_1536_0_0 = Cert.ProjIdeal.Gen.W14 m g c (Proc.devRef .tc Cert.ProjIdeal.main_v53)
    ∧ rN (rH4096 (pr m' c)) (m' ((c.tc : Thread Cert.ProjRefIdeal.nD Cert.ProjRefIdeal.τ).loc Cert.ProjRefIdeal.main_arg7)) = Cert.ProjIdeal.Gen.W14 m g c (Proc.devRef .tc Cert.ProjIdeal.main_v54)
    ∧ rH5120 (pr m' c) = Cert.ProjIdeal.Gen.W14 m g c (Proc.devRef .tc Cert.ProjIdeal.main_v55)
    ∧ rL (rZ (pr m' c) (m' ((c.tc : Thread Cert.ProjRefIdeal.nD Cert.ProjRefIdeal.τ).loc Cert.ProjRefIdeal.main_arg3))) = Cert.ProjIdeal.Gen.W14 m g c (Proc.devRef .tc Cert.ProjIdeal.main_v56)
    ∧ truncf .bf16 (rN (rH0 (pr m' c)) (m' ((c.tc : Thread Cert.ProjRefIdeal.nD Cert.ProjRefIdeal.τ).loc Cert.ProjRefIdeal.main_arg4))) bitsLt_bf16_f32 = Cert.ProjIdeal.Gen.W14 m g c (Proc.devRef .tc Cert.ProjIdeal.main_v57)
    ∧ truncf .bf16 (rN (rH3072 (pr m' c)) (m' ((c.tc : Thread Cert.ProjRefIdeal.nD Cert.ProjRefIdeal.τ).loc Cert.ProjRefIdeal.main_arg6))) bitsLt_bf16_f32 = Cert.ProjIdeal.Gen.W14 m g c (Proc.devRef .tc Cert.ProjIdeal.main_v58)
    ∧ rG (rS6152 (pr m' c)) = Cert.ProjIdeal.Gen.W14 m g c (Proc.devRef .tc Cert.ProjIdeal.main_v59)
    ∧ rG (rS8200 (pr m' c)) = Cert.ProjIdeal.Gen.W14 m g c (Proc.devRef .tc Cert.ProjIdeal.main_v60) := by
  have hp : pr m' c = (prA (Cert.ProjIdeal.Value.aX m c) (Cert.ProjIdeal.Value.aG m c) (Cert.ProjIdeal.Value.aW m c)) := by
    unfold pr prA
    rw [h0, h1, h2]
  rw [hp, h3, h4, h5, h6, h7]
  refine ⟨?_, ?_, ?_, ?_, ?_, ?_, ?_, ?_, ?_⟩
  · funext i
    obtain ⟨b, t, h, d, rfl⟩ := ix4_ex i
    exact ((tail_at _ b t h d).trans (head1024_at (Cert.ProjIdeal.Value.aX m c) (Cert.ProjIdeal.Value.aG m c) (Cert.ProjIdeal.Value.aW m c) (Cert.ProjIdeal.Value.gKa m c) b ⟨1536 + t.val, by omega⟩ h d)).trans (Cert.ProjIdeal.Value.v52_at m g c b t h d).symm
  · funext i
    obtain ⟨b, t, h, d, rfl⟩ := ix4_ex i
    exact ((tail_at _ b t h d).trans (head2048_at (Cert.ProjIdeal.Value.aX m c) (Cert.ProjIdeal.Value.aG m c) (Cert.ProjIdeal.Value.aW m c)  b ⟨1536 + t.val, by omega⟩ h d)).trans (Cert.ProjIdeal.Value.v53_at m g c b t h d).symm
  · funext i
    obtain ⟨b, t, h, d, rfl⟩ := ix4_ex i
    exact (head4096_at (Cert.ProjIdeal.Value.aX m c) (Cert.ProjIdeal.Value.aG m c) (Cert.ProjIdeal.Value.aW m c) (Cert.ProjIdeal.Value.gKb m c) b t h d).trans (Cert.ProjIdeal.Value.v54_at m g c b t h d).symm
  · funext i
    obtain ⟨b, t, h, d, rfl⟩ := ix4_ex i
    exact (head5120_at (Cert.ProjIdeal.Value.aX m c) (Cert.ProjIdeal.Value.aG m c) (Cert.ProjIdeal.Value.aW m c)  b t h d).trans (Cert.ProjIdeal.Value.v55_at m g c b t h d).symm
  · funext i
    obtain ⟨b, t, h, rfl⟩ := ix3_ex i
    exact (forget_at (Cert.ProjIdeal.Value.aX m c) (Cert.ProjIdeal.Value.aG m c) (Cert.ProjIdeal.Value.aW m c) (Cert.ProjIdeal.Value.aB m c) b t h).trans (Cert.ProjIdeal.Value.v56_at m g c b t h).symm
  · funext i
    obtain ⟨b, t, h, d, rfl⟩ := ix4_ex i
    exact (head0_at (Cert.ProjIdeal.Value.aX m c) (Cert.ProjIdeal.Value.aG m c) (Cert.ProjIdeal.Value.aW m c) (Cert.ProjIdeal.Value.gQa m c) b t h d).trans (Cert.ProjIdeal.Value.v57_at m g c b t h d).symm
  · funext i
    obtain ⟨b, t, h, d, rfl⟩ := ix4_ex i
    exact (head3072_at (Cert.ProjIdeal.Value.aX m c) (Cert.ProjIdeal.Value.aG m c) (Cert.ProjIdeal.Value.aW m c) (Cert.ProjIdeal.Value.gQb m c) b t h d).trans (Cert.ProjIdeal.Value.v58_at m g c b t h d).symm
  · funext i
    obtain ⟨b, t, n, rfl⟩ := ix3_ex i
    exact (gate6152_at (Cert.ProjIdeal.Value.aX m c) (Cert.ProjIdeal.Value.aG m c) (Cert.ProjIdeal.Value.aW m c)  b t n).trans (Cert.ProjIdeal.Value.v59_at m g c b t n).symm
  · funext i
    obtain ⟨b, t, n, rfl⟩ := ix3_ex i
    exact (gate8200_at (Cert.ProjIdeal.Value.aX m c) (Cert.ProjIdeal.Value.aG m c) (Cert.ProjIdeal.Value.aW m c)  b t n).trans (Cert.ProjIdeal.Value.v60_at m g c b t n).symm

theorem algebraic : Cert.algebraic_ProjIdeal_ProjRefIdeal (hProjIdeal := Cert.ProjIdeal.Gen.facts) (hProjRefIdeal := Cert.ProjRefIdeal.Gen.facts) := by
  intro m g m' g' _ hagree
  refine ⟨fun c => Cert.ProjIdeal.Gen.W14 m g c (Proc.devRef .tc Cert.ProjIdeal.main_v52), fun c => Cert.ProjIdeal.Gen.W14 m g c (Proc.devRef .tc Cert.ProjIdeal.main_v53), fun c => Cert.ProjIdeal.Gen.W14 m g c (Proc.devRef .tc Cert.ProjIdeal.main_v54), fun c => Cert.ProjIdeal.Gen.W14 m g c (Proc.devRef .tc Cert.ProjIdeal.main_v55), fun c => Cert.ProjIdeal.Gen.W14 m g c (Proc.devRef .tc Cert.ProjIdeal.main_v56), fun c => Cert.ProjIdeal.Gen.W14 m g c (Proc.devRef .tc Cert.ProjIdeal.main_v57), fun c => Cert.ProjIdeal.Gen.W14 m g c (Proc.devRef .tc Cert.ProjIdeal.main_v58), fun c => Cert.ProjIdeal.Gen.W14 m g c (Proc.devRef .tc Cert.ProjIdeal.main_v59), fun c => Cert.ProjIdeal.Gen.W14 m g c (Proc.devRef .tc Cert.ProjIdeal.main_v60), Cert.ProjIdeal.Value.run_last m g, ?_⟩
  refine (θ_run _ _ _).mono (fun r h c => ?_) (run_parts m' g')
  obtain ⟨h0, h1, h2, h3, h4, h5, h6, h7⟩ := hagree c
  obtain ⟨e0, e1, e2, e3, e4, e5, e6, e7, e8⟩ := results_eq m g m' c h0 h1 h2 h3 h4 h5 h6 h7
  obtain ⟨r0, r1, r2, r3, r4, r5, r6, r7, r8, ra⟩ := h c
  exact ⟨r0.trans e0, r1.trans e1, r2.trans e2, r3.trans e3, r4.trans e4, r5.trans e5, r6.trans e6, r7.trans e7, r8.trans e8, ra⟩

end Cert.ProjValue

end
-- ==== Proof.ProjSTiles.lean ====
/-
  One tile of each stage of the input projection (sample), read at an element: the norm of a row of the activations, a
  tile of a product with the norm of each head in it, the logistic gates and the log-sigmoid.
-/
module

public import proofs.«01_k».proof.Proof.ProjSpec
public import proofs.«01_k».proof.Proof.Gen.ProjSIdeal.Skeleton

@[expose] public section

set_option maxRecDepth 16384

noncomputable section

namespace Cert.ProjSIdeal.Value

open Idealize.ShloMosaic Idealize.SL.Sem Cert.ProjSIdeal.Gen Cert.ProjSpec

/-- The norm of a row. -/
theorem k0_at (x : Vec Ideal S128x2048 .f32) (g : Vec Ideal S1x2048 .f32) (r : Fin 128) (d : Fin 2048) :
    k0_pay1 (F := Ideal) x g (ix2 r d) = rms w2048 (fun j => x (ix2 r j)) (fun j => g (ix2 0 j)) d := by
  pointwise [k0_pay1]
  rfl

/-- The norm of one head's row. -/
def hn (y : FVec Ideal S128x128 .f32) (g : Vec Ideal S1x128 .f32) : FVec Ideal S128x128 .f32 :=
  mulf (mulf y (broadcastTo S128x128 (rsqrt (addf (divf (shapeCast S128x1 (multiReduction .add [1] S128 (mulf y y)
    0x00000000#32 reduces_S128x128_S128 (.inl rfl) rfl) shapeCasts_S128_S128x1) (broadcast S128x1 (Scalar.ofBits .f32 0x43000000#32)))
    (broadcast S128x1 (Scalar.ofBits .f32 0x358637BD#32)))) broadcasts_S128x1_S128x128))
    (broadcastTo S128x128 (shapeCast S1x128 g shapeCasts_S1x128_S1x128) broadcasts_S1x128_S128x128)

theorem hn_at (y : FVec Ideal S128x128 .f32) (g : Vec Ideal S1x128 .f32) (r : Fin 128) (d : Fin 128) :
    hn y g (ix2 r d) = rms w128 (fun j => y (ix2 r j)) (fun j => g (ix2 0 j)) d := by
  pointwise [hn]
  rfl

/-- A tile of a product. -/
def mm (x : Vec Ideal S128x2048 .bf16) (w : Vec Ideal S2048x512 .bf16) : FVec Ideal S128x512 .f32 :=
  matmul (φ₁ := .bf16) (φ₂ := .bf16) dot_S128x2048_S2048x512_S128x512_1_0_0_1_n_n none (shapeCast S128x2048 x shapeCasts_S128x2048_S128x2048)
    (shapeCast S2048x512 w shapeCasts_S2048x512_S2048x512) (constant S128x512 .f32 0x00000000#32)

theorem mm_at (x : Vec Ideal S128x2048 .bf16) (w : Vec Ideal S2048x512 .bf16) (r : Fin 128) (n : Fin 512) :
    mm x w (ix2 r n) = prd (fun k => x (ix2 r k)) w n := by
  pointwise [mm]
  rfl

/-- One head's columns of a tile. -/
def hs (o : ℕ) (y : FVec Ideal S128x512 .f32) (h : o + 128 ≤ 512) : FVec Ideal S128x128 .f32 := fun i =>
  y (ix2 (i 0) ⟨o + (i 1).val, by have : (i 1).val < 128 := (i 1).isLt; omega⟩)

theorem sl0 (y : FVec Ideal S128x512 .f32) : extractStridedSlice S128x128 ![0, 0] y slices_S128x512_o0_0_S128x128 = hs 0 y (by omega) := by
  funext i
  obtain ⟨r, d, rfl⟩ := ix2_ex i
  pointwise [hs]
theorem sl1 (y : FVec Ideal S128x512 .f32) : extractStridedSlice S128x128 ![0, 128] y slices_S128x512_o0_128_S128x128 = hs 128 y (by omega) := by
  funext i
  obtain ⟨r, d, rfl⟩ := ix2_ex i
  pointwise [hs]
theorem sl2 (y : FVec Ideal S128x512 .f32) : extractStridedSlice S128x128 ![0, 256] y slices_S128x512_o0_256_S128x128 = hs 256 y (by omega) := by
  funext i
  obtain ⟨r, d, rfl⟩ := ix2_ex i
  pointwise [hs]
theorem sl3 (y : FVec Ideal S128x512 .f32) : extractStridedSlice S128x128 ![0, 384] y slices_S128x512_o0_384_S128x128 = hs 384 y (by omega) := by
  funext i
  obtain ⟨r, d, rfl⟩ := ix2_ex i
  pointwise [hs]

variable (x : Vec Ideal S128x2048 .bf16) (w : Vec Ideal S2048x512 .bf16) (y : FVec Ideal S128x512 .f32) (g : Vec Ideal S1x128 .f32)

theorem k1_0 : k1_pay4 x w g = hn (hs 0 (mm x w) (by omega)) g := by rw [← sl0]; rfl
theorem k1_1 : k1_pay5 x w g = hn (hs 128 (mm x w) (by omega)) g := by rw [← sl1]; rfl
theorem k1_2 : k1_pay1 y g = hn (hs 256 y (by omega)) g := by rw [← sl2]; rfl
theorem k1_3 : k1_pay2 y g = hn (hs 384 y (by omega)) g := by rw [← sl3]; rfl
theorem k2_0 : k2_pay3 x w g = hn (hs 0 (mm x w) (by omega)) g := by rw [← sl0]; rfl
theorem k2_1 : k2_pay7 (k2_pay5 x w) (k2_pay6 g) = hn (hs 128 (mm x w) (by omega)) g := by rw [← sl1]; rfl
theorem k2_2 : k2_pay9 y g = hn (hs 256 y (by omega)) g := by rw [← sl2]; rfl
theorem k2_3 : k2_pay11 y g = hn (hs 384 y (by omega)) g := by rw [← sl3]; rfl
theorem k3_mm : k3_pay1 x w = mm x w := rfl

/-- The gates' tile. -/
theorem k4_at (r : Fin 128) (n : Fin 512) : k4_pay1 x w (ix2 r n) = Ideal.logistic (prd (fun k => x (ix2 r k)) w n) := by
  rw [← mm_at]
  show k4_pay1 x w (ix2 r n) = Ideal.logistic _
  rfl

/-- The forget values' tile. -/
theorem k5_at (w : Vec Ideal S2048x128 .bf16) (r : Fin 128) (n : Fin 128) :
    k5_pay1 x w g (ix2 r n) = lsig (prd (fun k => x (ix2 r k)) w n + g (ix2 0 n)) := by
  pointwise [k5_pay1]
  rfl

/-- A head's part of a tile is the tile of the normed product. -/
theorem part (o : ℕ) (h : o + 128 ≤ 512) (ho : o % 128 = 0) (G : Vec Ideal S1x512 .f32)
    (hg : ∀ d : Fin 128, g (ix2 0 d) = G (ix2 0 ⟨o + d.val, by omega⟩)) (r : Fin 128) (d : Fin 128) (n : Fin 512) (hn' : n.val = o + d.val) :
    hn (hs o (mm x w) h) g (ix2 r d) = heads (by omega) (prod (R := 128) (N := 512) x w) G (ix2 r n) := by
  rw [hn_at]
  have e (j : Fin 128) : (⟨o + j.val, by omega⟩ : Fin 512) = hc (by omega) n j := by
    apply Fin.ext; show o + j.val = 128 * (n.val / 128) + j.val; omega
  have ed : d = ⟨n.val % 128, by omega⟩ := by apply Fin.ext; show d.val = n.val % 128; omega
  have e1 : (fun j => hs o (mm x w) h (ix2 r j)) = fun j => prod (R := 128) (N := 512) x w (ix2 r (hc (by omega) n j)) := by
    funext j
    show mm x w (ix2 r ⟨o + j.val, _⟩) = _
    rw [e, mm_at]; rfl
  have e2 : (fun j => g (ix2 0 j)) = fun j => G (ix2 0 (hc (by omega) n j)) := by
    funext j
    rw [hg, e]
  rw [e1, e2]
  exact congrArg (rms w128 (fun j => prod (R := 128) (N := 512) x w (ix2 r (hc (by omega) n j))) (fun j => G (ix2 0 (hc (by omega) n j)))) ed

end Cert.ProjSIdeal.Value

end
-- ==== Proof.ProjSRegions.lean ====
/-
  The six stages of the input projection (sample) as arrays: what each leaves in its outputs, from the arrays it is
  given.
-/
module

public import proofs.«01_k».proof.Proof.ProjSTiles
public import proofs.«01_k».proof.Proof.Gen.ProjSIdeal.Frame
public import Idealize.ShloMosaic.Lib.Pipeline.ValueKit
public import Idealize.ShloMosaic.Lib.Pipeline.ReadBack
public import Idealize.ShloMosaic.Lib.Pipeline.Value

@[expose] public section

set_option maxRecDepth 16384

noncomputable section

namespace Cert.ProjSIdeal.Value

open Idealize.ShloMosaic Idealize.SL.Sem Cert.ProjSIdeal.Gen Cert.ProjSpec
open Idealize.ShloMosaic.TcCoe

theorem z2 : ∀ a : Fin 2, (![0, 0] : Fin 2 → ℕ) a = 0 := by decide

/-! ## The tiles the stages write -/

theorem out0_eq (x : Vec Ideal S128x2048 .f32) (g : Vec Ideal S1x2048 .f32) : out0_2 x g = k0_pay1 x g := by
  unfold out0_2
  rw [View.canon_cons_unit_lit' _ _ _ z2, View.ld_unit_lit' _ _ z2, View.ld_unit_lit' _ _ z2]

theorem out3_eq (x : Vec Ideal S128x2048 .bf16) (w : Vec Ideal S2048x512 .bf16) (g : Vec Ideal S1x512 .f32) : out3_3 x w g = mm x w := by
  unfold out3_3
  rw [View.canon_cons_unit_lit' _ _ _ z2, View.ld_unit_lit' _ _ z2, View.ld_unit_lit' _ _ z2, k3_mm]

theorem out4_eq (x : Vec Ideal S128x2048 .bf16) (w : Vec Ideal S2048x512 .bf16) (g : Vec Ideal S1x512 .f32) : out4_3 x w g = k4_pay1 x w := by
  unfold out4_3
  rw [View.canon_cons_unit_lit' _ _ _ z2, View.ld_unit_lit' _ _ z2, View.ld_unit_lit' _ _ z2]

theorem out5_eq (x : Vec Ideal S128x2048 .bf16) (w : Vec Ideal S2048x128 .bf16) (g : Vec Ideal S1x128 .f32) : out5_3 x w g = k5_pay1 x w g := by
  unfold out5_3
  rw [View.canon_cons_unit_lit' _ _ _ z2, View.ld_unit_lit' _ _ z2, View.ld_unit_lit' _ _ z2, View.ld_unit_lit' _ _ z2]

section Heads

variable (x : Vec Ideal S128x2048 .bf16) (w : Vec Ideal S2048x512 .bf16) (g : Vec Ideal S1x512 .f32)

theorem k1_mm : k1_pay6 x w g = mm x w := by
  unfold k1_pay6
  rw [View.ld_unit_lit' _ _ z2, View.ld_unit_lit' _ _ z2]; rfl

theorem k2_mm : k2_pay12 x w g = mm x w := by
  unfold k2_pay12
  rw [View.ld_unit_lit' _ _ z2, View.ld_unit_lit' _ _ z2]; rfl

theorem gain (o : ℕ) (ho : o + 128 ≤ 512) (inb) (d : Fin 128) :
    View.ld g (Rect.unit (s := S1x512) ![0, o] S1x128.size inb) (ix2 0 d) = g (ix2 0 ⟨o + d.val, by omega⟩) := by
  show g ((Rect.unit (s := S1x512) ![0, o] S1x128.size inb).emb (ix2 0 d)) = _
  congr 1
  funext a
  apply Fin.ext
  rw [ValueKit.rect_emb_unit_val]
  fin_cases a <;> rfl

/-- A part of a tile written at head `o / 128`, at the tile's element. -/
theorem part_at (o : ℕ) (h : o + 128 ≤ 512) (ho : o % 128 = 0) (inb) (r : Fin 128) (n : Fin 512) (y : S128x128.Idx)
    (h0 : r.val = (y 0).val) (h1 : n.val = o + (y 1).val) :
    hn (hs o (mm x w) h) (View.ld g (Rect.unit (s := S1x512) ![0, o] S1x128.size inb)) y
      = heads (by omega) (prod (R := 128) (N := 512) x w) g (ix2 r n) := by
  obtain ⟨r', d, rfl⟩ := ix2_ex (a := 128) (b := 128) y
  obtain rfl : r' = r := Fin.ext h0.symm
  exact part x w _ o h ho g (fun d => gain g o h inb d) r' d n h1

theorem out1_at (r : Fin 128) (n : Fin 512) :
    out1_3 x w g (ix2 r n) = heads (by omega) (prod (R := 128) (N := 512) x w) g (ix2 r n) := by
  unfold out1_3
  canon_tiles y h
  · rw [k1_3, k1_mm]; exact part_at x w g 384 (by omega) (by omega) _ r n y h0 h1
  · rw [k1_2, k1_mm]; exact part_at x w g 256 (by omega) (by omega) _ r n y h0 h1
  · rw [k1_1, View.ld_unit_lit' _ _ z2, View.ld_unit_lit' _ _ z2]; exact part_at x w g 128 (by omega) (by omega) _ r n y h0 h1
  · rw [k1_0, View.ld_unit_lit' _ _ z2, View.ld_unit_lit' _ _ z2]; exact part_at x w g 0 (by omega) (by omega) _ r n y h0 (h1.trans (Nat.zero_add _).symm)

theorem out2_at (r : Fin 128) (n : Fin 512) :
    out2_3 x w g (ix2 r n) = heads (by omega) (prod (R := 128) (N := 512) x w) g (ix2 r n) := by
  unfold out2_3
  canon_tiles y h
  · unfold k2_pay15
    rw [k2_3, k2_mm]; exact part_at x w g 384 (by omega) (by omega) _ r n y h0 h1
  · rw [k2_2, k2_mm]; exact part_at x w g 256 (by omega) (by omega) _ r n y h0 h1
  · unfold k2_pay13 k2_pay14
    rw [k2_1, View.ld_unit_lit' _ _ z2, View.ld_unit_lit' _ _ z2]; exact part_at x w g 128 (by omega) (by omega) _ r n y h0 h1
  · rw [k2_0, View.ld_unit_lit' _ _ z2, View.ld_unit_lit' _ _ z2]; exact part_at x w g 0 (by omega) (by omega) _ r n y h0 (h1.trans (Nat.zero_add _).symm)

end Heads

/-! ## The stages' arrays -/

variable (V : (c : Dev nD) → (b : Ref sig .tc) → Buf (Elt Ideal) ((c : Thread nD τ).loc b)) (c : Dev nD)

theorem idx0 : ∀ t : Fin cfg0.N, win0_0.index t = ![(grid0.coords t 0).val, 0] ∧ win0_1.index t = ![0, 0]
    ∧ win0_2.index t = ![(grid0.coords t 0).val, 0] :=
  (by decide +kernel : ∀ t : Fin grid0.N, _)

/-- A row of the point's block. -/
abbrev row0 (t : Fin cfg0.N) (r : Fin 128) : Fin 128 :=
  ⟨(grid0.coords t 0).val * 128 + r.val, by have : (grid0.coords t 0).val < 1 := (grid0.coords t 0).isLt; omega⟩

theorem final0 : (dat0 V c).arrAt 2 cfg0.N = normed (R := 128) (V c main_v37) (V c main_v38) := by
  refine (dat0 V c).arrAt_eq_of_covers 2 _ (by decide +kernel) fun t hf y => ?_
  blk_simp
  rw [after0_2, out0_eq]
  obtain ⟨r, n, rfl⟩ := ix2_ex (a := 128) (b := 2048) y
  have hx (j : Fin 2048) : iblk0 V c 0 t (ix2 r j) = V c main_v37 (ix2 (row0 t r) j) := by
    blk_ext! [iblk0, idx0 t]
    all_goals (have : (grid0.coords t 0).val < 1 := (grid0.coords t 0).isLt; omega)
  have hg (j : Fin 2048) : iblk0 V c 1 t (ix2 0 j) = V c main_v38 (ix2 0 j) := by
    blk_ext! [iblk0, idx0 t]
  have hi : (win0_2.blk t).view.emb (ix2 r n) = (ix2 (row0 t r) n : (A2 128 2048).Idx) := by
    funext a
    apply Fin.ext
    have : (grid0.coords t 0).val < 1 := (grid0.coords t 0).isLt
    fin_cases a
    · blk_simp [idx0 t]
      show _ = (grid0.coords t 0).val * 128 + r.val
      first | rfl | (show r.val = _; omega)
    · blk_simp [idx0 t]
      rfl
  rw [hi, k0_at]
  simp only [hx, hg]
  rfl

theorem idx1 : ∀ t : Fin cfg1.N, win1_0.index t = ![(grid1.coords t 0).val, 0] ∧ win1_1.index t = ![0, (grid1.coords t 1).val]
    ∧ win1_2.index t = ![0, (grid1.coords t 1).val] ∧ win1_3.index t = ![(grid1.coords t 0).val, (grid1.coords t 1).val] :=
  (by decide +kernel : ∀ t : Fin grid1.N, _)

abbrev row1 (t : Fin cfg1.N) (r : Fin 128) : Fin 128 :=
  ⟨(grid1.coords t 0).val * 128 + r.val, by have : (grid1.coords t 0).val < 1 := (grid1.coords t 0).isLt; omega⟩

theorem col1 (t : Fin cfg1.N) : (grid1.coords t 1).val * 512 + 512 ≤ 2048 := by
  have : (grid1.coords t 1).val < 4 := (grid1.coords t 1).isLt
  omega

theorem x1_at (t : Fin cfg1.N) (r : Fin 128) (j : Fin 2048) : iblk1 V c 0 t (ix2 r j) = V c main_v39 (ix2 (row1 t r) j) := by
  blk_ext! [iblk1, idx1 t]
  all_goals (have : (grid1.coords t 0).val < 1 := (grid1.coords t 0).isLt; omega)

theorem w1_at (t : Fin cfg1.N) (j : Fin 2048) (n : Fin 512) : iblk1 V c 1 t (ix2 j n)
    = V c main_v3 (ix2 j ⟨(grid1.coords t 1).val * 512 + n.val, by have := col1 t; omega⟩) := by
  blk_ext! [iblk1, idx1 t]

theorem g1_at (t : Fin cfg1.N) (n : Fin 512) : iblk1 V c 2 t (ix2 0 n)
    = V c main_v26 (ix2 0 ⟨(grid1.coords t 1).val * 512 + n.val, by have := col1 t; omega⟩) := by
  blk_ext! [iblk1, idx1 t]

theorem final1 : (dat1 V c).arrAt 3 cfg1.N = heads (by omega) (prod (R := 128) (N := 2048) (V c main_v39) (V c main_v3)) (V c main_v26) := by
  refine (dat1 V c).arrAt_eq_of_covers 3 _ (by decide +kernel) fun t hf y => ?_
  blk_simp
  rw [after1_3]
  obtain ⟨r, n, rfl⟩ := ix2_ex (a := 128) (b := 512) y
  have hi : (win1_3.blk t).view.emb (ix2 r n)
      = (ix2 (row1 t r) ⟨(grid1.coords t 1).val * 512 + n.val, by have := col1 t; omega⟩ : (A2 128 2048).Idx) := by
    funext a
    apply Fin.ext
    have : (grid1.coords t 0).val < 1 := (grid1.coords t 0).isLt
    fin_cases a
    · blk_simp [idx1 t]
      show _ = (grid1.coords t 0).val * 128 + r.val
      first | rfl | (show r.val = _; omega)
    · blk_simp [idx1 t]
      rfl
  rw [hi]
  rw [out1_at]
  exact heads_tile _ _ _ r n _ (col1 t) (by omega) (fun j => x1_at V c t r j) (fun j n => w1_at V c t j n) (fun n => g1_at V c t n) rfl

theorem idx2 : ∀ t : Fin cfg2.N, win2_0.index t = ![(grid2.coords t 0).val, 0] ∧ win2_1.index t = ![0, (grid2.coords t 1).val]
    ∧ win2_2.index t = ![0, (grid2.coords t 1).val] ∧ win2_3.index t = ![(grid2.coords t 0).val, (grid2.coords t 1).val] :=
  (by decide +kernel : ∀ t : Fin grid2.N, _)

abbrev row2 (t : Fin cfg2.N) (r : Fin 128) : Fin 128 :=
  ⟨(grid2.coords t 0).val * 128 + r.val, by have : (grid2.coords t 0).val < 1 := (grid2.coords t 0).isLt; omega⟩

theorem col2 (t : Fin cfg2.N) : (grid2.coords t 1).val * 512 + 512 ≤ 2048 := by
  have : (grid2.coords t 1).val < 4 := (grid2.coords t 1).isLt
  omega

theorem x2_at (t : Fin cfg2.N) (r : Fin 128) (j : Fin 2048) : iblk2 V c 0 t (ix2 r j) = V c main_v39 (ix2 (row2 t r) j) := by
  blk_ext! [iblk2, idx2 t]
  all_goals (have : (grid2.coords t 0).val < 1 := (grid2.coords t 0).isLt; omega)

theorem w2_at (t : Fin cfg2.N) (j : Fin 2048) (n : Fin 512) : iblk2 V c 1 t (ix2 j n)
    = V c main_v7 (ix2 j ⟨(grid2.coords t 1).val * 512 + n.val, by have := col2 t; omega⟩) := by
  blk_ext! [iblk2, idx2 t]

theorem g2_at (t : Fin cfg2.N) (n : Fin 512) : iblk2 V c 2 t (ix2 0 n)
    = V c main_v34 (ix2 0 ⟨(grid2.coords t 1).val * 512 + n.val, by have := col2 t; omega⟩) := by
  blk_ext! [iblk2, idx2 t]

theorem final2 : (dat2 V c).arrAt 3 cfg2.N = heads (by omega) (prod (R := 128) (N := 2048) (V c main_v39) (V c main_v7)) (V c main_v34) := by
  refine (dat2 V c).arrAt_eq_of_covers 3 _ (by decide +kernel) fun t hf y => ?_
  blk_simp
  rw [after2_3]
  obtain ⟨r, n, rfl⟩ := ix2_ex (a := 128) (b := 512) y
  have hi : (win2_3.blk t).view.emb (ix2 r n)
      = (ix2 (row2 t r) ⟨(grid2.coords t 1).val * 512 + n.val, by have := col2 t; omega⟩ : (A2 128 2048).Idx) := by
    funext a
    apply Fin.ext
    have : (grid2.coords t 0).val < 1 := (grid2.coords t 0).isLt
    fin_cases a
    · blk_simp [idx2 t]
      show _ = (grid2.coords t 0).val * 128 + r.val
      first | rfl | (show r.val = _; omega)
    · blk_simp [idx2 t]
      rfl
  rw [hi]
  rw [out2_at]
  exact heads_tile _ _ _ r n _ (col2 t) (by omega) (fun j => x2_at V c t r j) (fun j n => w2_at V c t j n) (fun n => g2_at V c t n) rfl

theorem idx3 : ∀ t : Fin cfg3.N, win3_0.index t = ![(grid3.coords t 0).val, 0] ∧ win3_1.index t = ![0, (grid3.coords t 1).val]
    ∧ win3_2.index t = ![0, (grid3.coords t 1).val] ∧ win3_3.index t = ![(grid3.coords t 0).val, (grid3.coords t 1).val] :=
  (by decide +kernel : ∀ t : Fin grid3.N, _)

abbrev row3 (t : Fin cfg3.N) (r : Fin 128) : Fin 128 :=
  ⟨(grid3.coords t 0).val * 128 + r.val, by have : (grid3.coords t 0).val < 1 := (grid3.coords t 0).isLt; omega⟩

theorem col3 (t : Fin cfg3.N) : (grid3.coords t 1).val * 512 + 512 ≤ 2048 := by
  have : (grid3.coords t 1).val < 4 := (grid3.coords t 1).isLt
  omega

theorem x3_at (t : Fin cfg3.N) (r : Fin 128) (j : Fin 2048) : iblk3 V c 0 t (ix2 r j) = V c main_v39 (ix2 (row3 t r) j) := by
  blk_ext! [iblk3, idx3 t]
  all_goals (have : (grid3.coords t 0).val < 1 := (grid3.coords t 0).isLt; omega)

theorem w3_at (t : Fin cfg3.N) (j : Fin 2048) (n : Fin 512) : iblk3 V c 1 t (ix2 j n)
    = V c main_v11 (ix2 j ⟨(grid3.coords t 1).val * 512 + n.val, by have := col3 t; omega⟩) := by
  blk_ext! [iblk3, idx3 t]

theorem final3 : (dat3 V c).arrAt 3 cfg3.N = prod (R := 128) (N := 2048) (V c main_v39) (V c main_v11) := by
  refine (dat3 V c).arrAt_eq_of_covers 3 _ (by decide +kernel) fun t hf y => ?_
  blk_simp
  rw [after3_3]
  obtain ⟨r, n, rfl⟩ := ix2_ex (a := 128) (b := 512) y
  have hi : (win3_3.blk t).view.emb (ix2 r n)
      = (ix2 (row3 t r) ⟨(grid3.coords t 1).val * 512 + n.val, by have := col3 t; omega⟩ : (A2 128 2048).Idx) := by
    funext a
    apply Fin.ext
    have : (grid3.coords t 0).val < 1 := (grid3.coords t 0).isLt
    fin_cases a
    · blk_simp [idx3 t]
      show _ = (grid3.coords t 0).val * 128 + r.val
      first | rfl | (show r.val = _; omega)
    · blk_simp [idx3 t]
      rfl
  rw [hi]
  rw [out3_eq, mm_at]
  exact prod_tile _ r n _ (col3 t) (fun j => x3_at V c t r j) (fun j n => w3_at V c t j n) rfl

theorem idx4 : ∀ t : Fin cfg4.N, win4_0.index t = ![(grid4.coords t 0).val, 0] ∧ win4_1.index t = ![0, (grid4.coords t 1).val]
    ∧ win4_2.index t = ![0, (grid4.coords t 1).val] ∧ win4_3.index t = ![(grid4.coords t 0).val, (grid4.coords t 1).val] :=
  (by decide +kernel : ∀ t : Fin grid4.N, _)

abbrev row4 (t : Fin cfg4.N) (r : Fin 128) : Fin 128 :=
  ⟨(grid4.coords t 0).val * 128 + r.val, by have : (grid4.coords t 0).val < 1 := (grid4.coords t 0).isLt; omega⟩

theorem col4 (t : Fin cfg4.N) : (grid4.coords t 1).val * 512 + 512 ≤ 4096 := by
  have : (grid4.coords t 1).val < 8 := (grid4.coords t 1).isLt
  omega

theorem x4_at (t : Fin cfg4.N) (r : Fin 128) (j : Fin 2048) : iblk4 V c 0 t (ix2 r j) = V c main_v39 (ix2 (row4 t r) j) := by
  blk_ext! [iblk4, idx4 t]
  all_goals (have : (grid4.coords t 0).val < 1 := (grid4.coords t 0).isLt; omega)

theorem w4_at (t : Fin cfg4.N) (j : Fin 2048) (n : Fin 512) : iblk4 V c 1 t (ix2 j n)
    = V c main_v15 (ix2 j ⟨(grid4.coords t 1).val * 512 + n.val, by have := col4 t; omega⟩) := by
  blk_ext! [iblk4, idx4 t]

theorem final4 : (dat4 V c).arrAt 3 cfg4.N = gated (prod (R := 128) (N := 4096) (V c main_v39) (V c main_v15)) := by
  refine (dat4 V c).arrAt_eq_of_covers 3 _ (by decide +kernel) fun t hf y => ?_
  blk_simp
  rw [after4_3]
  obtain ⟨r, n, rfl⟩ := ix2_ex (a := 128) (b := 512) y
  have hi : (win4_3.blk t).view.emb (ix2 r n)
      = (ix2 (row4 t r) ⟨(grid4.coords t 1).val * 512 + n.val, by have := col4 t; omega⟩ : (A2 128 4096).Idx) := by
    funext a
    apply Fin.ext
    have : (grid4.coords t 0).val < 1 := (grid4.coords t 0).isLt
    fin_cases a
    · blk_simp [idx4 t]
      show _ = (grid4.coords t 0).val * 128 + r.val
      first | rfl | (show r.val = _; omega)
    · blk_simp [idx4 t]
      rfl
  rw [hi]
  rw [out4_eq, k4_at]
  exact congrArg Ideal.logistic (prod_tile _ r n _ (col4 t) (fun j => x4_at V c t r j) (fun j n => w4_at V c t j n) rfl)

theorem idx5 : ∀ t : Fin cfg5.N, win5_0.index t = ![(grid5.coords t 0).val, 0] ∧ win5_1.index t = ![0, (grid5.coords t 1).val]
    ∧ win5_2.index t = ![0, (grid5.coords t 1).val] ∧ win5_3.index t = ![(grid5.coords t 0).val, (grid5.coords t 1).val] :=
  (by decide +kernel : ∀ t : Fin grid5.N, _)

abbrev row5 (t : Fin cfg5.N) (r : Fin 128) : Fin 128 :=
  ⟨(grid5.coords t 0).val * 128 + r.val, by have : (grid5.coords t 0).val < 1 := (grid5.coords t 0).isLt; omega⟩

theorem col5 (t : Fin cfg5.N) : (grid5.coords t 1).val * 128 + 128 ≤ 128 := by
  have : (grid5.coords t 1).val < 1 := (grid5.coords t 1).isLt
  omega

theorem x5_at (t : Fin cfg5.N) (r : Fin 128) (j : Fin 2048) : iblk5 V c 0 t (ix2 r j) = V c main_v39 (ix2 (row5 t r) j) := by
  blk_ext! [iblk5, idx5 t]
  all_goals (have : (grid5.coords t 0).val < 1 := (grid5.coords t 0).isLt; omega)

theorem w5_at (t : Fin cfg5.N) (j : Fin 2048) (n : Fin 128) : iblk5 V c 1 t (ix2 j n)
    = V c main_v18 (ix2 j ⟨(grid5.coords t 1).val * 128 + n.val, by have := col5 t; omega⟩) := by
  blk_ext! [iblk5, idx5 t]

theorem g5_at (t : Fin cfg5.N) (n : Fin 128) : iblk5 V c 2 t (ix2 0 n)
    = V c main_v36 (ix2 0 ⟨(grid5.coords t 1).val * 128 + n.val, by have := col5 t; omega⟩) := by
  blk_ext! [iblk5, idx5 t]

theorem final5 : (dat5 V c).arrAt 3 cfg5.N = forget (prod (R := 128) (N := 128) (V c main_v39) (V c main_v18)) (V c main_v36) := by
  refine (dat5 V c).arrAt_eq_of_covers 3 _ (by decide +kernel) fun t hf y => ?_
  blk_simp
  rw [after5_3]
  obtain ⟨r, n, rfl⟩ := ix2_ex (a := 128) (b := 128) y
  have hi : (win5_3.blk t).view.emb (ix2 r n)
      = (ix2 (row5 t r) ⟨(grid5.coords t 1).val * 128 + n.val, by have := col5 t; omega⟩ : (A2 128 128).Idx) := by
    funext a
    apply Fin.ext
    have : (grid5.coords t 0).val < 1 := (grid5.coords t 0).isLt
    fin_cases a
    · blk_simp [idx5 t]
      show _ = (grid5.coords t 0).val * 128 + r.val
      first | rfl | (show r.val = _; omega)
    · blk_simp [idx5 t]
      rfl
  rw [hi]
  rw [out5_eq, k5_at]
  exact congrArg lsig (congrArg₂ (· + ·) (prod_tile _ r n _ (col5 t) (fun j => x5_at V c t r j) (fun j n => w5_at V c t j n) rfl) (g5_at V c t n))

end Cert.ProjSIdeal.Value

end
-- ==== Proof.ProjSHost.lean ====
/-
  The input projection (sample): what the host operations around the stages leave, element by element.
-/
module

public import proofs.«01_k».proof.Proof.ProjSRegions
public import proofs.«01_k».proof.Proof.ProjCols

@[expose] public section

set_option maxRecDepth 16384

noncomputable section

namespace Cert.ProjSIdeal.Value

open Idealize.ShloMosaic Idealize.SL.Sem Cert.ProjSIdeal.Gen Cert.ProjSpec
open Idealize.ShloMosaic.TcCoe

variable (m : (ℓ : Loc nD τ sig) → Buf (Elt Ideal) ℓ) (ρ : Dev nD → PrngReg) (c : Dev nD)

/-! ## The arguments -/

abbrev aX : FVec Ideal S8x16x2048 .f32 := m ((c : Thread nD τ).loc main_arg0)
abbrev aG : FVec Ideal S2048 .f32 := m ((c : Thread nD τ).loc main_arg1)
abbrev aW : FVec Ideal S2048x10248 .f32 := m ((c : Thread nD τ).loc main_arg2)
abbrev aB : FVec Ideal S8 .f32 := m ((c : Thread nD τ).loc main_arg3)
abbrev gQa : FVec Ideal S128 .f32 := m ((c : Thread nD τ).loc main_arg4)
abbrev gKa : FVec Ideal S128 .f32 := m ((c : Thread nD τ).loc main_arg5)
abbrev gQb : FVec Ideal S128 .f32 := m ((c : Thread nD τ).loc main_arg6)
abbrev gKb : FVec Ideal S128 .f32 := m ((c : Thread nD τ).loc main_arg7)

/-! ## The weights of each stage: groups of columns side by side -/

def wQ (W : FVec Ideal S2048x10248 .f32) : FVec Ideal S2048x2048 .bf16 :=
  truncf .bf16 (concatenate S2048x2048 1 [⟨S2048x1024, extractStridedSlice S2048x1024 ![0, 0] W slices_S2048x10248_S2048x1024_0_0⟩, ⟨S2048x1024, extractStridedSlice S2048x1024 ![0, 3072] W slices_S2048x10248_S2048x1024_0_3072⟩] concatenates_S2048x1024_S2048x1024_S2048x2048_d1) bitsLt_bf16_f32

def wK (W : FVec Ideal S2048x10248 .f32) : FVec Ideal S2048x2048 .bf16 :=
  truncf .bf16 (concatenate S2048x2048 1 [⟨S2048x1024, extractStridedSlice S2048x1024 ![0, 1024] W slices_S2048x10248_S2048x1024_0_1024⟩, ⟨S2048x1024, extractStridedSlice S2048x1024 ![0, 4096] W slices_S2048x10248_S2048x1024_0_4096⟩] concatenates_S2048x1024_S2048x1024_S2048x2048_d1) bitsLt_bf16_f32

def wV (W : FVec Ideal S2048x10248 .f32) : FVec Ideal S2048x2048 .bf16 :=
  truncf .bf16 (concatenate S2048x2048 1 [⟨S2048x1024, extractStridedSlice S2048x1024 ![0, 2048] W slices_S2048x10248_S2048x1024_0_2048⟩, ⟨S2048x1024, extractStridedSlice S2048x1024 ![0, 5120] W slices_S2048x10248_S2048x1024_0_5120⟩] concatenates_S2048x1024_S2048x1024_S2048x2048_d1) bitsLt_bf16_f32

def wZ (W : FVec Ideal S2048x10248 .f32) : FVec Ideal S2048x4096 .bf16 :=
  truncf .bf16 (concatenate S2048x4096 1 [⟨S2048x2048, extractStridedSlice S2048x2048 ![0, 6152] W slices_S2048x10248_S2048x2048_0_6152⟩, ⟨S2048x2048, extractStridedSlice S2048x2048 ![0, 8200] W slices_S2048x10248_S2048x2048_0_8200⟩] concatenates_S2048x2048_S2048x2048_S2048x4096_d1) bitsLt_bf16_f32

/-- The forget values' weights and their bias, filled up to 128 columns. -/
def wF (W : FVec Ideal S2048x10248 .f32) : FVec Ideal S2048x128 .bf16 :=
  truncf .bf16 (pad S2048x128 ![0, 0] ![0, 120] ![0, 0] (extractStridedSlice S2048x8 ![0, 6144] W slices_S2048x10248_S2048x8_0_6144) (sitofp (F := Ideal) .f32 (constantI S_ 32 0#32)) pads_S2048x8_S2048x128_000_01200 h_S_) bitsLt_bf16_f32

def bF (g : FVec Ideal S8 .f32) : FVec Ideal S1x128 .f32 :=
  shapeCast S1x128 (pad S128 ![0] ![120] ![0] g (sitofp (F := Ideal) .f32 (constantI S_ 32 0#32)) pads_S8_S128_01200 h_S_) shapeCasts_S128_S1x128

/-- A gain for eight heads and a gain for eight heads. -/
def gn (f g : FVec Ideal S128 .f32) : FVec Ideal S1x2048 .f32 :=
  shapeCast S1x2048 (concatenate S2048 0 [⟨S1024, shapeCast S1024 (broadcastInDim S8x128 ![0, 1] bcast_S1x128_S8x128_0_1 (shapeCast S1x128 f shapeCasts_S128_S1x128)) shapeCasts_S8x128_S1024⟩, ⟨S1024, shapeCast S1024 (broadcastInDim S8x128 ![0, 1] bcast_S1x128_S8x128_0_1 (shapeCast S1x128 g shapeCasts_S128_S1x128)) shapeCasts_S8x128_S1024⟩] concatenates_S1024_S1024_S2048_d0) shapeCasts_S2048_S1x2048

theorem wQ_lo (W : FVec Ideal S2048x10248 .f32) (k : Fin 2048) (n : Fin 2048) (n' : Fin 10248) (h : n.val < 1024) (e : n'.val = 0 + n.val) :
    wQ W (ix2 k n) = W (ix2 k n') := by
  have en : n' = ⟨0 + n.val, by omega⟩ := Fin.ext e
  rw [en]
  pointwise [wQ]
  rw [dif_pos h]

theorem wQ_hi (W : FVec Ideal S2048x10248 .f32) (k : Fin 2048) (n : Fin 2048) (n' : Fin 10248) (h : 1024 ≤ n.val) (e : n'.val = 3072 + (n.val - 1024)) :
    wQ W (ix2 k n) = W (ix2 k n') := by
  have en : n' = ⟨3072 + (n.val - 1024), by omega⟩ := Fin.ext e
  rw [en]
  pointwise [wQ]
  rw [dif_neg (by omega)]

theorem wK_lo (W : FVec Ideal S2048x10248 .f32) (k : Fin 2048) (n : Fin 2048) (n' : Fin 10248) (h : n.val < 1024) (e : n'.val = 1024 + n.val) :
    wK W (ix2 k n) = W (ix2 k n') := by
  have en : n' = ⟨1024 + n.val, by omega⟩ := Fin.ext e
  rw [en]
  pointwise [wK]
  rw [dif_pos h]

theorem wK_hi (W : FVec Ideal S2048x10248 .f32) (k : Fin 2048) (n : Fin 2048) (n' : Fin 10248) (h : 1024 ≤ n.val) (e : n'.val = 4096 + (n.val - 1024)) :
    wK W (ix2 k n) = W (ix2 k n') := by
  have en : n' = ⟨4096 + (n.val - 1024), by omega⟩ := Fin.ext e
  rw [en]
  pointwise [wK]
  rw [dif_neg (by omega)]

theorem wV_lo (W : FVec Ideal S2048x10248 .f32) (k : Fin 2048) (n : Fin 2048) (n' : Fin 10248) (h : n.val < 1024) (e : n'.val = 2048 + n.val) :
    wV W (ix2 k n) = W (ix2 k n') := by
  have en : n' = ⟨2048 + n.val, by omega⟩ := Fin.ext e
  rw [en]
  pointwise [wV]
  rw [dif_pos h]

theorem wV_hi (W : FVec Ideal S2048x10248 .f32) (k : Fin 2048) (n : Fin 2048) (n' : Fin 10248) (h : 1024 ≤ n.val) (e : n'.val = 5120 + (n.val - 1024)) :
    wV W (ix2 k n) = W (ix2 k n') := by
  have en : n' = ⟨5120 + (n.val - 1024), by omega⟩ := Fin.ext e
  rw [en]
  pointwise [wV]
  rw [dif_neg (by omega)]

theorem wZ_lo (W : FVec Ideal S2048x10248 .f32) (k : Fin 2048) (n : Fin 4096) (n' : Fin 10248) (h : n.val < 2048) (e : n'.val = 6152 + n.val) :
    wZ W (ix2 k n) = W (ix2 k n') := by
  have en : n' = ⟨6152 + n.val, by omega⟩ := Fin.ext e
  rw [en]
  pointwise [wZ]
  rw [dif_pos h]

theorem wZ_hi (W : FVec Ideal S2048x10248 .f32) (k : Fin 2048) (n : Fin 4096) (n' : Fin 10248) (h : 2048 ≤ n.val) (e : n'.val = 8200 + (n.val - 2048)) :
    wZ W (ix2 k n) = W (ix2 k n') := by
  have en : n' = ⟨8200 + (n.val - 2048), by omega⟩ := Fin.ext e
  rw [en]
  pointwise [wZ]
  rw [dif_neg (by omega)]

theorem wF_at (W : FVec Ideal S2048x10248 .f32) (k : Fin 2048) (n : Fin 128) (n' : Fin 10248) (hn : n.val < 8) (e : n'.val = 6144 + n.val) :
    wF W (ix2 k n) = W (ix2 k n') := by
  have en : n' = ⟨6144 + n.val, by omega⟩ := Fin.ext e
  rw [en]
  pointwise [wF]
  rw [dif_pos hn]

theorem bF_at (g : FVec Ideal S8 .f32) (n : Fin 128) (h : Fin 8) (e : n.val = h.val) : bF g (ix2 0 n) = g (ix1 h) := by
  have eh : h = ⟨n.val, by omega⟩ := Fin.ext e.symm
  rw [eh]
  pointwise [bF]
  rw [dif_pos (by omega)]

theorem gn_lo (f g : FVec Ideal S128 .f32) (n : Fin 2048) (d : Fin 128) (h : n.val < 1024) (e : n.val % 128 = d.val) :
    gn f g (ix2 0 n) = f (ix1 d) := by
  have ed : d = ⟨n.val % 128, by omega⟩ := Fin.ext e.symm
  rw [ed]
  pointwise [gn]
  rw [dif_pos h]

theorem gn_hi (f g : FVec Ideal S128 .f32) (n : Fin 2048) (d : Fin 128) (h : 1024 ≤ n.val) (e : n.val % 128 = d.val) :
    gn f g (ix2 0 n) = g (ix1 d) := by
  have ed : d = ⟨(n.val - 1024) % 128, by omega⟩ := Fin.ext (by show d.val = (n.val - 1024) % 128; omega)
  rw [ed]
  pointwise [gn]
  rw [dif_neg (by omega)]

/-! ## The arrays the stages are entered with -/

theorem v3_eq : W5 m ρ c (Proc.devRef .tc main_v3) = wQ (aW m c) := by
  unfold_abbrev_sides
  after_results
  rfl

theorem v7_eq : W5 m ρ c (Proc.devRef .tc main_v7) = wK (aW m c) := by
  unfold_abbrev_sides
  after_results
  rfl

theorem v11_eq : W5 m ρ c (Proc.devRef .tc main_v11) = wV (aW m c) := by
  unfold_abbrev_sides
  after_results
  rfl

theorem v15_eq : W5 m ρ c (Proc.devRef .tc main_v15) = wZ (aW m c) := by
  unfold_abbrev_sides
  after_results
  rfl

theorem v18_eq : W5 m ρ c (Proc.devRef .tc main_v18) = wF (aW m c) := by
  unfold_abbrev_sides
  after_results
  rfl

theorem v26_eq : W5 m ρ c (Proc.devRef .tc main_v26) = gn (gQa m c) (gQb m c) := by
  unfold_abbrev_sides
  after_results
  rfl

theorem v34_eq : W5 m ρ c (Proc.devRef .tc main_v34) = gn (gKa m c) (gKb m c) := by
  unfold_abbrev_sides
  after_results
  rfl

theorem v36_eq : W5 m ρ c (Proc.devRef .tc main_v36) = bF (aB m c) := by
  unfold_abbrev_sides
  after_results
  rfl

theorem v37_eq : W5 m ρ c (Proc.devRef .tc main_v37) = shapeCast S128x2048 (aX m c) shapeCasts_S8x16x2048_S128x2048 := by
  unfold_abbrev_sides
  after_results
  try rfl

theorem v38_eq : W5 m ρ c (Proc.devRef .tc main_v38) = shapeCast S1x2048 (aG m c) shapeCasts_S2048_S1x2048 := by
  unfold_abbrev_sides
  after_results
  try rfl

theorem v37_at (b : Fin 8) (t : Fin 16) (j : Fin 2048) (r : Fin 128) (e : r.val = 16 * b.val + t.val) :
    shapeCast S128x2048 (aX m c) shapeCasts_S8x16x2048_S128x2048 (ix2 r j) = aX m c (ix3 b t j) := by
  have er : r = ⟨16 * b.val + t.val, by omega⟩ := Fin.ext e
  rw [er]
  pointwise

theorem v38_at (j : Fin 2048) : shapeCast S1x2048 (aG m c) shapeCasts_S2048_S1x2048 (ix2 0 j) = aG m c (ix1 j) := by
  pointwise

end Cert.ProjSIdeal.Value

end
-- ==== Proof.ProjSOut.lean ====
/-
  The input projection (sample): the kernel's results, element by element.
-/
module

public import proofs.«01_k».proof.Proof.ProjSHost

@[expose] public section

set_option maxRecDepth 16384

noncomputable section

namespace Cert.ProjSIdeal.Value

open Idealize.ShloMosaic Idealize.SL.Sem Cert.ProjSIdeal.Gen Cert.ProjSpec
open Idealize.ShloMosaic.TcCoe

variable (m : (ℓ : Loc nD τ sig) → Buf (Elt Ideal) ℓ) (ρ : Dev nD → PrngReg) (c : Dev nD)

/-! ## The arrays of each stage -/

theorem v3_in : W6 m ρ c (Proc.devRef .tc main_v3) = wQ (aW m c) :=
  (W6_of m ρ c main_v3 (by decide)).trans (v3_eq m ρ c)

theorem v26_in : W6 m ρ c (Proc.devRef .tc main_v26) = gn (gQa m c) (gQb m c) :=
  (W6_of m ρ c main_v26 (by decide)).trans (v26_eq m ρ c)

theorem v7_in : W7 m ρ c (Proc.devRef .tc main_v7) = wK (aW m c) :=
  ((W7_of m ρ c main_v7 (by decide)).trans (W6_of m ρ c main_v7 (by decide))).trans (v7_eq m ρ c)

theorem v34_in : W7 m ρ c (Proc.devRef .tc main_v34) = gn (gKa m c) (gKb m c) :=
  ((W7_of m ρ c main_v34 (by decide)).trans (W6_of m ρ c main_v34 (by decide))).trans (v34_eq m ρ c)

theorem v11_in : W9 m ρ c (Proc.devRef .tc main_v11) = wV (aW m c) :=
  ((((W9_of m ρ c main_v11 (by decide)).trans (W8_of m ρ c main_v11 (by decide))).trans (W7_of m ρ c main_v11 (by decide))).trans (W6_of m ρ c main_v11 (by decide))).trans (v11_eq m ρ c)

theorem v15_in : W11 m ρ c (Proc.devRef .tc main_v15) = wZ (aW m c) :=
  ((((((W11_of m ρ c main_v15 (by decide)).trans (W10_of m ρ c main_v15 (by decide))).trans (W9_of m ρ c main_v15 (by decide))).trans (W8_of m ρ c main_v15 (by decide))).trans (W7_of m ρ c main_v15 (by decide))).trans (W6_of m ρ c main_v15 (by decide))).trans (v15_eq m ρ c)

theorem v18_in : W12 m ρ c (Proc.devRef .tc main_v18) = wF (aW m c) :=
  (((((((W12_of m ρ c main_v18 (by decide)).trans (W11_of m ρ c main_v18 (by decide))).trans (W10_of m ρ c main_v18 (by decide))).trans (W9_of m ρ c main_v18 (by decide))).trans (W8_of m ρ c main_v18 (by decide))).trans (W7_of m ρ c main_v18 (by decide))).trans (W6_of m ρ c main_v18 (by decide))).trans (v18_eq m ρ c)

theorem v36_in : W12 m ρ c (Proc.devRef .tc main_v36) = bF (aB m c) :=
  (((((((W12_of m ρ c main_v36 (by decide)).trans (W11_of m ρ c main_v36 (by decide))).trans (W10_of m ρ c main_v36 (by decide))).trans (W9_of m ρ c main_v36 (by decide))).trans (W8_of m ρ c main_v36 (by decide))).trans (W7_of m ρ c main_v36 (by decide))).trans (W6_of m ρ c main_v36 (by decide))).trans (v36_eq m ρ c)

/-- The normed activations. -/
def nx : (A2 128 2048).Idx → EReal := normed (R := 128) (shapeCast S128x2048 (aX m c) shapeCasts_S8x16x2048_S128x2048) (shapeCast S1x2048 (aG m c) shapeCasts_S2048_S1x2048)

theorem v39_6 : W6 m ρ c (Proc.devRef .tc main_v39) = nx m c := by
  refine (W6_arr m ρ c 2).trans ((final0 (V5 m ρ) c).trans ?_)
  have e1 : V5 m ρ c main_v37 = _ := v37_eq m ρ c
  have e2 : V5 m ρ c main_v38 = _ := v38_eq m ρ c
  rw [e1, e2]
  rfl

theorem v39_7 : W7 m ρ c (Proc.devRef .tc main_v39) = nx m c :=
  (W7_of m ρ c main_v39 (by decide)).trans (v39_6 m ρ c)

theorem v39_9 : W9 m ρ c (Proc.devRef .tc main_v39) = nx m c :=
  (((W9_of m ρ c main_v39 (by decide)).trans (W8_of m ρ c main_v39 (by decide))).trans (W7_of m ρ c main_v39 (by decide))).trans (v39_6 m ρ c)

theorem v39_11 : W11 m ρ c (Proc.devRef .tc main_v39) = nx m c :=
  (((((W11_of m ρ c main_v39 (by decide)).trans (W10_of m ρ c main_v39 (by decide))).trans (W9_of m ρ c main_v39 (by decide))).trans (W8_of m ρ c main_v39 (by decide))).trans (W7_of m ρ c main_v39 (by decide))).trans (v39_6 m ρ c)

theorem v39_12 : W12 m ρ c (Proc.devRef .tc main_v39) = nx m c :=
  ((((((W12_of m ρ c main_v39 (by decide)).trans (W11_of m ρ c main_v39 (by decide))).trans (W10_of m ρ c main_v39 (by decide))).trans (W9_of m ρ c main_v39 (by decide))).trans (W8_of m ρ c main_v39 (by decide))).trans (W7_of m ρ c main_v39 (by decide))).trans (v39_6 m ρ c)

theorem v40_out : W13 m ρ c (Proc.devRef .tc main_v40) = heads (by omega) (prod (R := 128) (N := 2048) (nx m c) (wQ (aW m c))) (gn (gQa m c) (gQb m c)) := by
  refine (((((((W13_of m ρ c main_v40 (by decide)).trans (W12_of m ρ c main_v40 (by decide))).trans (W11_of m ρ c main_v40 (by decide))).trans (W10_of m ρ c main_v40 (by decide))).trans (W9_of m ρ c main_v40 (by decide))).trans (W8_of m ρ c main_v40 (by decide)))).trans ?_
  refine (W7_arr m ρ c 3).trans ((final1 (V6 m ρ) c).trans ?_)
  have e1 : V6 m ρ c main_v39 = _ := v39_6 m ρ c
  have e2 : V6 m ρ c main_v3 = _ := v3_in m ρ c
  have e3 : V6 m ρ c main_v26 = _ := v26_in m ρ c
  rw [e1, e2, e3]

theorem v41_0_out : W13 m ρ c (Proc.devRef .tc main_v41_0) = heads (by omega) (prod (R := 128) (N := 2048) (nx m c) (wK (aW m c))) (gn (gKa m c) (gKb m c)) := by
  refine ((((((W13_of m ρ c main_v41_0 (by decide)).trans (W12_of m ρ c main_v41_0 (by decide))).trans (W11_of m ρ c main_v41_0 (by decide))).trans (W10_of m ρ c main_v41_0 (by decide))).trans (W9_of m ρ c main_v41_0 (by decide)))).trans ?_
  refine (W8_arr m ρ c 3).trans ((final2 (V7 m ρ) c).trans ?_)
  have e1 : V7 m ρ c main_v39 = _ := v39_7 m ρ c
  have e2 : V7 m ρ c main_v7 = _ := v7_in m ρ c
  have e3 : V7 m ρ c main_v34 = _ := v34_in m ρ c
  rw [e1, e2, e3]

theorem v43_0_out : W13 m ρ c (Proc.devRef .tc main_v43_0) = prod (R := 128) (N := 2048) (nx m c) (wV (aW m c)) := by
  refine ((((W13_of m ρ c main_v43_0 (by decide)).trans (W12_of m ρ c main_v43_0 (by decide))).trans (W11_of m ρ c main_v43_0 (by decide)))).trans ?_
  refine (W10_arr m ρ c 3).trans ((final3 (V9 m ρ) c).trans ?_)
  have e1 : V9 m ρ c main_v39 = _ := v39_9 m ρ c
  have e2 : V9 m ρ c main_v11 = _ := v11_in m ρ c
  rw [e1, e2]

theorem v45_out : W13 m ρ c (Proc.devRef .tc main_v45) = gated (prod (R := 128) (N := 4096) (nx m c) (wZ (aW m c))) := by
  refine ((W13_of m ρ c main_v45 (by decide))).trans ?_
  refine (W12_arr m ρ c 3).trans ((final4 (V11 m ρ) c).trans ?_)
  have e1 : V11 m ρ c main_v39 = _ := v39_11 m ρ c
  have e2 : V11 m ρ c main_v15 = _ := v15_in m ρ c
  rw [e1, e2]

theorem v46_out : W13 m ρ c (Proc.devRef .tc main_v46) = forget (prod (R := 128) (N := 128) (nx m c) (wF (aW m c))) (bF (aB m c)) := by
  refine (W13_arr m ρ c 3).trans ((final5 (V12 m ρ) c).trans ?_)
  have e1 : V12 m ρ c main_v39 = _ := v39_12 m ρ c
  have e2 : V12 m ρ c main_v18 = _ := v18_in m ρ c
  have e3 : V12 m ρ c main_v36 = _ := v36_in m ρ c
  rw [e1, e2, e3]

/-- A token's normed activations. -/
def hx (X : FVec Ideal S8x16x2048 .f32) (g : FVec Ideal S2048 .f32) (b : Fin 8) (t : Fin 16) : Fin 2048 → EReal := fun k =>
  rms w2048 (fun j => X (ix3 b t j)) (fun j => g (ix1 j)) k

theorem nx_at (b : Fin 8) (t : Fin 16) (r : Fin 128) (e : r.val = 16 * b.val + t.val) (k : Fin 2048) :
    nx m c (ix2 r k) = hx (aX m c) (aG m c) b t k := by
  show rms w2048 (fun j => shapeCast S128x2048 (aX m c) shapeCasts_S8x16x2048_S128x2048 (ix2 r j)) (fun j => shapeCast S1x2048 (aG m c) shapeCasts_S2048_S1x2048 (ix2 0 j)) k = _
  rw [funext fun j => v37_at m c b t j r e, funext fun j => v38_at m c j]
  rfl

/-! ## The results -/

theorem v52_eq : W14 m ρ c (Proc.devRef .tc main_v52) = extractStridedSlice S8x16x8x128 ![0, 0, 0, 0] (shapeCast S8x16x16x128 (W13 m ρ c (Proc.devRef .tc main_v41_0)) shapeCasts_S128x2048_S8x16x16x128) slices_S8x16x16x128_S8x16x8x128_0_0_0_0 := by
  unfold_abbrev_sides
  after_results
  try rfl

theorem v53_eq : W14 m ρ c (Proc.devRef .tc main_v53) = extractStridedSlice S8x16x8x128 ![0, 0, 0, 0] (shapeCast S8x16x16x128 (W13 m ρ c (Proc.devRef .tc main_v43_0)) shapeCasts_S128x2048_S8x16x16x128) slices_S8x16x16x128_S8x16x8x128_0_0_0_0 := by
  unfold_abbrev_sides
  after_results
  try rfl

theorem v54_eq : W14 m ρ c (Proc.devRef .tc main_v54) = extractStridedSlice S8x16x8x128 ![0, 0, 8, 0] (shapeCast S8x16x16x128 (W13 m ρ c (Proc.devRef .tc main_v41_0)) shapeCasts_S128x2048_S8x16x16x128) slices_S8x16x16x128_S8x16x8x128_0_0_8_0 := by
  unfold_abbrev_sides
  after_results
  try rfl

theorem v55_eq : W14 m ρ c (Proc.devRef .tc main_v55) = extractStridedSlice S8x16x8x128 ![0, 0, 8, 0] (shapeCast S8x16x16x128 (W13 m ρ c (Proc.devRef .tc main_v43_0)) shapeCasts_S128x2048_S8x16x16x128) slices_S8x16x16x128_S8x16x8x128_0_0_8_0 := by
  unfold_abbrev_sides
  after_results
  try rfl

theorem v56_eq : W14 m ρ c (Proc.devRef .tc main_v56) = shapeCast S8x16x8 (extractStridedSlice S128x8 ![0, 0] (W13 m ρ c (Proc.devRef .tc main_v46)) slices_S128x128_S128x8_0_0) shapeCasts_S128x8_S8x16x8 := by
  unfold_abbrev_sides
  after_results
  try rfl

theorem v57_eq : W14 m ρ c (Proc.devRef .tc main_v57) = extractStridedSlice S8x16x8x128 ![0, 0, 0, 0] (shapeCast S8x16x16x128 (W13 m ρ c (Proc.devRef .tc main_v40)) shapeCasts_S128x2048_S8x16x16x128) slices_S8x16x16x128_S8x16x8x128_0_0_0_0 := by
  unfold_abbrev_sides
  after_results
  try rfl

theorem v58_eq : W14 m ρ c (Proc.devRef .tc main_v58) = extractStridedSlice S8x16x8x128 ![0, 0, 8, 0] (shapeCast S8x16x16x128 (W13 m ρ c (Proc.devRef .tc main_v40)) shapeCasts_S128x2048_S8x16x16x128) slices_S8x16x16x128_S8x16x8x128_0_0_8_0 := by
  unfold_abbrev_sides
  after_results
  try rfl

theorem v59_eq : W14 m ρ c (Proc.devRef .tc main_v59) = extractStridedSlice S8x16x2048 ![0, 0, 0] (shapeCast S8x16x4096 (W13 m ρ c (Proc.devRef .tc main_v45)) shapeCasts_S128x4096_S8x16x4096) slices_S8x16x4096_S8x16x2048_0_0_0 := by
  unfold_abbrev_sides
  after_results
  try rfl

theorem v60_eq : W14 m ρ c (Proc.devRef .tc main_v60) = extractStridedSlice S8x16x2048 ![0, 0, 2048] (shapeCast S8x16x4096 (W13 m ρ c (Proc.devRef .tc main_v45)) shapeCasts_S128x4096_S8x16x4096) slices_S8x16x4096_S8x16x2048_0_0_2048 := by
  unfold_abbrev_sides
  after_results
  try rfl

theorem lo_at (A : (A2 128 2048).Idx → EReal) (b : Fin 8) (t : Fin 16) (h : Fin 8) (d : Fin 128) :
    (extractStridedSlice S8x16x8x128 ![0, 0, 0, 0] (shapeCast (s := S128x2048) S8x16x16x128 A shapeCasts_S128x2048_S8x16x16x128) slices_S8x16x16x128_S8x16x8x128_0_0_0_0 : S8x16x8x128.Idx → EReal) (ix4 b t h d)
      = A (ix2 ⟨16 * b.val + t.val, by omega⟩ ⟨128 * (0 + h.val) + d.val, by omega⟩) := by
  pointwise
  exact at_congr A (by first | rfl | (dsimp only; omega)) (by first | rfl | (dsimp only; omega))

theorem hi_at (A : (A2 128 2048).Idx → EReal) (b : Fin 8) (t : Fin 16) (h : Fin 8) (d : Fin 128) :
    (extractStridedSlice S8x16x8x128 ![0, 0, 8, 0] (shapeCast (s := S128x2048) S8x16x16x128 A shapeCasts_S128x2048_S8x16x16x128) slices_S8x16x16x128_S8x16x8x128_0_0_8_0 : S8x16x8x128.Idx → EReal) (ix4 b t h d)
      = A (ix2 ⟨16 * b.val + t.val, by omega⟩ ⟨128 * (8 + h.val) + d.val, by omega⟩) := by
  pointwise
  exact at_congr A (by first | rfl | (dsimp only; omega)) (by first | rfl | (dsimp only; omega))

theorem zlo_at (A : (A2 128 4096).Idx → EReal) (b : Fin 8) (t : Fin 16) (n : Fin 2048) :
    (extractStridedSlice S8x16x2048 ![0, 0, 0] (shapeCast (s := S128x4096) S8x16x4096 A shapeCasts_S128x4096_S8x16x4096) slices_S8x16x4096_S8x16x2048_0_0_0 : S8x16x2048.Idx → EReal) (ix3 b t n) = A (ix2 ⟨16 * b.val + t.val, by omega⟩ ⟨0 + n.val, by omega⟩) := by
  pointwise
  exact at_congr A (by first | rfl | (dsimp only; omega)) (by first | rfl | (dsimp only; omega))

theorem zhi_at (A : (A2 128 4096).Idx → EReal) (b : Fin 8) (t : Fin 16) (n : Fin 2048) :
    (extractStridedSlice S8x16x2048 ![0, 0, 2048] (shapeCast (s := S128x4096) S8x16x4096 A shapeCasts_S128x4096_S8x16x4096) slices_S8x16x4096_S8x16x2048_0_0_2048 : S8x16x2048.Idx → EReal) (ix3 b t n) = A (ix2 ⟨16 * b.val + t.val, by omega⟩ ⟨2048 + n.val, by omega⟩) := by
  pointwise
  exact at_congr A (by first | rfl | (dsimp only; omega)) (by first | rfl | (dsimp only; omega))

theorem fg_at (A : (A2 128 128).Idx → EReal) (b : Fin 8) (t : Fin 16) (h : Fin 8) :
    (shapeCast S8x16x8 (extractStridedSlice (s := S128x128) S128x8 ![0, 0] A slices_S128x128_S128x8_0_0) shapeCasts_S128x8_S8x16x8 : S8x16x8.Idx → EReal) (ix3 b t h) = A (ix2 ⟨16 * b.val + t.val, by omega⟩ ⟨h.val, by omega⟩) := by
  pointwise
  exact at_congr A (by first | rfl | (dsimp only; omega)) (by first | rfl | (dsimp only; omega))

/-! ## The results at an element -/

theorem v52_at (b : Fin 8) (t : Fin 16) (h : Fin 8) (d : Fin 128) :
    (W14 m ρ c (Proc.devRef .tc main_v52) : S8x16x8x128.Idx → EReal) (ix4 b t h d) = rms w128 (fun j => prd (hx (aX m c) (aG m c) b t) (aW m c) ⟨1024 + (h.val * 128 + j.val), by omega⟩) (fun j => gKa m c (ix1 j)) d := by
  refine (congrFun (v52_eq m ρ c) _).trans ((lo_at _ b t h d).trans ((congrFun (v41_0_out m ρ c) _).trans ?_))
  refine heads_col (W := aW m c) (x := hx (aX m c) (aG m c) b t) (by omega) (fun k => nx_at m c b t _ (by dsimp only) k)
    _ d (128 * h.val) (by omega) (by omega) (by first | rfl | (dsimp only; omega)) (fun j => ⟨1024 + (h.val * 128 + j.val), by omega⟩) (fun k j => ?_) fun j => ?_
  · exact wK_lo _ _ _ _ (by dsimp only; omega) (by dsimp only; omega)
  · exact gn_lo _ _ _ _ (by dsimp only; omega) (by dsimp only; omega)

theorem v53_at (b : Fin 8) (t : Fin 16) (h : Fin 8) (d : Fin 128) :
    (W14 m ρ c (Proc.devRef .tc main_v53) : S8x16x8x128.Idx → EReal) (ix4 b t h d)
      = prd (hx (aX m c) (aG m c) b t) (aW m c) ⟨2048 + (h.val * 128 + d.val), by omega⟩ := by
  refine (congrFun (v53_eq m ρ c) _).trans ((lo_at _ b t h d).trans ((congrFun (v43_0_out m ρ c) _).trans ?_))
  exact prod_col (fun k => nx_at m c b t _ (by dsimp only) k) _ _ fun k => wV_lo _ _ _ _ (by dsimp only; omega) (by dsimp only; omega)

theorem v54_at (b : Fin 8) (t : Fin 16) (h : Fin 8) (d : Fin 128) :
    (W14 m ρ c (Proc.devRef .tc main_v54) : S8x16x8x128.Idx → EReal) (ix4 b t h d) = rms w128 (fun j => prd (hx (aX m c) (aG m c) b t) (aW m c) ⟨4096 + (h.val * 128 + j.val), by omega⟩) (fun j => gKb m c (ix1 j)) d := by
  refine (congrFun (v54_eq m ρ c) _).trans ((hi_at _ b t h d).trans ((congrFun (v41_0_out m ρ c) _).trans ?_))
  refine heads_col (W := aW m c) (x := hx (aX m c) (aG m c) b t) (by omega) (fun k => nx_at m c b t _ (by dsimp only) k)
    _ d (128 * (8 + h.val)) (by omega) (by omega) (by first | rfl | (dsimp only; omega)) (fun j => ⟨4096 + (h.val * 128 + j.val), by omega⟩) (fun k j => ?_) fun j => ?_
  · exact wK_hi _ _ _ _ (by dsimp only; omega) (by dsimp only; omega)
  · exact gn_hi _ _ _ _ (by dsimp only; omega) (by dsimp only; omega)

theorem v55_at (b : Fin 8) (t : Fin 16) (h : Fin 8) (d : Fin 128) :
    (W14 m ρ c (Proc.devRef .tc main_v55) : S8x16x8x128.Idx → EReal) (ix4 b t h d)
      = prd (hx (aX m c) (aG m c) b t) (aW m c) ⟨5120 + (h.val * 128 + d.val), by omega⟩ := by
  refine (congrFun (v55_eq m ρ c) _).trans ((hi_at _ b t h d).trans ((congrFun (v43_0_out m ρ c) _).trans ?_))
  exact prod_col (fun k => nx_at m c b t _ (by dsimp only) k) _ _ fun k => wV_hi _ _ _ _ (by dsimp only; omega) (by dsimp only; omega)

theorem v57_at (b : Fin 8) (t : Fin 16) (h : Fin 8) (d : Fin 128) :
    (W14 m ρ c (Proc.devRef .tc main_v57) : S8x16x8x128.Idx → EReal) (ix4 b t h d) = rms w128 (fun j => prd (hx (aX m c) (aG m c) b t) (aW m c) ⟨0 + (h.val * 128 + j.val), by omega⟩) (fun j => gQa m c (ix1 j)) d := by
  refine (congrFun (v57_eq m ρ c) _).trans ((lo_at _ b t h d).trans ((congrFun (v40_out m ρ c) _).trans ?_))
  refine heads_col (W := aW m c) (x := hx (aX m c) (aG m c) b t) (by omega) (fun k => nx_at m c b t _ (by dsimp only) k)
    _ d (128 * h.val) (by omega) (by omega) (by first | rfl | (dsimp only; omega)) (fun j => ⟨0 + (h.val * 128 + j.val), by omega⟩) (fun k j => ?_) fun j => ?_
  · exact wQ_lo _ _ _ _ (by dsimp only; omega) (by dsimp only; omega)
  · exact gn_lo _ _ _ _ (by dsimp only; omega) (by dsimp only; omega)

theorem v58_at (b : Fin 8) (t : Fin 16) (h : Fin 8) (d : Fin 128) :
    (W14 m ρ c (Proc.devRef .tc main_v58) : S8x16x8x128.Idx → EReal) (ix4 b t h d) = rms w128 (fun j => prd (hx (aX m c) (aG m c) b t) (aW m c) ⟨3072 + (h.val * 128 + j.val), by omega⟩) (fun j => gQb m c (ix1 j)) d := by
  refine (congrFun (v58_eq m ρ c) _).trans ((hi_at _ b t h d).trans ((congrFun (v40_out m ρ c) _).trans ?_))
  refine heads_col (W := aW m c) (x := hx (aX m c) (aG m c) b t) (by omega) (fun k => nx_at m c b t _ (by dsimp only) k)
    _ d (128 * (8 + h.val)) (by omega) (by omega) (by first | rfl | (dsimp only; omega)) (fun j => ⟨3072 + (h.val * 128 + j.val), by omega⟩) (fun k j => ?_) fun j => ?_
  · exact wQ_hi _ _ _ _ (by dsimp only; omega) (by dsimp only; omega)
  · exact gn_hi _ _ _ _ (by dsimp only; omega) (by dsimp only; omega)

theorem v59_at (b : Fin 8) (t : Fin 16) (n : Fin 2048) :
    (W14 m ρ c (Proc.devRef .tc main_v59) : S8x16x2048.Idx → EReal) (ix3 b t n)
      = Ideal.logistic (prd (hx (aX m c) (aG m c) b t) (aW m c) ⟨6152 + n.val, by omega⟩) := by
  refine (congrFun (v59_eq m ρ c) _).trans ((zlo_at _ b t n).trans ((congrFun (v45_out m ρ c) _).trans ?_))
  exact congrArg Ideal.logistic (prod_col (fun k => nx_at m c b t _ (by dsimp only) k) _ _ fun k => wZ_lo _ _ _ _ (by dsimp only; omega) (by dsimp only; omega))

theorem v60_at (b : Fin 8) (t : Fin 16) (n : Fin 2048) :
    (W14 m ρ c (Proc.devRef .tc main_v60) : S8x16x2048.Idx → EReal) (ix3 b t n)
      = Ideal.logistic (prd (hx (aX m c) (aG m c) b t) (aW m c) ⟨8200 + n.val, by omega⟩) := by
  refine (congrFun (v60_eq m ρ c) _).trans ((zhi_at _ b t n).trans ((congrFun (v45_out m ρ c) _).trans ?_))
  exact congrArg Ideal.logistic (prod_col (fun k => nx_at m c b t _ (by dsimp only) k) _ _ fun k => wZ_hi _ _ _ _ (by dsimp only; omega) (by dsimp only; omega))

theorem v56_at (b : Fin 8) (t : Fin 16) (h : Fin 8) :
    (W14 m ρ c (Proc.devRef .tc main_v56) : S8x16x8.Idx → EReal) (ix3 b t h)
      = lsig (prd (hx (aX m c) (aG m c) b t) (aW m c) ⟨6144 + h.val, by omega⟩ + aB m c (ix1 h)) := by
  refine (congrFun (v56_eq m ρ c) _).trans ((fg_at _ b t h).trans ((congrFun (v46_out m ρ c) _).trans ?_))
  exact congrArg lsig (congrArg₂ (· + ·) (prod_col (fun k => nx_at m c b t _ (by dsimp only) k) _ _ fun k => wF_at _ _ _ _ (by dsimp only; omega) (by dsimp only))
    (bF_at _ _ h rfl))

end Cert.ProjSIdeal.Value

end
-- ==== Proof.ProjSRun.lean ====
/-
  The run of the input projection (sample): every result is what the last stretch of host operations leaves.
-/
module

public import proofs.«01_k».proof.Proof.Gen.ProjSIdeal.Frame
public import Idealize.ShloMosaic.Lib.Pointwise
public import Idealize.ShloMosaic.Lib.Pipeline.FrameSuffix
public import Idealize.ShloMosaic.Lib.Pipeline.RegionsLoop

@[expose] public section

set_option maxRecDepth 16384

noncomputable section

namespace Cert.ProjSIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjSIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every result ends as the last boundary's contents, every argument as launched. -/
theorem run_last : θ_run defs (onTc (τ := τ) (main (F := Ideal))) ⟨m, fun _ => 0, ρ⟩ (fun r => ∀ c : Dev nD,
      r.2.mem ((c.tc : Thread nD τ).loc main_v52) = W14 m ρ c (Proc.devRef .tc main_v52)
      ∧ r.2.mem ((c.tc : Thread nD τ).loc main_v53) = W14 m ρ c (Proc.devRef .tc main_v53)
      ∧ r.2.mem ((c.tc : Thread nD τ).loc main_v54) = W14 m ρ c (Proc.devRef .tc main_v54)
      ∧ r.2.mem ((c.tc : Thread nD τ).loc main_v55) = W14 m ρ c (Proc.devRef .tc main_v55)
      ∧ r.2.mem ((c.tc : Thread nD τ).loc main_v56) = W14 m ρ c (Proc.devRef .tc main_v56)
      ∧ r.2.mem ((c.tc : Thread nD τ).loc main_v57) = W14 m ρ c (Proc.devRef .tc main_v57)
      ∧ r.2.mem ((c.tc : Thread nD τ).loc main_v58) = W14 m ρ c (Proc.devRef .tc main_v58)
      ∧ r.2.mem ((c.tc : Thread nD τ).loc main_v59) = W14 m ρ c (Proc.devRef .tc main_v59)
      ∧ r.2.mem ((c.tc : Thread nD τ).loc main_v60) = W14 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h _ c =>
      ⟨h c _ (mem_uc main_v52 (by decide)),
       h c _ (mem_uc main_v53 (by decide)),
       h c _ (mem_uc main_v54 (by decide)),
       h c _ (mem_uc main_v55 (by decide)),
       h c _ (mem_uc main_v56 (by decide)),
       h c _ (mem_uc main_v57 (by decide)),
       h c _ (mem_uc main_v58 (by decide)),
       h c _ (mem_uc main_v59 (by decide)),
       h c _ (mem_uc main_v60 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c)⟩)

end Cert.ProjSIdeal.Value

end
-- ==== Proof.ProjSRef.lean ====
/-
  The reference of the input projection (sample), each result at an element.
-/
module

public import proofs.«01_k».proof.Proof.ProjSpec
public import proofs.«01_k».proof.Proof.Gen.ProjSRefIdeal.Run

@[expose] public section

set_option maxRecDepth 16384

noncomputable section

namespace Cert.ProjSRefIdeal.Value

open Idealize.ShloMosaic Idealize.SL.Sem Cert.ProjSRefIdeal.Gen Cert.ProjSpec

/-- The activations, each row normed. -/
def rX (X : FVec Ideal S8x16x2048 .f32) (g : FVec Ideal S2048 .f32) : FVec Ideal S8x16x2048 .f32 :=
  mulf (mulf X (broadcastInDim S8x16x2048 ![0, 1, 2] bcast_S8x16x1_S8x16x2048_0_1_2 (Host.rsqrt (addf (Host.divf (broadcastInDim S8x16x1 ![0, 1] bcast_S8x16_S8x16x1_0_1 (Host.reduceAdd (mulf X X) (constant S_ .f32 0x00000000#32) reducesTo_S8x16x2048_S8x16_d2 h_S_)) (broadcastInDim S8x16x1 ![] bcast_S_S8x16x1 (constant S_ .f32 0x45000000#32))) (broadcastInDim S8x16x1 ![] bcast_S_S8x16x1 (constant S_ .f32 0x358637BD#32))))))
    (broadcastInDim S8x16x2048 ![0, 1, 2] bcast_S1x1x2048_S8x16x2048_0_1_2 (broadcastInDim S1x1x2048 ![2] bcast_S2048_S1x1x2048_2 g))

/-- The product with every column of the weights. -/
def rP (H : FVec Ideal S8x16x2048 .f32) (W : FVec Ideal S2048x10248 .f32) : FVec Ideal S8x16x10248 .f32 :=
  Host.dotGeneral dot_S8x16x2048_S2048x10248_S8x16x10248_2_0_01_1_n_n none H W

/-- The norm of each head. -/
def rN (y : FVec Ideal S8x16x8x128 .f32) (g : FVec Ideal S128 .f32) : FVec Ideal S8x16x8x128 .f32 :=
  mulf (mulf y (broadcastInDim S8x16x8x128 ![0, 1, 2, 3] bcast_S8x16x8x1_S8x16x8x128_0_1_2_3 (Host.rsqrt (addf (Host.divf (broadcastInDim S8x16x8x1 ![0, 1, 2] bcast_S8x16x8_S8x16x8x1_0_1_2 (Host.reduceAdd (mulf y y) (constant S_ .f32 0x00000000#32) reducesTo_S8x16x8x128_S8x16x8_d3 h_S_)) (broadcastInDim S8x16x8x1 ![] bcast_S_S8x16x8x1 (constant S_ .f32 0x43000000#32))) (broadcastInDim S8x16x8x1 ![] bcast_S_S8x16x8x1 (constant S_ .f32 0x358637BD#32))))))
    (broadcastInDim S8x16x8x128 ![0, 1, 2, 3] bcast_S1x1x1x128_S8x16x8x128_0_1_2_3 (broadcastInDim S1x1x1x128 ![3] bcast_S128_S1x1x1x128_3 g))

/-- The gates. -/
def rG (z : FVec Ideal S8x16x2048 .f32) : FVec Ideal S8x16x2048 .bf16 :=
  truncf .bf16 (Host.divf (broadcastInDim S8x16x2048 ![] bcast_S_S8x16x2048 (constant S_ .f32 0x3F800000#32)) (addf (broadcastInDim S8x16x2048 ![] bcast_S_S8x16x2048 (constant S_ .f32 0x3F800000#32)) (Host.exp (Host.negf z)))) bitsLt_bf16_f32

/-- The forget values before and after the log-sigmoid. -/
def rZ (P : FVec Ideal S8x16x10248 .f32) (b : FVec Ideal S8 .f32) : FVec Ideal S8x16x8 .f32 :=
  addf (extractStridedSlice S8x16x8 ![0, 0, 6144] P slices_S8x16x10248_S8x16x8_0_0_6144) (broadcastInDim S8x16x8 ![0, 1, 2] bcast_S1x1x8_S8x16x8_0_1_2 (broadcastInDim S1x1x8 ![2] bcast_S8_S1x1x8_2 b))

def rL (z : FVec Ideal S8x16x8 .f32) : FVec Ideal S8x16x8 .f32 :=
  Host.negf (select (cmpf .une (subf (Host.negf z) (broadcastInDim S8x16x8 ![] bcast_S_S8x16x8 (constant S_ .f32 0x00000000#32))) (subf (Host.negf z) (broadcastInDim S8x16x8 ![] bcast_S_S8x16x8 (constant S_ .f32 0x00000000#32))))
    (addf (Host.negf z) (broadcastInDim S8x16x8 ![] bcast_S_S8x16x8 (constant S_ .f32 0x00000000#32)))
    (addf (maximumf (Host.negf z) (broadcastInDim S8x16x8 ![] bcast_S_S8x16x8 (constant S_ .f32 0x00000000#32)))
      (Host.log1p (Host.exp (Host.negf (Host.absf (subf (Host.negf z) (broadcastInDim S8x16x8 ![] bcast_S_S8x16x8 (constant S_ .f32 0x00000000#32)))))))))

theorem rX_at (X : FVec Ideal S8x16x2048 .f32) (g : FVec Ideal S2048 .f32) (b : Fin 8) (t : Fin 16) (d : Fin 2048) :
    rX X g (ix3 b t d) = rms w2048 (fun j => X (ix3 b t j)) (fun j => g (ix1 j)) d := by
  pointwise [rX]
  rfl

theorem rP_at (H : FVec Ideal S8x16x2048 .f32) (W : FVec Ideal S2048x10248 .f32) (b : Fin 8) (t : Fin 16) (n : Fin 10248) :
    rP H W (ix3 b t n) = prd (fun k => H (ix3 b t k)) W n := by
  pointwise [rP]
  rfl

theorem rN_at (y : FVec Ideal S8x16x8x128 .f32) (g : FVec Ideal S128 .f32) (b : Fin 8) (t : Fin 16) (h : Fin 8) (d : Fin 128) :
    rN y g (ix4 b t h d) = rms w128 (fun j => y (ix4 b t h j)) (fun j => g (ix1 j)) d := by
  pointwise [rN]
  rfl

theorem rG_at (z : FVec Ideal S8x16x2048 .f32) (b : Fin 8) (t : Fin 16) (n : Fin 2048) :
    rG z (ix3 b t n) = Ideal.logistic (z (ix3 b t n)) := by
  pointwise [rG]
  rfl

theorem rZ_at (P : FVec Ideal S8x16x10248 .f32) (g : FVec Ideal S8 .f32) (b : Fin 8) (t : Fin 16) (h : Fin 8) :
    rZ P g (ix3 b t h) = P (ix3 b t ⟨6144 + h.val, by omega⟩) + g (ix1 h) := by
  pointwise [rZ]

theorem rL_at (z : FVec Ideal S8x16x8 .f32) (b : Fin 8) (t : Fin 16) (h : Fin 8) :
    rL z (ix3 b t h) = lsig (z (ix3 b t h)) := by
  rw [← lsig_ref]
  pointwise [rL]
  simp only [ne_eq, not_true_eq_false, if_false]
  rfl

/-- Eight heads' columns, from column 0 on. -/
def rH0 (P : FVec Ideal S8x16x10248 .f32) : FVec Ideal S8x16x8x128 .f32 :=
  shapeCast S8x16x8x128 (extractStridedSlice S8x16x1024 ![0, 0, 0] P slices_S8x16x10248_S8x16x1024_0_0_0) shapeCasts_S8x16x1024_S8x16x8x128

theorem rH0_at (P : FVec Ideal S8x16x10248 .f32) (b : Fin 8) (t : Fin 16) (h : Fin 8) (d : Fin 128) :
    rH0 P (ix4 b t h d) = P (ix3 b t ⟨0 + (h.val * 128 + d.val), by omega⟩) := by
  pointwise [rH0]

/-- Eight heads' columns, from column 1024 on. -/
def rH1024 (P : FVec Ideal S8x16x10248 .f32) : FVec Ideal S8x16x8x128 .f32 :=
  shapeCast S8x16x8x128 (extractStridedSlice S8x16x1024 ![0, 0, 1024] P slices_S8x16x10248_S8x16x1024_0_0_1024) shapeCasts_S8x16x1024_S8x16x8x128

theorem rH1024_at (P : FVec Ideal S8x16x10248 .f32) (b : Fin 8) (t : Fin 16) (h : Fin 8) (d : Fin 128) :
    rH1024 P (ix4 b t h d) = P (ix3 b t ⟨1024 + (h.val * 128 + d.val), by omega⟩) := by
  pointwise [rH1024]

/-- Eight heads' columns, from column 2048 on. -/
def rH2048 (P : FVec Ideal S8x16x10248 .f32) : FVec Ideal S8x16x8x128 .f32 :=
  shapeCast S8x16x8x128 (extractStridedSlice S8x16x1024 ![0, 0, 2048] P slices_S8x16x10248_S8x16x1024_0_0_2048) shapeCasts_S8x16x1024_S8x16x8x128

theorem rH2048_at (P : FVec Ideal S8x16x10248 .f32) (b : Fin 8) (t : Fin 16) (h : Fin 8) (d : Fin 128) :
    rH2048 P (ix4 b t h d) = P (ix3 b t ⟨2048 + (h.val * 128 + d.val), by omega⟩) := by
  pointwise [rH2048]

/-- Eight heads' columns, from column 3072 on. -/
def rH3072 (P : FVec Ideal S8x16x10248 .f32) : FVec Ideal S8x16x8x128 .f32 :=
  shapeCast S8x16x8x128 (extractStridedSlice S8x16x1024 ![0, 0, 3072] P slices_S8x16x10248_S8x16x1024_0_0_3072) shapeCasts_S8x16x1024_S8x16x8x128

theorem rH3072_at (P : FVec Ideal S8x16x10248 .f32) (b : Fin 8) (t : Fin 16) (h : Fin 8) (d : Fin 128) :
    rH3072 P (ix4 b t h d) = P (ix3 b t ⟨3072 + (h.val * 128 + d.val), by omega⟩) := by
  pointwise [rH3072]

/-- Eight heads' columns, from column 4096 on. -/
def rH4096 (P : FVec Ideal S8x16x10248 .f32) : FVec Ideal S8x16x8x128 .f32 :=
  shapeCast S8x16x8x128 (extractStridedSlice S8x16x1024 ![0, 0, 4096] P slices_S8x16x10248_S8x16x1024_0_0_4096) shapeCasts_S8x16x1024_S8x16x8x128

theorem rH4096_at (P : FVec Ideal S8x16x10248 .f32) (b : Fin 8) (t : Fin 16) (h : Fin 8) (d : Fin 128) :
    rH4096 P (ix4 b t h d) = P (ix3 b t ⟨4096 + (h.val * 128 + d.val), by omega⟩) := by
  pointwise [rH4096]

/-- Eight heads' columns, from column 5120 on. -/
def rH5120 (P : FVec Ideal S8x16x10248 .f32) : FVec Ideal S8x16x8x128 .f32 :=
  shapeCast S8x16x8x128 (extractStridedSlice S8x16x1024 ![0, 0, 5120] P slices_S8x16x10248_S8x16x1024_0_0_5120) shapeCasts_S8x16x1024_S8x16x8x128

theorem rH5120_at (P : FVec Ideal S8x16x10248 .f32) (b : Fin 8) (t : Fin 16) (h : Fin 8) (d : Fin 128) :
    rH5120 P (ix4 b t h d) = P (ix3 b t ⟨5120 + (h.val * 128 + d.val), by omega⟩) := by
  pointwise [rH5120]

def rS6152 (P : FVec Ideal S8x16x10248 .f32) : FVec Ideal S8x16x2048 .f32 :=
  extractStridedSlice S8x16x2048 ![0, 0, 6152] P slices_S8x16x10248_S8x16x2048_0_0_6152

theorem rS6152_at (P : FVec Ideal S8x16x10248 .f32) (b : Fin 8) (t : Fin 16) (n : Fin 2048) :
    rS6152 P (ix3 b t n) = P (ix3 b t ⟨6152 + n.val, by omega⟩) := by
  pointwise [rS6152]

def rS8200 (P : FVec Ideal S8x16x10248 .f32) : FVec Ideal S8x16x2048 .f32 :=
  extractStridedSlice S8x16x2048 ![0, 0, 8200] P slices_S8x16x10248_S8x16x2048_0_0_8200

theorem rS8200_at (P : FVec Ideal S8x16x10248 .f32) (b : Fin 8) (t : Fin 16) (n : Fin 2048) :
    rS8200 P (ix3 b t n) = P (ix3 b t ⟨8200 + n.val, by omega⟩) := by
  pointwise [rS8200]

/-- The whole product. -/
def pr (m : (ℓ : Loc nD τ sig) → Buf (Elt Ideal) ℓ) (c : Dev nD) : FVec Ideal S8x16x10248 .f32 :=
  rP (rX (m ((c.tc : Thread nD τ).loc main_arg0)) (m ((c.tc : Thread nD τ).loc main_arg1))) (m ((c.tc : Thread nD τ).loc main_arg2))

/-- Each result of the reference as its parts. -/
theorem run_parts (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50) = rN (rH1024 (pr m c)) (m ((c.tc : Thread nD τ).loc main_arg5))
      ∧ r.2.mem ((c.tc : Thread nD τ).loc main_v83) = rH2048 (pr m c)
      ∧ r.2.mem ((c.tc : Thread nD τ).loc main_v78) = rN (rH4096 (pr m c)) (m ((c.tc : Thread nD τ).loc main_arg7))
      ∧ r.2.mem ((c.tc : Thread nD τ).loc main_v84) = rH5120 (pr m c)
      ∧ r.2.mem ((c.tc : Thread nD τ).loc main_v82) = rL (rZ (pr m c) (m ((c.tc : Thread nD τ).loc main_arg3)))
      ∧ r.2.mem ((c.tc : Thread nD τ).loc main_v97) = truncf .bf16 (rN (rH0 (pr m c)) (m ((c.tc : Thread nD τ).loc main_arg4))) bitsLt_bf16_f32
      ∧ r.2.mem ((c.tc : Thread nD τ).loc main_v98) = truncf .bf16 (rN (rH3072 (pr m c)) (m ((c.tc : Thread nD τ).loc main_arg6))) bitsLt_bf16_f32
      ∧ r.2.mem ((c.tc : Thread nD τ).loc main_v99) = rG (rS6152 (pr m c))
      ∧ r.2.mem ((c.tc : Thread nD τ).loc main_v100) = rG (rS8200 (pr m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono (fun r h c => ?_) (run m ρ)
  obtain ⟨h0, h1, h2, h3, h4, h5, h6, h7, h8, ha⟩ := h c
  exact ⟨h0, h1, h2, h3, h4.trans (by unfold res_main_v82 rL rZ pr rP rX; rfl), h5, h6, h7, h8, ha⟩

end Cert.ProjSRefIdeal.Value

end
-- ==== Proof.ProjSValue.lean ====
/-
  The input projection (sample): kernel and reference end with equal results.
-/
module

public import proofs.«01_k».proof.Defs
public import proofs.«01_k».proof.Proof.Gen.ProjSIdeal.Frame
public import proofs.«01_k».proof.Proof.ProjSOut
public import proofs.«01_k».proof.Proof.ProjSRun
public import proofs.«01_k».proof.Proof.ProjSRef

@[expose] public section

set_option maxRecDepth 16384

noncomputable section

namespace Cert.ProjSValue

open Idealize.ShloMosaic Idealize.SL.Sem Cert.ProjSpec
open Cert.ProjSRefIdeal Cert.ProjSRefIdeal.Gen Cert.ProjSRefIdeal.Value

/-! ## The reference's results at an element -/

/-- The reference's product of the normed activations. -/
def prA (X : FVec Ideal S8x16x2048 .f32) (g : FVec Ideal S2048 .f32) (W : FVec Ideal S2048x10248 .f32) : FVec Ideal S8x16x10248 .f32 :=
  rP (rX X g) W

variable (X : FVec Ideal S8x16x2048 .f32) (g : FVec Ideal S2048 .f32) (W : FVec Ideal S2048x10248 .f32)

theorem prA_at (b : Fin 8) (t : Fin 16) (n : Fin 10248) :
    prA X g W (ix3 b t n) = prd (fun k => rms w2048 (fun j => X (ix3 b t j)) (fun j => g (ix1 j)) k) W n := by
  unfold prA
  rw [rP_at]
  exact congrArg (prd · W n) (funext fun k => rX_at X g b t k)

theorem head0_at (k : FVec Ideal S128 .f32) (b : Fin 8) (t : Fin 16) (h : Fin 8) (d : Fin 128) :
    rN (rH0 (prA X g W)) k (ix4 b t h d)
      = rms w128 (fun j => prd (fun k => rms w2048 (fun j => X (ix3 b t j)) (fun j => g (ix1 j)) k) W ⟨0 + (h.val * 128 + j.val), by omega⟩) (fun j => k (ix1 j)) d := by
  rw [rN_at]
  exact congrArg (rms w128 · _ d) (funext fun j => (rH0_at _ b t h j).trans (prA_at X g W b t _))

theorem head1024_at (k : FVec Ideal S128 .f32) (b : Fin 8) (t : Fin 16) (h : Fin 8) (d : Fin 128) :
    rN (rH1024 (prA X g W)) k (ix4 b t h d)
      = rms w128 (fun j => prd (fun k => rms w2048 (fun j => X (ix3 b t j)) (fun j => g (ix1 j)) k) W ⟨1024 + (h.val * 128 + j.val), by omega⟩) (fun j => k (ix1 j)) d := by
  rw [rN_at]
  exact congrArg (rms w128 · _ d) (funext fun j => (rH1024_at _ b t h j).trans (prA_at X g W b t _))

theorem head3072_at (k : FVec Ideal S128 .f32) (b : Fin 8) (t : Fin 16) (h : Fin 8) (d : Fin 128) :
    rN (rH3072 (prA X g W)) k (ix4 b t h d)
      = rms w128 (fun j => prd (fun k => rms w2048 (fun j => X (ix3 b t j)) (fun j => g (ix1 j)) k) W ⟨3072 + (h.val * 128 + j.val), by omega⟩) (fun j => k (ix1 j)) d := by
  rw [rN_at]
  exact congrArg (rms w128 · _ d) (funext fun j => (rH3072_at _ b t h j).trans (prA_at X g W b t _))

theorem head4096_at (k : FVec Ideal S128 .f32) (b : Fin 8) (t : Fin 16) (h : Fin 8) (d : Fin 128) :
    rN (rH4096 (prA X g W)) k (ix4 b t h d)
      = rms w128 (fun j => prd (fun k => rms w2048 (fun j => X (ix3 b t j)) (fun j => g (ix1 j)) k) W ⟨4096 + (h.val * 128 + j.val), by omega⟩) (fun j => k (ix1 j)) d := by
  rw [rN_at]
  exact congrArg (rms w128 · _ d) (funext fun j => (rH4096_at _ b t h j).trans (prA_at X g W b t _))

theorem head2048_at (b : Fin 8) (t : Fin 16) (h : Fin 8) (d : Fin 128) :
    rH2048 (prA X g W) (ix4 b t h d) = prd (fun k => rms w2048 (fun j => X (ix3 b t j)) (fun j => g (ix1 j)) k) W ⟨2048 + (h.val * 128 + d.val), by omega⟩ :=
  (rH2048_at _ b t h d).trans (prA_at X g W b t _)

theorem head5120_at (b : Fin 8) (t : Fin 16) (h : Fin 8) (d : Fin 128) :
    rH5120 (prA X g W) (ix4 b t h d) = prd (fun k => rms w2048 (fun j => X (ix3 b t j)) (fun j => g (ix1 j)) k) W ⟨5120 + (h.val * 128 + d.val), by omega⟩ :=
  (rH5120_at _ b t h d).trans (prA_at X g W b t _)

theorem gate6152_at (b : Fin 8) (t : Fin 16) (n : Fin 2048) :
    rG (rS6152 (prA X g W)) (ix3 b t n) = Ideal.logistic (prd (fun k => rms w2048 (fun j => X (ix3 b t j)) (fun j => g (ix1 j)) k) W ⟨6152 + n.val, by omega⟩) :=
  (rG_at _ b t n).trans (congrArg Ideal.logistic ((rS6152_at _ b t n).trans (prA_at X g W b t _)))

theorem gate8200_at (b : Fin 8) (t : Fin 16) (n : Fin 2048) :
    rG (rS8200 (prA X g W)) (ix3 b t n) = Ideal.logistic (prd (fun k => rms w2048 (fun j => X (ix3 b t j)) (fun j => g (ix1 j)) k) W ⟨8200 + n.val, by omega⟩) :=
  (rG_at _ b t n).trans (congrArg Ideal.logistic ((rS8200_at _ b t n).trans (prA_at X g W b t _)))

theorem forget_at (f : FVec Ideal S8 .f32) (b : Fin 8) (t : Fin 16) (h : Fin 8) :
    rL (rZ (prA X g W) f) (ix3 b t h) = lsig (prd (fun k => rms w2048 (fun j => X (ix3 b t j)) (fun j => g (ix1 j)) k) W ⟨6144 + h.val, by omega⟩ + f (ix1 h)) :=
  (rL_at _ b t h).trans (congrArg lsig ((rZ_at _ f b t h).trans (congrArg (· + f (ix1 h)) (prA_at X g W b t _))))

/-! ## The two programs -/

theorem results_eq (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (c : Dev Cert.ProjSIdeal.nD)
    (h0 : m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0))
    (h1 : m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1))
    (h2 : m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2))
    (h3 : m' ((c.tc : Thread Cert.ProjSRefIdeal.nD Cert.ProjSRefIdeal.τ).loc Cert.ProjSRefIdeal.main_arg3) = m ((c.tc : Thread Cert.ProjSIdeal.nD Cert.ProjSIdeal.τ).loc Cert.ProjSIdeal.main_arg3))
    (h4 : m' ((c.tc : Thread Cert.ProjSRefIdeal.nD Cert.ProjSRefIdeal.τ).loc Cert.ProjSRefIdeal.main_arg4) = m ((c.tc : Thread Cert.ProjSIdeal.nD Cert.ProjSIdeal.τ).loc Cert.ProjSIdeal.main_arg4))
    (h5 : m' ((c.tc : Thread Cert.ProjSRefIdeal.nD Cert.ProjSRefIdeal.τ).loc Cert.ProjSRefIdeal.main_arg5) = m ((c.tc : Thread Cert.ProjSIdeal.nD Cert.ProjSIdeal.τ).loc Cert.ProjSIdeal.main_arg5))
    (h6 : m' ((c.tc : Thread Cert.ProjSRefIdeal.nD Cert.ProjSRefIdeal.τ).loc Cert.ProjSRefIdeal.main_arg6) = m ((c.tc : Thread Cert.ProjSIdeal.nD Cert.ProjSIdeal.τ).loc Cert.ProjSIdeal.main_arg6))
    (h7 : m' ((c.tc : Thread Cert.ProjSRefIdeal.nD Cert.ProjSRefIdeal.τ).loc Cert.ProjSRefIdeal.main_arg7) = m ((c.tc : Thread Cert.ProjSIdeal.nD Cert.ProjSIdeal.τ).loc Cert.ProjSIdeal.main_arg7)) :
    rN (rH1024 (pr m' c)) (m' ((c.tc : Thread Cert.ProjSRefIdeal.nD Cert.ProjSRefIdeal.τ).loc Cert.ProjSRefIdeal.main_arg5)) = Cert.ProjSIdeal.Gen.W14 m g c (Proc.devRef .tc Cert.ProjSIdeal.main_v52)
    ∧ rH2048 (pr m' c) = Cert.ProjSIdeal.Gen.W14 m g c (Proc.devRef .tc Cert.ProjSIdeal.main_v53)
    ∧ rN (rH4096 (pr m' c)) (m' ((c.tc : Thread Cert.ProjSRefIdeal.nD Cert.ProjSRefIdeal.τ).loc Cert.ProjSRefIdeal.main_arg7)) = Cert.ProjSIdeal.Gen.W14 m g c (Proc.devRef .tc Cert.ProjSIdeal.main_v54)
    ∧ rH5120 (pr m' c) = Cert.ProjSIdeal.Gen.W14 m g c (Proc.devRef .tc Cert.ProjSIdeal.main_v55)
    ∧ rL (rZ (pr m' c) (m' ((c.tc : Thread Cert.ProjSRefIdeal.nD Cert.ProjSRefIdeal.τ).loc Cert.ProjSRefIdeal.main_arg3))) = Cert.ProjSIdeal.Gen.W14 m g c (Proc.devRef .tc Cert.ProjSIdeal.main_v56)
    ∧ truncf .bf16 (rN (rH0 (pr m' c)) (m' ((c.tc : Thread Cert.ProjSRefIdeal.nD Cert.ProjSRefIdeal.τ).loc Cert.ProjSRefIdeal.main_arg4))) bitsLt_bf16_f32 = Cert.ProjSIdeal.Gen.W14 m g c (Proc.devRef .tc Cert.ProjSIdeal.main_v57)
    ∧ truncf .bf16 (rN (rH3072 (pr m' c)) (m' ((c.tc : Thread Cert.ProjSRefIdeal.nD Cert.ProjSRefIdeal.τ).loc Cert.ProjSRefIdeal.main_arg6))) bitsLt_bf16_f32 = Cert.ProjSIdeal.Gen.W14 m g c (Proc.devRef .tc Cert.ProjSIdeal.main_v58)
    ∧ rG (rS6152 (pr m' c)) = Cert.ProjSIdeal.Gen.W14 m g c (Proc.devRef .tc Cert.ProjSIdeal.main_v59)
    ∧ rG (rS8200 (pr m' c)) = Cert.ProjSIdeal.Gen.W14 m g c (Proc.devRef .tc Cert.ProjSIdeal.main_v60) := by
  have hp : pr m' c = (prA (Cert.ProjSIdeal.Value.aX m c) (Cert.ProjSIdeal.Value.aG m c) (Cert.ProjSIdeal.Value.aW m c)) := by
    unfold pr prA
    rw [h0, h1, h2]
  rw [hp, h3, h4, h5, h6, h7]
  refine ⟨?_, ?_, ?_, ?_, ?_, ?_, ?_, ?_, ?_⟩
  · funext i
    obtain ⟨b, t, h, d, rfl⟩ := ix4_ex i
    exact (head1024_at (Cert.ProjSIdeal.Value.aX m c) (Cert.ProjSIdeal.Value.aG m c) (Cert.ProjSIdeal.Value.aW m c) (Cert.ProjSIdeal.Value.gKa m c) b t h d).trans (Cert.ProjSIdeal.Value.v52_at m g c b t h d).symm
  · funext i
    obtain ⟨b, t, h, d, rfl⟩ := ix4_ex i
    exact (head2048_at (Cert.ProjSIdeal.Value.aX m c) (Cert.ProjSIdeal.Value.aG m c) (Cert.ProjSIdeal.Value.aW m c)  b t h d).trans (Cert.ProjSIdeal.Value.v53_at m g c b t h d).symm
  · funext i
    obtain ⟨b, t, h, d, rfl⟩ := ix4_ex i
    exact (head4096_at (Cert.ProjSIdeal.Value.aX m c) (Cert.ProjSIdeal.Value.aG m c) (Cert.ProjSIdeal.Value.aW m c) (Cert.ProjSIdeal.Value.gKb m c) b t h d).trans (Cert.ProjSIdeal.Value.v54_at m g c b t h d).symm
  · funext i
    obtain ⟨b, t, h, d, rfl⟩ := ix4_ex i
    exact (head5120_at (Cert.ProjSIdeal.Value.aX m c) (Cert.ProjSIdeal.Value.aG m c) (Cert.ProjSIdeal.Value.aW m c)  b t h d).trans (Cert.ProjSIdeal.Value.v55_at m g c b t h d).symm
  · funext i
    obtain ⟨b, t, h, rfl⟩ := ix3_ex i
    exact (forget_at (Cert.ProjSIdeal.Value.aX m c) (Cert.ProjSIdeal.Value.aG m c) (Cert.ProjSIdeal.Value.aW m c) (Cert.ProjSIdeal.Value.aB m c) b t h).trans (Cert.ProjSIdeal.Value.v56_at m g c b t h).symm
  · funext i
    obtain ⟨b, t, h, d, rfl⟩ := ix4_ex i
    exact (head0_at (Cert.ProjSIdeal.Value.aX m c) (Cert.ProjSIdeal.Value.aG m c) (Cert.ProjSIdeal.Value.aW m c) (Cert.ProjSIdeal.Value.gQa m c) b t h d).trans (Cert.ProjSIdeal.Value.v57_at m g c b t h d).symm
  · funext i
    obtain ⟨b, t, h, d, rfl⟩ := ix4_ex i
    exact (head3072_at (Cert.ProjSIdeal.Value.aX m c) (Cert.ProjSIdeal.Value.aG m c) (Cert.ProjSIdeal.Value.aW m c) (Cert.ProjSIdeal.Value.gQb m c) b t h d).trans (Cert.ProjSIdeal.Value.v58_at m g c b t h d).symm
  · funext i
    obtain ⟨b, t, n, rfl⟩ := ix3_ex i
    exact (gate6152_at (Cert.ProjSIdeal.Value.aX m c) (Cert.ProjSIdeal.Value.aG m c) (Cert.ProjSIdeal.Value.aW m c)  b t n).trans (Cert.ProjSIdeal.Value.v59_at m g c b t n).symm
  · funext i
    obtain ⟨b, t, n, rfl⟩ := ix3_ex i
    exact (gate8200_at (Cert.ProjSIdeal.Value.aX m c) (Cert.ProjSIdeal.Value.aG m c) (Cert.ProjSIdeal.Value.aW m c)  b t n).trans (Cert.ProjSIdeal.Value.v60_at m g c b t n).symm

theorem algebraic : Cert.algebraic_ProjSIdeal_ProjSRefIdeal (hProjSIdeal := Cert.ProjSIdeal.Gen.facts) (hProjSRefIdeal := Cert.ProjSRefIdeal.Gen.facts) := by
  intro m g m' g' _ hagree
  refine ⟨fun c => Cert.ProjSIdeal.Gen.W14 m g c (Proc.devRef .tc Cert.ProjSIdeal.main_v52), fun c => Cert.ProjSIdeal.Gen.W14 m g c (Proc.devRef .tc Cert.ProjSIdeal.main_v53), fun c => Cert.ProjSIdeal.Gen.W14 m g c (Proc.devRef .tc Cert.ProjSIdeal.main_v54), fun c => Cert.ProjSIdeal.Gen.W14 m g c (Proc.devRef .tc Cert.ProjSIdeal.main_v55), fun c => Cert.ProjSIdeal.Gen.W14 m g c (Proc.devRef .tc Cert.ProjSIdeal.main_v56), fun c => Cert.ProjSIdeal.Gen.W14 m g c (Proc.devRef .tc Cert.ProjSIdeal.main_v57), fun c => Cert.ProjSIdeal.Gen.W14 m g c (Proc.devRef .tc Cert.ProjSIdeal.main_v58), fun c => Cert.ProjSIdeal.Gen.W14 m g c (Proc.devRef .tc Cert.ProjSIdeal.main_v59), fun c => Cert.ProjSIdeal.Gen.W14 m g c (Proc.devRef .tc Cert.ProjSIdeal.main_v60), Cert.ProjSIdeal.Value.run_last m g, ?_⟩
  refine (θ_run _ _ _).mono (fun r h c => ?_) (run_parts m' g')
  obtain ⟨h0, h1, h2, h3, h4, h5, h6, h7⟩ := hagree c
  obtain ⟨e0, e1, e2, e3, e4, e5, e6, e7, e8⟩ := results_eq m g m' c h0 h1 h2 h3 h4 h5 h6 h7
  obtain ⟨r0, r1, r2, r3, r4, r5, r6, r7, r8, ra⟩ := h c
  exact ⟨r0.trans e0, r1.trans e1, r2.trans e2, r3.trans e3, r4.trans e4, r5.trans e5, r6.trans e6, r7.trans e7, r8.trans e8, ra⟩

end Cert.ProjSValue

end
-- ==== Proof.MergeSpec.lean ====
/-
  The merge of the two attentions' outputs and the output projection, element by element at extended reals: the gated sum
  of two products, the residual sum, the norm of each row turned so that a token is a column.
-/
module

public import proofs.«01_k».proof.Proof.ProjCols

@[expose] public section

noncomputable section

namespace Cert.MergeSpec

open Idealize.ShloMosaic Cert.ProjSpec

/-- An element of the merge: each attention's row times a column of its weights, scaled by its gate. -/
def mix (ga gb : EReal) (a wa b wb : Fin 1024 → EReal) : EReal :=
  ga * ∑ k, a k * wa k + gb * ∑ k, b k * wb k

/-- The merge of whole arrays: the first 2048 columns of the gates are one attention's, the others the other's. -/
def mixed {R : ℕ} (ya yb : (A2 R 1024).Idx → EReal) (wa wb : (A2 1024 2048).Idx → EReal) (G : (A2 R 4096).Idx → EReal) :
    (A2 R 2048).Idx → EReal := fun i =>
  mix (G (ix2 (i 0) ⟨(i 1).val, Nat.lt_of_lt_of_le (m := 2048) (i 1).isLt (by decide)⟩)) (G (ix2 (i 0) ⟨2048 + (i 1).val, Nat.add_lt_add_left (i 1).isLt 2048⟩))
    (fun k => ya (ix2 (i 0) k)) (fun k => wa (ix2 k (i 1))) (fun k => yb (ix2 (i 0) k)) (fun k => wb (ix2 k (i 1)))

/-- The residual sum: the layer's input plus a product. -/
def resid {R : ℕ} (X M : (A2 R 2048).Idx → EReal) (W : (A2 2048 2048).Idx → EReal) : (A2 R 2048).Idx → EReal := fun i =>
  X i + prd (fun k => M (ix2 (i 0) k)) W (i 1)

/-- Rows and columns changed over. -/
def turned {R N : ℕ} (H : (A2 R N).Idx → EReal) : (A2 N R).Idx → EReal := fun i => H (ix2 (i 1) (i 0))

theorem mix_congr {ga gb ga' gb' : EReal} {a wa b wb a' wa' b' wb' : Fin 1024 → EReal} (h0 : ga = ga') (h1 : gb = gb')
    (h2 : ∀ k, a k = a' k) (h3 : ∀ k, wa k = wa' k) (h4 : ∀ k, b k = b' k) (h5 : ∀ k, wb k = wb' k) :
    mix ga gb a wa b wb = mix ga' gb' a' wa' b' wb' := by
  obtain rfl := h0
  obtain rfl := h1
  obtain rfl := funext h2
  obtain rfl := funext h3
  obtain rfl := funext h4
  obtain rfl := funext h5
  rfl

end Cert.MergeSpec

end
-- ==== Proof.MergeTiles.lean ====
/-
  One tile of each of the two stages, the merge and the output projection, read at an element.
-/
module

public import proofs.«01_k».proof.Proof.MergeSpec
public import proofs.«01_k».proof.Proof.Gen.MergeIdeal.Skeleton

@[expose] public section

set_option maxRecDepth 16384

noncomputable section

namespace Cert.MergeIdeal.Value

open Idealize.ShloMosaic Idealize.SL.Sem Cert.MergeIdeal.Gen Cert.ProjSpec Cert.MergeSpec

/-- A tile of the merge. -/
theorem k0_at (ya : Vec Ideal S512x1024 .bf16) (wa : Vec Ideal S1024x512 .bf16) (yb : Vec Ideal S512x1024 .bf16) (wb : Vec Ideal S1024x512 .bf16)
    (ga gb : Vec Ideal S512x512 .bf16) (r n : Fin 512) :
    k0_pay1 (F := Ideal) ya wa yb wb ga gb (ix2 r n) = mix (ga (ix2 r n)) (gb (ix2 r n)) (fun k => ya (ix2 r k)) (fun k => wa (ix2 k n))
      (fun k => yb (ix2 r k)) (fun k => wb (ix2 k n)) := by
  pointwise [k0_pay1]
  rfl

section Out

variable (x : Vec Ideal S256x2048 .f32) (y : Vec Ideal S256x2048 .bf16) (w : Vec Ideal S2048x2048 .bf16) (g : Vec Ideal S1x2048 .f32)

/-- A tile of the residual sum. -/
theorem k1_sum_at (r : Fin 256) (n : Fin 2048) :
    k1_pay1 (F := Ideal) x y w (ix2 r n) = resid (R := 256) x y w (ix2 r n) := by
  pointwise [k1_pay1]
  rfl

/-- The norm of the residual sum's rows, turned. -/
theorem k1_norm_at (n : Fin 2048) (r : Fin 256) :
    k1_pay2 (F := Ideal) x y w g (ix2 n r) = rms w2048 (fun j => resid (R := 256) x y w (ix2 r j)) (fun j => g (ix2 0 j)) n := by
  have e : (k1_pay1 (F := Ideal) x y w : FVec Ideal S256x2048 .f32) = resid (R := 256) x y w := by
    funext i
    obtain ⟨r, n, rfl⟩ := ix2_ex (a := 256) (b := 2048) i
    exact k1_sum_at x y w r n
  unfold k1_pay2
  rw [e]
  generalize resid (R := 256) x y w = h
  pointwise
  rfl

end Out

end Cert.MergeIdeal.Value

end
-- ==== Proof.MergeRegions.lean ====
/-
  The two stages, the merge and the output projection, as arrays: what each leaves in its outputs, from the arrays it is
  given.
-/
module

public import proofs.«01_k».proof.Proof.MergeTiles
public import proofs.«01_k».proof.Proof.Gen.MergeIdeal.Frame
public import Idealize.ShloMosaic.Lib.Pipeline.ValueKit
public import Idealize.ShloMosaic.Lib.Pipeline.ReadBack
public import Idealize.ShloMosaic.Lib.Pipeline.Value

@[expose] public section

set_option maxRecDepth 16384

noncomputable section

namespace Cert.MergeIdeal.Value

open Idealize.ShloMosaic Idealize.SL.Sem Cert.MergeIdeal.Gen Cert.ProjSpec Cert.MergeSpec
open Idealize.ShloMosaic.TcCoe

theorem z2 : ∀ a : Fin 2, (![0, 0] : Fin 2 → ℕ) a = 0 := by decide

/-! ## The tiles the stages write -/

theorem out0_eq (ya yb : Vec Ideal S512x1024 .bf16) (wa wb : Vec Ideal S1024x512 .bf16) (ga gb : Vec Ideal S512x512 .bf16) :
    out0_6 ya yb wa wb ga gb = k0_pay1 ya wa yb wb ga gb := by
  unfold out0_6
  rw [View.canon_cons_unit_lit' _ _ _ z2, View.ld_unit_lit' _ _ z2, View.ld_unit_lit' _ _ z2, View.ld_unit_lit' _ _ z2,
    View.ld_unit_lit' _ _ z2, View.ld_unit_lit' _ _ z2, View.ld_unit_lit' _ _ z2]

theorem out1_sum (y : Vec Ideal S256x2048 .bf16) (w : Vec Ideal S2048x2048 .bf16) (x : Vec Ideal S256x2048 .f32) (g : Vec Ideal S1x2048 .f32) :
    out1_4 y w x g = k1_pay1 x y w := by
  unfold out1_4
  rw [View.canon_cons_unit_lit' _ _ _ z2, View.ld_unit_lit' _ _ z2, View.ld_unit_lit' _ _ z2, View.ld_unit_lit' _ _ z2]

theorem out1_norm (y : Vec Ideal S256x2048 .bf16) (w : Vec Ideal S2048x2048 .bf16) (x : Vec Ideal S256x2048 .f32) (g : Vec Ideal S1x2048 .f32) :
    out1_5 y w x g = k1_pay2 x y w g := by
  unfold out1_5
  rw [View.canon_cons_unit_lit' _ _ _ z2, View.ld_unit_lit' _ _ z2, View.ld_unit_lit' _ _ z2, View.ld_unit_lit' _ _ z2, View.ld_unit_lit' _ _ z2]

/-! ## The stages' arrays -/

variable (V : (c : Dev nD) → (b : Ref sig .tc) → Buf (Elt Ideal) ((c : Thread nD τ).loc b)) (c : Dev nD)

theorem idx0 : ∀ t : Fin cfg0.N, win0_0.index t = ![(grid0.coords t 0).val, 0] ∧ win0_1.index t = ![(grid0.coords t 0).val, 0]
    ∧ win0_2.index t = ![0, (grid0.coords t 1).val] ∧ win0_3.index t = ![0, (grid0.coords t 1).val]
    ∧ win0_4.index t = ![(grid0.coords t 0).val, (grid0.coords t 1).val] ∧ win0_5.index t = ![(grid0.coords t 0).val, (grid0.coords t 1).val + 4]
    ∧ win0_6.index t = ![(grid0.coords t 0).val, (grid0.coords t 1).val] :=
  (by decide +kernel : ∀ t : Fin grid0.N, _)

/-- A row and a column of the point's block. -/
abbrev row0 (t : Fin cfg0.N) (r : Fin 512) : Fin 8192 :=
  ⟨(grid0.coords t 0).val * 512 + r.val, by have : (grid0.coords t 0).val < 16 := (grid0.coords t 0).isLt; omega⟩

theorem col0 (t : Fin cfg0.N) : (grid0.coords t 1).val < 4 := (grid0.coords t 1).isLt

abbrev col0' (t : Fin cfg0.N) (n : Fin 512) : Fin 2048 := ⟨(grid0.coords t 1).val * 512 + n.val, by have := col0 t; omega⟩

theorem ya_at (t : Fin cfg0.N) (r : Fin 512) (k : Fin 1024) : iblk0 V c 0 t (ix2 r k) = V c main_v0 (ix2 (row0 t r) k) := by
  blk_ext! [iblk0, idx0 t]
  all_goals (have : (grid0.coords t 0).val < 16 := (grid0.coords t 0).isLt; omega)

theorem yb_at (t : Fin cfg0.N) (r : Fin 512) (k : Fin 1024) : iblk0 V c 1 t (ix2 r k) = V c main_v1 (ix2 (row0 t r) k) := by
  blk_ext! [iblk0, idx0 t]
  all_goals (have : (grid0.coords t 0).val < 16 := (grid0.coords t 0).isLt; omega)

theorem wa_at (t : Fin cfg0.N) (k : Fin 1024) (n : Fin 512) : iblk0 V c 2 t (ix2 k n) = V c main_v2 (ix2 k (col0' t n)) := by
  blk_ext! [iblk0, idx0 t]

theorem wb_at (t : Fin cfg0.N) (k : Fin 1024) (n : Fin 512) : iblk0 V c 3 t (ix2 k n) = V c main_v3 (ix2 k (col0' t n)) := by
  blk_ext! [iblk0, idx0 t]

theorem ga_at (t : Fin cfg0.N) (r n : Fin 512) : iblk0 V c 4 t (ix2 r n)
    = V c main_arg3 (ix2 (row0 t r) ⟨(col0' t n).val, Nat.lt_of_lt_of_le (m := 2048) (col0' t n).isLt (by decide)⟩) := by
  blk_ext! [iblk0, idx0 t]
  all_goals (have : (grid0.coords t 0).val < 16 := (grid0.coords t 0).isLt; omega)

theorem gb_at (t : Fin cfg0.N) (r n : Fin 512) : iblk0 V c 5 t (ix2 r n)
    = V c main_arg3 (ix2 (row0 t r) ⟨2048 + (col0' t n).val, Nat.add_lt_add_left (col0' t n).isLt 2048⟩) := by
  blk_ext! [iblk0, idx0 t]
  all_goals (have : (grid0.coords t 0).val < 16 := (grid0.coords t 0).isLt; omega)

/-- The merge. -/
theorem final0 : (dat0 V c).arrAt 6 cfg0.N
    = mixed (R := 8192) (V c main_v0) (V c main_v1) (V c main_v2) (V c main_v3) (V c main_arg3) := by
  refine (dat0 V c).arrAt_eq_of_covers 6 _ (by decide +kernel) fun t hf y => ?_
  blk_simp
  rw [after0_6]
  obtain ⟨r, n, rfl⟩ := ix2_ex (a := 512) (b := 512) y
  have hi : (win0_6.blk t).view.emb (ix2 r n) = (ix2 (row0 t r) (col0' t n) : (A2 8192 2048).Idx) := by
    funext a
    apply Fin.ext
    have : (grid0.coords t 0).val < 16 := (grid0.coords t 0).isLt
    fin_cases a
    · blk_simp [idx0 t]
      show _ = (grid0.coords t 0).val * 512 + r.val
      first | rfl | (show r.val = _; omega)
    · blk_simp [idx0 t]
      rfl
  rw [hi, out0_eq, k0_at]
  exact mix_congr (ga_at V c t r n) (gb_at V c t r n) (fun k => ya_at V c t r k) (fun k => wa_at V c t k n)
    (fun k => yb_at V c t r k) (fun k => wb_at V c t k n)

theorem idx1 : ∀ t : Fin cfg1.N, win1_0.index t = ![(grid1.coords t 0).val, 0] ∧ win1_1.index t = ![0, 0]
    ∧ win1_2.index t = ![(grid1.coords t 0).val, 0] ∧ win1_3.index t = ![0, 0]
    ∧ win1_4.index t = ![(grid1.coords t 0).val, 0] ∧ win1_5.index t = ![0, (grid1.coords t 0).val] :=
  (by decide +kernel : ∀ t : Fin grid1.N, _)

abbrev row1 (t : Fin cfg1.N) (r : Fin 256) : Fin 8192 :=
  ⟨(grid1.coords t 0).val * 256 + r.val, by have : (grid1.coords t 0).val < 32 := (grid1.coords t 0).isLt; omega⟩

theorem y1_at (t : Fin cfg1.N) (r : Fin 256) (k : Fin 2048) : iblk1 V c 0 t (ix2 r k) = V c main_v4 (ix2 (row1 t r) k) := by
  blk_ext! [iblk1, idx1 t]
  all_goals (have : (grid1.coords t 0).val < 32 := (grid1.coords t 0).isLt; omega)

theorem w1_at (t : Fin cfg1.N) (k n : Fin 2048) : iblk1 V c 1 t (ix2 k n) = V c main_v5 (ix2 k n) := by
  blk_ext! [iblk1, idx1 t]

theorem x1_at (t : Fin cfg1.N) (r : Fin 256) (k : Fin 2048) : iblk1 V c 2 t (ix2 r k) = V c main_v6 (ix2 (row1 t r) k) := by
  blk_ext! [iblk1, idx1 t]
  all_goals (have : (grid1.coords t 0).val < 32 := (grid1.coords t 0).isLt; omega)

theorem g1_at (t : Fin cfg1.N) (k : Fin 2048) : iblk1 V c 3 t (ix2 0 k) = V c main_v7 (ix2 0 k) := by
  blk_ext! [iblk1, idx1 t]

/-- A tile's rows of the residual sum. -/
theorem resid_at (t : Fin cfg1.N) (r : Fin 256) (n : Fin 2048) :
    resid (R := 256) (iblk1 V c 2 t) (iblk1 V c 0 t) (iblk1 V c 1 t) (ix2 r n)
      = resid (R := 8192) (V c main_v6) (V c main_v4) (V c main_v5) (ix2 (row1 t r) n) :=
  congrArg₂ (· + ·) (x1_at V c t r n) (Finset.sum_congr rfl fun k _ => congrArg₂ (· * ·) (y1_at V c t r k) (w1_at V c t k n))

/-- The residual sum. -/
theorem final1_sum : (dat1 V c).arrAt 4 cfg1.N = resid (R := 8192) (V c main_v6) (V c main_v4) (V c main_v5) := by
  refine (dat1 V c).arrAt_eq_of_covers 4 _ (by decide +kernel) fun t hf y => ?_
  blk_simp
  rw [after1_4]
  obtain ⟨r, n, rfl⟩ := ix2_ex (a := 256) (b := 2048) y
  have hi : (win1_4.blk t).view.emb (ix2 r n) = (ix2 (row1 t r) n : (A2 8192 2048).Idx) := by
    funext a
    apply Fin.ext
    have : (grid1.coords t 0).val < 32 := (grid1.coords t 0).isLt
    fin_cases a
    · blk_simp [idx1 t]
      show _ = (grid1.coords t 0).val * 256 + r.val
      first | rfl | (show r.val = _; omega)
    · blk_simp [idx1 t]
      rfl
  rw [hi, out1_sum, k1_sum_at]
  exact resid_at V c t r n

/-- Its rows normed, a token a column. -/
theorem final1_norm : (dat1 V c).arrAt 5 cfg1.N
    = turned (R := 8192) (N := 2048) (normed (resid (R := 8192) (V c main_v6) (V c main_v4) (V c main_v5)) (V c main_v7)) := by
  refine (dat1 V c).arrAt_eq_of_covers 5 _ (by decide +kernel) fun t hf y => ?_
  blk_simp
  rw [after1_5]
  obtain ⟨n, r, rfl⟩ := ix2_ex (a := 2048) (b := 256) y
  have hi : (win1_5.blk t).view.emb (ix2 n r) = (ix2 n (row1 t r) : (A2 2048 8192).Idx) := by
    funext a
    apply Fin.ext
    have : (grid1.coords t 0).val < 32 := (grid1.coords t 0).isLt
    fin_cases a
    · blk_simp [idx1 t]
      rfl
    · blk_simp [idx1 t]
      show _ = (grid1.coords t 0).val * 256 + r.val
      first | rfl | (show r.val = _; omega)
  rw [hi, out1_norm, k1_norm_at]
  simp only [resid_at, g1_at]
  rfl

end Cert.MergeIdeal.Value

end
-- ==== Proof.MergeOut.lean ====
/-
  The merge and the output projection: the kernel's results, element by element.
-/
module

public import proofs.«01_k».proof.Proof.MergeRegions

@[expose] public section

set_option maxRecDepth 16384

noncomputable section

namespace Cert.MergeIdeal.Value

open Idealize.ShloMosaic Idealize.SL.Sem Cert.MergeIdeal.Gen Cert.ProjSpec Cert.MergeSpec
open Idealize.ShloMosaic.TcCoe

variable (m : (ℓ : Loc nD τ sig) → Buf (Elt Ideal) ℓ) (ρ : Dev nD → PrngReg) (c : Dev nD)

/-! ## The arguments -/

abbrev aX : FVec Ideal S4x2048x2048 .f32 := m ((c : Thread nD τ).loc main_arg0)
abbrev aYa : FVec Ideal S4x2048x1024 .bf16 := m ((c : Thread nD τ).loc main_arg1)
abbrev aYb : FVec Ideal S4x2048x1024 .bf16 := m ((c : Thread nD τ).loc main_arg2)
abbrev aG : FVec Ideal S8192x4096 .bf16 := m ((c : Thread nD τ).loc main_arg3)
abbrev aWa : FVec Ideal S1024x2048 .f32 := m ((c : Thread nD τ).loc main_arg4)
abbrev aWb : FVec Ideal S1024x2048 .f32 := m ((c : Thread nD τ).loc main_arg5)
abbrev aW : FVec Ideal S2048x2048 .f32 := m ((c : Thread nD τ).loc main_arg6)
abbrev aL : FVec Ideal S2048 .f32 := m ((c : Thread nD τ).loc main_arg7)

/-! ## What each stage is given -/

theorem v0_in : V1 m ρ c main_v0 = shapeCast S8192x1024 (aYa m c) shapeCasts_S4x2048x1024_S8192x1024 := by
  unfold_abbrev_sides; after_results; rfl

theorem v1_in : V1 m ρ c main_v1 = shapeCast S8192x1024 (aYb m c) shapeCasts_S4x2048x1024_S8192x1024 := by
  unfold_abbrev_sides; after_results; rfl

theorem v2_in : V1 m ρ c main_v2 = aWa m c := by
  unfold_abbrev_sides; after_results; rfl

theorem v3_in : V1 m ρ c main_v3 = aWb m c := by
  unfold_abbrev_sides; after_results; rfl

theorem arg3_in : V1 m ρ c main_arg3 = aG m c := W1_args m ρ c main_arg3 (by decide)

theorem arg0_2 : W2 m ρ c (Proc.devRef .tc main_arg0) = aX m c := W2_args m ρ c main_arg0 (by decide)
theorem arg6_2 : W2 m ρ c (Proc.devRef .tc main_arg6) = aW m c := W2_args m ρ c main_arg6 (by decide)
theorem arg7_2 : W2 m ρ c (Proc.devRef .tc main_arg7) = aL m c := W2_args m ρ c main_arg7 (by decide)

theorem v5_in : V3 m ρ c main_v5 = aW m c := by
  refine Eq.trans ?_ (arg6_2 m ρ c)
  show StableHlo.after hostOps1 (W2 m ρ c) (Proc.devRef .tc main_v5) = _
  after_results; rfl

theorem v6_in : V3 m ρ c main_v6 = shapeCast S8192x2048 (aX m c) shapeCasts_S4x2048x2048_S8192x2048 := by
  rw [← arg0_2 m ρ c]
  show StableHlo.after hostOps1 (W2 m ρ c) (Proc.devRef .tc main_v6) = _
  after_results; rfl

theorem v7_in : V3 m ρ c main_v7 = shapeCast S1x2048 (aL m c) shapeCasts_S2048_S1x2048 := by
  rw [← arg7_2 m ρ c]
  show StableHlo.after hostOps1 (W2 m ρ c) (Proc.devRef .tc main_v7) = _
  after_results; rfl

/-- The merge of the arguments. -/
def mg : (A2 8192 2048).Idx → EReal :=
  mixed (R := 8192) (shapeCast S8192x1024 (aYa m c) shapeCasts_S4x2048x1024_S8192x1024) (shapeCast S8192x1024 (aYb m c) shapeCasts_S4x2048x1024_S8192x1024)
    (aWa m c) (aWb m c) (aG m c)

theorem v4_in : V3 m ρ c main_v4 = mg m c := by
  refine (W3_of m ρ c main_v4 (by decide)).trans ((W2_arr m ρ c 6).trans ((final0 (V1 m ρ) c).trans ?_))
  rw [v0_in, v1_in, v2_in, v3_in, arg3_in]
  rfl

/-- The residual sum. -/
def sm : (A2 8192 2048).Idx → EReal :=
  resid (R := 8192) (shapeCast S8192x2048 (aX m c) shapeCasts_S4x2048x2048_S8192x2048) (mg m c) (aW m c)

theorem v8_0_out : W4 m ρ c (Proc.devRef .tc main_v8_0) = sm m c := by
  refine (W4_arr m ρ c 4).trans ((final1_sum (V3 m ρ) c).trans ?_)
  rw [v4_in, v5_in, v6_in]
  rfl

theorem v8_1_out : W4 m ρ c (Proc.devRef .tc main_v8_1)
    = turned (R := 8192) (N := 2048) (normed (sm m c) (shapeCast S1x2048 (aL m c) shapeCasts_S2048_S1x2048)) := by
  refine (W4_arr m ρ c 5).trans ((final1_norm (V3 m ρ) c).trans ?_)
  rw [v4_in, v5_in, v6_in, v7_in]
  rfl

/-! ## The same at an element -/

/-- Token `r` of the row of tokens. -/
abbrev seqOf (r : Fin 8192) : Fin 4 := ⟨r.val / 2048, by omega⟩
abbrev posOf (r : Fin 8192) : Fin 2048 := ⟨r.val % 2048, by omega⟩

theorem rows1024 (y : FVec Ideal S4x2048x1024 .bf16) (r : Fin 8192) (k : Fin 1024) :
    shapeCast S8192x1024 y shapeCasts_S4x2048x1024_S8192x1024 (ix2 r k) = y (ix3 (seqOf r) (posOf r) k) := by
  pointwise

theorem rows2048 (y : FVec Ideal S4x2048x2048 .f32) (r : Fin 8192) (k : Fin 2048) :
    shapeCast S8192x2048 y shapeCasts_S4x2048x2048_S8192x2048 (ix2 r k) = y (ix3 (seqOf r) (posOf r) k) := by
  pointwise

theorem row2048 (y : FVec Ideal S2048 .f32) (k : Fin 2048) : shapeCast S1x2048 y shapeCasts_S2048_S1x2048 (ix2 0 k) = y (ix1 k) := by
  pointwise

theorem mg_at (r : Fin 8192) (n : Fin 2048) :
    mg m c (ix2 r n) = mix (aG m c (ix2 r ⟨n.val, by omega⟩)) (aG m c (ix2 r ⟨2048 + n.val, by omega⟩))
      (fun k => aYa m c (ix3 (seqOf r) (posOf r) k)) (fun k => aWa m c (ix2 k n)) (fun k => aYb m c (ix3 (seqOf r) (posOf r) k)) (fun k => aWb m c (ix2 k n)) :=
  mix_congr rfl rfl (fun k => rows1024 _ r k) (fun _ => rfl) (fun k => rows1024 _ r k) (fun _ => rfl)

theorem sm_at (r : Fin 8192) (n : Fin 2048) :
    sm m c (ix2 r n) = aX m c (ix3 (seqOf r) (posOf r) n) + prd (fun k => mg m c (ix2 r k)) (aW m c) n :=
  congrArg (· + _) (rows2048 _ r n)

theorem norm_at (n : Fin 2048) (r : Fin 8192) :
    turned (R := 8192) (N := 2048) (normed (sm m c) (shapeCast S1x2048 (aL m c) shapeCasts_S2048_S1x2048)) (ix2 n r)
      = rms w2048 (fun j => sm m c (ix2 r j)) (fun j => aL m c (ix1 j)) n :=
  congrArg (rms w2048 (fun j => sm m c (ix2 r j)) · n) (funext fun j => row2048 (aL m c) j)

end Cert.MergeIdeal.Value

end
-- ==== Proof.MergeRun.lean ====
/-
  The run of the merge and the output projection: both results are what the second stage leaves.
-/
module

public import proofs.«01_k».proof.Proof.Gen.MergeIdeal.Frame
public import Idealize.ShloMosaic.Lib.Pointwise
public import Idealize.ShloMosaic.Lib.Pipeline.FrameSuffix
public import Idealize.ShloMosaic.Lib.Pipeline.RegionsLoop

@[expose] public section

set_option maxRecDepth 16384

noncomputable section

namespace Cert.MergeIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MergeIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every result ends as the last boundary's contents, every argument as launched. -/
theorem run_last : θ_run defs (onTc (τ := τ) (main (F := Ideal))) ⟨m, fun _ => 0, ρ⟩ (fun r => ∀ c : Dev nD,
      r.2.mem ((c.tc : Thread nD τ).loc main_v8_0) = W4 m ρ c (Proc.devRef .tc main_v8_0)
      ∧ r.2.mem ((c.tc : Thread nD τ).loc main_v8_1) = W4 m ρ c (Proc.devRef .tc main_v8_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v8_0 (by decide)),
       h c _ (mem_uc main_v8_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.MergeIdeal.Value

end
-- ==== Proof.MergeRef.lean ====
/-
  The reference of the merge and the output projection, each result at an element.
-/
module

public import proofs.«01_k».proof.Proof.MergeSpec
public import proofs.«01_k».proof.Proof.Gen.MergeRefIdeal.Run

@[expose] public section

set_option maxRecDepth 16384

noncomputable section

namespace Cert.MergeRefIdeal.Value

open Idealize.ShloMosaic Idealize.SL.Sem Cert.MergeRefIdeal.Gen Cert.ProjSpec Cert.MergeSpec

/-- The merge: the gates' halves times the two attentions' products. -/
def rM (ya yb : FVec Ideal S4x2048x1024 .bf16) (G : FVec Ideal S8192x4096 .bf16) (wa wb : FVec Ideal S1024x2048 .f32) : FVec Ideal S4x2048x2048 .f32 :=
  addf (mulf (extractStridedSlice S4x2048x2048 ![0, 0, 0] (shapeCast S4x2048x4096 (extf .f32 G bitsLt_bf16_f32) shapeCasts_S8192x4096_S4x2048x4096) slices_S4x2048x4096_S4x2048x2048_0_0_0)
      (Host.dotGeneral dot_S4x2048x1024_S1024x2048_S4x2048x2048_2_0_01_1_n_n none (extf .f32 ya bitsLt_bf16_f32) wa))
    (mulf (extractStridedSlice S4x2048x2048 ![0, 0, 2048] (shapeCast S4x2048x4096 (extf .f32 G bitsLt_bf16_f32) shapeCasts_S8192x4096_S4x2048x4096) slices_S4x2048x4096_S4x2048x2048_0_0_2048)
      (Host.dotGeneral dot_S4x2048x1024_S1024x2048_S4x2048x2048_2_0_01_1_n_n none (extf .f32 yb bitsLt_bf16_f32) wb))

/-- The residual sum. -/
def rS (X M : FVec Ideal S4x2048x2048 .f32) (W : FVec Ideal S2048x2048 .f32) : FVec Ideal S4x2048x2048 .f32 :=
  addf X (Host.dotGeneral dot_S4x2048x2048_S2048x2048_S4x2048x2048_2_0_01_1_n_n none M W)

/-- Each row normed. -/
def rX (X : FVec Ideal S4x2048x2048 .f32) (g : FVec Ideal S2048 .f32) : FVec Ideal S4x2048x2048 .f32 :=
  mulf (mulf X (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf X X) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32))))))
    (broadcastInDim S4x2048x2048 ![0, 1, 2] bcast_S1x1x2048_S4x2048x2048_0_1_2 (broadcastInDim S1x1x2048 ![2] bcast_S2048_S1x1x2048_2 g))

/-- Tokens in one row of tokens, and the same turned. -/
def rF (z : FVec Ideal S4x2048x2048 .f32) : FVec Ideal S8192x2048 .f32 := shapeCast S8192x2048 z shapeCasts_S4x2048x2048_S8192x2048

def rT (z : FVec Ideal S4x2048x2048 .f32) : FVec Ideal S2048x8192 .bf16 :=
  truncf .bf16 (transpose S2048x8192 [1, 0] (rF z) transposes_S8192x2048_S2048x8192_1_0) bitsLt_bf16_f32

/-- Token `r` of the row of tokens. -/
abbrev seqOf (r : Fin 8192) : Fin 4 := ⟨r.val / 2048, by omega⟩
abbrev posOf (r : Fin 8192) : Fin 2048 := ⟨r.val % 2048, by omega⟩

theorem rM_at (ya yb : FVec Ideal S4x2048x1024 .bf16) (G : FVec Ideal S8192x4096 .bf16) (wa wb : FVec Ideal S1024x2048 .f32)
    (b : Fin 4) (t n : Fin 2048) :
    rM ya yb G wa wb (ix3 b t n) = mix (G (ix2 ⟨b.val * 2048 + t.val, by omega⟩ ⟨n.val, by omega⟩)) (G (ix2 ⟨b.val * 2048 + t.val, by omega⟩ ⟨2048 + n.val, by omega⟩))
      (fun k => ya (ix3 b t k)) (fun k => wa (ix2 k n)) (fun k => yb (ix3 b t k)) (fun k => wb (ix2 k n)) := by
  pointwise [rM]
  rfl

theorem rS_at (X M : FVec Ideal S4x2048x2048 .f32) (W : FVec Ideal S2048x2048 .f32) (b : Fin 4) (t n : Fin 2048) :
    rS X M W (ix3 b t n) = X (ix3 b t n) + prd (fun k => M (ix3 b t k)) W n := by
  pointwise [rS]
  rfl

theorem rX_at (X : FVec Ideal S4x2048x2048 .f32) (g : FVec Ideal S2048 .f32) (b : Fin 4) (t : Fin 2048) (d : Fin 2048) :
    rX X g (ix3 b t d) = rms w2048 (fun j => X (ix3 b t j)) (fun j => g (ix1 j)) d := by
  pointwise [rX]
  rfl

theorem rF_at (z : FVec Ideal S4x2048x2048 .f32) (r : Fin 8192) (n : Fin 2048) : rF z (ix2 r n) = z (ix3 (seqOf r) (posOf r) n) := by
  pointwise [rF]

theorem rT_at (z : FVec Ideal S4x2048x2048 .f32) (n : Fin 2048) (r : Fin 8192) : rT z (ix2 n r) = z (ix3 (seqOf r) (posOf r) n) := by
  refine Eq.trans ?_ (rF_at z r n)
  pointwise [rT]

/-- The residual sum of the reference's arguments. -/
def hs (m : (ℓ : Loc nD τ sig) → Buf (Elt Ideal) ℓ) (c : Dev nD) : FVec Ideal S4x2048x2048 .f32 :=
  rS (m ((c.tc : Thread nD τ).loc main_arg0)) (rM (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5))) (m ((c.tc : Thread nD τ).loc main_arg6))

/-- Each result of the reference as its parts. -/
theorem run_parts (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = rF (hs m c)
      ∧ r.2.mem ((c.tc : Thread nD τ).loc main_v29) = rT (rX (hs m c) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono (fun r h c => ?_) (run m ρ)
  obtain ⟨h0, h1, ha⟩ := h c
  exact ⟨h0, h1, ha⟩

end Cert.MergeRefIdeal.Value

end
-- ==== Proof.MergeValue.lean ====
/-
  The merge and the output projection: kernel and reference end with equal results.
-/
module

public import proofs.«01_k».proof.Defs
public import proofs.«01_k».proof.Proof.MergeOut
public import proofs.«01_k».proof.Proof.MergeRun
public import proofs.«01_k».proof.Proof.MergeRef

@[expose] public section

set_option maxRecDepth 16384

noncomputable section

namespace Cert.MergeValue

open Idealize.ShloMosaic Idealize.SL.Sem Cert.ProjSpec Cert.MergeSpec
open Cert.MergeRefIdeal Cert.MergeRefIdeal.Gen Cert.MergeRefIdeal.Value

/-- A token's sequence and position give its place back. -/
theorem token (r : Fin 8192) : (⟨(seqOf r).val * 2048 + (posOf r).val, by omega⟩ : Fin 8192) = r :=
  Fin.ext (by show r.val / 2048 * 2048 + r.val % 2048 = r.val; omega)

variable (m : (ℓ : Loc Cert.MergeIdeal.nD Cert.MergeIdeal.τ Cert.MergeIdeal.sig) → Buf (Elt Ideal) ℓ) (c : Dev Cert.MergeIdeal.nD)

/-- The reference's residual sum at the kernel's arguments. -/
def hk : FVec Ideal S4x2048x2048 .f32 :=
  rS (Cert.MergeIdeal.Value.aX m c) (rM (Cert.MergeIdeal.Value.aYa m c) (Cert.MergeIdeal.Value.aYb m c) (Cert.MergeIdeal.Value.aG m c) (Cert.MergeIdeal.Value.aWa m c) (Cert.MergeIdeal.Value.aWb m c)) (Cert.MergeIdeal.Value.aW m c)

/-- Token by token the two merges are one, and so are the two residual sums. -/
theorem mg_eq (r : Fin 8192) (n : Fin 2048) :
    rM (Cert.MergeIdeal.Value.aYa m c) (Cert.MergeIdeal.Value.aYb m c) (Cert.MergeIdeal.Value.aG m c) (Cert.MergeIdeal.Value.aWa m c) (Cert.MergeIdeal.Value.aWb m c) (ix3 (seqOf r) (posOf r) n)
      = Cert.MergeIdeal.Value.mg m c (ix2 r n) := by
  rw [rM_at, Cert.MergeIdeal.Value.mg_at, token]

theorem sm_eq (r : Fin 8192) (n : Fin 2048) : hk m c (ix3 (seqOf r) (posOf r) n) = Cert.MergeIdeal.Value.sm m c (ix2 r n) := by
  unfold hk
  rw [rS_at, Cert.MergeIdeal.Value.sm_at]
  simp only [mg_eq]

theorem results_eq (g : Dev Cert.MergeIdeal.nD → PrngReg) (m' : (ℓ : Loc Cert.MergeRefIdeal.nD Cert.MergeRefIdeal.τ Cert.MergeRefIdeal.sig) → Buf (Elt Ideal) ℓ)
    (h0 : m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0))
    (h1 : m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1))
    (h2 : m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2))
    (h3 : m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3))
    (h4 : m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4))
    (h5 : m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5))
    (h6 : m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6))
    (h7 : m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) :
    rF (hs m' c) = Cert.MergeIdeal.Gen.W4 m g c (Proc.devRef .tc Cert.MergeIdeal.main_v8_0)
    ∧ rT (rX (hs m' c) (m' ((c.tc : Thread Cert.MergeRefIdeal.nD Cert.MergeRefIdeal.τ).loc Cert.MergeRefIdeal.main_arg7))) = Cert.MergeIdeal.Gen.W4 m g c (Proc.devRef .tc Cert.MergeIdeal.main_v8_1) := by
  have hp : hs m' c = hk m c := by
    unfold hs hk
    rw [h0, h1, h2, h3, h4, h5, h6]
  rw [hp, h7]
  refine ⟨?_, ?_⟩
  · refine Eq.trans ?_ (Cert.MergeIdeal.Value.v8_0_out m g c).symm
    funext i
    obtain ⟨r, n, rfl⟩ := ix2_ex (a := 8192) (b := 2048) i
    exact (rF_at _ r n).trans (sm_eq m c r n)
  · refine Eq.trans ?_ (Cert.MergeIdeal.Value.v8_1_out m g c).symm
    funext i
    obtain ⟨n, r, rfl⟩ := ix2_ex (a := 2048) (b := 8192) i
    refine ((rT_at _ n r).trans (rX_at _ _ (seqOf r) (posOf r) n)).trans (Eq.trans ?_ (Cert.MergeIdeal.Value.norm_at m c n r).symm)
    exact congrArg (rms w2048 · _ n) (funext fun j => sm_eq m c r j)

theorem algebraic : Cert.algebraic_MergeIdeal_MergeRefIdeal (hMergeIdeal := Cert.MergeIdeal.Gen.facts) (hMergeRefIdeal := Cert.MergeRefIdeal.Gen.facts) := by
  intro m g m' g' _ hagree
  refine ⟨fun c => Cert.MergeIdeal.Gen.W4 m g c (Proc.devRef .tc Cert.MergeIdeal.main_v8_0), fun c => Cert.MergeIdeal.Gen.W4 m g c (Proc.devRef .tc Cert.MergeIdeal.main_v8_1), Cert.MergeIdeal.Value.run_last m g, ?_⟩
  refine (θ_run _ _ _).mono (fun r h c => ?_) (run_parts m' g')
  obtain ⟨h0, h1, h2, h3, h4, h5, h6, h7⟩ := hagree c
  obtain ⟨e0, e1⟩ := results_eq m c g m' h0 h1 h2 h3 h4 h5 h6 h7
  obtain ⟨r0, r1, ra⟩ := h c
  exact ⟨r0.trans e0, r1.trans e1, ra⟩

end Cert.MergeValue

end
-- ==== Proof.MergeSTiles.lean ====
/-
  One tile of each of the two stages, the merge and the output projection, read at an element (sample batch).
-/
module

public import proofs.«01_k».proof.Proof.MergeSpec
public import proofs.«01_k».proof.Proof.Gen.MergeSIdeal.Skeleton

@[expose] public section

set_option maxRecDepth 16384

noncomputable section

namespace Cert.MergeSIdeal.Value

open Idealize.ShloMosaic Idealize.SL.Sem Cert.MergeSIdeal.Gen Cert.ProjSpec Cert.MergeSpec

/-- A tile of the merge. -/
theorem k0_at (ya : Vec Ideal S128x1024 .bf16) (wa : Vec Ideal S1024x512 .bf16) (yb : Vec Ideal S128x1024 .bf16) (wb : Vec Ideal S1024x512 .bf16)
    (ga gb : Vec Ideal S128x512 .bf16) (r : Fin 128) (n : Fin 512) :
    k0_pay1 (F := Ideal) ya wa yb wb ga gb (ix2 r n) = mix (ga (ix2 r n)) (gb (ix2 r n)) (fun k => ya (ix2 r k)) (fun k => wa (ix2 k n))
      (fun k => yb (ix2 r k)) (fun k => wb (ix2 k n)) := by
  pointwise [k0_pay1]
  rfl

section Out

variable (x : Vec Ideal S128x2048 .f32) (y : Vec Ideal S128x2048 .bf16) (w : Vec Ideal S2048x2048 .bf16) (g : Vec Ideal S1x2048 .f32)

/-- A tile of the residual sum. -/
theorem k1_sum_at (r : Fin 128) (n : Fin 2048) :
    k1_pay1 (F := Ideal) x y w (ix2 r n) = resid (R := 128) x y w (ix2 r n) := by
  pointwise [k1_pay1]
  rfl

/-- The norm of the residual sum's rows, turned. -/
theorem k1_norm_at (n : Fin 2048) (r : Fin 128) :
    k1_pay2 (F := Ideal) x y w g (ix2 n r) = rms w2048 (fun j => resid (R := 128) x y w (ix2 r j)) (fun j => g (ix2 0 j)) n := by
  have e : (k1_pay1 (F := Ideal) x y w : FVec Ideal S128x2048 .f32) = resid (R := 128) x y w := by
    funext i
    obtain ⟨r, n, rfl⟩ := ix2_ex (a := 128) (b := 2048) i
    exact k1_sum_at x y w r n
  unfold k1_pay2
  rw [e]
  generalize resid (R := 128) x y w = h
  pointwise
  rfl

end Out

end Cert.MergeSIdeal.Value

end
-- ==== Proof.MergeSRegions.lean ====
/-
  The two stages, the merge and the output projection, as arrays: what each leaves in its outputs, from the arrays it is
  given (sample batch).
-/
module

public import proofs.«01_k».proof.Proof.MergeSTiles
public import proofs.«01_k».proof.Proof.Gen.MergeSIdeal.Frame
public import Idealize.ShloMosaic.Lib.Pipeline.ValueKit
public import Idealize.ShloMosaic.Lib.Pipeline.ReadBack
public import Idealize.ShloMosaic.Lib.Pipeline.Value

@[expose] public section

set_option maxRecDepth 16384

noncomputable section

namespace Cert.MergeSIdeal.Value

open Idealize.ShloMosaic Idealize.SL.Sem Cert.MergeSIdeal.Gen Cert.ProjSpec Cert.MergeSpec
open Idealize.ShloMosaic.TcCoe

theorem z2 : ∀ a : Fin 2, (![0, 0] : Fin 2 → ℕ) a = 0 := by decide

/-! ## The tiles the stages write -/

theorem out0_eq (ya yb : Vec Ideal S128x1024 .bf16) (wa wb : Vec Ideal S1024x512 .bf16) (ga gb : Vec Ideal S128x512 .bf16) :
    out0_6 ya yb wa wb ga gb = k0_pay1 ya wa yb wb ga gb := by
  unfold out0_6
  rw [View.canon_cons_unit_lit' _ _ _ z2, View.ld_unit_lit' _ _ z2, View.ld_unit_lit' _ _ z2, View.ld_unit_lit' _ _ z2,
    View.ld_unit_lit' _ _ z2, View.ld_unit_lit' _ _ z2, View.ld_unit_lit' _ _ z2]

theorem out1_sum (y : Vec Ideal S128x2048 .bf16) (w : Vec Ideal S2048x2048 .bf16) (x : Vec Ideal S128x2048 .f32) (g : Vec Ideal S1x2048 .f32) :
    out1_4 y w x g = k1_pay1 x y w := by
  unfold out1_4
  rw [View.canon_cons_unit_lit' _ _ _ z2, View.ld_unit_lit' _ _ z2, View.ld_unit_lit' _ _ z2, View.ld_unit_lit' _ _ z2]

theorem out1_norm (y : Vec Ideal S128x2048 .bf16) (w : Vec Ideal S2048x2048 .bf16) (x : Vec Ideal S128x2048 .f32) (g : Vec Ideal S1x2048 .f32) :
    out1_5 y w x g = k1_pay2 x y w g := by
  unfold out1_5
  rw [View.canon_cons_unit_lit' _ _ _ z2, View.ld_unit_lit' _ _ z2, View.ld_unit_lit' _ _ z2, View.ld_unit_lit' _ _ z2, View.ld_unit_lit' _ _ z2]

/-! ## The stages' arrays -/

variable (V : (c : Dev nD) → (b : Ref sig .tc) → Buf (Elt Ideal) ((c : Thread nD τ).loc b)) (c : Dev nD)

theorem idx0 : ∀ t : Fin cfg0.N, win0_0.index t = ![(grid0.coords t 0).val, 0] ∧ win0_1.index t = ![(grid0.coords t 0).val, 0]
    ∧ win0_2.index t = ![0, (grid0.coords t 1).val] ∧ win0_3.index t = ![0, (grid0.coords t 1).val]
    ∧ win0_4.index t = ![(grid0.coords t 0).val, (grid0.coords t 1).val] ∧ win0_5.index t = ![(grid0.coords t 0).val, (grid0.coords t 1).val + 4]
    ∧ win0_6.index t = ![(grid0.coords t 0).val, (grid0.coords t 1).val] :=
  (by decide +kernel : ∀ t : Fin grid0.N, _)

/-- A row and a column of the point's block. -/
abbrev row0 (t : Fin cfg0.N) (r : Fin 128) : Fin 128 :=
  ⟨(grid0.coords t 0).val * 128 + r.val, by have : (grid0.coords t 0).val < 1 := (grid0.coords t 0).isLt; omega⟩

theorem col0 (t : Fin cfg0.N) : (grid0.coords t 1).val < 4 := (grid0.coords t 1).isLt

abbrev col0' (t : Fin cfg0.N) (n : Fin 512) : Fin 2048 := ⟨(grid0.coords t 1).val * 512 + n.val, by have := col0 t; omega⟩

theorem ya_at (t : Fin cfg0.N) (r : Fin 128) (k : Fin 1024) : iblk0 V c 0 t (ix2 r k) = V c main_v0 (ix2 (row0 t r) k) := by
  blk_ext! [iblk0, idx0 t]
  all_goals (have : (grid0.coords t 0).val < 1 := (grid0.coords t 0).isLt; omega)

theorem yb_at (t : Fin cfg0.N) (r : Fin 128) (k : Fin 1024) : iblk0 V c 1 t (ix2 r k) = V c main_v1 (ix2 (row0 t r) k) := by
  blk_ext! [iblk0, idx0 t]
  all_goals (have : (grid0.coords t 0).val < 1 := (grid0.coords t 0).isLt; omega)

theorem wa_at (t : Fin cfg0.N) (k : Fin 1024) (n : Fin 512) : iblk0 V c 2 t (ix2 k n) = V c main_v2 (ix2 k (col0' t n)) := by
  blk_ext! [iblk0, idx0 t]

theorem wb_at (t : Fin cfg0.N) (k : Fin 1024) (n : Fin 512) : iblk0 V c 3 t (ix2 k n) = V c main_v3 (ix2 k (col0' t n)) := by
  blk_ext! [iblk0, idx0 t]

theorem ga_at (t : Fin cfg0.N) (r : Fin 128) (n : Fin 512) : iblk0 V c 4 t (ix2 r n)
    = V c main_arg3 (ix2 (row0 t r) ⟨(col0' t n).val, Nat.lt_of_lt_of_le (m := 2048) (col0' t n).isLt (by decide)⟩) := by
  blk_ext! [iblk0, idx0 t]
  all_goals (have : (grid0.coords t 0).val < 1 := (grid0.coords t 0).isLt; omega)

theorem gb_at (t : Fin cfg0.N) (r : Fin 128) (n : Fin 512) : iblk0 V c 5 t (ix2 r n)
    = V c main_arg3 (ix2 (row0 t r) ⟨2048 + (col0' t n).val, Nat.add_lt_add_left (col0' t n).isLt 2048⟩) := by
  blk_ext! [iblk0, idx0 t]
  all_goals (have : (grid0.coords t 0).val < 1 := (grid0.coords t 0).isLt; omega)

/-- The merge. -/
theorem final0 : (dat0 V c).arrAt 6 cfg0.N
    = mixed (R := 128) (V c main_v0) (V c main_v1) (V c main_v2) (V c main_v3) (V c main_arg3) := by
  refine (dat0 V c).arrAt_eq_of_covers 6 _ (by decide +kernel) fun t hf y => ?_
  blk_simp
  rw [after0_6]
  obtain ⟨r, n, rfl⟩ := ix2_ex (a := 128) (b := 512) y
  have hi : (win0_6.blk t).view.emb (ix2 r n) = (ix2 (row0 t r) (col0' t n) : (A2 128 2048).Idx) := by
    funext a
    apply Fin.ext
    have : (grid0.coords t 0).val < 1 := (grid0.coords t 0).isLt
    fin_cases a
    · blk_simp [idx0 t]
      show _ = (grid0.coords t 0).val * 128 + r.val
      first | rfl | (show r.val = _; omega)
    · blk_simp [idx0 t]
      rfl
  rw [hi, out0_eq, k0_at]
  exact mix_congr (ga_at V c t r n) (gb_at V c t r n) (fun k => ya_at V c t r k) (fun k => wa_at V c t k n)
    (fun k => yb_at V c t r k) (fun k => wb_at V c t k n)

theorem idx1 : ∀ t : Fin cfg1.N, win1_0.index t = ![(grid1.coords t 0).val, 0] ∧ win1_1.index t = ![0, 0]
    ∧ win1_2.index t = ![(grid1.coords t 0).val, 0] ∧ win1_3.index t = ![0, 0]
    ∧ win1_4.index t = ![(grid1.coords t 0).val, 0] ∧ win1_5.index t = ![0, (grid1.coords t 0).val] :=
  (by decide +kernel : ∀ t : Fin grid1.N, _)

abbrev row1 (t : Fin cfg1.N) (r : Fin 128) : Fin 128 :=
  ⟨(grid1.coords t 0).val * 128 + r.val, by have : (grid1.coords t 0).val < 1 := (grid1.coords t 0).isLt; omega⟩

theorem y1_at (t : Fin cfg1.N) (r : Fin 128) (k : Fin 2048) : iblk1 V c 0 t (ix2 r k) = V c main_v4 (ix2 (row1 t r) k) := by
  blk_ext! [iblk1, idx1 t]
  all_goals (have : (grid1.coords t 0).val < 1 := (grid1.coords t 0).isLt; omega)

theorem w1_at (t : Fin cfg1.N) (k n : Fin 2048) : iblk1 V c 1 t (ix2 k n) = V c main_v5 (ix2 k n) := by
  blk_ext! [iblk1, idx1 t]

theorem x1_at (t : Fin cfg1.N) (r : Fin 128) (k : Fin 2048) : iblk1 V c 2 t (ix2 r k) = V c main_v6 (ix2 (row1 t r) k) := by
  blk_ext! [iblk1, idx1 t]
  all_goals (have : (grid1.coords t 0).val < 1 := (grid1.coords t 0).isLt; omega)

theorem g1_at (t : Fin cfg1.N) (k : Fin 2048) : iblk1 V c 3 t (ix2 0 k) = V c main_v7 (ix2 0 k) := by
  blk_ext! [iblk1, idx1 t]

/-- A tile's rows of the residual sum. -/
theorem resid_at (t : Fin cfg1.N) (r : Fin 128) (n : Fin 2048) :
    resid (R := 128) (iblk1 V c 2 t) (iblk1 V c 0 t) (iblk1 V c 1 t) (ix2 r n)
      = resid (R := 128) (V c main_v6) (V c main_v4) (V c main_v5) (ix2 (row1 t r) n) :=
  congrArg₂ (· + ·) (x1_at V c t r n) (Finset.sum_congr rfl fun k _ => congrArg₂ (· * ·) (y1_at V c t r k) (w1_at V c t k n))

/-- The residual sum. -/
theorem final1_sum : (dat1 V c).arrAt 4 cfg1.N = resid (R := 128) (V c main_v6) (V c main_v4) (V c main_v5) := by
  refine (dat1 V c).arrAt_eq_of_covers 4 _ (by decide +kernel) fun t hf y => ?_
  blk_simp
  rw [after1_4]
  obtain ⟨r, n, rfl⟩ := ix2_ex (a := 128) (b := 2048) y
  have hi : (win1_4.blk t).view.emb (ix2 r n) = (ix2 (row1 t r) n : (A2 128 2048).Idx) := by
    funext a
    apply Fin.ext
    have : (grid1.coords t 0).val < 1 := (grid1.coords t 0).isLt
    fin_cases a
    · blk_simp [idx1 t]
      show _ = (grid1.coords t 0).val * 128 + r.val
      first | rfl | (show r.val = _; omega)
    · blk_simp [idx1 t]
      rfl
  rw [hi, out1_sum, k1_sum_at]
  exact resid_at V c t r n

/-- Its rows normed, a token a column. -/
theorem final1_norm : (dat1 V c).arrAt 5 cfg1.N
    = turned (R := 128) (N := 2048) (normed (resid (R := 128) (V c main_v6) (V c main_v4) (V c main_v5)) (V c main_v7)) := by
  refine (dat1 V c).arrAt_eq_of_covers 5 _ (by decide +kernel) fun t hf y => ?_
  blk_simp
  rw [after1_5]
  obtain ⟨n, r, rfl⟩ := ix2_ex (a := 2048) (b := 128) y
  have hi : (win1_5.blk t).view.emb (ix2 n r) = (ix2 n (row1 t r) : (A2 2048 128).Idx) := by
    funext a
    apply Fin.ext
    have : (grid1.coords t 0).val < 1 := (grid1.coords t 0).isLt
    fin_cases a
    · blk_simp [idx1 t]
      rfl
    · blk_simp [idx1 t]
      show _ = (grid1.coords t 0).val * 128 + r.val
      first | rfl | (show r.val = _; omega)
  rw [hi, out1_norm, k1_norm_at]
  simp only [resid_at, g1_at]
  rfl

end Cert.MergeSIdeal.Value

end
-- ==== Proof.MergeSOut.lean ====
/-
  The merge and the output projection: the kernel's results, element by element (sample batch).
-/
module

public import proofs.«01_k».proof.Proof.MergeSRegions

@[expose] public section

set_option maxRecDepth 16384

noncomputable section

namespace Cert.MergeSIdeal.Value

open Idealize.ShloMosaic Idealize.SL.Sem Cert.MergeSIdeal.Gen Cert.ProjSpec Cert.MergeSpec
open Idealize.ShloMosaic.TcCoe

variable (m : (ℓ : Loc nD τ sig) → Buf (Elt Ideal) ℓ) (ρ : Dev nD → PrngReg) (c : Dev nD)

/-! ## The arguments -/

abbrev aX : FVec Ideal S8x16x2048 .f32 := m ((c : Thread nD τ).loc main_arg0)
abbrev aYa : FVec Ideal S8x16x1024 .bf16 := m ((c : Thread nD τ).loc main_arg1)
abbrev aYb : FVec Ideal S8x16x1024 .bf16 := m ((c : Thread nD τ).loc main_arg2)
abbrev aG : FVec Ideal S128x4096 .bf16 := m ((c : Thread nD τ).loc main_arg3)
abbrev aWa : FVec Ideal S1024x2048 .f32 := m ((c : Thread nD τ).loc main_arg4)
abbrev aWb : FVec Ideal S1024x2048 .f32 := m ((c : Thread nD τ).loc main_arg5)
abbrev aW : FVec Ideal S2048x2048 .f32 := m ((c : Thread nD τ).loc main_arg6)
abbrev aL : FVec Ideal S2048 .f32 := m ((c : Thread nD τ).loc main_arg7)

/-! ## What each stage is given -/

theorem v0_in : V1 m ρ c main_v0 = shapeCast S128x1024 (aYa m c) shapeCasts_S8x16x1024_S128x1024 := by
  unfold_abbrev_sides; after_results; rfl

theorem v1_in : V1 m ρ c main_v1 = shapeCast S128x1024 (aYb m c) shapeCasts_S8x16x1024_S128x1024 := by
  unfold_abbrev_sides; after_results; rfl

theorem v2_in : V1 m ρ c main_v2 = aWa m c := by
  unfold_abbrev_sides; after_results; rfl

theorem v3_in : V1 m ρ c main_v3 = aWb m c := by
  unfold_abbrev_sides; after_results; rfl

theorem arg3_in : V1 m ρ c main_arg3 = aG m c := W1_args m ρ c main_arg3 (by decide)

theorem arg0_2 : W2 m ρ c (Proc.devRef .tc main_arg0) = aX m c := W2_args m ρ c main_arg0 (by decide)
theorem arg6_2 : W2 m ρ c (Proc.devRef .tc main_arg6) = aW m c := W2_args m ρ c main_arg6 (by decide)
theorem arg7_2 : W2 m ρ c (Proc.devRef .tc main_arg7) = aL m c := W2_args m ρ c main_arg7 (by decide)

theorem v5_in : V3 m ρ c main_v5 = aW m c := by
  refine Eq.trans ?_ (arg6_2 m ρ c)
  show StableHlo.after hostOps1 (W2 m ρ c) (Proc.devRef .tc main_v5) = _
  after_results; rfl

theorem v6_in : V3 m ρ c main_v6 = shapeCast S128x2048 (aX m c) shapeCasts_S8x16x2048_S128x2048 := by
  rw [← arg0_2 m ρ c]
  show StableHlo.after hostOps1 (W2 m ρ c) (Proc.devRef .tc main_v6) = _
  after_results; rfl

theorem v7_in : V3 m ρ c main_v7 = shapeCast S1x2048 (aL m c) shapeCasts_S2048_S1x2048 := by
  rw [← arg7_2 m ρ c]
  show StableHlo.after hostOps1 (W2 m ρ c) (Proc.devRef .tc main_v7) = _
  after_results; rfl

/-- The merge of the arguments. -/
def mg : (A2 128 2048).Idx → EReal :=
  mixed (R := 128) (shapeCast S128x1024 (aYa m c) shapeCasts_S8x16x1024_S128x1024) (shapeCast S128x1024 (aYb m c) shapeCasts_S8x16x1024_S128x1024)
    (aWa m c) (aWb m c) (aG m c)

theorem v4_in : V3 m ρ c main_v4 = mg m c := by
  refine (W3_of m ρ c main_v4 (by decide)).trans ((W2_arr m ρ c 6).trans ((final0 (V1 m ρ) c).trans ?_))
  rw [v0_in, v1_in, v2_in, v3_in, arg3_in]
  rfl

/-- The residual sum. -/
def sm : (A2 128 2048).Idx → EReal :=
  resid (R := 128) (shapeCast S128x2048 (aX m c) shapeCasts_S8x16x2048_S128x2048) (mg m c) (aW m c)

theorem v8_0_out : W4 m ρ c (Proc.devRef .tc main_v8_0) = sm m c := by
  refine (W4_arr m ρ c 4).trans ((final1_sum (V3 m ρ) c).trans ?_)
  rw [v4_in, v5_in, v6_in]
  rfl

theorem v8_1_out : W4 m ρ c (Proc.devRef .tc main_v8_1)
    = turned (R := 128) (N := 2048) (normed (sm m c) (shapeCast S1x2048 (aL m c) shapeCasts_S2048_S1x2048)) := by
  refine (W4_arr m ρ c 5).trans ((final1_norm (V3 m ρ) c).trans ?_)
  rw [v4_in, v5_in, v6_in, v7_in]
  rfl

/-! ## The same at an element -/

/-- Token `r` of the row of tokens. -/
abbrev seqOf (r : Fin 128) : Fin 8 := ⟨r.val / 16, by omega⟩
abbrev posOf (r : Fin 128) : Fin 16 := ⟨r.val % 16, by omega⟩

theorem rows1024 (y : FVec Ideal S8x16x1024 .bf16) (r : Fin 128) (k : Fin 1024) :
    shapeCast S128x1024 y shapeCasts_S8x16x1024_S128x1024 (ix2 r k) = y (ix3 (seqOf r) (posOf r) k) := by
  pointwise

theorem rows2048 (y : FVec Ideal S8x16x2048 .f32) (r : Fin 128) (k : Fin 2048) :
    shapeCast S128x2048 y shapeCasts_S8x16x2048_S128x2048 (ix2 r k) = y (ix3 (seqOf r) (posOf r) k) := by
  pointwise

theorem row2048 (y : FVec Ideal S2048 .f32) (k : Fin 2048) : shapeCast S1x2048 y shapeCasts_S2048_S1x2048 (ix2 0 k) = y (ix1 k) := by
  pointwise

theorem mg_at (r : Fin 128) (n : Fin 2048) :
    mg m c (ix2 r n) = mix (aG m c (ix2 r ⟨n.val, by omega⟩)) (aG m c (ix2 r ⟨2048 + n.val, by omega⟩))
      (fun k => aYa m c (ix3 (seqOf r) (posOf r) k)) (fun k => aWa m c (ix2 k n)) (fun k => aYb m c (ix3 (seqOf r) (posOf r) k)) (fun k => aWb m c (ix2 k n)) :=
  mix_congr rfl rfl (fun k => rows1024 _ r k) (fun _ => rfl) (fun k => rows1024 _ r k) (fun _ => rfl)

theorem sm_at (r : Fin 128) (n : Fin 2048) :
    sm m c (ix2 r n) = aX m c (ix3 (seqOf r) (posOf r) n) + prd (fun k => mg m c (ix2 r k)) (aW m c) n :=
  congrArg (· + _) (rows2048 _ r n)

theorem norm_at (n : Fin 2048) (r : Fin 128) :
    turned (R := 128) (N := 2048) (normed (sm m c) (shapeCast S1x2048 (aL m c) shapeCasts_S2048_S1x2048)) (ix2 n r)
      = rms w2048 (fun j => sm m c (ix2 r j)) (fun j => aL m c (ix1 j)) n :=
  congrArg (rms w2048 (fun j => sm m c (ix2 r j)) · n) (funext fun j => row2048 (aL m c) j)

end Cert.MergeSIdeal.Value

end
-- ==== Proof.MergeSRun.lean ====
/-
  The run of the merge and the output projection: both results are what the second stage leaves (sample batch).
-/
module

public import proofs.«01_k».proof.Proof.Gen.MergeSIdeal.Frame
public import Idealize.ShloMosaic.Lib.Pointwise
public import Idealize.ShloMosaic.Lib.Pipeline.FrameSuffix
public import Idealize.ShloMosaic.Lib.Pipeline.RegionsLoop

@[expose] public section

set_option maxRecDepth 16384

noncomputable section

namespace Cert.MergeSIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MergeSIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every result ends as the last boundary's contents, every argument as launched. -/
theorem run_last : θ_run defs (onTc (τ := τ) (main (F := Ideal))) ⟨m, fun _ => 0, ρ⟩ (fun r => ∀ c : Dev nD,
      r.2.mem ((c.tc : Thread nD τ).loc main_v8_0) = W4 m ρ c (Proc.devRef .tc main_v8_0)
      ∧ r.2.mem ((c.tc : Thread nD τ).loc main_v8_1) = W4 m ρ c (Proc.devRef .tc main_v8_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v8_0 (by decide)),
       h c _ (mem_uc main_v8_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.MergeSIdeal.Value

end
-- ==== Proof.MergeSRef.lean ====
/-
  The reference of the merge and the output projection, each result at an element (sample batch).
-/
module

public import proofs.«01_k».proof.Proof.MergeSpec
public import proofs.«01_k».proof.Proof.Gen.MergeSRefIdeal.Run

@[expose] public section

set_option maxRecDepth 16384

noncomputable section

namespace Cert.MergeSRefIdeal.Value

open Idealize.ShloMosaic Idealize.SL.Sem Cert.MergeSRefIdeal.Gen Cert.ProjSpec Cert.MergeSpec

/-- The merge: the gates' halves times the two attentions' products. -/
def rM (ya yb : FVec Ideal S8x16x1024 .bf16) (G : FVec Ideal S128x4096 .bf16) (wa wb : FVec Ideal S1024x2048 .f32) : FVec Ideal S8x16x2048 .f32 :=
  addf (mulf (extractStridedSlice S8x16x2048 ![0, 0, 0] (shapeCast S8x16x4096 (extf .f32 G bitsLt_bf16_f32) shapeCasts_S128x4096_S8x16x4096) slices_S8x16x4096_S8x16x2048_0_0_0)
      (Host.dotGeneral dot_S8x16x1024_S1024x2048_S8x16x2048_2_0_01_1_n_n none (extf .f32 ya bitsLt_bf16_f32) wa))
    (mulf (extractStridedSlice S8x16x2048 ![0, 0, 2048] (shapeCast S8x16x4096 (extf .f32 G bitsLt_bf16_f32) shapeCasts_S128x4096_S8x16x4096) slices_S8x16x4096_S8x16x2048_0_0_2048)
      (Host.dotGeneral dot_S8x16x1024_S1024x2048_S8x16x2048_2_0_01_1_n_n none (extf .f32 yb bitsLt_bf16_f32) wb))

/-- The residual sum. -/
def rS (X M : FVec Ideal S8x16x2048 .f32) (W : FVec Ideal S2048x2048 .f32) : FVec Ideal S8x16x2048 .f32 :=
  addf X (Host.dotGeneral dot_S8x16x2048_S2048x2048_S8x16x2048_2_0_01_1_n_n none M W)

/-- Each row normed. -/
def rX (X : FVec Ideal S8x16x2048 .f32) (g : FVec Ideal S2048 .f32) : FVec Ideal S8x16x2048 .f32 :=
  mulf (mulf X (broadcastInDim S8x16x2048 ![0, 1, 2] bcast_S8x16x1_S8x16x2048_0_1_2 (Host.rsqrt (addf (Host.divf (broadcastInDim S8x16x1 ![0, 1] bcast_S8x16_S8x16x1_0_1 (Host.reduceAdd (mulf X X) (constant S_ .f32 0x00000000#32) reducesTo_S8x16x2048_S8x16_d2 h_S_)) (broadcastInDim S8x16x1 ![] bcast_S_S8x16x1 (constant S_ .f32 0x45000000#32))) (broadcastInDim S8x16x1 ![] bcast_S_S8x16x1 (constant S_ .f32 0x358637BD#32))))))
    (broadcastInDim S8x16x2048 ![0, 1, 2] bcast_S1x1x2048_S8x16x2048_0_1_2 (broadcastInDim S1x1x2048 ![2] bcast_S2048_S1x1x2048_2 g))

/-- Tokens in one row of tokens, and the same turned. -/
def rF (z : FVec Ideal S8x16x2048 .f32) : FVec Ideal S128x2048 .f32 := shapeCast S128x2048 z shapeCasts_S8x16x2048_S128x2048

def rT (z : FVec Ideal S8x16x2048 .f32) : FVec Ideal S2048x128 .bf16 :=
  truncf .bf16 (transpose S2048x128 [1, 0] (rF z) transposes_S128x2048_S2048x128_1_0) bitsLt_bf16_f32

/-- Token `r` of the row of tokens. -/
abbrev seqOf (r : Fin 128) : Fin 8 := ⟨r.val / 16, by omega⟩
abbrev posOf (r : Fin 128) : Fin 16 := ⟨r.val % 16, by omega⟩

theorem rM_at (ya yb : FVec Ideal S8x16x1024 .bf16) (G : FVec Ideal S128x4096 .bf16) (wa wb : FVec Ideal S1024x2048 .f32)
    (b : Fin 8) (t : Fin 16) (n : Fin 2048) :
    rM ya yb G wa wb (ix3 b t n) = mix (G (ix2 ⟨b.val * 16 + t.val, by omega⟩ ⟨n.val, by omega⟩)) (G (ix2 ⟨b.val * 16 + t.val, by omega⟩ ⟨2048 + n.val, by omega⟩))
      (fun k => ya (ix3 b t k)) (fun k => wa (ix2 k n)) (fun k => yb (ix3 b t k)) (fun k => wb (ix2 k n)) := by
  pointwise [rM]
  rfl

theorem rS_at (X M : FVec Ideal S8x16x2048 .f32) (W : FVec Ideal S2048x2048 .f32) (b : Fin 8) (t : Fin 16) (n : Fin 2048) :
    rS X M W (ix3 b t n) = X (ix3 b t n) + prd (fun k => M (ix3 b t k)) W n := by
  pointwise [rS]
  rfl

theorem rX_at (X : FVec Ideal S8x16x2048 .f32) (g : FVec Ideal S2048 .f32) (b : Fin 8) (t : Fin 16) (d : Fin 2048) :
    rX X g (ix3 b t d) = rms w2048 (fun j => X (ix3 b t j)) (fun j => g (ix1 j)) d := by
  pointwise [rX]
  rfl

theorem rF_at (z : FVec Ideal S8x16x2048 .f32) (r : Fin 128) (n : Fin 2048) : rF z (ix2 r n) = z (ix3 (seqOf r) (posOf r) n) := by
  pointwise [rF]

theorem rT_at (z : FVec Ideal S8x16x2048 .f32) (n : Fin 2048) (r : Fin 128) : rT z (ix2 n r) = z (ix3 (seqOf r) (posOf r) n) := by
  refine Eq.trans ?_ (rF_at z r n)
  pointwise [rT]

/-- The residual sum of the reference's arguments. -/
def hs (m : (ℓ : Loc nD τ sig) → Buf (Elt Ideal) ℓ) (c : Dev nD) : FVec Ideal S8x16x2048 .f32 :=
  rS (m ((c.tc : Thread nD τ).loc main_arg0)) (rM (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5))) (m ((c.tc : Thread nD τ).loc main_arg6))

/-- Each result of the reference as its parts. -/
theorem run_parts (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = rF (hs m c)
      ∧ r.2.mem ((c.tc : Thread nD τ).loc main_v29) = rT (rX (hs m c) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono (fun r h c => ?_) (run m ρ)
  obtain ⟨h0, h1, ha⟩ := h c
  exact ⟨h0, h1, ha⟩

end Cert.MergeSRefIdeal.Value

end
-- ==== Proof.MergeSValue.lean ====
/-
  The merge and the output projection: kernel and reference end with equal results (sample batch).
-/
module

public import proofs.«01_k».proof.Defs
public import proofs.«01_k».proof.Proof.MergeSOut
public import proofs.«01_k».proof.Proof.MergeSRun
public import proofs.«01_k».proof.Proof.MergeSRef

@[expose] public section

set_option maxRecDepth 16384

noncomputable section

namespace Cert.MergeSValue

open Idealize.ShloMosaic Idealize.SL.Sem Cert.ProjSpec Cert.MergeSpec
open Cert.MergeSRefIdeal Cert.MergeSRefIdeal.Gen Cert.MergeSRefIdeal.Value

/-- A token's sequence and position give its place back. -/
theorem token (r : Fin 128) : (⟨(seqOf r).val * 16 + (posOf r).val, by omega⟩ : Fin 128) = r :=
  Fin.ext (by show r.val / 16 * 16 + r.val % 16 = r.val; omega)

variable (m : (ℓ : Loc Cert.MergeSIdeal.nD Cert.MergeSIdeal.τ Cert.MergeSIdeal.sig) → Buf (Elt Ideal) ℓ) (c : Dev Cert.MergeSIdeal.nD)

/-- The reference's residual sum at the kernel's arguments. -/
def hk : FVec Ideal S8x16x2048 .f32 :=
  rS (Cert.MergeSIdeal.Value.aX m c) (rM (Cert.MergeSIdeal.Value.aYa m c) (Cert.MergeSIdeal.Value.aYb m c) (Cert.MergeSIdeal.Value.aG m c) (Cert.MergeSIdeal.Value.aWa m c) (Cert.MergeSIdeal.Value.aWb m c)) (Cert.MergeSIdeal.Value.aW m c)

/-- Token by token the two merges are one, and so are the two residual sums. -/
theorem mg_eq (r : Fin 128) (n : Fin 2048) :
    rM (Cert.MergeSIdeal.Value.aYa m c) (Cert.MergeSIdeal.Value.aYb m c) (Cert.MergeSIdeal.Value.aG m c) (Cert.MergeSIdeal.Value.aWa m c) (Cert.MergeSIdeal.Value.aWb m c) (ix3 (seqOf r) (posOf r) n)
      = Cert.MergeSIdeal.Value.mg m c (ix2 r n) := by
  rw [rM_at, Cert.MergeSIdeal.Value.mg_at, token]

theorem sm_eq (r : Fin 128) (n : Fin 2048) : hk m c (ix3 (seqOf r) (posOf r) n) = Cert.MergeSIdeal.Value.sm m c (ix2 r n) := by
  unfold hk
  rw [rS_at, Cert.MergeSIdeal.Value.sm_at]
  simp only [mg_eq]

theorem results_eq (g : Dev Cert.MergeSIdeal.nD → PrngReg) (m' : (ℓ : Loc Cert.MergeSRefIdeal.nD Cert.MergeSRefIdeal.τ Cert.MergeSRefIdeal.sig) → Buf (Elt Ideal) ℓ)
    (h0 : m' ((c.tc : Thread Cert.MergeSRefIdeal.nD Cert.MergeSRefIdeal.τ).loc Cert.MergeSRefIdeal.main_arg0) = m ((c.tc : Thread Cert.MergeSIdeal.nD Cert.MergeSIdeal.τ).loc Cert.MergeSIdeal.main_arg0))
    (h1 : m' ((c.tc : Thread Cert.MergeSRefIdeal.nD Cert.MergeSRefIdeal.τ).loc Cert.MergeSRefIdeal.main_arg1) = m ((c.tc : Thread Cert.MergeSIdeal.nD Cert.MergeSIdeal.τ).loc Cert.MergeSIdeal.main_arg1))
    (h2 : m' ((c.tc : Thread Cert.MergeSRefIdeal.nD Cert.MergeSRefIdeal.τ).loc Cert.MergeSRefIdeal.main_arg2) = m ((c.tc : Thread Cert.MergeSIdeal.nD Cert.MergeSIdeal.τ).loc Cert.MergeSIdeal.main_arg2))
    (h3 : m' ((c.tc : Thread Cert.MergeSRefIdeal.nD Cert.MergeSRefIdeal.τ).loc Cert.MergeSRefIdeal.main_arg3) = m ((c.tc : Thread Cert.MergeSIdeal.nD Cert.MergeSIdeal.τ).loc Cert.MergeSIdeal.main_arg3))
    (h4 : m' ((c.tc : Thread Cert.MergeSRefIdeal.nD Cert.MergeSRefIdeal.τ).loc Cert.MergeSRefIdeal.main_arg4) = m ((c.tc : Thread Cert.MergeSIdeal.nD Cert.MergeSIdeal.τ).loc Cert.MergeSIdeal.main_arg4))
    (h5 : m' ((c.tc : Thread Cert.MergeSRefIdeal.nD Cert.MergeSRefIdeal.τ).loc Cert.MergeSRefIdeal.main_arg5) = m ((c.tc : Thread Cert.MergeSIdeal.nD Cert.MergeSIdeal.τ).loc Cert.MergeSIdeal.main_arg5))
    (h6 : m' ((c.tc : Thread Cert.MergeSRefIdeal.nD Cert.MergeSRefIdeal.τ).loc Cert.MergeSRefIdeal.main_arg6) = m ((c.tc : Thread Cert.MergeSIdeal.nD Cert.MergeSIdeal.τ).loc Cert.MergeSIdeal.main_arg6))
    (h7 : m' ((c.tc : Thread Cert.MergeSRefIdeal.nD Cert.MergeSRefIdeal.τ).loc Cert.MergeSRefIdeal.main_arg7) = m ((c.tc : Thread Cert.MergeSIdeal.nD Cert.MergeSIdeal.τ).loc Cert.MergeSIdeal.main_arg7)) :
    rF (hs m' c) = Cert.MergeSIdeal.Gen.W4 m g c (Proc.devRef .tc Cert.MergeSIdeal.main_v8_0)
    ∧ rT (rX (hs m' c) (m' ((c.tc : Thread Cert.MergeSRefIdeal.nD Cert.MergeSRefIdeal.τ).loc Cert.MergeSRefIdeal.main_arg7))) = Cert.MergeSIdeal.Gen.W4 m g c (Proc.devRef .tc Cert.MergeSIdeal.main_v8_1) := by
  have hp : hs m' c = hk m c := by
    unfold hs hk
    rw [h0, h1, h2, h3, h4, h5, h6]
  rw [hp, h7]
  refine ⟨?_, ?_⟩
  · refine Eq.trans ?_ (Cert.MergeSIdeal.Value.v8_0_out m g c).symm
    funext i
    obtain ⟨r, n, rfl⟩ := ix2_ex (a := 128) (b := 2048) i
    exact (rF_at _ r n).trans (sm_eq m c r n)
  · refine Eq.trans ?_ (Cert.MergeSIdeal.Value.v8_1_out m g c).symm
    funext i
    obtain ⟨n, r, rfl⟩ := ix2_ex (a := 2048) (b := 128) i
    refine ((rT_at _ n r).trans (rX_at _ _ (seqOf r) (posOf r) n)).trans (Eq.trans ?_ (Cert.MergeSIdeal.Value.norm_at m c n r).symm)
    exact congrArg (rms w2048 · _ n) (funext fun j => sm_eq m c r j)

theorem algebraic : Cert.algebraic_MergeSIdeal_MergeSRefIdeal (hMergeSIdeal := Cert.MergeSIdeal.Gen.facts) (hMergeSRefIdeal := Cert.MergeSRefIdeal.Gen.facts) := by
  intro m g m' g' _ hagree
  refine ⟨fun c => Cert.MergeSIdeal.Gen.W4 m g c (Proc.devRef .tc Cert.MergeSIdeal.main_v8_0), fun c => Cert.MergeSIdeal.Gen.W4 m g c (Proc.devRef .tc Cert.MergeSIdeal.main_v8_1), Cert.MergeSIdeal.Value.run_last m g, ?_⟩
  refine (θ_run _ _ _).mono (fun r h c => ?_) (run_parts m' g')
  obtain ⟨h0, h1, h2, h3, h4, h5, h6, h7⟩ := hagree c
  obtain ⟨e0, e1⟩ := results_eq m c g m' h0 h1 h2 h3 h4 h5 h6 h7
  obtain ⟨r0, r1, ra⟩ := h c
  exact ⟨r0.trans e0, r1.trans e1, ra⟩

end Cert.MergeSValue

end
-- ==== Proof.lean ====
/-
  The proof of `Cert.Claim`: the frames of the eight kernels, of their idealizations and of the references; what the
  idealizations preserve; and that each kernel and its reference compute the same arrays: the forgetting attention
  (`fox_algebraic`), the chunk-band attention (`band_algebraic`), the two attentions of the sample batch
  (Proof/FoxSClaim.lean, Proof/BandSClaim.lean), the input projection of the prompt (Proof/ProjValue.lean) and of the
  sample batch (Proof/ProjSValue.lean), the merge with the output projection of the prompt (Proof/MergeValue.lean) and of
  the sample batch (Proof/MergeSValue.lean).
-/
module

public import proofs.«01_k».proof.Proof.Gen.FoxIdeal.Value
public import proofs.«01_k».proof.Proof.Gen.FoxRefIdeal.Run
public import proofs.«01_k».proof.Proof.Gen.Proj.Frame
public import proofs.«01_k».proof.Proof.Gen.ProjIdeal.Frame
public import proofs.«01_k».proof.Proof.Gen.ProjRefIdeal.Run
public import proofs.«01_k».proof.Proof.Gen.ProjS.Frame
public import proofs.«01_k».proof.Proof.Gen.ProjSIdeal.Frame
public import proofs.«01_k».proof.Proof.Gen.ProjSRefIdeal.Run
public import proofs.«01_k».proof.Proof.Gen.Merge.Frame
public import proofs.«01_k».proof.Proof.Gen.MergeIdeal.Frame
public import proofs.«01_k».proof.Proof.Gen.MergeRefIdeal.Run
public import proofs.«01_k».proof.Proof.Gen.MergeS.Frame
public import proofs.«01_k».proof.Proof.Gen.MergeSIdeal.Frame
public import proofs.«01_k».proof.Proof.Gen.MergeSRefIdeal.Run
public import proofs.«01_k».proof.Proof.Gen.Band.Frame
public import proofs.«01_k».proof.Proof.Gen.BandIdeal.Value
public import proofs.«01_k».proof.Proof.Gen.BandRefIdeal.Run
public import proofs.«01_k».proof.Proof.Gen.Pre_finite_band
public import proofs.«01_k».proof.Proof.Gen.BandS.Frame
public import proofs.«01_k».proof.Proof.Gen.BandSIdeal.Value
public import proofs.«01_k».proof.Proof.Gen.BandSRefIdeal.Run
public import proofs.«01_k».proof.Proof.Gen.FoxS.Frame
public import proofs.«01_k».proof.Proof.Gen.FoxSIdeal.Value
public import proofs.«01_k».proof.Proof.Gen.FoxSRefIdeal.Run
public import proofs.«01_k».proof.Proof.Gen.Pre_finite_band_sample
public import proofs.«01_k».proof.Proof.Gen.Pre_finite_fox_sample
public import proofs.«01_k».proof.Proof.BandPre
public import proofs.«01_k».proof.Proof.BandRef
public import proofs.«01_k».proof.Proof.BandValue
public import proofs.«01_k».proof.Proof.BandSClaim
public import proofs.«01_k».proof.Proof.FoxSClaim
public import proofs.«01_k».proof.Proof.FoxPre
public import proofs.«01_k».proof.Proof.FoxRef
public import proofs.«01_k».proof.Proof.FoxValue
public import proofs.«01_k».proof.Proof.ProjValue
public import proofs.«01_k».proof.Proof.ProjSValue
public import proofs.«01_k».proof.Proof.MergeValue
public import proofs.«01_k».proof.Proof.MergeSValue
public import proofs.«01_k».proof.Defs
public import proofs.«01_k».proof.Proof.Gen.Fox
public import proofs.«01_k».proof.Proof.Gen.Fox.Skeleton
public import proofs.«01_k».proof.Proof.Gen.Fox.Loops
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Loops
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxRefIdeal
public import proofs.«01_k».proof.Proof.Gen.Pre_finite_logits
public import Idealize.ShloMosaic.Adequacy
public import Idealize.ShloMosaic.Init

@[expose] public section

noncomputable section

namespace Cert.Proof

open Idealize.ShloMosaic Idealize.SL.Sem Cert.Fox

/-- The two FoX programs give one array. -/
theorem fox_eq (m : (ℓ : Loc Cert.FoxIdeal.nD Cert.FoxIdeal.τ Cert.FoxIdeal.sig) → Buf (Elt Ideal) ℓ)
    (m' : (ℓ : Loc Cert.FoxRefIdeal.nD Cert.FoxRefIdeal.τ Cert.FoxRefIdeal.sig) → Buf (Elt Ideal) ℓ)
    (hpre : Cert.Pre_FoxIdeal_finite_logits (hPre_finite_logits := Cert.Pre_finite_logits.Gen.facts) m) (c : Dev Cert.FoxIdeal.nD)
    (h0 : m' ((c.tc : Thread Cert.FoxRefIdeal.nD Cert.FoxRefIdeal.τ).loc Cert.FoxRefIdeal.main_arg0) = FoxIdeal.Value.aQ m c)
    (h1 : m' ((c.tc : Thread Cert.FoxRefIdeal.nD Cert.FoxRefIdeal.τ).loc Cert.FoxRefIdeal.main_arg1) = FoxIdeal.Value.aK m c)
    (h2 : m' ((c.tc : Thread Cert.FoxRefIdeal.nD Cert.FoxRefIdeal.τ).loc Cert.FoxRefIdeal.main_arg2) = FoxIdeal.Value.aV m c)
    (h3 : m' ((c.tc : Thread Cert.FoxRefIdeal.nD Cert.FoxRefIdeal.τ).loc Cert.FoxRefIdeal.main_arg3) = FoxIdeal.Value.aC m c) :
    Cert.FoxRefIdeal.Value.res_main_v40 m' c = (Cert.FoxIdeal.Gen.dats m 0 c).arrAt 5 Cert.FoxIdeal.cfg0.N := by
  haveI := Cert.Pre_finite_logits.Gen.facts
  obtain ⟨fQ, fK, fC⟩ := Cert.FoxPre.finite_all (hpre c)
  rw [Cert.FoxIdeal.Value.final m c (fun b h r j => Cert.FoxSpec.row_ne_top _ _ _ fQ fK fC b h r j)
    (fun b h r => Cert.FoxSpec.row_self _ _ _ fQ fK fC b h r)]
  rw [Cert.FoxRefIdeal.Value.res_eq m' c _ _ _ _ h0 h1 h2 h3]
  funext i
  have hi : (i 2).val < 1024 := (i 2).isLt
  have e := Cert.FoxRefIdeal.Value.ref_at (FoxIdeal.Value.aQ m c) (FoxIdeal.Value.aK m c) (FoxIdeal.Value.aV m c) (FoxIdeal.Value.aC m c)
    (i 0) (i 1) ⟨(i 2).val / 128, by omega⟩ ⟨(i 2).val % 128, by omega⟩
  refine Eq.trans (congrArg _ ?_) e
  funext a
  fin_cases a
  · rfl
  · rfl
  · exact Fin.ext (by show (i 2).val = 128 * ((i 2).val / 128) + (i 2).val % 128; omega)

theorem fox_algebraic : Cert.algebraic_FoxIdeal_FoxRefIdeal_pre_finite_logits (hFoxIdeal := Cert.FoxIdeal.Gen.facts)
    (hFoxRefIdeal := Cert.FoxRefIdeal.Gen.facts) (hPre_finite_logits := Cert.Pre_finite_logits.Gen.facts) := by
  intro m g m' g' hpre hagree
  refine ⟨fun c => (Cert.FoxIdeal.Gen.dats m 0 c).arrAt 5 Cert.FoxIdeal.cfg0.N, Cert.FoxIdeal.Value.run_blocks m g, ?_⟩
  refine (θ_run _ _ _).mono (fun r h c => ⟨(h c).1.trans ?_, (h c).2⟩) (Cert.FoxRefIdeal.Value.run m' g')
  obtain ⟨h0, h1, h2, h3⟩ := hagree c
  exact fox_eq m m' hpre c h0 h1 h2 h3

/-- The reference of `Proj` runs to its end and leaves nothing waiting. -/
theorem projRef_frame : Cert.quiescent_ProjRefIdeal (hProjRefIdeal := Cert.ProjRefIdeal.Gen.facts) := by
  intro m g _
  hlo_run
  · exact fun _ => ⟨trivial, trivial, trivial, trivial, trivial, trivial, trivial, trivial⟩
  · exact sem_eq_zero_of_no_sems rfl _

/-- The reference of `ProjS` runs to its end and leaves nothing waiting. -/
theorem projSRef_frame : Cert.quiescent_ProjSRefIdeal (hProjSRefIdeal := Cert.ProjSRefIdeal.Gen.facts) := by
  intro m g _
  hlo_run
  · exact fun _ => ⟨trivial, trivial, trivial, trivial, trivial, trivial, trivial, trivial⟩
  · exact sem_eq_zero_of_no_sems rfl _

/-- The reference of `Merge` runs to its end and leaves nothing waiting. -/
theorem mergeRef_frame : Cert.quiescent_MergeRefIdeal (hMergeRefIdeal := Cert.MergeRefIdeal.Gen.facts) := by
  intro m g _
  hlo_run
  · exact fun _ => ⟨trivial, trivial, trivial, trivial, trivial, trivial, trivial, trivial⟩
  · exact sem_eq_zero_of_no_sems rfl _

/-- The reference of `MergeS` runs to its end and leaves nothing waiting. -/
theorem mergeSRef_frame : Cert.quiescent_MergeSRefIdeal (hMergeSRefIdeal := Cert.MergeSRefIdeal.Gen.facts) := by
  intro m g _
  hlo_run
  · exact fun _ => ⟨trivial, trivial, trivial, trivial, trivial, trivial, trivial, trivial⟩
  · exact sem_eq_zero_of_no_sems rfl _

/-- The two chunk-band programs give one array. -/
theorem band_eq (m : (ℓ : Loc Cert.BandIdeal.nD Cert.BandIdeal.τ Cert.BandIdeal.sig) → Buf (Elt Ideal) ℓ)
    (m' : (ℓ : Loc Cert.BandRefIdeal.nD Cert.BandRefIdeal.τ Cert.BandRefIdeal.sig) → Buf (Elt Ideal) ℓ)
    (hpre : Cert.Pre_BandIdeal_finite_band (hPre_finite_band := Cert.Pre_finite_band.Gen.facts) m) (c : Dev Cert.BandIdeal.nD)
    (h0 : m' ((c.tc : Thread Cert.BandRefIdeal.nD Cert.BandRefIdeal.τ).loc Cert.BandRefIdeal.main_arg0) = BandIdeal.Value.aQ m c)
    (h1 : m' ((c.tc : Thread Cert.BandRefIdeal.nD Cert.BandRefIdeal.τ).loc Cert.BandRefIdeal.main_arg1) = BandIdeal.Value.aK m c)
    (h2 : m' ((c.tc : Thread Cert.BandRefIdeal.nD Cert.BandRefIdeal.τ).loc Cert.BandRefIdeal.main_arg2) = BandIdeal.Value.aV m c)
    (h3 : m' ((c.tc : Thread Cert.BandRefIdeal.nD Cert.BandRefIdeal.τ).loc Cert.BandRefIdeal.main_arg3) = BandIdeal.Value.aB m c) :
    Cert.BandRefIdeal.Value.res_main_v59 m' c = (Cert.BandIdeal.Gen.dats m 0 c).arrAt 4 Cert.BandIdeal.cfg0.N := by
  haveI := Cert.Pre_finite_band.Gen.facts
  obtain ⟨fQ, fK, fB⟩ := Cert.BandPre.finite_all (hpre c)
  rw [Cert.BandIdeal.Value.final m c (fun b h n q j => Cert.BandSpec.row_ne_top _ _ _ fQ fK fB b h n q j)
    (fun b h n q => Cert.BandSpec.row_last _ _ _ fQ fK fB b h n q)]
  rw [Cert.BandRefIdeal.Value.res_eq m' c _ _ _ _ h0 h1 h2 h3]
  funext i
  have hi : (i 2).val < 1024 := (i 2).isLt
  have hp : (i 1).val < 2048 := (i 1).isLt
  have e := Cert.BandRefIdeal.Value.ref_at (BandIdeal.Value.aQ m c) (BandIdeal.Value.aK m c) (BandIdeal.Value.aV m c) (BandIdeal.Value.aB m c)
    (i 0) ⟨(i 1).val / 128, by omega⟩ ⟨(i 1).val % 128, by omega⟩ ⟨(i 2).val / 128, by omega⟩ ⟨(i 2).val % 128, by omega⟩
  refine Eq.trans (congrArg _ ?_) e
  funext a
  fin_cases a
  · rfl
  · exact Fin.ext (by show (i 1).val = 128 * ((i 1).val / 128) + (i 1).val % 128; omega)
  · exact Fin.ext (by show (i 2).val = 128 * ((i 2).val / 128) + (i 2).val % 128; omega)

theorem band_algebraic : Cert.algebraic_BandIdeal_BandRefIdeal_pre_finite_band (hBandIdeal := Cert.BandIdeal.Gen.facts)
    (hBandRefIdeal := Cert.BandRefIdeal.Gen.facts) (hPre_finite_band := Cert.Pre_finite_band.Gen.facts) := by
  intro m g m' g' hpre hagree
  refine ⟨fun c => (Cert.BandIdeal.Gen.dats m 0 c).arrAt 4 Cert.BandIdeal.cfg0.N, Cert.BandIdeal.Value.run_blocks m g, ?_⟩
  refine (θ_run _ _ _).mono (fun r h c => ⟨(h c).1.trans ?_, (h c).2⟩) (Cert.BandRefIdeal.Value.run m' g')
  obtain ⟨h0, h1, h2, h3⟩ := hagree c
  exact band_eq m m' hpre c h0 h1 h2 h3

/-- The reference of `Band` runs to its end and leaves nothing waiting. -/
theorem bandRef_frame : Cert.quiescent_BandRefIdeal (hBandRefIdeal := Cert.BandRefIdeal.Gen.facts) := by
  intro m g _
  hlo_run
  · exact fun _ => ⟨trivial, trivial, trivial, trivial⟩
  · exact sem_eq_zero_of_no_sems rfl _

/-- The same with finite arguments. -/
theorem bandRef_frame_pre : Cert.quiescent_BandRefIdeal_pre_finite_band (hBandRefIdeal := Cert.BandRefIdeal.Gen.facts)
    (hPre_finite_band := Cert.Pre_finite_band.Gen.facts) := by
  intro m g _
  hlo_run
  · exact fun _ => ⟨trivial, trivial, trivial, trivial⟩
  · exact sem_eq_zero_of_no_sems rfl _

theorem claim : Cert.Claim := ⟨Cert.Fox.Gen.facts, Cert.FoxIdeal.Gen.facts, Cert.FoxRefIdeal.Gen.facts,
  Cert.Proj.Gen.facts, Cert.ProjIdeal.Gen.facts, Cert.ProjRefIdeal.Gen.facts,
  Cert.ProjS.Gen.facts, Cert.ProjSIdeal.Gen.facts, Cert.ProjSRefIdeal.Gen.facts,
  Cert.Merge.Gen.facts, Cert.MergeIdeal.Gen.facts, Cert.MergeRefIdeal.Gen.facts,
  Cert.MergeS.Gen.facts, Cert.MergeSIdeal.Gen.facts, Cert.MergeSRefIdeal.Gen.facts,
  Cert.Band.Gen.facts, Cert.BandIdeal.Gen.facts, Cert.BandRefIdeal.Gen.facts,
  Cert.BandS.Gen.facts, Cert.BandSIdeal.Gen.facts, Cert.BandSRefIdeal.Gen.facts,
  Cert.FoxS.Gen.facts, Cert.FoxSIdeal.Gen.facts, Cert.FoxSRefIdeal.Gen.facts,
  Cert.Pre_finite_logits.Gen.facts, Cert.Pre_finite_band.Gen.facts,
  Cert.Pre_finite_band_sample.Gen.facts, Cert.Pre_finite_fox_sample.Gen.facts,
  fun m ρ _ => Cert.Fox.Gen.frame m ρ,
  fun m ρ _ => Cert.FoxIdeal.Gen.frame m ρ,
  fun m ρ _ => Cert.FoxIdeal.Gen.frame m ρ,
  by
    intro m g _
    hlo_run
    · exact fun _ => ⟨trivial, trivial, trivial, trivial⟩
    · exact sem_eq_zero_of_no_sems rfl _,
  by
    intro m g _
    hlo_run
    · exact fun _ => ⟨trivial, trivial, trivial, trivial⟩
    · exact sem_eq_zero_of_no_sems rfl _,
  fun m ρ _ => Cert.Proj.Gen.frame m ρ,
  fun m ρ _ => Cert.ProjIdeal.Gen.frame m ρ,
  projRef_frame,
  fun m ρ _ => Cert.ProjS.Gen.frame m ρ,
  fun m ρ _ => Cert.ProjSIdeal.Gen.frame m ρ,
  projSRef_frame,
  fun m ρ _ => Cert.Merge.Gen.frame m ρ,
  fun m ρ _ => Cert.MergeIdeal.Gen.frame m ρ,
  mergeRef_frame,
  fun m ρ _ => Cert.MergeS.Gen.frame m ρ,
  fun m ρ _ => Cert.MergeSIdeal.Gen.frame m ρ,
  mergeSRef_frame,
  fun m ρ _ => Cert.Band.Gen.frame m ρ,
  fun m ρ _ => Cert.BandIdeal.Gen.frame m ρ,
  fun m ρ _ => Cert.BandIdeal.Gen.frame m ρ,
  bandRef_frame,
  bandRef_frame_pre,
  fun m ρ _ => Cert.BandS.Gen.frame m ρ,
  fun m ρ _ => Cert.BandSIdeal.Gen.frame m ρ,
  fun m ρ _ => Cert.BandSIdeal.Gen.frame m ρ,
  Cert.BandSClaim.ref_frame,
  Cert.BandSClaim.ref_frame_pre,
  fun m ρ _ => Cert.FoxS.Gen.frame m ρ,
  fun m ρ _ => Cert.FoxSIdeal.Gen.frame m ρ,
  fun m ρ _ => Cert.FoxSIdeal.Gen.frame m ρ,
  Cert.FoxSClaim.ref_frame,
  Cert.FoxSClaim.ref_frame_pre,
  ⟨rfl, fun _ => rfl, rfl⟩,
  fox_algebraic,
  trivial,
  Cert.ProjValue.algebraic,
  trivial,
  Cert.ProjSValue.algebraic,
  trivial,
  Cert.MergeValue.algebraic,
  trivial,
  Cert.MergeSValue.algebraic,
  ⟨rfl, fun _ => rfl, rfl⟩,
  band_algebraic,
  trivial,
  Cert.BandSClaim.algebraic,
  ⟨rfl, fun _ => rfl, rfl⟩,
  Cert.FoxSClaim.algebraic⟩

end Cert.Proof

end
